-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_spread [hPre_spread : Cert.Pre_spread.Facts] (m : (ℓ : Loc Cert.Kernel.nD Cert.Kernel.τ Cert.Kernel.sig) → Buf (Elt Bits) ℓ) : Prop :=
  ∀ c : Dev Cert.Kernel.nD,
    (Cert.Pre_spread.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_spread [hPre_spread : Cert.Pre_spread.Facts] (m : (ℓ : Loc Cert.KernelIdeal.nD Cert.KernelIdeal.τ Cert.KernelIdeal.sig) → Buf (Elt Ideal) ℓ) : Prop :=
  ∀ c : Dev Cert.KernelIdeal.nD,
    (Cert.Pre_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spread [hPre_spread : Cert.Pre_spread.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_spread : Cert.Pre_spread.Facts] (m : (ℓ : Loc Cert.Reference.nD Cert.Reference.τ Cert.Reference.sig) → Buf (Elt Bits) ℓ) : Prop :=
  ∀ c : Dev Cert.Reference.nD,
    (Cert.Pre_spread.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_spread [hKernel : Cert.Kernel.Facts] [hPre_spread : Cert.Pre_spread.Facts] : Prop :=
  ∀ (m : (ℓ : Loc Cert.Kernel.nD Cert.Kernel.τ Cert.Kernel.sig) → Buf (Elt Bits) ℓ) (g : Dev Cert.Kernel.nD → PrngReg), Pre_Kernel_spread m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_spread [hKernelIdeal : Cert.KernelIdeal.Facts] [hPre_spread : Cert.Pre_spread.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spread m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_spread [hReferenceIdeal : Cert.ReferenceIdeal.Facts] [hPre_spread : Cert.Pre_spread.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spread m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_spread : Cert.Pre_spread.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def bitexact_Kernel_Reference_pre_spread [hKernel : Cert.Kernel.Facts] [hReference : Cert.Reference.Facts] [hPre_spread : Cert.Pre_spread.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_spread m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v4)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v8) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal_pre_spread [hKernelIdeal : Cert.KernelIdeal.Facts] [hReferenceIdeal : Cert.ReferenceIdeal.Facts] [hPre_spread : Cert.Pre_spread.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spread m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts) (hPre_spread : Cert.Pre_spread.Facts),
    quiescent_Kernel (hKernel := hKernel) (hPre_in_range := hPre_in_range)
    ∧ quiescent_Kernel_pre_spread (hKernel := hKernel) (hPre_spread := hPre_spread)
    ∧ quiescent_KernelIdeal (hKernelIdeal := hKernelIdeal) (hPre_in_range := hPre_in_range)
    ∧ quiescent_KernelIdeal_pre_spread (hKernelIdeal := hKernelIdeal) (hPre_spread := hPre_spread)
    ∧ quiescent_ReferenceIdeal (hReferenceIdeal := hReferenceIdeal)
    ∧ quiescent_ReferenceIdeal_pre_spread (hReferenceIdeal := hReferenceIdeal) (hPre_spread := hPre_spread)
    ∧ quiescent_Reference (hReference := hReference) (hPre_spread := hPre_spread)
    ∧ preserves_Kernel_KernelIdeal
    ∧ bitexact_Kernel_Reference_pre_spread (hKernel := hKernel) (hReference := hReference) (hPre_spread := hPre_spread)
    ∧ algebraic_KernelIdeal_ReferenceIdeal_pre_spread (hKernelIdeal := hKernelIdeal) (hReferenceIdeal := hReferenceIdeal) (hPre_spread := hPre_spread)
-- ==== Pre_in_range.lean ====
abbrev S1310720 : Shape := ⟨1, ![1310720]⟩
abbrev S_ : Shape := ⟨0, ![]⟩

class Facts : Prop where
  bcast_S_S1310720 : S_.BroadcastsInDim S1310720 (![] : Fin 0 → Fin S1310720.rank)
  reducesTo_S1310720_S_d0 : S1310720.ReducesTo [0] S_
  h_S_ : 0 < S_.numel

variable [Facts]

def fn {F : FTy → Type} [FloatOps F] (main_arg0 : FVec F S1310720 .f32) (main_arg1 : IVec S1310720 32) : IVec S_ 1 :=
  let main_c : IVec S_ 32 := constantI S_ 32 0#32
  let main_v0 : IVec S1310720 32 := broadcastInDim S1310720 ![] bcast_S_S1310720 main_c
  let main_v1 : IVec S1310720 1 := cmpi .sge main_arg1 main_v0
  let main_c_0 : IVec S_ 32 := constantI S_ 32 13107200#32
  let main_v2 : IVec S1310720 32 := broadcastInDim S1310720 ![] bcast_S_S1310720 main_c_0
  let main_v3 : IVec S1310720 1 := cmpi .slt main_arg1 main_v2
  let main_v4 : IVec S1310720 1 := andi main_v1 main_v3
  let main_c_1 : IVec S_ 1 := constantI S_ 1 1#1
  let main_v5 : IVec S_ 1 := (fun x v => Host.reduce IntOp.andi x v reducesTo_S1310720_S_d0 h_S_) main_v4 main_c_1
  main_v5
-- ==== Pre_spread.lean ====
abbrev S1310720 : Shape := ⟨1, ![1310720]⟩
abbrev S_ : Shape := ⟨0, ![]⟩
abbrev S24576 : Shape := ⟨1, ![24576]⟩
abbrev S1310720x1 : Shape := ⟨2, ![1310720, 1]⟩

class Facts : Prop where
  bcast_S_S1310720 : S_.BroadcastsInDim S1310720 (![] : Fin 0 → Fin S1310720.rank)
  bcast_S_S24576 : S_.BroadcastsInDim S24576 (![] : Fin 0 → Fin S24576.rank)
  bcast_S1310720_S1310720x1_0 : S1310720.BroadcastsInDim S1310720x1 (![0] : Fin 1 → Fin S1310720x1.rank)
  reducesTo_S1310720_S_d0 : S1310720.ReducesTo [0] S_
  h_S_ : 0 < S_.numel
  reducesTo_S24576_S_d0 : S24576.ReducesTo [0] S_
  scatter_S24576_S1310720x1_S1310720_n_0_0_1_wf : ScatterDims.WF S24576 S1310720x1 S1310720 [] [0] [0] 1

variable [Facts]

def scatter_S24576_S1310720x1_S1310720_n_0_0_1 : ScatterDims S24576 S1310720x1 S1310720 where
  updateWindowDims := []
  insertedWindowDims := [0]
  scatterDimsToOperandDims := [0]
  indexVectorDim := 1
  wf := scatter_S24576_S1310720x1_S1310720_n_0_0_1_wf
def fn_part1 {F : FTy → Type} [FloatOps F] (main_arg1 : IVec S1310720 32) (main_v10 : IVec S24576 32) (main_v16 : IVec S1310720x1 32) : IVec S_ 1 :=
  let main_c_6 : IVec S_ 32 := constantI S_ 32 1#32
  let main_v17 : IVec S1310720 32 := broadcastInDim S1310720 ![] bcast_S_S1310720 main_c_6
  let main_v18 : IVec S24576 32 := (fun x i u => Host.scatter scatter_S24576_S1310720x1_S1310720_n_0_0_1 IntOp.addi x i u) main_v10 main_v16 main_v17
  let main_c_7 : IVec S_ 32 := constantI S_ 32 0#32
  let main_v19 : IVec S1310720 32 := broadcastInDim S1310720 ![] bcast_S_S1310720 main_c_7
  let main_v20 : IVec S1310720 1 := cmpi .sge main_arg1 main_v19
  let main_c_8 : IVec S_ 32 := constantI S_ 32 13107200#32
  let main_v21 : IVec S1310720 32 := broadcastInDim S1310720 ![] bcast_S_S1310720 main_c_8
  let main_v22 : IVec S1310720 1 := cmpi .slt main_arg1 main_v21
  let main_v23 : IVec S1310720 1 := andi main_v20 main_v22
  let main_c_9 : IVec S_ 1 := constantI S_ 1 1#1
  let main_v24 : IVec S_ 1 := (fun x v => Host.reduce IntOp.andi x v reducesTo_S1310720_S_d0 h_S_) main_v23 main_c_9
  let main_c_10 : IVec S_ 32 := constantI S_ 32 95#32
  let main_v25 : IVec S24576 32 := broadcastInDim S24576 ![] bcast_S_S24576 main_c_10
  let main_v26 : IVec S24576 1 := cmpi .slt main_v18 main_v25
  let main_c_11 : IVec S_ 1 := constantI S_ 1 1#1
  let main_v27 : IVec S_ 1 := (fun x v => Host.reduce IntOp.andi x v reducesTo_S24576_S_d0 h_S_) main_v26 main_c_11
  let main_v28 : IVec S_ 1 := andi main_v24 main_v27
  main_v28

def fn {F : FTy → Type} [FloatOps F] (main_arg0 : FVec F S1310720 .f32) (main_arg1 : IVec S1310720 32) : IVec S_ 1 :=
  let main_v0 : IVec S1310720 32 := iotaInDim S1310720 32 0
  let main_c : IVec S_ 32 := constantI S_ 32 3#32
  let main_v1 : IVec S1310720 32 := broadcastInDim S1310720 ![] bcast_S_S1310720 main_c
  let main_v2 : IVec S1310720 32 := muli main_v0 main_v1
  let main_c_0 : IVec S_ 32 := constantI S_ 32 40960#32
  let main_v3 : IVec S1310720 32 := broadcastInDim S1310720 ![] bcast_S_S1310720 main_c_0
  let main_v4 : IVec S1310720 32 := Host.divsi main_v2 main_v3
  let main_c_1 : IVec S_ 32 := constantI S_ 32 256#32
  let main_v5 : IVec S1310720 32 := broadcastInDim S1310720 ![] bcast_S_S1310720 main_c_1
  let main_v6 : IVec S1310720 32 := muli main_v4 main_v5
  let main_c_2 : IVec S_ 32 := constantI S_ 32 51200#32
  let main_v7 : IVec S1310720 32 := broadcastInDim S1310720 ![] bcast_S_S1310720 main_c_2
  let main_v8 : IVec S1310720 32 := Host.divsi main_arg1 main_v7
  let main_v9 : IVec S1310720 32 := addi main_v6 main_v8
  let main_c_3 : IVec S_ 32 := constantI S_ 32 0#32
  let main_v10 : IVec S24576 32 := broadcastInDim S24576 ![] bcast_S_S24576 main_c_3
  let main_c_4 : IVec S_ 32 := constantI S_ 32 0#32
  let main_v11 : IVec S1310720 32 := broadcastInDim S1310720 ![] bcast_S_S1310720 main_c_4
  let main_v12 : IVec S1310720 1 := cmpi .slt main_v9 main_v11
  let main_c_5 : IVec S_ 32 := constantI S_ 32 24576#32
  let main_v13 : IVec S1310720 32 := broadcastInDim S1310720 ![] bcast_S_S1310720 main_c_5
  let main_v14 : IVec S1310720 32 := addi main_v9 main_v13
  let main_v15 : IVec S1310720 32 := select main_v12 main_v14 main_v9
  let main_v16 : IVec S1310720x1 32 := broadcastInDim S1310720x1 ![0] bcast_S1310720_S1310720x1_0 main_v15
  fn_part1 (F := F) main_arg1 main_v10 main_v16
-- ==== Kernel.lean ====
abbrev S1310720 : Shape := ⟨1, ![1310720]⟩
abbrev S256x12288 : Shape := ⟨2, ![256, 12288]⟩
abbrev S512 : Shape := ⟨1, ![512]⟩
abbrev S256x128 : Shape := ⟨2, ![256, 128]⟩
abbrev S256 : Shape := ⟨1, ![256]⟩
abbrev S8192 : Shape := ⟨1, ![8192]⟩
abbrev S16 : Shape := ⟨1, ![16]⟩
abbrev S_ : Shape := ⟨0, ![]⟩
abbrev S3145728 : Shape := ⟨1, ![3145728]⟩
abbrev S13107200 : Shape := ⟨1, ![13107200]⟩
abbrev S51200 : Shape := ⟨1, ![51200]⟩
abbrev S6144 : Shape := ⟨1, ![6144]⟩
abbrev S1024x200x64 : Shape := ⟨3, ![1024, 200, 64]⟩

abbrev nBuf : Table → Nat
  | .hbm => 9
  | .local .scVector .vmem => 15
  | _ => 0

abbrev bufTy : (tb : Table) → Fin (nBuf tb) → BufTy
  | .hbm, ⟨0, _⟩ => ⟨S1310720, .f32⟩
  | .hbm, ⟨1, _⟩ => ⟨S1310720, .i32⟩
  | .hbm, ⟨2, _⟩ => ⟨S256x12288, .i32⟩
  | .hbm, ⟨3, _⟩ => ⟨S256x12288, .f32⟩
  | .hbm, ⟨4, _⟩ => ⟨S512, .i32⟩
  | .hbm, ⟨5, _⟩ => ⟨S3145728, .i32⟩
  | .hbm, ⟨6, _⟩ => ⟨S3145728, .f32⟩
  | .hbm, ⟨7, _⟩ => ⟨S13107200, .f32⟩
  | .hbm, ⟨8, _⟩ => ⟨S1024x200x64, .f32⟩
  | .local .scVector .vmem, ⟨0, _⟩ => ⟨S256x128, .i32⟩
  | .local .scVector .vmem, ⟨1, _⟩ => ⟨S256x128, .f32⟩
  | .local .scVector .vmem, ⟨2, _⟩ => ⟨S256, .i32⟩
  | .local .scVector .vmem, ⟨3, _⟩ => ⟨S8192, .i32⟩
  | .local .scVector .vmem, ⟨4, _⟩ => ⟨S8192, .f32⟩
  | .local .scVector .vmem, ⟨5, _⟩ => ⟨S8192, .i32⟩
  | .local .scVector .vmem, ⟨6, _⟩ => ⟨S8192, .f32⟩
  | .local .scVector .vmem, ⟨7, _⟩ => ⟨S16, .i32⟩
  | .local .scVector .vmem, ⟨8, _⟩ => ⟨S51200, .f32⟩
  | .local .scVector .vmem, ⟨9, _⟩ => ⟨S51200, .f32⟩
  | .local .scVector .vmem, ⟨10, _⟩ => ⟨S6144, .i32⟩
  | .local .scVector .vmem, ⟨11, _⟩ => ⟨S6144, .f32⟩
  | .local .scVector .vmem, ⟨12, _⟩ => ⟨S6144, .i32⟩
  | .local .scVector .vmem, ⟨13, _⟩ => ⟨S6144, .f32⟩
  | .local .scVector .vmem, ⟨14, _⟩ => ⟨S512, .i32⟩
  | _, _ => ⟨S1310720, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev main_v0_2_scv : Ref sig .scVector := ⟨.hbm, 4, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_scratch0 : Ref sig .scVector := ⟨.vmem, 8, rfl⟩
abbrev cc1_scratch1 : Ref sig .scVector := ⟨.vmem, 9, rfl⟩
abbrev cc1_scratch2 : Ref sig .scVector := ⟨.vmem, 10, rfl⟩
abbrev cc1_scratch3 : Ref sig .scVector := ⟨.vmem, 11, rfl⟩
abbrev cc1_scratch4 : Ref sig .scVector := ⟨.vmem, 12, rfl⟩
abbrev cc1_scratch5 : Ref sig .scVector := ⟨.vmem, 13, rfl⟩
abbrev cc1_scratch6 : Ref sig .scVector := ⟨.vmem, 14, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c16_i32 : BitVec 32 := 16#32
  let v6 : BitVec 32 := Scalar.addi c0_i32_1 c16_i32
  let c1_i32 : BitVec 32 := 1#32
  ⟨c0_i32_1, v6, c1_i32⟩
def k0_off1 (k0_t1 : Fin k0_t1_loop.trips) : Fin 1 → Nat :=
  let c0_i32_1 : BitVec 32 := 0#32
  let c1_i32 : BitVec 32 := 1#32
  let arg17 : BitVec 32 := Scf.iv c0_i32_1 c1_i32 k0_t1
  let c16_i32_52 : BitVec 32 := 16#32
  let v87 : BitVec 32 := Scalar.muli arg17 c16_i32_52
  let v88 : Index := Scalar.indexCast v87
  ![v88.toNat]
def k0_off2 (i : grid0.Coords) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40960_i32 : BitVec 32 := 40960#32
  let v2 : BitVec 32 := Scalar.muli v1 c40960_i32
  let v7 : BitVec 32 := Scalar.addi v2 c0_i32_3
  ![v7.toNat]
@[reducible] def k0_t2_loop : Scf.Loop 32 :=
  let c0_i32_8 : BitVec 32 := 0#32
  let c256_i32 : BitVec 32 := 256#32
  let v23 : BitVec 32 := Scalar.addi c0_i32_8 c256_i32
  let c1_i32_9 : BitVec 32 := 1#32
  ⟨c0_i32_8, v23, c1_i32_9⟩
@[reducible] def k0_t3_loop : Scf.Loop 32 :=
  let c0_i32_83 : BitVec 32 := 0#32
  let c16_i32_84 : BitVec 32 := 16#32
  let v160 : BitVec 32 := Scalar.addi c0_i32_83 c16_i32_84
  let c1_i32_85 : BitVec 32 := 1#32
  ⟨c0_i32_83, v160, c1_i32_85⟩
def k0_off3 (k0_t3 : Fin k0_t3_loop.trips) : Fin 1 → Nat :=
  let c0_i32_83 : BitVec 32 := 0#32
  let c1_i32_85 : BitVec 32 := 1#32
  let arg20 : BitVec 32 := Scf.iv c0_i32_83 c1_i32_85 k0_t3
  let c16_i32_104 : BitVec 32 := 16#32
  let v174 : BitVec 32 := Scalar.muli arg20 c16_i32_104
  let v175 : Index := Scalar.indexCast v174
  ![v175.toNat]
def k0_cond1 (arg19 : BitVec 32) : BitVec 1 :=
  let c95_i32 : BitVec 32 := 95#32
  let v86 : BitVec 1 := Scalar.cmpi .sge arg19 c95_i32
  let v87 : BitVec 32 := Scalar.extui v86
  let c0_i32_51 : BitVec 32 := 0#32
  let v88 : BitVec 1 := Scalar.cmpi .ne v87 c0_i32_51
  v88

def k0_chk1 (arg19 : BitVec 32) (v179 : IVec S16 32) (v181 : IVec S16 32) : Prop :=
  (∀ (k0_h1 : k0_cond1 arg19 = 1#1), ∀ a x, ((![v179, v181] : Fin 2 → IVec S16 32) a x).toNat < S256x128.size a)
theorem k0_idx1_inb : ∀ (arg19 : BitVec 32) (v179 : IVec S16 32) (v181 : IVec S16 32) (k0_hw1 : k0_chk1 arg19 v179 v181), ∀ (k0_h1 : k0_cond1 arg19 = 1#1), ∀ a x, ((![v179, v181] : Fin 2 → IVec S16 32) a x).toNat < S256x128.size a := fun arg19 v179 v181 k0_hw1 k0_h1 => k0_hw1 k0_h1
def k0_off4 (i : grid0.Coords) (arg18 : BitVec 32) : Fin 2 → Nat :=
  let c0_i32_89 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_87 : BitVec 32 := 3#32
  let v161 : BitVec 32 := Scalar.muli v1 c3_i32_87
  let c2_i32_81 : BitVec 32 := 2#32
  let v159 : BitVec 32 := Scalar.minsi arg18 c2_i32_81
  let v162 : BitVec 32 := Scalar.addi v161 v159
  let c128_i32_88 : BitVec 32 := 128#32
  let v163 : BitVec 32 := Scalar.muli v162 c128_i32_88
  ![0, v163.toNat]

def k0_chk2 (i : grid0.Coords) (arg18 : BitVec 32) (arg19 : BitVec 32) : Prop :=
  (∀ (k0_h1 : k0_cond1 arg19 = 1#1), ∀ a, (k0_off4 i arg18) a + S256x128.size a ≤ S256x12288.size a)
theorem k0_off4_inb : ∀ (i : grid0.Coords) (arg18 : BitVec 32) (arg19 : BitVec 32) (k0_hw2 : k0_chk2 i arg18 arg19), ∀ (k0_h1 : k0_cond1 arg19 = 1#1), ∀ a, (k0_off4 i arg18) a + S256x128.size a ≤ S256x12288.size a := fun i arg18 arg19 k0_hw2 k0_h1 => k0_hw2 k0_h1

@[reducible] def k0_t4_loop : Scf.Loop 32 :=
  let c0_i32_98 : BitVec 32 := 0#32
  let c16_i32_99 : BitVec 32 := 16#32
  let v172 : BitVec 32 := Scalar.addi c0_i32_98 c16_i32_99
  let c1_i32_100 : BitVec 32 := 1#32
  ⟨c0_i32_98, v172, c1_i32_100⟩
def k0_off5 (k0_t4 : Fin k0_t4_loop.trips) : Fin 1 → Nat :=
  let c0_i32_98 : BitVec 32 := 0#32
  let c1_i32_100 : BitVec 32 := 1#32
  let arg20 : BitVec 32 := Scf.iv c0_i32_98 c1_i32_100 k0_t4
  let c16_i32_105 : BitVec 32 := 16#32
  let v175 : BitVec 32 := Scalar.muli arg20 c16_i32_105
  let v176 : Index := Scalar.indexCast v175
  ![v176.toNat]
def k0_off6 (k0_t2 : Fin k0_t2_loop.trips) : Fin 1 → Nat :=
  let c0_i32_8 : BitVec 32 := 0#32
  let c1_i32_9 : BitVec 32 := 1#32
  let arg17 : BitVec 32 := Scf.iv c0_i32_8 c1_i32_9 k0_t2
  let c2_i32_52 : BitVec 32 := 2#32
  let v90 : BitVec 32 := Scalar.muli arg17 c2_i32_52
  let c0_i32_53 : BitVec 32 := 0#32
  let v91 : BitVec 32 := Scalar.addi v90 c0_i32_53
  let c16_i32_54 : BitVec 32 := 16#32
  let v92 : BitVec 32 := Scalar.muli v91 c16_i32_54
  let v93 : Index := Scalar.indexCast v92
  ![v93.toNat]

def k0_chk4 (v105 : IVec S16 32) (v112 : IVec S16 32) : Prop :=
  (∀ a x, ((![v105, v112] : Fin 2 → IVec S16 32) a x).toNat < S256x128.size a) ∧
  (∀ a x, ((![v105, v112] : Fin 2 → IVec S16 32) a x).toNat < S256x128.size a)
theorem k0_idx3_inb : ∀ (v105 : IVec S16 32) (v112 : IVec S16 32) (k0_hw4 : k0_chk4 v105 v112), ∀ a x, ((![v105, v112] : Fin 2 → IVec S16 32) a x).toNat < S256x128.size a := fun v105 v112 k0_hw4 => k0_hw4.1
theorem k0_idx4_inb : ∀ (v105 : IVec S16 32) (v112 : IVec S16 32) (k0_hw4 : k0_chk4 v105 v112), ∀ a x, ((![v105, v112] : Fin 2 → IVec S16 32) a x).toNat < S256x128.size a := fun v105 v112 k0_hw4 => k0_hw4.2

def k0_chk3 (v105 : IVec S16 32) : Prop :=
  (∀ a x, ((![v105] : Fin 1 → IVec S16 32) a x).toNat < S256.size a) ∧
  (∀ a x, ((![v105] : Fin 1 → IVec S16 32) a x).toNat < S256.size a)
theorem k0_idx2_inb : ∀ (v105 : IVec S16 32) (k0_hw3 : k0_chk3 v105), ∀ a x, ((![v105] : Fin 1 → IVec S16 32) a x).toNat < S256.size a := fun v105 k0_hw3 => k0_hw3.1
theorem k0_idx5_inb : ∀ (v105 : IVec S16 32) (k0_hw3 : k0_chk3 v105), ∀ a x, ((![v105] : Fin 1 → IVec S16 32) a x).toNat < S256.size a := fun v105 k0_hw3 => k0_hw3.2
def k0_off7 (k0_t2 : Fin k0_t2_loop.trips) : Fin 1 → Nat :=
  let c0_i32_8 : BitVec 32 := 0#32
  let c1_i32_9 : BitVec 32 := 1#32
  let arg17 : BitVec 32 := Scf.iv c0_i32_8 c1_i32_9 k0_t2
  let c2_i32_63 : BitVec 32 := 2#32
  let v124 : BitVec 32 := Scalar.muli arg17 c2_i32_63
  let c1_i32_64 : BitVec 32 := 1#32
  let v125 : BitVec 32 := Scalar.addi v124 c1_i32_64
  let c16_i32_65 : BitVec 32 := 16#32
  let v126 : BitVec 32 := Scalar.muli v125 c16_i32_65
  let v127 : Index := Scalar.indexCast v126
  ![v127.toNat]

def k0_chk6 (v139 : IVec S16 32) (v146 : IVec S16 32) : Prop :=
  (∀ a x, ((![v139, v146] : Fin 2 → IVec S16 32) a x).toNat < S256x128.size a) ∧
  (∀ a x, ((![v139, v146] : Fin 2 → IVec S16 32) a x).toNat < S256x128.size a)
theorem k0_idx7_inb : ∀ (v139 : IVec S16 32) (v146 : IVec S16 32) (k0_hw6 : k0_chk6 v139 v146), ∀ a x, ((![v139, v146] : Fin 2 → IVec S16 32) a x).toNat < S256x128.size a := fun v139 v146 k0_hw6 => k0_hw6.1
theorem k0_idx8_inb : ∀ (v139 : IVec S16 32) (v146 : IVec S16 32) (k0_hw6 : k0_chk6 v139 v146), ∀ a x, ((![v139, v146] : Fin 2 → IVec S16 32) a x).toNat < S256x128.size a := fun v139 v146 k0_hw6 => k0_hw6.2

def k0_chk5 (v139 : IVec S16 32) : Prop :=
  (∀ a x, ((![v139] : Fin 1 → IVec S16 32) a x).toNat < S256.size a) ∧
  (∀ a x, ((![v139] : Fin 1 → IVec S16 32) a x).toNat < S256.size a)
theorem k0_idx6_inb : ∀ (v139 : IVec S16 32) (k0_hw5 : k0_chk5 v139), ∀ a x, ((![v139] : Fin 1 → IVec S16 32) a x).toNat < S256.size a := fun v139 k0_hw5 => k0_hw5.1
theorem k0_idx9_inb : ∀ (v139 : IVec S16 32) (k0_hw5 : k0_chk5 v139), ∀ a x, ((![v139] : Fin 1 → IVec S16 32) a x).toNat < S256.size a := fun v139 k0_hw5 => k0_hw5.2
@[reducible] def k0_t5_loop : Scf.Loop 32 :=
  let c0_i32_12 : BitVec 32 := 0#32
  let c256_i32_13 : BitVec 32 := 256#32
  let v35 : BitVec 32 := Scalar.addi c0_i32_12 c256_i32_13
  let c1_i32_14 : BitVec 32 := 1#32
  ⟨c0_i32_12, v35, c1_i32_14⟩
@[reducible] def k0_t6_loop : Scf.Loop 32 :=
  let c0_i32_83 : BitVec 32 := 0#32
  let c16_i32_84 : BitVec 32 := 16#32
  let v160 : BitVec 32 := Scalar.addi c0_i32_83 c16_i32_84
  let c1_i32_85 : BitVec 32 := 1#32
  ⟨c0_i32_83, v160, c1_i32_85⟩
def k0_off8 (k0_t6 : Fin k0_t6_loop.trips) : Fin 1 → Nat :=
  let c0_i32_83 : BitVec 32 := 0#32
  let c1_i32_85 : BitVec 32 := 1#32
  let arg20 : BitVec 32 := Scf.iv c0_i32_83 c1_i32_85 k0_t6
  let c16_i32_104 : BitVec 32 := 16#32
  let v174 : BitVec 32 := Scalar.muli arg20 c16_i32_104
  let v175 : Index := Scalar.indexCast v174
  ![v175.toNat]
def k0_cond2 (arg19 : BitVec 32) : BitVec 1 :=
  let c95_i32 : BitVec 32 := 95#32
  let v86 : BitVec 1 := Scalar.cmpi .sge arg19 c95_i32
  let v87 : BitVec 32 := Scalar.extui v86
  let c0_i32_51 : BitVec 32 := 0#32
  let v88 : BitVec 1 := Scalar.cmpi .ne v87 c0_i32_51
  v88

def k0_chk7 (arg19 : BitVec 32) (v179 : IVec S16 32) (v181 : IVec S16 32) : Prop :=
  (∀ (k0_h2 : k0_cond2 arg19 = 1#1), ∀ a x, ((![v179, v181] : Fin 2 → IVec S16 32) a x).toNat < S256x128.size a)
theorem k0_idx10_inb : ∀ (arg19 : BitVec 32) (v179 : IVec S16 32) (v181 : IVec S16 32) (k0_hw7 : k0_chk7 arg19 v179 v181), ∀ (k0_h2 : k0_cond2 arg19 = 1#1), ∀ a x, ((![v179, v181] : Fin 2 → IVec S16 32) a x).toNat < S256x128.size a := fun arg19 v179 v181 k0_hw7 k0_h2 => k0_hw7 k0_h2
def k0_off9 (i : grid0.Coords) (arg18 : BitVec 32) : Fin 2 → Nat :=
  let c0_i32_89 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_87 : BitVec 32 := 3#32
  let v161 : BitVec 32 := Scalar.muli v1 c3_i32_87
  let c2_i32_81 : BitVec 32 := 2#32
  let v159 : BitVec 32 := Scalar.minsi arg18 c2_i32_81
  let v162 : BitVec 32 := Scalar.addi v161 v159
  let c128_i32_88 : BitVec 32 := 128#32
  let v163 : BitVec 32 := Scalar.muli v162 c128_i32_88
  ![0, v163.toNat]

def k0_chk8 (i : grid0.Coords) (arg18 : BitVec 32) (arg19 : BitVec 32) : Prop :=
  (∀ (k0_h2 : k0_cond2 arg19 = 1#1), ∀ a, (k0_off9 i arg18) a + S256x128.size a ≤ S256x12288.size a)
theorem k0_off9_inb : ∀ (i : grid0.Coords) (arg18 : BitVec 32) (arg19 : BitVec 32) (k0_hw8 : k0_chk8 i arg18 arg19), ∀ (k0_h2 : k0_cond2 arg19 = 1#1), ∀ a, (k0_off9 i arg18) a + S256x128.size a ≤ S256x12288.size a := fun i arg18 arg19 k0_hw8 k0_h2 => k0_hw8 k0_h2

@[reducible] def k0_t7_loop : Scf.Loop 32 :=
  let c0_i32_98 : BitVec 32 := 0#32
  let c16_i32_99 : BitVec 32 := 16#32
  let v172 : BitVec 32 := Scalar.addi c0_i32_98 c16_i32_99
  let c1_i32_100 : BitVec 32 := 1#32
  ⟨c0_i32_98, v172, c1_i32_100⟩
def k0_off10 (k0_t7 : Fin k0_t7_loop.trips) : Fin 1 → Nat :=
  let c0_i32_98 : BitVec 32 := 0#32
  let c1_i32_100 : BitVec 32 := 1#32
  let arg20 : BitVec 32 := Scf.iv c0_i32_98 c1_i32_100 k0_t7
  let c16_i32_105 : BitVec 32 := 16#32
  let v175 : BitVec 32 := Scalar.muli arg20 c16_i32_105
  let v176 : Index := Scalar.indexCast v175
  ![v176.toNat]
def k0_off11 (k0_t5 : Fin k0_t5_loop.trips) : Fin 1 → Nat :=
  let c0_i32_12 : BitVec 32 := 0#32
  let c1_i32_14 : BitVec 32 := 1#32
  let arg17 : BitVec 32 := Scf.iv c0_i32_12 c1_i32_14 k0_t5
  let c2_i32_52 : BitVec 32 := 2#32
  let v90 : BitVec 32 := Scalar.muli arg17 c2_i32_52
  let c0_i32_53 : BitVec 32 := 0#32
  let v91 : BitVec 32 := Scalar.addi v90 c0_i32_53
  let c16_i32_54 : BitVec 32 := 16#32
  let v92 : BitVec 32 := Scalar.muli v91 c16_i32_54
  let v93 : Index := Scalar.indexCast v92
  ![v93.toNat]

def k0_chk10 (v105 : IVec S16 32) (v112 : IVec S16 32) : Prop :=
  (∀ a x, ((![v105, v112] : Fin 2 → IVec S16 32) a x).toNat < S256x128.size a) ∧
  (∀ a x, ((![v105, v112] : Fin 2 → IVec S16 32) a x).toNat < S256x128.size a)
theorem k0_idx12_inb : ∀ (v105 : IVec S16 32) (v112 : IVec S16 32) (k0_hw10 : k0_chk10 v105 v112), ∀ a x, ((![v105, v112] : Fin 2 → IVec S16 32) a x).toNat < S256x128.size a := fun v105 v112 k0_hw10 => k0_hw10.1
theorem k0_idx13_inb : ∀ (v105 : IVec S16 32) (v112 : IVec S16 32) (k0_hw10 : k0_chk10 v105 v112), ∀ a x, ((![v105, v112] : Fin 2 → IVec S16 32) a x).toNat < S256x128.size a := fun v105 v112 k0_hw10 => k0_hw10.2

def k0_chk9 (v105 : IVec S16 32) : Prop :=
  (∀ a x, ((![v105] : Fin 1 → IVec S16 32) a x).toNat < S256.size a) ∧
  (∀ a x, ((![v105] : Fin 1 → IVec S16 32) a x).toNat < S256.size a)
theorem k0_idx11_inb : ∀ (v105 : IVec S16 32) (k0_hw9 : k0_chk9 v105), ∀ a x, ((![v105] : Fin 1 → IVec S16 32) a x).toNat < S256.size a := fun v105 k0_hw9 => k0_hw9.1
theorem k0_idx14_inb : ∀ (v105 : IVec S16 32) (k0_hw9 : k0_chk9 v105), ∀ a x, ((![v105] : Fin 1 → IVec S16 32) a x).toNat < S256.size a := fun v105 k0_hw9 => k0_hw9.2
def k0_off12 (k0_t5 : Fin k0_t5_loop.trips) : Fin 1 → Nat :=
  let c0_i32_12 : BitVec 32 := 0#32
  let c1_i32_14 : BitVec 32 := 1#32
  let arg17 : BitVec 32 := Scf.iv c0_i32_12 c1_i32_14 k0_t5
  let c2_i32_63 : BitVec 32 := 2#32
  let v124 : BitVec 32 := Scalar.muli arg17 c2_i32_63
  let c1_i32_64 : BitVec 32 := 1#32
  let v125 : BitVec 32 := Scalar.addi v124 c1_i32_64
  let c16_i32_65 : BitVec 32 := 16#32
  let v126 : BitVec 32 := Scalar.muli v125 c16_i32_65
  let v127 : Index := Scalar.indexCast v126
  ![v127.toNat]

def k0_chk12 (v139 : IVec S16 32) (v146 : IVec S16 32) : Prop :=
  (∀ a x, ((![v139, v146] : Fin 2 → IVec S16 32) a x).toNat < S256x128.size a) ∧
  (∀ a x, ((![v139, v146] : Fin 2 → IVec S16 32) a x).toNat < S256x128.size a)
theorem k0_idx16_inb : ∀ (v139 : IVec S16 32) (v146 : IVec S16 32) (k0_hw12 : k0_chk12 v139 v146), ∀ a x, ((![v139, v146] : Fin 2 → IVec S16 32) a x).toNat < S256x128.size a := fun v139 v146 k0_hw12 => k0_hw12.1
theorem k0_idx17_inb : ∀ (v139 : IVec S16 32) (v146 : IVec S16 32) (k0_hw12 : k0_chk12 v139 v146), ∀ a x, ((![v139, v146] : Fin 2 → IVec S16 32) a x).toNat < S256x128.size a := fun v139 v146 k0_hw12 => k0_hw12.2

def k0_chk11 (v139 : IVec S16 32) : Prop :=
  (∀ a x, ((![v139] : Fin 1 → IVec S16 32) a x).toNat < S256.size a) ∧
  (∀ a x, ((![v139] : Fin 1 → IVec S16 32) a x).toNat < S256.size a)
theorem k0_idx15_inb : ∀ (v139 : IVec S16 32) (k0_hw11 : k0_chk11 v139), ∀ a x, ((![v139] : Fin 1 → IVec S16 32) a x).toNat < S256.size a := fun v139 k0_hw11 => k0_hw11.1
theorem k0_idx18_inb : ∀ (v139 : IVec S16 32) (k0_hw11 : k0_chk11 v139), ∀ a x, ((![v139] : Fin 1 → IVec S16 32) a x).toNat < S256.size a := fun v139 k0_hw11 => k0_hw11.2
@[reducible] def k0_t8_loop : Scf.Loop 32 :=
  let c0_i32_17 : BitVec 32 := 0#32
  let c256_i32_18 : BitVec 32 := 256#32
  let v47 : BitVec 32 := Scalar.addi c0_i32_17 c256_i32_18
  let c1_i32_19 : BitVec 32 := 1#32
  ⟨c0_i32_17, v47, c1_i32_19⟩
@[reducible] def k0_t9_loop : Scf.Loop 32 :=
  let c0_i32_83 : BitVec 32 := 0#32
  let c16_i32_84 : BitVec 32 := 16#32
  let v160 : BitVec 32 := Scalar.addi c0_i32_83 c16_i32_84
  let c1_i32_85 : BitVec 32 := 1#32
  ⟨c0_i32_83, v160, c1_i32_85⟩
def k0_off13 (k0_t9 : Fin k0_t9_loop.trips) : Fin 1 → Nat :=
  let c0_i32_83 : BitVec 32 := 0#32
  let c1_i32_85 : BitVec 32 := 1#32
  let arg20 : BitVec 32 := Scf.iv c0_i32_83 c1_i32_85 k0_t9
  let c16_i32_104 : BitVec 32 := 16#32
  let v174 : BitVec 32 := Scalar.muli arg20 c16_i32_104
  let v175 : Index := Scalar.indexCast v174
  ![v175.toNat]
def k0_cond3 (arg19 : BitVec 32) : BitVec 1 :=
  let c95_i32 : BitVec 32 := 95#32
  let v86 : BitVec 1 := Scalar.cmpi .sge arg19 c95_i32
  let v87 : BitVec 32 := Scalar.extui v86
  let c0_i32_51 : BitVec 32 := 0#32
  let v88 : BitVec 1 := Scalar.cmpi .ne v87 c0_i32_51
  v88

def k0_chk13 (arg19 : BitVec 32) (v179 : IVec S16 32) (v181 : IVec S16 32) : Prop :=
  (∀ (k0_h3 : k0_cond3 arg19 = 1#1), ∀ a x, ((![v179, v181] : Fin 2 → IVec S16 32) a x).toNat < S256x128.size a)
theorem k0_idx19_inb : ∀ (arg19 : BitVec 32) (v179 : IVec S16 32) (v181 : IVec S16 32) (k0_hw13 : k0_chk13 arg19 v179 v181), ∀ (k0_h3 : k0_cond3 arg19 = 1#1), ∀ a x, ((![v179, v181] : Fin 2 → IVec S16 32) a x).toNat < S256x128.size a := fun arg19 v179 v181 k0_hw13 k0_h3 => k0_hw13 k0_h3
def k0_off14 (i : grid0.Coords) (arg18 : BitVec 32) : Fin 2 → Nat :=
  let c0_i32_89 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_87 : BitVec 32 := 3#32
  let v161 : BitVec 32 := Scalar.muli v1 c3_i32_87
  let c2_i32_81 : BitVec 32 := 2#32
  let v159 : BitVec 32 := Scalar.minsi arg18 c2_i32_81
  let v162 : BitVec 32 := Scalar.addi v161 v159
  let c128_i32_88 : BitVec 32 := 128#32
  let v163 : BitVec 32 := Scalar.muli v162 c128_i32_88
  ![0, v163.toNat]

def k0_chk14 (i : grid0.Coords) (arg18 : BitVec 32) (arg19 : BitVec 32) : Prop :=
  (∀ (k0_h3 : k0_cond3 arg19 = 1#1), ∀ a, (k0_off14 i arg18) a + S256x128.size a ≤ S256x12288.size a)
theorem k0_off14_inb : ∀ (i : grid0.Coords) (arg18 : BitVec 32) (arg19 : BitVec 32) (k0_hw14 : k0_chk14 i arg18 arg19), ∀ (k0_h3 : k0_cond3 arg19 = 1#1), ∀ a, (k0_off14 i arg18) a + S256x128.size a ≤ S256x12288.size a := fun i arg18 arg19 k0_hw14 k0_h3 => k0_hw14 k0_h3

@[reducible] def k0_t10_loop : Scf.Loop 32 :=
  let c0_i32_98 : BitVec 32 := 0#32
  let c16_i32_99 : BitVec 32 := 16#32
  let v172 : BitVec 32 := Scalar.addi c0_i32_98 c16_i32_99
  let c1_i32_100 : BitVec 32 := 1#32
  ⟨c0_i32_98, v172, c1_i32_100⟩
def k0_off15 (k0_t10 : Fin k0_t10_loop.trips) : Fin 1 → Nat :=
  let c0_i32_98 : BitVec 32 := 0#32
  let c1_i32_100 : BitVec 32 := 1#32
  let arg20 : BitVec 32 := Scf.iv c0_i32_98 c1_i32_100 k0_t10
  let c16_i32_105 : BitVec 32 := 16#32
  let v175 : BitVec 32 := Scalar.muli arg20 c16_i32_105
  let v176 : Index := Scalar.indexCast v175
  ![v176.toNat]
def k0_off16 (k0_t8 : Fin k0_t8_loop.trips) : Fin 1 → Nat :=
  let c0_i32_17 : BitVec 32 := 0#32
  let c1_i32_19 : BitVec 32 := 1#32
  let arg17 : BitVec 32 := Scf.iv c0_i32_17 c1_i32_19 k0_t8
  let c2_i32_52 : BitVec 32 := 2#32
  let v90 : BitVec 32 := Scalar.muli arg17 c2_i32_52
  let c0_i32_53 : BitVec 32 := 0#32
  let v91 : BitVec 32 := Scalar.addi v90 c0_i32_53
  let c16_i32_54 : BitVec 32 := 16#32
  let v92 : BitVec 32 := Scalar.muli v91 c16_i32_54
  let v93 : Index := Scalar.indexCast v92
  ![v93.toNat]

def k0_chk16 (v105 : IVec S16 32) (v112 : IVec S16 32) : Prop :=
  (∀ a x, ((![v105, v112] : Fin 2 → IVec S16 32) a x).toNat < S256x128.size a) ∧
  (∀ a x, ((![v105, v112] : Fin 2 → IVec S16 32) a x).toNat < S256x128.size a)
theorem k0_idx21_inb : ∀ (v105 : IVec S16 32) (v112 : IVec S16 32) (k0_hw16 : k0_chk16 v105 v112), ∀ a x, ((![v105, v112] : Fin 2 → IVec S16 32) a x).toNat < S256x128.size a := fun v105 v112 k0_hw16 => k0_hw16.1
theorem k0_idx22_inb : ∀ (v105 : IVec S16 32) (v112 : IVec S16 32) (k0_hw16 : k0_chk16 v105 v112), ∀ a x, ((![v105, v112] : Fin 2 → IVec S16 32) a x).toNat < S256x128.size a := fun v105 v112 k0_hw16 => k0_hw16.2

def k0_chk15 (v105 : IVec S16 32) : Prop :=
  (∀ a x, ((![v105] : Fin 1 → IVec S16 32) a x).toNat < S256.size a) ∧
  (∀ a x, ((![v105] : Fin 1 → IVec S16 32) a x).toNat < S256.size a)
theorem k0_idx20_inb : ∀ (v105 : IVec S16 32) (k0_hw15 : k0_chk15 v105), ∀ a x, ((![v105] : Fin 1 → IVec S16 32) a x).toNat < S256.size a := fun v105 k0_hw15 => k0_hw15.1
theorem k0_idx23_inb : ∀ (v105 : IVec S16 32) (k0_hw15 : k0_chk15 v105), ∀ a x, ((![v105] : Fin 1 → IVec S16 32) a x).toNat < S256.size a := fun v105 k0_hw15 => k0_hw15.2
def k0_off17 (k0_t8 : Fin k0_t8_loop.trips) : Fin 1 → Nat :=
  let c0_i32_17 : BitVec 32 := 0#32
  let c1_i32_19 : BitVec 32 := 1#32
  let arg17 : BitVec 32 := Scf.iv c0_i32_17 c1_i32_19 k0_t8
  let c2_i32_63 : BitVec 32 := 2#32
  let v124 : BitVec 32 := Scalar.muli arg17 c2_i32_63
  let c1_i32_64 : BitVec 32 := 1#32
  let v125 : BitVec 32 := Scalar.addi v124 c1_i32_64
  let c16_i32_65 : BitVec 32 := 16#32
  let v126 : BitVec 32 := Scalar.muli v125 c16_i32_65
  let v127 : Index := Scalar.indexCast v126
  ![v127.toNat]

def k0_chk18 (v139 : IVec S16 32) (v146 : IVec S16 32) : Prop :=
  (∀ a x, ((![v139, v146] : Fin 2 → IVec S16 32) a x).toNat < S256x128.size a) ∧
  (∀ a x, ((![v139, v146] : Fin 2 → IVec S16 32) a x).toNat < S256x128.size a)
theorem k0_idx25_inb : ∀ (v139 : IVec S16 32) (v146 : IVec S16 32) (k0_hw18 : k0_chk18 v139 v146), ∀ a x, ((![v139, v146] : Fin 2 → IVec S16 32) a x).toNat < S256x128.size a := fun v139 v146 k0_hw18 => k0_hw18.1
theorem k0_idx26_inb : ∀ (v139 : IVec S16 32) (v146 : IVec S16 32) (k0_hw18 : k0_chk18 v139 v146), ∀ a x, ((![v139, v146] : Fin 2 → IVec S16 32) a x).toNat < S256x128.size a := fun v139 v146 k0_hw18 => k0_hw18.2

def k0_chk17 (v139 : IVec S16 32) : Prop :=
  (∀ a x, ((![v139] : Fin 1 → IVec S16 32) a x).toNat < S256.size a) ∧
  (∀ a x, ((![v139] : Fin 1 → IVec S16 32) a x).toNat < S256.size a)
theorem k0_idx24_inb : ∀ (v139 : IVec S16 32) (k0_hw17 : k0_chk17 v139), ∀ a x, ((![v139] : Fin 1 → IVec S16 32) a x).toNat < S256.size a := fun v139 k0_hw17 => k0_hw17.1
theorem k0_idx27_inb : ∀ (v139 : IVec S16 32) (k0_hw17 : k0_chk17 v139), ∀ a x, ((![v139] : Fin 1 → IVec S16 32) a x).toNat < S256.size a := fun v139 k0_hw17 => k0_hw17.2
@[reducible] def k0_t11_loop : Scf.Loop 32 :=
  let c0_i32_22 : BitVec 32 := 0#32
  let c256_i32_23 : BitVec 32 := 256#32
  let v59 : BitVec 32 := Scalar.addi c0_i32_22 c256_i32_23
  let c1_i32_24 : BitVec 32 := 1#32
  ⟨c0_i32_22, v59, c1_i32_24⟩
@[reducible] def k0_t12_loop : Scf.Loop 32 :=
  let c0_i32_83 : BitVec 32 := 0#32
  let c16_i32_84 : BitVec 32 := 16#32
  let v160 : BitVec 32 := Scalar.addi c0_i32_83 c16_i32_84
  let c1_i32_85 : BitVec 32 := 1#32
  ⟨c0_i32_83, v160, c1_i32_85⟩
def k0_off18 (k0_t12 : Fin k0_t12_loop.trips) : Fin 1 → Nat :=
  let c0_i32_83 : BitVec 32 := 0#32
  let c1_i32_85 : BitVec 32 := 1#32
  let arg20 : BitVec 32 := Scf.iv c0_i32_83 c1_i32_85 k0_t12
  let c16_i32_104 : BitVec 32 := 16#32
  let v174 : BitVec 32 := Scalar.muli arg20 c16_i32_104
  let v175 : Index := Scalar.indexCast v174
  ![v175.toNat]
def k0_cond4 (arg19 : BitVec 32) : BitVec 1 :=
  let c95_i32 : BitVec 32 := 95#32
  let v86 : BitVec 1 := Scalar.cmpi .sge arg19 c95_i32
  let v87 : BitVec 32 := Scalar.extui v86
  let c0_i32_51 : BitVec 32 := 0#32
  let v88 : BitVec 1 := Scalar.cmpi .ne v87 c0_i32_51
  v88

def k0_chk19 (arg19 : BitVec 32) (v179 : IVec S16 32) (v181 : IVec S16 32) : Prop :=
  (∀ (k0_h4 : k0_cond4 arg19 = 1#1), ∀ a x, ((![v179, v181] : Fin 2 → IVec S16 32) a x).toNat < S256x128.size a)
theorem k0_idx28_inb : ∀ (arg19 : BitVec 32) (v179 : IVec S16 32) (v181 : IVec S16 32) (k0_hw19 : k0_chk19 arg19 v179 v181), ∀ (k0_h4 : k0_cond4 arg19 = 1#1), ∀ a x, ((![v179, v181] : Fin 2 → IVec S16 32) a x).toNat < S256x128.size a := fun arg19 v179 v181 k0_hw19 k0_h4 => k0_hw19 k0_h4
def k0_off19 (i : grid0.Coords) (arg18 : BitVec 32) : Fin 2 → Nat :=
  let c0_i32_89 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_87 : BitVec 32 := 3#32
  let v161 : BitVec 32 := Scalar.muli v1 c3_i32_87
  let c2_i32_81 : BitVec 32 := 2#32
  let v159 : BitVec 32 := Scalar.minsi arg18 c2_i32_81
  let v162 : BitVec 32 := Scalar.addi v161 v159
  let c128_i32_88 : BitVec 32 := 128#32
  let v163 : BitVec 32 := Scalar.muli v162 c128_i32_88
  ![0, v163.toNat]

def k0_chk20 (i : grid0.Coords) (arg18 : BitVec 32) (arg19 : BitVec 32) : Prop :=
  (∀ (k0_h4 : k0_cond4 arg19 = 1#1), ∀ a, (k0_off19 i arg18) a + S256x128.size a ≤ S256x12288.size a)
theorem k0_off19_inb : ∀ (i : grid0.Coords) (arg18 : BitVec 32) (arg19 : BitVec 32) (k0_hw20 : k0_chk20 i arg18 arg19), ∀ (k0_h4 : k0_cond4 arg19 = 1#1), ∀ a, (k0_off19 i arg18) a + S256x128.size a ≤ S256x12288.size a := fun i arg18 arg19 k0_hw20 k0_h4 => k0_hw20 k0_h4

@[reducible] def k0_t13_loop : Scf.Loop 32 :=
  let c0_i32_98 : BitVec 32 := 0#32
  let c16_i32_99 : BitVec 32 := 16#32
  let v172 : BitVec 32 := Scalar.addi c0_i32_98 c16_i32_99
  let c1_i32_100 : BitVec 32 := 1#32
  ⟨c0_i32_98, v172, c1_i32_100⟩
def k0_off20 (k0_t13 : Fin k0_t13_loop.trips) : Fin 1 → Nat :=
  let c0_i32_98 : BitVec 32 := 0#32
  let c1_i32_100 : BitVec 32 := 1#32
  let arg20 : BitVec 32 := Scf.iv c0_i32_98 c1_i32_100 k0_t13
  let c16_i32_105 : BitVec 32 := 16#32
  let v175 : BitVec 32 := Scalar.muli arg20 c16_i32_105
  let v176 : Index := Scalar.indexCast v175
  ![v176.toNat]
def k0_off21 (k0_t11 : Fin k0_t11_loop.trips) : Fin 1 → Nat :=
  let c0_i32_22 : BitVec 32 := 0#32
  let c1_i32_24 : BitVec 32 := 1#32
  let arg17 : BitVec 32 := Scf.iv c0_i32_22 c1_i32_24 k0_t11
  let c2_i32_52 : BitVec 32 := 2#32
  let v90 : BitVec 32 := Scalar.muli arg17 c2_i32_52
  let c0_i32_53 : BitVec 32 := 0#32
  let v91 : BitVec 32 := Scalar.addi v90 c0_i32_53
  let c16_i32_54 : BitVec 32 := 16#32
  let v92 : BitVec 32 := Scalar.muli v91 c16_i32_54
  let v93 : Index := Scalar.indexCast v92
  ![v93.toNat]

def k0_chk22 (v105 : IVec S16 32) (v112 : IVec S16 32) : Prop :=
  (∀ a x, ((![v105, v112] : Fin 2 → IVec S16 32) a x).toNat < S256x128.size a) ∧
  (∀ a x, ((![v105, v112] : Fin 2 → IVec S16 32) a x).toNat < S256x128.size a)
theorem k0_idx30_inb : ∀ (v105 : IVec S16 32) (v112 : IVec S16 32) (k0_hw22 : k0_chk22 v105 v112), ∀ a x, ((![v105, v112] : Fin 2 → IVec S16 32) a x).toNat < S256x128.size a := fun v105 v112 k0_hw22 => k0_hw22.1
theorem k0_idx31_inb : ∀ (v105 : IVec S16 32) (v112 : IVec S16 32) (k0_hw22 : k0_chk22 v105 v112), ∀ a x, ((![v105, v112] : Fin 2 → IVec S16 32) a x).toNat < S256x128.size a := fun v105 v112 k0_hw22 => k0_hw22.2

def k0_chk21 (v105 : IVec S16 32) : Prop :=
  (∀ a x, ((![v105] : Fin 1 → IVec S16 32) a x).toNat < S256.size a) ∧
  (∀ a x, ((![v105] : Fin 1 → IVec S16 32) a x).toNat < S256.size a)
theorem k0_idx29_inb : ∀ (v105 : IVec S16 32) (k0_hw21 : k0_chk21 v105), ∀ a x, ((![v105] : Fin 1 → IVec S16 32) a x).toNat < S256.size a := fun v105 k0_hw21 => k0_hw21.1
theorem k0_idx32_inb : ∀ (v105 : IVec S16 32) (k0_hw21 : k0_chk21 v105), ∀ a x, ((![v105] : Fin 1 → IVec S16 32) a x).toNat < S256.size a := fun v105 k0_hw21 => k0_hw21.2
def k0_off22 (k0_t11 : Fin k0_t11_loop.trips) : Fin 1 → Nat :=
  let c0_i32_22 : BitVec 32 := 0#32
  let c1_i32_24 : BitVec 32 := 1#32
  let arg17 : BitVec 32 := Scf.iv c0_i32_22 c1_i32_24 k0_t11
  let c2_i32_63 : BitVec 32 := 2#32
  let v124 : BitVec 32 := Scalar.muli arg17 c2_i32_63
  let c1_i32_64 : BitVec 32 := 1#32
  let v125 : BitVec 32 := Scalar.addi v124 c1_i32_64
  let c16_i32_65 : BitVec 32 := 16#32
  let v126 : BitVec 32 := Scalar.muli v125 c16_i32_65
  let v127 : Index := Scalar.indexCast v126
  ![v127.toNat]

def k0_chk24 (v139 : IVec S16 32) (v146 : IVec S16 32) : Prop :=
  (∀ a x, ((![v139, v146] : Fin 2 → IVec S16 32) a x).toNat < S256x128.size a) ∧
  (∀ a x, ((![v139, v146] : Fin 2 → IVec S16 32) a x).toNat < S256x128.size a)
theorem k0_idx34_inb : ∀ (v139 : IVec S16 32) (v146 : IVec S16 32) (k0_hw24 : k0_chk24 v139 v146), ∀ a x, ((![v139, v146] : Fin 2 → IVec S16 32) a x).toNat < S256x128.size a := fun v139 v146 k0_hw24 => k0_hw24.1
theorem k0_idx35_inb : ∀ (v139 : IVec S16 32) (v146 : IVec S16 32) (k0_hw24 : k0_chk24 v139 v146), ∀ a x, ((![v139, v146] : Fin 2 → IVec S16 32) a x).toNat < S256x128.size a := fun v139 v146 k0_hw24 => k0_hw24.2

def k0_chk23 (v139 : IVec S16 32) : Prop :=
  (∀ a x, ((![v139] : Fin 1 → IVec S16 32) a x).toNat < S256.size a) ∧
  (∀ a x, ((![v139] : Fin 1 → IVec S16 32) a x).toNat < S256.size a)
theorem k0_idx33_inb : ∀ (v139 : IVec S16 32) (k0_hw23 : k0_chk23 v139), ∀ a x, ((![v139] : Fin 1 → IVec S16 32) a x).toNat < S256.size a := fun v139 k0_hw23 => k0_hw23.1
theorem k0_idx36_inb : ∀ (v139 : IVec S16 32) (k0_hw23 : k0_chk23 v139), ∀ a x, ((![v139] : Fin 1 → IVec S16 32) a x).toNat < S256.size a := fun v139 k0_hw23 => k0_hw23.2
@[reducible] def k0_t14_loop : Scf.Loop 32 :=
  let c0_i32_26 : BitVec 32 := 0#32
  let c256_i32_27 : BitVec 32 := 256#32
  let v65 : BitVec 32 := Scalar.addi c0_i32_26 c256_i32_27
  let c1_i32_28 : BitVec 32 := 1#32
  ⟨c0_i32_26, v65, c1_i32_28⟩
@[reducible] def k0_t15_loop : Scf.Loop 32 :=
  let c0_i32_83 : BitVec 32 := 0#32
  let c16_i32_84 : BitVec 32 := 16#32
  let v160 : BitVec 32 := Scalar.addi c0_i32_83 c16_i32_84
  let c1_i32_85 : BitVec 32 := 1#32
  ⟨c0_i32_83, v160, c1_i32_85⟩
def k0_off23 (k0_t15 : Fin k0_t15_loop.trips) : Fin 1 → Nat :=
  let c0_i32_83 : BitVec 32 := 0#32
  let c1_i32_85 : BitVec 32 := 1#32
  let arg20 : BitVec 32 := Scf.iv c0_i32_83 c1_i32_85 k0_t15
  let c16_i32_104 : BitVec 32 := 16#32
  let v174 : BitVec 32 := Scalar.muli arg20 c16_i32_104
  let v175 : Index := Scalar.indexCast v174
  ![v175.toNat]
def k0_cond5 (arg19 : BitVec 32) : BitVec 1 :=
  let c95_i32 : BitVec 32 := 95#32
  let v86 : BitVec 1 := Scalar.cmpi .sge arg19 c95_i32
  let v87 : BitVec 32 := Scalar.extui v86
  let c0_i32_51 : BitVec 32 := 0#32
  let v88 : BitVec 1 := Scalar.cmpi .ne v87 c0_i32_51
  v88

def k0_chk25 (arg19 : BitVec 32) (v179 : IVec S16 32) (v181 : IVec S16 32) : Prop :=
  (∀ (k0_h5 : k0_cond5 arg19 = 1#1), ∀ a x, ((![v179, v181] : Fin 2 → IVec S16 32) a x).toNat < S256x128.size a)
theorem k0_idx37_inb : ∀ (arg19 : BitVec 32) (v179 : IVec S16 32) (v181 : IVec S16 32) (k0_hw25 : k0_chk25 arg19 v179 v181), ∀ (k0_h5 : k0_cond5 arg19 = 1#1), ∀ a x, ((![v179, v181] : Fin 2 → IVec S16 32) a x).toNat < S256x128.size a := fun arg19 v179 v181 k0_hw25 k0_h5 => k0_hw25 k0_h5
def k0_off24 (i : grid0.Coords) (arg18 : BitVec 32) : Fin 2 → Nat :=
  let c0_i32_89 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_87 : BitVec 32 := 3#32
  let v161 : BitVec 32 := Scalar.muli v1 c3_i32_87
  let c2_i32_81 : BitVec 32 := 2#32
  let v159 : BitVec 32 := Scalar.minsi arg18 c2_i32_81
  let v162 : BitVec 32 := Scalar.addi v161 v159
  let c128_i32_88 : BitVec 32 := 128#32
  let v163 : BitVec 32 := Scalar.muli v162 c128_i32_88
  ![0, v163.toNat]

def k0_chk26 (i : grid0.Coords) (arg18 : BitVec 32) (arg19 : BitVec 32) : Prop :=
  (∀ (k0_h5 : k0_cond5 arg19 = 1#1), ∀ a, (k0_off24 i arg18) a + S256x128.size a ≤ S256x12288.size a)
theorem k0_off24_inb : ∀ (i : grid0.Coords) (arg18 : BitVec 32) (arg19 : BitVec 32) (k0_hw26 : k0_chk26 i arg18 arg19), ∀ (k0_h5 : k0_cond5 arg19 = 1#1), ∀ a, (k0_off24 i arg18) a + S256x128.size a ≤ S256x12288.size a := fun i arg18 arg19 k0_hw26 k0_h5 => k0_hw26 k0_h5

@[reducible] def k0_t16_loop : Scf.Loop 32 :=
  let c0_i32_98 : BitVec 32 := 0#32
  let c16_i32_99 : BitVec 32 := 16#32
  let v172 : BitVec 32 := Scalar.addi c0_i32_98 c16_i32_99
  let c1_i32_100 : BitVec 32 := 1#32
  ⟨c0_i32_98, v172, c1_i32_100⟩
def k0_off25 (k0_t16 : Fin k0_t16_loop.trips) : Fin 1 → Nat :=
  let c0_i32_98 : BitVec 32 := 0#32
  let c1_i32_100 : BitVec 32 := 1#32
  let arg20 : BitVec 32 := Scf.iv c0_i32_98 c1_i32_100 k0_t16
  let c16_i32_105 : BitVec 32 := 16#32
  let v175 : BitVec 32 := Scalar.muli arg20 c16_i32_105
  let v176 : Index := Scalar.indexCast v175
  ![v176.toNat]
def k0_off26 (k0_t14 : Fin k0_t14_loop.trips) : Fin 1 → Nat :=
  let c0_i32_26 : BitVec 32 := 0#32
  let c1_i32_28 : BitVec 32 := 1#32
  let arg17 : BitVec 32 := Scf.iv c0_i32_26 c1_i32_28 k0_t14
  let c2_i32_52 : BitVec 32 := 2#32
  let v90 : BitVec 32 := Scalar.muli arg17 c2_i32_52
  let c0_i32_53 : BitVec 32 := 0#32
  let v91 : BitVec 32 := Scalar.addi v90 c0_i32_53
  let c16_i32_54 : BitVec 32 := 16#32
  let v92 : BitVec 32 := Scalar.muli v91 c16_i32_54
  let v93 : Index := Scalar.indexCast v92
  ![v93.toNat]

def k0_chk28 (v105 : IVec S16 32) (v112 : IVec S16 32) : Prop :=
  (∀ a x, ((![v105, v112] : Fin 2 → IVec S16 32) a x).toNat < S256x128.size a) ∧
  (∀ a x, ((![v105, v112] : Fin 2 → IVec S16 32) a x).toNat < S256x128.size a)
theorem k0_idx39_inb : ∀ (v105 : IVec S16 32) (v112 : IVec S16 32) (k0_hw28 : k0_chk28 v105 v112), ∀ a x, ((![v105, v112] : Fin 2 → IVec S16 32) a x).toNat < S256x128.size a := fun v105 v112 k0_hw28 => k0_hw28.1
theorem k0_idx40_inb : ∀ (v105 : IVec S16 32) (v112 : IVec S16 32) (k0_hw28 : k0_chk28 v105 v112), ∀ a x, ((![v105, v112] : Fin 2 → IVec S16 32) a x).toNat < S256x128.size a := fun v105 v112 k0_hw28 => k0_hw28.2

def k0_chk27 (v105 : IVec S16 32) : Prop :=
  (∀ a x, ((![v105] : Fin 1 → IVec S16 32) a x).toNat < S256.size a) ∧
  (∀ a x, ((![v105] : Fin 1 → IVec S16 32) a x).toNat < S256.size a)
theorem k0_idx38_inb : ∀ (v105 : IVec S16 32) (k0_hw27 : k0_chk27 v105), ∀ a x, ((![v105] : Fin 1 → IVec S16 32) a x).toNat < S256.size a := fun v105 k0_hw27 => k0_hw27.1
theorem k0_idx41_inb : ∀ (v105 : IVec S16 32) (k0_hw27 : k0_chk27 v105), ∀ a x, ((![v105] : Fin 1 → IVec S16 32) a x).toNat < S256.size a := fun v105 k0_hw27 => k0_hw27.2
def k0_off27 (k0_t14 : Fin k0_t14_loop.trips) : Fin 1 → Nat :=
  let c0_i32_26 : BitVec 32 := 0#32
  let c1_i32_28 : BitVec 32 := 1#32
  let arg17 : BitVec 32 := Scf.iv c0_i32_26 c1_i32_28 k0_t14
  let c2_i32_63 : BitVec 32 := 2#32
  let v124 : BitVec 32 := Scalar.muli arg17 c2_i32_63
  let c1_i32_64 : BitVec 32 := 1#32
  let v125 : BitVec 32 := Scalar.addi v124 c1_i32_64
  let c16_i32_65 : BitVec 32 := 16#32
  let v126 : BitVec 32 := Scalar.muli v125 c16_i32_65
  let v127 : Index := Scalar.indexCast v126
  ![v127.toNat]

def k0_chk30 (v139 : IVec S16 32) (v146 : IVec S16 32) : Prop :=
  (∀ a x, ((![v139, v146] : Fin 2 → IVec S16 32) a x).toNat < S256x128.size a) ∧
  (∀ a x, ((![v139, v146] : Fin 2 → IVec S16 32) a x).toNat < S256x128.size a)
theorem k0_idx43_inb : ∀ (v139 : IVec S16 32) (v146 : IVec S16 32) (k0_hw30 : k0_chk30 v139 v146), ∀ a x, ((![v139, v146] : Fin 2 → IVec S16 32) a x).toNat < S256x128.size a := fun v139 v146 k0_hw30 => k0_hw30.1
theorem k0_idx44_inb : ∀ (v139 : IVec S16 32) (v146 : IVec S16 32) (k0_hw30 : k0_chk30 v139 v146), ∀ a x, ((![v139, v146] : Fin 2 → IVec S16 32) a x).toNat < S256x128.size a := fun v139 v146 k0_hw30 => k0_hw30.2

def k0_chk29 (v139 : IVec S16 32) : Prop :=
  (∀ a x, ((![v139] : Fin 1 → IVec S16 32) a x).toNat < S256.size a) ∧
  (∀ a x, ((![v139] : Fin 1 → IVec S16 32) a x).toNat < S256.size a)
theorem k0_idx42_inb : ∀ (v139 : IVec S16 32) (k0_hw29 : k0_chk29 v139), ∀ a x, ((![v139] : Fin 1 → IVec S16 32) a x).toNat < S256.size a := fun v139 k0_hw29 => k0_hw29.1
theorem k0_idx45_inb : ∀ (v139 : IVec S16 32) (k0_hw29 : k0_chk29 v139), ∀ a x, ((![v139] : Fin 1 → IVec S16 32) a x).toNat < S256.size a := fun v139 k0_hw29 => k0_hw29.2
@[reducible] def k0_t17_loop : Scf.Loop 32 :=
  let c0_i32_32 : BitVec 32 := 0#32
  let c16_i32_33 : BitVec 32 := 16#32
  let v68 : BitVec 32 := Scalar.addi c0_i32_32 c16_i32_33
  let c1_i32_34 : BitVec 32 := 1#32
  ⟨c0_i32_32, v68, c1_i32_34⟩
def k0_off28 (k0_t17 : Fin k0_t17_loop.trips) : Fin 1 → Nat :=
  let c0_i32_32 : BitVec 32 := 0#32
  let c1_i32_34 : BitVec 32 := 1#32
  let arg17 : BitVec 32 := Scf.iv c0_i32_32 c1_i32_34 k0_t17
  let c16_i32_51 : BitVec 32 := 16#32
  let v86 : BitVec 32 := Scalar.muli arg17 c16_i32_51
  let v87 : Index := Scalar.indexCast v86
  ![v87.toNat]

def k0_chk31 (v91 : IVec S16 32) (v93 : IVec S16 32) : Prop :=
  (∀ a x, ((![v91, v93] : Fin 2 → IVec S16 32) a x).toNat < S256x128.size a)
theorem k0_idx46_inb : ∀ (v91 : IVec S16 32) (v93 : IVec S16 32) (k0_hw31 : k0_chk31 v91 v93), ∀ a x, ((![v91, v93] : Fin 2 → IVec S16 32) a x).toNat < S256x128.size a := fun v91 v93 k0_hw31 => k0_hw31
def k0_off29 (i : grid0.Coords) (v66_0 : BitVec 32) : Fin 2 → Nat :=
  let c0_i32_36 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v69 : BitVec 32 := Scalar.muli v1 c3_i32
  let c2_i32_30 : BitVec 32 := 2#32
  let v67 : BitVec 32 := Scalar.minsi v66_0 c2_i32_30
  let v70 : BitVec 32 := Scalar.addi v69 v67
  let c128_i32 : BitVec 32 := 128#32
  let v71 : BitVec 32 := Scalar.muli v70 c128_i32
  ![0, v71.toNat]

def k0_chk32 (i : grid0.Coords) (v66_0 : BitVec 32) : Prop :=
  (∀ a, (k0_off29 i v66_0) a + S256x128.size a ≤ S256x12288.size a)
theorem k0_off29_inb : ∀ (i : grid0.Coords) (v66_0 : BitVec 32) (k0_hw32 : k0_chk32 i v66_0), ∀ a, (k0_off29 i v66_0) a + S256x128.size a ≤ S256x12288.size a := fun i v66_0 k0_hw32 => k0_hw32

@[reducible] def k0_t18_loop : Scf.Loop 32 :=
  let c0_i32_45 : BitVec 32 := 0#32
  let c16_i32_46 : BitVec 32 := 16#32
  let v80 : BitVec 32 := Scalar.addi c0_i32_45 c16_i32_46
  let c1_i32_47 : BitVec 32 := 1#32
  ⟨c0_i32_45, v80, c1_i32_47⟩
def k0_off30 (k0_t18 : Fin k0_t18_loop.trips) : Fin 1 → Nat :=
  let c0_i32_45 : BitVec 32 := 0#32
  let c1_i32_47 : BitVec 32 := 1#32
  let arg17 : BitVec 32 := Scf.iv c0_i32_45 c1_i32_47 k0_t18
  let c16_i32_52 : BitVec 32 := 16#32
  let v87 : BitVec 32 := Scalar.muli arg17 c16_i32_52
  let v88 : Index := Scalar.indexCast v87
  ![v88.toNat]
def k0_off31 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_50 : BitVec 32 := 16#32
  let v85 : BitVec 32 := Scalar.muli v1 c16_i32_50
  ![v85.toNat]
abbrev grid1 : Pipeline.Grid := ⟨2, ![2, 16], ![false, false]⟩

def k1_off1 (i : grid1.Coords) (c0_i32_0 : BitVec 32) (c0_i32_1 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v6 : BitVec 32 := Scalar.muli v1 c8_i32
  let v7 : BitVec 32 := Scalar.addi v6 c0_i32_0
  let c12288_i32 : BitVec 32 := 12288#32
  let v8 : BitVec 32 := Scalar.muli v7 c12288_i32
  let v9 : BitVec 32 := Scalar.addi v8 c0_i32_1
  ![v9.toNat]
@[reducible] def k1_t1_loop : Scf.Loop 32 :=
  let c0_i32_5 : BitVec 32 := 0#32
  let c800_i32 : BitVec 32 := 800#32
  let v17 : BitVec 32 := Scalar.addi c0_i32_5 c800_i32
  let c1_i32 : BitVec 32 := 1#32
  ⟨c0_i32_5, v17, c1_i32⟩
def k1_off2 (k1_t1 : Fin k1_t1_loop.trips) : Fin 1 → Nat :=
  let c0_i32_5 : BitVec 32 := 0#32
  let c1_i32 : BitVec 32 := 1#32
  let arg17 : BitVec 32 := Scf.iv c0_i32_5 c1_i32 k1_t1
  let c64_i32 : BitVec 32 := 64#32
  let v286 : BitVec 32 := Scalar.muli arg17 c64_i32
  let v287 : Index := Scalar.indexCast v286
  ![v287.toNat]
def k1_off3 (k1_t1 : Fin k1_t1_loop.trips) (c16_i32_269 : BitVec 32) : Fin 1 → Nat :=
  let c0_i32_5 : BitVec 32 := 0#32
  let c1_i32 : BitVec 32 := 1#32
  let arg17 : BitVec 32 := Scf.iv c0_i32_5 c1_i32 k1_t1
  let c64_i32_268 : BitVec 32 := 64#32
  let v289 : BitVec 32 := Scalar.muli arg17 c64_i32_268
  let v290 : BitVec 32 := Scalar.addi v289 c16_i32_269
  let v291 : Index := Scalar.indexCast v290
  ![v291.toNat]
@[reducible] def k1_t2_loop : Scf.Loop 32 :=
  let c0_i32_15 : BitVec 32 := 0#32
  let c16_i32 : BitVec 32 := 16#32
  let v30 : BitVec 32 := Scalar.addi c0_i32_15 c16_i32
  let c1_i32_16 : BitVec 32 := 1#32
  ⟨c0_i32_15, v30, c1_i32_16⟩

def k1_chk1 (v289 : IVec S16 32) : Prop :=
  (∀ a x, ((![v289] : Fin 1 → IVec S16 32) a x).toNat < S512.size a)
theorem k1_idx1_inb : ∀ (v289 : IVec S16 32) (k1_hw1 : k1_chk1 v289), ∀ a x, ((![v289] : Fin 1 → IVec S16 32) a x).toNat < S512.size a := fun v289 k1_hw1 => k1_hw1
@[reducible] def k1_t3_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_272 : BitVec 32 := 1#32
  ⟨c0_i32_270, v301, c1_i32_272⟩

def k1_chk3 (v308 : IVec S16 32) : Prop :=
  (∀ a x, ((![v308] : Fin 1 → IVec S16 32) a x).toNat < S6144.size a)
theorem k1_idx2_inb : ∀ (v308 : IVec S16 32) (k1_hw3 : k1_chk3 v308), ∀ a x, ((![v308] : Fin 1 → IVec S16 32) a x).toNat < S6144.size a := fun v308 k1_hw3 => k1_hw3
@[reducible] def k1_t4_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off4 (k1_t2 : Fin k1_t2_loop.trips) (v296 : BitVec 32) (k1_t3 : Fin (k1_t3_loop v296).trips) (v315 : BitVec 32) (k1_t4 : Fin (k1_t4_loop v315).trips) : Fin 1 → Nat :=
  let c0_i32_15 : BitVec 32 := 0#32
  let c1_i32_16 : BitVec 32 := 1#32
  let arg17 : BitVec 32 := Scf.iv c0_i32_15 c1_i32_16 k1_t2
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t3
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t4
  let c16_i32_282 : BitVec 32 := 16#32
  let v323 : BitVec 32 := Scalar.muli arg19 c16_i32_282
  let v324 : BitVec 32 := Scalar.addi v304 v323
  let v325 : Index := Scalar.indexCast v324
  ![v325.toNat]

def k1_chk5 (v339 : IVec S16 32) : Prop :=
  (∀ a x, ((![v339] : Fin 1 → IVec S16 32) a x).toNat < S51200.size a)
theorem k1_idx3_inb : ∀ (v339 : IVec S16 32) (k1_hw5 : k1_chk5 v339), ∀ a x, ((![v339] : Fin 1 → IVec S16 32) a x).toNat < S51200.size a := fun v339 k1_hw5 => k1_hw5
@[reducible] def k1_t5_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off5 (k1_t2 : Fin k1_t2_loop.trips) (v296 : BitVec 32) (k1_t3 : Fin (k1_t3_loop v296).trips) (v315 : BitVec 32) (k1_t5 : Fin (k1_t5_loop v315).trips) : Fin 1 → Nat :=
  let c0_i32_15 : BitVec 32 := 0#32
  let c1_i32_16 : BitVec 32 := 1#32
  let arg17 : BitVec 32 := Scf.iv c0_i32_15 c1_i32_16 k1_t2
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t3
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t5
  let c16_i32_282 : BitVec 32 := 16#32
  let v323 : BitVec 32 := Scalar.muli arg19 c16_i32_282
  let v324 : BitVec 32 := Scalar.addi v304 v323
  let v325 : Index := Scalar.indexCast v324
  ![v325.toNat]

def k1_chk4 (k1_t2 : Fin k1_t2_loop.trips) (v296 : BitVec 32) (k1_t3 : Fin (k1_t3_loop v296).trips) (v315 : BitVec 32) : Prop :=
  ((k1_t4_loop v315).OK) ∧
  (∀ k1_t4 : Fin (k1_t4_loop v315).trips, ∀ a, (k1_off4 k1_t2 v296 k1_t3 v315 k1_t4) a + S16.size a ≤ S6144.size a) ∧
  ((k1_t5_loop v315).OK) ∧
  (∀ k1_t5 : Fin (k1_t5_loop v315).trips, ∀ a, (k1_off5 k1_t2 v296 k1_t3 v315 k1_t5) a + S16.size a ≤ S6144.size a)
theorem k1_t4_ok : ∀ (k1_t2 : Fin k1_t2_loop.trips) (v296 : BitVec 32) (k1_t3 : Fin (k1_t3_loop v296).trips) (v315 : BitVec 32) (k1_hw4 : k1_chk4 k1_t2 v296 k1_t3 v315), (k1_t4_loop v315).OK := fun k1_t2 v296 k1_t3 v315 k1_hw4 => k1_hw4.1
theorem k1_off4_inb : ∀ (k1_t2 : Fin k1_t2_loop.trips) (v296 : BitVec 32) (k1_t3 : Fin (k1_t3_loop v296).trips) (v315 : BitVec 32) (k1_hw4 : k1_chk4 k1_t2 v296 k1_t3 v315) (k1_t4 : Fin (k1_t4_loop v315).trips), ∀ a, (k1_off4 k1_t2 v296 k1_t3 v315 k1_t4) a + S16.size a ≤ S6144.size a := fun k1_t2 v296 k1_t3 v315 k1_hw4 k1_t4 => k1_hw4.2.1 k1_t4
theorem k1_t5_ok : ∀ (k1_t2 : Fin k1_t2_loop.trips) (v296 : BitVec 32) (k1_t3 : Fin (k1_t3_loop v296).trips) (v315 : BitVec 32) (k1_hw4 : k1_chk4 k1_t2 v296 k1_t3 v315), (k1_t5_loop v315).OK := fun k1_t2 v296 k1_t3 v315 k1_hw4 => k1_hw4.2.2.1
theorem k1_off5_inb : ∀ (k1_t2 : Fin k1_t2_loop.trips) (v296 : BitVec 32) (k1_t3 : Fin (k1_t3_loop v296).trips) (v315 : BitVec 32) (k1_hw4 : k1_chk4 k1_t2 v296 k1_t3 v315) (k1_t5 : Fin (k1_t5_loop v315).trips), ∀ a, (k1_off5 k1_t2 v296 k1_t3 v315 k1_t5) a + S16.size a ≤ S6144.size a := fun k1_t2 v296 k1_t3 v315 k1_hw4 k1_t5 => k1_hw4.2.2.2 k1_t5

def k1_chk6 (v339 : IVec S16 32) : Prop :=
  (∀ a x, ((![v339] : Fin 1 → IVec S16 32) a x).toNat < S51200.size a)
theorem k1_idx4_inb : ∀ (v339 : IVec S16 32) (k1_hw6 : k1_chk6 v339), ∀ a x, ((![v339] : Fin 1 → IVec S16 32) a x).toNat < S51200.size a := fun v339 k1_hw6 => k1_hw6
@[reducible] def k1_t6_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let v298 : BitVec 32 := Scalar.addi c0_i32_270 v297
  let c1_i32_273 : BitVec 32 := 1#32
  ⟨v301, v298, c1_i32_273⟩

def k1_chk2 (v296 : BitVec 32) : Prop :=
  ((k1_t3_loop v296).OK) ∧
  ((k1_t6_loop v296).OK)
theorem k1_t3_ok : ∀ (v296 : BitVec 32) (k1_hw2 : k1_chk2 v296), (k1_t3_loop v296).OK := fun v296 k1_hw2 => k1_hw2.1
theorem k1_t6_ok : ∀ (v296 : BitVec 32) (k1_hw2 : k1_chk2 v296), (k1_t6_loop v296).OK := fun v296 k1_hw2 => k1_hw2.2

def k1_chk7 (v308 : IVec S16 32) : Prop :=
  (∀ a x, ((![v308] : Fin 1 → IVec S16 32) a x).toNat < S6144.size a)
theorem k1_idx5_inb : ∀ (v308 : IVec S16 32) (k1_hw7 : k1_chk7 v308), ∀ a x, ((![v308] : Fin 1 → IVec S16 32) a x).toNat < S6144.size a := fun v308 k1_hw7 => k1_hw7
@[reducible] def k1_t7_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off6 (k1_t2 : Fin k1_t2_loop.trips) (v296 : BitVec 32) (k1_t6 : Fin (k1_t6_loop v296).trips) (v315 : BitVec 32) (k1_t7 : Fin (k1_t7_loop v315).trips) : Fin 1 → Nat :=
  let c0_i32_15 : BitVec 32 := 0#32
  let c1_i32_16 : BitVec 32 := 1#32
  let arg17 : BitVec 32 := Scf.iv c0_i32_15 c1_i32_16 k1_t2
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t6
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t7
  let c16_i32_282 : BitVec 32 := 16#32
  let v323 : BitVec 32 := Scalar.muli arg19 c16_i32_282
  let v324 : BitVec 32 := Scalar.addi v304 v323
  let v325 : Index := Scalar.indexCast v324
  ![v325.toNat]

def k1_chk9 (v339 : IVec S16 32) : Prop :=
  (∀ a x, ((![v339] : Fin 1 → IVec S16 32) a x).toNat < S51200.size a)
theorem k1_idx6_inb : ∀ (v339 : IVec S16 32) (k1_hw9 : k1_chk9 v339), ∀ a x, ((![v339] : Fin 1 → IVec S16 32) a x).toNat < S51200.size a := fun v339 k1_hw9 => k1_hw9
@[reducible] def k1_t8_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off7 (k1_t2 : Fin k1_t2_loop.trips) (v296 : BitVec 32) (k1_t6 : Fin (k1_t6_loop v296).trips) (v315 : BitVec 32) (k1_t8 : Fin (k1_t8_loop v315).trips) : Fin 1 → Nat :=
  let c0_i32_15 : BitVec 32 := 0#32
  let c1_i32_16 : BitVec 32 := 1#32
  let arg17 : BitVec 32 := Scf.iv c0_i32_15 c1_i32_16 k1_t2
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t6
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t8
  let c16_i32_282 : BitVec 32 := 16#32
  let v323 : BitVec 32 := Scalar.muli arg19 c16_i32_282
  let v324 : BitVec 32 := Scalar.addi v304 v323
  let v325 : Index := Scalar.indexCast v324
  ![v325.toNat]

def k1_chk8 (k1_t2 : Fin k1_t2_loop.trips) (v296 : BitVec 32) (k1_t6 : Fin (k1_t6_loop v296).trips) (v315 : BitVec 32) : Prop :=
  ((k1_t7_loop v315).OK) ∧
  (∀ k1_t7 : Fin (k1_t7_loop v315).trips, ∀ a, (k1_off6 k1_t2 v296 k1_t6 v315 k1_t7) a + S16.size a ≤ S6144.size a) ∧
  ((k1_t8_loop v315).OK) ∧
  (∀ k1_t8 : Fin (k1_t8_loop v315).trips, ∀ a, (k1_off7 k1_t2 v296 k1_t6 v315 k1_t8) a + S16.size a ≤ S6144.size a)
theorem k1_t7_ok : ∀ (k1_t2 : Fin k1_t2_loop.trips) (v296 : BitVec 32) (k1_t6 : Fin (k1_t6_loop v296).trips) (v315 : BitVec 32) (k1_hw8 : k1_chk8 k1_t2 v296 k1_t6 v315), (k1_t7_loop v315).OK := fun k1_t2 v296 k1_t6 v315 k1_hw8 => k1_hw8.1
theorem k1_off6_inb : ∀ (k1_t2 : Fin k1_t2_loop.trips) (v296 : BitVec 32) (k1_t6 : Fin (k1_t6_loop v296).trips) (v315 : BitVec 32) (k1_hw8 : k1_chk8 k1_t2 v296 k1_t6 v315) (k1_t7 : Fin (k1_t7_loop v315).trips), ∀ a, (k1_off6 k1_t2 v296 k1_t6 v315 k1_t7) a + S16.size a ≤ S6144.size a := fun k1_t2 v296 k1_t6 v315 k1_hw8 k1_t7 => k1_hw8.2.1 k1_t7
theorem k1_t8_ok : ∀ (k1_t2 : Fin k1_t2_loop.trips) (v296 : BitVec 32) (k1_t6 : Fin (k1_t6_loop v296).trips) (v315 : BitVec 32) (k1_hw8 : k1_chk8 k1_t2 v296 k1_t6 v315), (k1_t8_loop v315).OK := fun k1_t2 v296 k1_t6 v315 k1_hw8 => k1_hw8.2.2.1
theorem k1_off7_inb : ∀ (k1_t2 : Fin k1_t2_loop.trips) (v296 : BitVec 32) (k1_t6 : Fin (k1_t6_loop v296).trips) (v315 : BitVec 32) (k1_hw8 : k1_chk8 k1_t2 v296 k1_t6 v315) (k1_t8 : Fin (k1_t8_loop v315).trips), ∀ a, (k1_off7 k1_t2 v296 k1_t6 v315 k1_t8) a + S16.size a ≤ S6144.size a := fun k1_t2 v296 k1_t6 v315 k1_hw8 k1_t8 => k1_hw8.2.2.2 k1_t8

def k1_chk10 (v339 : IVec S16 32) : Prop :=
  (∀ a x, ((![v339] : Fin 1 → IVec S16 32) a x).toNat < S51200.size a)
theorem k1_idx7_inb : ∀ (v339 : IVec S16 32) (k1_hw10 : k1_chk10 v339), ∀ a x, ((![v339] : Fin 1 → IVec S16 32) a x).toNat < S51200.size a := fun v339 k1_hw10 => k1_hw10
@[reducible] def k1_t9_loop : Scf.Loop 32 :=
  let c0_i32_27 : BitVec 32 := 0#32
  let c16_i32_28 : BitVec 32 := 16#32
  let v43 : BitVec 32 := Scalar.addi c0_i32_27 c16_i32_28
  let c1_i32_29 : BitVec 32 := 1#32
  ⟨c0_i32_27, v43, c1_i32_29⟩

def k1_chk11 (v289 : IVec S16 32) : Prop :=
  (∀ a x, ((![v289] : Fin 1 → IVec S16 32) a x).toNat < S512.size a)
theorem k1_idx8_inb : ∀ (v289 : IVec S16 32) (k1_hw11 : k1_chk11 v289), ∀ a x, ((![v289] : Fin 1 → IVec S16 32) a x).toNat < S512.size a := fun v289 k1_hw11 => k1_hw11
@[reducible] def k1_t10_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_272 : BitVec 32 := 1#32
  ⟨c0_i32_270, v301, c1_i32_272⟩

def k1_chk13 (v308 : IVec S16 32) : Prop :=
  (∀ a x, ((![v308] : Fin 1 → IVec S16 32) a x).toNat < S6144.size a)
theorem k1_idx9_inb : ∀ (v308 : IVec S16 32) (k1_hw13 : k1_chk13 v308), ∀ a x, ((![v308] : Fin 1 → IVec S16 32) a x).toNat < S6144.size a := fun v308 k1_hw13 => k1_hw13
@[reducible] def k1_t11_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off8 (k1_t9 : Fin k1_t9_loop.trips) (v296 : BitVec 32) (k1_t10 : Fin (k1_t10_loop v296).trips) (v315 : BitVec 32) (k1_t11 : Fin (k1_t11_loop v315).trips) : Fin 1 → Nat :=
  let c0_i32_27 : BitVec 32 := 0#32
  let c1_i32_29 : BitVec 32 := 1#32
  let arg17 : BitVec 32 := Scf.iv c0_i32_27 c1_i32_29 k1_t9
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t10
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t11
  let c16_i32_282 : BitVec 32 := 16#32
  let v323 : BitVec 32 := Scalar.muli arg19 c16_i32_282
  let v324 : BitVec 32 := Scalar.addi v304 v323
  let v325 : Index := Scalar.indexCast v324
  ![v325.toNat]

def k1_chk15 (v339 : IVec S16 32) : Prop :=
  (∀ a x, ((![v339] : Fin 1 → IVec S16 32) a x).toNat < S51200.size a)
theorem k1_idx10_inb : ∀ (v339 : IVec S16 32) (k1_hw15 : k1_chk15 v339), ∀ a x, ((![v339] : Fin 1 → IVec S16 32) a x).toNat < S51200.size a := fun v339 k1_hw15 => k1_hw15
@[reducible] def k1_t12_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off9 (k1_t9 : Fin k1_t9_loop.trips) (v296 : BitVec 32) (k1_t10 : Fin (k1_t10_loop v296).trips) (v315 : BitVec 32) (k1_t12 : Fin (k1_t12_loop v315).trips) : Fin 1 → Nat :=
  let c0_i32_27 : BitVec 32 := 0#32
  let c1_i32_29 : BitVec 32 := 1#32
  let arg17 : BitVec 32 := Scf.iv c0_i32_27 c1_i32_29 k1_t9
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t10
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t12
  let c16_i32_282 : BitVec 32 := 16#32
  let v323 : BitVec 32 := Scalar.muli arg19 c16_i32_282
  let v324 : BitVec 32 := Scalar.addi v304 v323
  let v325 : Index := Scalar.indexCast v324
  ![v325.toNat]

def k1_chk14 (k1_t9 : Fin k1_t9_loop.trips) (v296 : BitVec 32) (k1_t10 : Fin (k1_t10_loop v296).trips) (v315 : BitVec 32) : Prop :=
  ((k1_t11_loop v315).OK) ∧
  (∀ k1_t11 : Fin (k1_t11_loop v315).trips, ∀ a, (k1_off8 k1_t9 v296 k1_t10 v315 k1_t11) a + S16.size a ≤ S6144.size a) ∧
  ((k1_t12_loop v315).OK) ∧
  (∀ k1_t12 : Fin (k1_t12_loop v315).trips, ∀ a, (k1_off9 k1_t9 v296 k1_t10 v315 k1_t12) a + S16.size a ≤ S6144.size a)
theorem k1_t11_ok : ∀ (k1_t9 : Fin k1_t9_loop.trips) (v296 : BitVec 32) (k1_t10 : Fin (k1_t10_loop v296).trips) (v315 : BitVec 32) (k1_hw14 : k1_chk14 k1_t9 v296 k1_t10 v315), (k1_t11_loop v315).OK := fun k1_t9 v296 k1_t10 v315 k1_hw14 => k1_hw14.1
theorem k1_off8_inb : ∀ (k1_t9 : Fin k1_t9_loop.trips) (v296 : BitVec 32) (k1_t10 : Fin (k1_t10_loop v296).trips) (v315 : BitVec 32) (k1_hw14 : k1_chk14 k1_t9 v296 k1_t10 v315) (k1_t11 : Fin (k1_t11_loop v315).trips), ∀ a, (k1_off8 k1_t9 v296 k1_t10 v315 k1_t11) a + S16.size a ≤ S6144.size a := fun k1_t9 v296 k1_t10 v315 k1_hw14 k1_t11 => k1_hw14.2.1 k1_t11
theorem k1_t12_ok : ∀ (k1_t9 : Fin k1_t9_loop.trips) (v296 : BitVec 32) (k1_t10 : Fin (k1_t10_loop v296).trips) (v315 : BitVec 32) (k1_hw14 : k1_chk14 k1_t9 v296 k1_t10 v315), (k1_t12_loop v315).OK := fun k1_t9 v296 k1_t10 v315 k1_hw14 => k1_hw14.2.2.1
theorem k1_off9_inb : ∀ (k1_t9 : Fin k1_t9_loop.trips) (v296 : BitVec 32) (k1_t10 : Fin (k1_t10_loop v296).trips) (v315 : BitVec 32) (k1_hw14 : k1_chk14 k1_t9 v296 k1_t10 v315) (k1_t12 : Fin (k1_t12_loop v315).trips), ∀ a, (k1_off9 k1_t9 v296 k1_t10 v315 k1_t12) a + S16.size a ≤ S6144.size a := fun k1_t9 v296 k1_t10 v315 k1_hw14 k1_t12 => k1_hw14.2.2.2 k1_t12

def k1_chk16 (v339 : IVec S16 32) : Prop :=
  (∀ a x, ((![v339] : Fin 1 → IVec S16 32) a x).toNat < S51200.size a)
theorem k1_idx11_inb : ∀ (v339 : IVec S16 32) (k1_hw16 : k1_chk16 v339), ∀ a x, ((![v339] : Fin 1 → IVec S16 32) a x).toNat < S51200.size a := fun v339 k1_hw16 => k1_hw16
@[reducible] def k1_t13_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let v298 : BitVec 32 := Scalar.addi c0_i32_270 v297
  let c1_i32_273 : BitVec 32 := 1#32
  ⟨v301, v298, c1_i32_273⟩

def k1_chk12 (v296 : BitVec 32) : Prop :=
  ((k1_t10_loop v296).OK) ∧
  ((k1_t13_loop v296).OK)
theorem k1_t10_ok : ∀ (v296 : BitVec 32) (k1_hw12 : k1_chk12 v296), (k1_t10_loop v296).OK := fun v296 k1_hw12 => k1_hw12.1
theorem k1_t13_ok : ∀ (v296 : BitVec 32) (k1_hw12 : k1_chk12 v296), (k1_t13_loop v296).OK := fun v296 k1_hw12 => k1_hw12.2

def k1_chk17 (v308 : IVec S16 32) : Prop :=
  (∀ a x, ((![v308] : Fin 1 → IVec S16 32) a x).toNat < S6144.size a)
theorem k1_idx12_inb : ∀ (v308 : IVec S16 32) (k1_hw17 : k1_chk17 v308), ∀ a x, ((![v308] : Fin 1 → IVec S16 32) a x).toNat < S6144.size a := fun v308 k1_hw17 => k1_hw17
@[reducible] def k1_t14_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off10 (k1_t9 : Fin k1_t9_loop.trips) (v296 : BitVec 32) (k1_t13 : Fin (k1_t13_loop v296).trips) (v315 : BitVec 32) (k1_t14 : Fin (k1_t14_loop v315).trips) : Fin 1 → Nat :=
  let c0_i32_27 : BitVec 32 := 0#32
  let c1_i32_29 : BitVec 32 := 1#32
  let arg17 : BitVec 32 := Scf.iv c0_i32_27 c1_i32_29 k1_t9
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t13
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t14
  let c16_i32_282 : BitVec 32 := 16#32
  let v323 : BitVec 32 := Scalar.muli arg19 c16_i32_282
  let v324 : BitVec 32 := Scalar.addi v304 v323
  let v325 : Index := Scalar.indexCast v324
  ![v325.toNat]

def k1_chk19 (v339 : IVec S16 32) : Prop :=
  (∀ a x, ((![v339] : Fin 1 → IVec S16 32) a x).toNat < S51200.size a)
theorem k1_idx13_inb : ∀ (v339 : IVec S16 32) (k1_hw19 : k1_chk19 v339), ∀ a x, ((![v339] : Fin 1 → IVec S16 32) a x).toNat < S51200.size a := fun v339 k1_hw19 => k1_hw19
@[reducible] def k1_t15_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off11 (k1_t9 : Fin k1_t9_loop.trips) (v296 : BitVec 32) (k1_t13 : Fin (k1_t13_loop v296).trips) (v315 : BitVec 32) (k1_t15 : Fin (k1_t15_loop v315).trips) : Fin 1 → Nat :=
  let c0_i32_27 : BitVec 32 := 0#32
  let c1_i32_29 : BitVec 32 := 1#32
  let arg17 : BitVec 32 := Scf.iv c0_i32_27 c1_i32_29 k1_t9
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t13
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t15
  let c16_i32_282 : BitVec 32 := 16#32
  let v323 : BitVec 32 := Scalar.muli arg19 c16_i32_282
  let v324 : BitVec 32 := Scalar.addi v304 v323
  let v325 : Index := Scalar.indexCast v324
  ![v325.toNat]

def k1_chk18 (k1_t9 : Fin k1_t9_loop.trips) (v296 : BitVec 32) (k1_t13 : Fin (k1_t13_loop v296).trips) (v315 : BitVec 32) : Prop :=
  ((k1_t14_loop v315).OK) ∧
  (∀ k1_t14 : Fin (k1_t14_loop v315).trips, ∀ a, (k1_off10 k1_t9 v296 k1_t13 v315 k1_t14) a + S16.size a ≤ S6144.size a) ∧
  ((k1_t15_loop v315).OK) ∧
  (∀ k1_t15 : Fin (k1_t15_loop v315).trips, ∀ a, (k1_off11 k1_t9 v296 k1_t13 v315 k1_t15) a + S16.size a ≤ S6144.size a)
theorem k1_t14_ok : ∀ (k1_t9 : Fin k1_t9_loop.trips) (v296 : BitVec 32) (k1_t13 : Fin (k1_t13_loop v296).trips) (v315 : BitVec 32) (k1_hw18 : k1_chk18 k1_t9 v296 k1_t13 v315), (k1_t14_loop v315).OK := fun k1_t9 v296 k1_t13 v315 k1_hw18 => k1_hw18.1
theorem k1_off10_inb : ∀ (k1_t9 : Fin k1_t9_loop.trips) (v296 : BitVec 32) (k1_t13 : Fin (k1_t13_loop v296).trips) (v315 : BitVec 32) (k1_hw18 : k1_chk18 k1_t9 v296 k1_t13 v315) (k1_t14 : Fin (k1_t14_loop v315).trips), ∀ a, (k1_off10 k1_t9 v296 k1_t13 v315 k1_t14) a + S16.size a ≤ S6144.size a := fun k1_t9 v296 k1_t13 v315 k1_hw18 k1_t14 => k1_hw18.2.1 k1_t14
theorem k1_t15_ok : ∀ (k1_t9 : Fin k1_t9_loop.trips) (v296 : BitVec 32) (k1_t13 : Fin (k1_t13_loop v296).trips) (v315 : BitVec 32) (k1_hw18 : k1_chk18 k1_t9 v296 k1_t13 v315), (k1_t15_loop v315).OK := fun k1_t9 v296 k1_t13 v315 k1_hw18 => k1_hw18.2.2.1
theorem k1_off11_inb : ∀ (k1_t9 : Fin k1_t9_loop.trips) (v296 : BitVec 32) (k1_t13 : Fin (k1_t13_loop v296).trips) (v315 : BitVec 32) (k1_hw18 : k1_chk18 k1_t9 v296 k1_t13 v315) (k1_t15 : Fin (k1_t15_loop v315).trips), ∀ a, (k1_off11 k1_t9 v296 k1_t13 v315 k1_t15) a + S16.size a ≤ S6144.size a := fun k1_t9 v296 k1_t13 v315 k1_hw18 k1_t15 => k1_hw18.2.2.2 k1_t15

def k1_chk20 (v339 : IVec S16 32) : Prop :=
  (∀ a x, ((![v339] : Fin 1 → IVec S16 32) a x).toNat < S51200.size a)
theorem k1_idx14_inb : ∀ (v339 : IVec S16 32) (k1_hw20 : k1_chk20 v339), ∀ a x, ((![v339] : Fin 1 → IVec S16 32) a x).toNat < S51200.size a := fun v339 k1_hw20 => k1_hw20
def k1_off12 (i : grid1.Coords) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2 : BitVec 32 := 8#32
  let v14 : BitVec 32 := Scalar.muli v1 c8_i32_2
  let v15 : BitVec 32 := Scalar.addi v14 c0_i32_3
  let c51200_i32_31 : BitVec 32 := 51200#32
  let v44 : BitVec 32 := Scalar.muli v15 c51200_i32_31
  ![v44.toNat]
@[reducible] def k1_t16_loop : Scf.Loop 32 :=
  let c0_i32_36 : BitVec 32 := 0#32
  let c800_i32_37 : BitVec 32 := 800#32
  let v50 : BitVec 32 := Scalar.addi c0_i32_36 c800_i32_37
  let c1_i32_38 : BitVec 32 := 1#32
  ⟨c0_i32_36, v50, c1_i32_38⟩
def k1_off13 (k1_t16 : Fin k1_t16_loop.trips) : Fin 1 → Nat :=
  let c0_i32_36 : BitVec 32 := 0#32
  let c1_i32_38 : BitVec 32 := 1#32
  let arg17 : BitVec 32 := Scf.iv c0_i32_36 c1_i32_38 k1_t16
  let c64_i32 : BitVec 32 := 64#32
  let v286 : BitVec 32 := Scalar.muli arg17 c64_i32
  let v287 : Index := Scalar.indexCast v286
  ![v287.toNat]
def k1_off14 (k1_t16 : Fin k1_t16_loop.trips) (c16_i32_269 : BitVec 32) : Fin 1 → Nat :=
  let c0_i32_36 : BitVec 32 := 0#32
  let c1_i32_38 : BitVec 32 := 1#32
  let arg17 : BitVec 32 := Scf.iv c0_i32_36 c1_i32_38 k1_t16
  let c64_i32_268 : BitVec 32 := 64#32
  let v289 : BitVec 32 := Scalar.muli arg17 c64_i32_268
  let v290 : BitVec 32 := Scalar.addi v289 c16_i32_269
  let v291 : Index := Scalar.indexCast v290
  ![v291.toNat]
@[reducible] def k1_t17_loop : Scf.Loop 32 :=
  let c0_i32_49 : BitVec 32 := 0#32
  let c16_i32_50 : BitVec 32 := 16#32
  let v63 : BitVec 32 := Scalar.addi c0_i32_49 c16_i32_50
  let c1_i32_51 : BitVec 32 := 1#32
  ⟨c0_i32_49, v63, c1_i32_51⟩

def k1_chk21 (v289 : IVec S16 32) : Prop :=
  (∀ a x, ((![v289] : Fin 1 → IVec S16 32) a x).toNat < S512.size a)
theorem k1_idx15_inb : ∀ (v289 : IVec S16 32) (k1_hw21 : k1_chk21 v289), ∀ a x, ((![v289] : Fin 1 → IVec S16 32) a x).toNat < S512.size a := fun v289 k1_hw21 => k1_hw21
@[reducible] def k1_t18_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_272 : BitVec 32 := 1#32
  ⟨c0_i32_270, v301, c1_i32_272⟩

def k1_chk23 (v308 : IVec S16 32) : Prop :=
  (∀ a x, ((![v308] : Fin 1 → IVec S16 32) a x).toNat < S6144.size a)
theorem k1_idx16_inb : ∀ (v308 : IVec S16 32) (k1_hw23 : k1_chk23 v308), ∀ a x, ((![v308] : Fin 1 → IVec S16 32) a x).toNat < S6144.size a := fun v308 k1_hw23 => k1_hw23
@[reducible] def k1_t19_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off15 (k1_t17 : Fin k1_t17_loop.trips) (v296 : BitVec 32) (k1_t18 : Fin (k1_t18_loop v296).trips) (v315 : BitVec 32) (k1_t19 : Fin (k1_t19_loop v315).trips) : Fin 1 → Nat :=
  let c0_i32_49 : BitVec 32 := 0#32
  let c1_i32_51 : BitVec 32 := 1#32
  let arg17 : BitVec 32 := Scf.iv c0_i32_49 c1_i32_51 k1_t17
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t18
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t19
  let c16_i32_282 : BitVec 32 := 16#32
  let v323 : BitVec 32 := Scalar.muli arg19 c16_i32_282
  let v324 : BitVec 32 := Scalar.addi v304 v323
  let v325 : Index := Scalar.indexCast v324
  ![v325.toNat]

def k1_chk25 (v339 : IVec S16 32) : Prop :=
  (∀ a x, ((![v339] : Fin 1 → IVec S16 32) a x).toNat < S51200.size a)
theorem k1_idx17_inb : ∀ (v339 : IVec S16 32) (k1_hw25 : k1_chk25 v339), ∀ a x, ((![v339] : Fin 1 → IVec S16 32) a x).toNat < S51200.size a := fun v339 k1_hw25 => k1_hw25
@[reducible] def k1_t20_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off16 (k1_t17 : Fin k1_t17_loop.trips) (v296 : BitVec 32) (k1_t18 : Fin (k1_t18_loop v296).trips) (v315 : BitVec 32) (k1_t20 : Fin (k1_t20_loop v315).trips) : Fin 1 → Nat :=
  let c0_i32_49 : BitVec 32 := 0#32
  let c1_i32_51 : BitVec 32 := 1#32
  let arg17 : BitVec 32 := Scf.iv c0_i32_49 c1_i32_51 k1_t17
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t18
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t20
  let c16_i32_282 : BitVec 32 := 16#32
  let v323 : BitVec 32 := Scalar.muli arg19 c16_i32_282
  let v324 : BitVec 32 := Scalar.addi v304 v323
  let v325 : Index := Scalar.indexCast v324
  ![v325.toNat]

def k1_chk24 (k1_t17 : Fin k1_t17_loop.trips) (v296 : BitVec 32) (k1_t18 : Fin (k1_t18_loop v296).trips) (v315 : BitVec 32) : Prop :=
  ((k1_t19_loop v315).OK) ∧
  (∀ k1_t19 : Fin (k1_t19_loop v315).trips, ∀ a, (k1_off15 k1_t17 v296 k1_t18 v315 k1_t19) a + S16.size a ≤ S6144.size a) ∧
  ((k1_t20_loop v315).OK) ∧
  (∀ k1_t20 : Fin (k1_t20_loop v315).trips, ∀ a, (k1_off16 k1_t17 v296 k1_t18 v315 k1_t20) a + S16.size a ≤ S6144.size a)
theorem k1_t19_ok : ∀ (k1_t17 : Fin k1_t17_loop.trips) (v296 : BitVec 32) (k1_t18 : Fin (k1_t18_loop v296).trips) (v315 : BitVec 32) (k1_hw24 : k1_chk24 k1_t17 v296 k1_t18 v315), (k1_t19_loop v315).OK := fun k1_t17 v296 k1_t18 v315 k1_hw24 => k1_hw24.1
theorem k1_off15_inb : ∀ (k1_t17 : Fin k1_t17_loop.trips) (v296 : BitVec 32) (k1_t18 : Fin (k1_t18_loop v296).trips) (v315 : BitVec 32) (k1_hw24 : k1_chk24 k1_t17 v296 k1_t18 v315) (k1_t19 : Fin (k1_t19_loop v315).trips), ∀ a, (k1_off15 k1_t17 v296 k1_t18 v315 k1_t19) a + S16.size a ≤ S6144.size a := fun k1_t17 v296 k1_t18 v315 k1_hw24 k1_t19 => k1_hw24.2.1 k1_t19
theorem k1_t20_ok : ∀ (k1_t17 : Fin k1_t17_loop.trips) (v296 : BitVec 32) (k1_t18 : Fin (k1_t18_loop v296).trips) (v315 : BitVec 32) (k1_hw24 : k1_chk24 k1_t17 v296 k1_t18 v315), (k1_t20_loop v315).OK := fun k1_t17 v296 k1_t18 v315 k1_hw24 => k1_hw24.2.2.1
theorem k1_off16_inb : ∀ (k1_t17 : Fin k1_t17_loop.trips) (v296 : BitVec 32) (k1_t18 : Fin (k1_t18_loop v296).trips) (v315 : BitVec 32) (k1_hw24 : k1_chk24 k1_t17 v296 k1_t18 v315) (k1_t20 : Fin (k1_t20_loop v315).trips), ∀ a, (k1_off16 k1_t17 v296 k1_t18 v315 k1_t20) a + S16.size a ≤ S6144.size a := fun k1_t17 v296 k1_t18 v315 k1_hw24 k1_t20 => k1_hw24.2.2.2 k1_t20

def k1_chk26 (v339 : IVec S16 32) : Prop :=
  (∀ a x, ((![v339] : Fin 1 → IVec S16 32) a x).toNat < S51200.size a)
theorem k1_idx18_inb : ∀ (v339 : IVec S16 32) (k1_hw26 : k1_chk26 v339), ∀ a x, ((![v339] : Fin 1 → IVec S16 32) a x).toNat < S51200.size a := fun v339 k1_hw26 => k1_hw26
@[reducible] def k1_t21_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let v298 : BitVec 32 := Scalar.addi c0_i32_270 v297
  let c1_i32_273 : BitVec 32 := 1#32
  ⟨v301, v298, c1_i32_273⟩

def k1_chk22 (v296 : BitVec 32) : Prop :=
  ((k1_t18_loop v296).OK) ∧
  ((k1_t21_loop v296).OK)
theorem k1_t18_ok : ∀ (v296 : BitVec 32) (k1_hw22 : k1_chk22 v296), (k1_t18_loop v296).OK := fun v296 k1_hw22 => k1_hw22.1
theorem k1_t21_ok : ∀ (v296 : BitVec 32) (k1_hw22 : k1_chk22 v296), (k1_t21_loop v296).OK := fun v296 k1_hw22 => k1_hw22.2

def k1_chk27 (v308 : IVec S16 32) : Prop :=
  (∀ a x, ((![v308] : Fin 1 → IVec S16 32) a x).toNat < S6144.size a)
theorem k1_idx19_inb : ∀ (v308 : IVec S16 32) (k1_hw27 : k1_chk27 v308), ∀ a x, ((![v308] : Fin 1 → IVec S16 32) a x).toNat < S6144.size a := fun v308 k1_hw27 => k1_hw27
@[reducible] def k1_t22_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off17 (k1_t17 : Fin k1_t17_loop.trips) (v296 : BitVec 32) (k1_t21 : Fin (k1_t21_loop v296).trips) (v315 : BitVec 32) (k1_t22 : Fin (k1_t22_loop v315).trips) : Fin 1 → Nat :=
  let c0_i32_49 : BitVec 32 := 0#32
  let c1_i32_51 : BitVec 32 := 1#32
  let arg17 : BitVec 32 := Scf.iv c0_i32_49 c1_i32_51 k1_t17
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t21
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t22
  let c16_i32_282 : BitVec 32 := 16#32
  let v323 : BitVec 32 := Scalar.muli arg19 c16_i32_282
  let v324 : BitVec 32 := Scalar.addi v304 v323
  let v325 : Index := Scalar.indexCast v324
  ![v325.toNat]

def k1_chk29 (v339 : IVec S16 32) : Prop :=
  (∀ a x, ((![v339] : Fin 1 → IVec S16 32) a x).toNat < S51200.size a)
theorem k1_idx20_inb : ∀ (v339 : IVec S16 32) (k1_hw29 : k1_chk29 v339), ∀ a x, ((![v339] : Fin 1 → IVec S16 32) a x).toNat < S51200.size a := fun v339 k1_hw29 => k1_hw29
@[reducible] def k1_t23_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off18 (k1_t17 : Fin k1_t17_loop.trips) (v296 : BitVec 32) (k1_t21 : Fin (k1_t21_loop v296).trips) (v315 : BitVec 32) (k1_t23 : Fin (k1_t23_loop v315).trips) : Fin 1 → Nat :=
  let c0_i32_49 : BitVec 32 := 0#32
  let c1_i32_51 : BitVec 32 := 1#32
  let arg17 : BitVec 32 := Scf.iv c0_i32_49 c1_i32_51 k1_t17
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t21
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t23
  let c16_i32_282 : BitVec 32 := 16#32
  let v323 : BitVec 32 := Scalar.muli arg19 c16_i32_282
  let v324 : BitVec 32 := Scalar.addi v304 v323
  let v325 : Index := Scalar.indexCast v324
  ![v325.toNat]

def k1_chk28 (k1_t17 : Fin k1_t17_loop.trips) (v296 : BitVec 32) (k1_t21 : Fin (k1_t21_loop v296).trips) (v315 : BitVec 32) : Prop :=
  ((k1_t22_loop v315).OK) ∧
  (∀ k1_t22 : Fin (k1_t22_loop v315).trips, ∀ a, (k1_off17 k1_t17 v296 k1_t21 v315 k1_t22) a + S16.size a ≤ S6144.size a) ∧
  ((k1_t23_loop v315).OK) ∧
  (∀ k1_t23 : Fin (k1_t23_loop v315).trips, ∀ a, (k1_off18 k1_t17 v296 k1_t21 v315 k1_t23) a + S16.size a ≤ S6144.size a)
theorem k1_t22_ok : ∀ (k1_t17 : Fin k1_t17_loop.trips) (v296 : BitVec 32) (k1_t21 : Fin (k1_t21_loop v296).trips) (v315 : BitVec 32) (k1_hw28 : k1_chk28 k1_t17 v296 k1_t21 v315), (k1_t22_loop v315).OK := fun k1_t17 v296 k1_t21 v315 k1_hw28 => k1_hw28.1
theorem k1_off17_inb : ∀ (k1_t17 : Fin k1_t17_loop.trips) (v296 : BitVec 32) (k1_t21 : Fin (k1_t21_loop v296).trips) (v315 : BitVec 32) (k1_hw28 : k1_chk28 k1_t17 v296 k1_t21 v315) (k1_t22 : Fin (k1_t22_loop v315).trips), ∀ a, (k1_off17 k1_t17 v296 k1_t21 v315 k1_t22) a + S16.size a ≤ S6144.size a := fun k1_t17 v296 k1_t21 v315 k1_hw28 k1_t22 => k1_hw28.2.1 k1_t22
theorem k1_t23_ok : ∀ (k1_t17 : Fin k1_t17_loop.trips) (v296 : BitVec 32) (k1_t21 : Fin (k1_t21_loop v296).trips) (v315 : BitVec 32) (k1_hw28 : k1_chk28 k1_t17 v296 k1_t21 v315), (k1_t23_loop v315).OK := fun k1_t17 v296 k1_t21 v315 k1_hw28 => k1_hw28.2.2.1
theorem k1_off18_inb : ∀ (k1_t17 : Fin k1_t17_loop.trips) (v296 : BitVec 32) (k1_t21 : Fin (k1_t21_loop v296).trips) (v315 : BitVec 32) (k1_hw28 : k1_chk28 k1_t17 v296 k1_t21 v315) (k1_t23 : Fin (k1_t23_loop v315).trips), ∀ a, (k1_off18 k1_t17 v296 k1_t21 v315 k1_t23) a + S16.size a ≤ S6144.size a := fun k1_t17 v296 k1_t21 v315 k1_hw28 k1_t23 => k1_hw28.2.2.2 k1_t23

def k1_chk30 (v339 : IVec S16 32) : Prop :=
  (∀ a x, ((![v339] : Fin 1 → IVec S16 32) a x).toNat < S51200.size a)
theorem k1_idx21_inb : ∀ (v339 : IVec S16 32) (k1_hw30 : k1_chk30 v339), ∀ a x, ((![v339] : Fin 1 → IVec S16 32) a x).toNat < S51200.size a := fun v339 k1_hw30 => k1_hw30
@[reducible] def k1_t24_loop : Scf.Loop 32 :=
  let c0_i32_62 : BitVec 32 := 0#32
  let c16_i32_63 : BitVec 32 := 16#32
  let v76 : BitVec 32 := Scalar.addi c0_i32_62 c16_i32_63
  let c1_i32_64 : BitVec 32 := 1#32
  ⟨c0_i32_62, v76, c1_i32_64⟩

def k1_chk31 (v289 : IVec S16 32) : Prop :=
  (∀ a x, ((![v289] : Fin 1 → IVec S16 32) a x).toNat < S512.size a)
theorem k1_idx22_inb : ∀ (v289 : IVec S16 32) (k1_hw31 : k1_chk31 v289), ∀ a x, ((![v289] : Fin 1 → IVec S16 32) a x).toNat < S512.size a := fun v289 k1_hw31 => k1_hw31
@[reducible] def k1_t25_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_272 : BitVec 32 := 1#32
  ⟨c0_i32_270, v301, c1_i32_272⟩

def k1_chk33 (v308 : IVec S16 32) : Prop :=
  (∀ a x, ((![v308] : Fin 1 → IVec S16 32) a x).toNat < S6144.size a)
theorem k1_idx23_inb : ∀ (v308 : IVec S16 32) (k1_hw33 : k1_chk33 v308), ∀ a x, ((![v308] : Fin 1 → IVec S16 32) a x).toNat < S6144.size a := fun v308 k1_hw33 => k1_hw33
@[reducible] def k1_t26_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off19 (k1_t24 : Fin k1_t24_loop.trips) (v296 : BitVec 32) (k1_t25 : Fin (k1_t25_loop v296).trips) (v315 : BitVec 32) (k1_t26 : Fin (k1_t26_loop v315).trips) : Fin 1 → Nat :=
  let c0_i32_62 : BitVec 32 := 0#32
  let c1_i32_64 : BitVec 32 := 1#32
  let arg17 : BitVec 32 := Scf.iv c0_i32_62 c1_i32_64 k1_t24
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t25
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t26
  let c16_i32_282 : BitVec 32 := 16#32
  let v323 : BitVec 32 := Scalar.muli arg19 c16_i32_282
  let v324 : BitVec 32 := Scalar.addi v304 v323
  let v325 : Index := Scalar.indexCast v324
  ![v325.toNat]

def k1_chk35 (v339 : IVec S16 32) : Prop :=
  (∀ a x, ((![v339] : Fin 1 → IVec S16 32) a x).toNat < S51200.size a)
theorem k1_idx24_inb : ∀ (v339 : IVec S16 32) (k1_hw35 : k1_chk35 v339), ∀ a x, ((![v339] : Fin 1 → IVec S16 32) a x).toNat < S51200.size a := fun v339 k1_hw35 => k1_hw35
@[reducible] def k1_t27_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off20 (k1_t24 : Fin k1_t24_loop.trips) (v296 : BitVec 32) (k1_t25 : Fin (k1_t25_loop v296).trips) (v315 : BitVec 32) (k1_t27 : Fin (k1_t27_loop v315).trips) : Fin 1 → Nat :=
  let c0_i32_62 : BitVec 32 := 0#32
  let c1_i32_64 : BitVec 32 := 1#32
  let arg17 : BitVec 32 := Scf.iv c0_i32_62 c1_i32_64 k1_t24
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t25
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t27
  let c16_i32_282 : BitVec 32 := 16#32
  let v323 : BitVec 32 := Scalar.muli arg19 c16_i32_282
  let v324 : BitVec 32 := Scalar.addi v304 v323
  let v325 : Index := Scalar.indexCast v324
  ![v325.toNat]

def k1_chk34 (k1_t24 : Fin k1_t24_loop.trips) (v296 : BitVec 32) (k1_t25 : Fin (k1_t25_loop v296).trips) (v315 : BitVec 32) : Prop :=
  ((k1_t26_loop v315).OK) ∧
  (∀ k1_t26 : Fin (k1_t26_loop v315).trips, ∀ a, (k1_off19 k1_t24 v296 k1_t25 v315 k1_t26) a + S16.size a ≤ S6144.size a) ∧
  ((k1_t27_loop v315).OK) ∧
  (∀ k1_t27 : Fin (k1_t27_loop v315).trips, ∀ a, (k1_off20 k1_t24 v296 k1_t25 v315 k1_t27) a + S16.size a ≤ S6144.size a)
theorem k1_t26_ok : ∀ (k1_t24 : Fin k1_t24_loop.trips) (v296 : BitVec 32) (k1_t25 : Fin (k1_t25_loop v296).trips) (v315 : BitVec 32) (k1_hw34 : k1_chk34 k1_t24 v296 k1_t25 v315), (k1_t26_loop v315).OK := fun k1_t24 v296 k1_t25 v315 k1_hw34 => k1_hw34.1
theorem k1_off19_inb : ∀ (k1_t24 : Fin k1_t24_loop.trips) (v296 : BitVec 32) (k1_t25 : Fin (k1_t25_loop v296).trips) (v315 : BitVec 32) (k1_hw34 : k1_chk34 k1_t24 v296 k1_t25 v315) (k1_t26 : Fin (k1_t26_loop v315).trips), ∀ a, (k1_off19 k1_t24 v296 k1_t25 v315 k1_t26) a + S16.size a ≤ S6144.size a := fun k1_t24 v296 k1_t25 v315 k1_hw34 k1_t26 => k1_hw34.2.1 k1_t26
theorem k1_t27_ok : ∀ (k1_t24 : Fin k1_t24_loop.trips) (v296 : BitVec 32) (k1_t25 : Fin (k1_t25_loop v296).trips) (v315 : BitVec 32) (k1_hw34 : k1_chk34 k1_t24 v296 k1_t25 v315), (k1_t27_loop v315).OK := fun k1_t24 v296 k1_t25 v315 k1_hw34 => k1_hw34.2.2.1
theorem k1_off20_inb : ∀ (k1_t24 : Fin k1_t24_loop.trips) (v296 : BitVec 32) (k1_t25 : Fin (k1_t25_loop v296).trips) (v315 : BitVec 32) (k1_hw34 : k1_chk34 k1_t24 v296 k1_t25 v315) (k1_t27 : Fin (k1_t27_loop v315).trips), ∀ a, (k1_off20 k1_t24 v296 k1_t25 v315 k1_t27) a + S16.size a ≤ S6144.size a := fun k1_t24 v296 k1_t25 v315 k1_hw34 k1_t27 => k1_hw34.2.2.2 k1_t27

def k1_chk36 (v339 : IVec S16 32) : Prop :=
  (∀ a x, ((![v339] : Fin 1 → IVec S16 32) a x).toNat < S51200.size a)
theorem k1_idx25_inb : ∀ (v339 : IVec S16 32) (k1_hw36 : k1_chk36 v339), ∀ a x, ((![v339] : Fin 1 → IVec S16 32) a x).toNat < S51200.size a := fun v339 k1_hw36 => k1_hw36
@[reducible] def k1_t28_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let v298 : BitVec 32 := Scalar.addi c0_i32_270 v297
  let c1_i32_273 : BitVec 32 := 1#32
  ⟨v301, v298, c1_i32_273⟩

def k1_chk32 (v296 : BitVec 32) : Prop :=
  ((k1_t25_loop v296).OK) ∧
  ((k1_t28_loop v296).OK)
theorem k1_t25_ok : ∀ (v296 : BitVec 32) (k1_hw32 : k1_chk32 v296), (k1_t25_loop v296).OK := fun v296 k1_hw32 => k1_hw32.1
theorem k1_t28_ok : ∀ (v296 : BitVec 32) (k1_hw32 : k1_chk32 v296), (k1_t28_loop v296).OK := fun v296 k1_hw32 => k1_hw32.2

def k1_chk37 (v308 : IVec S16 32) : Prop :=
  (∀ a x, ((![v308] : Fin 1 → IVec S16 32) a x).toNat < S6144.size a)
theorem k1_idx26_inb : ∀ (v308 : IVec S16 32) (k1_hw37 : k1_chk37 v308), ∀ a x, ((![v308] : Fin 1 → IVec S16 32) a x).toNat < S6144.size a := fun v308 k1_hw37 => k1_hw37
@[reducible] def k1_t29_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off21 (k1_t24 : Fin k1_t24_loop.trips) (v296 : BitVec 32) (k1_t28 : Fin (k1_t28_loop v296).trips) (v315 : BitVec 32) (k1_t29 : Fin (k1_t29_loop v315).trips) : Fin 1 → Nat :=
  let c0_i32_62 : BitVec 32 := 0#32
  let c1_i32_64 : BitVec 32 := 1#32
  let arg17 : BitVec 32 := Scf.iv c0_i32_62 c1_i32_64 k1_t24
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t28
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t29
  let c16_i32_282 : BitVec 32 := 16#32
  let v323 : BitVec 32 := Scalar.muli arg19 c16_i32_282
  let v324 : BitVec 32 := Scalar.addi v304 v323
  let v325 : Index := Scalar.indexCast v324
  ![v325.toNat]

def k1_chk39 (v339 : IVec S16 32) : Prop :=
  (∀ a x, ((![v339] : Fin 1 → IVec S16 32) a x).toNat < S51200.size a)
theorem k1_idx27_inb : ∀ (v339 : IVec S16 32) (k1_hw39 : k1_chk39 v339), ∀ a x, ((![v339] : Fin 1 → IVec S16 32) a x).toNat < S51200.size a := fun v339 k1_hw39 => k1_hw39
@[reducible] def k1_t30_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off22 (k1_t24 : Fin k1_t24_loop.trips) (v296 : BitVec 32) (k1_t28 : Fin (k1_t28_loop v296).trips) (v315 : BitVec 32) (k1_t30 : Fin (k1_t30_loop v315).trips) : Fin 1 → Nat :=
  let c0_i32_62 : BitVec 32 := 0#32
  let c1_i32_64 : BitVec 32 := 1#32
  let arg17 : BitVec 32 := Scf.iv c0_i32_62 c1_i32_64 k1_t24
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t28
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t30
  let c16_i32_282 : BitVec 32 := 16#32
  let v323 : BitVec 32 := Scalar.muli arg19 c16_i32_282
  let v324 : BitVec 32 := Scalar.addi v304 v323
  let v325 : Index := Scalar.indexCast v324
  ![v325.toNat]

def k1_chk38 (k1_t24 : Fin k1_t24_loop.trips) (v296 : BitVec 32) (k1_t28 : Fin (k1_t28_loop v296).trips) (v315 : BitVec 32) : Prop :=
  ((k1_t29_loop v315).OK) ∧
  (∀ k1_t29 : Fin (k1_t29_loop v315).trips, ∀ a, (k1_off21 k1_t24 v296 k1_t28 v315 k1_t29) a + S16.size a ≤ S6144.size a) ∧
  ((k1_t30_loop v315).OK) ∧
  (∀ k1_t30 : Fin (k1_t30_loop v315).trips, ∀ a, (k1_off22 k1_t24 v296 k1_t28 v315 k1_t30) a + S16.size a ≤ S6144.size a)
theorem k1_t29_ok : ∀ (k1_t24 : Fin k1_t24_loop.trips) (v296 : BitVec 32) (k1_t28 : Fin (k1_t28_loop v296).trips) (v315 : BitVec 32) (k1_hw38 : k1_chk38 k1_t24 v296 k1_t28 v315), (k1_t29_loop v315).OK := fun k1_t24 v296 k1_t28 v315 k1_hw38 => k1_hw38.1
theorem k1_off21_inb : ∀ (k1_t24 : Fin k1_t24_loop.trips) (v296 : BitVec 32) (k1_t28 : Fin (k1_t28_loop v296).trips) (v315 : BitVec 32) (k1_hw38 : k1_chk38 k1_t24 v296 k1_t28 v315) (k1_t29 : Fin (k1_t29_loop v315).trips), ∀ a, (k1_off21 k1_t24 v296 k1_t28 v315 k1_t29) a + S16.size a ≤ S6144.size a := fun k1_t24 v296 k1_t28 v315 k1_hw38 k1_t29 => k1_hw38.2.1 k1_t29
theorem k1_t30_ok : ∀ (k1_t24 : Fin k1_t24_loop.trips) (v296 : BitVec 32) (k1_t28 : Fin (k1_t28_loop v296).trips) (v315 : BitVec 32) (k1_hw38 : k1_chk38 k1_t24 v296 k1_t28 v315), (k1_t30_loop v315).OK := fun k1_t24 v296 k1_t28 v315 k1_hw38 => k1_hw38.2.2.1
theorem k1_off22_inb : ∀ (k1_t24 : Fin k1_t24_loop.trips) (v296 : BitVec 32) (k1_t28 : Fin (k1_t28_loop v296).trips) (v315 : BitVec 32) (k1_hw38 : k1_chk38 k1_t24 v296 k1_t28 v315) (k1_t30 : Fin (k1_t30_loop v315).trips), ∀ a, (k1_off22 k1_t24 v296 k1_t28 v315 k1_t30) a + S16.size a ≤ S6144.size a := fun k1_t24 v296 k1_t28 v315 k1_hw38 k1_t30 => k1_hw38.2.2.2 k1_t30

def k1_chk40 (v339 : IVec S16 32) : Prop :=
  (∀ a x, ((![v339] : Fin 1 → IVec S16 32) a x).toNat < S51200.size a)
theorem k1_idx28_inb : ∀ (v339 : IVec S16 32) (k1_hw40 : k1_chk40 v339), ∀ a x, ((![v339] : Fin 1 → IVec S16 32) a x).toNat < S51200.size a := fun v339 k1_hw40 => k1_hw40
@[reducible] def k1_t31_loop : Scf.Loop 32 :=
  let c0_i32_71 : BitVec 32 := 0#32
  let c800_i32_72 : BitVec 32 := 800#32
  let v85 : BitVec 32 := Scalar.addi c0_i32_71 c800_i32_72
  let c1_i32_73 : BitVec 32 := 1#32
  ⟨c0_i32_71, v85, c1_i32_73⟩
def k1_off23 (k1_t31 : Fin k1_t31_loop.trips) : Fin 1 → Nat :=
  let c0_i32_71 : BitVec 32 := 0#32
  let c1_i32_73 : BitVec 32 := 1#32
  let arg17 : BitVec 32 := Scf.iv c0_i32_71 c1_i32_73 k1_t31
  let c64_i32 : BitVec 32 := 64#32
  let v286 : BitVec 32 := Scalar.muli arg17 c64_i32
  let v287 : Index := Scalar.indexCast v286
  ![v287.toNat]
def k1_off24 (k1_t31 : Fin k1_t31_loop.trips) (c16_i32_269 : BitVec 32) : Fin 1 → Nat :=
  let c0_i32_71 : BitVec 32 := 0#32
  let c1_i32_73 : BitVec 32 := 1#32
  let arg17 : BitVec 32 := Scf.iv c0_i32_71 c1_i32_73 k1_t31
  let c64_i32_268 : BitVec 32 := 64#32
  let v289 : BitVec 32 := Scalar.muli arg17 c64_i32_268
  let v290 : BitVec 32 := Scalar.addi v289 c16_i32_269
  let v291 : Index := Scalar.indexCast v290
  ![v291.toNat]
@[reducible] def k1_t32_loop : Scf.Loop 32 :=
  let c0_i32_84 : BitVec 32 := 0#32
  let c16_i32_85 : BitVec 32 := 16#32
  let v98 : BitVec 32 := Scalar.addi c0_i32_84 c16_i32_85
  let c1_i32_86 : BitVec 32 := 1#32
  ⟨c0_i32_84, v98, c1_i32_86⟩

def k1_chk41 (v289 : IVec S16 32) : Prop :=
  (∀ a x, ((![v289] : Fin 1 → IVec S16 32) a x).toNat < S512.size a)
theorem k1_idx29_inb : ∀ (v289 : IVec S16 32) (k1_hw41 : k1_chk41 v289), ∀ a x, ((![v289] : Fin 1 → IVec S16 32) a x).toNat < S512.size a := fun v289 k1_hw41 => k1_hw41
@[reducible] def k1_t33_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_272 : BitVec 32 := 1#32
  ⟨c0_i32_270, v301, c1_i32_272⟩

def k1_chk43 (v308 : IVec S16 32) : Prop :=
  (∀ a x, ((![v308] : Fin 1 → IVec S16 32) a x).toNat < S6144.size a)
theorem k1_idx30_inb : ∀ (v308 : IVec S16 32) (k1_hw43 : k1_chk43 v308), ∀ a x, ((![v308] : Fin 1 → IVec S16 32) a x).toNat < S6144.size a := fun v308 k1_hw43 => k1_hw43
@[reducible] def k1_t34_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off25 (k1_t32 : Fin k1_t32_loop.trips) (v296 : BitVec 32) (k1_t33 : Fin (k1_t33_loop v296).trips) (v315 : BitVec 32) (k1_t34 : Fin (k1_t34_loop v315).trips) : Fin 1 → Nat :=
  let c0_i32_84 : BitVec 32 := 0#32
  let c1_i32_86 : BitVec 32 := 1#32
  let arg17 : BitVec 32 := Scf.iv c0_i32_84 c1_i32_86 k1_t32
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t33
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t34
  let c16_i32_282 : BitVec 32 := 16#32
  let v323 : BitVec 32 := Scalar.muli arg19 c16_i32_282
  let v324 : BitVec 32 := Scalar.addi v304 v323
  let v325 : Index := Scalar.indexCast v324
  ![v325.toNat]

def k1_chk45 (v339 : IVec S16 32) : Prop :=
  (∀ a x, ((![v339] : Fin 1 → IVec S16 32) a x).toNat < S51200.size a)
theorem k1_idx31_inb : ∀ (v339 : IVec S16 32) (k1_hw45 : k1_chk45 v339), ∀ a x, ((![v339] : Fin 1 → IVec S16 32) a x).toNat < S51200.size a := fun v339 k1_hw45 => k1_hw45
@[reducible] def k1_t35_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off26 (k1_t32 : Fin k1_t32_loop.trips) (v296 : BitVec 32) (k1_t33 : Fin (k1_t33_loop v296).trips) (v315 : BitVec 32) (k1_t35 : Fin (k1_t35_loop v315).trips) : Fin 1 → Nat :=
  let c0_i32_84 : BitVec 32 := 0#32
  let c1_i32_86 : BitVec 32 := 1#32
  let arg17 : BitVec 32 := Scf.iv c0_i32_84 c1_i32_86 k1_t32
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t33
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t35
  let c16_i32_282 : BitVec 32 := 16#32
  let v323 : BitVec 32 := Scalar.muli arg19 c16_i32_282
  let v324 : BitVec 32 := Scalar.addi v304 v323
  let v325 : Index := Scalar.indexCast v324
  ![v325.toNat]

def k1_chk44 (k1_t32 : Fin k1_t32_loop.trips) (v296 : BitVec 32) (k1_t33 : Fin (k1_t33_loop v296).trips) (v315 : BitVec 32) : Prop :=
  ((k1_t34_loop v315).OK) ∧
  (∀ k1_t34 : Fin (k1_t34_loop v315).trips, ∀ a, (k1_off25 k1_t32 v296 k1_t33 v315 k1_t34) a + S16.size a ≤ S6144.size a) ∧
  ((k1_t35_loop v315).OK) ∧
  (∀ k1_t35 : Fin (k1_t35_loop v315).trips, ∀ a, (k1_off26 k1_t32 v296 k1_t33 v315 k1_t35) a + S16.size a ≤ S6144.size a)
theorem k1_t34_ok : ∀ (k1_t32 : Fin k1_t32_loop.trips) (v296 : BitVec 32) (k1_t33 : Fin (k1_t33_loop v296).trips) (v315 : BitVec 32) (k1_hw44 : k1_chk44 k1_t32 v296 k1_t33 v315), (k1_t34_loop v315).OK := fun k1_t32 v296 k1_t33 v315 k1_hw44 => k1_hw44.1
theorem k1_off25_inb : ∀ (k1_t32 : Fin k1_t32_loop.trips) (v296 : BitVec 32) (k1_t33 : Fin (k1_t33_loop v296).trips) (v315 : BitVec 32) (k1_hw44 : k1_chk44 k1_t32 v296 k1_t33 v315) (k1_t34 : Fin (k1_t34_loop v315).trips), ∀ a, (k1_off25 k1_t32 v296 k1_t33 v315 k1_t34) a + S16.size a ≤ S6144.size a := fun k1_t32 v296 k1_t33 v315 k1_hw44 k1_t34 => k1_hw44.2.1 k1_t34
theorem k1_t35_ok : ∀ (k1_t32 : Fin k1_t32_loop.trips) (v296 : BitVec 32) (k1_t33 : Fin (k1_t33_loop v296).trips) (v315 : BitVec 32) (k1_hw44 : k1_chk44 k1_t32 v296 k1_t33 v315), (k1_t35_loop v315).OK := fun k1_t32 v296 k1_t33 v315 k1_hw44 => k1_hw44.2.2.1
theorem k1_off26_inb : ∀ (k1_t32 : Fin k1_t32_loop.trips) (v296 : BitVec 32) (k1_t33 : Fin (k1_t33_loop v296).trips) (v315 : BitVec 32) (k1_hw44 : k1_chk44 k1_t32 v296 k1_t33 v315) (k1_t35 : Fin (k1_t35_loop v315).trips), ∀ a, (k1_off26 k1_t32 v296 k1_t33 v315 k1_t35) a + S16.size a ≤ S6144.size a := fun k1_t32 v296 k1_t33 v315 k1_hw44 k1_t35 => k1_hw44.2.2.2 k1_t35

def k1_chk46 (v339 : IVec S16 32) : Prop :=
  (∀ a x, ((![v339] : Fin 1 → IVec S16 32) a x).toNat < S51200.size a)
theorem k1_idx32_inb : ∀ (v339 : IVec S16 32) (k1_hw46 : k1_chk46 v339), ∀ a x, ((![v339] : Fin 1 → IVec S16 32) a x).toNat < S51200.size a := fun v339 k1_hw46 => k1_hw46
@[reducible] def k1_t36_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let v298 : BitVec 32 := Scalar.addi c0_i32_270 v297
  let c1_i32_273 : BitVec 32 := 1#32
  ⟨v301, v298, c1_i32_273⟩

def k1_chk42 (v296 : BitVec 32) : Prop :=
  ((k1_t33_loop v296).OK) ∧
  ((k1_t36_loop v296).OK)
theorem k1_t33_ok : ∀ (v296 : BitVec 32) (k1_hw42 : k1_chk42 v296), (k1_t33_loop v296).OK := fun v296 k1_hw42 => k1_hw42.1
theorem k1_t36_ok : ∀ (v296 : BitVec 32) (k1_hw42 : k1_chk42 v296), (k1_t36_loop v296).OK := fun v296 k1_hw42 => k1_hw42.2

def k1_chk47 (v308 : IVec S16 32) : Prop :=
  (∀ a x, ((![v308] : Fin 1 → IVec S16 32) a x).toNat < S6144.size a)
theorem k1_idx33_inb : ∀ (v308 : IVec S16 32) (k1_hw47 : k1_chk47 v308), ∀ a x, ((![v308] : Fin 1 → IVec S16 32) a x).toNat < S6144.size a := fun v308 k1_hw47 => k1_hw47
@[reducible] def k1_t37_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off27 (k1_t32 : Fin k1_t32_loop.trips) (v296 : BitVec 32) (k1_t36 : Fin (k1_t36_loop v296).trips) (v315 : BitVec 32) (k1_t37 : Fin (k1_t37_loop v315).trips) : Fin 1 → Nat :=
  let c0_i32_84 : BitVec 32 := 0#32
  let c1_i32_86 : BitVec 32 := 1#32
  let arg17 : BitVec 32 := Scf.iv c0_i32_84 c1_i32_86 k1_t32
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t36
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t37
  let c16_i32_282 : BitVec 32 := 16#32
  let v323 : BitVec 32 := Scalar.muli arg19 c16_i32_282
  let v324 : BitVec 32 := Scalar.addi v304 v323
  let v325 : Index := Scalar.indexCast v324
  ![v325.toNat]

def k1_chk49 (v339 : IVec S16 32) : Prop :=
  (∀ a x, ((![v339] : Fin 1 → IVec S16 32) a x).toNat < S51200.size a)
theorem k1_idx34_inb : ∀ (v339 : IVec S16 32) (k1_hw49 : k1_chk49 v339), ∀ a x, ((![v339] : Fin 1 → IVec S16 32) a x).toNat < S51200.size a := fun v339 k1_hw49 => k1_hw49
@[reducible] def k1_t38_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off28 (k1_t32 : Fin k1_t32_loop.trips) (v296 : BitVec 32) (k1_t36 : Fin (k1_t36_loop v296).trips) (v315 : BitVec 32) (k1_t38 : Fin (k1_t38_loop v315).trips) : Fin 1 → Nat :=
  let c0_i32_84 : BitVec 32 := 0#32
  let c1_i32_86 : BitVec 32 := 1#32
  let arg17 : BitVec 32 := Scf.iv c0_i32_84 c1_i32_86 k1_t32
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t36
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t38
  let c16_i32_282 : BitVec 32 := 16#32
  let v323 : BitVec 32 := Scalar.muli arg19 c16_i32_282
  let v324 : BitVec 32 := Scalar.addi v304 v323
  let v325 : Index := Scalar.indexCast v324
  ![v325.toNat]

def k1_chk48 (k1_t32 : Fin k1_t32_loop.trips) (v296 : BitVec 32) (k1_t36 : Fin (k1_t36_loop v296).trips) (v315 : BitVec 32) : Prop :=
  ((k1_t37_loop v315).OK) ∧
  (∀ k1_t37 : Fin (k1_t37_loop v315).trips, ∀ a, (k1_off27 k1_t32 v296 k1_t36 v315 k1_t37) a + S16.size a ≤ S6144.size a) ∧
  ((k1_t38_loop v315).OK) ∧
  (∀ k1_t38 : Fin (k1_t38_loop v315).trips, ∀ a, (k1_off28 k1_t32 v296 k1_t36 v315 k1_t38) a + S16.size a ≤ S6144.size a)
theorem k1_t37_ok : ∀ (k1_t32 : Fin k1_t32_loop.trips) (v296 : BitVec 32) (k1_t36 : Fin (k1_t36_loop v296).trips) (v315 : BitVec 32) (k1_hw48 : k1_chk48 k1_t32 v296 k1_t36 v315), (k1_t37_loop v315).OK := fun k1_t32 v296 k1_t36 v315 k1_hw48 => k1_hw48.1
theorem k1_off27_inb : ∀ (k1_t32 : Fin k1_t32_loop.trips) (v296 : BitVec 32) (k1_t36 : Fin (k1_t36_loop v296).trips) (v315 : BitVec 32) (k1_hw48 : k1_chk48 k1_t32 v296 k1_t36 v315) (k1_t37 : Fin (k1_t37_loop v315).trips), ∀ a, (k1_off27 k1_t32 v296 k1_t36 v315 k1_t37) a + S16.size a ≤ S6144.size a := fun k1_t32 v296 k1_t36 v315 k1_hw48 k1_t37 => k1_hw48.2.1 k1_t37
theorem k1_t38_ok : ∀ (k1_t32 : Fin k1_t32_loop.trips) (v296 : BitVec 32) (k1_t36 : Fin (k1_t36_loop v296).trips) (v315 : BitVec 32) (k1_hw48 : k1_chk48 k1_t32 v296 k1_t36 v315), (k1_t38_loop v315).OK := fun k1_t32 v296 k1_t36 v315 k1_hw48 => k1_hw48.2.2.1
theorem k1_off28_inb : ∀ (k1_t32 : Fin k1_t32_loop.trips) (v296 : BitVec 32) (k1_t36 : Fin (k1_t36_loop v296).trips) (v315 : BitVec 32) (k1_hw48 : k1_chk48 k1_t32 v296 k1_t36 v315) (k1_t38 : Fin (k1_t38_loop v315).trips), ∀ a, (k1_off28 k1_t32 v296 k1_t36 v315 k1_t38) a + S16.size a ≤ S6144.size a := fun k1_t32 v296 k1_t36 v315 k1_hw48 k1_t38 => k1_hw48.2.2.2 k1_t38

def k1_chk50 (v339 : IVec S16 32) : Prop :=
  (∀ a x, ((![v339] : Fin 1 → IVec S16 32) a x).toNat < S51200.size a)
theorem k1_idx35_inb : ∀ (v339 : IVec S16 32) (k1_hw50 : k1_chk50 v339), ∀ a x, ((![v339] : Fin 1 → IVec S16 32) a x).toNat < S51200.size a := fun v339 k1_hw50 => k1_hw50
@[reducible] def k1_t39_loop : Scf.Loop 32 :=
  let c0_i32_96 : BitVec 32 := 0#32
  let c16_i32_97 : BitVec 32 := 16#32
  let v111 : BitVec 32 := Scalar.addi c0_i32_96 c16_i32_97
  let c1_i32_98 : BitVec 32 := 1#32
  ⟨c0_i32_96, v111, c1_i32_98⟩

def k1_chk51 (v289 : IVec S16 32) : Prop :=
  (∀ a x, ((![v289] : Fin 1 → IVec S16 32) a x).toNat < S512.size a)
theorem k1_idx36_inb : ∀ (v289 : IVec S16 32) (k1_hw51 : k1_chk51 v289), ∀ a x, ((![v289] : Fin 1 → IVec S16 32) a x).toNat < S512.size a := fun v289 k1_hw51 => k1_hw51
@[reducible] def k1_t40_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_272 : BitVec 32 := 1#32
  ⟨c0_i32_270, v301, c1_i32_272⟩

def k1_chk53 (v308 : IVec S16 32) : Prop :=
  (∀ a x, ((![v308] : Fin 1 → IVec S16 32) a x).toNat < S6144.size a)
theorem k1_idx37_inb : ∀ (v308 : IVec S16 32) (k1_hw53 : k1_chk53 v308), ∀ a x, ((![v308] : Fin 1 → IVec S16 32) a x).toNat < S6144.size a := fun v308 k1_hw53 => k1_hw53
@[reducible] def k1_t41_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off29 (k1_t39 : Fin k1_t39_loop.trips) (v296 : BitVec 32) (k1_t40 : Fin (k1_t40_loop v296).trips) (v315 : BitVec 32) (k1_t41 : Fin (k1_t41_loop v315).trips) : Fin 1 → Nat :=
  let c0_i32_96 : BitVec 32 := 0#32
  let c1_i32_98 : BitVec 32 := 1#32
  let arg17 : BitVec 32 := Scf.iv c0_i32_96 c1_i32_98 k1_t39
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t40
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t41
  let c16_i32_282 : BitVec 32 := 16#32
  let v323 : BitVec 32 := Scalar.muli arg19 c16_i32_282
  let v324 : BitVec 32 := Scalar.addi v304 v323
  let v325 : Index := Scalar.indexCast v324
  ![v325.toNat]

def k1_chk55 (v339 : IVec S16 32) : Prop :=
  (∀ a x, ((![v339] : Fin 1 → IVec S16 32) a x).toNat < S51200.size a)
theorem k1_idx38_inb : ∀ (v339 : IVec S16 32) (k1_hw55 : k1_chk55 v339), ∀ a x, ((![v339] : Fin 1 → IVec S16 32) a x).toNat < S51200.size a := fun v339 k1_hw55 => k1_hw55
@[reducible] def k1_t42_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off30 (k1_t39 : Fin k1_t39_loop.trips) (v296 : BitVec 32) (k1_t40 : Fin (k1_t40_loop v296).trips) (v315 : BitVec 32) (k1_t42 : Fin (k1_t42_loop v315).trips) : Fin 1 → Nat :=
  let c0_i32_96 : BitVec 32 := 0#32
  let c1_i32_98 : BitVec 32 := 1#32
  let arg17 : BitVec 32 := Scf.iv c0_i32_96 c1_i32_98 k1_t39
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t40
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t42
  let c16_i32_282 : BitVec 32 := 16#32
  let v323 : BitVec 32 := Scalar.muli arg19 c16_i32_282
  let v324 : BitVec 32 := Scalar.addi v304 v323
  let v325 : Index := Scalar.indexCast v324
  ![v325.toNat]

def k1_chk54 (k1_t39 : Fin k1_t39_loop.trips) (v296 : BitVec 32) (k1_t40 : Fin (k1_t40_loop v296).trips) (v315 : BitVec 32) : Prop :=
  ((k1_t41_loop v315).OK) ∧
  (∀ k1_t41 : Fin (k1_t41_loop v315).trips, ∀ a, (k1_off29 k1_t39 v296 k1_t40 v315 k1_t41) a + S16.size a ≤ S6144.size a) ∧
  ((k1_t42_loop v315).OK) ∧
  (∀ k1_t42 : Fin (k1_t42_loop v315).trips, ∀ a, (k1_off30 k1_t39 v296 k1_t40 v315 k1_t42) a + S16.size a ≤ S6144.size a)
theorem k1_t41_ok : ∀ (k1_t39 : Fin k1_t39_loop.trips) (v296 : BitVec 32) (k1_t40 : Fin (k1_t40_loop v296).trips) (v315 : BitVec 32) (k1_hw54 : k1_chk54 k1_t39 v296 k1_t40 v315), (k1_t41_loop v315).OK := fun k1_t39 v296 k1_t40 v315 k1_hw54 => k1_hw54.1
theorem k1_off29_inb : ∀ (k1_t39 : Fin k1_t39_loop.trips) (v296 : BitVec 32) (k1_t40 : Fin (k1_t40_loop v296).trips) (v315 : BitVec 32) (k1_hw54 : k1_chk54 k1_t39 v296 k1_t40 v315) (k1_t41 : Fin (k1_t41_loop v315).trips), ∀ a, (k1_off29 k1_t39 v296 k1_t40 v315 k1_t41) a + S16.size a ≤ S6144.size a := fun k1_t39 v296 k1_t40 v315 k1_hw54 k1_t41 => k1_hw54.2.1 k1_t41
theorem k1_t42_ok : ∀ (k1_t39 : Fin k1_t39_loop.trips) (v296 : BitVec 32) (k1_t40 : Fin (k1_t40_loop v296).trips) (v315 : BitVec 32) (k1_hw54 : k1_chk54 k1_t39 v296 k1_t40 v315), (k1_t42_loop v315).OK := fun k1_t39 v296 k1_t40 v315 k1_hw54 => k1_hw54.2.2.1
theorem k1_off30_inb : ∀ (k1_t39 : Fin k1_t39_loop.trips) (v296 : BitVec 32) (k1_t40 : Fin (k1_t40_loop v296).trips) (v315 : BitVec 32) (k1_hw54 : k1_chk54 k1_t39 v296 k1_t40 v315) (k1_t42 : Fin (k1_t42_loop v315).trips), ∀ a, (k1_off30 k1_t39 v296 k1_t40 v315 k1_t42) a + S16.size a ≤ S6144.size a := fun k1_t39 v296 k1_t40 v315 k1_hw54 k1_t42 => k1_hw54.2.2.2 k1_t42

def k1_chk56 (v339 : IVec S16 32) : Prop :=
  (∀ a x, ((![v339] : Fin 1 → IVec S16 32) a x).toNat < S51200.size a)
theorem k1_idx39_inb : ∀ (v339 : IVec S16 32) (k1_hw56 : k1_chk56 v339), ∀ a x, ((![v339] : Fin 1 → IVec S16 32) a x).toNat < S51200.size a := fun v339 k1_hw56 => k1_hw56
@[reducible] def k1_t43_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let v298 : BitVec 32 := Scalar.addi c0_i32_270 v297
  let c1_i32_273 : BitVec 32 := 1#32
  ⟨v301, v298, c1_i32_273⟩

def k1_chk52 (v296 : BitVec 32) : Prop :=
  ((k1_t40_loop v296).OK) ∧
  ((k1_t43_loop v296).OK)
theorem k1_t40_ok : ∀ (v296 : BitVec 32) (k1_hw52 : k1_chk52 v296), (k1_t40_loop v296).OK := fun v296 k1_hw52 => k1_hw52.1
theorem k1_t43_ok : ∀ (v296 : BitVec 32) (k1_hw52 : k1_chk52 v296), (k1_t43_loop v296).OK := fun v296 k1_hw52 => k1_hw52.2

def k1_chk57 (v308 : IVec S16 32) : Prop :=
  (∀ a x, ((![v308] : Fin 1 → IVec S16 32) a x).toNat < S6144.size a)
theorem k1_idx40_inb : ∀ (v308 : IVec S16 32) (k1_hw57 : k1_chk57 v308), ∀ a x, ((![v308] : Fin 1 → IVec S16 32) a x).toNat < S6144.size a := fun v308 k1_hw57 => k1_hw57
@[reducible] def k1_t44_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off31 (k1_t39 : Fin k1_t39_loop.trips) (v296 : BitVec 32) (k1_t43 : Fin (k1_t43_loop v296).trips) (v315 : BitVec 32) (k1_t44 : Fin (k1_t44_loop v315).trips) : Fin 1 → Nat :=
  let c0_i32_96 : BitVec 32 := 0#32
  let c1_i32_98 : BitVec 32 := 1#32
  let arg17 : BitVec 32 := Scf.iv c0_i32_96 c1_i32_98 k1_t39
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t43
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t44
  let c16_i32_282 : BitVec 32 := 16#32
  let v323 : BitVec 32 := Scalar.muli arg19 c16_i32_282
  let v324 : BitVec 32 := Scalar.addi v304 v323
  let v325 : Index := Scalar.indexCast v324
  ![v325.toNat]

def k1_chk59 (v339 : IVec S16 32) : Prop :=
  (∀ a x, ((![v339] : Fin 1 → IVec S16 32) a x).toNat < S51200.size a)
theorem k1_idx41_inb : ∀ (v339 : IVec S16 32) (k1_hw59 : k1_chk59 v339), ∀ a x, ((![v339] : Fin 1 → IVec S16 32) a x).toNat < S51200.size a := fun v339 k1_hw59 => k1_hw59
@[reducible] def k1_t45_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off32 (k1_t39 : Fin k1_t39_loop.trips) (v296 : BitVec 32) (k1_t43 : Fin (k1_t43_loop v296).trips) (v315 : BitVec 32) (k1_t45 : Fin (k1_t45_loop v315).trips) : Fin 1 → Nat :=
  let c0_i32_96 : BitVec 32 := 0#32
  let c1_i32_98 : BitVec 32 := 1#32
  let arg17 : BitVec 32 := Scf.iv c0_i32_96 c1_i32_98 k1_t39
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t43
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t45
  let c16_i32_282 : BitVec 32 := 16#32
  let v323 : BitVec 32 := Scalar.muli arg19 c16_i32_282
  let v324 : BitVec 32 := Scalar.addi v304 v323
  let v325 : Index := Scalar.indexCast v324
  ![v325.toNat]

def k1_chk58 (k1_t39 : Fin k1_t39_loop.trips) (v296 : BitVec 32) (k1_t43 : Fin (k1_t43_loop v296).trips) (v315 : BitVec 32) : Prop :=
  ((k1_t44_loop v315).OK) ∧
  (∀ k1_t44 : Fin (k1_t44_loop v315).trips, ∀ a, (k1_off31 k1_t39 v296 k1_t43 v315 k1_t44) a + S16.size a ≤ S6144.size a) ∧
  ((k1_t45_loop v315).OK) ∧
  (∀ k1_t45 : Fin (k1_t45_loop v315).trips, ∀ a, (k1_off32 k1_t39 v296 k1_t43 v315 k1_t45) a + S16.size a ≤ S6144.size a)
theorem k1_t44_ok : ∀ (k1_t39 : Fin k1_t39_loop.trips) (v296 : BitVec 32) (k1_t43 : Fin (k1_t43_loop v296).trips) (v315 : BitVec 32) (k1_hw58 : k1_chk58 k1_t39 v296 k1_t43 v315), (k1_t44_loop v315).OK := fun k1_t39 v296 k1_t43 v315 k1_hw58 => k1_hw58.1
theorem k1_off31_inb : ∀ (k1_t39 : Fin k1_t39_loop.trips) (v296 : BitVec 32) (k1_t43 : Fin (k1_t43_loop v296).trips) (v315 : BitVec 32) (k1_hw58 : k1_chk58 k1_t39 v296 k1_t43 v315) (k1_t44 : Fin (k1_t44_loop v315).trips), ∀ a, (k1_off31 k1_t39 v296 k1_t43 v315 k1_t44) a + S16.size a ≤ S6144.size a := fun k1_t39 v296 k1_t43 v315 k1_hw58 k1_t44 => k1_hw58.2.1 k1_t44
theorem k1_t45_ok : ∀ (k1_t39 : Fin k1_t39_loop.trips) (v296 : BitVec 32) (k1_t43 : Fin (k1_t43_loop v296).trips) (v315 : BitVec 32) (k1_hw58 : k1_chk58 k1_t39 v296 k1_t43 v315), (k1_t45_loop v315).OK := fun k1_t39 v296 k1_t43 v315 k1_hw58 => k1_hw58.2.2.1
theorem k1_off32_inb : ∀ (k1_t39 : Fin k1_t39_loop.trips) (v296 : BitVec 32) (k1_t43 : Fin (k1_t43_loop v296).trips) (v315 : BitVec 32) (k1_hw58 : k1_chk58 k1_t39 v296 k1_t43 v315) (k1_t45 : Fin (k1_t45_loop v315).trips), ∀ a, (k1_off32 k1_t39 v296 k1_t43 v315 k1_t45) a + S16.size a ≤ S6144.size a := fun k1_t39 v296 k1_t43 v315 k1_hw58 k1_t45 => k1_hw58.2.2.2 k1_t45

def k1_chk60 (v339 : IVec S16 32) : Prop :=
  (∀ a x, ((![v339] : Fin 1 → IVec S16 32) a x).toNat < S51200.size a)
theorem k1_idx42_inb : ∀ (v339 : IVec S16 32) (k1_hw60 : k1_chk60 v339), ∀ a x, ((![v339] : Fin 1 → IVec S16 32) a x).toNat < S51200.size a := fun v339 k1_hw60 => k1_hw60
@[reducible] def k1_t46_loop : Scf.Loop 32 :=
  let c0_i32_105 : BitVec 32 := 0#32
  let c800_i32_106 : BitVec 32 := 800#32
  let v120 : BitVec 32 := Scalar.addi c0_i32_105 c800_i32_106
  let c1_i32_107 : BitVec 32 := 1#32
  ⟨c0_i32_105, v120, c1_i32_107⟩
def k1_off33 (k1_t46 : Fin k1_t46_loop.trips) : Fin 1 → Nat :=
  let c0_i32_105 : BitVec 32 := 0#32
  let c1_i32_107 : BitVec 32 := 1#32
  let arg17 : BitVec 32 := Scf.iv c0_i32_105 c1_i32_107 k1_t46
  let c64_i32 : BitVec 32 := 64#32
  let v286 : BitVec 32 := Scalar.muli arg17 c64_i32
  let v287 : Index := Scalar.indexCast v286
  ![v287.toNat]
def k1_off34 (k1_t46 : Fin k1_t46_loop.trips) (c16_i32_269 : BitVec 32) : Fin 1 → Nat :=
  let c0_i32_105 : BitVec 32 := 0#32
  let c1_i32_107 : BitVec 32 := 1#32
  let arg17 : BitVec 32 := Scf.iv c0_i32_105 c1_i32_107 k1_t46
  let c64_i32_268 : BitVec 32 := 64#32
  let v289 : BitVec 32 := Scalar.muli arg17 c64_i32_268
  let v290 : BitVec 32 := Scalar.addi v289 c16_i32_269
  let v291 : Index := Scalar.indexCast v290
  ![v291.toNat]
@[reducible] def k1_t47_loop : Scf.Loop 32 :=
  let c0_i32_118 : BitVec 32 := 0#32
  let c16_i32_119 : BitVec 32 := 16#32
  let v133 : BitVec 32 := Scalar.addi c0_i32_118 c16_i32_119
  let c1_i32_120 : BitVec 32 := 1#32
  ⟨c0_i32_118, v133, c1_i32_120⟩

def k1_chk61 (v289 : IVec S16 32) : Prop :=
  (∀ a x, ((![v289] : Fin 1 → IVec S16 32) a x).toNat < S512.size a)
theorem k1_idx43_inb : ∀ (v289 : IVec S16 32) (k1_hw61 : k1_chk61 v289), ∀ a x, ((![v289] : Fin 1 → IVec S16 32) a x).toNat < S512.size a := fun v289 k1_hw61 => k1_hw61
@[reducible] def k1_t48_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_272 : BitVec 32 := 1#32
  ⟨c0_i32_270, v301, c1_i32_272⟩

def k1_chk63 (v308 : IVec S16 32) : Prop :=
  (∀ a x, ((![v308] : Fin 1 → IVec S16 32) a x).toNat < S6144.size a)
theorem k1_idx44_inb : ∀ (v308 : IVec S16 32) (k1_hw63 : k1_chk63 v308), ∀ a x, ((![v308] : Fin 1 → IVec S16 32) a x).toNat < S6144.size a := fun v308 k1_hw63 => k1_hw63
@[reducible] def k1_t49_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off35 (k1_t47 : Fin k1_t47_loop.trips) (v296 : BitVec 32) (k1_t48 : Fin (k1_t48_loop v296).trips) (v315 : BitVec 32) (k1_t49 : Fin (k1_t49_loop v315).trips) : Fin 1 → Nat :=
  let c0_i32_118 : BitVec 32 := 0#32
  let c1_i32_120 : BitVec 32 := 1#32
  let arg17 : BitVec 32 := Scf.iv c0_i32_118 c1_i32_120 k1_t47
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t48
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t49
  let c16_i32_282 : BitVec 32 := 16#32
  let v323 : BitVec 32 := Scalar.muli arg19 c16_i32_282
  let v324 : BitVec 32 := Scalar.addi v304 v323
  let v325 : Index := Scalar.indexCast v324
  ![v325.toNat]

def k1_chk65 (v339 : IVec S16 32) : Prop :=
  (∀ a x, ((![v339] : Fin 1 → IVec S16 32) a x).toNat < S51200.size a)
theorem k1_idx45_inb : ∀ (v339 : IVec S16 32) (k1_hw65 : k1_chk65 v339), ∀ a x, ((![v339] : Fin 1 → IVec S16 32) a x).toNat < S51200.size a := fun v339 k1_hw65 => k1_hw65
@[reducible] def k1_t50_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off36 (k1_t47 : Fin k1_t47_loop.trips) (v296 : BitVec 32) (k1_t48 : Fin (k1_t48_loop v296).trips) (v315 : BitVec 32) (k1_t50 : Fin (k1_t50_loop v315).trips) : Fin 1 → Nat :=
  let c0_i32_118 : BitVec 32 := 0#32
  let c1_i32_120 : BitVec 32 := 1#32
  let arg17 : BitVec 32 := Scf.iv c0_i32_118 c1_i32_120 k1_t47
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t48
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t50
  let c16_i32_282 : BitVec 32 := 16#32
  let v323 : BitVec 32 := Scalar.muli arg19 c16_i32_282
  let v324 : BitVec 32 := Scalar.addi v304 v323
  let v325 : Index := Scalar.indexCast v324
  ![v325.toNat]

def k1_chk64 (k1_t47 : Fin k1_t47_loop.trips) (v296 : BitVec 32) (k1_t48 : Fin (k1_t48_loop v296).trips) (v315 : BitVec 32) : Prop :=
  ((k1_t49_loop v315).OK) ∧
  (∀ k1_t49 : Fin (k1_t49_loop v315).trips, ∀ a, (k1_off35 k1_t47 v296 k1_t48 v315 k1_t49) a + S16.size a ≤ S6144.size a) ∧
  ((k1_t50_loop v315).OK) ∧
  (∀ k1_t50 : Fin (k1_t50_loop v315).trips, ∀ a, (k1_off36 k1_t47 v296 k1_t48 v315 k1_t50) a + S16.size a ≤ S6144.size a)
theorem k1_t49_ok : ∀ (k1_t47 : Fin k1_t47_loop.trips) (v296 : BitVec 32) (k1_t48 : Fin (k1_t48_loop v296).trips) (v315 : BitVec 32) (k1_hw64 : k1_chk64 k1_t47 v296 k1_t48 v315), (k1_t49_loop v315).OK := fun k1_t47 v296 k1_t48 v315 k1_hw64 => k1_hw64.1
theorem k1_off35_inb : ∀ (k1_t47 : Fin k1_t47_loop.trips) (v296 : BitVec 32) (k1_t48 : Fin (k1_t48_loop v296).trips) (v315 : BitVec 32) (k1_hw64 : k1_chk64 k1_t47 v296 k1_t48 v315) (k1_t49 : Fin (k1_t49_loop v315).trips), ∀ a, (k1_off35 k1_t47 v296 k1_t48 v315 k1_t49) a + S16.size a ≤ S6144.size a := fun k1_t47 v296 k1_t48 v315 k1_hw64 k1_t49 => k1_hw64.2.1 k1_t49
theorem k1_t50_ok : ∀ (k1_t47 : Fin k1_t47_loop.trips) (v296 : BitVec 32) (k1_t48 : Fin (k1_t48_loop v296).trips) (v315 : BitVec 32) (k1_hw64 : k1_chk64 k1_t47 v296 k1_t48 v315), (k1_t50_loop v315).OK := fun k1_t47 v296 k1_t48 v315 k1_hw64 => k1_hw64.2.2.1
theorem k1_off36_inb : ∀ (k1_t47 : Fin k1_t47_loop.trips) (v296 : BitVec 32) (k1_t48 : Fin (k1_t48_loop v296).trips) (v315 : BitVec 32) (k1_hw64 : k1_chk64 k1_t47 v296 k1_t48 v315) (k1_t50 : Fin (k1_t50_loop v315).trips), ∀ a, (k1_off36 k1_t47 v296 k1_t48 v315 k1_t50) a + S16.size a ≤ S6144.size a := fun k1_t47 v296 k1_t48 v315 k1_hw64 k1_t50 => k1_hw64.2.2.2 k1_t50

def k1_chk66 (v339 : IVec S16 32) : Prop :=
  (∀ a x, ((![v339] : Fin 1 → IVec S16 32) a x).toNat < S51200.size a)
theorem k1_idx46_inb : ∀ (v339 : IVec S16 32) (k1_hw66 : k1_chk66 v339), ∀ a x, ((![v339] : Fin 1 → IVec S16 32) a x).toNat < S51200.size a := fun v339 k1_hw66 => k1_hw66
@[reducible] def k1_t51_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let v298 : BitVec 32 := Scalar.addi c0_i32_270 v297
  let c1_i32_273 : BitVec 32 := 1#32
  ⟨v301, v298, c1_i32_273⟩

def k1_chk62 (v296 : BitVec 32) : Prop :=
  ((k1_t48_loop v296).OK) ∧
  ((k1_t51_loop v296).OK)
theorem k1_t48_ok : ∀ (v296 : BitVec 32) (k1_hw62 : k1_chk62 v296), (k1_t48_loop v296).OK := fun v296 k1_hw62 => k1_hw62.1
theorem k1_t51_ok : ∀ (v296 : BitVec 32) (k1_hw62 : k1_chk62 v296), (k1_t51_loop v296).OK := fun v296 k1_hw62 => k1_hw62.2

def k1_chk67 (v308 : IVec S16 32) : Prop :=
  (∀ a x, ((![v308] : Fin 1 → IVec S16 32) a x).toNat < S6144.size a)
theorem k1_idx47_inb : ∀ (v308 : IVec S16 32) (k1_hw67 : k1_chk67 v308), ∀ a x, ((![v308] : Fin 1 → IVec S16 32) a x).toNat < S6144.size a := fun v308 k1_hw67 => k1_hw67
@[reducible] def k1_t52_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off37 (k1_t47 : Fin k1_t47_loop.trips) (v296 : BitVec 32) (k1_t51 : Fin (k1_t51_loop v296).trips) (v315 : BitVec 32) (k1_t52 : Fin (k1_t52_loop v315).trips) : Fin 1 → Nat :=
  let c0_i32_118 : BitVec 32 := 0#32
  let c1_i32_120 : BitVec 32 := 1#32
  let arg17 : BitVec 32 := Scf.iv c0_i32_118 c1_i32_120 k1_t47
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t51
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t52
  let c16_i32_282 : BitVec 32 := 16#32
  let v323 : BitVec 32 := Scalar.muli arg19 c16_i32_282
  let v324 : BitVec 32 := Scalar.addi v304 v323
  let v325 : Index := Scalar.indexCast v324
  ![v325.toNat]

def k1_chk69 (v339 : IVec S16 32) : Prop :=
  (∀ a x, ((![v339] : Fin 1 → IVec S16 32) a x).toNat < S51200.size a)
theorem k1_idx48_inb : ∀ (v339 : IVec S16 32) (k1_hw69 : k1_chk69 v339), ∀ a x, ((![v339] : Fin 1 → IVec S16 32) a x).toNat < S51200.size a := fun v339 k1_hw69 => k1_hw69
@[reducible] def k1_t53_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off38 (k1_t47 : Fin k1_t47_loop.trips) (v296 : BitVec 32) (k1_t51 : Fin (k1_t51_loop v296).trips) (v315 : BitVec 32) (k1_t53 : Fin (k1_t53_loop v315).trips) : Fin 1 → Nat :=
  let c0_i32_118 : BitVec 32 := 0#32
  let c1_i32_120 : BitVec 32 := 1#32
  let arg17 : BitVec 32 := Scf.iv c0_i32_118 c1_i32_120 k1_t47
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t51
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t53
  let c16_i32_282 : BitVec 32 := 16#32
  let v323 : BitVec 32 := Scalar.muli arg19 c16_i32_282
  let v324 : BitVec 32 := Scalar.addi v304 v323
  let v325 : Index := Scalar.indexCast v324
  ![v325.toNat]

def k1_chk68 (k1_t47 : Fin k1_t47_loop.trips) (v296 : BitVec 32) (k1_t51 : Fin (k1_t51_loop v296).trips) (v315 : BitVec 32) : Prop :=
  ((k1_t52_loop v315).OK) ∧
  (∀ k1_t52 : Fin (k1_t52_loop v315).trips, ∀ a, (k1_off37 k1_t47 v296 k1_t51 v315 k1_t52) a + S16.size a ≤ S6144.size a) ∧
  ((k1_t53_loop v315).OK) ∧
  (∀ k1_t53 : Fin (k1_t53_loop v315).trips, ∀ a, (k1_off38 k1_t47 v296 k1_t51 v315 k1_t53) a + S16.size a ≤ S6144.size a)
theorem k1_t52_ok : ∀ (k1_t47 : Fin k1_t47_loop.trips) (v296 : BitVec 32) (k1_t51 : Fin (k1_t51_loop v296).trips) (v315 : BitVec 32) (k1_hw68 : k1_chk68 k1_t47 v296 k1_t51 v315), (k1_t52_loop v315).OK := fun k1_t47 v296 k1_t51 v315 k1_hw68 => k1_hw68.1
theorem k1_off37_inb : ∀ (k1_t47 : Fin k1_t47_loop.trips) (v296 : BitVec 32) (k1_t51 : Fin (k1_t51_loop v296).trips) (v315 : BitVec 32) (k1_hw68 : k1_chk68 k1_t47 v296 k1_t51 v315) (k1_t52 : Fin (k1_t52_loop v315).trips), ∀ a, (k1_off37 k1_t47 v296 k1_t51 v315 k1_t52) a + S16.size a ≤ S6144.size a := fun k1_t47 v296 k1_t51 v315 k1_hw68 k1_t52 => k1_hw68.2.1 k1_t52
theorem k1_t53_ok : ∀ (k1_t47 : Fin k1_t47_loop.trips) (v296 : BitVec 32) (k1_t51 : Fin (k1_t51_loop v296).trips) (v315 : BitVec 32) (k1_hw68 : k1_chk68 k1_t47 v296 k1_t51 v315), (k1_t53_loop v315).OK := fun k1_t47 v296 k1_t51 v315 k1_hw68 => k1_hw68.2.2.1
theorem k1_off38_inb : ∀ (k1_t47 : Fin k1_t47_loop.trips) (v296 : BitVec 32) (k1_t51 : Fin (k1_t51_loop v296).trips) (v315 : BitVec 32) (k1_hw68 : k1_chk68 k1_t47 v296 k1_t51 v315) (k1_t53 : Fin (k1_t53_loop v315).trips), ∀ a, (k1_off38 k1_t47 v296 k1_t51 v315 k1_t53) a + S16.size a ≤ S6144.size a := fun k1_t47 v296 k1_t51 v315 k1_hw68 k1_t53 => k1_hw68.2.2.2 k1_t53

def k1_chk70 (v339 : IVec S16 32) : Prop :=
  (∀ a x, ((![v339] : Fin 1 → IVec S16 32) a x).toNat < S51200.size a)
theorem k1_idx49_inb : ∀ (v339 : IVec S16 32) (k1_hw70 : k1_chk70 v339), ∀ a x, ((![v339] : Fin 1 → IVec S16 32) a x).toNat < S51200.size a := fun v339 k1_hw70 => k1_hw70
@[reducible] def k1_t54_loop : Scf.Loop 32 :=
  let c0_i32_130 : BitVec 32 := 0#32
  let c16_i32_131 : BitVec 32 := 16#32
  let v146 : BitVec 32 := Scalar.addi c0_i32_130 c16_i32_131
  let c1_i32_132 : BitVec 32 := 1#32
  ⟨c0_i32_130, v146, c1_i32_132⟩

def k1_chk71 (v289 : IVec S16 32) : Prop :=
  (∀ a x, ((![v289] : Fin 1 → IVec S16 32) a x).toNat < S512.size a)
theorem k1_idx50_inb : ∀ (v289 : IVec S16 32) (k1_hw71 : k1_chk71 v289), ∀ a x, ((![v289] : Fin 1 → IVec S16 32) a x).toNat < S512.size a := fun v289 k1_hw71 => k1_hw71
@[reducible] def k1_t55_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_272 : BitVec 32 := 1#32
  ⟨c0_i32_270, v301, c1_i32_272⟩

def k1_chk73 (v308 : IVec S16 32) : Prop :=
  (∀ a x, ((![v308] : Fin 1 → IVec S16 32) a x).toNat < S6144.size a)
theorem k1_idx51_inb : ∀ (v308 : IVec S16 32) (k1_hw73 : k1_chk73 v308), ∀ a x, ((![v308] : Fin 1 → IVec S16 32) a x).toNat < S6144.size a := fun v308 k1_hw73 => k1_hw73
@[reducible] def k1_t56_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off39 (k1_t54 : Fin k1_t54_loop.trips) (v296 : BitVec 32) (k1_t55 : Fin (k1_t55_loop v296).trips) (v315 : BitVec 32) (k1_t56 : Fin (k1_t56_loop v315).trips) : Fin 1 → Nat :=
  let c0_i32_130 : BitVec 32 := 0#32
  let c1_i32_132 : BitVec 32 := 1#32
  let arg17 : BitVec 32 := Scf.iv c0_i32_130 c1_i32_132 k1_t54
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t55
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t56
  let c16_i32_282 : BitVec 32 := 16#32
  let v323 : BitVec 32 := Scalar.muli arg19 c16_i32_282
  let v324 : BitVec 32 := Scalar.addi v304 v323
  let v325 : Index := Scalar.indexCast v324
  ![v325.toNat]

def k1_chk75 (v339 : IVec S16 32) : Prop :=
  (∀ a x, ((![v339] : Fin 1 → IVec S16 32) a x).toNat < S51200.size a)
theorem k1_idx52_inb : ∀ (v339 : IVec S16 32) (k1_hw75 : k1_chk75 v339), ∀ a x, ((![v339] : Fin 1 → IVec S16 32) a x).toNat < S51200.size a := fun v339 k1_hw75 => k1_hw75
@[reducible] def k1_t57_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off40 (k1_t54 : Fin k1_t54_loop.trips) (v296 : BitVec 32) (k1_t55 : Fin (k1_t55_loop v296).trips) (v315 : BitVec 32) (k1_t57 : Fin (k1_t57_loop v315).trips) : Fin 1 → Nat :=
  let c0_i32_130 : BitVec 32 := 0#32
  let c1_i32_132 : BitVec 32 := 1#32
  let arg17 : BitVec 32 := Scf.iv c0_i32_130 c1_i32_132 k1_t54
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t55
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t57
  let c16_i32_282 : BitVec 32 := 16#32
  let v323 : BitVec 32 := Scalar.muli arg19 c16_i32_282
  let v324 : BitVec 32 := Scalar.addi v304 v323
  let v325 : Index := Scalar.indexCast v324
  ![v325.toNat]

def k1_chk74 (k1_t54 : Fin k1_t54_loop.trips) (v296 : BitVec 32) (k1_t55 : Fin (k1_t55_loop v296).trips) (v315 : BitVec 32) : Prop :=
  ((k1_t56_loop v315).OK) ∧
  (∀ k1_t56 : Fin (k1_t56_loop v315).trips, ∀ a, (k1_off39 k1_t54 v296 k1_t55 v315 k1_t56) a + S16.size a ≤ S6144.size a) ∧
  ((k1_t57_loop v315).OK) ∧
  (∀ k1_t57 : Fin (k1_t57_loop v315).trips, ∀ a, (k1_off40 k1_t54 v296 k1_t55 v315 k1_t57) a + S16.size a ≤ S6144.size a)
theorem k1_t56_ok : ∀ (k1_t54 : Fin k1_t54_loop.trips) (v296 : BitVec 32) (k1_t55 : Fin (k1_t55_loop v296).trips) (v315 : BitVec 32) (k1_hw74 : k1_chk74 k1_t54 v296 k1_t55 v315), (k1_t56_loop v315).OK := fun k1_t54 v296 k1_t55 v315 k1_hw74 => k1_hw74.1
theorem k1_off39_inb : ∀ (k1_t54 : Fin k1_t54_loop.trips) (v296 : BitVec 32) (k1_t55 : Fin (k1_t55_loop v296).trips) (v315 : BitVec 32) (k1_hw74 : k1_chk74 k1_t54 v296 k1_t55 v315) (k1_t56 : Fin (k1_t56_loop v315).trips), ∀ a, (k1_off39 k1_t54 v296 k1_t55 v315 k1_t56) a + S16.size a ≤ S6144.size a := fun k1_t54 v296 k1_t55 v315 k1_hw74 k1_t56 => k1_hw74.2.1 k1_t56
theorem k1_t57_ok : ∀ (k1_t54 : Fin k1_t54_loop.trips) (v296 : BitVec 32) (k1_t55 : Fin (k1_t55_loop v296).trips) (v315 : BitVec 32) (k1_hw74 : k1_chk74 k1_t54 v296 k1_t55 v315), (k1_t57_loop v315).OK := fun k1_t54 v296 k1_t55 v315 k1_hw74 => k1_hw74.2.2.1
theorem k1_off40_inb : ∀ (k1_t54 : Fin k1_t54_loop.trips) (v296 : BitVec 32) (k1_t55 : Fin (k1_t55_loop v296).trips) (v315 : BitVec 32) (k1_hw74 : k1_chk74 k1_t54 v296 k1_t55 v315) (k1_t57 : Fin (k1_t57_loop v315).trips), ∀ a, (k1_off40 k1_t54 v296 k1_t55 v315 k1_t57) a + S16.size a ≤ S6144.size a := fun k1_t54 v296 k1_t55 v315 k1_hw74 k1_t57 => k1_hw74.2.2.2 k1_t57

def k1_chk76 (v339 : IVec S16 32) : Prop :=
  (∀ a x, ((![v339] : Fin 1 → IVec S16 32) a x).toNat < S51200.size a)
theorem k1_idx53_inb : ∀ (v339 : IVec S16 32) (k1_hw76 : k1_chk76 v339), ∀ a x, ((![v339] : Fin 1 → IVec S16 32) a x).toNat < S51200.size a := fun v339 k1_hw76 => k1_hw76
@[reducible] def k1_t58_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let v298 : BitVec 32 := Scalar.addi c0_i32_270 v297
  let c1_i32_273 : BitVec 32 := 1#32
  ⟨v301, v298, c1_i32_273⟩

def k1_chk72 (v296 : BitVec 32) : Prop :=
  ((k1_t55_loop v296).OK) ∧
  ((k1_t58_loop v296).OK)
theorem k1_t55_ok : ∀ (v296 : BitVec 32) (k1_hw72 : k1_chk72 v296), (k1_t55_loop v296).OK := fun v296 k1_hw72 => k1_hw72.1
theorem k1_t58_ok : ∀ (v296 : BitVec 32) (k1_hw72 : k1_chk72 v296), (k1_t58_loop v296).OK := fun v296 k1_hw72 => k1_hw72.2

def k1_chk77 (v308 : IVec S16 32) : Prop :=
  (∀ a x, ((![v308] : Fin 1 → IVec S16 32) a x).toNat < S6144.size a)
theorem k1_idx54_inb : ∀ (v308 : IVec S16 32) (k1_hw77 : k1_chk77 v308), ∀ a x, ((![v308] : Fin 1 → IVec S16 32) a x).toNat < S6144.size a := fun v308 k1_hw77 => k1_hw77
@[reducible] def k1_t59_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off41 (k1_t54 : Fin k1_t54_loop.trips) (v296 : BitVec 32) (k1_t58 : Fin (k1_t58_loop v296).trips) (v315 : BitVec 32) (k1_t59 : Fin (k1_t59_loop v315).trips) : Fin 1 → Nat :=
  let c0_i32_130 : BitVec 32 := 0#32
  let c1_i32_132 : BitVec 32 := 1#32
  let arg17 : BitVec 32 := Scf.iv c0_i32_130 c1_i32_132 k1_t54
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t58
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t59
  let c16_i32_282 : BitVec 32 := 16#32
  let v323 : BitVec 32 := Scalar.muli arg19 c16_i32_282
  let v324 : BitVec 32 := Scalar.addi v304 v323
  let v325 : Index := Scalar.indexCast v324
  ![v325.toNat]

def k1_chk79 (v339 : IVec S16 32) : Prop :=
  (∀ a x, ((![v339] : Fin 1 → IVec S16 32) a x).toNat < S51200.size a)
theorem k1_idx55_inb : ∀ (v339 : IVec S16 32) (k1_hw79 : k1_chk79 v339), ∀ a x, ((![v339] : Fin 1 → IVec S16 32) a x).toNat < S51200.size a := fun v339 k1_hw79 => k1_hw79
@[reducible] def k1_t60_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off42 (k1_t54 : Fin k1_t54_loop.trips) (v296 : BitVec 32) (k1_t58 : Fin (k1_t58_loop v296).trips) (v315 : BitVec 32) (k1_t60 : Fin (k1_t60_loop v315).trips) : Fin 1 → Nat :=
  let c0_i32_130 : BitVec 32 := 0#32
  let c1_i32_132 : BitVec 32 := 1#32
  let arg17 : BitVec 32 := Scf.iv c0_i32_130 c1_i32_132 k1_t54
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t58
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t60
  let c16_i32_282 : BitVec 32 := 16#32
  let v323 : BitVec 32 := Scalar.muli arg19 c16_i32_282
  let v324 : BitVec 32 := Scalar.addi v304 v323
  let v325 : Index := Scalar.indexCast v324
  ![v325.toNat]

def k1_chk78 (k1_t54 : Fin k1_t54_loop.trips) (v296 : BitVec 32) (k1_t58 : Fin (k1_t58_loop v296).trips) (v315 : BitVec 32) : Prop :=
  ((k1_t59_loop v315).OK) ∧
  (∀ k1_t59 : Fin (k1_t59_loop v315).trips, ∀ a, (k1_off41 k1_t54 v296 k1_t58 v315 k1_t59) a + S16.size a ≤ S6144.size a) ∧
  ((k1_t60_loop v315).OK) ∧
  (∀ k1_t60 : Fin (k1_t60_loop v315).trips, ∀ a, (k1_off42 k1_t54 v296 k1_t58 v315 k1_t60) a + S16.size a ≤ S6144.size a)
theorem k1_t59_ok : ∀ (k1_t54 : Fin k1_t54_loop.trips) (v296 : BitVec 32) (k1_t58 : Fin (k1_t58_loop v296).trips) (v315 : BitVec 32) (k1_hw78 : k1_chk78 k1_t54 v296 k1_t58 v315), (k1_t59_loop v315).OK := fun k1_t54 v296 k1_t58 v315 k1_hw78 => k1_hw78.1
theorem k1_off41_inb : ∀ (k1_t54 : Fin k1_t54_loop.trips) (v296 : BitVec 32) (k1_t58 : Fin (k1_t58_loop v296).trips) (v315 : BitVec 32) (k1_hw78 : k1_chk78 k1_t54 v296 k1_t58 v315) (k1_t59 : Fin (k1_t59_loop v315).trips), ∀ a, (k1_off41 k1_t54 v296 k1_t58 v315 k1_t59) a + S16.size a ≤ S6144.size a := fun k1_t54 v296 k1_t58 v315 k1_hw78 k1_t59 => k1_hw78.2.1 k1_t59
theorem k1_t60_ok : ∀ (k1_t54 : Fin k1_t54_loop.trips) (v296 : BitVec 32) (k1_t58 : Fin (k1_t58_loop v296).trips) (v315 : BitVec 32) (k1_hw78 : k1_chk78 k1_t54 v296 k1_t58 v315), (k1_t60_loop v315).OK := fun k1_t54 v296 k1_t58 v315 k1_hw78 => k1_hw78.2.2.1
theorem k1_off42_inb : ∀ (k1_t54 : Fin k1_t54_loop.trips) (v296 : BitVec 32) (k1_t58 : Fin (k1_t58_loop v296).trips) (v315 : BitVec 32) (k1_hw78 : k1_chk78 k1_t54 v296 k1_t58 v315) (k1_t60 : Fin (k1_t60_loop v315).trips), ∀ a, (k1_off42 k1_t54 v296 k1_t58 v315 k1_t60) a + S16.size a ≤ S6144.size a := fun k1_t54 v296 k1_t58 v315 k1_hw78 k1_t60 => k1_hw78.2.2.2 k1_t60

def k1_chk80 (v339 : IVec S16 32) : Prop :=
  (∀ a x, ((![v339] : Fin 1 → IVec S16 32) a x).toNat < S51200.size a)
theorem k1_idx56_inb : ∀ (v339 : IVec S16 32) (k1_hw80 : k1_chk80 v339), ∀ a x, ((![v339] : Fin 1 → IVec S16 32) a x).toNat < S51200.size a := fun v339 k1_hw80 => k1_hw80
@[reducible] def k1_t61_loop : Scf.Loop 32 :=
  let c0_i32_139 : BitVec 32 := 0#32
  let c800_i32_140 : BitVec 32 := 800#32
  let v155 : BitVec 32 := Scalar.addi c0_i32_139 c800_i32_140
  let c1_i32_141 : BitVec 32 := 1#32
  ⟨c0_i32_139, v155, c1_i32_141⟩
def k1_off43 (k1_t61 : Fin k1_t61_loop.trips) : Fin 1 → Nat :=
  let c0_i32_139 : BitVec 32 := 0#32
  let c1_i32_141 : BitVec 32 := 1#32
  let arg17 : BitVec 32 := Scf.iv c0_i32_139 c1_i32_141 k1_t61
  let c64_i32 : BitVec 32 := 64#32
  let v286 : BitVec 32 := Scalar.muli arg17 c64_i32
  let v287 : Index := Scalar.indexCast v286
  ![v287.toNat]
def k1_off44 (k1_t61 : Fin k1_t61_loop.trips) (c16_i32_269 : BitVec 32) : Fin 1 → Nat :=
  let c0_i32_139 : BitVec 32 := 0#32
  let c1_i32_141 : BitVec 32 := 1#32
  let arg17 : BitVec 32 := Scf.iv c0_i32_139 c1_i32_141 k1_t61
  let c64_i32_268 : BitVec 32 := 64#32
  let v289 : BitVec 32 := Scalar.muli arg17 c64_i32_268
  let v290 : BitVec 32 := Scalar.addi v289 c16_i32_269
  let v291 : Index := Scalar.indexCast v290
  ![v291.toNat]
@[reducible] def k1_t62_loop : Scf.Loop 32 :=
  let c0_i32_152 : BitVec 32 := 0#32
  let c16_i32_153 : BitVec 32 := 16#32
  let v168 : BitVec 32 := Scalar.addi c0_i32_152 c16_i32_153
  let c1_i32_154 : BitVec 32 := 1#32
  ⟨c0_i32_152, v168, c1_i32_154⟩

def k1_chk81 (v289 : IVec S16 32) : Prop :=
  (∀ a x, ((![v289] : Fin 1 → IVec S16 32) a x).toNat < S512.size a)
theorem k1_idx57_inb : ∀ (v289 : IVec S16 32) (k1_hw81 : k1_chk81 v289), ∀ a x, ((![v289] : Fin 1 → IVec S16 32) a x).toNat < S512.size a := fun v289 k1_hw81 => k1_hw81
@[reducible] def k1_t63_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_272 : BitVec 32 := 1#32
  ⟨c0_i32_270, v301, c1_i32_272⟩

def k1_chk83 (v308 : IVec S16 32) : Prop :=
  (∀ a x, ((![v308] : Fin 1 → IVec S16 32) a x).toNat < S6144.size a)
theorem k1_idx58_inb : ∀ (v308 : IVec S16 32) (k1_hw83 : k1_chk83 v308), ∀ a x, ((![v308] : Fin 1 → IVec S16 32) a x).toNat < S6144.size a := fun v308 k1_hw83 => k1_hw83
@[reducible] def k1_t64_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off45 (k1_t62 : Fin k1_t62_loop.trips) (v296 : BitVec 32) (k1_t63 : Fin (k1_t63_loop v296).trips) (v315 : BitVec 32) (k1_t64 : Fin (k1_t64_loop v315).trips) : Fin 1 → Nat :=
  let c0_i32_152 : BitVec 32 := 0#32
  let c1_i32_154 : BitVec 32 := 1#32
  let arg17 : BitVec 32 := Scf.iv c0_i32_152 c1_i32_154 k1_t62
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t63
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t64
  let c16_i32_282 : BitVec 32 := 16#32
  let v323 : BitVec 32 := Scalar.muli arg19 c16_i32_282
  let v324 : BitVec 32 := Scalar.addi v304 v323
  let v325 : Index := Scalar.indexCast v324
  ![v325.toNat]

def k1_chk85 (v339 : IVec S16 32) : Prop :=
  (∀ a x, ((![v339] : Fin 1 → IVec S16 32) a x).toNat < S51200.size a)
theorem k1_idx59_inb : ∀ (v339 : IVec S16 32) (k1_hw85 : k1_chk85 v339), ∀ a x, ((![v339] : Fin 1 → IVec S16 32) a x).toNat < S51200.size a := fun v339 k1_hw85 => k1_hw85
@[reducible] def k1_t65_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off46 (k1_t62 : Fin k1_t62_loop.trips) (v296 : BitVec 32) (k1_t63 : Fin (k1_t63_loop v296).trips) (v315 : BitVec 32) (k1_t65 : Fin (k1_t65_loop v315).trips) : Fin 1 → Nat :=
  let c0_i32_152 : BitVec 32 := 0#32
  let c1_i32_154 : BitVec 32 := 1#32
  let arg17 : BitVec 32 := Scf.iv c0_i32_152 c1_i32_154 k1_t62
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t63
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t65
  let c16_i32_282 : BitVec 32 := 16#32
  let v323 : BitVec 32 := Scalar.muli arg19 c16_i32_282
  let v324 : BitVec 32 := Scalar.addi v304 v323
  let v325 : Index := Scalar.indexCast v324
  ![v325.toNat]

def k1_chk84 (k1_t62 : Fin k1_t62_loop.trips) (v296 : BitVec 32) (k1_t63 : Fin (k1_t63_loop v296).trips) (v315 : BitVec 32) : Prop :=
  ((k1_t64_loop v315).OK) ∧
  (∀ k1_t64 : Fin (k1_t64_loop v315).trips, ∀ a, (k1_off45 k1_t62 v296 k1_t63 v315 k1_t64) a + S16.size a ≤ S6144.size a) ∧
  ((k1_t65_loop v315).OK) ∧
  (∀ k1_t65 : Fin (k1_t65_loop v315).trips, ∀ a, (k1_off46 k1_t62 v296 k1_t63 v315 k1_t65) a + S16.size a ≤ S6144.size a)
theorem k1_t64_ok : ∀ (k1_t62 : Fin k1_t62_loop.trips) (v296 : BitVec 32) (k1_t63 : Fin (k1_t63_loop v296).trips) (v315 : BitVec 32) (k1_hw84 : k1_chk84 k1_t62 v296 k1_t63 v315), (k1_t64_loop v315).OK := fun k1_t62 v296 k1_t63 v315 k1_hw84 => k1_hw84.1
theorem k1_off45_inb : ∀ (k1_t62 : Fin k1_t62_loop.trips) (v296 : BitVec 32) (k1_t63 : Fin (k1_t63_loop v296).trips) (v315 : BitVec 32) (k1_hw84 : k1_chk84 k1_t62 v296 k1_t63 v315) (k1_t64 : Fin (k1_t64_loop v315).trips), ∀ a, (k1_off45 k1_t62 v296 k1_t63 v315 k1_t64) a + S16.size a ≤ S6144.size a := fun k1_t62 v296 k1_t63 v315 k1_hw84 k1_t64 => k1_hw84.2.1 k1_t64
theorem k1_t65_ok : ∀ (k1_t62 : Fin k1_t62_loop.trips) (v296 : BitVec 32) (k1_t63 : Fin (k1_t63_loop v296).trips) (v315 : BitVec 32) (k1_hw84 : k1_chk84 k1_t62 v296 k1_t63 v315), (k1_t65_loop v315).OK := fun k1_t62 v296 k1_t63 v315 k1_hw84 => k1_hw84.2.2.1
theorem k1_off46_inb : ∀ (k1_t62 : Fin k1_t62_loop.trips) (v296 : BitVec 32) (k1_t63 : Fin (k1_t63_loop v296).trips) (v315 : BitVec 32) (k1_hw84 : k1_chk84 k1_t62 v296 k1_t63 v315) (k1_t65 : Fin (k1_t65_loop v315).trips), ∀ a, (k1_off46 k1_t62 v296 k1_t63 v315 k1_t65) a + S16.size a ≤ S6144.size a := fun k1_t62 v296 k1_t63 v315 k1_hw84 k1_t65 => k1_hw84.2.2.2 k1_t65

def k1_chk86 (v339 : IVec S16 32) : Prop :=
  (∀ a x, ((![v339] : Fin 1 → IVec S16 32) a x).toNat < S51200.size a)
theorem k1_idx60_inb : ∀ (v339 : IVec S16 32) (k1_hw86 : k1_chk86 v339), ∀ a x, ((![v339] : Fin 1 → IVec S16 32) a x).toNat < S51200.size a := fun v339 k1_hw86 => k1_hw86
@[reducible] def k1_t66_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let v298 : BitVec 32 := Scalar.addi c0_i32_270 v297
  let c1_i32_273 : BitVec 32 := 1#32
  ⟨v301, v298, c1_i32_273⟩

def k1_chk82 (v296 : BitVec 32) : Prop :=
  ((k1_t63_loop v296).OK) ∧
  ((k1_t66_loop v296).OK)
theorem k1_t63_ok : ∀ (v296 : BitVec 32) (k1_hw82 : k1_chk82 v296), (k1_t63_loop v296).OK := fun v296 k1_hw82 => k1_hw82.1
theorem k1_t66_ok : ∀ (v296 : BitVec 32) (k1_hw82 : k1_chk82 v296), (k1_t66_loop v296).OK := fun v296 k1_hw82 => k1_hw82.2

def k1_chk87 (v308 : IVec S16 32) : Prop :=
  (∀ a x, ((![v308] : Fin 1 → IVec S16 32) a x).toNat < S6144.size a)
theorem k1_idx61_inb : ∀ (v308 : IVec S16 32) (k1_hw87 : k1_chk87 v308), ∀ a x, ((![v308] : Fin 1 → IVec S16 32) a x).toNat < S6144.size a := fun v308 k1_hw87 => k1_hw87
@[reducible] def k1_t67_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off47 (k1_t62 : Fin k1_t62_loop.trips) (v296 : BitVec 32) (k1_t66 : Fin (k1_t66_loop v296).trips) (v315 : BitVec 32) (k1_t67 : Fin (k1_t67_loop v315).trips) : Fin 1 → Nat :=
  let c0_i32_152 : BitVec 32 := 0#32
  let c1_i32_154 : BitVec 32 := 1#32
  let arg17 : BitVec 32 := Scf.iv c0_i32_152 c1_i32_154 k1_t62
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t66
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t67
  let c16_i32_282 : BitVec 32 := 16#32
  let v323 : BitVec 32 := Scalar.muli arg19 c16_i32_282
  let v324 : BitVec 32 := Scalar.addi v304 v323
  let v325 : Index := Scalar.indexCast v324
  ![v325.toNat]

def k1_chk89 (v339 : IVec S16 32) : Prop :=
  (∀ a x, ((![v339] : Fin 1 → IVec S16 32) a x).toNat < S51200.size a)
theorem k1_idx62_inb : ∀ (v339 : IVec S16 32) (k1_hw89 : k1_chk89 v339), ∀ a x, ((![v339] : Fin 1 → IVec S16 32) a x).toNat < S51200.size a := fun v339 k1_hw89 => k1_hw89
@[reducible] def k1_t68_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off48 (k1_t62 : Fin k1_t62_loop.trips) (v296 : BitVec 32) (k1_t66 : Fin (k1_t66_loop v296).trips) (v315 : BitVec 32) (k1_t68 : Fin (k1_t68_loop v315).trips) : Fin 1 → Nat :=
  let c0_i32_152 : BitVec 32 := 0#32
  let c1_i32_154 : BitVec 32 := 1#32
  let arg17 : BitVec 32 := Scf.iv c0_i32_152 c1_i32_154 k1_t62
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t66
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t68
  let c16_i32_282 : BitVec 32 := 16#32
  let v323 : BitVec 32 := Scalar.muli arg19 c16_i32_282
  let v324 : BitVec 32 := Scalar.addi v304 v323
  let v325 : Index := Scalar.indexCast v324
  ![v325.toNat]

def k1_chk88 (k1_t62 : Fin k1_t62_loop.trips) (v296 : BitVec 32) (k1_t66 : Fin (k1_t66_loop v296).trips) (v315 : BitVec 32) : Prop :=
  ((k1_t67_loop v315).OK) ∧
  (∀ k1_t67 : Fin (k1_t67_loop v315).trips, ∀ a, (k1_off47 k1_t62 v296 k1_t66 v315 k1_t67) a + S16.size a ≤ S6144.size a) ∧
  ((k1_t68_loop v315).OK) ∧
  (∀ k1_t68 : Fin (k1_t68_loop v315).trips, ∀ a, (k1_off48 k1_t62 v296 k1_t66 v315 k1_t68) a + S16.size a ≤ S6144.size a)
theorem k1_t67_ok : ∀ (k1_t62 : Fin k1_t62_loop.trips) (v296 : BitVec 32) (k1_t66 : Fin (k1_t66_loop v296).trips) (v315 : BitVec 32) (k1_hw88 : k1_chk88 k1_t62 v296 k1_t66 v315), (k1_t67_loop v315).OK := fun k1_t62 v296 k1_t66 v315 k1_hw88 => k1_hw88.1
theorem k1_off47_inb : ∀ (k1_t62 : Fin k1_t62_loop.trips) (v296 : BitVec 32) (k1_t66 : Fin (k1_t66_loop v296).trips) (v315 : BitVec 32) (k1_hw88 : k1_chk88 k1_t62 v296 k1_t66 v315) (k1_t67 : Fin (k1_t67_loop v315).trips), ∀ a, (k1_off47 k1_t62 v296 k1_t66 v315 k1_t67) a + S16.size a ≤ S6144.size a := fun k1_t62 v296 k1_t66 v315 k1_hw88 k1_t67 => k1_hw88.2.1 k1_t67
theorem k1_t68_ok : ∀ (k1_t62 : Fin k1_t62_loop.trips) (v296 : BitVec 32) (k1_t66 : Fin (k1_t66_loop v296).trips) (v315 : BitVec 32) (k1_hw88 : k1_chk88 k1_t62 v296 k1_t66 v315), (k1_t68_loop v315).OK := fun k1_t62 v296 k1_t66 v315 k1_hw88 => k1_hw88.2.2.1
theorem k1_off48_inb : ∀ (k1_t62 : Fin k1_t62_loop.trips) (v296 : BitVec 32) (k1_t66 : Fin (k1_t66_loop v296).trips) (v315 : BitVec 32) (k1_hw88 : k1_chk88 k1_t62 v296 k1_t66 v315) (k1_t68 : Fin (k1_t68_loop v315).trips), ∀ a, (k1_off48 k1_t62 v296 k1_t66 v315 k1_t68) a + S16.size a ≤ S6144.size a := fun k1_t62 v296 k1_t66 v315 k1_hw88 k1_t68 => k1_hw88.2.2.2 k1_t68

def k1_chk90 (v339 : IVec S16 32) : Prop :=
  (∀ a x, ((![v339] : Fin 1 → IVec S16 32) a x).toNat < S51200.size a)
theorem k1_idx63_inb : ∀ (v339 : IVec S16 32) (k1_hw90 : k1_chk90 v339), ∀ a x, ((![v339] : Fin 1 → IVec S16 32) a x).toNat < S51200.size a := fun v339 k1_hw90 => k1_hw90
@[reducible] def k1_t69_loop : Scf.Loop 32 :=
  let c0_i32_164 : BitVec 32 := 0#32
  let c16_i32_165 : BitVec 32 := 16#32
  let v181 : BitVec 32 := Scalar.addi c0_i32_164 c16_i32_165
  let c1_i32_166 : BitVec 32 := 1#32
  ⟨c0_i32_164, v181, c1_i32_166⟩

def k1_chk91 (v289 : IVec S16 32) : Prop :=
  (∀ a x, ((![v289] : Fin 1 → IVec S16 32) a x).toNat < S512.size a)
theorem k1_idx64_inb : ∀ (v289 : IVec S16 32) (k1_hw91 : k1_chk91 v289), ∀ a x, ((![v289] : Fin 1 → IVec S16 32) a x).toNat < S512.size a := fun v289 k1_hw91 => k1_hw91
@[reducible] def k1_t70_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_272 : BitVec 32 := 1#32
  ⟨c0_i32_270, v301, c1_i32_272⟩

def k1_chk93 (v308 : IVec S16 32) : Prop :=
  (∀ a x, ((![v308] : Fin 1 → IVec S16 32) a x).toNat < S6144.size a)
theorem k1_idx65_inb : ∀ (v308 : IVec S16 32) (k1_hw93 : k1_chk93 v308), ∀ a x, ((![v308] : Fin 1 → IVec S16 32) a x).toNat < S6144.size a := fun v308 k1_hw93 => k1_hw93
@[reducible] def k1_t71_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off49 (k1_t69 : Fin k1_t69_loop.trips) (v296 : BitVec 32) (k1_t70 : Fin (k1_t70_loop v296).trips) (v315 : BitVec 32) (k1_t71 : Fin (k1_t71_loop v315).trips) : Fin 1 → Nat :=
  let c0_i32_164 : BitVec 32 := 0#32
  let c1_i32_166 : BitVec 32 := 1#32
  let arg17 : BitVec 32 := Scf.iv c0_i32_164 c1_i32_166 k1_t69
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t70
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t71
  let c16_i32_282 : BitVec 32 := 16#32
  let v323 : BitVec 32 := Scalar.muli arg19 c16_i32_282
  let v324 : BitVec 32 := Scalar.addi v304 v323
  let v325 : Index := Scalar.indexCast v324
  ![v325.toNat]

def k1_chk95 (v339 : IVec S16 32) : Prop :=
  (∀ a x, ((![v339] : Fin 1 → IVec S16 32) a x).toNat < S51200.size a)
theorem k1_idx66_inb : ∀ (v339 : IVec S16 32) (k1_hw95 : k1_chk95 v339), ∀ a x, ((![v339] : Fin 1 → IVec S16 32) a x).toNat < S51200.size a := fun v339 k1_hw95 => k1_hw95
@[reducible] def k1_t72_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off50 (k1_t69 : Fin k1_t69_loop.trips) (v296 : BitVec 32) (k1_t70 : Fin (k1_t70_loop v296).trips) (v315 : BitVec 32) (k1_t72 : Fin (k1_t72_loop v315).trips) : Fin 1 → Nat :=
  let c0_i32_164 : BitVec 32 := 0#32
  let c1_i32_166 : BitVec 32 := 1#32
  let arg17 : BitVec 32 := Scf.iv c0_i32_164 c1_i32_166 k1_t69
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t70
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t72
  let c16_i32_282 : BitVec 32 := 16#32
  let v323 : BitVec 32 := Scalar.muli arg19 c16_i32_282
  let v324 : BitVec 32 := Scalar.addi v304 v323
  let v325 : Index := Scalar.indexCast v324
  ![v325.toNat]

def k1_chk94 (k1_t69 : Fin k1_t69_loop.trips) (v296 : BitVec 32) (k1_t70 : Fin (k1_t70_loop v296).trips) (v315 : BitVec 32) : Prop :=
  ((k1_t71_loop v315).OK) ∧
  (∀ k1_t71 : Fin (k1_t71_loop v315).trips, ∀ a, (k1_off49 k1_t69 v296 k1_t70 v315 k1_t71) a + S16.size a ≤ S6144.size a) ∧
  ((k1_t72_loop v315).OK) ∧
  (∀ k1_t72 : Fin (k1_t72_loop v315).trips, ∀ a, (k1_off50 k1_t69 v296 k1_t70 v315 k1_t72) a + S16.size a ≤ S6144.size a)
theorem k1_t71_ok : ∀ (k1_t69 : Fin k1_t69_loop.trips) (v296 : BitVec 32) (k1_t70 : Fin (k1_t70_loop v296).trips) (v315 : BitVec 32) (k1_hw94 : k1_chk94 k1_t69 v296 k1_t70 v315), (k1_t71_loop v315).OK := fun k1_t69 v296 k1_t70 v315 k1_hw94 => k1_hw94.1
theorem k1_off49_inb : ∀ (k1_t69 : Fin k1_t69_loop.trips) (v296 : BitVec 32) (k1_t70 : Fin (k1_t70_loop v296).trips) (v315 : BitVec 32) (k1_hw94 : k1_chk94 k1_t69 v296 k1_t70 v315) (k1_t71 : Fin (k1_t71_loop v315).trips), ∀ a, (k1_off49 k1_t69 v296 k1_t70 v315 k1_t71) a + S16.size a ≤ S6144.size a := fun k1_t69 v296 k1_t70 v315 k1_hw94 k1_t71 => k1_hw94.2.1 k1_t71
theorem k1_t72_ok : ∀ (k1_t69 : Fin k1_t69_loop.trips) (v296 : BitVec 32) (k1_t70 : Fin (k1_t70_loop v296).trips) (v315 : BitVec 32) (k1_hw94 : k1_chk94 k1_t69 v296 k1_t70 v315), (k1_t72_loop v315).OK := fun k1_t69 v296 k1_t70 v315 k1_hw94 => k1_hw94.2.2.1
theorem k1_off50_inb : ∀ (k1_t69 : Fin k1_t69_loop.trips) (v296 : BitVec 32) (k1_t70 : Fin (k1_t70_loop v296).trips) (v315 : BitVec 32) (k1_hw94 : k1_chk94 k1_t69 v296 k1_t70 v315) (k1_t72 : Fin (k1_t72_loop v315).trips), ∀ a, (k1_off50 k1_t69 v296 k1_t70 v315 k1_t72) a + S16.size a ≤ S6144.size a := fun k1_t69 v296 k1_t70 v315 k1_hw94 k1_t72 => k1_hw94.2.2.2 k1_t72

def k1_chk96 (v339 : IVec S16 32) : Prop :=
  (∀ a x, ((![v339] : Fin 1 → IVec S16 32) a x).toNat < S51200.size a)
theorem k1_idx67_inb : ∀ (v339 : IVec S16 32) (k1_hw96 : k1_chk96 v339), ∀ a x, ((![v339] : Fin 1 → IVec S16 32) a x).toNat < S51200.size a := fun v339 k1_hw96 => k1_hw96
@[reducible] def k1_t73_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let v298 : BitVec 32 := Scalar.addi c0_i32_270 v297
  let c1_i32_273 : BitVec 32 := 1#32
  ⟨v301, v298, c1_i32_273⟩

def k1_chk92 (v296 : BitVec 32) : Prop :=
  ((k1_t70_loop v296).OK) ∧
  ((k1_t73_loop v296).OK)
theorem k1_t70_ok : ∀ (v296 : BitVec 32) (k1_hw92 : k1_chk92 v296), (k1_t70_loop v296).OK := fun v296 k1_hw92 => k1_hw92.1
theorem k1_t73_ok : ∀ (v296 : BitVec 32) (k1_hw92 : k1_chk92 v296), (k1_t73_loop v296).OK := fun v296 k1_hw92 => k1_hw92.2

def k1_chk97 (v308 : IVec S16 32) : Prop :=
  (∀ a x, ((![v308] : Fin 1 → IVec S16 32) a x).toNat < S6144.size a)
theorem k1_idx68_inb : ∀ (v308 : IVec S16 32) (k1_hw97 : k1_chk97 v308), ∀ a x, ((![v308] : Fin 1 → IVec S16 32) a x).toNat < S6144.size a := fun v308 k1_hw97 => k1_hw97
@[reducible] def k1_t74_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off51 (k1_t69 : Fin k1_t69_loop.trips) (v296 : BitVec 32) (k1_t73 : Fin (k1_t73_loop v296).trips) (v315 : BitVec 32) (k1_t74 : Fin (k1_t74_loop v315).trips) : Fin 1 → Nat :=
  let c0_i32_164 : BitVec 32 := 0#32
  let c1_i32_166 : BitVec 32 := 1#32
  let arg17 : BitVec 32 := Scf.iv c0_i32_164 c1_i32_166 k1_t69
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t73
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t74
  let c16_i32_282 : BitVec 32 := 16#32
  let v323 : BitVec 32 := Scalar.muli arg19 c16_i32_282
  let v324 : BitVec 32 := Scalar.addi v304 v323
  let v325 : Index := Scalar.indexCast v324
  ![v325.toNat]

def k1_chk99 (v339 : IVec S16 32) : Prop :=
  (∀ a x, ((![v339] : Fin 1 → IVec S16 32) a x).toNat < S51200.size a)
theorem k1_idx69_inb : ∀ (v339 : IVec S16 32) (k1_hw99 : k1_chk99 v339), ∀ a x, ((![v339] : Fin 1 → IVec S16 32) a x).toNat < S51200.size a := fun v339 k1_hw99 => k1_hw99
@[reducible] def k1_t75_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off52 (k1_t69 : Fin k1_t69_loop.trips) (v296 : BitVec 32) (k1_t73 : Fin (k1_t73_loop v296).trips) (v315 : BitVec 32) (k1_t75 : Fin (k1_t75_loop v315).trips) : Fin 1 → Nat :=
  let c0_i32_164 : BitVec 32 := 0#32
  let c1_i32_166 : BitVec 32 := 1#32
  let arg17 : BitVec 32 := Scf.iv c0_i32_164 c1_i32_166 k1_t69
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t73
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t75
  let c16_i32_282 : BitVec 32 := 16#32
  let v323 : BitVec 32 := Scalar.muli arg19 c16_i32_282
  let v324 : BitVec 32 := Scalar.addi v304 v323
  let v325 : Index := Scalar.indexCast v324
  ![v325.toNat]

def k1_chk98 (k1_t69 : Fin k1_t69_loop.trips) (v296 : BitVec 32) (k1_t73 : Fin (k1_t73_loop v296).trips) (v315 : BitVec 32) : Prop :=
  ((k1_t74_loop v315).OK) ∧
  (∀ k1_t74 : Fin (k1_t74_loop v315).trips, ∀ a, (k1_off51 k1_t69 v296 k1_t73 v315 k1_t74) a + S16.size a ≤ S6144.size a) ∧
  ((k1_t75_loop v315).OK) ∧
  (∀ k1_t75 : Fin (k1_t75_loop v315).trips, ∀ a, (k1_off52 k1_t69 v296 k1_t73 v315 k1_t75) a + S16.size a ≤ S6144.size a)
theorem k1_t74_ok : ∀ (k1_t69 : Fin k1_t69_loop.trips) (v296 : BitVec 32) (k1_t73 : Fin (k1_t73_loop v296).trips) (v315 : BitVec 32) (k1_hw98 : k1_chk98 k1_t69 v296 k1_t73 v315), (k1_t74_loop v315).OK := fun k1_t69 v296 k1_t73 v315 k1_hw98 => k1_hw98.1
theorem k1_off51_inb : ∀ (k1_t69 : Fin k1_t69_loop.trips) (v296 : BitVec 32) (k1_t73 : Fin (k1_t73_loop v296).trips) (v315 : BitVec 32) (k1_hw98 : k1_chk98 k1_t69 v296 k1_t73 v315) (k1_t74 : Fin (k1_t74_loop v315).trips), ∀ a, (k1_off51 k1_t69 v296 k1_t73 v315 k1_t74) a + S16.size a ≤ S6144.size a := fun k1_t69 v296 k1_t73 v315 k1_hw98 k1_t74 => k1_hw98.2.1 k1_t74
theorem k1_t75_ok : ∀ (k1_t69 : Fin k1_t69_loop.trips) (v296 : BitVec 32) (k1_t73 : Fin (k1_t73_loop v296).trips) (v315 : BitVec 32) (k1_hw98 : k1_chk98 k1_t69 v296 k1_t73 v315), (k1_t75_loop v315).OK := fun k1_t69 v296 k1_t73 v315 k1_hw98 => k1_hw98.2.2.1
theorem k1_off52_inb : ∀ (k1_t69 : Fin k1_t69_loop.trips) (v296 : BitVec 32) (k1_t73 : Fin (k1_t73_loop v296).trips) (v315 : BitVec 32) (k1_hw98 : k1_chk98 k1_t69 v296 k1_t73 v315) (k1_t75 : Fin (k1_t75_loop v315).trips), ∀ a, (k1_off52 k1_t69 v296 k1_t73 v315 k1_t75) a + S16.size a ≤ S6144.size a := fun k1_t69 v296 k1_t73 v315 k1_hw98 k1_t75 => k1_hw98.2.2.2 k1_t75

def k1_chk100 (v339 : IVec S16 32) : Prop :=
  (∀ a x, ((![v339] : Fin 1 → IVec S16 32) a x).toNat < S51200.size a)
theorem k1_idx70_inb : ∀ (v339 : IVec S16 32) (k1_hw100 : k1_chk100 v339), ∀ a x, ((![v339] : Fin 1 → IVec S16 32) a x).toNat < S51200.size a := fun v339 k1_hw100 => k1_hw100
@[reducible] def k1_t76_loop : Scf.Loop 32 :=
  let c0_i32_173 : BitVec 32 := 0#32
  let c800_i32_174 : BitVec 32 := 800#32
  let v190 : BitVec 32 := Scalar.addi c0_i32_173 c800_i32_174
  let c1_i32_175 : BitVec 32 := 1#32
  ⟨c0_i32_173, v190, c1_i32_175⟩
def k1_off53 (k1_t76 : Fin k1_t76_loop.trips) : Fin 1 → Nat :=
  let c0_i32_173 : BitVec 32 := 0#32
  let c1_i32_175 : BitVec 32 := 1#32
  let arg17 : BitVec 32 := Scf.iv c0_i32_173 c1_i32_175 k1_t76
  let c64_i32 : BitVec 32 := 64#32
  let v286 : BitVec 32 := Scalar.muli arg17 c64_i32
  let v287 : Index := Scalar.indexCast v286
  ![v287.toNat]
def k1_off54 (k1_t76 : Fin k1_t76_loop.trips) (c16_i32_269 : BitVec 32) : Fin 1 → Nat :=
  let c0_i32_173 : BitVec 32 := 0#32
  let c1_i32_175 : BitVec 32 := 1#32
  let arg17 : BitVec 32 := Scf.iv c0_i32_173 c1_i32_175 k1_t76
  let c64_i32_268 : BitVec 32 := 64#32
  let v289 : BitVec 32 := Scalar.muli arg17 c64_i32_268
  let v290 : BitVec 32 := Scalar.addi v289 c16_i32_269
  let v291 : Index := Scalar.indexCast v290
  ![v291.toNat]
@[reducible] def k1_t77_loop : Scf.Loop 32 :=
  let c0_i32_186 : BitVec 32 := 0#32
  let c16_i32_187 : BitVec 32 := 16#32
  let v203 : BitVec 32 := Scalar.addi c0_i32_186 c16_i32_187
  let c1_i32_188 : BitVec 32 := 1#32
  ⟨c0_i32_186, v203, c1_i32_188⟩

def k1_chk101 (v289 : IVec S16 32) : Prop :=
  (∀ a x, ((![v289] : Fin 1 → IVec S16 32) a x).toNat < S512.size a)
theorem k1_idx71_inb : ∀ (v289 : IVec S16 32) (k1_hw101 : k1_chk101 v289), ∀ a x, ((![v289] : Fin 1 → IVec S16 32) a x).toNat < S512.size a := fun v289 k1_hw101 => k1_hw101
@[reducible] def k1_t78_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_272 : BitVec 32 := 1#32
  ⟨c0_i32_270, v301, c1_i32_272⟩

def k1_chk103 (v308 : IVec S16 32) : Prop :=
  (∀ a x, ((![v308] : Fin 1 → IVec S16 32) a x).toNat < S6144.size a)
theorem k1_idx72_inb : ∀ (v308 : IVec S16 32) (k1_hw103 : k1_chk103 v308), ∀ a x, ((![v308] : Fin 1 → IVec S16 32) a x).toNat < S6144.size a := fun v308 k1_hw103 => k1_hw103
@[reducible] def k1_t79_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off55 (k1_t77 : Fin k1_t77_loop.trips) (v296 : BitVec 32) (k1_t78 : Fin (k1_t78_loop v296).trips) (v315 : BitVec 32) (k1_t79 : Fin (k1_t79_loop v315).trips) : Fin 1 → Nat :=
  let c0_i32_186 : BitVec 32 := 0#32
  let c1_i32_188 : BitVec 32 := 1#32
  let arg17 : BitVec 32 := Scf.iv c0_i32_186 c1_i32_188 k1_t77
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t78
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t79
  let c16_i32_282 : BitVec 32 := 16#32
  let v323 : BitVec 32 := Scalar.muli arg19 c16_i32_282
  let v324 : BitVec 32 := Scalar.addi v304 v323
  let v325 : Index := Scalar.indexCast v324
  ![v325.toNat]

def k1_chk105 (v339 : IVec S16 32) : Prop :=
  (∀ a x, ((![v339] : Fin 1 → IVec S16 32) a x).toNat < S51200.size a)
theorem k1_idx73_inb : ∀ (v339 : IVec S16 32) (k1_hw105 : k1_chk105 v339), ∀ a x, ((![v339] : Fin 1 → IVec S16 32) a x).toNat < S51200.size a := fun v339 k1_hw105 => k1_hw105
@[reducible] def k1_t80_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off56 (k1_t77 : Fin k1_t77_loop.trips) (v296 : BitVec 32) (k1_t78 : Fin (k1_t78_loop v296).trips) (v315 : BitVec 32) (k1_t80 : Fin (k1_t80_loop v315).trips) : Fin 1 → Nat :=
  let c0_i32_186 : BitVec 32 := 0#32
  let c1_i32_188 : BitVec 32 := 1#32
  let arg17 : BitVec 32 := Scf.iv c0_i32_186 c1_i32_188 k1_t77
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t78
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t80
  let c16_i32_282 : BitVec 32 := 16#32
  let v323 : BitVec 32 := Scalar.muli arg19 c16_i32_282
  let v324 : BitVec 32 := Scalar.addi v304 v323
  let v325 : Index := Scalar.indexCast v324
  ![v325.toNat]

def k1_chk104 (k1_t77 : Fin k1_t77_loop.trips) (v296 : BitVec 32) (k1_t78 : Fin (k1_t78_loop v296).trips) (v315 : BitVec 32) : Prop :=
  ((k1_t79_loop v315).OK) ∧
  (∀ k1_t79 : Fin (k1_t79_loop v315).trips, ∀ a, (k1_off55 k1_t77 v296 k1_t78 v315 k1_t79) a + S16.size a ≤ S6144.size a) ∧
  ((k1_t80_loop v315).OK) ∧
  (∀ k1_t80 : Fin (k1_t80_loop v315).trips, ∀ a, (k1_off56 k1_t77 v296 k1_t78 v315 k1_t80) a + S16.size a ≤ S6144.size a)
theorem k1_t79_ok : ∀ (k1_t77 : Fin k1_t77_loop.trips) (v296 : BitVec 32) (k1_t78 : Fin (k1_t78_loop v296).trips) (v315 : BitVec 32) (k1_hw104 : k1_chk104 k1_t77 v296 k1_t78 v315), (k1_t79_loop v315).OK := fun k1_t77 v296 k1_t78 v315 k1_hw104 => k1_hw104.1
theorem k1_off55_inb : ∀ (k1_t77 : Fin k1_t77_loop.trips) (v296 : BitVec 32) (k1_t78 : Fin (k1_t78_loop v296).trips) (v315 : BitVec 32) (k1_hw104 : k1_chk104 k1_t77 v296 k1_t78 v315) (k1_t79 : Fin (k1_t79_loop v315).trips), ∀ a, (k1_off55 k1_t77 v296 k1_t78 v315 k1_t79) a + S16.size a ≤ S6144.size a := fun k1_t77 v296 k1_t78 v315 k1_hw104 k1_t79 => k1_hw104.2.1 k1_t79
theorem k1_t80_ok : ∀ (k1_t77 : Fin k1_t77_loop.trips) (v296 : BitVec 32) (k1_t78 : Fin (k1_t78_loop v296).trips) (v315 : BitVec 32) (k1_hw104 : k1_chk104 k1_t77 v296 k1_t78 v315), (k1_t80_loop v315).OK := fun k1_t77 v296 k1_t78 v315 k1_hw104 => k1_hw104.2.2.1
theorem k1_off56_inb : ∀ (k1_t77 : Fin k1_t77_loop.trips) (v296 : BitVec 32) (k1_t78 : Fin (k1_t78_loop v296).trips) (v315 : BitVec 32) (k1_hw104 : k1_chk104 k1_t77 v296 k1_t78 v315) (k1_t80 : Fin (k1_t80_loop v315).trips), ∀ a, (k1_off56 k1_t77 v296 k1_t78 v315 k1_t80) a + S16.size a ≤ S6144.size a := fun k1_t77 v296 k1_t78 v315 k1_hw104 k1_t80 => k1_hw104.2.2.2 k1_t80

def k1_chk106 (v339 : IVec S16 32) : Prop :=
  (∀ a x, ((![v339] : Fin 1 → IVec S16 32) a x).toNat < S51200.size a)
theorem k1_idx74_inb : ∀ (v339 : IVec S16 32) (k1_hw106 : k1_chk106 v339), ∀ a x, ((![v339] : Fin 1 → IVec S16 32) a x).toNat < S51200.size a := fun v339 k1_hw106 => k1_hw106
@[reducible] def k1_t81_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let v298 : BitVec 32 := Scalar.addi c0_i32_270 v297
  let c1_i32_273 : BitVec 32 := 1#32
  ⟨v301, v298, c1_i32_273⟩

def k1_chk102 (v296 : BitVec 32) : Prop :=
  ((k1_t78_loop v296).OK) ∧
  ((k1_t81_loop v296).OK)
theorem k1_t78_ok : ∀ (v296 : BitVec 32) (k1_hw102 : k1_chk102 v296), (k1_t78_loop v296).OK := fun v296 k1_hw102 => k1_hw102.1
theorem k1_t81_ok : ∀ (v296 : BitVec 32) (k1_hw102 : k1_chk102 v296), (k1_t81_loop v296).OK := fun v296 k1_hw102 => k1_hw102.2

def k1_chk107 (v308 : IVec S16 32) : Prop :=
  (∀ a x, ((![v308] : Fin 1 → IVec S16 32) a x).toNat < S6144.size a)
theorem k1_idx75_inb : ∀ (v308 : IVec S16 32) (k1_hw107 : k1_chk107 v308), ∀ a x, ((![v308] : Fin 1 → IVec S16 32) a x).toNat < S6144.size a := fun v308 k1_hw107 => k1_hw107
@[reducible] def k1_t82_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off57 (k1_t77 : Fin k1_t77_loop.trips) (v296 : BitVec 32) (k1_t81 : Fin (k1_t81_loop v296).trips) (v315 : BitVec 32) (k1_t82 : Fin (k1_t82_loop v315).trips) : Fin 1 → Nat :=
  let c0_i32_186 : BitVec 32 := 0#32
  let c1_i32_188 : BitVec 32 := 1#32
  let arg17 : BitVec 32 := Scf.iv c0_i32_186 c1_i32_188 k1_t77
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t81
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t82
  let c16_i32_282 : BitVec 32 := 16#32
  let v323 : BitVec 32 := Scalar.muli arg19 c16_i32_282
  let v324 : BitVec 32 := Scalar.addi v304 v323
  let v325 : Index := Scalar.indexCast v324
  ![v325.toNat]

def k1_chk109 (v339 : IVec S16 32) : Prop :=
  (∀ a x, ((![v339] : Fin 1 → IVec S16 32) a x).toNat < S51200.size a)
theorem k1_idx76_inb : ∀ (v339 : IVec S16 32) (k1_hw109 : k1_chk109 v339), ∀ a x, ((![v339] : Fin 1 → IVec S16 32) a x).toNat < S51200.size a := fun v339 k1_hw109 => k1_hw109
@[reducible] def k1_t83_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off58 (k1_t77 : Fin k1_t77_loop.trips) (v296 : BitVec 32) (k1_t81 : Fin (k1_t81_loop v296).trips) (v315 : BitVec 32) (k1_t83 : Fin (k1_t83_loop v315).trips) : Fin 1 → Nat :=
  let c0_i32_186 : BitVec 32 := 0#32
  let c1_i32_188 : BitVec 32 := 1#32
  let arg17 : BitVec 32 := Scf.iv c0_i32_186 c1_i32_188 k1_t77
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t81
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t83
  let c16_i32_282 : BitVec 32 := 16#32
  let v323 : BitVec 32 := Scalar.muli arg19 c16_i32_282
  let v324 : BitVec 32 := Scalar.addi v304 v323
  let v325 : Index := Scalar.indexCast v324
  ![v325.toNat]

def k1_chk108 (k1_t77 : Fin k1_t77_loop.trips) (v296 : BitVec 32) (k1_t81 : Fin (k1_t81_loop v296).trips) (v315 : BitVec 32) : Prop :=
  ((k1_t82_loop v315).OK) ∧
  (∀ k1_t82 : Fin (k1_t82_loop v315).trips, ∀ a, (k1_off57 k1_t77 v296 k1_t81 v315 k1_t82) a + S16.size a ≤ S6144.size a) ∧
  ((k1_t83_loop v315).OK) ∧
  (∀ k1_t83 : Fin (k1_t83_loop v315).trips, ∀ a, (k1_off58 k1_t77 v296 k1_t81 v315 k1_t83) a + S16.size a ≤ S6144.size a)
theorem k1_t82_ok : ∀ (k1_t77 : Fin k1_t77_loop.trips) (v296 : BitVec 32) (k1_t81 : Fin (k1_t81_loop v296).trips) (v315 : BitVec 32) (k1_hw108 : k1_chk108 k1_t77 v296 k1_t81 v315), (k1_t82_loop v315).OK := fun k1_t77 v296 k1_t81 v315 k1_hw108 => k1_hw108.1
theorem k1_off57_inb : ∀ (k1_t77 : Fin k1_t77_loop.trips) (v296 : BitVec 32) (k1_t81 : Fin (k1_t81_loop v296).trips) (v315 : BitVec 32) (k1_hw108 : k1_chk108 k1_t77 v296 k1_t81 v315) (k1_t82 : Fin (k1_t82_loop v315).trips), ∀ a, (k1_off57 k1_t77 v296 k1_t81 v315 k1_t82) a + S16.size a ≤ S6144.size a := fun k1_t77 v296 k1_t81 v315 k1_hw108 k1_t82 => k1_hw108.2.1 k1_t82
theorem k1_t83_ok : ∀ (k1_t77 : Fin k1_t77_loop.trips) (v296 : BitVec 32) (k1_t81 : Fin (k1_t81_loop v296).trips) (v315 : BitVec 32) (k1_hw108 : k1_chk108 k1_t77 v296 k1_t81 v315), (k1_t83_loop v315).OK := fun k1_t77 v296 k1_t81 v315 k1_hw108 => k1_hw108.2.2.1
theorem k1_off58_inb : ∀ (k1_t77 : Fin k1_t77_loop.trips) (v296 : BitVec 32) (k1_t81 : Fin (k1_t81_loop v296).trips) (v315 : BitVec 32) (k1_hw108 : k1_chk108 k1_t77 v296 k1_t81 v315) (k1_t83 : Fin (k1_t83_loop v315).trips), ∀ a, (k1_off58 k1_t77 v296 k1_t81 v315 k1_t83) a + S16.size a ≤ S6144.size a := fun k1_t77 v296 k1_t81 v315 k1_hw108 k1_t83 => k1_hw108.2.2.2 k1_t83

def k1_chk110 (v339 : IVec S16 32) : Prop :=
  (∀ a x, ((![v339] : Fin 1 → IVec S16 32) a x).toNat < S51200.size a)
theorem k1_idx77_inb : ∀ (v339 : IVec S16 32) (k1_hw110 : k1_chk110 v339), ∀ a x, ((![v339] : Fin 1 → IVec S16 32) a x).toNat < S51200.size a := fun v339 k1_hw110 => k1_hw110
@[reducible] def k1_t84_loop : Scf.Loop 32 :=
  let c0_i32_198 : BitVec 32 := 0#32
  let c16_i32_199 : BitVec 32 := 16#32
  let v216 : BitVec 32 := Scalar.addi c0_i32_198 c16_i32_199
  let c1_i32_200 : BitVec 32 := 1#32
  ⟨c0_i32_198, v216, c1_i32_200⟩

def k1_chk111 (v289 : IVec S16 32) : Prop :=
  (∀ a x, ((![v289] : Fin 1 → IVec S16 32) a x).toNat < S512.size a)
theorem k1_idx78_inb : ∀ (v289 : IVec S16 32) (k1_hw111 : k1_chk111 v289), ∀ a x, ((![v289] : Fin 1 → IVec S16 32) a x).toNat < S512.size a := fun v289 k1_hw111 => k1_hw111
@[reducible] def k1_t85_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_272 : BitVec 32 := 1#32
  ⟨c0_i32_270, v301, c1_i32_272⟩

def k1_chk113 (v308 : IVec S16 32) : Prop :=
  (∀ a x, ((![v308] : Fin 1 → IVec S16 32) a x).toNat < S6144.size a)
theorem k1_idx79_inb : ∀ (v308 : IVec S16 32) (k1_hw113 : k1_chk113 v308), ∀ a x, ((![v308] : Fin 1 → IVec S16 32) a x).toNat < S6144.size a := fun v308 k1_hw113 => k1_hw113
@[reducible] def k1_t86_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off59 (k1_t84 : Fin k1_t84_loop.trips) (v296 : BitVec 32) (k1_t85 : Fin (k1_t85_loop v296).trips) (v315 : BitVec 32) (k1_t86 : Fin (k1_t86_loop v315).trips) : Fin 1 → Nat :=
  let c0_i32_198 : BitVec 32 := 0#32
  let c1_i32_200 : BitVec 32 := 1#32
  let arg17 : BitVec 32 := Scf.iv c0_i32_198 c1_i32_200 k1_t84
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t85
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t86
  let c16_i32_282 : BitVec 32 := 16#32
  let v323 : BitVec 32 := Scalar.muli arg19 c16_i32_282
  let v324 : BitVec 32 := Scalar.addi v304 v323
  let v325 : Index := Scalar.indexCast v324
  ![v325.toNat]

def k1_chk115 (v339 : IVec S16 32) : Prop :=
  (∀ a x, ((![v339] : Fin 1 → IVec S16 32) a x).toNat < S51200.size a)
theorem k1_idx80_inb : ∀ (v339 : IVec S16 32) (k1_hw115 : k1_chk115 v339), ∀ a x, ((![v339] : Fin 1 → IVec S16 32) a x).toNat < S51200.size a := fun v339 k1_hw115 => k1_hw115
@[reducible] def k1_t87_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off60 (k1_t84 : Fin k1_t84_loop.trips) (v296 : BitVec 32) (k1_t85 : Fin (k1_t85_loop v296).trips) (v315 : BitVec 32) (k1_t87 : Fin (k1_t87_loop v315).trips) : Fin 1 → Nat :=
  let c0_i32_198 : BitVec 32 := 0#32
  let c1_i32_200 : BitVec 32 := 1#32
  let arg17 : BitVec 32 := Scf.iv c0_i32_198 c1_i32_200 k1_t84
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t85
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t87
  let c16_i32_282 : BitVec 32 := 16#32
  let v323 : BitVec 32 := Scalar.muli arg19 c16_i32_282
  let v324 : BitVec 32 := Scalar.addi v304 v323
  let v325 : Index := Scalar.indexCast v324
  ![v325.toNat]

def k1_chk114 (k1_t84 : Fin k1_t84_loop.trips) (v296 : BitVec 32) (k1_t85 : Fin (k1_t85_loop v296).trips) (v315 : BitVec 32) : Prop :=
  ((k1_t86_loop v315).OK) ∧
  (∀ k1_t86 : Fin (k1_t86_loop v315).trips, ∀ a, (k1_off59 k1_t84 v296 k1_t85 v315 k1_t86) a + S16.size a ≤ S6144.size a) ∧
  ((k1_t87_loop v315).OK) ∧
  (∀ k1_t87 : Fin (k1_t87_loop v315).trips, ∀ a, (k1_off60 k1_t84 v296 k1_t85 v315 k1_t87) a + S16.size a ≤ S6144.size a)
theorem k1_t86_ok : ∀ (k1_t84 : Fin k1_t84_loop.trips) (v296 : BitVec 32) (k1_t85 : Fin (k1_t85_loop v296).trips) (v315 : BitVec 32) (k1_hw114 : k1_chk114 k1_t84 v296 k1_t85 v315), (k1_t86_loop v315).OK := fun k1_t84 v296 k1_t85 v315 k1_hw114 => k1_hw114.1
theorem k1_off59_inb : ∀ (k1_t84 : Fin k1_t84_loop.trips) (v296 : BitVec 32) (k1_t85 : Fin (k1_t85_loop v296).trips) (v315 : BitVec 32) (k1_hw114 : k1_chk114 k1_t84 v296 k1_t85 v315) (k1_t86 : Fin (k1_t86_loop v315).trips), ∀ a, (k1_off59 k1_t84 v296 k1_t85 v315 k1_t86) a + S16.size a ≤ S6144.size a := fun k1_t84 v296 k1_t85 v315 k1_hw114 k1_t86 => k1_hw114.2.1 k1_t86
theorem k1_t87_ok : ∀ (k1_t84 : Fin k1_t84_loop.trips) (v296 : BitVec 32) (k1_t85 : Fin (k1_t85_loop v296).trips) (v315 : BitVec 32) (k1_hw114 : k1_chk114 k1_t84 v296 k1_t85 v315), (k1_t87_loop v315).OK := fun k1_t84 v296 k1_t85 v315 k1_hw114 => k1_hw114.2.2.1
theorem k1_off60_inb : ∀ (k1_t84 : Fin k1_t84_loop.trips) (v296 : BitVec 32) (k1_t85 : Fin (k1_t85_loop v296).trips) (v315 : BitVec 32) (k1_hw114 : k1_chk114 k1_t84 v296 k1_t85 v315) (k1_t87 : Fin (k1_t87_loop v315).trips), ∀ a, (k1_off60 k1_t84 v296 k1_t85 v315 k1_t87) a + S16.size a ≤ S6144.size a := fun k1_t84 v296 k1_t85 v315 k1_hw114 k1_t87 => k1_hw114.2.2.2 k1_t87

def k1_chk116 (v339 : IVec S16 32) : Prop :=
  (∀ a x, ((![v339] : Fin 1 → IVec S16 32) a x).toNat < S51200.size a)
theorem k1_idx81_inb : ∀ (v339 : IVec S16 32) (k1_hw116 : k1_chk116 v339), ∀ a x, ((![v339] : Fin 1 → IVec S16 32) a x).toNat < S51200.size a := fun v339 k1_hw116 => k1_hw116
@[reducible] def k1_t88_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let v298 : BitVec 32 := Scalar.addi c0_i32_270 v297
  let c1_i32_273 : BitVec 32 := 1#32
  ⟨v301, v298, c1_i32_273⟩

def k1_chk112 (v296 : BitVec 32) : Prop :=
  ((k1_t85_loop v296).OK) ∧
  ((k1_t88_loop v296).OK)
theorem k1_t85_ok : ∀ (v296 : BitVec 32) (k1_hw112 : k1_chk112 v296), (k1_t85_loop v296).OK := fun v296 k1_hw112 => k1_hw112.1
theorem k1_t88_ok : ∀ (v296 : BitVec 32) (k1_hw112 : k1_chk112 v296), (k1_t88_loop v296).OK := fun v296 k1_hw112 => k1_hw112.2

def k1_chk117 (v308 : IVec S16 32) : Prop :=
  (∀ a x, ((![v308] : Fin 1 → IVec S16 32) a x).toNat < S6144.size a)
theorem k1_idx82_inb : ∀ (v308 : IVec S16 32) (k1_hw117 : k1_chk117 v308), ∀ a x, ((![v308] : Fin 1 → IVec S16 32) a x).toNat < S6144.size a := fun v308 k1_hw117 => k1_hw117
@[reducible] def k1_t89_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off61 (k1_t84 : Fin k1_t84_loop.trips) (v296 : BitVec 32) (k1_t88 : Fin (k1_t88_loop v296).trips) (v315 : BitVec 32) (k1_t89 : Fin (k1_t89_loop v315).trips) : Fin 1 → Nat :=
  let c0_i32_198 : BitVec 32 := 0#32
  let c1_i32_200 : BitVec 32 := 1#32
  let arg17 : BitVec 32 := Scf.iv c0_i32_198 c1_i32_200 k1_t84
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t88
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t89
  let c16_i32_282 : BitVec 32 := 16#32
  let v323 : BitVec 32 := Scalar.muli arg19 c16_i32_282
  let v324 : BitVec 32 := Scalar.addi v304 v323
  let v325 : Index := Scalar.indexCast v324
  ![v325.toNat]

def k1_chk119 (v339 : IVec S16 32) : Prop :=
  (∀ a x, ((![v339] : Fin 1 → IVec S16 32) a x).toNat < S51200.size a)
theorem k1_idx83_inb : ∀ (v339 : IVec S16 32) (k1_hw119 : k1_chk119 v339), ∀ a x, ((![v339] : Fin 1 → IVec S16 32) a x).toNat < S51200.size a := fun v339 k1_hw119 => k1_hw119
@[reducible] def k1_t90_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off62 (k1_t84 : Fin k1_t84_loop.trips) (v296 : BitVec 32) (k1_t88 : Fin (k1_t88_loop v296).trips) (v315 : BitVec 32) (k1_t90 : Fin (k1_t90_loop v315).trips) : Fin 1 → Nat :=
  let c0_i32_198 : BitVec 32 := 0#32
  let c1_i32_200 : BitVec 32 := 1#32
  let arg17 : BitVec 32 := Scf.iv c0_i32_198 c1_i32_200 k1_t84
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t88
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t90
  let c16_i32_282 : BitVec 32 := 16#32
  let v323 : BitVec 32 := Scalar.muli arg19 c16_i32_282
  let v324 : BitVec 32 := Scalar.addi v304 v323
  let v325 : Index := Scalar.indexCast v324
  ![v325.toNat]

def k1_chk118 (k1_t84 : Fin k1_t84_loop.trips) (v296 : BitVec 32) (k1_t88 : Fin (k1_t88_loop v296).trips) (v315 : BitVec 32) : Prop :=
  ((k1_t89_loop v315).OK) ∧
  (∀ k1_t89 : Fin (k1_t89_loop v315).trips, ∀ a, (k1_off61 k1_t84 v296 k1_t88 v315 k1_t89) a + S16.size a ≤ S6144.size a) ∧
  ((k1_t90_loop v315).OK) ∧
  (∀ k1_t90 : Fin (k1_t90_loop v315).trips, ∀ a, (k1_off62 k1_t84 v296 k1_t88 v315 k1_t90) a + S16.size a ≤ S6144.size a)
theorem k1_t89_ok : ∀ (k1_t84 : Fin k1_t84_loop.trips) (v296 : BitVec 32) (k1_t88 : Fin (k1_t88_loop v296).trips) (v315 : BitVec 32) (k1_hw118 : k1_chk118 k1_t84 v296 k1_t88 v315), (k1_t89_loop v315).OK := fun k1_t84 v296 k1_t88 v315 k1_hw118 => k1_hw118.1
theorem k1_off61_inb : ∀ (k1_t84 : Fin k1_t84_loop.trips) (v296 : BitVec 32) (k1_t88 : Fin (k1_t88_loop v296).trips) (v315 : BitVec 32) (k1_hw118 : k1_chk118 k1_t84 v296 k1_t88 v315) (k1_t89 : Fin (k1_t89_loop v315).trips), ∀ a, (k1_off61 k1_t84 v296 k1_t88 v315 k1_t89) a + S16.size a ≤ S6144.size a := fun k1_t84 v296 k1_t88 v315 k1_hw118 k1_t89 => k1_hw118.2.1 k1_t89
theorem k1_t90_ok : ∀ (k1_t84 : Fin k1_t84_loop.trips) (v296 : BitVec 32) (k1_t88 : Fin (k1_t88_loop v296).trips) (v315 : BitVec 32) (k1_hw118 : k1_chk118 k1_t84 v296 k1_t88 v315), (k1_t90_loop v315).OK := fun k1_t84 v296 k1_t88 v315 k1_hw118 => k1_hw118.2.2.1
theorem k1_off62_inb : ∀ (k1_t84 : Fin k1_t84_loop.trips) (v296 : BitVec 32) (k1_t88 : Fin (k1_t88_loop v296).trips) (v315 : BitVec 32) (k1_hw118 : k1_chk118 k1_t84 v296 k1_t88 v315) (k1_t90 : Fin (k1_t90_loop v315).trips), ∀ a, (k1_off62 k1_t84 v296 k1_t88 v315 k1_t90) a + S16.size a ≤ S6144.size a := fun k1_t84 v296 k1_t88 v315 k1_hw118 k1_t90 => k1_hw118.2.2.2 k1_t90

def k1_chk120 (v339 : IVec S16 32) : Prop :=
  (∀ a x, ((![v339] : Fin 1 → IVec S16 32) a x).toNat < S51200.size a)
theorem k1_idx84_inb : ∀ (v339 : IVec S16 32) (k1_hw120 : k1_chk120 v339), ∀ a x, ((![v339] : Fin 1 → IVec S16 32) a x).toNat < S51200.size a := fun v339 k1_hw120 => k1_hw120
@[reducible] def k1_t91_loop : Scf.Loop 32 :=
  let c0_i32_207 : BitVec 32 := 0#32
  let c800_i32_208 : BitVec 32 := 800#32
  let v225 : BitVec 32 := Scalar.addi c0_i32_207 c800_i32_208
  let c1_i32_209 : BitVec 32 := 1#32
  ⟨c0_i32_207, v225, c1_i32_209⟩
def k1_off63 (k1_t91 : Fin k1_t91_loop.trips) : Fin 1 → Nat :=
  let c0_i32_207 : BitVec 32 := 0#32
  let c1_i32_209 : BitVec 32 := 1#32
  let arg17 : BitVec 32 := Scf.iv c0_i32_207 c1_i32_209 k1_t91
  let c64_i32 : BitVec 32 := 64#32
  let v286 : BitVec 32 := Scalar.muli arg17 c64_i32
  let v287 : Index := Scalar.indexCast v286
  ![v287.toNat]
def k1_off64 (k1_t91 : Fin k1_t91_loop.trips) (c16_i32_269 : BitVec 32) : Fin 1 → Nat :=
  let c0_i32_207 : BitVec 32 := 0#32
  let c1_i32_209 : BitVec 32 := 1#32
  let arg17 : BitVec 32 := Scf.iv c0_i32_207 c1_i32_209 k1_t91
  let c64_i32_268 : BitVec 32 := 64#32
  let v289 : BitVec 32 := Scalar.muli arg17 c64_i32_268
  let v290 : BitVec 32 := Scalar.addi v289 c16_i32_269
  let v291 : Index := Scalar.indexCast v290
  ![v291.toNat]
@[reducible] def k1_t92_loop : Scf.Loop 32 :=
  let c0_i32_220 : BitVec 32 := 0#32
  let c16_i32_221 : BitVec 32 := 16#32
  let v238 : BitVec 32 := Scalar.addi c0_i32_220 c16_i32_221
  let c1_i32_222 : BitVec 32 := 1#32
  ⟨c0_i32_220, v238, c1_i32_222⟩

def k1_chk121 (v289 : IVec S16 32) : Prop :=
  (∀ a x, ((![v289] : Fin 1 → IVec S16 32) a x).toNat < S512.size a)
theorem k1_idx85_inb : ∀ (v289 : IVec S16 32) (k1_hw121 : k1_chk121 v289), ∀ a x, ((![v289] : Fin 1 → IVec S16 32) a x).toNat < S512.size a := fun v289 k1_hw121 => k1_hw121
@[reducible] def k1_t93_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_272 : BitVec 32 := 1#32
  ⟨c0_i32_270, v301, c1_i32_272⟩

def k1_chk123 (v308 : IVec S16 32) : Prop :=
  (∀ a x, ((![v308] : Fin 1 → IVec S16 32) a x).toNat < S6144.size a)
theorem k1_idx86_inb : ∀ (v308 : IVec S16 32) (k1_hw123 : k1_chk123 v308), ∀ a x, ((![v308] : Fin 1 → IVec S16 32) a x).toNat < S6144.size a := fun v308 k1_hw123 => k1_hw123
@[reducible] def k1_t94_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off65 (k1_t92 : Fin k1_t92_loop.trips) (v296 : BitVec 32) (k1_t93 : Fin (k1_t93_loop v296).trips) (v315 : BitVec 32) (k1_t94 : Fin (k1_t94_loop v315).trips) : Fin 1 → Nat :=
  let c0_i32_220 : BitVec 32 := 0#32
  let c1_i32_222 : BitVec 32 := 1#32
  let arg17 : BitVec 32 := Scf.iv c0_i32_220 c1_i32_222 k1_t92
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t93
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t94
  let c16_i32_282 : BitVec 32 := 16#32
  let v323 : BitVec 32 := Scalar.muli arg19 c16_i32_282
  let v324 : BitVec 32 := Scalar.addi v304 v323
  let v325 : Index := Scalar.indexCast v324
  ![v325.toNat]

def k1_chk125 (v339 : IVec S16 32) : Prop :=
  (∀ a x, ((![v339] : Fin 1 → IVec S16 32) a x).toNat < S51200.size a)
theorem k1_idx87_inb : ∀ (v339 : IVec S16 32) (k1_hw125 : k1_chk125 v339), ∀ a x, ((![v339] : Fin 1 → IVec S16 32) a x).toNat < S51200.size a := fun v339 k1_hw125 => k1_hw125
@[reducible] def k1_t95_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off66 (k1_t92 : Fin k1_t92_loop.trips) (v296 : BitVec 32) (k1_t93 : Fin (k1_t93_loop v296).trips) (v315 : BitVec 32) (k1_t95 : Fin (k1_t95_loop v315).trips) : Fin 1 → Nat :=
  let c0_i32_220 : BitVec 32 := 0#32
  let c1_i32_222 : BitVec 32 := 1#32
  let arg17 : BitVec 32 := Scf.iv c0_i32_220 c1_i32_222 k1_t92
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t93
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t95
  let c16_i32_282 : BitVec 32 := 16#32
  let v323 : BitVec 32 := Scalar.muli arg19 c16_i32_282
  let v324 : BitVec 32 := Scalar.addi v304 v323
  let v325 : Index := Scalar.indexCast v324
  ![v325.toNat]

def k1_chk124 (k1_t92 : Fin k1_t92_loop.trips) (v296 : BitVec 32) (k1_t93 : Fin (k1_t93_loop v296).trips) (v315 : BitVec 32) : Prop :=
  ((k1_t94_loop v315).OK) ∧
  (∀ k1_t94 : Fin (k1_t94_loop v315).trips, ∀ a, (k1_off65 k1_t92 v296 k1_t93 v315 k1_t94) a + S16.size a ≤ S6144.size a) ∧
  ((k1_t95_loop v315).OK) ∧
  (∀ k1_t95 : Fin (k1_t95_loop v315).trips, ∀ a, (k1_off66 k1_t92 v296 k1_t93 v315 k1_t95) a + S16.size a ≤ S6144.size a)
theorem k1_t94_ok : ∀ (k1_t92 : Fin k1_t92_loop.trips) (v296 : BitVec 32) (k1_t93 : Fin (k1_t93_loop v296).trips) (v315 : BitVec 32) (k1_hw124 : k1_chk124 k1_t92 v296 k1_t93 v315), (k1_t94_loop v315).OK := fun k1_t92 v296 k1_t93 v315 k1_hw124 => k1_hw124.1
theorem k1_off65_inb : ∀ (k1_t92 : Fin k1_t92_loop.trips) (v296 : BitVec 32) (k1_t93 : Fin (k1_t93_loop v296).trips) (v315 : BitVec 32) (k1_hw124 : k1_chk124 k1_t92 v296 k1_t93 v315) (k1_t94 : Fin (k1_t94_loop v315).trips), ∀ a, (k1_off65 k1_t92 v296 k1_t93 v315 k1_t94) a + S16.size a ≤ S6144.size a := fun k1_t92 v296 k1_t93 v315 k1_hw124 k1_t94 => k1_hw124.2.1 k1_t94
theorem k1_t95_ok : ∀ (k1_t92 : Fin k1_t92_loop.trips) (v296 : BitVec 32) (k1_t93 : Fin (k1_t93_loop v296).trips) (v315 : BitVec 32) (k1_hw124 : k1_chk124 k1_t92 v296 k1_t93 v315), (k1_t95_loop v315).OK := fun k1_t92 v296 k1_t93 v315 k1_hw124 => k1_hw124.2.2.1
theorem k1_off66_inb : ∀ (k1_t92 : Fin k1_t92_loop.trips) (v296 : BitVec 32) (k1_t93 : Fin (k1_t93_loop v296).trips) (v315 : BitVec 32) (k1_hw124 : k1_chk124 k1_t92 v296 k1_t93 v315) (k1_t95 : Fin (k1_t95_loop v315).trips), ∀ a, (k1_off66 k1_t92 v296 k1_t93 v315 k1_t95) a + S16.size a ≤ S6144.size a := fun k1_t92 v296 k1_t93 v315 k1_hw124 k1_t95 => k1_hw124.2.2.2 k1_t95

def k1_chk126 (v339 : IVec S16 32) : Prop :=
  (∀ a x, ((![v339] : Fin 1 → IVec S16 32) a x).toNat < S51200.size a)
theorem k1_idx88_inb : ∀ (v339 : IVec S16 32) (k1_hw126 : k1_chk126 v339), ∀ a x, ((![v339] : Fin 1 → IVec S16 32) a x).toNat < S51200.size a := fun v339 k1_hw126 => k1_hw126
@[reducible] def k1_t96_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let v298 : BitVec 32 := Scalar.addi c0_i32_270 v297
  let c1_i32_273 : BitVec 32 := 1#32
  ⟨v301, v298, c1_i32_273⟩

def k1_chk122 (v296 : BitVec 32) : Prop :=
  ((k1_t93_loop v296).OK) ∧
  ((k1_t96_loop v296).OK)
theorem k1_t93_ok : ∀ (v296 : BitVec 32) (k1_hw122 : k1_chk122 v296), (k1_t93_loop v296).OK := fun v296 k1_hw122 => k1_hw122.1
theorem k1_t96_ok : ∀ (v296 : BitVec 32) (k1_hw122 : k1_chk122 v296), (k1_t96_loop v296).OK := fun v296 k1_hw122 => k1_hw122.2

def k1_chk127 (v308 : IVec S16 32) : Prop :=
  (∀ a x, ((![v308] : Fin 1 → IVec S16 32) a x).toNat < S6144.size a)
theorem k1_idx89_inb : ∀ (v308 : IVec S16 32) (k1_hw127 : k1_chk127 v308), ∀ a x, ((![v308] : Fin 1 → IVec S16 32) a x).toNat < S6144.size a := fun v308 k1_hw127 => k1_hw127
@[reducible] def k1_t97_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off67 (k1_t92 : Fin k1_t92_loop.trips) (v296 : BitVec 32) (k1_t96 : Fin (k1_t96_loop v296).trips) (v315 : BitVec 32) (k1_t97 : Fin (k1_t97_loop v315).trips) : Fin 1 → Nat :=
  let c0_i32_220 : BitVec 32 := 0#32
  let c1_i32_222 : BitVec 32 := 1#32
  let arg17 : BitVec 32 := Scf.iv c0_i32_220 c1_i32_222 k1_t92
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t96
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t97
  let c16_i32_282 : BitVec 32 := 16#32
  let v323 : BitVec 32 := Scalar.muli arg19 c16_i32_282
  let v324 : BitVec 32 := Scalar.addi v304 v323
  let v325 : Index := Scalar.indexCast v324
  ![v325.toNat]

def k1_chk129 (v339 : IVec S16 32) : Prop :=
  (∀ a x, ((![v339] : Fin 1 → IVec S16 32) a x).toNat < S51200.size a)
theorem k1_idx90_inb : ∀ (v339 : IVec S16 32) (k1_hw129 : k1_chk129 v339), ∀ a x, ((![v339] : Fin 1 → IVec S16 32) a x).toNat < S51200.size a := fun v339 k1_hw129 => k1_hw129
@[reducible] def k1_t98_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off68 (k1_t92 : Fin k1_t92_loop.trips) (v296 : BitVec 32) (k1_t96 : Fin (k1_t96_loop v296).trips) (v315 : BitVec 32) (k1_t98 : Fin (k1_t98_loop v315).trips) : Fin 1 → Nat :=
  let c0_i32_220 : BitVec 32 := 0#32
  let c1_i32_222 : BitVec 32 := 1#32
  let arg17 : BitVec 32 := Scf.iv c0_i32_220 c1_i32_222 k1_t92
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t96
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t98
  let c16_i32_282 : BitVec 32 := 16#32
  let v323 : BitVec 32 := Scalar.muli arg19 c16_i32_282
  let v324 : BitVec 32 := Scalar.addi v304 v323
  let v325 : Index := Scalar.indexCast v324
  ![v325.toNat]

def k1_chk128 (k1_t92 : Fin k1_t92_loop.trips) (v296 : BitVec 32) (k1_t96 : Fin (k1_t96_loop v296).trips) (v315 : BitVec 32) : Prop :=
  ((k1_t97_loop v315).OK) ∧
  (∀ k1_t97 : Fin (k1_t97_loop v315).trips, ∀ a, (k1_off67 k1_t92 v296 k1_t96 v315 k1_t97) a + S16.size a ≤ S6144.size a) ∧
  ((k1_t98_loop v315).OK) ∧
  (∀ k1_t98 : Fin (k1_t98_loop v315).trips, ∀ a, (k1_off68 k1_t92 v296 k1_t96 v315 k1_t98) a + S16.size a ≤ S6144.size a)
theorem k1_t97_ok : ∀ (k1_t92 : Fin k1_t92_loop.trips) (v296 : BitVec 32) (k1_t96 : Fin (k1_t96_loop v296).trips) (v315 : BitVec 32) (k1_hw128 : k1_chk128 k1_t92 v296 k1_t96 v315), (k1_t97_loop v315).OK := fun k1_t92 v296 k1_t96 v315 k1_hw128 => k1_hw128.1
theorem k1_off67_inb : ∀ (k1_t92 : Fin k1_t92_loop.trips) (v296 : BitVec 32) (k1_t96 : Fin (k1_t96_loop v296).trips) (v315 : BitVec 32) (k1_hw128 : k1_chk128 k1_t92 v296 k1_t96 v315) (k1_t97 : Fin (k1_t97_loop v315).trips), ∀ a, (k1_off67 k1_t92 v296 k1_t96 v315 k1_t97) a + S16.size a ≤ S6144.size a := fun k1_t92 v296 k1_t96 v315 k1_hw128 k1_t97 => k1_hw128.2.1 k1_t97
theorem k1_t98_ok : ∀ (k1_t92 : Fin k1_t92_loop.trips) (v296 : BitVec 32) (k1_t96 : Fin (k1_t96_loop v296).trips) (v315 : BitVec 32) (k1_hw128 : k1_chk128 k1_t92 v296 k1_t96 v315), (k1_t98_loop v315).OK := fun k1_t92 v296 k1_t96 v315 k1_hw128 => k1_hw128.2.2.1
theorem k1_off68_inb : ∀ (k1_t92 : Fin k1_t92_loop.trips) (v296 : BitVec 32) (k1_t96 : Fin (k1_t96_loop v296).trips) (v315 : BitVec 32) (k1_hw128 : k1_chk128 k1_t92 v296 k1_t96 v315) (k1_t98 : Fin (k1_t98_loop v315).trips), ∀ a, (k1_off68 k1_t92 v296 k1_t96 v315 k1_t98) a + S16.size a ≤ S6144.size a := fun k1_t92 v296 k1_t96 v315 k1_hw128 k1_t98 => k1_hw128.2.2.2 k1_t98

def k1_chk130 (v339 : IVec S16 32) : Prop :=
  (∀ a x, ((![v339] : Fin 1 → IVec S16 32) a x).toNat < S51200.size a)
theorem k1_idx91_inb : ∀ (v339 : IVec S16 32) (k1_hw130 : k1_chk130 v339), ∀ a x, ((![v339] : Fin 1 → IVec S16 32) a x).toNat < S51200.size a := fun v339 k1_hw130 => k1_hw130
@[reducible] def k1_t99_loop : Scf.Loop 32 :=
  let c0_i32_232 : BitVec 32 := 0#32
  let c16_i32_233 : BitVec 32 := 16#32
  let v251 : BitVec 32 := Scalar.addi c0_i32_232 c16_i32_233
  let c1_i32_234 : BitVec 32 := 1#32
  ⟨c0_i32_232, v251, c1_i32_234⟩

def k1_chk131 (v289 : IVec S16 32) : Prop :=
  (∀ a x, ((![v289] : Fin 1 → IVec S16 32) a x).toNat < S512.size a)
theorem k1_idx92_inb : ∀ (v289 : IVec S16 32) (k1_hw131 : k1_chk131 v289), ∀ a x, ((![v289] : Fin 1 → IVec S16 32) a x).toNat < S512.size a := fun v289 k1_hw131 => k1_hw131
@[reducible] def k1_t100_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_272 : BitVec 32 := 1#32
  ⟨c0_i32_270, v301, c1_i32_272⟩

def k1_chk133 (v308 : IVec S16 32) : Prop :=
  (∀ a x, ((![v308] : Fin 1 → IVec S16 32) a x).toNat < S6144.size a)
theorem k1_idx93_inb : ∀ (v308 : IVec S16 32) (k1_hw133 : k1_chk133 v308), ∀ a x, ((![v308] : Fin 1 → IVec S16 32) a x).toNat < S6144.size a := fun v308 k1_hw133 => k1_hw133
@[reducible] def k1_t101_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off69 (k1_t99 : Fin k1_t99_loop.trips) (v296 : BitVec 32) (k1_t100 : Fin (k1_t100_loop v296).trips) (v315 : BitVec 32) (k1_t101 : Fin (k1_t101_loop v315).trips) : Fin 1 → Nat :=
  let c0_i32_232 : BitVec 32 := 0#32
  let c1_i32_234 : BitVec 32 := 1#32
  let arg17 : BitVec 32 := Scf.iv c0_i32_232 c1_i32_234 k1_t99
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t100
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t101
  let c16_i32_282 : BitVec 32 := 16#32
  let v323 : BitVec 32 := Scalar.muli arg19 c16_i32_282
  let v324 : BitVec 32 := Scalar.addi v304 v323
  let v325 : Index := Scalar.indexCast v324
  ![v325.toNat]

def k1_chk135 (v339 : IVec S16 32) : Prop :=
  (∀ a x, ((![v339] : Fin 1 → IVec S16 32) a x).toNat < S51200.size a)
theorem k1_idx94_inb : ∀ (v339 : IVec S16 32) (k1_hw135 : k1_chk135 v339), ∀ a x, ((![v339] : Fin 1 → IVec S16 32) a x).toNat < S51200.size a := fun v339 k1_hw135 => k1_hw135
@[reducible] def k1_t102_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off70 (k1_t99 : Fin k1_t99_loop.trips) (v296 : BitVec 32) (k1_t100 : Fin (k1_t100_loop v296).trips) (v315 : BitVec 32) (k1_t102 : Fin (k1_t102_loop v315).trips) : Fin 1 → Nat :=
  let c0_i32_232 : BitVec 32 := 0#32
  let c1_i32_234 : BitVec 32 := 1#32
  let arg17 : BitVec 32 := Scf.iv c0_i32_232 c1_i32_234 k1_t99
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t100
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t102
  let c16_i32_282 : BitVec 32 := 16#32
  let v323 : BitVec 32 := Scalar.muli arg19 c16_i32_282
  let v324 : BitVec 32 := Scalar.addi v304 v323
  let v325 : Index := Scalar.indexCast v324
  ![v325.toNat]

def k1_chk134 (k1_t99 : Fin k1_t99_loop.trips) (v296 : BitVec 32) (k1_t100 : Fin (k1_t100_loop v296).trips) (v315 : BitVec 32) : Prop :=
  ((k1_t101_loop v315).OK) ∧
  (∀ k1_t101 : Fin (k1_t101_loop v315).trips, ∀ a, (k1_off69 k1_t99 v296 k1_t100 v315 k1_t101) a + S16.size a ≤ S6144.size a) ∧
  ((k1_t102_loop v315).OK) ∧
  (∀ k1_t102 : Fin (k1_t102_loop v315).trips, ∀ a, (k1_off70 k1_t99 v296 k1_t100 v315 k1_t102) a + S16.size a ≤ S6144.size a)
theorem k1_t101_ok : ∀ (k1_t99 : Fin k1_t99_loop.trips) (v296 : BitVec 32) (k1_t100 : Fin (k1_t100_loop v296).trips) (v315 : BitVec 32) (k1_hw134 : k1_chk134 k1_t99 v296 k1_t100 v315), (k1_t101_loop v315).OK := fun k1_t99 v296 k1_t100 v315 k1_hw134 => k1_hw134.1
theorem k1_off69_inb : ∀ (k1_t99 : Fin k1_t99_loop.trips) (v296 : BitVec 32) (k1_t100 : Fin (k1_t100_loop v296).trips) (v315 : BitVec 32) (k1_hw134 : k1_chk134 k1_t99 v296 k1_t100 v315) (k1_t101 : Fin (k1_t101_loop v315).trips), ∀ a, (k1_off69 k1_t99 v296 k1_t100 v315 k1_t101) a + S16.size a ≤ S6144.size a := fun k1_t99 v296 k1_t100 v315 k1_hw134 k1_t101 => k1_hw134.2.1 k1_t101
theorem k1_t102_ok : ∀ (k1_t99 : Fin k1_t99_loop.trips) (v296 : BitVec 32) (k1_t100 : Fin (k1_t100_loop v296).trips) (v315 : BitVec 32) (k1_hw134 : k1_chk134 k1_t99 v296 k1_t100 v315), (k1_t102_loop v315).OK := fun k1_t99 v296 k1_t100 v315 k1_hw134 => k1_hw134.2.2.1
theorem k1_off70_inb : ∀ (k1_t99 : Fin k1_t99_loop.trips) (v296 : BitVec 32) (k1_t100 : Fin (k1_t100_loop v296).trips) (v315 : BitVec 32) (k1_hw134 : k1_chk134 k1_t99 v296 k1_t100 v315) (k1_t102 : Fin (k1_t102_loop v315).trips), ∀ a, (k1_off70 k1_t99 v296 k1_t100 v315 k1_t102) a + S16.size a ≤ S6144.size a := fun k1_t99 v296 k1_t100 v315 k1_hw134 k1_t102 => k1_hw134.2.2.2 k1_t102

def k1_chk136 (v339 : IVec S16 32) : Prop :=
  (∀ a x, ((![v339] : Fin 1 → IVec S16 32) a x).toNat < S51200.size a)
theorem k1_idx95_inb : ∀ (v339 : IVec S16 32) (k1_hw136 : k1_chk136 v339), ∀ a x, ((![v339] : Fin 1 → IVec S16 32) a x).toNat < S51200.size a := fun v339 k1_hw136 => k1_hw136
@[reducible] def k1_t103_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let v298 : BitVec 32 := Scalar.addi c0_i32_270 v297
  let c1_i32_273 : BitVec 32 := 1#32
  ⟨v301, v298, c1_i32_273⟩

def k1_chk132 (v296 : BitVec 32) : Prop :=
  ((k1_t100_loop v296).OK) ∧
  ((k1_t103_loop v296).OK)
theorem k1_t100_ok : ∀ (v296 : BitVec 32) (k1_hw132 : k1_chk132 v296), (k1_t100_loop v296).OK := fun v296 k1_hw132 => k1_hw132.1
theorem k1_t103_ok : ∀ (v296 : BitVec 32) (k1_hw132 : k1_chk132 v296), (k1_t103_loop v296).OK := fun v296 k1_hw132 => k1_hw132.2

def k1_chk137 (v308 : IVec S16 32) : Prop :=
  (∀ a x, ((![v308] : Fin 1 → IVec S16 32) a x).toNat < S6144.size a)
theorem k1_idx96_inb : ∀ (v308 : IVec S16 32) (k1_hw137 : k1_chk137 v308), ∀ a x, ((![v308] : Fin 1 → IVec S16 32) a x).toNat < S6144.size a := fun v308 k1_hw137 => k1_hw137
@[reducible] def k1_t104_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off71 (k1_t99 : Fin k1_t99_loop.trips) (v296 : BitVec 32) (k1_t103 : Fin (k1_t103_loop v296).trips) (v315 : BitVec 32) (k1_t104 : Fin (k1_t104_loop v315).trips) : Fin 1 → Nat :=
  let c0_i32_232 : BitVec 32 := 0#32
  let c1_i32_234 : BitVec 32 := 1#32
  let arg17 : BitVec 32 := Scf.iv c0_i32_232 c1_i32_234 k1_t99
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t103
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t104
  let c16_i32_282 : BitVec 32 := 16#32
  let v323 : BitVec 32 := Scalar.muli arg19 c16_i32_282
  let v324 : BitVec 32 := Scalar.addi v304 v323
  let v325 : Index := Scalar.indexCast v324
  ![v325.toNat]

def k1_chk139 (v339 : IVec S16 32) : Prop :=
  (∀ a x, ((![v339] : Fin 1 → IVec S16 32) a x).toNat < S51200.size a)
theorem k1_idx97_inb : ∀ (v339 : IVec S16 32) (k1_hw139 : k1_chk139 v339), ∀ a x, ((![v339] : Fin 1 → IVec S16 32) a x).toNat < S51200.size a := fun v339 k1_hw139 => k1_hw139
@[reducible] def k1_t105_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off72 (k1_t99 : Fin k1_t99_loop.trips) (v296 : BitVec 32) (k1_t103 : Fin (k1_t103_loop v296).trips) (v315 : BitVec 32) (k1_t105 : Fin (k1_t105_loop v315).trips) : Fin 1 → Nat :=
  let c0_i32_232 : BitVec 32 := 0#32
  let c1_i32_234 : BitVec 32 := 1#32
  let arg17 : BitVec 32 := Scf.iv c0_i32_232 c1_i32_234 k1_t99
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t103
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t105
  let c16_i32_282 : BitVec 32 := 16#32
  let v323 : BitVec 32 := Scalar.muli arg19 c16_i32_282
  let v324 : BitVec 32 := Scalar.addi v304 v323
  let v325 : Index := Scalar.indexCast v324
  ![v325.toNat]

def k1_chk138 (k1_t99 : Fin k1_t99_loop.trips) (v296 : BitVec 32) (k1_t103 : Fin (k1_t103_loop v296).trips) (v315 : BitVec 32) : Prop :=
  ((k1_t104_loop v315).OK) ∧
  (∀ k1_t104 : Fin (k1_t104_loop v315).trips, ∀ a, (k1_off71 k1_t99 v296 k1_t103 v315 k1_t104) a + S16.size a ≤ S6144.size a) ∧
  ((k1_t105_loop v315).OK) ∧
  (∀ k1_t105 : Fin (k1_t105_loop v315).trips, ∀ a, (k1_off72 k1_t99 v296 k1_t103 v315 k1_t105) a + S16.size a ≤ S6144.size a)
theorem k1_t104_ok : ∀ (k1_t99 : Fin k1_t99_loop.trips) (v296 : BitVec 32) (k1_t103 : Fin (k1_t103_loop v296).trips) (v315 : BitVec 32) (k1_hw138 : k1_chk138 k1_t99 v296 k1_t103 v315), (k1_t104_loop v315).OK := fun k1_t99 v296 k1_t103 v315 k1_hw138 => k1_hw138.1
theorem k1_off71_inb : ∀ (k1_t99 : Fin k1_t99_loop.trips) (v296 : BitVec 32) (k1_t103 : Fin (k1_t103_loop v296).trips) (v315 : BitVec 32) (k1_hw138 : k1_chk138 k1_t99 v296 k1_t103 v315) (k1_t104 : Fin (k1_t104_loop v315).trips), ∀ a, (k1_off71 k1_t99 v296 k1_t103 v315 k1_t104) a + S16.size a ≤ S6144.size a := fun k1_t99 v296 k1_t103 v315 k1_hw138 k1_t104 => k1_hw138.2.1 k1_t104
theorem k1_t105_ok : ∀ (k1_t99 : Fin k1_t99_loop.trips) (v296 : BitVec 32) (k1_t103 : Fin (k1_t103_loop v296).trips) (v315 : BitVec 32) (k1_hw138 : k1_chk138 k1_t99 v296 k1_t103 v315), (k1_t105_loop v315).OK := fun k1_t99 v296 k1_t103 v315 k1_hw138 => k1_hw138.2.2.1
theorem k1_off72_inb : ∀ (k1_t99 : Fin k1_t99_loop.trips) (v296 : BitVec 32) (k1_t103 : Fin (k1_t103_loop v296).trips) (v315 : BitVec 32) (k1_hw138 : k1_chk138 k1_t99 v296 k1_t103 v315) (k1_t105 : Fin (k1_t105_loop v315).trips), ∀ a, (k1_off72 k1_t99 v296 k1_t103 v315 k1_t105) a + S16.size a ≤ S6144.size a := fun k1_t99 v296 k1_t103 v315 k1_hw138 k1_t105 => k1_hw138.2.2.2 k1_t105

def k1_chk140 (v339 : IVec S16 32) : Prop :=
  (∀ a x, ((![v339] : Fin 1 → IVec S16 32) a x).toNat < S51200.size a)
theorem k1_idx98_inb : ∀ (v339 : IVec S16 32) (k1_hw140 : k1_chk140 v339), ∀ a x, ((![v339] : Fin 1 → IVec S16 32) a x).toNat < S51200.size a := fun v339 k1_hw140 => k1_hw140
@[reducible] def k1_t106_loop : Scf.Loop 32 :=
  let c0_i32_241 : BitVec 32 := 0#32
  let c800_i32_242 : BitVec 32 := 800#32
  let v260 : BitVec 32 := Scalar.addi c0_i32_241 c800_i32_242
  let c1_i32_243 : BitVec 32 := 1#32
  ⟨c0_i32_241, v260, c1_i32_243⟩
def k1_off73 (k1_t106 : Fin k1_t106_loop.trips) : Fin 1 → Nat :=
  let c0_i32_241 : BitVec 32 := 0#32
  let c1_i32_243 : BitVec 32 := 1#32
  let arg17 : BitVec 32 := Scf.iv c0_i32_241 c1_i32_243 k1_t106
  let c64_i32 : BitVec 32 := 64#32
  let v286 : BitVec 32 := Scalar.muli arg17 c64_i32
  let v287 : Index := Scalar.indexCast v286
  ![v287.toNat]
def k1_off74 (k1_t106 : Fin k1_t106_loop.trips) (c16_i32_269 : BitVec 32) : Fin 1 → Nat :=
  let c0_i32_241 : BitVec 32 := 0#32
  let c1_i32_243 : BitVec 32 := 1#32
  let arg17 : BitVec 32 := Scf.iv c0_i32_241 c1_i32_243 k1_t106
  let c64_i32_268 : BitVec 32 := 64#32
  let v289 : BitVec 32 := Scalar.muli arg17 c64_i32_268
  let v290 : BitVec 32 := Scalar.addi v289 c16_i32_269
  let v291 : Index := Scalar.indexCast v290
  ![v291.toNat]
@[reducible] def k1_t107_loop : Scf.Loop 32 :=
  let c0_i32_254 : BitVec 32 := 0#32
  let c16_i32_255 : BitVec 32 := 16#32
  let v273 : BitVec 32 := Scalar.addi c0_i32_254 c16_i32_255
  let c1_i32_256 : BitVec 32 := 1#32
  ⟨c0_i32_254, v273, c1_i32_256⟩

def k1_chk141 (v289 : IVec S16 32) : Prop :=
  (∀ a x, ((![v289] : Fin 1 → IVec S16 32) a x).toNat < S512.size a)
theorem k1_idx99_inb : ∀ (v289 : IVec S16 32) (k1_hw141 : k1_chk141 v289), ∀ a x, ((![v289] : Fin 1 → IVec S16 32) a x).toNat < S512.size a := fun v289 k1_hw141 => k1_hw141
@[reducible] def k1_t108_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_272 : BitVec 32 := 1#32
  ⟨c0_i32_270, v301, c1_i32_272⟩

def k1_chk143 (v308 : IVec S16 32) : Prop :=
  (∀ a x, ((![v308] : Fin 1 → IVec S16 32) a x).toNat < S6144.size a)
theorem k1_idx100_inb : ∀ (v308 : IVec S16 32) (k1_hw143 : k1_chk143 v308), ∀ a x, ((![v308] : Fin 1 → IVec S16 32) a x).toNat < S6144.size a := fun v308 k1_hw143 => k1_hw143
@[reducible] def k1_t109_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off75 (k1_t107 : Fin k1_t107_loop.trips) (v296 : BitVec 32) (k1_t108 : Fin (k1_t108_loop v296).trips) (v315 : BitVec 32) (k1_t109 : Fin (k1_t109_loop v315).trips) : Fin 1 → Nat :=
  let c0_i32_254 : BitVec 32 := 0#32
  let c1_i32_256 : BitVec 32 := 1#32
  let arg17 : BitVec 32 := Scf.iv c0_i32_254 c1_i32_256 k1_t107
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t108
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t109
  let c16_i32_282 : BitVec 32 := 16#32
  let v323 : BitVec 32 := Scalar.muli arg19 c16_i32_282
  let v324 : BitVec 32 := Scalar.addi v304 v323
  let v325 : Index := Scalar.indexCast v324
  ![v325.toNat]

def k1_chk145 (v339 : IVec S16 32) : Prop :=
  (∀ a x, ((![v339] : Fin 1 → IVec S16 32) a x).toNat < S51200.size a)
theorem k1_idx101_inb : ∀ (v339 : IVec S16 32) (k1_hw145 : k1_chk145 v339), ∀ a x, ((![v339] : Fin 1 → IVec S16 32) a x).toNat < S51200.size a := fun v339 k1_hw145 => k1_hw145
@[reducible] def k1_t110_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off76 (k1_t107 : Fin k1_t107_loop.trips) (v296 : BitVec 32) (k1_t108 : Fin (k1_t108_loop v296).trips) (v315 : BitVec 32) (k1_t110 : Fin (k1_t110_loop v315).trips) : Fin 1 → Nat :=
  let c0_i32_254 : BitVec 32 := 0#32
  let c1_i32_256 : BitVec 32 := 1#32
  let arg17 : BitVec 32 := Scf.iv c0_i32_254 c1_i32_256 k1_t107
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t108
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t110
  let c16_i32_282 : BitVec 32 := 16#32
  let v323 : BitVec 32 := Scalar.muli arg19 c16_i32_282
  let v324 : BitVec 32 := Scalar.addi v304 v323
  let v325 : Index := Scalar.indexCast v324
  ![v325.toNat]

def k1_chk144 (k1_t107 : Fin k1_t107_loop.trips) (v296 : BitVec 32) (k1_t108 : Fin (k1_t108_loop v296).trips) (v315 : BitVec 32) : Prop :=
  ((k1_t109_loop v315).OK) ∧
  (∀ k1_t109 : Fin (k1_t109_loop v315).trips, ∀ a, (k1_off75 k1_t107 v296 k1_t108 v315 k1_t109) a + S16.size a ≤ S6144.size a) ∧
  ((k1_t110_loop v315).OK) ∧
  (∀ k1_t110 : Fin (k1_t110_loop v315).trips, ∀ a, (k1_off76 k1_t107 v296 k1_t108 v315 k1_t110) a + S16.size a ≤ S6144.size a)
theorem k1_t109_ok : ∀ (k1_t107 : Fin k1_t107_loop.trips) (v296 : BitVec 32) (k1_t108 : Fin (k1_t108_loop v296).trips) (v315 : BitVec 32) (k1_hw144 : k1_chk144 k1_t107 v296 k1_t108 v315), (k1_t109_loop v315).OK := fun k1_t107 v296 k1_t108 v315 k1_hw144 => k1_hw144.1
theorem k1_off75_inb : ∀ (k1_t107 : Fin k1_t107_loop.trips) (v296 : BitVec 32) (k1_t108 : Fin (k1_t108_loop v296).trips) (v315 : BitVec 32) (k1_hw144 : k1_chk144 k1_t107 v296 k1_t108 v315) (k1_t109 : Fin (k1_t109_loop v315).trips), ∀ a, (k1_off75 k1_t107 v296 k1_t108 v315 k1_t109) a + S16.size a ≤ S6144.size a := fun k1_t107 v296 k1_t108 v315 k1_hw144 k1_t109 => k1_hw144.2.1 k1_t109
theorem k1_t110_ok : ∀ (k1_t107 : Fin k1_t107_loop.trips) (v296 : BitVec 32) (k1_t108 : Fin (k1_t108_loop v296).trips) (v315 : BitVec 32) (k1_hw144 : k1_chk144 k1_t107 v296 k1_t108 v315), (k1_t110_loop v315).OK := fun k1_t107 v296 k1_t108 v315 k1_hw144 => k1_hw144.2.2.1
theorem k1_off76_inb : ∀ (k1_t107 : Fin k1_t107_loop.trips) (v296 : BitVec 32) (k1_t108 : Fin (k1_t108_loop v296).trips) (v315 : BitVec 32) (k1_hw144 : k1_chk144 k1_t107 v296 k1_t108 v315) (k1_t110 : Fin (k1_t110_loop v315).trips), ∀ a, (k1_off76 k1_t107 v296 k1_t108 v315 k1_t110) a + S16.size a ≤ S6144.size a := fun k1_t107 v296 k1_t108 v315 k1_hw144 k1_t110 => k1_hw144.2.2.2 k1_t110

def k1_chk146 (v339 : IVec S16 32) : Prop :=
  (∀ a x, ((![v339] : Fin 1 → IVec S16 32) a x).toNat < S51200.size a)
theorem k1_idx102_inb : ∀ (v339 : IVec S16 32) (k1_hw146 : k1_chk146 v339), ∀ a x, ((![v339] : Fin 1 → IVec S16 32) a x).toNat < S51200.size a := fun v339 k1_hw146 => k1_hw146
@[reducible] def k1_t111_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let v298 : BitVec 32 := Scalar.addi c0_i32_270 v297
  let c1_i32_273 : BitVec 32 := 1#32
  ⟨v301, v298, c1_i32_273⟩

def k1_chk142 (v296 : BitVec 32) : Prop :=
  ((k1_t108_loop v296).OK) ∧
  ((k1_t111_loop v296).OK)
theorem k1_t108_ok : ∀ (v296 : BitVec 32) (k1_hw142 : k1_chk142 v296), (k1_t108_loop v296).OK := fun v296 k1_hw142 => k1_hw142.1
theorem k1_t111_ok : ∀ (v296 : BitVec 32) (k1_hw142 : k1_chk142 v296), (k1_t111_loop v296).OK := fun v296 k1_hw142 => k1_hw142.2

def k1_chk147 (v308 : IVec S16 32) : Prop :=
  (∀ a x, ((![v308] : Fin 1 → IVec S16 32) a x).toNat < S6144.size a)
theorem k1_idx103_inb : ∀ (v308 : IVec S16 32) (k1_hw147 : k1_chk147 v308), ∀ a x, ((![v308] : Fin 1 → IVec S16 32) a x).toNat < S6144.size a := fun v308 k1_hw147 => k1_hw147
@[reducible] def k1_t112_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off77 (k1_t107 : Fin k1_t107_loop.trips) (v296 : BitVec 32) (k1_t111 : Fin (k1_t111_loop v296).trips) (v315 : BitVec 32) (k1_t112 : Fin (k1_t112_loop v315).trips) : Fin 1 → Nat :=
  let c0_i32_254 : BitVec 32 := 0#32
  let c1_i32_256 : BitVec 32 := 1#32
  let arg17 : BitVec 32 := Scf.iv c0_i32_254 c1_i32_256 k1_t107
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t111
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t112
  let c16_i32_282 : BitVec 32 := 16#32
  let v323 : BitVec 32 := Scalar.muli arg19 c16_i32_282
  let v324 : BitVec 32 := Scalar.addi v304 v323
  let v325 : Index := Scalar.indexCast v324
  ![v325.toNat]

def k1_chk149 (v339 : IVec S16 32) : Prop :=
  (∀ a x, ((![v339] : Fin 1 → IVec S16 32) a x).toNat < S51200.size a)
theorem k1_idx104_inb : ∀ (v339 : IVec S16 32) (k1_hw149 : k1_chk149 v339), ∀ a x, ((![v339] : Fin 1 → IVec S16 32) a x).toNat < S51200.size a := fun v339 k1_hw149 => k1_hw149
@[reducible] def k1_t113_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off78 (k1_t107 : Fin k1_t107_loop.trips) (v296 : BitVec 32) (k1_t111 : Fin (k1_t111_loop v296).trips) (v315 : BitVec 32) (k1_t113 : Fin (k1_t113_loop v315).trips) : Fin 1 → Nat :=
  let c0_i32_254 : BitVec 32 := 0#32
  let c1_i32_256 : BitVec 32 := 1#32
  let arg17 : BitVec 32 := Scf.iv c0_i32_254 c1_i32_256 k1_t107
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t111
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t113
  let c16_i32_282 : BitVec 32 := 16#32
  let v323 : BitVec 32 := Scalar.muli arg19 c16_i32_282
  let v324 : BitVec 32 := Scalar.addi v304 v323
  let v325 : Index := Scalar.indexCast v324
  ![v325.toNat]

def k1_chk148 (k1_t107 : Fin k1_t107_loop.trips) (v296 : BitVec 32) (k1_t111 : Fin (k1_t111_loop v296).trips) (v315 : BitVec 32) : Prop :=
  ((k1_t112_loop v315).OK) ∧
  (∀ k1_t112 : Fin (k1_t112_loop v315).trips, ∀ a, (k1_off77 k1_t107 v296 k1_t111 v315 k1_t112) a + S16.size a ≤ S6144.size a) ∧
  ((k1_t113_loop v315).OK) ∧
  (∀ k1_t113 : Fin (k1_t113_loop v315).trips, ∀ a, (k1_off78 k1_t107 v296 k1_t111 v315 k1_t113) a + S16.size a ≤ S6144.size a)
theorem k1_t112_ok : ∀ (k1_t107 : Fin k1_t107_loop.trips) (v296 : BitVec 32) (k1_t111 : Fin (k1_t111_loop v296).trips) (v315 : BitVec 32) (k1_hw148 : k1_chk148 k1_t107 v296 k1_t111 v315), (k1_t112_loop v315).OK := fun k1_t107 v296 k1_t111 v315 k1_hw148 => k1_hw148.1
theorem k1_off77_inb : ∀ (k1_t107 : Fin k1_t107_loop.trips) (v296 : BitVec 32) (k1_t111 : Fin (k1_t111_loop v296).trips) (v315 : BitVec 32) (k1_hw148 : k1_chk148 k1_t107 v296 k1_t111 v315) (k1_t112 : Fin (k1_t112_loop v315).trips), ∀ a, (k1_off77 k1_t107 v296 k1_t111 v315 k1_t112) a + S16.size a ≤ S6144.size a := fun k1_t107 v296 k1_t111 v315 k1_hw148 k1_t112 => k1_hw148.2.1 k1_t112
theorem k1_t113_ok : ∀ (k1_t107 : Fin k1_t107_loop.trips) (v296 : BitVec 32) (k1_t111 : Fin (k1_t111_loop v296).trips) (v315 : BitVec 32) (k1_hw148 : k1_chk148 k1_t107 v296 k1_t111 v315), (k1_t113_loop v315).OK := fun k1_t107 v296 k1_t111 v315 k1_hw148 => k1_hw148.2.2.1
theorem k1_off78_inb : ∀ (k1_t107 : Fin k1_t107_loop.trips) (v296 : BitVec 32) (k1_t111 : Fin (k1_t111_loop v296).trips) (v315 : BitVec 32) (k1_hw148 : k1_chk148 k1_t107 v296 k1_t111 v315) (k1_t113 : Fin (k1_t113_loop v315).trips), ∀ a, (k1_off78 k1_t107 v296 k1_t111 v315 k1_t113) a + S16.size a ≤ S6144.size a := fun k1_t107 v296 k1_t111 v315 k1_hw148 k1_t113 => k1_hw148.2.2.2 k1_t113

def k1_chk150 (v339 : IVec S16 32) : Prop :=
  (∀ a x, ((![v339] : Fin 1 → IVec S16 32) a x).toNat < S51200.size a)
theorem k1_idx105_inb : ∀ (v339 : IVec S16 32) (k1_hw150 : k1_chk150 v339), ∀ a x, ((![v339] : Fin 1 → IVec S16 32) a x).toNat < S51200.size a := fun v339 k1_hw150 => k1_hw150
@[reducible] def k1_t114_loop : Scf.Loop 32 :=
  let c0_i32_263 : BitVec 32 := 0#32
  let c16_i32_264 : BitVec 32 := 16#32
  let v278 : BitVec 32 := Scalar.addi c0_i32_263 c16_i32_264
  let c1_i32_265 : BitVec 32 := 1#32
  ⟨c0_i32_263, v278, c1_i32_265⟩

def k1_chk151 (v289 : IVec S16 32) : Prop :=
  (∀ a x, ((![v289] : Fin 1 → IVec S16 32) a x).toNat < S512.size a)
theorem k1_idx106_inb : ∀ (v289 : IVec S16 32) (k1_hw151 : k1_chk151 v289), ∀ a x, ((![v289] : Fin 1 → IVec S16 32) a x).toNat < S512.size a := fun v289 k1_hw151 => k1_hw151
@[reducible] def k1_t115_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_272 : BitVec 32 := 1#32
  ⟨c0_i32_270, v301, c1_i32_272⟩

def k1_chk153 (v308 : IVec S16 32) : Prop :=
  (∀ a x, ((![v308] : Fin 1 → IVec S16 32) a x).toNat < S6144.size a)
theorem k1_idx107_inb : ∀ (v308 : IVec S16 32) (k1_hw153 : k1_chk153 v308), ∀ a x, ((![v308] : Fin 1 → IVec S16 32) a x).toNat < S6144.size a := fun v308 k1_hw153 => k1_hw153
@[reducible] def k1_t116_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off79 (k1_t114 : Fin k1_t114_loop.trips) (v296 : BitVec 32) (k1_t115 : Fin (k1_t115_loop v296).trips) (v315 : BitVec 32) (k1_t116 : Fin (k1_t116_loop v315).trips) : Fin 1 → Nat :=
  let c0_i32_263 : BitVec 32 := 0#32
  let c1_i32_265 : BitVec 32 := 1#32
  let arg17 : BitVec 32 := Scf.iv c0_i32_263 c1_i32_265 k1_t114
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t115
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t116
  let c16_i32_282 : BitVec 32 := 16#32
  let v323 : BitVec 32 := Scalar.muli arg19 c16_i32_282
  let v324 : BitVec 32 := Scalar.addi v304 v323
  let v325 : Index := Scalar.indexCast v324
  ![v325.toNat]

def k1_chk155 (v339 : IVec S16 32) : Prop :=
  (∀ a x, ((![v339] : Fin 1 → IVec S16 32) a x).toNat < S51200.size a)
theorem k1_idx108_inb : ∀ (v339 : IVec S16 32) (k1_hw155 : k1_chk155 v339), ∀ a x, ((![v339] : Fin 1 → IVec S16 32) a x).toNat < S51200.size a := fun v339 k1_hw155 => k1_hw155
@[reducible] def k1_t117_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off80 (k1_t114 : Fin k1_t114_loop.trips) (v296 : BitVec 32) (k1_t115 : Fin (k1_t115_loop v296).trips) (v315 : BitVec 32) (k1_t117 : Fin (k1_t117_loop v315).trips) : Fin 1 → Nat :=
  let c0_i32_263 : BitVec 32 := 0#32
  let c1_i32_265 : BitVec 32 := 1#32
  let arg17 : BitVec 32 := Scf.iv c0_i32_263 c1_i32_265 k1_t114
  let c3_i32_274 : BitVec 32 := 3#32
  let v302 : BitVec 32 := Scalar.muli arg17 c3_i32_274
  let c0_i32_270 : BitVec 32 := 0#32
  let c1_i32_272 : BitVec 32 := 1#32
  let arg18 : BitVec 32 := Scf.iv c0_i32_270 c1_i32_272 k1_t115
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t117
  let c16_i32_282 : BitVec 32 := 16#32
  let v323 : BitVec 32 := Scalar.muli arg19 c16_i32_282
  let v324 : BitVec 32 := Scalar.addi v304 v323
  let v325 : Index := Scalar.indexCast v324
  ![v325.toNat]

def k1_chk154 (k1_t114 : Fin k1_t114_loop.trips) (v296 : BitVec 32) (k1_t115 : Fin (k1_t115_loop v296).trips) (v315 : BitVec 32) : Prop :=
  ((k1_t116_loop v315).OK) ∧
  (∀ k1_t116 : Fin (k1_t116_loop v315).trips, ∀ a, (k1_off79 k1_t114 v296 k1_t115 v315 k1_t116) a + S16.size a ≤ S6144.size a) ∧
  ((k1_t117_loop v315).OK) ∧
  (∀ k1_t117 : Fin (k1_t117_loop v315).trips, ∀ a, (k1_off80 k1_t114 v296 k1_t115 v315 k1_t117) a + S16.size a ≤ S6144.size a)
theorem k1_t116_ok : ∀ (k1_t114 : Fin k1_t114_loop.trips) (v296 : BitVec 32) (k1_t115 : Fin (k1_t115_loop v296).trips) (v315 : BitVec 32) (k1_hw154 : k1_chk154 k1_t114 v296 k1_t115 v315), (k1_t116_loop v315).OK := fun k1_t114 v296 k1_t115 v315 k1_hw154 => k1_hw154.1
theorem k1_off79_inb : ∀ (k1_t114 : Fin k1_t114_loop.trips) (v296 : BitVec 32) (k1_t115 : Fin (k1_t115_loop v296).trips) (v315 : BitVec 32) (k1_hw154 : k1_chk154 k1_t114 v296 k1_t115 v315) (k1_t116 : Fin (k1_t116_loop v315).trips), ∀ a, (k1_off79 k1_t114 v296 k1_t115 v315 k1_t116) a + S16.size a ≤ S6144.size a := fun k1_t114 v296 k1_t115 v315 k1_hw154 k1_t116 => k1_hw154.2.1 k1_t116
theorem k1_t117_ok : ∀ (k1_t114 : Fin k1_t114_loop.trips) (v296 : BitVec 32) (k1_t115 : Fin (k1_t115_loop v296).trips) (v315 : BitVec 32) (k1_hw154 : k1_chk154 k1_t114 v296 k1_t115 v315), (k1_t117_loop v315).OK := fun k1_t114 v296 k1_t115 v315 k1_hw154 => k1_hw154.2.2.1
theorem k1_off80_inb : ∀ (k1_t114 : Fin k1_t114_loop.trips) (v296 : BitVec 32) (k1_t115 : Fin (k1_t115_loop v296).trips) (v315 : BitVec 32) (k1_hw154 : k1_chk154 k1_t114 v296 k1_t115 v315) (k1_t117 : Fin (k1_t117_loop v315).trips), ∀ a, (k1_off80 k1_t114 v296 k1_t115 v315 k1_t117) a + S16.size a ≤ S6144.size a := fun k1_t114 v296 k1_t115 v315 k1_hw154 k1_t117 => k1_hw154.2.2.2 k1_t117

def k1_chk156 (v339 : IVec S16 32) : Prop :=
  (∀ a x, ((![v339] : Fin 1 → IVec S16 32) a x).toNat < S51200.size a)
theorem k1_idx109_inb : ∀ (v339 : IVec S16 32) (k1_hw156 : k1_chk156 v339), ∀ a x, ((![v339] : Fin 1 → IVec S16 32) a x).toNat < S51200.size a := fun v339 k1_hw156 => k1_hw156
@[reducible] def k1_t118_loop (v296 : BitVec 32) : Scf.Loop 32 :=
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let v298 : BitVec 32 := Scalar.addi c0_i32_270 v297
  let c1_i32_273 : BitVec 32 := 1#32
  ⟨v301, v298, c1_i32_273⟩

def k1_chk152 (v296 : BitVec 32) : Prop :=
  ((k1_t115_loop v296).OK) ∧
  ((k1_t118_loop v296).OK)
theorem k1_t115_ok : ∀ (v296 : BitVec 32) (k1_hw152 : k1_chk152 v296), (k1_t115_loop v296).OK := fun v296 k1_hw152 => k1_hw152.1
theorem k1_t118_ok : ∀ (v296 : BitVec 32) (k1_hw152 : k1_chk152 v296), (k1_t118_loop v296).OK := fun v296 k1_hw152 => k1_hw152.2

def k1_chk157 (v308 : IVec S16 32) : Prop :=
  (∀ a x, ((![v308] : Fin 1 → IVec S16 32) a x).toNat < S6144.size a)
theorem k1_idx110_inb : ∀ (v308 : IVec S16 32) (k1_hw157 : k1_chk157 v308), ∀ a x, ((![v308] : Fin 1 → IVec S16 32) a x).toNat < S6144.size a := fun v308 k1_hw157 => k1_hw157
@[reducible] def k1_t119_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_280 : BitVec 32 := 1#32
  ⟨c0_i32_278, v322, c1_i32_280⟩

def k1_off81 (k1_t114 : Fin k1_t114_loop.trips) (v296 : BitVec 32) (k1_t118 : Fin (k1_t118_loop v296).trips) (v315 : BitVec 32) (k1_t119 : Fin (k1_t119_loop v315).trips) : Fin 1 → Nat :=
  let c0_i32_263 : BitVec 32 := 0#32
  let c1_i32_265 : BitVec 32 := 1#32
  let arg17 : BitVec 32 := Scf.iv c0_i32_263 c1_i32_265 k1_t114
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t118
  let v303 : BitVec 32 := Scalar.addi v302 arg18
  let c128_i32 : BitVec 32 := 128#32
  let v304 : BitVec 32 := Scalar.muli v303 c128_i32
  let c0_i32_278 : BitVec 32 := 0#32
  let c1_i32_280 : BitVec 32 := 1#32
  let arg19 : BitVec 32 := Scf.iv c0_i32_278 c1_i32_280 k1_t119
  let c16_i32_282 : BitVec 32 := 16#32
  let v323 : BitVec 32 := Scalar.muli arg19 c16_i32_282
  let v324 : BitVec 32 := Scalar.addi v304 v323
  let v325 : Index := Scalar.indexCast v324
  ![v325.toNat]

def k1_chk159 (v339 : IVec S16 32) : Prop :=
  (∀ a x, ((![v339] : Fin 1 → IVec S16 32) a x).toNat < S51200.size a)
theorem k1_idx111_inb : ∀ (v339 : IVec S16 32) (k1_hw159 : k1_chk159 v339), ∀ a x, ((![v339] : Fin 1 → IVec S16 32) a x).toNat < S51200.size a := fun v339 k1_hw159 => k1_hw159
@[reducible] def k1_t120_loop (v315 : BitVec 32) : Scf.Loop 32 :=
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let v319 : BitVec 32 := Scalar.addi c0_i32_278 v318
  let c1_i32_281 : BitVec 32 := 1#32
  ⟨v322, v319, c1_i32_281⟩
def k1_off82 (k1_t114 : Fin k1_t114_loop.trips) (v296 : BitVec 32) (k1_t118 : Fin (k1_t118_loop v296).trips) (v315 : BitVec 32) (k1_t120 : Fin (k1_t120_loop v315).trips) : Fin 1 → Nat :=
  let c0_i32_263 : BitVec 32 := 0#32
  let c1_i32_265 : BitVec 32 := 1#32
  let arg17 : BitVec 32 := Scf.iv c0_i32_263 c1_i32_265 k1_t114
  let c3_i32_274 : BitVec 32 := 3#32
  let v302 : BitVec 32 := Scalar.muli arg17 c3_i32_274
  let c0_i32_270 : BitVec 32 := 0#32
  let v297 : BitVec 32 := Scalar.subi v296 c0_i32_270
  let c1_i32_271 : BitVec 32 := 1#32
  let v299 : BitVec 32 := Scalar.divsi v297 c1_i32_271
  let v300 : BitVec 32 := Scalar.muli v299 c1_i32_271
  let v301 : BitVec 32 := Scalar.addi c0_i32_270 v300
  let c1_i32_273 : BitVec 32 := 1#32
  let arg18 : BitVec 32 := Scf.iv v301 c1_i32_273 k1_t118
  let v303 : BitVec 32 := Scalar.addi v302 arg18
  let c128_i32 : BitVec 32 := 128#32
  let v304 : BitVec 32 := Scalar.muli v303 c128_i32
  let c0_i32_278 : BitVec 32 := 0#32
  let c15_i32 : BitVec 32 := 15#32
  let v316 : BitVec 32 := Scalar.addi v315 c15_i32
  let c4_i32_277 : BitVec 32 := 4#32
  let v317 : BitVec 32 := Scalar.shrsi v316 c4_i32_277
  let v318 : BitVec 32 := Scalar.subi v317 c0_i32_278
  let c1_i32_279 : BitVec 32 := 1#32
  let v320 : BitVec 32 := Scalar.divsi v318 c1_i32_279
  let v321 : BitVec 32 := Scalar.muli v320 c1_i32_279
  let v322 : BitVec 32 := Scalar.addi c0_i32_278 v321
  let c1_i32_281 : BitVec 32 := 1#32
  let arg19 : BitVec 32 := Scf.iv v322 c1_i32_281 k1_t120
  let c16_i32_282 : BitVec 32 := 16#32
  let v323 : BitVec 32 := Scalar.muli arg19 c16_i32_282
  let v324 : BitVec 32 := Scalar.addi v304 v323
  let v325 : Index := Scalar.indexCast v324
  ![v325.toNat]

def k1_chk158 (k1_t114 : Fin k1_t114_loop.trips) (v296 : BitVec 32) (k1_t118 : Fin (k1_t118_loop v296).trips) (v315 : BitVec 32) : Prop :=
  ((k1_t119_loop v315).OK) ∧
  (∀ k1_t119 : Fin (k1_t119_loop v315).trips, ∀ a, (k1_off81 k1_t114 v296 k1_t118 v315 k1_t119) a + S16.size a ≤ S6144.size a) ∧
  ((k1_t120_loop v315).OK) ∧
  (∀ k1_t120 : Fin (k1_t120_loop v315).trips, ∀ a, (k1_off82 k1_t114 v296 k1_t118 v315 k1_t120) a + S16.size a ≤ S6144.size a)
theorem k1_t119_ok : ∀ (k1_t114 : Fin k1_t114_loop.trips) (v296 : BitVec 32) (k1_t118 : Fin (k1_t118_loop v296).trips) (v315 : BitVec 32) (k1_hw158 : k1_chk158 k1_t114 v296 k1_t118 v315), (k1_t119_loop v315).OK := fun k1_t114 v296 k1_t118 v315 k1_hw158 => k1_hw158.1
theorem k1_off81_inb : ∀ (k1_t114 : Fin k1_t114_loop.trips) (v296 : BitVec 32) (k1_t118 : Fin (k1_t118_loop v296).trips) (v315 : BitVec 32) (k1_hw158 : k1_chk158 k1_t114 v296 k1_t118 v315) (k1_t119 : Fin (k1_t119_loop v315).trips), ∀ a, (k1_off81 k1_t114 v296 k1_t118 v315 k1_t119) a + S16.size a ≤ S6144.size a := fun k1_t114 v296 k1_t118 v315 k1_hw158 k1_t119 => k1_hw158.2.1 k1_t119
theorem k1_t120_ok : ∀ (k1_t114 : Fin k1_t114_loop.trips) (v296 : BitVec 32) (k1_t118 : Fin (k1_t118_loop v296).trips) (v315 : BitVec 32) (k1_hw158 : k1_chk158 k1_t114 v296 k1_t118 v315), (k1_t120_loop v315).OK := fun k1_t114 v296 k1_t118 v315 k1_hw158 => k1_hw158.2.2.1
theorem k1_off82_inb : ∀ (k1_t114 : Fin k1_t114_loop.trips) (v296 : BitVec 32) (k1_t118 : Fin (k1_t118_loop v296).trips) (v315 : BitVec 32) (k1_hw158 : k1_chk158 k1_t114 v296 k1_t118 v315) (k1_t120 : Fin (k1_t120_loop v315).trips), ∀ a, (k1_off82 k1_t114 v296 k1_t118 v315 k1_t120) a + S16.size a ≤ S6144.size a := fun k1_t114 v296 k1_t118 v315 k1_hw158 k1_t120 => k1_hw158.2.2.2 k1_t120

def k1_chk160 (v339 : IVec S16 32) : Prop :=
  (∀ a x, ((![v339] : Fin 1 → IVec S16 32) a x).toNat < S51200.size a)
theorem k1_idx112_inb : ∀ (v339 : IVec S16 32) (k1_hw160 : k1_chk160 v339), ∀ a x, ((![v339] : Fin 1 → IVec S16 32) a x).toNat < S51200.size a := fun v339 k1_hw160 => k1_hw160
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== Reference.lean ====
abbrev S1310720 : Shape := ⟨1, ![1310720]⟩
abbrev S_ : Shape := ⟨0, ![]⟩
abbrev S13107200 : Shape := ⟨1, ![13107200]⟩
abbrev S1310720x1 : Shape := ⟨2, ![1310720, 1]⟩
abbrev S1024x200x64 : Shape := ⟨3, ![1024, 200, 64]⟩

abbrev nBuf : Space → Nat
  | .hbm => 14
  | .vmem => 0
  | .smem => 0
  | _ => 0

abbrev bufTy : (tb : Table) → Fin (tcTables nBuf tb) → BufTy
  | .hbm, ⟨0, _⟩ => ⟨S1310720, .f32⟩
  | .hbm, ⟨1, _⟩ => ⟨S1310720, .i32⟩
  | .hbm, ⟨2, _⟩ => ⟨S_, .f32⟩
  | .hbm, ⟨3, _⟩ => ⟨S13107200, .f32⟩
  | .hbm, ⟨4, _⟩ => ⟨S_, .i32⟩
  | .hbm, ⟨5, _⟩ => ⟨S1310720, .i32⟩
  | .hbm, ⟨6, _⟩ => ⟨S1310720, .i1⟩
  | .hbm, ⟨7, _⟩ => ⟨S_, .i32⟩
  | .hbm, ⟨8, _⟩ => ⟨S1310720, .i32⟩
  | .hbm, ⟨9, _⟩ => ⟨S1310720, .i32⟩
  | .hbm, ⟨10, _⟩ => ⟨S1310720, .i32⟩
  | .hbm, ⟨11, _⟩ => ⟨S1310720x1, .i32⟩
  | .hbm, ⟨12, _⟩ => ⟨S13107200, .f32⟩
  | .hbm, ⟨13, _⟩ => ⟨S1024x200x64, .f32⟩
  | _, _ => ⟨S1310720, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Base.lean ====
/-
  Rules for one SparseCore tile's scratch buffers, in terms of what a memref READS: `Hold c m x` says the tile owns the
  whole buffer behind `m` and `m` reads `x`. Loads, constant stores, indexed loads and stores and local transfers are
  restated over it, so that the kernels' proofs speak of plain functions on indices.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Batch
public import proofs.«01_k».proof.Proof.Gen.KernelIdeal
public import proofs.«01_k».proof.Proof.Gen.KernelIdeal.Skeleton

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev 𝒱₀ : Variants := Variants.none

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL
abbrev EC : UEmb Counters (MT nD τ sig (HIx 2) (Elt F) ℕ UU ℕ) := countersEmb

variable [FloatOps F]

section Rules

variable (c : Thread nD τ)

/-- The thread owns the whole buffer behind `m`, and `m` reads `x` of it. -/
def Hold {sp : Space} {s : Shape} {e : EltTy} (m : Memref sig c.2.kind sp s e) (x : s.Idx → Elt F e) : sProp 𝕄 :=
  iprop(∃ f : Buf (Elt F) (m.view.loc c), ⌜m.view.read (Elt F) f = x⌝ ∗ (m.view.loc c ↦{fullShare} f))

/-- What the thread owes, with the waits it has made at no index beyond `W`; and that its waits are admissible. -/
def Owe (O : CellTallies nD τ sig (HIx 2)) (W : Waits sig (HIx 2)) : sProp 𝕄 :=
  iprop(Transfers.MayWaits c (none : HIx 2) O ∗ ∃ W', ⌜∀ p ∈ W', p ∈ W ∨ p.2 = none⌝ ∗ owes c O W')

variable {c}
variable {α : Type} {Q : α → sProp (MT nD τ sig (HIx 2) (Elt F) ℕ UU ℕ)}
variable {sp : Space} {s : Shape} {e : EltTy}

instance Hold_storable (m : Memref sig c.2.kind sp s e) (x : s.Idx → Elt F e) :
    Storable (upEmb : UEmb _ 𝕄) (Hold (F := F) c m x) := by unfold Hold; infer_instance

theorem Hold_of (m : Memref sig c.2.kind sp s e) (f : Buf (Elt F) (m.view.loc c)) :
    (m.view.loc c ↦{fullShare} f) ⊢ Hold c m (m.view.read (Elt F) f) := by
  unfold Hold
  iintro H
  iexists f
  isplitr; · ipureintro; rfl
  iexact H

/-- A load through a rectangle gives what the memref reads at the rectangle's indices. -/
theorem wp_hold_load {cs : CoreSpace} {m : Memref sig c.2.kind cs s e} {x : s.Idx → Elt F e} {r : LoadRect s} {hl : m.view.LoadsAt r}
    {k : (r.shape.Idx → Elt F e) → Prog (TpuEff nD τ sig (Elt F) Λ₀ c.2) α} :
    Hold c m x ⊢ iprop((Hold c m x -∗ wp frame (wpE (defs₀ (F := F)) 𝒱₀ c none) Set.univ (k fun j => x (r.idx j)) Q)
      -∗ wp frame (wpE (defs₀ (F := F)) 𝒱₀ c none) Set.univ (.op (.load m r hl) k) Q) := by
  unfold Hold
  iintro ⟨%f, %hf, H⟩ Hk
  iapply (wp_load 𝒱₀ c none Set.univ (S := Finset.univ) (Finset.subset_univ _)) $$ H
  iintro H
  subst hf
  iapply Hk
  iexists f
  isplitr; · ipureintro; rfl
  iexact H

/-- A store through a rectangle leaves the payload at the rectangle's indices and what was there elsewhere. -/
theorem wp_hold_store {cs : CoreSpace} {m : Memref sig c.2.kind cs s e} {x : s.Idx → Elt F e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ c.2) α} :
    Hold c m x ⊢ iprop((∀ x', ⌜(∀ j, x' (r.emb j) = w j) ∧ ∀ i, i ∉ r.set → x' i = x i⌝ -∗ Hold c m x'
          -∗ wp frame (wpE (defs₀ (F := F)) 𝒱₀ c none) Set.univ (k ⟨⟩) Q)
      -∗ wp frame (wpE (defs₀ (F := F)) 𝒱₀ c none) Set.univ (.op (.store m r w Finset.univ hx hm) k) Q) := by
  unfold Hold
  iintro ⟨%f, %hf, H⟩ Hk
  iapply (wp_store 𝒱₀ c none Set.univ (m := m) (r := r) (f := f) (S := Finset.univ) (Finset.subset_univ _)) $$ H
  iintro H
  subst hf
  iapply Hk $$ %(m.view.read (Elt F) ((m.access r).write (Elt F) f w Finset.univ)) [] [H]
  · ipureintro
    refine ⟨fun j => View.read_slice_write_emb (v := m.view) r f w (Finset.mem_univ j), fun i hi => View.read_slice_write_of_not_mem (v := m.view) r f w _ ?_⟩
    rwa [Rect.map_emb_univ]
  · iexists _
    isplitr; · ipureintro; rfl
    iexact H

theorem read_access_whole' (m : Memref sig c.2.kind sp s e) (f : m.view.ty.Contents (Elt F)) :
    (m.access (.whole s)).read (Elt F) f = m.view.read (Elt F) f := by
  funext x
  show m.view.read (Elt F) f ((Rect.whole s).emb x) = _
  congr 1
  funext a; apply Fin.ext
  rw [Rect.emb_apply]; simp [Rect.whole]

theorem read_write_whole' (m : Memref sig c.2.kind sp s e) (f : m.view.ty.Contents (Elt F)) (w : s.Idx → Elt F e) :
    m.view.read (Elt F) ((m.access (.whole s)).write (Elt F) f w Finset.univ) = w := by
  rw [← read_access_whole']; exact View.read_write_univ (v := m.access (.whole s)) f w

/-- An indexed load gives what the memref reads at the named elements. -/
theorem wp_hold_loadIdx {base : Memref sig c.2.kind .vmem s e} {x : s.Idx → Elt F e} {t : Shape} {idxs : Fin s.rank → IVec t 32}
    {h : ∀ a x, (idxs a x).toNat < s.size a} {hl : base.view.Loads} {k : Vec F t e → Prog (TpuEff nD τ sig (Elt F) Λ₀ c.2) α} :
    Hold c base x ⊢ iprop((Hold c base x -∗ wp frame (wpE (defs₀ (F := F)) 𝒱₀ c none) Set.univ (k (loadIdx x idxs h)) Q)
      -∗ wp frame (wpE (defs₀ (F := F)) 𝒱₀ c none) Set.univ (SparseCore.vectorLoadIdx base idxs h hl >>= k) Q) := by
  unfold Hold
  iintro ⟨%f, %hf, H⟩ Hk
  iapply (SparseCore.wp_vectorLoadIdx 𝒱₀ c none Set.univ (base := base) (f := f) (S := Finset.univ) (Finset.subset_univ _)) $$ H
  iintro H
  subst hf
  rw [read_access_whole']
  iapply Hk
  iexists f
  isplitr; · ipureintro; rfl
  iexact H

/-- An indexed store leaves the scatter of what the memref read. -/
theorem wp_hold_storeIdx {d : Fin 1 → ℕ} {base : Memref sig c.2.kind .vmem s e} (hw : base.IsWhole) {x : s.Idx → Elt F e}
    {idxs : Fin s.rank → IVec ⟨1, d⟩ 32} {v : Vec F ⟨1, d⟩ e} {mask : IVec ⟨1, d⟩ 1} {add : Bool}
    {h : ∀ a x, (idxs a x).toNat < s.size a} {hs : (base.access (.whole s)).Stores Finset.univ}
    {k : PUnit → Prog (TpuEff nD τ sig (Elt F) Λ₀ c.2) α} :
    Hold c base x ⊢ iprop((Hold c base (storeIdx x idxs v mask add h) -∗ wp frame (wpE (defs₀ (F := F)) 𝒱₀ c none) Set.univ (k ⟨⟩) Q)
      -∗ wp frame (wpE (defs₀ (F := F)) 𝒱₀ c none) Set.univ (SparseCore.vectorStoreIdx base idxs v mask add h hs >>= k) Q) := by
  unfold Hold
  iintro ⟨%f, %hf, H⟩ Hk
  have hset : (base.access (.whole s)).set = Finset.univ := by
    rw [View.set_slice, Rect.set_whole]; exact hw.set_eq_univ
  ihave H' := (Entails.of_eq (show (base.view.loc c ↦{fullShare} f : sProp 𝕄)
    = ((base.access (.whole s)).loc c ↦[(base.access (.whole s)).set]{fullShare} f) by rw [hset])) $$ H
  iapply (SparseCore.wp_vectorStoreIdx 𝒱₀ c none Set.univ) $$ H'
  iintro H
  subst hf
  iapply Hk
  iexists ((base.access (.whole s)).write (Elt F) f (storeIdx ((base.access (.whole s)).read (Elt F) f) idxs v mask add h) Finset.univ)
  isplitr; · ipureintro; rw [read_write_whole', read_access_whole']
  iapply (Entails.of_eq (show ((base.access (.whole s)).loc c ↦[(base.access (.whole s)).set]{fullShare}
      ((base.access (.whole s)).write (Elt F) f (storeIdx ((base.access (.whole s)).read (Elt F) f) idxs v mask add h) Finset.univ) : sProp 𝕄)
    = (base.view.loc c ↦{fullShare} _) by rw [hset])) $$ H

/-- What a transfer from a slice of an array into a scratch delivers: the scratch reading the slice, the read share back. -/
def Land {sp' : Space} (dst : Memref sig c.2.kind sp s e) (src : Memref sig c.2.kind sp' s e) (q : PosShare TreeShare)
    (g : Buf (Elt F) (src.view.loc c)) : sProp 𝕄 :=
  iprop(Hold c dst (src.view.read (Elt F) g) ∗ (src.view.loc c ↦[src.view.set]{q} g))

instance Land_storable {sp' : Space} (dst : Memref sig c.2.kind sp s e) (src : Memref sig c.2.kind sp' s e) (q : PosShare TreeShare)
    (g : Buf (Elt F) (src.view.loc c)) : Storable (upEmb : UEmb _ 𝕄) (Land (F := F) dst src q g) := by unfold Land; infer_instance

/-- What a transfer from a whole scratch into a slice of an array delivers: the scratch back, the array's elements `R`
    with the slice rewritten to what the scratch read. -/
def Flush {sp' : Space} (src : Memref sig c.2.kind sp s e) (x : s.Idx → Elt F e)
    (dst : Memref sig c.2.kind sp' s e) (R : Finset (Idx (dst.view.loc c))) (g : Buf (Elt F) (dst.view.loc c)) : sProp 𝕄 :=
  iprop(Hold c src x ∗ (dst.view.loc c ↦[R]{fullShare} (dst.view.write (Elt F) g x Finset.univ)))

instance Flush_storable {sp' : Space} (src : Memref sig c.2.kind sp s e) (x : s.Idx → Elt F e)
    (dst : Memref sig c.2.kind sp' s e) (R : Finset (Idx (dst.view.loc c))) (g : Buf (Elt F) (dst.view.loc c)) :
    Storable (upEmb : UEmb _ 𝕄) (Flush (F := F) src x dst R g) := by unfold Flush; infer_instance

/-! ## Two transfers in flight on one semaphore -/

instance pair_storable {D₀ D₁ : sProp 𝕄} [Storable (upEmb : UEmb _ 𝕄) D₀] [Storable (upEmb : UEmb _ 𝕄) D₁] (t : Fin 2) :
    Storable (upEmb : UEmb _ 𝕄) ((![D₀, D₁] : Fin 2 → sProp 𝕄) t) := by
  match t with
  | 0 => exact (inferInstance : Storable (upEmb : UEmb _ 𝕄) D₀)
  | 1 => exact (inferInstance : Storable (upEmb : UEmb _ 𝕄) D₁)

/-- Two transfers issued on `sem`, each of `N` units, delivering `D₀` and `D₁`; `u` of their waits made. -/
def Pair (c : Thread nD τ) (sem : DmaSem sig) (N : ℕ) (D₀ D₁ : sProp 𝕄) (u : ℕ) : sProp 𝕄 :=
  Transfers.Batch EC c (.dma sem) (none : HIx 2) N ![D₀, D₁] 2 (u * N)

variable {sp₀ sp₀' sp₁ sp₁' : Space} {s₀ s₁ : Shape} {e₀ e₁ : EltTy}

theorem wp_issue2 {src₀ : Memref sig c.2.kind sp₀ s₀ e₀} {dst₀ : Memref sig c.2.kind sp₀' s₀ e₀}
    {src₁ : Memref sig c.2.kind sp₁ s₁ e₁} {dst₁ : Memref sig c.2.kind sp₁' s₁ e₁} {sem : DmaSem sig}
    {h₀ h₀' h₀'' h₁ h₁' h₁''}
    {k : PUnit → Prog (TpuEff nD τ sig (Elt F) Λ₀ c.2) α} {q₀ q₁ : PosShare TreeShare}
    {f₀ : Buf (Elt F) (src₀.view.loc c)} {g₀ : Buf (Elt F) (dst₀.view.loc c)} {R₀ : Finset (Idx (dst₀.view.loc c))}
    {f₁ : Buf (Elt F) (src₁.view.loc c)} {g₁ : Buf (Elt F) (dst₁.view.loc c)} {R₁ : Finset (Idx (dst₁.view.loc c))}
    (D₀ D₁ : sProp 𝕄) [Storable (upEmb : UEmb _ 𝕄) D₀] [Storable (upEmb : UEmb _ 𝕄) D₁]
    (N : ℕ) (hN₀ : dst₀.view.amount (.dma sem) = N) (hN₁ : dst₁.view.amount (.dma sem) = N)
    (hR₀ : dst₀.view.set ⊆ R₀) (hR₁ : dst₁.view.set ⊆ R₁)
    (hD₀ : iprop((dst₀.view.loc c ↦[R₀]{fullShare} (dst₀.view.write (Elt F) g₀ (src₀.view.read (Elt F) f₀) Finset.univ))
        ∗ (src₀.view.loc c ↦[src₀.view.set]{q₀} f₀)) ⊢ D₀)
    (hD₁ : iprop((dst₁.view.loc c ↦[R₁]{fullShare} (dst₁.view.write (Elt F) g₁ (src₁.view.read (Elt F) f₁) Finset.univ))
        ∗ (src₁.view.loc c ↦[src₁.view.set]{q₁} f₁)) ⊢ D₁) :
    iprop((src₀.view.loc c ↦[src₀.view.set]{q₀} f₀) ∗ (dst₀.view.loc c ↦[R₀]{fullShare} g₀)
        ∗ (src₁.view.loc c ↦[src₁.view.set]{q₁} f₁) ∗ (dst₁.view.loc c ↦[R₁]{fullShare} g₁) ∗ semVal (c, .dma sem) 0)
      ⊢ iprop((Pair c sem N D₀ D₁ 0 -∗ wp frame (wpE (defs₀ (F := F)) 𝒱₀ c none) Set.univ (k ⟨⟩) Q)
        -∗ wp frame (wpE (defs₀ (F := F)) 𝒱₀ c none) Set.univ
            (.op (.enqueueDma src₀ (.here dst₀) (.dma sem) h₀ h₀' h₀'') fun _ => .op (.enqueueDma src₁ (.here dst₁) (.dma sem) h₁ h₁' h₁'') k) Q) := by
  iintro ⟨Hs₀, Hd₀, Hs₁, Hd₁, Hv⟩ Hk
  imod (Transfers.batch_alloc' EC c (sm := .dma sem) (none : HIx 2) N (![D₀, D₁] : Fin 2 → sProp 𝕄) (E := Set.univ)) $$ Hv with HB
  iapply (Transfers.wp_dmaBatch EC 𝒱₀ c none (via := .same) (none : HIx 2) N hN₀ hR₀ (D := (![D₀, D₁] : Fin 2 → sProp 𝕄)) (j := 0) (u := 0) (by decide) (Nat.zero_le _) hD₀) $$ [Hs₀ Hd₀ HB]
  · isplitl [Hs₀]; · iexact Hs₀
    isplitl [Hd₀]; · iexact Hd₀
    iexact HB
  iintro HB
  iapply (Transfers.wp_dmaBatch EC 𝒱₀ c none (via := .same) (none : HIx 2) N hN₁ hR₁ (D := (![D₀, D₁] : Fin 2 → sProp 𝕄)) (j := 1) (u := 0) (by decide) (Nat.zero_le _) hD₁) $$ [Hs₁ Hd₁ HB]
  · isplitl [Hs₁]; · iexact Hs₁
    isplitl [Hd₁]; · iexact Hd₁
    iexact HB
  iintro HB
  iapply Hk
  unfold Pair
  rw [Nat.zero_mul]
  iexact HB

/-- The first of the two waits: nothing back yet. -/
theorem wp_await_first {s' : Shape} {e' : EltTy} {κ' : Kind} {sem : DmaSem sig}
    {srcw : Memref sig c.2.kind sp₀ s' e'} {dstw : Memref sig κ' sp₀' s e} {hsrc : srcw.view.WordExact} {hdst : dstw.view.WordExact}
    {k : PUnit → Prog (TpuEff nD τ sig (Elt F) Λ₀ c.2) α} {D₀ D₁ : sProp 𝕄} {N : ℕ} (hN : dstw.view.dmaCredit = N) (hN0 : 0 < N)
    {O : CellTallies nD τ sig (HIx 2)} {W : Waits sig (HIx 2)} :
    iprop(Pair c sem N D₀ D₁ 0 ∗ Owe c O W)
      ⊢ iprop((iprop(Pair c sem N D₀ D₁ 1 ∗ Owe c O W) -∗ wp frame (wpE (defs₀ (F := F)) 𝒱₀ c none) Set.univ (k ⟨⟩) Q)
        -∗ wp frame (wpE (defs₀ (F := F)) 𝒱₀ c none) Set.univ (.op (.waitDma2 sem srcw dstw hsrc hdst) k) Q) := by
  unfold Owe
  iintro ⟨HB, #Hmw, %W', %hW', HO⟩ Hk
  unfold Pair
  iapply (Transfers.wp_waitBatchO EC 𝒱₀ c none (none : HIx 2) hN (u := 0 * N) (by omega) (D := (![D₀, D₁] : Fin 2 → sProp 𝕄)) (O := O) (W := W')) $$ [HB HO]
  · isplitl [HB]; · iexact HB
    isplitl [HO]; · iexact HO
    iapply (Transfers.MayWaits.elim (.dma sem)); iexact Hmw
  iintro ⟨HB, HO⟩
  iapply Hk
  isplitl [HB]; · rw [show 0 * N + N = 1 * N by omega]; iexact HB
  isplitr; · iexact Hmw
  iexists (insert (SemLoc.dma sem, (none : HIx 2)) W')
  isplitr
  · ipureintro; intro p hp
    rcases Finset.mem_insert.mp hp with hp | hp
    · exact .inr (by rw [hp])
    · exact hW' p hp
  · iexact HO

/-- The second wait: both deliveries, and the semaphore back at zero. -/
theorem wp_await_second {s' : Shape} {e' : EltTy} {κ' : Kind} {sem : DmaSem sig}
    {srcw : Memref sig c.2.kind sp₀ s' e'} {dstw : Memref sig κ' sp₀' s e} {hsrc : srcw.view.WordExact} {hdst : dstw.view.WordExact}
    {k : PUnit → Prog (TpuEff nD τ sig (Elt F) Λ₀ c.2) α} {D₀ D₁ : sProp 𝕄} {N : ℕ} (hN : dstw.view.dmaCredit = N) (hN0 : 0 < N)
    {O : CellTallies nD τ sig (HIx 2)} {W : Waits sig (HIx 2)} :
    iprop(Pair c sem N D₀ D₁ 1 ∗ Owe c O W)
      ⊢ iprop((iprop(D₀ ∗ D₁ ∗ semVal (c, .dma sem) 0 ∗ Owe c O W) -∗ wp frame (wpE (defs₀ (F := F)) 𝒱₀ c none) Set.univ (k ⟨⟩) Q)
        -∗ wp frame (wpE (defs₀ (F := F)) 𝒱₀ c none) Set.univ (.op (.waitDma2 sem srcw dstw hsrc hdst) k) Q) := by
  unfold Owe
  iintro ⟨HB, #Hmw, %W', %hW', HO⟩ Hk
  unfold Pair
  iapply (Transfers.wp_waitBatchLastO EC 𝒱₀ c none (none : HIx 2) hN hN0 (u := 1 * N) (by omega) (D := (![D₀, D₁] : Fin 2 → sProp 𝕄)) (O := O) (W := W')) $$ [HB HO]
  · isplitl [HB]; · iexact HB
    isplitl [HO]; · iexact HO
    iapply (Transfers.MayWaits.elim (.dma sem)); iexact Hmw
  iintro ⟨HD, Hv, HO⟩
  ihave HD' := (Entails.of_eq (show (bigSep (Finset.univ : Finset (Fin 2)) (![D₀, D₁] : Fin 2 → sProp 𝕄)) = iprop(D₀ ∗ D₁) by
    rw [show (Finset.univ : Finset (Fin 2)) = {0, 1} from by decide, BI.bigSep_insert (by decide), BI.bigSep_singleton]; rfl)) $$ HD
  icases HD' with ⟨HD₀, HD₁⟩
  iapply Hk
  isplitl [HD₀]; · iexact HD₀
  isplitl [HD₁]; · iexact HD₁
  isplitl [Hv]; · iexact Hv
  isplitr; · iexact Hmw
  iexists (insert (SemLoc.dma sem, (none : HIx 2)) W')
  isplitr
  · ipureintro; intro p hp
    rcases Finset.mem_insert.mp hp with hp | hp
    · exact .inr (by rw [hp])
    · exact hW' p hp
  · iexact HO

/-- Two slices fetched into two scratches: the arrays are held whole at a read share, the parts not read kept aside. -/
def Fetch2 (c : Thread nD τ) (sem : DmaSem sig) (N : ℕ) (src₀ : Memref sig c.2.kind sp₀ s₀ e₀) (q₀ : PosShare TreeShare) (f₀ : Buf (Elt F) (src₀.view.loc c))
    (dst₀ : Memref sig c.2.kind sp₀' s₀ e₀) (src₁ : Memref sig c.2.kind sp₁ s₁ e₁) (q₁ : PosShare TreeShare) (f₁ : Buf (Elt F) (src₁.view.loc c))
    (dst₁ : Memref sig c.2.kind sp₁' s₁ e₁) (u : ℕ) : sProp 𝕄 :=
  iprop(Pair c sem N (Land dst₀ src₀ q₀ f₀) (Land dst₁ src₁ q₁ f₁) u
    ∗ (src₀.view.loc c ↦[Finset.univ \ src₀.view.set]{q₀} f₀) ∗ (src₁.view.loc c ↦[Finset.univ \ src₁.view.set]{q₁} f₁))

theorem wp_fetch2 {src₀ : Memref sig c.2.kind sp₀ s₀ e₀} {dst₀ : Memref sig c.2.kind sp₀' s₀ e₀}
    {src₁ : Memref sig c.2.kind sp₁ s₁ e₁} {dst₁ : Memref sig c.2.kind sp₁' s₁ e₁} {sem : DmaSem sig}
    {h₀ h₀' h₀'' h₁ h₁' h₁''} {x₀ : s₀.Idx → Elt F e₀} {x₁ : s₁.Idx → Elt F e₁}
    {k : PUnit → Prog (TpuEff nD τ sig (Elt F) Λ₀ c.2) α} {q₀ q₁ : PosShare TreeShare}
    {f₀ : Buf (Elt F) (src₀.view.loc c)} {f₁ : Buf (Elt F) (src₁.view.loc c)}
    (N : ℕ) (hN₀ : dst₀.view.amount (.dma sem) = N) (hN₁ : dst₁.view.amount (.dma sem) = N) :
    iprop((src₀.view.loc c ↦{q₀} f₀) ∗ Hold c dst₀ x₀ ∗ (src₁.view.loc c ↦{q₁} f₁) ∗ Hold c dst₁ x₁ ∗ semVal (c, .dma sem) 0)
      ⊢ iprop((Fetch2 c sem N src₀ q₀ f₀ dst₀ src₁ q₁ f₁ dst₁ 0 -∗ wp frame (wpE (defs₀ (F := F)) 𝒱₀ c none) Set.univ (k ⟨⟩) Q)
        -∗ wp frame (wpE (defs₀ (F := F)) 𝒱₀ c none) Set.univ
            (.op (.enqueueDma src₀ (.here dst₀) (.dma sem) h₀ h₀' h₀'') fun _ => .op (.enqueueDma src₁ (.here dst₁) (.dma sem) h₁ h₁' h₁'') k) Q) := by
  iintro ⟨Hs₀, Hd₀, Hs₁, Hd₁, Hv⟩ Hk
  unfold Hold
  icases Hd₀ with ⟨%g₀, -, Hd₀⟩
  icases Hd₁ with ⟨%g₁, -, Hd₁⟩
  ihave Hs₀' := (pointsTo_split_subset (Finset.subset_univ src₀.view.set)).1 $$ Hs₀
  ihave Hs₁' := (pointsTo_split_subset (Finset.subset_univ src₁.view.set)).1 $$ Hs₁
  icases Hs₀' with ⟨Hs₀, Hc₀⟩
  icases Hs₁' with ⟨Hs₁, Hc₁⟩
  iapply (wp_issue2 (Land dst₀ src₀ q₀ f₀) (Land dst₁ src₁ q₁ f₁) N hN₀ hN₁ (Finset.subset_univ _) (Finset.subset_univ _)
    ?hD₀ ?hD₁) $$ [Hs₀ Hd₀ Hs₁ Hd₁ Hv]
  case hD₀ =>
    unfold Land Hold
    iintro ⟨Hd, Hs⟩
    isplitl [Hd]
    · iexists _
      isplitr; · ipureintro; exact View.read_write_univ (v := dst₀.view) g₀ _
      iexact Hd
    · iexact Hs
  case hD₁ =>
    unfold Land Hold
    iintro ⟨Hd, Hs⟩
    isplitl [Hd]
    · iexists _
      isplitr; · ipureintro; exact View.read_write_univ (v := dst₁.view) g₁ _
      iexact Hd
    · iexact Hs
  · isplitl [Hs₀]; · iexact Hs₀
    isplitl [Hd₀]; · iexact Hd₀
    isplitl [Hs₁]; · iexact Hs₁
    isplitl [Hd₁]; · iexact Hd₁
    iexact Hv
  iintro HP
  iapply Hk
  unfold Fetch2
  isplitl [HP]; · iexact HP
  isplitl [Hc₀]; · iexact Hc₀
  iexact Hc₁

theorem wp_fetch2_first {src₀ : Memref sig c.2.kind sp₀ s₀ e₀} {dst₀ : Memref sig c.2.kind sp₀' s₀ e₀}
    {src₁ : Memref sig c.2.kind sp₁ s₁ e₁} {dst₁ : Memref sig c.2.kind sp₁' s₁ e₁} {sem : DmaSem sig}
    {sp' : Space} {s' : Shape} {e' : EltTy} {κ' : Kind}
    {srcw : Memref sig c.2.kind sp' s' e'} {dstw : Memref sig κ' sp s e} {hsrc : srcw.view.WordExact} {hdst : dstw.view.WordExact}
    {k : PUnit → Prog (TpuEff nD τ sig (Elt F) Λ₀ c.2) α} {q₀ q₁ : PosShare TreeShare}
    {f₀ : Buf (Elt F) (src₀.view.loc c)} {f₁ : Buf (Elt F) (src₁.view.loc c)}
    {N : ℕ} (hN : dstw.view.dmaCredit = N) (hN0 : 0 < N)
    {O : CellTallies nD τ sig (HIx 2)} {W : Waits sig (HIx 2)} :
    iprop(Fetch2 c sem N src₀ q₀ f₀ dst₀ src₁ q₁ f₁ dst₁ 0 ∗ Owe c O W)
      ⊢ iprop((iprop(Fetch2 c sem N src₀ q₀ f₀ dst₀ src₁ q₁ f₁ dst₁ 1 ∗ Owe c O W) -∗ wp frame (wpE (defs₀ (F := F)) 𝒱₀ c none) Set.univ (k ⟨⟩) Q)
        -∗ wp frame (wpE (defs₀ (F := F)) 𝒱₀ c none) Set.univ (.op (.waitDma2 sem srcw dstw hsrc hdst) k) Q) := by
  unfold Fetch2
  iintro ⟨⟨HP, Hc⟩, HO⟩ Hk
  iapply (wp_await_first hN hN0) $$ [HP HO]
  · isplitl [HP]; · iexact HP
    iexact HO
  iintro ⟨HP, HO⟩
  iapply Hk
  isplitr [HO]
  · isplitl [HP]; · iexact HP
    iexact Hc
  · iexact HO

theorem wp_fetch2_second {src₀ : Memref sig c.2.kind sp₀ s₀ e₀} {dst₀ : Memref sig c.2.kind sp₀' s₀ e₀}
    {src₁ : Memref sig c.2.kind sp₁ s₁ e₁} {dst₁ : Memref sig c.2.kind sp₁' s₁ e₁} {sem : DmaSem sig}
    {sp' : Space} {s' : Shape} {e' : EltTy} {κ' : Kind}
    {srcw : Memref sig c.2.kind sp' s' e'} {dstw : Memref sig κ' sp s e} {hsrc : srcw.view.WordExact} {hdst : dstw.view.WordExact}
    {k : PUnit → Prog (TpuEff nD τ sig (Elt F) Λ₀ c.2) α} {q₀ q₁ : PosShare TreeShare}
    {f₀ : Buf (Elt F) (src₀.view.loc c)} {f₁ : Buf (Elt F) (src₁.view.loc c)}
    {N : ℕ} (hN : dstw.view.dmaCredit = N) (hN0 : 0 < N)
    {O : CellTallies nD τ sig (HIx 2)} {W : Waits sig (HIx 2)} :
    iprop(Fetch2 c sem N src₀ q₀ f₀ dst₀ src₁ q₁ f₁ dst₁ 1 ∗ Owe c O W)
      ⊢ iprop((iprop((src₀.view.loc c ↦{q₀} f₀) ∗ Hold c dst₀ (src₀.view.read (Elt F) f₀) ∗ (src₁.view.loc c ↦{q₁} f₁)
            ∗ Hold c dst₁ (src₁.view.read (Elt F) f₁) ∗ semVal (c, .dma sem) 0 ∗ Owe c O W)
          -∗ wp frame (wpE (defs₀ (F := F)) 𝒱₀ c none) Set.univ (k ⟨⟩) Q)
        -∗ wp frame (wpE (defs₀ (F := F)) 𝒱₀ c none) Set.univ (.op (.waitDma2 sem srcw dstw hsrc hdst) k) Q) := by
  unfold Fetch2
  iintro ⟨⟨HP, Hc₀, Hc₁⟩, HO⟩ Hk
  iapply (wp_await_second hN hN0) $$ [HP HO]
  · isplitl [HP]; · iexact HP
    iexact HO
  unfold Land
  iintro ⟨⟨Hd₀, Hs₀⟩, ⟨Hd₁, Hs₁⟩, Hv, HO⟩
  iapply Hk
  isplitl [Hs₀ Hc₀]
  · iapply (pointsTo_split_subset (Finset.subset_univ src₀.view.set)).2
    isplitl [Hs₀]; · iexact Hs₀
    iexact Hc₀
  isplitl [Hd₀]; · iexact Hd₀
  isplitl [Hs₁ Hc₁]
  · iapply (pointsTo_split_subset (Finset.subset_univ src₁.view.set)).2
    isplitl [Hs₁]; · iexact Hs₁
    iexact Hc₁
  isplitl [Hd₁]; · iexact Hd₁
  isplitl [Hv]; · iexact Hv
  iexact HO

/-- Two whole scratches written to slices of two arrays, of which the thread owns the elements `R₀` and `R₁`. -/
theorem wp_flush2 {src₀ : Memref sig c.2.kind sp₀ s₀ e₀} {dst₀ : Memref sig c.2.kind sp₀' s₀ e₀}
    {src₁ : Memref sig c.2.kind sp₁ s₁ e₁} {dst₁ : Memref sig c.2.kind sp₁' s₁ e₁} {sem : DmaSem sig}
    {h₀ h₀' h₀'' h₁ h₁' h₁''} {x₀ : s₀.Idx → Elt F e₀} {x₁ : s₁.Idx → Elt F e₁}
    {k : PUnit → Prog (TpuEff nD τ sig (Elt F) Λ₀ c.2) α}
    {R₀ : Finset (Idx (dst₀.view.loc c))} {R₁ : Finset (Idx (dst₁.view.loc c))}
    {g₀ : Buf (Elt F) (dst₀.view.loc c)} {g₁ : Buf (Elt F) (dst₁.view.loc c)}
    (hw₀ : src₀.IsWhole) (hw₁ : src₁.IsWhole) (hR₀ : dst₀.view.set ⊆ R₀) (hR₁ : dst₁.view.set ⊆ R₁)
    (N : ℕ) (hN₀ : dst₀.view.amount (.dma sem) = N) (hN₁ : dst₁.view.amount (.dma sem) = N) :
    iprop(Hold c src₀ x₀ ∗ (dst₀.view.loc c ↦[R₀]{fullShare} g₀) ∗ Hold c src₁ x₁ ∗ (dst₁.view.loc c ↦[R₁]{fullShare} g₁) ∗ semVal (c, .dma sem) 0)
      ⊢ iprop((Pair c sem N (Flush src₀ x₀ dst₀ R₀ g₀) (Flush src₁ x₁ dst₁ R₁ g₁) 0 -∗ wp frame (wpE (defs₀ (F := F)) 𝒱₀ c none) Set.univ (k ⟨⟩) Q)
        -∗ wp frame (wpE (defs₀ (F := F)) 𝒱₀ c none) Set.univ
            (.op (.enqueueDma src₀ (.here dst₀) (.dma sem) h₀ h₀' h₀'') fun _ => .op (.enqueueDma src₁ (.here dst₁) (.dma sem) h₁ h₁' h₁'') k) Q) := by
  iintro ⟨Hs₀, Hd₀, Hs₁, Hd₁, Hv⟩ Hk
  unfold Hold
  icases Hs₀ with ⟨%f₀, %hf₀, Hs₀⟩
  icases Hs₁ with ⟨%f₁, %hf₁, Hs₁⟩
  subst hf₀ hf₁
  ihave Hs₀' := (Entails.of_eq (show (src₀.view.loc c ↦{fullShare} f₀ : sProp 𝕄) = (src₀.view.loc c ↦[src₀.view.set]{fullShare} f₀) by rw [hw₀.set_eq_univ])) $$ Hs₀
  ihave Hs₁' := (Entails.of_eq (show (src₁.view.loc c ↦{fullShare} f₁ : sProp 𝕄) = (src₁.view.loc c ↦[src₁.view.set]{fullShare} f₁) by rw [hw₁.set_eq_univ])) $$ Hs₁
  iapply (wp_issue2 (Flush src₀ (src₀.view.read (Elt F) f₀) dst₀ R₀ g₀) (Flush src₁ (src₁.view.read (Elt F) f₁) dst₁ R₁ g₁) N hN₀ hN₁ hR₀ hR₁
    ?hD₀ ?hD₁) $$ [Hs₀' Hd₀ Hs₁' Hd₁ Hv]
  case hD₀ =>
    unfold Flush Hold
    rw [hw₀.set_eq_univ]
    iintro ⟨Hd, Hs⟩
    isplitl [Hs]
    · iexists _
      isplitr; · ipureintro; rfl
      iexact Hs
    · iexact Hd
  case hD₁ =>
    unfold Flush Hold
    rw [hw₁.set_eq_univ]
    iintro ⟨Hd, Hs⟩
    isplitl [Hs]
    · iexists _
      isplitr; · ipureintro; rfl
      iexact Hs
    · iexact Hd
  · isplitl [Hs₀']; · iexact Hs₀'
    isplitl [Hd₀]; · iexact Hd₀
    isplitl [Hs₁']; · iexact Hs₁'
    isplitl [Hd₁]; · iexact Hd₁
    iexact Hv
  iintro HP
  iapply Hk
  iexact HP

/-! ## One transfer in flight -/

/-- One transfer of `N` units in flight on `sem`, delivering `D`. -/
def Single (c : Thread nD τ) (sem : DmaSem sig) (N : ℕ) (D : sProp 𝕄) : sProp 𝕄 :=
  Transfers.Flight EC c (.dma sem) (none : HIx 2) N D

theorem wp_flush1 {src₀ : Memref sig c.2.kind sp₀ s₀ e₀} {dst₀ : Memref sig c.2.kind sp₀' s₀ e₀} {sem : DmaSem sig}
    {h₀ h₀' h₀''} {x₀ : s₀.Idx → Elt F e₀} {k : PUnit → Prog (TpuEff nD τ sig (Elt F) Λ₀ c.2) α}
    {R₀ : Finset (Idx (dst₀.view.loc c))} {g₀ : Buf (Elt F) (dst₀.view.loc c)}
    (hw₀ : src₀.IsWhole) (hR₀ : dst₀.view.set ⊆ R₀)
    (N : ℕ) (hN₀ : dst₀.view.amount (.dma sem) = N) (hN0 : 0 < N) :
    iprop(Hold c src₀ x₀ ∗ (dst₀.view.loc c ↦[R₀]{fullShare} g₀) ∗ semVal (c, .dma sem) 0)
      ⊢ iprop((Single c sem N (Flush src₀ x₀ dst₀ R₀ g₀) -∗ wp frame (wpE (defs₀ (F := F)) 𝒱₀ c none) Set.univ (k ⟨⟩) Q)
        -∗ wp frame (wpE (defs₀ (F := F)) 𝒱₀ c none) Set.univ (.op (.enqueueDma src₀ (.here dst₀) (.dma sem) h₀ h₀' h₀'') k) Q) := by
  iintro ⟨Hs₀, Hd₀, Hv⟩ Hk
  unfold Hold
  icases Hs₀ with ⟨%f₀, %hf₀, Hs₀⟩
  subst hf₀
  ihave Hs₀' := (Entails.of_eq (show (src₀.view.loc c ↦{fullShare} f₀ : sProp 𝕄) = (src₀.view.loc c ↦[src₀.view.set]{fullShare} f₀) by rw [hw₀.set_eq_univ])) $$ Hs₀
  iapply (Transfers.wp_dmaLocal EC 𝒱₀ c none (via := .same) (none : HIx 2) N hN₀ hN0 hR₀) $$ [Hs₀' Hd₀ Hv]
  · isplitl [Hs₀']; · iexact Hs₀'
    isplitl [Hd₀]; · iexact Hd₀
    iexact Hv
  iintro HP
  iapply Hk
  unfold Single
  iapply (Transfers.Flight_mono EC c ?h) $$ HP
  case h =>
    unfold Flush Hold
    rw [hw₀.set_eq_univ]
    iintro ⟨Hd, Hs⟩
    isplitl [Hs]
    · iexists _
      isplitr; · ipureintro; rfl
      iexact Hs
    · iexact Hd

theorem wp_fetch1 {src₀ : Memref sig c.2.kind sp₀ s₀ e₀} {dst₀ : Memref sig c.2.kind sp₀' s₀ e₀} {sem : DmaSem sig}
    {h₀ h₀' h₀''} {x₀ : s₀.Idx → Elt F e₀} {k : PUnit → Prog (TpuEff nD τ sig (Elt F) Λ₀ c.2) α} {q₀ : PosShare TreeShare}
    {f₀ : Buf (Elt F) (src₀.view.loc c)} (hw₀ : src₀.IsWhole)
    (N : ℕ) (hN₀ : dst₀.view.amount (.dma sem) = N) (hN0 : 0 < N) :
    iprop((src₀.view.loc c ↦{q₀} f₀) ∗ Hold c dst₀ x₀ ∗ semVal (c, .dma sem) 0)
      ⊢ iprop((Single c sem N (Land dst₀ src₀ q₀ f₀) -∗ wp frame (wpE (defs₀ (F := F)) 𝒱₀ c none) Set.univ (k ⟨⟩) Q)
        -∗ wp frame (wpE (defs₀ (F := F)) 𝒱₀ c none) Set.univ (.op (.enqueueDma src₀ (.here dst₀) (.dma sem) h₀ h₀' h₀'') k) Q) := by
  iintro ⟨Hs₀, Hd₀, Hv⟩ Hk
  unfold Hold
  icases Hd₀ with ⟨%g₀, -, Hd₀⟩
  ihave Hs₀' := (Entails.of_eq (show (src₀.view.loc c ↦{q₀} f₀ : sProp 𝕄) = (src₀.view.loc c ↦[src₀.view.set]{q₀} f₀) by rw [hw₀.set_eq_univ])) $$ Hs₀
  iapply (Transfers.wp_dmaLocal EC 𝒱₀ c none (via := .same) (none : HIx 2) N hN₀ hN0 (Finset.subset_univ _)) $$ [Hs₀' Hd₀ Hv]
  · isplitl [Hs₀']; · iexact Hs₀'
    isplitl [Hd₀]; · iexact Hd₀
    iexact Hv
  iintro HP
  iapply Hk
  unfold Single
  iapply (Transfers.Flight_mono EC c ?h) $$ HP
  case h =>
    unfold Land Hold
    iintro ⟨Hd, Hs⟩
    isplitl [Hd]
    · iexists _
      isplitr; · ipureintro; exact View.read_write_univ (v := dst₀.view) g₀ _
      iexact Hd
    · iexact Hs

theorem wp_await1 {s' : Shape} {e' : EltTy} {κ' : Kind} {sem : DmaSem sig}
    {srcw : Memref sig c.2.kind sp₀ s' e'} {dstw : Memref sig κ' sp₀' s e} {hsrc : srcw.view.WordExact} {hdst : dstw.view.WordExact}
    {k : PUnit → Prog (TpuEff nD τ sig (Elt F) Λ₀ c.2) α} {D : sProp 𝕄} {N : ℕ} (hN : dstw.view.dmaCredit = N)
    {O : CellTallies nD τ sig (HIx 2)} {W : Waits sig (HIx 2)} :
    iprop(Single c sem N D ∗ Owe c O W)
      ⊢ iprop((iprop(D ∗ semVal (c, .dma sem) 0 ∗ Owe c O W) -∗ wp frame (wpE (defs₀ (F := F)) 𝒱₀ c none) Set.univ (k ⟨⟩) Q)
        -∗ wp frame (wpE (defs₀ (F := F)) 𝒱₀ c none) Set.univ (.op (.waitDma2 sem srcw dstw hsrc hdst) k) Q) := by
  unfold Owe
  iintro ⟨HB, #Hmw, %W', %hW', HO⟩ Hk
  unfold Single
  iapply (Transfers.wp_waitLocalO EC 𝒱₀ c none (none : HIx 2) hN (O := O) (W := W')) $$ [HB HO]
  · isplitl [HB]; · iexact HB
    isplitl [HO]; · iexact HO
    iapply (Transfers.MayWaits.elim (.dma sem)); iexact Hmw
  iintro ⟨HD, Hv, HO⟩
  iapply Hk
  isplitl [HD]; · iexact HD
  isplitl [Hv]; · iexact Hv
  isplitr; · iexact Hmw
  iexists (insert (SemLoc.dma sem, (none : HIx 2)) W')
  isplitr
  · ipureintro; intro p hp
    rcases Finset.mem_insert.mp hp with hp | hp
    · exact .inr (by rw [hp])
    · exact hW' p hp
  · iexact HO

end Rules

end Cert.Proof.SC
-- ==== Proof.Count.lean ====
/-
  Counting the elements of a stretch of the index array that fall in one bucket, and what sixteen consecutive elements
  do to the per-bucket cursors and the staging rows: the plain mathematics of the partition kernel's trip.
-/
module

public import proofs.«01_k».proof.Proof.Base

@[expose] public section

noncomputable section

namespace Cert.Proof.SC

open Cert.KernelIdeal Cert.KernelIdeal.Gen

open Idealize.ShloMosaic

/-- The bucket of an index word: which block of 51200 consecutive result elements it falls in. -/
def bkt (w : BitVec 32) : ℕ := w.toNat / 51200

/-- How many of the elements `lo, …, n - 1` have their index in bucket `b`. -/
def cnt (I : ℕ → BitVec 32) (b lo n : ℕ) : ℕ := ((Finset.Ico lo n).filter fun m => bkt (I m) = b).card

variable {I : ℕ → BitVec 32}

theorem cnt_self (b lo : ℕ) : cnt I b lo lo = 0 := by simp [cnt]

theorem cnt_succ {b lo n : ℕ} (h : lo ≤ n) : cnt I b lo (n + 1) = cnt I b lo n + if bkt (I n) = b then 1 else 0 := by
  unfold cnt
  rw [← Finset.insert_Ico_right_eq_Ico_add_one h, Finset.filter_insert]
  split
  · rw [Finset.card_insert_of_notMem (by simp)]
  · rfl

theorem cnt_mono {b lo n n' : ℕ} (h : n ≤ n') : cnt I b lo n ≤ cnt I b lo n' :=
  Finset.card_le_card (Finset.filter_subset_filter _ (Finset.Ico_subset_Ico le_rfl h))

theorem cnt_anti {b lo lo' n : ℕ} (h : lo ≤ lo') : cnt I b lo' n ≤ cnt I b lo n :=
  Finset.card_le_card (Finset.filter_subset_filter _ (Finset.Ico_subset_Ico h le_rfl))

theorem cnt_le_add {b lo n : ℕ} (h : lo ≤ n) (k : ℕ) : cnt I b lo (n + k) ≤ cnt I b lo n + k := by
  induction k with
  | zero => simp
  | succ k ih => rw [← Nat.add_assoc, cnt_succ (by omega)]; split <;> omega

theorem cnt_lt {b lo n hi : ℕ} (h : lo ≤ n) (h' : n < hi) (hb : bkt (I n) = b) : cnt I b lo n < cnt I b lo hi := by
  have h1 := cnt_succ (I := I) (b := b) h
  rw [if_pos hb] at h1
  have h2 := cnt_mono (I := I) (b := b) (lo := lo) (show n + 1 ≤ hi from h')
  omega

/-- Of two elements of one bucket, the one with as many before it is the same one. -/
theorem cnt_inj {b lo n n' : ℕ} (h : lo ≤ n) (h' : lo ≤ n') (hb : bkt (I n) = b) (hb' : bkt (I n') = b)
    (he : cnt I b lo n = cnt I b lo n') : n = n' := by
  rcases lt_trichotomy n n' with hl | hl | hl
  · have := cnt_lt h hl hb; omega
  · exact hl
  · have := cnt_lt h' hl hb'; omega

/-- Every number below the count is the position of an element. -/
theorem cnt_surj {b lo hi s : ℕ} (hs : s < cnt I b lo hi) : ∃ n, lo ≤ n ∧ n < hi ∧ bkt (I n) = b ∧ cnt I b lo n = s := by
  by_cases hlo : lo ≤ hi
  · obtain ⟨k, rfl⟩ := Nat.exists_eq_add_of_le hlo
    induction k with
    | zero => simp [cnt_self] at hs
    | succ k ih =>
      rw [← Nat.add_assoc, cnt_succ (by omega)] at hs
      by_cases hk : s < cnt I b lo (lo + k)
      · obtain ⟨n, h1, h2, h3, h4⟩ := ih hk (by omega)
        exact ⟨n, h1, by omega, h3, h4⟩
      · split at hs
        · exact ⟨lo + k, by omega, by omega, by assumption, by omega⟩
        · omega
  · unfold cnt at hs; rw [Finset.Ico_eq_empty (by omega)] at hs; simp at hs

/-- No element of the bucket in a stretch over which the count does not grow. -/
theorem cnt_none {b lo n n' m : ℕ} (h : lo ≤ n) (he : cnt I b lo n = cnt I b lo n') (hm : n ≤ m) (hm' : m < n') : bkt (I m) ≠ b := by
  intro hb
  have h1 := cnt_lt (I := I) (b := b) (show lo ≤ m by omega) hm' hb
  have h2 := cnt_mono (I := I) (b := b) (lo := lo) hm
  omega

/-- The word arithmetic of the bucket: `((w >> 11) * 5243) >> 17` is `w / 51200` for an index of the result. -/
theorem bucket_word (w : BitVec 32) (h : w.toNat < 13107200) :
    (IntOp.shrsi .vector (IntOp.muli (IntOp.shrsi .vector w 11#32) 5243#32) 17#32).toNat = bkt w := by
  have shr : ∀ (v : BitVec 32) (k : ℕ), v.toNat < 2 ^ 31 → k < 32 → (IntOp.shrsi .vector v (BitVec.ofNat 32 k)).toNat = v.toNat / 2 ^ k := by
    intro v k hv hk
    have hk' : (BitVec.ofNat 32 k).toNat = k := by rw [BitVec.toNat_ofNat]; omega
    unfold IntOp.shrsi
    rw [if_pos (by omega), BitVec.sshiftRight', hk', BitVec.toNat_sshiftRight]
    have : v.msb = false := by rw [BitVec.msb_eq_decide]; simp; omega
    simp [this, Nat.shiftRight_eq_div_pow]
  have h1 := shr w 11 (by omega) (by omega)
  have h2 : (IntOp.muli (IntOp.shrsi .vector w 11#32) 5243#32).toNat = w.toNat / 2 ^ 11 * 5243 := by
    unfold IntOp.muli
    rw [BitVec.toNat_mul, h1, show (5243#32).toNat = 5243 from rfl]
    apply Nat.mod_eq_of_lt; omega
  rw [shr _ 17 (by rw [h2]; omega) (by omega), h2]
  unfold bkt; omega

theorem bkt_lt {w : BitVec 32} (h : w.toNat < 13107200) : bkt w < 256 := by unfold bkt; omega

/-- The lane of a sixteen-element vector. -/
def lane (k : ℕ) (h : k < 16) : S16.Idx := fun a => ⟨k, by rw [Fin.eq_zero a]; exact h⟩

theorem lane_val {k : ℕ} (h : k < 16) : (lane k h 0).val = k := rfl

theorem lane_of (x : S16.Idx) : x = lane (x 0).val (x 0).isLt := by
  funext a; apply Fin.ext; rw [Fin.eq_zero a]; rfl

theorem pos16 (x : S16.Idx) : (S16.rowMajor x).val = (x 0).val := Shape.rowMajor_val_one x

/-- Sixteen elements, from `t`: the number of lanes up to and including `x` with `x`'s bucket is what the count grows by. -/
theorem card_lanes {lo t b : ℕ} (hlo : lo ≤ t) (k : ℕ) (hk : k ≤ 16) :
    cnt I b lo (t + k) = cnt I b lo t + (Finset.univ.filter fun j : S16.Idx => (j 0).val < k ∧ bkt (I (t + (j 0).val)) = b).card := by
  induction k with
  | zero => simp
  | succ k ih =>
    rw [← Nat.add_assoc, cnt_succ (by omega), ih (by omega)]
    by_cases hb : bkt (I (t + k)) = b
    · rw [if_pos hb, Nat.add_assoc, Nat.add_left_cancel_iff]
      rw [← Finset.card_insert_of_notMem (a := lane k (by omega)) (by simp [lane_val])]
      congr 1
      ext j
      simp only [Finset.mem_insert, Finset.mem_filter, Finset.mem_univ, true_and]
      constructor
      · rintro (rfl | ⟨h1, h2⟩)
        · exact ⟨by simp [lane_val], by rw [lane_val]; exact hb⟩
        · exact ⟨by omega, h2⟩
      · rintro ⟨h1, h2⟩
        by_cases hj : (j 0).val = k
        · left; rw [lane_of j]; congr 1
        · right; exact ⟨by omega, h2⟩
    · rw [if_neg hb, Nat.add_zero]
      congr 2
      ext j
      simp only [Finset.mem_filter, Finset.mem_univ, true_and]
      constructor
      · rintro ⟨h1, h2⟩; exact ⟨by omega, h2⟩
      · rintro ⟨h1, h2⟩
        refine ⟨?_, h2⟩
        by_contra hc
        have : (j 0).val = k := by omega
        rw [this] at h2; exact hb h2

theorem foldl_last {α ι β : Type} (l : List α) (lt : α → α → Prop) (hl : l.Pairwise lt) (hirr : ∀ a, ¬ lt a a) (hasym : ∀ a b, lt a b → ¬ lt b a)
    (step : (ι → β) → α → ι → β) (j : ι) (hit : α → Prop) (y : α → β)
    (h1 : ∀ g k, hit k → step g k j = y k) (h2 : ∀ g k, ¬ hit k → step g k j = g j) (g : ι → β) :
    (∃ k ∈ l, hit k ∧ (∀ k' ∈ l, lt k k' → ¬ hit k') ∧ l.foldl step g j = y k) ∨ ((∀ k ∈ l, ¬ hit k) ∧ l.foldl step g j = g j) := by
  induction l generalizing g with
  | nil => right; simp
  | cons k l ih =>
    rw [List.pairwise_cons] at hl
    rw [List.foldl_cons]
    rcases ih hl.2 (step g k) with ⟨k', hk', e1, e2, e3⟩ | ⟨e1, e2⟩
    · left
      refine ⟨k', List.mem_cons_of_mem _ hk', e1, ?_, e3⟩
      intro k'' hk'' hlt
      rcases List.mem_cons.mp hk'' with rfl | hk''
      · exact absurd (hl.1 _ hk') (hasym _ _ hlt)
      · exact e2 k'' hk'' hlt
    · by_cases hm : hit k
      · left
        refine ⟨k, List.mem_cons_self, hm, ?_, by rw [e2, h1 _ _ hm]⟩
        intro k'' hk'' hlt
        rcases List.mem_cons.mp hk'' with rfl | hk''
        · exact absurd hlt (hirr _)
        · exact e1 k'' hk''
      · right
        refine ⟨?_, by rw [e2, h2 _ _ hm]⟩
        intro k'' hk''
        rcases List.mem_cons.mp hk'' with rfl | hk''
        · exact hm
        · exact e1 k'' hk''

theorem ofLane_val (k : Fin 16) : ((Shape.ofLane k : S16.Idx) 0).val = k.val := rfl
theorem ofLane_self (x : S16.Idx) : (Shape.ofLane (x 0) : S16.Idx) = x := by
  funext a; rw [Fin.eq_zero a]; rfl

/-- What an indexed store leaves at `j`: the value of the last set lane that names `j`, or what was there if none does. -/
theorem storeIdx_at {F : FTy → Type} [FloatOps F] {s : Shape} {e : EltTy} (f : Vec F s e) (idxs : Fin s.rank → IVec S16 32) (v : Vec F S16 e)
    (mask : IVec S16 1) (h : ∀ a x, (idxs a x).toNat < s.size a) (j : s.Idx) :
    (∃ x : S16.Idx, mask x = 1 ∧ (∀ a, (j a).val = (idxs a x).toNat)
        ∧ (∀ x' : S16.Idx, (x 0).val < (x' 0).val → mask x' = 1 → ¬ ∀ a, (j a).val = (idxs a x').toNat)
        ∧ storeIdx f idxs v mask false h j = v x)
      ∨ ((∀ x : S16.Idx, mask x = 1 → ¬ ∀ a, (j a).val = (idxs a x).toNat) ∧ storeIdx f idxs v mask false h j = f j) := by
  have hu : storeIdx f idxs v mask false h = List.foldl (fun (g : Vec F s e) (k : Fin 16) =>
      let x : S16.Idx := Shape.ofLane k
      if mask x = 1 then
        let i := idxAt idxs h x
        let y := if false = true then Elt.idxAdd e (g i) (v x) else v x
        fun j => if (∀ a, (j a).val = (i a).val) then y else g j
      else g) f (List.finRange 16) := by
    unfold storeIdx
    show List.foldl _ f (List.finRange 16) = _
    congr 1
    funext g k
    show (if mask (Shape.ofLane k) = 1 then _ else g) = (if mask (Shape.ofLane k) = 1 then _ else g)
    by_cases hm : mask (Shape.ofLane k) = 1
    · rw [if_pos hm, if_pos hm]
      funext j
      by_cases hj : ∀ a, (j a).val = (idxAt idxs h (Shape.ofLane k) a).val
      · exact (if_pos hj).trans (if_pos hj).symm
      · exact (if_neg hj).trans (if_neg hj).symm
    · rw [if_neg hm, if_neg hm]
  rw [hu]
  have key := foldl_last (List.finRange 16) (· < ·) (List.pairwise_lt_finRange 16) (fun a => lt_irrefl a) (fun a b => lt_asymm)
    (fun (g : Vec F s e) (k : Fin 16) =>
      let x : S16.Idx := Shape.ofLane k
      if mask x = 1 then
        let i := idxAt idxs h x
        let y := if false = true then Elt.idxAdd e (g i) (v x) else v x
        fun j => if (∀ a, (j a).val = (i a).val) then y else g j
      else g) j (fun k => mask (Shape.ofLane k) = 1 ∧ ∀ a, (j a).val = (idxs a (Shape.ofLane k)).toNat) (fun k => v (Shape.ofLane k))
    (fun g k hk => by
      show (if mask (Shape.ofLane k) = 1 then _ else g) j = _
      rw [if_pos hk.1]
      show (if (∀ a, (j a).val = (idxAt idxs h (Shape.ofLane k) a).val) then _ else g j) = _
      rw [if_pos (by exact hk.2)]; rfl)
    (fun g k hk => by
      show (if mask (Shape.ofLane k) = 1 then _ else g) j = _
      by_cases h5 : mask (Shape.ofLane k) = 1
      · rw [if_pos h5]
        show (if (∀ a, (j a).val = (idxAt idxs h (Shape.ofLane k) a).val) then _ else g j) = _
        rw [if_neg (by intro h6; exact hk ⟨h5, h6⟩)]
      · rw [if_neg h5]) f
  rcases key with ⟨k, _, h1, h3, h4⟩ | ⟨h1, h2⟩
  · left
    refine ⟨Shape.ofLane k, h1.1, h1.2, ?_, h4⟩
    intro x' hx' hm' h6
    have := h3 (x' 0) (List.mem_finRange _) hx'
    rw [ofLane_self] at this
    exact this ⟨hm', h6⟩
  · right
    refine ⟨?_, h2⟩
    intro x hx h6
    have := h1 (x 0) (List.mem_finRange _)
    rw [ofLane_self] at this
    exact this ⟨hx, h6⟩

theorem foldl_maxui {α : Type} (l : List α) (g : α → BitVec 32) (r₀ : BitVec 32) :
    r₀.toNat ≤ (l.foldl (fun r k => ScanKind.step .max r (g k)) r₀).toNat
      ∧ (∀ k ∈ l, (g k).toNat ≤ (l.foldl (fun r k => ScanKind.step .max r (g k)) r₀).toNat)
      ∧ (l.foldl (fun r k => ScanKind.step .max r (g k)) r₀ = r₀ ∨ ∃ k ∈ l, l.foldl (fun r k => ScanKind.step .max r (g k)) r₀ = g k) := by
  induction l generalizing r₀ with
  | nil => simp
  | cons k l ih =>
    rw [List.foldl_cons]
    obtain ⟨h1, h2, h3⟩ := ih (ScanKind.step .max r₀ (g k))
    have hst : ScanKind.step .max r₀ (g k) = if (g k).ult r₀ then r₀ else g k := rfl
    have hst1 : r₀.toNat ≤ (ScanKind.step .max r₀ (g k)).toNat := by
      rw [hst]; split
      · exact le_rfl
      · rename_i h; simp [BitVec.ult] at h; omega
    have hst2 : (g k).toNat ≤ (ScanKind.step .max r₀ (g k)).toNat := by
      rw [hst]; split
      · rename_i h; simp [BitVec.ult] at h; omega
      · exact le_rfl
    have hst3 : ScanKind.step .max r₀ (g k) = r₀ ∨ ScanKind.step .max r₀ (g k) = g k := by
      rw [hst]; split
      · exact .inl rfl
      · exact .inr rfl
    refine ⟨le_trans hst1 h1, ?_, ?_⟩
    · intro k' hk'
      rcases List.mem_cons.mp hk' with rfl | hk'
      · exact le_trans hst2 h1
      · exact h2 k' hk'
    · rcases h3 with h3 | ⟨k', hk', h3⟩
      · rcases hst3 with h4 | h4
        · left; rw [h3, h4]
        · right; exact ⟨k, List.mem_cons_self, by rw [h3, h4]⟩
      · right; exact ⟨k', List.mem_cons_of_mem _ hk', h3⟩

theorem flip_toNat (w : BitVec 32) (hw : w.toNat < 2 ^ 31) : (w ^^^ 2147483648#32).toNat = w.toNat + 2147483648 := by
  rw [BitVec.toNat_xor, show (2147483648#32).toNat = 2 ^ 31 from rfl, show w.toNat + 2147483648 = 2 ^ 31 + w.toNat by omega]
  apply Nat.eq_of_testBit_eq
  intro i
  rw [Nat.testBit_xor, Nat.testBit_two_pow]
  rcases lt_trichotomy i 31 with h | h | h
  · rw [Nat.testBit_two_pow_add_gt h, decide_eq_false (by omega : ¬ 31 = i), Bool.xor_false]
  · subst h; rw [Nat.testBit_two_pow_add_eq, Nat.testBit_lt_two_pow hw]; rfl
  · rw [Nat.testBit_lt_two_pow (lt_of_lt_of_le hw (Nat.pow_le_pow_right (by omega) h.le)),
      Nat.testBit_lt_two_pow (lt_of_lt_of_le (show 2 ^ 31 + w.toNat < 2 ^ 32 by omega) (Nat.pow_le_pow_right (by omega) h)), decide_eq_false (by omega : ¬ 31 = i)]
    rfl

/-- The running maximum of sixteen small words, taken unsigned with the sign bit flipped and flipped back: the last lane
    is one of the words, and none is larger. -/
theorem scan_max (v s : IVec S16 32) (hs : ∀ x, s x = 2147483648#32) (hv : ∀ x, (v x).toNat < 2 ^ 31) (y : S16.Idx) (hy : (y 0).val = 15) :
    (∀ x, (v x).toNat ≤ (xori (scan .max (xori v s)) s y).toNat) ∧ ∃ x, xori (scan .max (xori v s)) s y = v x := by
  have hx : ∀ x, (xori v s) x = v x ^^^ 2147483648#32 := by intro x; show v x ^^^ s x = _; rw [hs]
  obtain ⟨R, hR⟩ : ∃ R, R = scan .max (xori v s) y := ⟨_, rfl⟩
  have key : ((xori v s) (Shape.ofLane ⟨0, (y 0).pos⟩)).toNat ≤ R.toNat
      ∧ (∀ k ∈ (List.finRange 16).filter fun k => decide (0 < k.val ∧ k.val ≤ (y 0).val), ((xori v s) (Shape.ofLane k)).toNat ≤ R.toNat)
      ∧ (R = (xori v s) (Shape.ofLane ⟨0, (y 0).pos⟩)
        ∨ ∃ k ∈ (List.finRange 16).filter fun k => decide (0 < k.val ∧ k.val ≤ (y 0).val), R = (xori v s) (Shape.ofLane k)) := by
    rw [hR]
    exact foldl_maxui ((List.finRange 16).filter fun k => decide (0 < k.val ∧ k.val ≤ (y 0).val)) (fun k => (xori v s) (Shape.ofLane k))
      ((xori v s) (Shape.ofLane ⟨0, (y 0).pos⟩))
  obtain ⟨h1, h2, h3⟩ := key
  have hr : xori (scan .max (xori v s)) s y = R ^^^ 2147483648#32 := by show scan .max (xori v s) y ^^^ s y = _; rw [hs, hR]
  have all : ∀ x, ((xori v s) x).toNat ≤ R.toNat := by
    intro x
    by_cases h0 : (x 0).val = 0
    · have : x = Shape.ofLane ⟨0, (y 0).pos⟩ := by rw [← ofLane_self x]; congr 1; apply Fin.ext; exact h0
      rw [this]; exact h1
    · have h16 : (x 0).val < 16 := (x 0).isLt
      have := h2 (x 0) (List.mem_filter.mpr ⟨List.mem_finRange _, by
        simp only [decide_eq_true_eq]
        omega⟩)
      rw [ofLane_self] at this; exact this
  have one : ∃ x, R = (xori v s) x := by
    rcases h3 with h3 | ⟨k, _, h3⟩
    · exact ⟨_, h3⟩
    · exact ⟨_, h3⟩
  obtain ⟨x, hxR⟩ := one
  have hrx : xori (scan .max (xori v s)) s y = v x := by
    rw [hr, hxR, hx, BitVec.xor_assoc, BitVec.xor_self, BitVec.xor_zero]
  refine ⟨?_, x, hrx⟩
  intro x'
  have h4 := all x'
  rw [hxR, hx, hx, flip_toNat _ (hv _), flip_toNat _ (hv _)] at h4
  rw [hrx]; omega

end Cert.Proof.SC
-- ==== Proof.Rows.lean ====
/-
  The partition kernel's staging state as plain mathematics: the cursors count the elements of each bucket since the last
  flush, each staging row holds its bucket's elements in order. Sixteen more elements, by the kernel's own words.
-/
module

public import proofs.«01_k».proof.Proof.Count

@[expose] public section

noncomputable section

namespace Cert.Proof.SC

open Cert.KernelIdeal Cert.KernelIdeal.Gen

open Idealize.ShloMosaic

variable {F : FTy → Type} [FloatOps F]

/-- Cursors and staging rows after the elements `tf, …, t - 1`: a cursor is its bucket's count, and an element sits in its
    bucket's row at the place given by how many of the bucket came before. -/
structure Rows (I : ℕ → BitVec 32) (V : ℕ → Elt F .f32) (tf t : ℕ) (xi : S256x128.Idx → BitVec 32) (xv : S256x128.Idx → Elt F .f32)
    (cu : S256.Idx → BitVec 32) : Prop where
  le : tf ≤ t
  cur : ∀ b : S256.Idx, (cu b).toNat = cnt I (b 0).val tf t
  els : ∀ n, tf ≤ n → n < t → ∀ j : S256x128.Idx, (j 0).val = bkt (I n) → (j 1).val = cnt I (bkt (I n)) tf n → xi j = I n ∧ xv j = V n

/-- `p` bounds every bucket's count since the last flush, and some bucket reaches it. -/
structure Pend (I : ℕ → BitVec 32) (tf t p : ℕ) : Prop where
  bound : ∀ b < 256, cnt I b tf t ≤ p
  att : p = 0 ∨ ∃ b < 256, p ≤ cnt I b tf t

variable {I : ℕ → BitVec 32} {V : ℕ → Elt F .f32} {tf t : ℕ}

theorem bucket_pay (w : Vec F S16 .i32) (x : S16.Idx) (h : (w x : BitVec 32).toNat < 13107200) : (k0_pay4 (F := F) w x).toNat = bkt (w x) :=
  bucket_word (w x) h

section Step

variable {xi : S256x128.Idx → BitVec 32} {xv : S256x128.Idx → Elt F .f32} {cu : S256.Idx → BitVec 32}
  {bv : IVec S16 32}

theorem count_lane (h : tf ≤ t) (hb : ∀ x, (bv x).toNat = bkt (I (t + (x 0).val))) (x : S16.Idx) :
    ((scanCount k0_pay5 bv).2 x).toNat + cnt I (bkt (I (t + (x 0).val))) tf t = cnt I (bkt (I (t + (x 0).val))) tf (t + (x 0).val) + 1 := by
  have hx : (x 0).val < 16 := (x 0).isLt
  have h1 := card_lanes (I := I) (b := bkt (I (t + (x 0).val))) h ((x 0).val + 1) (by omega)
  rw [← Nat.add_assoc, cnt_succ (by omega), if_pos rfl] at h1
  have h2 : (scanCount k0_pay5 bv).2 x = BitVec.ofNat 32 (Finset.univ.filter fun j : S16.Idx => (j 0).val < (x 0).val + 1
      ∧ bkt (I (t + (j 0).val)) = bkt (I (t + (x 0).val))).card := by
    simp only [scanCount]
    rw [if_pos (show k0_pay5 x = 1 from rfl)]
    refine congrArg (fun A : Finset S16.Idx => BitVec.ofNat 32 A.card) ?_
    ext j
    simp only [Finset.mem_filter, Finset.mem_univ, true_and]
    rw [pos16, pos16]
    constructor
    · rintro ⟨h3, -, h4⟩
      exact ⟨by omega, by rw [← hb, ← hb, h4]⟩
    · rintro ⟨h3, h4⟩
      exact ⟨by omega, rfl, BitVec.eq_of_toNat_eq (by rw [hb, hb, h4])⟩
  have h3 : (Finset.univ.filter fun j : S16.Idx => (j 0).val < (x 0).val + 1
      ∧ bkt (I (t + (j 0).val)) = bkt (I (t + (x 0).val))).card ≤ 16 := by
    have := cnt_le_add (I := I) (b := bkt (I (t + (x 0).val))) h ((x 0).val)
    omega
  rw [h2, BitVec.toNat_ofNat, Nat.mod_eq_of_lt (by omega)]
  omega

/-- The slot a lane is given: how many of its bucket came before it since the last flush. -/
theorem slot_lane (h : Rows I V tf t xi xv cu) (hI : ∀ l < 16, (I (t + l)).toNat < 13107200) (hM : ∀ b < 256, cnt I b tf t ≤ 110)
    (hb : ∀ x, (bv x).toNat = bkt (I (t + (x 0).val))) (h1 : ∀ a x, ((![bv] : Fin 1 → IVec S16 32) a x).toNat < S256.size a) (x : S16.Idx) :
    (k0_pay7 (F := F) bv (loadIdx (F := F) (e := .i32) cu ![bv] h1) x).toNat = cnt I (bkt (I (t + (x 0).val))) tf (t + (x 0).val) := by
  have hx : (x 0).val < 16 := (x 0).isLt
  have hc := count_lane h.le hb x
  have hcu : (loadIdx (F := F) (e := .i32) cu ![bv] h1 x : BitVec 32).toNat = cnt I (bkt (I (t + (x 0).val))) tf t := by
    show (cu (idxAt ![bv] h1 x)).toNat = _
    rw [h.cur]
    show cnt I (bv x).toNat tf t = _
    rw [hb]
  have hM' := hM _ (bkt_lt (hI _ hx))
  have hA := cnt_le_add (I := I) (b := bkt (I (t + (x 0).val))) h.le (x 0).val
  obtain ⟨C, hC⟩ : ∃ C, C = (scanCount k0_pay5 bv).2 x := ⟨_, rfl⟩
  obtain ⟨L, hL⟩ : ∃ L : BitVec 32, L = loadIdx (F := F) (e := .i32) cu ![bv] h1 x := ⟨_, rfl⟩
  show (IntOp.minsi (IntOp.subi (IntOp.addi (loadIdx (F := F) (e := .i32) cu ![bv] h1 x) ((scanCount k0_pay5 bv).2 x)) 1#32) 126#32).toNat = _
  rw [← hC] at hc ⊢
  rw [← hL] at hcu ⊢
  have hs : (IntOp.subi (IntOp.addi L C) 1#32).toNat = cnt I (bkt (I (t + (x 0).val))) tf (t + (x 0).val) := by
    show (L + C - 1#32).toNat = _
    rw [BitVec.toNat_sub, BitVec.toNat_add]
    simp; omega
  unfold IntOp.minsi
  split
  · exact hs
  · rename_i hn
    exfalso; apply hn
    rw [BitVec.slt_eq_decide, decide_eq_true_eq, BitVec.toInt_eq_toNat_cond, BitVec.toInt_eq_toNat_cond, hs]
    simp; omega

theorem succ_lane (sl : IVec S16 32) (x : S16.Idx) (h : (sl x).toNat < 1000) : (k0_pay8 sl x).toNat = (sl x).toNat + 1 := by
  show (sl x + 1#32).toNat = _
  rw [BitVec.toNat_add]; simp; omega

theorem last_lane (hb : ∀ x, (bv x).toNat = bkt (I (t + (x 0).val))) (x : S16.Idx) :
    k0_pay6 bv x = 1 ↔ ∀ j : S16.Idx, (x 0).val < (j 0).val → bkt (I (t + (j 0).val)) ≠ bkt (I (t + (x 0).val)) := by
  have hk : (k0_pay5 x = 1 ∧ ∀ j, (S16.rowMajor x).val < (S16.rowMajor j).val → ¬(k0_pay5 j = 1 ∧ bv j = bv x))
      ↔ ∀ j : S16.Idx, (x 0).val < (j 0).val → bkt (I (t + (j 0).val)) ≠ bkt (I (t + (x 0).val)) := by
    constructor
    · rintro ⟨-, h⟩ j hj he
      refine h j (by rw [pos16, pos16]; exact hj) ⟨rfl, BitVec.eq_of_toNat_eq (by rw [hb, hb, he])⟩
    · intro h
      refine ⟨rfl, ?_⟩
      rintro j hj ⟨-, he⟩
      rw [pos16, pos16] at hj
      exact h j hj (by rw [← hb, ← hb, he])
  rw [← hk]
  by_cases h : k0_pay5 x = 1 ∧ ∀ j, (S16.rowMajor x).val < (S16.rowMajor j).val → ¬(k0_pay5 j = 1 ∧ bv j = bv x)
  · exact ⟨fun _ => h, fun _ => if_pos h⟩
  · have h0 : k0_pay6 bv x = 0 := if_neg h
    rw [h0]
    exact ⟨fun h' => absurd h' (by decide), fun h' => absurd h' h⟩

/-- No later lane of the same bucket: the count is already the full one. -/
theorem cnt_last (h : tf ≤ t) (x : S16.Idx) (hl : ∀ j : S16.Idx, (x 0).val < (j 0).val → bkt (I (t + (j 0).val)) ≠ bkt (I (t + (x 0).val))) :
    cnt I (bkt (I (t + (x 0).val))) tf (t + 16) = cnt I (bkt (I (t + (x 0).val))) tf (t + (x 0).val) + 1 := by
  have hx : (x 0).val < 16 := (x 0).isLt
  have h1 : ∀ k, (x 0).val < k → k ≤ 16 → cnt I (bkt (I (t + (x 0).val))) tf (t + k) = cnt I (bkt (I (t + (x 0).val))) tf (t + (x 0).val) + 1 := by
    intro k
    induction k with
    | zero => intro h; omega
    | succ k ih =>
      intro h2 h3
      rw [← Nat.add_assoc, cnt_succ (by omega)]
      by_cases hk : (x 0).val = k
      · rw [hk, if_pos rfl]
      · rw [ih (by omega) (by omega), if_neg (show ¬ bkt (I (t + k)) = _ from hl (lane k (by omega)) (by rw [lane_val]; omega))]
  exact h1 16 hx le_rfl

/-- A bucket some lane is of has a last lane of it. -/
theorem exists_last (x : S16.Idx) : ∃ y : S16.Idx, bkt (I (t + (y 0).val)) = bkt (I (t + (x 0).val))
    ∧ ∀ j : S16.Idx, (y 0).val < (j 0).val → bkt (I (t + (j 0).val)) ≠ bkt (I (t + (y 0).val)) := by
  obtain ⟨y, hy, hm⟩ := Finset.exists_max_image (Finset.univ.filter fun y : S16.Idx => bkt (I (t + (y 0).val)) = bkt (I (t + (x 0).val)))
    (fun y => (y 0).val) ⟨x, by simp⟩
  simp only [Finset.mem_filter, Finset.mem_univ, true_and] at hy hm
  refine ⟨y, hy, ?_⟩
  intro j hj he
  have := hm j (by rw [he, hy])
  omega

theorem cnt_absent (h : tf ≤ t) {b : ℕ} (hn : ∀ x : S16.Idx, bkt (I (t + (x 0).val)) ≠ b) : cnt I b tf (t + 16) = cnt I b tf t := by
  have h1 : ∀ k, k ≤ 16 → cnt I b tf (t + k) = cnt I b tf t := by
    intro k
    induction k with
    | zero => intro _; rfl
    | succ k ih =>
      intro h3
      rw [← Nat.add_assoc, cnt_succ (by omega), ih (by omega), if_neg (show ¬ bkt (I (t + k)) = _ from hn (lane k (by omega))), Nat.add_zero]
  exact h1 16 le_rfl

/-- Sixteen elements staged: both rows by the slots, the cursors by the last lane of each bucket. -/
theorem Rows.step (h : Rows I V tf t xi xv cu) (hI : ∀ l < 16, (I (t + l)).toNat < 13107200) {w : Vec F S16 .i32} {wv : Vec F S16 .f32}
    (hw : ∀ x : S16.Idx, w x = I (t + (x 0).val)) (hwv : ∀ x : S16.Idx, wv x = V (t + (x 0).val)) {sl : IVec S16 32}
    (hb : ∀ x, (bv x).toNat = bkt (I (t + (x 0).val)))
    (hsl : ∀ x, (sl x).toNat = cnt I (bkt (I (t + (x 0).val))) tf (t + (x 0).val)) (hM : ∀ b < 256, cnt I b tf t ≤ 110)
    (h1 : ∀ a x, ((![bv, sl] : Fin 2 → IVec S16 32) a x).toNat < S256x128.size a)
    (h1' : ∀ a x, ((![bv, sl] : Fin 2 → IVec S16 32) a x).toNat < S256x128.size a)
    (h2 : ∀ a x, ((![bv] : Fin 1 → IVec S16 32) a x).toNat < S256.size a) :
    Rows I V tf (t + 16) (storeIdx (F := F) (e := .i32) xi ![bv, sl] w (fun _ => 1#1) false h1) (storeIdx (F := F) (e := .f32) xv ![bv, sl] wv (fun _ => 1#1) false h1')
      (storeIdx (F := F) (e := .i32) cu ![bv] (k0_pay8 sl) (k0_pay6 bv) false h2) := by
  have hle := h.le
  have at2 : ∀ (j : S256x128.Idx) (x : S16.Idx), (∀ a, (j a).val = ((![bv, sl] : Fin 2 → IVec S16 32) a x).toNat)
      ↔ (j 0).val = bkt (I (t + (x 0).val)) ∧ (j 1).val = cnt I (bkt (I (t + (x 0).val))) tf (t + (x 0).val) := by
    intro j x
    rw [← hsl, ← hb]
    exact Fin.forall_fin_two
  have at1 : ∀ (j : S256.Idx) (x : S16.Idx), (∀ a, (j a).val = ((![bv] : Fin 1 → IVec S16 32) a x).toNat)
      ↔ (j 0).val = bkt (I (t + (x 0).val)) := by
    intro j x
    rw [← hb]
    exact Fin.forall_fin_one
  refine ⟨by omega, ?_, ?_⟩
  · intro b
    rcases storeIdx_at (F := F) (e := .i32) cu ![bv] (k0_pay8 sl) (k0_pay6 bv) h2 b with ⟨x, hm, hx, -, hv⟩ | ⟨hn, hv⟩
    · rw [at1] at hx
      rw [last_lane hb] at hm
      rw [hv, hx, cnt_last hle x hm]
      have hx16 : (x 0).val < 16 := (x 0).isLt
      have hM' := hM _ (bkt_lt (hI _ hx16))
      have hA := cnt_le_add (I := I) (b := bkt (I (t + (x 0).val))) hle (x 0).val
      rw [succ_lane sl x (by rw [hsl]; omega), hsl]
    · rw [hv, h.cur b, cnt_absent hle]
      intro x he
      obtain ⟨y, hy, hyl⟩ := exists_last (I := I) (t := t) x
      refine hn y ((last_lane hb y).mpr hyl) ((at1 b y).mpr ?_)
      rw [hy, he]
  · intro n hn1 hn2 j hj0 hj1
    by_cases hnt : n < t
    · have none : ∀ x : S16.Idx, ¬ ∀ a, (j a).val = ((![bv, sl] : Fin 2 → IVec S16 32) a x).toNat := by
        intro x hx
        rw [at2] at hx
        have he : bkt (I n) = bkt (I (t + (x 0).val)) := by rw [← hj0, hx.1]
        have hlt := cnt_lt (I := I) hn1 (show n < t + (x 0).val by omega) he
        rw [← hx.2, hj1, he] at hlt
        exact lt_irrefl _ hlt
      constructor
      · rcases storeIdx_at (F := F) (e := .i32) xi ![bv, sl] w (fun _ => 1#1) h1 j with ⟨x, _, hx, -, hv⟩ | ⟨-, hv⟩
        · exact absurd hx (none x)
        · rw [hv]; exact (h.els n hn1 hnt j hj0 hj1).1
      · rcases storeIdx_at (F := F) (e := .f32) xv ![bv, sl] wv (fun _ => 1#1) h1' j with ⟨x, _, hx, -, hv⟩ | ⟨-, hv⟩
        · exact absurd hx (none x)
        · rw [hv]; exact (h.els n hn1 hnt j hj0 hj1).2
    · obtain ⟨k, rfl⟩ := Nat.exists_eq_add_of_le (Nat.le_of_not_lt hnt)
      have hk : k < 16 := by omega
      have uniq : ∀ x : S16.Idx, (∀ a, (j a).val = ((![bv, sl] : Fin 2 → IVec S16 32) a x).toNat) → t + (x 0).val = t + k := by
        intro x hx
        rw [at2] at hx
        have he : bkt (I (t + k)) = bkt (I (t + (x 0).val)) := by rw [← hj0, hx.1]
        refine cnt_inj (I := I) (b := bkt (I (t + k))) (lo := tf) (by omega) (by omega) he.symm rfl ?_
        rw [← hj1, hx.2, he]
      have hit : ∀ a, (j a).val = ((![bv, sl] : Fin 2 → IVec S16 32) a (lane k hk)).toNat := (at2 j _).mpr ⟨hj0, hj1⟩
      constructor
      · rcases storeIdx_at (F := F) (e := .i32) xi ![bv, sl] w (fun _ => 1#1) h1 j with ⟨x, _, hx, -, hv⟩ | ⟨hn, -⟩
        · rw [hv, hw, uniq x hx]
        · exact absurd hit (hn _ rfl)
      · rcases storeIdx_at (F := F) (e := .f32) xv ![bv, sl] wv (fun _ => 1#1) h1' j with ⟨x, _, hx, -, hv⟩ | ⟨hn, -⟩
        · rw [hv, hwv, uniq x hx]
        · exact absurd hit (hn _ rfl)

/-- The bound after sixteen more elements: the larger of the old one and the largest slot plus one. -/
theorem Pend.step {p r : ℕ} (h : Pend I tf t p) (hle : tf ≤ t) (hI : ∀ l < 16, (I (t + l)).toNat < 13107200)
    (h1 : ∀ x : S16.Idx, cnt I (bkt (I (t + (x 0).val))) tf (t + (x 0).val) + 1 ≤ r)
    (h2 : ∃ x : S16.Idx, r = cnt I (bkt (I (t + (x 0).val))) tf (t + (x 0).val) + 1) : Pend I tf (t + 16) (max p r) := by
  constructor
  · intro b hb
    by_cases hx : ∃ x : S16.Idx, bkt (I (t + (x 0).val)) = b
    · obtain ⟨x, rfl⟩ := hx
      obtain ⟨y, hy, hyl⟩ := exists_last (I := I) (t := t) x
      rw [← hy, cnt_last hle y hyl]
      exact le_trans (h1 y) (le_max_right _ _)
    · rw [cnt_absent hle (by intro x he; exact hx ⟨x, he⟩)]
      exact le_trans (h.bound b hb) (le_max_left _ _)
  · right
    obtain ⟨x, hx⟩ := h2
    have hxl : (x 0).val < 16 := (x 0).isLt
    rcases le_total p r with hpr | hpr
    · rw [max_eq_right hpr, hx]
      refine ⟨_, bkt_lt (hI _ hxl), ?_⟩
      exact cnt_lt (I := I) (by omega) (by omega) rfl
    · rw [max_eq_left hpr]
      rcases h.att with h0 | ⟨b, hb, hp⟩
      · omega
      · exact ⟨b, hb, le_trans hp (cnt_mono (by omega))⟩

end Step

/-- Empty rows: nothing since the flush. -/
theorem Rows.start (I : ℕ → BitVec 32) (V : ℕ → Elt F .f32) (t : ℕ) (xi : S256x128.Idx → BitVec 32) (xv : S256x128.Idx → Elt F .f32)
    {cu : S256.Idx → BitVec 32} (h : ∀ b, cu b = 0#32) : Rows I V t t xi xv cu :=
  ⟨le_rfl, fun b => by rw [h, cnt_self]; rfl, fun n h1 h2 => absurd h1 (by omega)⟩

theorem Pend.start (I : ℕ → BitVec 32) (t : ℕ) : Pend I t t 0 :=
  ⟨fun b _ => by rw [cnt_self], .inl rfl⟩

end Cert.Proof.SC
-- ==== Proof.Hist.lean ====
/-
  What the partition kernel has flushed to the staging arrays: each slot holds, bucket by bucket, the elements of one
  stretch of the index array and how many there are; and when no third of a tile's elements has ninety-five of one
  bucket, at most two flushes precede the last one, and the stretches follow each other without a gap.
-/
module

public import proofs.«01_k».proof.Proof.Rows

@[expose] public section

noncomputable section

namespace Cert.Proof.SC

open Cert.KernelIdeal Cert.KernelIdeal.Gen

open Idealize.ShloMosaic

variable {F : FTy → Type} [FloatOps F]

/-- Slot `s` of the staging arrays holds the elements `a, …, e - 1`: in row `b`, the elements of bucket `b` in order from
    column `128 s`, and their number in the slot's last column. -/
structure Slot (I : ℕ → BitVec 32) (V : ℕ → Elt F .f32) (s a e : ℕ) (y : S256x12288.Idx → BitVec 32) (yv : S256x12288.Idx → Elt F .f32) : Prop where
  le : a ≤ e
  small : ∀ b < 256, cnt I b a e ≤ 126
  num : ∀ j : S256x12288.Idx, (j 1).val = s * 128 + 127 → (y j).toNat = cnt I (j 0).val a e
  els : ∀ n, a ≤ n → n < e → ∀ j : S256x12288.Idx, (j 0).val = bkt (I n) → (j 1).val = s * 128 + cnt I (bkt (I n)) a n → y j = I n ∧ yv j = V n

/-- Each of the tile's three thirds has fewer than ninety-five elements of every bucket. -/
def Thirds (I : ℕ → BitVec 32) (lo : ℕ) : Prop :=
  ∃ e₁ e₂, ∀ b < 256, cnt I b lo e₁ < 95 ∧ cnt I b e₁ e₂ < 95 ∧ cnt I b e₂ (lo + 40960) < 95

/-- The slots written after `f` flushes, the last at element `tf`. -/
structure HistAt (I : ℕ → BitVec 32) (V : ℕ → Elt F .f32) (w lo tf f : ℕ) (y : S256x12288.Idx → BitVec 32) (yv : S256x12288.Idx → Elt F .f32)
    (A E : ℕ → ℕ) : Prop where
  le : lo ≤ tf
  slot : ∀ k, k < f → k < 3 → lo ≤ A k ∧ E k ≤ tf ∧ Slot I V (w * 3 + k) (A k) (E k) y yv
  chain : Thirds I lo → f ≤ 2 ∧ (∀ k < f, A k = if k = 0 then lo else E (k - 1)) ∧ (tf = if f = 0 then lo else E (f - 1))
    ∧ ∀ k < f, ∃ b < 256, 95 ≤ cnt I b (A k) (E k)

def Hist (I : ℕ → BitVec 32) (V : ℕ → Elt F .f32) (w lo tf f : ℕ) (y : S256x12288.Idx → BitVec 32) (yv : S256x12288.Idx → Elt F .f32) : Prop :=
  ∃ A E, HistAt I V w lo tf f y yv A E

/-- What a tile leaves: `nf` slots, of stretches inside the tile's elements; when the thirds are light, stretches that
    follow each other from the first of the tile's elements to the last. -/
structure DoneAt (I : ℕ → BitVec 32) (V : ℕ → Elt F .f32) (w lo nf : ℕ) (y : S256x12288.Idx → BitVec 32) (yv : S256x12288.Idx → Elt F .f32)
    (A E : ℕ → ℕ) : Prop where
  pos : 1 ≤ nf
  le : nf ≤ 3
  slot : ∀ k < nf, lo ≤ A k ∧ E k ≤ lo + 40960 ∧ Slot I V (w * 3 + k) (A k) (E k) y yv
  chain : Thirds I lo → A 0 = lo ∧ (∀ k, k + 1 < nf → A (k + 1) = E k) ∧ E (nf - 1) = lo + 40960

def Done (I : ℕ → BitVec 32) (V : ℕ → Elt F .f32) (w lo nf : ℕ) (y : S256x12288.Idx → BitVec 32) (yv : S256x12288.Idx → Elt F .f32) : Prop :=
  ∃ A E, DoneAt I V w lo nf y yv A E

variable {I : ℕ → BitVec 32} {V : ℕ → Elt F .f32} {w lo tf t f : ℕ}
  {y y' : S256x12288.Idx → BitVec 32} {yv yv' : S256x12288.Idx → Elt F .f32}

theorem Slot.keep {s s' a e : ℕ} (h : Slot I V s a e y yv) (hs : s ≠ s')
    (hy : ∀ j : S256x12288.Idx, ¬ (s' * 128 ≤ (j 1).val ∧ (j 1).val < s' * 128 + 128) → y' j = y j ∧ yv' j = yv j)
    (hI : ∀ n, a ≤ n → n < e → bkt (I n) < 256) : Slot I V s a e y' yv' := by
  refine ⟨h.le, h.small, ?_, ?_⟩
  · intro j hj
    rw [(hy j (by omega)).1]; exact h.num j hj
  · intro n h1 h2 j hj0 hj1
    have h3 := cnt_lt (I := I) h1 h2 rfl
    have h4 := h.small _ (hI n h1 h2)
    have := hy j (by omega)
    rw [this.1, this.2]
    exact h.els n h1 h2 j hj0 hj1

/-- What a flush writes: the staging rows with the cursors in the last column, over slot `s`'s columns. -/
structure Flushed (s : ℕ) (xi : S256x128.Idx → BitVec 32) (xv : S256x128.Idx → Elt F .f32) (cu : S256.Idx → BitVec 32)
    (y y' : S256x12288.Idx → BitVec 32) (yv yv' : S256x12288.Idx → Elt F .f32) : Prop where
  rows : ∀ (i : S256x128.Idx) (j : S256x12288.Idx), (j 0).val = (i 0).val → (j 1).val = s * 128 + (i 1).val → (i 1).val < 127 → y' j = xi i ∧ yv' j = xv i
  nums : ∀ (b : S256.Idx) (j : S256x12288.Idx), (j 0).val = (b 0).val → (j 1).val = s * 128 + 127 → y' j = cu b
  rest : ∀ j : S256x12288.Idx, ¬ (s * 128 ≤ (j 1).val ∧ (j 1).val < s * 128 + 128) → y' j = y j ∧ yv' j = yv j

/-- A flush fills its slot with the elements since the last flush. -/
theorem Flushed.slot {s : ℕ} {xi : S256x128.Idx → BitVec 32} {xv : S256x128.Idx → Elt F .f32} {cu : S256.Idx → BitVec 32}
    (h : Flushed s xi xv cu y y' yv yv') (hr : Rows I V tf t xi xv cu) (hM : ∀ b < 256, cnt I b tf t ≤ 126)
    (hI : ∀ n, tf ≤ n → n < t → bkt (I n) < 256) : Slot I V s tf t y' yv' := by
  refine ⟨hr.le, hM, ?_, ?_⟩
  · intro j hj
    have h0 : (j 0).val < 256 := (j 0).isLt
    have := h.nums (fun a => ⟨(j 0).val, by rw [Fin.eq_zero a]; exact h0⟩) j rfl hj
    rw [this, hr.cur]
  · intro n h1 h2 j hj0 hj1
    have h3 := cnt_lt (I := I) h1 h2 rfl
    have hb := hI n h1 h2
    have h4 := hM _ hb
    let i : S256x128.Idx := Fin.cons (⟨bkt (I n), hb⟩ : Fin 256) (Fin.cons (⟨cnt I (bkt (I n)) tf n, by omega⟩ : Fin 128) (fun a => a.elim0))
    have hi0 : (i 0).val = bkt (I n) := rfl
    have hi1 : (i 1).val = cnt I (bkt (I n)) tf n := rfl
    have e1 := h.rows i j (by rw [hi0, hj0]) (by rw [hi1, hj1]) (by rw [hi1]; omega)
    have e2 := hr.els n h1 h2 i hi0 hi1
    rw [e1.1, e1.2]
    exact e2

/-- A flush in the loop: some bucket has ninety-five elements. -/
theorem Hist.flush {xi : S256x128.Idx → BitVec 32} {xv : S256x128.Idx → Elt F .f32} {cu : S256.Idx → BitVec 32}
    (H : Hist I V w lo tf f y yv) (h : Flushed (w * 3 + min f 2) xi xv cu y y' yv yv') (hr : Rows I V tf t xi xv cu)
    (hM : ∀ b < 256, cnt I b tf t ≤ 126) (hI : ∀ n, lo ≤ n → n < lo + 40960 → bkt (I n) < 256) (ht : t ≤ lo + 40960)
    (hp : ∃ b < 256, 95 ≤ cnt I b tf t) : Hist I V w lo t (f + 1) y' yv' := by
  obtain ⟨A, E, H⟩ := H
  have hle := hr.le
  have hlo := H.le
  have hs := h.slot hr hM (fun n h1 h2 => hI n (by omega) (by omega))
  refine ⟨fun k => if k = min f 2 then tf else A k, fun k => if k = min f 2 then t else E k, by omega, ?_, ?_⟩
  · intro k hk hk3
    by_cases hkf : k = min f 2
    · simp only [if_pos hkf]
      refine ⟨H.le, le_rfl, ?_⟩
      rw [hkf]; exact hs
    · simp only [if_neg hkf]
      have hkf' : k < f := by omega
      obtain ⟨h1, h2, h3⟩ := H.slot k hkf' hk3
      have h3le := h3.le
      exact ⟨h1, by omega, h3.keep (by omega) h.rest (fun n h4 h5 => hI n (by omega) (by omega))⟩
  · intro hT
    obtain ⟨c1, c2, c3, c4⟩ := H.chain hT
    have hf2 : f ≠ 2 := by
      rintro rfl
      obtain ⟨e₁, e₂, hT⟩ := hT
      have a0 := c2 0 (by omega)
      have a1 := c2 1 (by omega)
      simp at a0 a1 c3
      obtain ⟨b0, hb0, g0⟩ := c4 0 (by omega)
      obtain ⟨b1, hb1, g1⟩ := c4 1 (by omega)
      obtain ⟨b2, hb2, g2⟩ := hp
      rw [a0] at g0; rw [a1] at g1; rw [c3] at g2
      have k0 : e₁ < E 0 := by
        by_contra hc
        have := cnt_mono (I := I) (b := b0) (lo := lo) (show E 0 ≤ e₁ by omega)
        have := (hT b0 hb0).1
        omega
      have k1 : e₂ < E 1 := by
        by_contra hc
        have h1 := cnt_mono (I := I) (b := b1) (lo := E 0) (show E 1 ≤ e₂ by omega)
        have h2 := cnt_anti (I := I) (b := b1) (n := e₂) (show e₁ ≤ E 0 by omega)
        have := (hT b1 hb1).2.1
        omega
      have h1 := cnt_mono (I := I) (b := b2) (lo := E 1) ht
      have h2 := cnt_anti (I := I) (b := b2) (n := lo + 40960) (show e₂ ≤ E 1 by omega)
      have := (hT b2 hb2).2.2
      omega
    have hmin : min f 2 = f := by omega
    rw [hmin]
    refine ⟨by omega, ?_, ?_, ?_⟩
    · intro k hk
      by_cases hkf : k = f
      · subst hkf
        simp only [if_pos]
        by_cases hk0 : k = 0
        · rw [if_pos hk0, c3, if_pos hk0]
        · rw [if_neg hk0, if_neg (by omega), c3, if_neg hk0]
      · rw [if_neg hkf, c2 k (by omega)]
        by_cases hk0 : k = 0
        · rw [if_pos hk0, if_pos hk0]
        · rw [if_neg hk0, if_neg hk0, if_neg (by omega)]
    · simp
    · intro k hk
      by_cases hkf : k = f
      · simp only [if_pos hkf]; exact hp
      · simp only [if_neg hkf]; exact c4 k (by omega)

/-- The last flush, of whatever the rows hold at the tile's end. -/
theorem Hist.finish {xi : S256x128.Idx → BitVec 32} {xv : S256x128.Idx → Elt F .f32} {cu : S256.Idx → BitVec 32}
    (H : Hist I V w lo tf f y yv) (h : Flushed (w * 3 + min f 2) xi xv cu y y' yv yv') (hr : Rows I V tf (lo + 40960) xi xv cu)
    (hM : ∀ b < 256, cnt I b tf (lo + 40960) ≤ 126) (hI : ∀ n, lo ≤ n → n < lo + 40960 → bkt (I n) < 256) :
    Done I V w lo (min f 2 + 1) y' yv' := by
  obtain ⟨A, E, H⟩ := H
  have hle := hr.le
  have hlo := H.le
  have hs := h.slot hr hM (fun n h1 h2 => hI n (by omega) (by omega))
  refine ⟨fun k => if k = min f 2 then tf else A k, fun k => if k = min f 2 then lo + 40960 else E k, by omega, by omega, ?_, ?_⟩
  · intro k hk
    by_cases hkf : k = min f 2
    · simp only [if_pos hkf]
      refine ⟨H.le, le_rfl, ?_⟩
      rw [hkf]; exact hs
    · simp only [if_neg hkf]
      obtain ⟨h1, h2, h3⟩ := H.slot k (by omega) (by omega)
      have h3le := h3.le
      exact ⟨h1, by omega, h3.keep (by omega) h.rest (fun n h4 h5 => hI n (by omega) (by omega))⟩
  · intro hT
    obtain ⟨c1, c2, c3, c4⟩ := H.chain hT
    have hmin : min f 2 = f := by omega
    rw [hmin]
    refine ⟨?_, ?_, by simp⟩
    · by_cases hf : f = 0
      · subst hf; simp at c3 ⊢; exact c3
      · rw [if_neg (by omega), c2 0 (by omega), if_pos rfl]
    · intro k hk
      rw [if_neg (show k ≠ f by omega)]
      by_cases hkf : k + 1 = f
      · rw [if_pos hkf, c3, if_neg (by omega)]; congr 1; omega
      · rw [if_neg hkf, c2 (k + 1) (by omega), if_neg (by omega)]; rfl

theorem Hist.start (I : ℕ → BitVec 32) (V : ℕ → Elt F .f32) (w lo : ℕ) (y : S256x12288.Idx → BitVec 32) (yv : S256x12288.Idx → Elt F .f32) :
    Hist I V w lo lo 0 y yv :=
  ⟨fun _ => 0, fun _ => 0, le_rfl, fun k h => absurd h (by omega),
    fun _ => ⟨by omega, fun k h => absurd h (by omega), by simp, fun k h => absurd h (by omega)⟩⟩

end Cert.Proof.SC
-- ==== Proof.Last.lean ====
/-
  The last value written to a word of the result among the first elements of the index array, and how a block of the
  result takes on the elements of one slot, sixteen lanes at a time: the plain mathematics of the assemble kernel.
-/
module

public import proofs.«01_k».proof.Proof.Hist

@[expose] public section

noncomputable section

namespace Cert.Proof.SC

open Cert.KernelIdeal Cert.KernelIdeal.Gen

open Idealize.ShloMosaic

/-- What word `w` of the result holds after the first `n` elements: the value of the last one whose index is `w`, or `z`
    where there is none. -/
def lastv {α : Type} (I : ℕ → BitVec 32) (V : ℕ → α) (z : α) (w : ℕ) : ℕ → α
  | 0 => z
  | n + 1 => if (I n).toNat = w then V n else lastv I V z w n

section Words

variable {α : Type} {I : ℕ → BitVec 32} {V : ℕ → α} {z : α}

theorem lastv_skip {w n n' : ℕ} (h : n ≤ n') (hn : ∀ m, n ≤ m → m < n' → (I m).toNat ≠ w) : lastv I V z w n' = lastv I V z w n := by
  obtain ⟨k, rfl⟩ := Nat.exists_eq_add_of_le h
  induction k with
  | zero => rfl
  | succ k ih =>
    rw [← Nat.add_assoc]
    show (if (I (n + k)).toNat = w then V (n + k) else lastv I V z w (n + k)) = _
    rw [if_neg (hn _ (by omega) (by omega)), ih (by omega) (fun m h1 h2 => hn m h1 (by omega))]

theorem lastv_eq {w n n' : ℕ} (h : n < n') (hi : (I n).toNat = w) (hn : ∀ m, n < m → m < n' → (I m).toNat ≠ w) : lastv I V z w n' = V n := by
  rw [lastv_skip (n := n + 1) (by omega) (fun m h1 h2 => hn m (by omega) h2)]
  show (if (I n).toNat = w then V n else _) = _
  rw [if_pos hi]

theorem bkt_eq {w : BitVec 32} {b p : ℕ} (hp : p < 51200) (h : w.toNat = b * 51200 + p) : bkt w = b := by unfold bkt; omega

theorem bkt_off {w : BitVec 32} {b : ℕ} (h : bkt w = b) : b * 51200 ≤ w.toNat ∧ w.toNat < b * 51200 + 51200 := by unfold bkt at h; omega

/-- Block `b` of the result after the first `n` elements. -/
def Upto (I : ℕ → BitVec 32) (V : ℕ → α) (z : α) (b n : ℕ) (y : S51200.Idx → α) : Prop :=
  ∀ p : S51200.Idx, y p = lastv I V z (b * 51200 + (p 0).val) n

theorem Upto.start {b : ℕ} {y : S51200.Idx → α} (h : ∀ p, y p = z) : Upto I V z b 0 y := h

/-- A stretch without elements of the block changes nothing. -/
theorem Upto.skip {b lo n n' : ℕ} {y : S51200.Idx → α} (h : Upto I V z b n y) (hlo : lo ≤ n) (hn : n ≤ n')
    (hc : cnt I b lo n = cnt I b lo n') : Upto I V z b n' y := by
  intro p
  rw [h p]
  have hp : (p 0).val < 51200 := (p 0).isLt
  exact (lastv_skip hn (fun m h1 h2 he => cnt_none hlo hc h1 h2 (bkt_eq hp he))).symm

theorem cnt_reach {b lo hi r : ℕ} (hlo : lo ≤ hi) (hr : r ≤ cnt I b lo hi) : ∃ n, lo ≤ n ∧ n ≤ hi ∧ cnt I b lo n = r := by
  obtain ⟨k, rfl⟩ := Nat.exists_eq_add_of_le hlo
  induction k with
  | zero => exact ⟨lo, le_rfl, le_rfl, by rw [cnt_self]; simp [cnt_self] at hr; omega⟩
  | succ k ih =>
    by_cases hk : r ≤ cnt I b lo (lo + k)
    · obtain ⟨n, h1, h2, h3⟩ := ih (by omega) hk
      exact ⟨n, h1, by omega, h3⟩
    · refine ⟨lo + (k + 1), by omega, le_rfl, ?_⟩
      rw [← Nat.add_assoc, cnt_succ (by omega)] at hr ⊢
      split at hr <;> split <;> omega

end Words

variable {F : FTy → Type} [FloatOps F]

/-- Sixteen lanes of a slot stored into the block: with the block as after the first `t` elements, where `t` has `r` of the
    slot's elements before it, the next sixteen go in. -/
theorem Upto.step {I : ℕ → BitVec 32} {V : ℕ → Elt F .f32} {z : Elt F .f32} {b a e t r : ℕ} {y : S51200.Idx → Elt F .f32} (h : Upto I V z b t y)
    (ht : a ≤ t) (hte : t ≤ e) (hr : cnt I b a t = r) (hlt : r < cnt I b a e) {mask : IVec S16 1} {ix : IVec S16 32} {v : S16.Idx → Elt F .f32}
    (hmask : ∀ x : S16.Idx, mask x = 1 ↔ r + (x 0).val < cnt I b a e)
    (hix : ∀ (x : S16.Idx) (m : ℕ), a ≤ m → m < e → bkt (I m) = b → cnt I b a m = r + (x 0).val → v x = V m ∧ (ix x).toNat = (I m).toNat - b * 51200)
    (hin : ∀ a x, ((![ix] : Fin 1 → IVec S16 32) a x).toNat < S51200.size a) :
    ∃ t', t ≤ t' ∧ t' ≤ e ∧ cnt I b a t' = min (r + 16) (cnt I b a e) ∧ Upto I V z b t' (storeIdx (F := F) (e := .f32) y ![ix] v mask false hin) := by
  obtain ⟨t', h1, h2, h3⟩ := cnt_reach (I := I) (b := b) (lo := a) (hi := e) (r := min (r + 16) (cnt I b a e)) (by omega) (by omega)
  have htt : t ≤ t' := by
    by_contra hc
    have := cnt_mono (I := I) (b := b) (lo := a) (show t' ≤ t by omega)
    omega
  refine ⟨t', htt, h2, h3, ?_⟩
  intro p
  have hp : (p 0).val < 51200 := (p 0).isLt
  -- the element of a set lane lies in the stretch
  have hlane : ∀ x : S16.Idx, mask x = 1 → ∃ m, t ≤ m ∧ m < t' ∧ bkt (I m) = b ∧ cnt I b a m = r + (x 0).val := by
    intro x hx
    have hx16 : (x 0).val < 16 := (x 0).isLt
    have hx' := (hmask x).mp hx
    obtain ⟨m, m1, m2, m3, m4⟩ := cnt_surj hx'
    refine ⟨m, ?_, ?_, m3, m4⟩
    · by_contra hc
      have := cnt_lt m1 (show m < t by omega) m3
      omega
    · by_contra hc
      have := cnt_mono (I := I) (b := b) (lo := a) (show t' ≤ m by omega)
      omega
  -- and an element of the stretch has its lane
  have hel : ∀ m, t ≤ m → m < t' → bkt (I m) = b → ∃ x : S16.Idx, mask x = 1 ∧ cnt I b a m = r + (x 0).val := by
    intro m m1 m2 m3
    have c1 := cnt_mono (I := I) (b := b) (lo := a) m1
    have c2 := cnt_lt (show a ≤ m by omega) m2 m3
    refine ⟨lane (cnt I b a m - r) (by omega), ?_, ?_⟩
    · rw [hmask, lane_val]; omega
    · rw [lane_val]; omega
  have hhit : ∀ (x : S16.Idx) (m : ℕ), t ≤ m → m < t' → bkt (I m) = b → cnt I b a m = r + (x 0).val
      → ((∀ c, (p c).val = ((![ix] : Fin 1 → IVec S16 32) c x).toNat) ↔ (I m).toNat = b * 51200 + (p 0).val) := by
    intro x m m1 m2 m3 m4
    have e1 := (hix x m (by omega) (by omega) m3 m4).2
    have e2 := bkt_off m3
    rw [Fin.forall_fin_one]
    show (p 0).val = (ix x).toNat ↔ _
    omega
  rcases storeIdx_at (F := F) (e := .f32) y ![ix] v mask hin p with ⟨x, hm, hx, hl, hv⟩ | ⟨hn, hv⟩
  · obtain ⟨m, m1, m2, m3, m4⟩ := hlane x hm
    have hI := (hhit x m m1 m2 m3 m4).mp hx
    rw [hv, (hix x m (by omega) (by omega) m3 m4).1]
    symm
    apply lastv_eq m2 hI
    intro m' m1' m2' he
    have hb' := bkt_eq hp he
    obtain ⟨x', hm', hx'⟩ := hel m' (by omega) m2' hb'
    have := cnt_lt (show a ≤ m by omega) m1' m3
    exact hl x' (by omega) hm' ((hhit x' m' (by omega) m2' hb' hx').mpr he)
  · rw [hv, h p]
    symm
    apply lastv_skip htt
    intro m m1 m2 he
    have hb := bkt_eq hp he
    obtain ⟨x, hm, hx⟩ := hel m m1 m2 hb
    exact hn x hm ((hhit x m m1 m2 hb hx).mpr he)

/-- A lane of the slot that is set stores inside the block, and the others store at its first word. -/
theorem lane_inside {I : ℕ → BitVec 32} {b a e r : ℕ} {mask : IVec S16 1} {ix : IVec S16 32}
    (hmask : ∀ x : S16.Idx, mask x = 1 ↔ r + (x 0).val < cnt I b a e)
    (hix : ∀ (x : S16.Idx) (m : ℕ), mask x = 1 → a ≤ m → m < e → bkt (I m) = b → cnt I b a m = r + (x 0).val → (ix x).toNat = (I m).toNat - b * 51200)
    (hoff : ∀ x : S16.Idx, mask x ≠ 1 → (ix x).toNat = 0) (x : S16.Idx) : (ix x).toNat < 51200 := by
  by_cases hx : mask x = 1
  · obtain ⟨m, m1, m2, m3, m4⟩ := cnt_surj ((hmask x).mp hx)
    rw [hix x m hx m1 m2 m3 m4]
    have := bkt_off m3
    omega
  · rw [hoff x hx]; omega

end Cert.Proof.SC
-- ==== Proof.Scat.lean ====
/-
  A scatter of `N` scalars into a vector of `M`, one index word each, read at one element: where its body keeps the update, the last
  update at that element; where it adds ones, how many there are. Then the printed words of the two predicates, as numbers.
-/
module

public import proofs.«01_k».proof.Proof.Hist
public import proofs.«01_k».proof.Proof.Last
public import Idealize.ShloMosaic.Lib.Routing.OpsPair
public import Idealize.ShloMosaic.Lib.StableHlo.Predicate
public import Idealize.ShloMosaic.Lib.ReduceAll

@[expose] public section

noncomputable section

namespace Cert.Proof.SC

open Idealize.ShloMosaic Idealize.ShloMosaic.ValueIdx Idealize.ShloMosaic.Routing

section Generic

variable {M N : ℕ} (d : ScatterDims (⟨1, ![M]⟩ : Shape) (⟨2, ![N, 1]⟩ : Shape) (⟨1, ![N]⟩ : Shape))
  (hiw : d.insertedWindowDims = [0]) (hsd : d.scatterDimsToOperandDims = [0]) (hivd : d.indexVectorDim = 1)
include hiw hsd hivd

/-- Update `i` lands at `x` exactly when its index word, read signed, is `x`. -/
theorem lands_at (idx : IVec (⟨2, ![N, 1]⟩ : Shape) 32) (i : Fin N) (x : Fin M) :
    d.resultIdx? (ix1 i) idx = some (ix1 x) ↔ (idx (ix2 i (0 : Fin 1))).toInt = (x.val : Int) := by
  have hmem : (0 : Fin 1) ∈ d.scatterDimsToOperandDims := hsd ▸ List.mem_singleton.2 rfl
  have hw : d.window (ix1 i) 0 = 0 := by
    unfold ScatterDims.window
    exact dif_neg fun h => (of_decide_eq_true (List.mem_filter.1 h).2) (hiw ▸ List.mem_singleton.2 rfl)
  have hs : d.siIdx (ix1 i) ⟨d.scatterDimsToOperandDims.idxOf 0, List.idxOf_lt_length_iff.2 hmem⟩ = ix2 i (0 : Fin 1) := funext fun a => by
    match a with
    | ⟨1, _⟩ => exact Subsingleton.elim (α := Fin 1) _ _
    | ⟨0, _⟩ =>
      refine Fin.ext ?_
      unfold ScatterDims.siIdx
      rw [dif_neg (by rw [hivd]; exact Nat.zero_ne_one)]
      unfold ScatterDims.siCoord
      rw [Fin.val_cast]
      exact congrArg (fun q : Fin 1 => (ix1 i q).val) (Subsingleton.elim _ (0 : Fin 1))
  rw [resultIdx?_ix1, hw]
  unfold ScatterDims.start
  rw [dif_pos hmem, hs, Nat.cast_zero, Int.add_zero]

/-- A body read at one element, over the updates in order. -/
theorem scatter_walk {α : Type} (f : α → α → α) (x0 : (⟨1, ![M]⟩ : Shape).Idx → α) (idx : IVec (⟨2, ![N, 1]⟩ : Shape) 32)
    (upd : (⟨1, ![N]⟩ : Shape).Idx → α) (x : Fin M) :
    Host.scatter d f x0 idx upd (ix1 x)
      = (List.finRange N).foldl (fun a e => if (idx (ix2 e (0 : Fin 1))).toInt = (x.val : Int) then f a (upd (ix1 e)) else a) (x0 (ix1 x)) := by
  rw [scatter_at]
  have hN : (⟨1, ![N]⟩ : Shape).numel = N := Shape.numel_rank1 _
  have hpos : ∀ n : Fin (⟨1, ![N]⟩ : Shape).numel, (⟨1, ![N]⟩ : Shape).rowMajor.symm n = ix1 (n.cast hN) := fun n =>
    ((⟨1, ![N]⟩ : Shape).rowMajor.symm_apply_eq).2 (Fin.ext (by rw [Shape.rowMajor_val_one]; rfl))
  have hre : ∀ (K : ℕ) (hK : K = N) (g : α → Fin K → α) (g' : α → Fin N → α) (a : α), (∀ a n, g a n = g' a (n.cast hK)) →
      (List.finRange K).foldl g a = (List.finRange N).foldl g' a := by
    intro K hK g g' a hg
    subst hK
    exact congrArg (fun q => List.foldl q a _) (funext fun a => funext fun n => hg a n)
  refine hre _ hN _ _ _ fun a n => ?_
  rw [hpos]
  exact if_congr (lands_at d hiw hsd hivd idx _ x) rfl rfl

end Generic

/-- Taking the value at each hit, in order, leaves the last one. -/
theorem walk_last {α : Type} (I : ℕ → BitVec 32) (V : ℕ → α) (z : α) (w : ℕ) :
    ∀ N, (List.finRange N).foldl (fun a (e : Fin N) => if (I e.val).toNat = w then V e.val else a) z = lastv I V z w N
  | 0 => rfl
  | N + 1 => by
    rw [List.finRange_succ_last, List.foldl_append, List.foldl_map]
    show (if (I N).toNat = w then V N else (List.finRange N).foldl (fun a (e : Fin N) => if (I e.val).toNat = w then V e.val else a) z) = _
    rw [walk_last I V z w N]
    rfl

/-- Adding one at each hit, in order, counts them. -/
theorem walk_count (g : ℕ → ℕ) (c : ℕ) :
    ∀ N, (List.finRange N).foldl (fun a (e : Fin N) => if g e.val = c then IntOp.addi a 1#32 else a) 0#32
      = BitVec.ofNat 32 ((Finset.range N).filter fun n => g n = c).card
  | 0 => rfl
  | N + 1 => by
    rw [List.finRange_succ_last, List.foldl_append, List.foldl_map]
    show (if g N = c then IntOp.addi ((List.finRange N).foldl (fun a (e : Fin N) => if g e.val = c then IntOp.addi a 1#32 else a) 0#32) 1#32
      else (List.finRange N).foldl (fun a (e : Fin N) => if g e.val = c then IntOp.addi a 1#32 else a) 0#32) = _
    rw [walk_count g c N, Finset.range_add_one, Finset.filter_insert]
    split
    · rw [Finset.card_insert_of_notMem (by simp), BitVec.ofNat_add]; rfl
    · rfl

/-- The last value at an element depends only on the elements read. -/
theorem lastv_congr {α : Type} {I I' : ℕ → BitVec 32} {V V' : ℕ → α} (z : α) (w : ℕ) :
    ∀ N, (∀ n < N, I n = I' n ∧ V n = V' n) → lastv I V z w N = lastv I' V' z w N
  | 0, _ => rfl
  | N + 1, h => by
    show (if _ then _ else _) = (if _ then _ else _)
    rw [(h N (by omega)).1, (h N (by omega)).2, lastv_congr z w N fun n hn => h n (by omega)]

/-! ## Words as numbers -/

/-- The division of one small word by another. -/
theorem div_word (u : ArithUnit) (x : BitVec 32) (k : ℕ) (hx : x.toNat < 2 ^ 31) (h0 : 0 < k) (hk : k < 2 ^ 31) :
    (IntOp.divsi u x (BitVec.ofNat 32 k)).toNat = x.toNat / k := by
  have hkn : (BitVec.ofNat 32 k).toNat = k := by rw [BitVec.toNat_ofNat]; omega
  have hkm : (BitVec.ofNat 32 k).msb = false := BitVec.msb_eq_false_iff_two_mul_lt.2 (by omega)
  have hxm : x.msb = false := BitVec.msb_eq_false_iff_two_mul_lt.2 (by omega)
  have hc : ¬ IntOp.SDivCorner x (BitVec.ofNat 32 k) := by
    rintro (h | ⟨-, h⟩)
    · have := congrArg BitVec.toNat h; rw [hkn] at this; exact absurd this (by simpa using h0.ne')
    · have := congrArg BitVec.toNat h; rw [hkn] at this; revert this; simp; omega
  unfold IntOp.divsi
  rw [if_neg hc, BitVec.sdiv_eq, hxm, hkm]
  show (x.udiv (BitVec.ofNat 32 k)).toNat = _
  rw [BitVec.udiv_eq, BitVec.toNat_udiv, hkn]

/-- Two signed comparisons that both came out one: the word is below the bound. -/
theorem range_word (x : BitVec 32) (h : IntOp.andi (IntOp.cmpi .sge x 0#32) (IntOp.cmpi .slt x 13107200#32) = 1#1) : x.toNat < 13107200 := by
  obtain ⟨h1, h2⟩ := IntOp.andi_eq_one.1 h
  have hx : x.toNat < 2 ^ 31 := by
    by_contra hn
    have hm : x.msb = true := BitVec.msb_eq_true_iff_two_mul_ge.2 (by omega)
    unfold IntOp.cmpi at h1
    simp only [StableHlo.Predicate.ofBool_eq_one_iff, BitVec.sle, decide_eq_true_eq, BitVec.toInt_eq_msb_cond, hm, if_true] at h1
    have := x.isLt
    revert h1; simp; omega
  exact (StableHlo.Predicate.slt_iff_toNat hx (by decide)).1 h2

/-- The printed word that names element `n`'s third and the bucket of its index. -/
theorem cell_word (n : ℕ) (hn : n < 1310720) (x : BitVec 32) (hx : x.toNat < 13107200) :
    (IntOp.addi (IntOp.muli (IntOp.divsi .host (IntOp.muli (BitVec.ofNat 32 n) 3#32) 40960#32) 256#32)
      (IntOp.divsi .host x 51200#32)).toNat = n * 3 / 40960 * 256 + bkt x := by
  have h3 : (IntOp.muli (BitVec.ofNat 32 n) 3#32).toNat = n * 3 := by
    unfold IntOp.muli
    rw [BitVec.toNat_mul, BitVec.toNat_ofNat, BitVec.toNat_ofNat]
    omega
  have hq := div_word .host (IntOp.muli (BitVec.ofNat 32 n) 3#32) 40960 (by omega) (by omega) (by omega)
  have hb := div_word .host x 51200 (by omega) (by omega) (by omega)
  rw [h3] at hq
  generalize IntOp.divsi .host (IntOp.muli (BitVec.ofNat 32 n) 3#32) 40960#32 = q at hq ⊢
  generalize IntOp.divsi .host x 51200#32 = r at hb ⊢
  unfold IntOp.addi IntOp.muli bkt
  rw [BitVec.toNat_add, BitVec.toNat_mul, BitVec.toNat_ofNat, hq, hb]
  omega

/-! ## The reference's scatter, and the predicate's histogram -/

/-- A vector as a column. -/
theorem column_apply {α : Type} {N : ℕ} (h : (⟨1, ![N]⟩ : Shape).BroadcastsInDim (⟨2, ![N, 1]⟩ : Shape) ![0]) (v : (⟨1, ![N]⟩ : Shape).Idx → α) (e : Fin N) :
    broadcastInDim (⟨2, ![N, 1]⟩ : Shape) ![0] h v (ix2 e (0 : Fin 1)) = v (ix1 e) := by
  unfold broadcastInDim
  refine congrArg v (funext fun a => Fin.ext ?_)
  match a with
  | ⟨0, _⟩ =>
    have he := e.isLt
    split
    · next h1 => change N = 1 at h1; show (0 : ℕ) = e.val; omega
    · rfl

section Arrays

variable {M N : ℕ} (d : ScatterDims (⟨1, ![M]⟩ : Shape) (⟨2, ![N, 1]⟩ : Shape) (⟨1, ![N]⟩ : Shape))
  (hiw : d.insertedWindowDims = [0]) (hsd : d.scatterDimsToOperandDims = [0]) (hivd : d.indexVectorDim = 1)
include hiw hsd hivd

/-- The scatter that keeps the update: the last value at each element. -/
theorem scatter_last {α : Type} (x0 : (⟨1, ![M]⟩ : Shape).Idx → α) (idx : IVec (⟨2, ![N, 1]⟩ : Shape) 32) (upd : (⟨1, ![N]⟩ : Shape).Idx → α)
    (I : ℕ → BitVec 32) (V : ℕ → α) (z : α) (hz : ∀ j, x0 j = z) (hidx : ∀ e : Fin N, idx (ix2 e (0 : Fin 1)) = I e.val)
    (hupd : ∀ e : Fin N, upd (ix1 e) = V e.val) (hI : ∀ e : Fin N, (I e.val).toNat < 2 ^ 31) :
    Host.scatter d (fun _ b => b) x0 idx upd = fun p => lastv I V z (p 0).val N := by
  funext p
  obtain ⟨x, rfl⟩ : ∃ x : Fin M, p = ix1 x := ⟨p 0, eq_ix1 p⟩
  show _ = lastv I V z x.val N
  rw [scatter_walk d hiw hsd hivd, hz, ← walk_last]
  refine congrArg (fun q => List.foldl q z _) (funext fun a => funext fun e => ?_)
  rw [hidx, hupd, StableHlo.Predicate.toInt_eq_toNat_of_lt (hI e)]
  exact if_congr Int.natCast_inj rfl rfl

/-- The scatter that adds ones: how many there are at each element. -/
theorem scatter_count (x0 : IVec (⟨1, ![M]⟩ : Shape) 32) (idx : IVec (⟨2, ![N, 1]⟩ : Shape) 32) (upd : IVec (⟨1, ![N]⟩ : Shape) 32)
    (g : ℕ → ℕ) (hz : ∀ j, x0 j = 0#32) (hidx : ∀ e : Fin N, (idx (ix2 e (0 : Fin 1))).toNat = g e.val)
    (hupd : ∀ j, upd j = 1#32) (hg : ∀ e : Fin N, g e.val < 2 ^ 31) (x : Fin M) :
    Host.scatter d IntOp.addi x0 idx upd (ix1 x) = BitVec.ofNat 32 ((Finset.range N).filter fun n => g n = x.val).card := by
  rw [scatter_walk d hiw hsd hivd, hz, ← walk_count]
  refine congrArg (fun q => List.foldl q _ _) (funext fun a => funext fun e => ?_)
  rw [hupd, StableHlo.Predicate.toInt_eq_toNat_of_lt (by rw [hidx]; exact hg e), hidx]
  exact if_congr Int.natCast_inj rfl rfl

end Arrays

end Cert.Proof.SC

end
-- ==== Proof.Trip.lean ====
/-
  One trip of the partition kernel's loop over a chunk: the rules for its three inner loops and its two halves, the
  staging state carried as plain functions.
-/
module

public import proofs.«01_k».proof.Proof.Hist

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable [FloatOps F]

/-- The tile a grid coordinate runs on. -/
abbrev c0 (d : Dev nD) (i : grid0.Coords) : Thread nD τ := (d, .scVector ((i 0).castLE hcore0) ((i 1).castLE hsub0))

/-- A load of sixteen elements, from offset `o`. -/
theorem load16 {n : ℕ} {o : Fin 1 → ℕ} (h : ∀ a, o a + S16.size a ≤ (⟨1, ![n]⟩ : Shape).size a) (x : S16.Idx) :
    (((Rect.unit (s := (⟨1, ![n]⟩ : Shape)) o S16.size h).toLoadRect.idx x) 0).val = o 0 + (x 0).val := by
  rw [LoadRect.idx_apply]; simp [Rect.unit, Rect.toLoadRect]

theorem exists_emb {s : Shape} {r : Rect s} {i : s.Idx} (h : i ∈ r.set) : ∃ j, r.emb j = i := by
  rw [← Rect.map_emb_univ] at h
  obtain ⟨j, -, hj⟩ := Finset.mem_map.mp h
  exact ⟨j, hj⟩

/-- Cursors cleared up to sixteen times `k`. -/
def ClearedTo (k : ℕ) (cu : S256.Idx → BitVec 32) : Prop := ∀ b : S256.Idx, (b 0).val < 16 * k → cu b = 0#32

theorem ClearedTo.step {k : ℕ} {cu cu' : S256.Idx → BitVec 32} {o : Fin 1 → ℕ} (h : ClearedTo k cu)
    (hin : ∀ a, o a + S16.size a ≤ S256.size a) (ho : o 0 = 16 * k) {p : IVec S16 32} (hp : ∀ x, p x = 0#32)
    (hs : (∀ j, cu' ((Rect.unit (s := S256) o S16.size hin).emb j) = p j) ∧ ∀ b, b ∉ (Rect.unit (s := S256) o S16.size hin).set → cu' b = cu b) :
    ClearedTo (k + 1) cu' := by
  intro b hb
  by_cases hm : b ∈ (Rect.unit (s := S256) o S16.size hin).set
  · obtain ⟨j, hj⟩ := exists_emb hm
    rw [← hj, hs.1, hp]
  · rw [hs.2 b hm]
    apply h
    by_contra hc
    apply hm
    rw [Rect.mem_set_unit]
    intro a
    rw [Fin.eq_zero a, ho]
    exact ⟨by omega, by show _ < 16 * k + 16; omega⟩

/-- The cursors written into the last column of the rows below sixteen times `k`. -/
def Capped (k : ℕ) (cu : S256.Idx → BitVec 32) (xi xi' : S256x128.Idx → BitVec 32) : Prop :=
  (∀ j, (j 1).val ≠ 127 → xi' j = xi j) ∧ ∀ (j : S256x128.Idx) (b : S256.Idx), (j 1).val = 127 → (j 0).val = (b 0).val → (j 0).val < 16 * k → xi' j = cu b

theorem Capped.step {k : ℕ} {cu : S256.Idx → BitVec 32} {xi xi' : S256x128.Idx → BitVec 32} (h : Capped k cu xi xi')
    {a0 a1 : IVec S16 32} (h0 : ∀ x, (a0 x).toNat = 16 * k + (x 0).val) (h1 : ∀ x, (a1 x).toNat = 127) {p : IVec S16 32}
    (hp : ∀ (x : S16.Idx) (b : S256.Idx), (b 0).val = 16 * k + (x 0).val → p x = cu b)
    (hin : ∀ a x, ((![a0, a1] : Fin 2 → IVec S16 32) a x).toNat < S256x128.size a) :
    Capped (k + 1) cu xi (storeIdx (F := F) (e := .i32) xi' ![a0, a1] p (fun _ => 1#1) false hin) := by
  have at2 : ∀ (j : S256x128.Idx) (x : S16.Idx), (∀ a, (j a).val = ((![a0, a1] : Fin 2 → IVec S16 32) a x).toNat)
      ↔ (j 0).val = 16 * k + (x 0).val ∧ (j 1).val = 127 := by
    intro j x
    rw [← h0, ← h1 x]
    exact Fin.forall_fin_two
  constructor
  · intro j hj
    rcases storeIdx_at (F := F) (e := .i32) xi' ![a0, a1] p (fun _ => 1#1) hin j with ⟨x, _, hx, -, hv⟩ | ⟨-, hv⟩
    · exact absurd ((at2 j x).mp hx).2 hj
    · rw [hv]; exact h.1 j hj
  · intro j b hj hb hk
    rcases storeIdx_at (F := F) (e := .i32) xi' ![a0, a1] p (fun _ => 1#1) hin j with ⟨x, _, hx, -, hv⟩ | ⟨hn, hv⟩
    · rw [hv]; exact hp x b (by rw [← hb]; exact ((at2 j x).mp hx).1)
    · rw [hv]
      refine h.2 j b hj hb ?_
      by_contra hc
      exact hn (lane ((j 0).val - 16 * k) (by omega)) rfl ((at2 j _).mpr ⟨by rw [lane_val]; omega, hj⟩)

theorem iota_lane (x : S16.Idx) : (iota .scVector S16 32 [0] iota_S16_d0_w32_scVector x).toNat = (x 0).val := by
  have hx : (x 0).val < 16 := (x 0).isLt
  show (BitVec.ofNat 32 (0 * S16.size 0 + (x 0).val)).toNat = _
  rw [BitVec.toNat_ofNat]; omega

theorem zero_lane (x : S16.Idx) : k0_pay91 x = 0#32 := by
  show _ * 0#32 = 0#32
  exact BitVec.mul_zero

theorem trips_t3 : k0_t3_loop.trips = 16 := by decide
theorem trips_t4 : k0_t4_loop.trips = 16 := by decide
theorem trips_t2 : k0_t2_loop.trips = 256 := by decide

theorem iv_toNat (k : ℕ) (h : k < 1000) : (Scf.iv 0#32 1#32 k).toNat = k := by
  simp [Scf.iv]; omega

theorem iv_mul_toNat (k m : ℕ) (h : k < 1000) (hm : m < 10000) : (Scalar.muli (Scf.iv 0#32 1#32 k) (BitVec.ofNat 32 m)).toNat = k * m := by
  show (Scf.iv 0#32 1#32 k * BitVec.ofNat 32 m).toNat = _
  rw [BitVec.toNat_mul, iv_toNat k h, BitVec.toNat_ofNat, Nat.mod_eq_of_lt (show m < 2 ^ 32 by omega), Nat.mod_eq_of_lt]
  nlinarith

theorem off3_eq (k : Fin k0_t3_loop.trips) : k0_off3 k 0 = 16 * k.val := by
  have hk : k.val < 16 := lt_of_lt_of_eq k.isLt trips_t3
  show (Scalar.muli (Scf.iv 0#32 1#32 k) 16#32).toNat = _
  rw [iv_mul_toNat _ 16 (by omega) (by omega)]; omega

theorem off5_eq (k : Fin k0_t4_loop.trips) : k0_off5 k 0 = 16 * k.val := by
  have hk : k.val < 16 := lt_of_lt_of_eq k.isLt trips_t4
  show (Scalar.muli (Scf.iv 0#32 1#32 k) 16#32).toNat = _
  rw [iv_mul_toNat _ 16 (by omega) (by omega)]; omega

theorem off6_eq (k : Fin k0_t2_loop.trips) : k0_off6 k 0 = 32 * k.val := by
  have hk : k.val < 256 := lt_of_lt_of_eq k.isLt trips_t2
  show (Scalar.muli (Scalar.addi (Scalar.muli (Scf.iv 0#32 1#32 k) 2#32) 0#32) 16#32).toNat = _
  show ((Scalar.muli (Scf.iv 0#32 1#32 k) 2#32 + 0#32) * 16#32).toNat = _
  rw [BitVec.toNat_mul, BitVec.toNat_add, iv_mul_toNat _ 2 (by omega) (by omega)]
  simp; omega

theorem off7_eq (k : Fin k0_t2_loop.trips) : k0_off7 k 0 = 32 * k.val + 16 := by
  have hk : k.val < 256 := lt_of_lt_of_eq k.isLt trips_t2
  show (Scalar.muli (Scalar.addi (Scalar.muli (Scf.iv 0#32 1#32 k) 2#32) 1#32) 16#32).toNat = _
  show ((Scalar.muli (Scf.iv 0#32 1#32 k) 2#32 + 1#32) * 16#32).toNat = _
  rw [BitVec.toNat_mul, BitVec.toNat_add, iv_mul_toNat _ 2 (by omega) (by omega)]
  simp; omega

section Trip

variable (d : Dev nD) (i : grid0.Coords) (arg2 : Memref sig .scVector .hbm S1310720 .f32) (harg2 : arg2.IsWhole) (arg3 : Memref sig .scVector .hbm S1310720 .i32) (harg3 : arg3.IsWhole) (arg4 : Memref sig .scVector .hbm S256x12288 .i32) (harg4 : arg4.IsWhole) (arg5 : Memref sig .scVector .hbm S256x12288 .f32) (harg5 : arg5.IsWhole) (arg6 : Memref sig .scVector .hbm S512 .i32) (harg6 : arg6.IsWhole) (arg7 : Memref sig .scVector .vmem S256x128 .i32) (harg7 : arg7.IsWhole) (arg8 : Memref sig .scVector .vmem S256x128 .f32) (harg8 : arg8.IsWhole) (arg9 : Memref sig .scVector .vmem S256 .i32) (harg9 : arg9.IsWhole) (arg10 : Memref sig .scVector .vmem S8192 .i32) (harg10 : arg10.IsWhole) (arg11 : Memref sig .scVector .vmem S8192 .f32) (harg11 : arg11.IsWhole) (arg12 : Memref sig .scVector .vmem S8192 .i32) (harg12 : arg12.IsWhole) (arg13 : Memref sig .scVector .vmem S8192 .f32) (harg13 : arg13.IsWhole) (arg14 : Memref sig .scVector .vmem S16 .i32) (harg14 : arg14.IsWhole) (arg15 : DmaSems sig S_) (arg16 : DmaSems sig S_) (v86_r0 : DmaSems sig S_)

theorem wp_cap {v1 : BitVec 32} {v3 v5 : IVec S16 32} (hv3 : ∀ x, (v3 x).toNat = (x 0).val) (hv5 : ∀ x, v5 x = 0#32)
    {b0 b1 : BitVec 32} {t2 : Fin k0_t2_loop.trips} {f p : BitVec 32} (h1 : k0_cond1 p = 1#1)
    {cu : S256.Idx → BitVec 32} {xi : S256x128.Idx → BitVec 32} {α : Type} {kk : Unit → Prog (TpuEff nD τ sig (Elt F) Λ₀ (c0 d i).2) α}
    {Q : α → sProp (MT nD τ sig (HIx 2) (Elt F) ℕ UU ℕ)} :
    iprop(Hold (F := F) (e := .i32) (c0 d i) arg9 cu ∗ Hold (F := F) (e := .i32) (c0 d i) arg7 xi)
      ⊢ iprop((∀ xi', ⌜Capped 16 cu xi xi'⌝ -∗ Hold (F := F) (e := .i32) (c0 d i) arg9 cu -∗ Hold (F := F) (e := .i32) (c0 d i) arg7 xi'
          -∗ wp frame (wpE (defs₀ (F := F)) 𝒱₀ (c0 d i) none) Set.univ (kk ⟨⟩) Q)
        -∗ wp frame (wpE (defs₀ (F := F)) 𝒱₀ (c0 d i) none) Set.univ
          (Scf.Loop.for k0_t3_loop k0_t3_ok ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 arg16 v86_r0 v1 v3 v5 b0 b1 t2 f p h1) >>= kk) Q) := by
  iintro ⟨Hc, Hx⟩ Hk
  iapply (Scf.wp_for_bind frame (wpE (defs₀ (F := F)) 𝒱₀ (c0 d i) none) Set.univ _ _ _ k0_t3_ok ⟨⟩ _
    (fun k (_ : Unit) => iprop(∃ xi', ⌜Capped k cu xi xi'⌝ ∗ Hold (F := F) (e := .i32) (c0 d i) arg9 cu ∗ Hold (F := F) (e := .i32) (c0 d i) arg7 xi')) ?hb) $$ [Hc Hx]
  case hb =>
    intro k acc
    unfold k0_t3_body
    simp only [Prog.lift, Prog.bind_op, Prog.bind_ret, Prog.pure_eq_ret]
    iintro ⟨%xi', %hcap, Hc, Hx⟩
    iapply (wp_hold_load (c := c0 d i) (m := arg9)) $$ Hc
    iintro Hc
    have hk : k.val < 16 := lt_of_lt_of_eq k.isLt trips_t3
    have h0 : ∀ x, (k0_pay1 v3 k x).toNat = 16 * k.val + (x 0).val := by
      intro x
      show (Scalar.muli (Scf.iv 0#32 1#32 k) 16#32 + v3 x).toNat = _
      have hx : (x 0).val < 16 := (x 0).isLt
      rw [BitVec.toNat_add, iv_mul_toNat _ 16 (by omega) (by omega), hv3]; omega
    have h1' : ∀ x, (k0_pay2 v5 x).toNat = 127 := by
      intro x
      show (v5 x + 127#32).toNat = _
      rw [hv5]; rfl
    have hchk : k0_chk1 p (k0_pay1 v3 k) (k0_pay2 v5) := by
      intro _ a x
      have hx : (x 0).val < 16 := (x 0).isLt
      match a with
      | 0 => show (k0_pay1 v3 k x).toNat < 256; rw [h0]; omega
      | 1 => show (k0_pay2 v5 x).toNat < 128; rw [h1']; omega
    have hp' : ∀ (x : S16.Idx) (b : S256.Idx), (b 0).val = 16 * k.val + (x 0).val
        → cu ((Rect.unit (s := S256) (k0_off3 k) S16.size (k0_off3_inb k)).toLoadRect.idx x) = cu b := by
      intro x b hb
      congr 1
      funext a
      apply Fin.ext
      rw [Fin.eq_zero a, load16, off3_eq, hb]
    have hnew := hcap.step (F := F) h0 h1' hp' (k0_idx1_inb p _ _ hchk h1)
    rw [wp_assume_of _ _ _ _ hchk]
    iapply (wp_hold_storeIdx (c := c0 d i) (base := arg7) harg7) $$ Hx
    iintro Hx
    rw [wp_ret]
    imodintro
    iexists _
    isplitr
    · ipureintro
      exact hnew
    isplitl [Hc]; · iexact Hc
    iexact Hx
  · iexists xi
    isplitr
    · ipureintro; exact ⟨fun _ _ => rfl, fun j b _ _ h => absurd h (by omega)⟩
    isplitl [Hc]; · iexact Hc
    iexact Hx
  iintro %acc ⟨%xi', %hcap, Hc, Hx⟩
  iapply Hk $$ %xi' [] Hc Hx
  ipureintro
  exact (show Scf.trips k0_t3_loop.lb k0_t3_loop.ub k0_t3_loop.st = 16 from trips_t3) ▸ hcap

/-- The loop that clears the cursors. -/
theorem wp_clear {v1 : BitVec 32} {v3 v5 : IVec S16 32} {b0 b1 : BitVec 32} {t2 : Fin k0_t2_loop.trips} {f p : BitVec 32}
    {cu : S256.Idx → BitVec 32} {α : Type} {kk : Unit → Prog (TpuEff nD τ sig (Elt F) Λ₀ (c0 d i).2) α}
    {Q : α → sProp (MT nD τ sig (HIx 2) (Elt F) ℕ UU ℕ)} :
    Hold (F := F) (e := .i32) (c0 d i) arg9 cu
      ⊢ iprop((∀ cu', ⌜∀ b, cu' b = 0#32⌝ -∗ Hold (F := F) (e := .i32) (c0 d i) arg9 cu'
          -∗ wp frame (wpE (defs₀ (F := F)) 𝒱₀ (c0 d i) none) Set.univ (kk ⟨⟩) Q)
        -∗ wp frame (wpE (defs₀ (F := F)) 𝒱₀ (c0 d i) none) Set.univ
          (Scf.Loop.for k0_t4_loop k0_t4_ok ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 arg16 v86_r0 v1 v3 v5 b0 b1 t2 f p) >>= kk) Q) := by
  iintro Hc Hk
  iapply (Scf.wp_for_bind frame (wpE (defs₀ (F := F)) 𝒱₀ (c0 d i) none) Set.univ _ _ _ k0_t4_ok ⟨⟩ _
    (fun k (_ : Unit) => iprop(∃ cu', ⌜ClearedTo k cu'⌝ ∗ Hold (F := F) (e := .i32) (c0 d i) arg9 cu')) ?hb) $$ [Hc]
  case hb =>
    intro k acc
    unfold k0_t4_body
    simp only [Prog.lift, Prog.bind_op, Prog.bind_ret, Prog.pure_eq_ret]
    iintro ⟨%cu', %hcl, Hc⟩
    iapply (wp_hold_load (c := c0 d i) (m := arg9)) $$ Hc
    iintro Hc
    iapply (wp_hold_store (c := c0 d i) (m := arg9)) $$ Hc
    iintro %cu'' %hs Hc
    rw [wp_ret]
    imodintro
    iexists cu''
    isplitr
    · ipureintro
      exact hcl.step (k0_off5_inb k) (off5_eq k) (p := k0_pay3) (fun _ => rfl) hs
    iexact Hc
  · iexists cu
    isplitr
    · ipureintro; intro b hb; exact absurd hb (by omega)
    iexact Hc
  iintro %acc ⟨%cu', %hcl, Hc⟩
  iapply Hk $$ %cu' [] Hc
  ipureintro
  intro b
  have h16 : ClearedTo 16 cu' := (show Scf.trips k0_t4_loop.lb k0_t4_loop.ub k0_t4_loop.st = 16 from trips_t4) ▸ hcl
  exact h16 b (by have : (b 0).val < 256 := (b 0).isLt; omega)

/-- The elements of a staging array a tile writes: the columns of its three slots. -/
def tileCols {c : Thread nD τ} {sp : Space} {e : EltTy} (m : Memref sig c.2.kind sp S256x12288 e) (w : ℕ) : Finset (Idx (m.view.loc c)) :=
  (Finset.univ.filter fun j : S256x12288.Idx => w * 384 ≤ (j 1).val ∧ (j 1).val < w * 384 + 384).map m.view.emb

/-- Slot `s` of an array that read `y` rewritten to `x`. -/
def SlotWrote {A : Type} (s : ℕ) (x : S256x128.Idx → A) (y y' : S256x12288.Idx → A) : Prop :=
  (∀ (i : S256x128.Idx) (j : S256x12288.Idx), (j 0).val = (i 0).val → (j 1).val = s * 128 + (i 1).val → y' j = x i)
    ∧ ∀ j : S256x12288.Idx, ¬ (s * 128 ≤ (j 1).val ∧ (j 1).val < s * 128 + 128) → y' j = y j

theorem slot_sub {c : Thread nD τ} {sp : Space} {e : EltTy} (m : Memref sig c.2.kind sp S256x12288 e) {w s : ℕ} (hs : w * 3 ≤ s) (hs' : s < w * 3 + 3)
    {o : Fin 2 → ℕ} (hin : ∀ a, o a + S256x128.size a ≤ S256x12288.size a) (h1 : o 1 = s * 128) :
    (m.slice (Rect.unit (s := S256x12288) o S256x128.size hin) (fun _ => rfl)).view.set ⊆ tileCols (c := c) m w := by
  show (m.view.slice _).set ⊆ _
  rw [View.set_slice]
  unfold tileCols
  refine Finset.map_subset_map.mpr ?_
  intro j hj
  rw [Rect.mem_set_unit] at hj
  have := hj 1
  rw [h1] at this
  simp only [Finset.mem_filter, Finset.mem_univ, true_and]
  have h2 : S256x128.size 1 = 128 := rfl
  omega

theorem slot_wrote {c : Thread nD τ} {sp : Space} {e : EltTy} (m : Memref sig c.2.kind sp S256x12288 e) {s : ℕ}
    {o : Fin 2 → ℕ} (hin : ∀ a, o a + S256x128.size a ≤ S256x12288.size a) (h0 : o 0 = 0) (h1 : o 1 = s * 128)
    (g : Buf (Elt F) (m.view.loc c)) (x : S256x128.Idx → Elt F e) :
    SlotWrote s x (m.view.read (Elt F) g) (m.view.read (Elt F) ((m.slice (Rect.unit (s := S256x12288) o S256x128.size hin) (fun _ => rfl)).view.write (Elt F) g x Finset.univ)) := by
  constructor
  · intro i j hj0 hj1
    have hj : j = (Rect.unit (s := S256x12288) o S256x128.size hin).emb i := by
      funext a
      apply Fin.ext
      rw [Rect.emb_apply]
      match a with
      | 0 => show (j 0).val = o 0 + 1 * (i 0).val; omega
      | 1 => show (j 1).val = o 1 + 1 * (i 1).val; omega
    rw [hj]
    exact View.read_slice_write_emb (v := m.view) (Rect.unit (s := S256x12288) o S256x128.size hin) g x (Finset.mem_univ i)
  · intro j hj
    refine View.read_slice_write_of_not_mem (v := m.view) (Rect.unit (s := S256x12288) o S256x128.size hin) g x _ ?_
    rw [Rect.map_emb_univ, Rect.mem_set_unit]
    intro hc
    apply hj
    have := hc 1
    rw [h1] at this
    exact this

/-- What a transfer into a view of this shape credits on a tile. -/
abbrev credit (s : Shape) (e : EltTy) : ℕ := sig.dmaCredit .scVector .hbm 0 s e

abbrev NF : ℕ := credit S256x128 .i32

theorem NF_f32 : credit S256x128 .f32 = NF := by decide

theorem NF_pos : 0 < NF := sig.dmaCredit_pos _ _ _ _ _ (by decide)

/-- The staging rows written to slot `s` of the tile's columns, and the write awaited. -/
theorem wp_slot {m4 : Memref sig .scVector .hbm S256x12288 .i32} {m5 : Memref sig .scVector .hbm S256x12288 .f32}
    {m7 : Memref sig .scVector .vmem S256x128 .i32} {m8 : Memref sig .scVector .vmem S256x128 .f32} (hw7 : m7.IsWhole) (hw8 : m8.IsWhole)
    {sem : DmaSem sig} {w s : ℕ} (hs : w * 3 ≤ s) (hs' : s < w * 3 + 3)
    {o : Fin 2 → ℕ} {hin : ∀ a, o a + S256x128.size a ≤ S256x12288.size a} (h0 : o 0 = 0) (h1 : o 1 = s * 128)
    {g0 : Buf (Elt F) (m4.view.loc (c0 d i))} {g1 : Buf (Elt F) (m5.view.loc (c0 d i))}
    {xi : S256x128.Idx → BitVec 32} {xv : S256x128.Idx → Elt F .f32} {O : CellTallies nD τ sig (HIx 2)} {W : Waits sig (HIx 2)}
    {a1 a2 a3 a4 a5 a6 a7 a8 a9 a10} {α : Type} {kk : PUnit → Prog (TpuEff nD τ sig (Elt F) Λ₀ (c0 d i).2) α}
    {Q : α → sProp (MT nD τ sig (HIx 2) (Elt F) ℕ UU ℕ)} :
    iprop(Hold (F := F) (c0 d i) m7 xi ∗ (m4.view.loc (c0 d i) ↦[tileCols (c := c0 d i) m4 w]{fullShare} g0) ∗ Hold (F := F) (c0 d i) m8 xv ∗ (m5.view.loc (c0 d i) ↦[tileCols (c := c0 d i) m5 w]{fullShare} g1)
        ∗ semVal (c0 d i, .dma sem) 0 ∗ Owe (c0 d i) O W)
      ⊢ iprop((∀ g0' g1', ⌜SlotWrote s xi (m4.view.read (Elt F) g0) (m4.view.read (Elt F) g0') ∧ SlotWrote s xv (m5.view.read (Elt F) g1) (m5.view.read (Elt F) g1')⌝
          -∗ Hold (F := F) (c0 d i) m7 xi -∗ (m4.view.loc (c0 d i) ↦[tileCols (c := c0 d i) m4 w]{fullShare} g0') -∗ Hold (F := F) (c0 d i) m8 xv -∗ (m5.view.loc (c0 d i) ↦[tileCols (c := c0 d i) m5 w]{fullShare} g1')
          -∗ semVal (c0 d i, .dma sem) 0 -∗ Owe (c0 d i) O W -∗ wp frame (wpE (defs₀ (F := F)) 𝒱₀ (c0 d i) none) Set.univ (kk ⟨⟩) Q)
        -∗ wp frame (wpE (defs₀ (F := F)) 𝒱₀ (c0 d i) none) Set.univ
          (.op (.enqueueDma m7 (.here (m4.slice (Rect.unit (s := S256x12288) o S256x128.size hin) (fun _ => rfl))) (.dma sem) a1 a2 a3) fun _ =>
            .op (.enqueueDma m8 (.here (m5.slice (Rect.unit (s := S256x12288) o S256x128.size hin) (fun _ => rfl))) (.dma sem) a4 a5 a6) fun _ =>
            .op (.waitDma2 sem m7 (m4.slice (Rect.unit (s := S256x12288) o S256x128.size hin) (fun _ => rfl)) a7 a8) fun _ =>
            .op (.waitDma2 sem m8 (m5.slice (Rect.unit (s := S256x12288) o S256x128.size hin) (fun _ => rfl)) a9 a10) kk) Q) := by
  iintro ⟨H7, H4, H8, H5, Hv, HO⟩ Hk
  iapply (wp_flush2 (c := c0 d i) hw7 hw8 (slot_sub (c := c0 d i) m4 hs hs' hin h1) (slot_sub (c := c0 d i) m5 hs hs' hin h1) NF rfl NF_f32) $$ [H7 H4 H8 H5 Hv]
  · isplitl [H7]; · iexact H7
    isplitl [H4]; · iexact H4
    isplitl [H8]; · iexact H8
    isplitl [H5]; · iexact H5
    iexact Hv
  iintro HP
  iapply (wp_await_first (c := c0 d i) (N := NF) rfl NF_pos) $$ [HP HO]
  · isplitl [HP]; · iexact HP
    iexact HO
  iintro ⟨HP, HO⟩
  iapply (wp_await_second (c := c0 d i) (N := NF) NF_f32 NF_pos) $$ [HP HO]
  · isplitl [HP]; · iexact HP
    iexact HO
  unfold Flush
  iintro ⟨⟨H7, H4⟩, ⟨H8, H5⟩, Hv, HO⟩
  iapply Hk $$ %_ %_ [] H7 H4 H8 H5 Hv HO
  ipureintro
  exact ⟨slot_wrote (c := c0 d i) m4 hin h0 h1 g0 xi, slot_wrote (c := c0 d i) m5 hin h0 h1 g1 xv⟩

/-- The staging buffers and arrays of a tile: the elements `tf, …, t - 1` in the rows, `f` flushes before them. -/
def Stage (I : ℕ → BitVec 32) (V : ℕ → Elt F .f32) (w lo tf t f : ℕ) : sProp 𝕄 :=
  iprop(∃ (xi : S256x128.Idx → BitVec 32) (xv : S256x128.Idx → Elt F .f32) (cu : S256.Idx → BitVec 32)
      (g0 : Buf (Elt F) (arg4.view.loc (c0 d i))) (g1 : Buf (Elt F) (arg5.view.loc (c0 d i))),
    ⌜Rows I V tf t xi xv cu ∧ Hist I V w lo tf f (arg4.view.read (Elt F) g0) (arg5.view.read (Elt F) g1)⌝
    ∗ Hold (F := F) (e := .i32) (c0 d i) arg7 xi ∗ Hold (F := F) (e := .f32) (c0 d i) arg8 xv ∗ Hold (F := F) (e := .i32) (c0 d i) arg9 cu
    ∗ (arg4.view.loc (c0 d i) ↦[tileCols (c := c0 d i) arg4 w]{fullShare} g0)
    ∗ (arg5.view.loc (c0 d i) ↦[tileCols (c := c0 d i) arg5 w]{fullShare} g1)
    ∗ semVal (c0 d i, .dma arg15.sem) 0)

theorem Stage_open {I : ℕ → BitVec 32} {V : ℕ → Elt F .f32} {w lo tf t f : ℕ} :
    Stage d i arg4 arg5 arg7 arg8 arg9 arg15 I V w lo tf t f
      ⊢ iprop(∃ (xi : S256x128.Idx → BitVec 32) (xv : S256x128.Idx → Elt F .f32) (cu : S256.Idx → BitVec 32)
      (g0 : Buf (Elt F) (arg4.view.loc (c0 d i))) (g1 : Buf (Elt F) (arg5.view.loc (c0 d i))),
    ⌜Rows I V tf t xi xv cu ∧ Hist I V w lo tf f (arg4.view.read (Elt F) g0) (arg5.view.read (Elt F) g1)⌝
    ∗ Hold (F := F) (e := .i32) (c0 d i) arg7 xi ∗ Hold (F := F) (e := .f32) (c0 d i) arg8 xv ∗ Hold (F := F) (e := .i32) (c0 d i) arg9 cu
    ∗ (arg4.view.loc (c0 d i) ↦[tileCols (c := c0 d i) arg4 w]{fullShare} g0)
    ∗ (arg5.view.loc (c0 d i) ↦[tileCols (c := c0 d i) arg5 w]{fullShare} g1)
    ∗ semVal (c0 d i, .dma arg15.sem) 0) := by
  unfold Stage; exact .rfl

theorem Stage_close {I : ℕ → BitVec 32} {V : ℕ → Elt F .f32} {w lo tf t f : ℕ} {xi : S256x128.Idx → BitVec 32} {xv : S256x128.Idx → Elt F .f32} {cu : S256.Idx → BitVec 32}
      {g0 : Buf (Elt F) (arg4.view.loc (c0 d i))} {g1 : Buf (Elt F) (arg5.view.loc (c0 d i))}
    (h : Rows I V tf t xi xv cu ∧ Hist I V w lo tf f (arg4.view.read (Elt F) g0) (arg5.view.read (Elt F) g1)) :
    iprop(Hold (F := F) (e := .i32) (c0 d i) arg7 xi ∗ Hold (F := F) (e := .f32) (c0 d i) arg8 xv ∗ Hold (F := F) (e := .i32) (c0 d i) arg9 cu
    ∗ (arg4.view.loc (c0 d i) ↦[tileCols (c := c0 d i) arg4 w]{fullShare} g0)
    ∗ (arg5.view.loc (c0 d i) ↦[tileCols (c := c0 d i) arg5 w]{fullShare} g1)
    ∗ semVal (c0 d i, .dma arg15.sem) 0) ⊢ Stage d i arg4 arg5 arg7 arg8 arg9 arg15 I V w lo tf t f := by
  unfold Stage
  iintro H
  iexists xi, xv, cu, g0, g1
  isplitr; · ipureintro; exact h
  iexact H

theorem Stage_le {I : ℕ → BitVec 32} {V : ℕ → Elt F .f32} {w lo tf t f : ℕ} :
    Stage d i arg4 arg5 arg7 arg8 arg9 arg15 I V w lo tf t f ⊢ iprop(⌜tf ≤ t⌝ ∗ Stage d i arg4 arg5 arg7 arg8 arg9 arg15 I V w lo tf t f) := by
  unfold Stage
  iintro ⟨%xi, %xv, %cu, %g0, %g1, %hp, H⟩
  isplitr; · ipureintro; exact hp.1.le
  iexists xi, xv, cu, g0, g1
  isplitr; · ipureintro; exact hp
  iexact H

/-- What staging sixteen elements asks and gives. -/
structure StageFacts (I : ℕ → BitVec 32) (V : ℕ → Elt F .f32) (tf t : ℕ) (xi : S256x128.Idx → BitVec 32) (xv : S256x128.Idx → Elt F .f32)
    (cu : S256.Idx → BitVec 32) (w : Vec F S16 .i32) (wv : Vec F S16 .f32) : Prop where
  chk : k0_chk3 (k0_pay4 (F := F) w)
  chk' : ∀ h1, k0_chk4 (k0_pay4 (F := F) w) (k0_pay7 (F := F) (k0_pay4 (F := F) w) (loadIdx (F := F) (e := .i32) cu ![k0_pay4 (F := F) w] h1))
  slot : ∀ h1 x, (k0_pay7 (F := F) (k0_pay4 (F := F) w) (loadIdx (F := F) (e := .i32) cu ![k0_pay4 (F := F) w] h1) x).toNat = cnt I (bkt (I (t + (x 0).val))) tf (t + (x 0).val)
  small : ∀ x : S16.Idx, cnt I (bkt (I (t + (x 0).val))) tf (t + (x 0).val) < 126
  rows : ∀ h1 h2 h3 h4, Rows I V tf (t + 16)
      (storeIdx (F := F) (e := .i32) xi ![k0_pay4 (F := F) w, k0_pay7 (F := F) (k0_pay4 (F := F) w) (loadIdx (F := F) (e := .i32) cu ![k0_pay4 (F := F) w] h1)] w (fun _ => 1#1) false h2)
      (storeIdx (F := F) (e := .f32) xv ![k0_pay4 (F := F) w, k0_pay7 (F := F) (k0_pay4 (F := F) w) (loadIdx (F := F) (e := .i32) cu ![k0_pay4 (F := F) w] h1)] wv (fun _ => 1#1) false h3)
      (storeIdx (F := F) (e := .i32) cu ![k0_pay4 (F := F) w] (k0_pay8 (k0_pay7 (F := F) (k0_pay4 (F := F) w) (loadIdx (F := F) (e := .i32) cu ![k0_pay4 (F := F) w] h1)))
        (k0_pay6 (k0_pay4 (F := F) w)) false h4)

theorem stage_facts {I : ℕ → BitVec 32} {V : ℕ → Elt F .f32} {tf t : ℕ} {xi : S256x128.Idx → BitVec 32} {xv : S256x128.Idx → Elt F .f32}
    {cu : S256.Idx → BitVec 32} {w : Vec F S16 .i32} {wv : Vec F S16 .f32} (h : Rows I V tf t xi xv cu) (hI : ∀ l < 16, (I (t + l)).toNat < 13107200)
    (hM : ∀ b < 256, cnt I b tf t ≤ 110) (hw : ∀ x : S16.Idx, w x = I (t + (x 0).val)) (hwv : ∀ x : S16.Idx, wv x = V (t + (x 0).val)) :
    StageFacts I V tf t xi xv cu w wv := by
  have hb : ∀ x : S16.Idx, (k0_pay4 (F := F) w x).toNat = bkt (I (t + (x 0).val)) := by
    intro x
    rw [bucket_pay w x (by rw [hw]; exact hI _ (x 0).isLt), hw]
  have hlt : ∀ x : S16.Idx, bkt (I (t + (x 0).val)) < 256 := fun x => bkt_lt (hI _ (x 0).isLt)
  have hsm : ∀ x : S16.Idx, cnt I (bkt (I (t + (x 0).val))) tf (t + (x 0).val) < 126 := by
    intro x
    have hx : (x 0).val < 16 := (x 0).isLt
    have := cnt_le_add (I := I) (b := bkt (I (t + (x 0).val))) h.le (x 0).val
    have := hM _ (hlt x)
    omega
  have c1 : ∀ a x, ((![k0_pay4 (F := F) w] : Fin 1 → IVec S16 32) a x).toNat < S256.size a := by
    intro a x
    match a with
    | 0 => show (k0_pay4 (F := F) w x).toNat < 256; rw [hb]; exact hlt x
  have sl := fun h1 x => slot_lane h hI hM hb h1 x
  have c2 : ∀ h1 a x, ((![k0_pay4 (F := F) w, k0_pay7 (F := F) (k0_pay4 (F := F) w) (loadIdx (F := F) (e := .i32) cu ![k0_pay4 (F := F) w] h1)] : Fin 2 → IVec S16 32) a x).toNat
      < S256x128.size a := by
    intro h1 a x
    match a with
    | 0 => show (k0_pay4 (F := F) w x).toNat < 256; rw [hb]; exact hlt x
    | 1 =>
      show (k0_pay7 (F := F) (k0_pay4 (F := F) w) (loadIdx (F := F) (e := .i32) cu ![k0_pay4 (F := F) w] h1) x).toNat < 128
      rw [sl]; have := hsm x; omega
  exact ⟨⟨c1, c1⟩, fun h1 => ⟨c2 h1, c2 h1⟩, sl, hsm, fun h1 h2 h3 h4 => h.step hI hw hwv hb (sl h1) hM h2 h3 h4⟩

/-- The second half of a trip. -/
theorem wp_part2 {I : ℕ → BitVec 32} {V : ℕ → Elt F .f32} {w lo tf t f base : ℕ} {t2 : Fin k0_t2_loop.trips} {a17 : BitVec 32} {v116 v118 : IVec S16 32}
    {ib : S8192.Idx → BitVec 32} {vb : S8192.Idx → Elt F .f32} (hib : ∀ j : S8192.Idx, ib j = I (base + (j 0).val)) (hvb : ∀ j : S8192.Idx, vb j = V (base + (j 0).val))
    (ht : t = base + (32 * t2.val + 16)) (hI : ∀ l < 16, (I (t + l)).toNat < 13107200) (hM : ∀ b < 256, cnt I b tf t ≤ 110) :
    iprop(Stage d i arg4 arg5 arg7 arg8 arg9 arg15 I V w lo tf t f
        ∗ Hold (F := F) (e := .i32) (c0 d i) arg10 ib ∗ Hold (F := F) (e := .f32) (c0 d i) arg11 vb)
      ⊢ wp frame (wpE (defs₀ (F := F)) 𝒱₀ (c0 d i) none) Set.univ
          (k0_part2 (F := F) i arg2 harg2 arg3 harg3 arg4 harg4 arg5 harg5 arg6 harg6 arg7 harg7 arg8 harg8 arg9 harg9 arg10 harg10 arg11 harg11 arg12 harg12 arg13 harg13 arg14 harg14 arg15 arg16 v86_r0 t2 a17 v116 v118) fun r =>
            iprop(∃ sl : IVec S16 32, ⌜r = ⟨Scalar.maxsi 0#32 (extractAt ![15] (k0_pay11 v116 v118) inpos_S16_p15), k0_pay17, k0_pay18 sl⟩
                ∧ ∀ x : S16.Idx, (sl x).toNat = cnt I (bkt (I (t + (x 0).val))) tf (t + (x 0).val)
                  ∧ cnt I (bkt (I (t + (x 0).val))) tf (t + (x 0).val) < 126⌝
              ∗ Stage d i arg4 arg5 arg7 arg8 arg9 arg15 I V w lo tf (t + 16) f
              ∗ Hold (F := F) (e := .i32) (c0 d i) arg10 ib ∗ Hold (F := F) (e := .f32) (c0 d i) arg11 vb) := by
  rw [k0_part2_eq_skeleton]
  unfold k0_part2_skel
  simp only [Prog.lift, Prog.bind_op, Prog.bind_ret, Prog.pure_eq_ret]
  iintro ⟨HS, Hi, Hf⟩
  unfold Stage
  icases HS with ⟨%xi, %xv, %cu, %g0, %g1, %hp, H7, H8, H9, H4, H5, Hv⟩
  obtain ⟨hr, hh⟩ := hp
  iapply (wp_hold_load (c := c0 d i) (m := arg10)) $$ Hi
  iintro Hi
  iapply (wp_hold_load (c := c0 d i) (m := arg11)) $$ Hf
  iintro Hf
  have hF := stage_facts (F := F) (w := fun j => ib ((Rect.unit (s := S8192) (k0_off7 t2) S16.size (k0_off7_inb t2)).toLoadRect.idx j))
    (wv := fun j => vb ((Rect.unit (s := S8192) (k0_off7 t2) S16.size (k0_off7_inb t2)).toLoadRect.idx j)) hr hI hM
    (by intro x; rw [hib, load16, off7_eq, ht]; congr 1; omega) (by intro x; rw [hvb, load16, off7_eq, ht]; congr 1; omega)
  rw [wp_assume_of _ _ _ _ ?hc5]
  case hc5 => exact hF.chk
  iapply (wp_hold_loadIdx (c := c0 d i) (base := arg9)) $$ H9
  iintro H9
  rw [wp_assume_of _ _ _ _ ?hc6]
  case hc6 => exact hF.chk' _
  iapply (wp_hold_storeIdx (c := c0 d i) (base := arg7) harg7) $$ H7
  iintro H7
  iapply (wp_hold_storeIdx (c := c0 d i) (base := arg8) harg8) $$ H8
  iintro H8
  iapply (wp_hold_storeIdx (c := c0 d i) (base := arg9) harg9) $$ H9
  iintro H9
  rw [wp_ret]
  imodintro
  iexists _
  isplitr
  · ipureintro; exact ⟨rfl, fun x => ⟨hF.slot _ x, hF.small x⟩⟩
  isplitr [Hi Hf]
  · iexists _, _, _, g0, g1
    isplitr
    · ipureintro; exact ⟨hF.rows hF.chk.1 (hF.chk' hF.chk.1).1 (hF.chk' hF.chk.1).1 hF.chk.1, hh⟩
    isplitl [H7]; · iexact H7
    isplitl [H8]; · iexact H8
    isplitl [H9]; · iexact H9
    isplitl [H4]; · iexact H4
    isplitl [H5]; · iexact H5
    iexact Hv
  isplitl [Hi]; · iexact Hi
  iexact Hf

theorem cond_iff (p : BitVec 32) (hp : p.toNat ≤ 1000) : k0_cond1 p = 1#1 ↔ 95 ≤ p.toNat := by
  have h : k0_cond1 p = (if 95 ≤ p.toNat then 1#1 else 0#1) := by
    have h1 : (95#32).sle p = decide (95 ≤ p.toNat) := by
      rw [BitVec.sle_eq_decide, BitVec.toInt_eq_toNat_cond, BitVec.toInt_eq_toNat_cond]
      simp
      omega
    show Scalar.cmpi .ne (Scalar.extui (Scalar.cmpi .sge p 95#32)) 0#32 = _
    simp only [Scalar.cmpi, Scalar.extui, IntOp.cmpi, h1]
    by_cases hc : 95 ≤ p.toNat
    · simp [hc]
    · simp [hc]
  rw [h]
  by_cases hc : 95 ≤ p.toNat <;> simp [hc]

theorem minsi_two (f : BitVec 32) (hf : f.toNat < 2 ^ 31) : (Scalar.minsi f 2#32).toNat = min f.toNat 2 := by
  show (IntOp.minsi f 2#32).toNat = _
  unfold IntOp.minsi
  split
  · rename_i h
    rw [BitVec.slt_eq_decide, decide_eq_true_eq, BitVec.toInt_eq_toNat_cond, BitVec.toInt_eq_toNat_cond] at h
    simp at h
    omega
  · rename_i h
    rw [BitVec.slt_eq_decide, decide_eq_true_eq, BitVec.toInt_eq_toNat_cond, BitVec.toInt_eq_toNat_cond] at h
    simp at h
    simp
    omega

/-- The tile's number. -/
def wid (i : grid0.Coords) : ℕ := (i 1).val * 2 + (i 0).val

theorem wid_lt (i : grid0.Coords) : wid i < 32 := by
  have h0 : (i 0).val < 2 := (i 0).isLt
  have h1 : (i 1).val < 16 := (i 1).isLt
  unfold wid; omega

theorem off4_one (i : grid0.Coords) (f : BitVec 32) (hf : f.toNat < 2 ^ 31) : k0_off4 i f 1 = (wid i * 3 + min f.toNat 2) * 128 := by
  have h0 : (i 0).val < 2 := (i 0).isLt
  have h1 : (i 1).val < 16 := (i 1).isLt
  show (((BitVec.ofNat 32 (i 1).val * 2#32 + BitVec.ofNat 32 (i 0).val) * 3#32 + Scalar.minsi f 2#32) * 128#32).toNat = _
  unfold wid
  simp only [BitVec.toNat_mul, BitVec.toNat_add, BitVec.toNat_ofNat, minsi_two f hf]
  omega

theorem wp_part1_stay {I : ℕ → BitVec 32} {V : ℕ → Elt F .f32} {w lo tf t f base : ℕ} {v1 a b : BitVec 32} {v3 v5 : IVec S16 32}
    {t2 : Fin k0_t2_loop.trips} {a18 a19 : BitVec 32}
    {ib : S8192.Idx → BitVec 32} {vb : S8192.Idx → Elt F .f32} (hib : ∀ j : S8192.Idx, ib j = I (base + (j 0).val)) (hvb : ∀ j : S8192.Idx, vb j = V (base + (j 0).val))
    (ht : t = base + 32 * t2.val) (hI : ∀ l < 16, (I (t + l)).toNat < 13107200) (hM : ∀ b < 256, cnt I b tf t ≤ 110) (hc : ¬ k0_cond1 a19 = 1#1) :
    iprop(Stage d i arg4 arg5 arg7 arg8 arg9 arg15 I V w lo tf t f
        ∗ Hold (F := F) (e := .i32) (c0 d i) arg10 ib ∗ Hold (F := F) (e := .f32) (c0 d i) arg11 vb)
      ⊢ wp frame (wpE (defs₀ (F := F)) 𝒱₀ (c0 d i) none) Set.univ
          (k0_part1 (F := F) i arg2 harg2 arg3 harg3 arg4 harg4 arg5 harg5 arg6 harg6 arg7 harg7 arg8 harg8 arg9 harg9 arg10 harg10 arg11 harg11 arg12 harg12 arg13 harg13 arg14 harg14 arg15 arg16 v86_r0 v1 v3 v5 a b t2 a18 a19) fun r =>
            iprop(∃ sl : IVec S16 32, ⌜r = ⟨Scf.iv a b t2, a18, a19, k0_pay9 sl, k0_pay10⟩
                ∧ ∀ x : S16.Idx, (sl x).toNat = cnt I (bkt (I (t + (x 0).val))) tf (t + (x 0).val)
                  ∧ cnt I (bkt (I (t + (x 0).val))) tf (t + (x 0).val) < 126⌝
              ∗ Stage d i arg4 arg5 arg7 arg8 arg9 arg15 I V w lo tf (t + 16) f
              ∗ Hold (F := F) (e := .i32) (c0 d i) arg10 ib ∗ Hold (F := F) (e := .f32) (c0 d i) arg11 vb) := by
  rw [k0_part1_eq_skeleton]
  unfold k0_part1_skel
  simp only [Prog.lift, Prog.bind_op, Prog.bind_ret, Prog.pure_eq_ret, bind_assoc]
  rw [wp_assume_of _ _ _ _ (show k0_chk2 i a18 a19 from fun h => absurd h hc)]
  simp only [dif_neg hc, Prog.bind_ret]
  iintro ⟨HS, Hi, Hf⟩
  unfold Stage
  icases HS with ⟨%xi, %xv, %cu, %g0, %g1, %hp, H7, H8, H9, H4, H5, Hv⟩
  obtain ⟨hr, hh⟩ := hp
  iapply (wp_hold_load (c := c0 d i) (m := arg10)) $$ Hi
  iintro Hi
  iapply (wp_hold_load (c := c0 d i) (m := arg11)) $$ Hf
  iintro Hf
  have hF := stage_facts (F := F) (w := fun j => ib ((Rect.unit (s := S8192) (k0_off6 t2) S16.size (k0_off6_inb t2)).toLoadRect.idx j))
    (wv := fun j => vb ((Rect.unit (s := S8192) (k0_off6 t2) S16.size (k0_off6_inb t2)).toLoadRect.idx j)) hr hI hM
    (by intro x; rw [hib, load16, off6_eq, ht, Nat.add_assoc]) (by intro x; rw [hvb, load16, off6_eq, ht, Nat.add_assoc])
  rw [wp_assume_of _ _ _ _ ?hc3]
  case hc3 => exact hF.chk
  iapply (wp_hold_loadIdx (c := c0 d i) (base := arg9)) $$ H9
  iintro H9
  rw [wp_assume_of _ _ _ _ ?hc4]
  case hc4 => exact hF.chk' _
  iapply (wp_hold_storeIdx (c := c0 d i) (base := arg7) harg7) $$ H7
  iintro H7
  iapply (wp_hold_storeIdx (c := c0 d i) (base := arg8) harg8) $$ H8
  iintro H8
  iapply (wp_hold_storeIdx (c := c0 d i) (base := arg9) harg9) $$ H9
  iintro H9
  rw [wp_ret]
  imodintro
  iexists _
  isplitr
  · ipureintro; exact ⟨rfl, fun x => ⟨hF.slot _ x, hF.small x⟩⟩
  isplitr [Hi Hf]
  · iexists _, _, _, g0, g1
    isplitr
    · ipureintro; exact ⟨hF.rows hF.chk.1 (hF.chk' hF.chk.1).1 (hF.chk' hF.chk.1).1 hF.chk.1, hh⟩
    isplitl [H7]; · iexact H7
    isplitl [H8]; · iexact H8
    isplitl [H9]; · iexact H9
    isplitl [H4]; · iexact H4
    isplitl [H5]; · iexact H5
    iexact Hv
  isplitl [Hi]; · iexact Hi
  iexact Hf

/-- The flush of a trip: the cursors into the last column, the rows out, the cursors cleared; no bucket has an element yet. -/
theorem flushed_of {I : ℕ → BitVec 32} {V : ℕ → Elt F .f32} {w lo tf t s : ℕ} {xi xi' : S256x128.Idx → BitVec 32} {xv : S256x128.Idx → Elt F .f32}
    {cu : S256.Idx → BitVec 32} {y y' : S256x12288.Idx → BitVec 32} {yv yv' : S256x12288.Idx → Elt F .f32}
    (hcap : Capped 16 cu xi xi') (h0 : SlotWrote s xi' y y') (h1 : SlotWrote s xv yv yv') : Flushed s xi xv cu y y' yv yv' := by
  refine ⟨?_, ?_, ?_⟩
  · intro a j hj0 hj1 ha
    rw [h0.1 a j hj0 hj1, h1.1 a j hj0 hj1, hcap.1 a (by omega)]
    exact ⟨rfl, rfl⟩
  · intro b j hj0 hj1
    have hb : (b 0).val < 256 := (b 0).isLt
    let a : S256x128.Idx := Fin.cons (⟨(b 0).val, hb⟩ : Fin 256) (Fin.cons (⟨127, by omega⟩ : Fin 128) (fun a => a.elim0))
    have ha0 : (a 0).val = (b 0).val := rfl
    have ha1 : (a 1).val = 127 := rfl
    rw [h0.1 a j (by rw [hj0, ha0]) (by rw [hj1, ha1])]
    exact hcap.2 a b ha1 ha0 (by omega)
  · intro j hj
    exact ⟨h0.2 j hj, h1.2 j hj⟩

theorem wp_part1 {I : ℕ → BitVec 32} {V : ℕ → Elt F .f32} {lo tf t base : ℕ} {v1 a b : BitVec 32} {v3 v5 : IVec S16 32}
    {t2 : Fin k0_t2_loop.trips} {a18 a19 : BitVec 32} {O : CellTallies nD τ sig (HIx 2)} {W : Waits sig (HIx 2)}
    (hv3 : ∀ x, (v3 x).toNat = (x 0).val) (hv5 : ∀ x, v5 x = 0#32)
    {ib : S8192.Idx → BitVec 32} {vb : S8192.Idx → Elt F .f32} (hib : ∀ j : S8192.Idx, ib j = I (base + (j 0).val)) (hvb : ∀ j : S8192.Idx, vb j = V (base + (j 0).val))
    (ht : t = base + 32 * t2.val) (hlo : lo ≤ base) (hI : ∀ n, lo ≤ n → n < lo + 40960 → (I n).toNat < 13107200) (hhi : t + 16 ≤ lo + 40960)
    (hp : a19.toNat ≤ 126) (hf : a18.toNat < 100000) (hP : Pend I tf t a19.toNat) :
    iprop(Stage d i arg4 arg5 arg7 arg8 arg9 arg15 I V (wid i) lo tf t a18.toNat
        ∗ Hold (F := F) (e := .i32) (c0 d i) arg10 ib ∗ Hold (F := F) (e := .f32) (c0 d i) arg11 vb ∗ Owe (c0 d i) O W)
      ⊢ wp frame (wpE (defs₀ (F := F)) 𝒱₀ (c0 d i) none) Set.univ
          (k0_part1 (F := F) i arg2 harg2 arg3 harg3 arg4 harg4 arg5 harg5 arg6 harg6 arg7 harg7 arg8 harg8 arg9 harg9 arg10 harg10 arg11 harg11 arg12 harg12 arg13 harg13 arg14 harg14 arg15 arg16 v86_r0 v1 v3 v5 a b t2 a18 a19) fun r =>
            iprop(∃ (tf' : ℕ) (f' p' : BitVec 32) (sl : IVec S16 32), ⌜r = ⟨Scf.iv a b t2, f', p', k0_pay9 sl, k0_pay10⟩
                ∧ f'.toNat ≤ a18.toNat + 1 ∧ p'.toNat ≤ 94 ∧ Pend I tf' t p'.toNat ∧ tf' ≤ t
                ∧ ∀ x : S16.Idx, (sl x).toNat = cnt I (bkt (I (t + (x 0).val))) tf' (t + (x 0).val)
                  ∧ cnt I (bkt (I (t + (x 0).val))) tf' (t + (x 0).val) < 126⌝
              ∗ Stage d i arg4 arg5 arg7 arg8 arg9 arg15 I V (wid i) lo tf' (t + 16) f'.toNat
              ∗ Hold (F := F) (e := .i32) (c0 d i) arg10 ib ∗ Hold (F := F) (e := .f32) (c0 d i) arg11 vb ∗ Owe (c0 d i) O W) := by
  have hI16 : ∀ l < 16, (I (t + l)).toNat < 13107200 := fun l hl => hI _ (by omega) (by omega)
  by_cases hc : k0_cond1 a19 = 1#1
  · have hge : 95 ≤ a19.toNat := (cond_iff a19 (by omega)).mp hc
    have hw32 := wid_lt i
    have ho1 := off4_one i a18 (by omega)
    have hchk : k0_chk2 i a18 a19 := by
      intro _ a
      match a with
      | 0 => show 0 + 256 ≤ 256; omega
      | 1 => show k0_off4 i a18 1 + 128 ≤ 12288; rw [ho1]; omega
    have stay := fun f => wp_part1_stay (F := F) (d := d) (i := i) arg2 harg2 arg3 harg3 arg4 harg4 arg5 harg5 arg6 harg6 arg7 harg7 arg8 harg8 arg9 harg9 arg10 harg10 arg11 harg11 arg12 harg12 arg13 harg13 arg14 harg14 arg15 arg16 v86_r0
      (I := I) (V := V) (w := wid i) (lo := lo) (tf := t) (t := t) (f := f) (v1 := v1) (a := a) (b := b) (v3 := v3) (v5 := v5) (t2 := t2) (a18 := Scalar.addi a18 1#32) (a19 := 0#32) hib hvb ht hI16
      (fun b _ => by rw [cnt_self]; omega) (by decide)
    rw [k0_part1_eq_skeleton] at stay ⊢
    unfold k0_part1_skel at stay ⊢
    simp only [Prog.lift, Prog.bind_op, Prog.bind_ret, Prog.pure_eq_ret, bind_assoc] at stay ⊢
    rw [wp_assume_of _ _ _ _ hchk]
    simp only [dif_pos hc, dif_neg (show ¬ k0_cond1 0#32 = 1#1 by decide), Prog.lift, Prog.bind_op, Prog.bind_ret, Prog.pure_eq_ret, bind_assoc] at stay ⊢
    iintro ⟨HS, Hi, Hf, HO⟩
    ihave HS' := (Stage_open d i arg4 arg5 arg7 arg8 arg9 arg15) $$ HS
    icases HS' with ⟨%xi, %xv, %cu, %g0, %g1, %hp', H7, H8, H9, H4, H5, Hv⟩
    obtain ⟨hr, hh⟩ := hp'
    iapply (wp_cap d i arg2 harg2 arg3 harg3 arg4 harg4 arg5 harg5 arg6 harg6 arg7 harg7 arg8 harg8 arg9 harg9 arg10 harg10 arg11 harg11 arg12 harg12 arg13 harg13 arg14 harg14 arg15 arg16 v86_r0 hv3 hv5 hc) $$ [H9 H7]
    · isplitl [H9]; · iexact H9
      iexact H7
    iintro %xi' %hcap H9 H7
    iapply (wp_slot d i harg7 harg8 (w := wid i) (s := wid i * 3 + min a18.toNat 2) (by omega) (by omega) rfl ho1) $$ [H7 H4 H8 H5 Hv HO]
    · isplitl [H7]; · iexact H7
      isplitl [H4]; · iexact H4
      isplitl [H8]; · iexact H8
      isplitl [H5]; · iexact H5
      isplitl [Hv]; · iexact Hv
      iexact HO
    iintro %g0' %g1' %hwr H7 H4 H8 H5 Hv HO
    iapply (wp_clear d i arg2 harg2 arg3 harg3 arg4 harg4 arg5 harg5 arg6 harg6 arg7 harg7 arg8 harg8 arg9 harg9 arg10 harg10 arg11 harg11 arg12 harg12 arg13 harg13 arg14 harg14 arg15 arg16 v86_r0) $$ H9
    iintro %cu' %hcl H9
    have hfl := flushed_of (F := F) (V := V) (I := I) (w := 0) (lo := 0) (tf := 0) (t := 0) (xv := xv) hcap hwr.1 hwr.2
    have hadd : (Scalar.addi a18 1#32).toNat = a18.toNat + 1 := by
      show (a18 + 1#32).toNat = _
      rw [BitVec.toNat_add]; simp; omega
    have hH : Hist I V (wid i) lo t (a18.toNat + 1) (arg4.view.read (Elt F) g0') (arg5.view.read (Elt F) g1') := by
      refine hh.flush hfl hr ?_ (fun n h1 h2 => bkt_lt (hI n h1 h2)) (by omega) ?_
      · intro b hb; exact le_trans (hP.bound b hb) hp
      · rcases hP.att with h0 | ⟨b, hb, hb'⟩
        · omega
        · exact ⟨b, hb, by omega⟩
    ihave HS := (Stage_close d i arg4 arg5 arg7 arg8 arg9 arg15 (I := I) (V := V) (w := wid i) (lo := lo) (tf := t) (t := t) (f := a18.toNat + 1)
      ⟨Rows.start I V t xi' xv hcl, hH⟩) $$ [H7 H8 H9 H4 H5 Hv]
    · isplitl [H7]; · iexact H7
      isplitl [H8]; · iexact H8
      isplitl [H9]; · iexact H9
      isplitl [H4]; · iexact H4
      isplitl [H5]; · iexact H5
      iexact Hv
    have stay' := stay (a18.toNat + 1)
    rw [wp_assume_of _ _ _ _ (show k0_chk2 i (Scalar.addi a18 1#32) 0#32 from fun h => absurd h (by decide))] at stay'
    simp only [dif_neg (show ¬ k0_cond1 0#32 = 1#1 by decide), Prog.bind_ret] at stay'
    iapply (wp_wand frame _ _) $$ [HS Hi Hf]
    · iapply stay'
      isplitl [HS]; · iexact HS
      isplitl [Hi]; · iexact Hi
      iexact Hf
    iintro %r ⟨%sl, %hr', HS, Hi, Hf⟩
    iexists t, (Scalar.addi a18 1#32), 0#32, sl
    isplitr
    · ipureintro
      exact ⟨hr'.1, by omega, by decide, Pend.start I t, le_rfl, hr'.2⟩
    rw [hadd]
    isplitl [HS]; · iexact HS
    isplitl [Hi]; · iexact Hi
    isplitl [Hf]; · iexact Hf
    iexact HO
  · have hlt : a19.toNat ≤ 94 := by
      have := mt (cond_iff a19 (by omega)).mpr hc
      omega
    iintro ⟨HS, Hi, Hf, HO⟩
    ihave HS' := (Stage_le d i arg4 arg5 arg7 arg8 arg9 arg15) $$ HS
    icases HS' with ⟨%hle, HS⟩
    iapply (wp_wand frame _ _) $$ [HS Hi Hf]
    · iapply (wp_part1_stay (F := F) (d := d) (i := i) arg2 harg2 arg3 harg3 arg4 harg4 arg5 harg5 arg6 harg6 arg7 harg7 arg8 harg8 arg9 harg9 arg10 harg10 arg11 harg11 arg12 harg12 arg13 harg13 arg14 harg14 arg15 arg16 v86_r0
        (I := I) (V := V) (tf := tf) (t := t) hib hvb ht hI16 (fun b hb => by have := hP.bound b hb; omega) hc)
      isplitl [HS]; · iexact HS
      isplitl [Hi]; · iexact Hi
      iexact Hf
    iintro %r ⟨%sl, %hr', HS, Hi, Hf⟩
    iexists tf, a18, a19, sl
    isplitr
    · ipureintro
      exact ⟨hr'.1, by omega, hlt, hP, hle, hr'.2⟩
    isplitl [HS]; · iexact HS
    isplitl [Hi]; · iexact Hi
    isplitl [Hf]; · iexact Hf
    iexact HO

theorem maxsi_toNat (x y : BitVec 32) (hx : x.toNat < 2 ^ 31) (hy : y.toNat < 2 ^ 31) : (Scalar.maxsi x y).toNat = max x.toNat y.toNat := by
  show (IntOp.maxsi x y).toNat = _
  unfold IntOp.maxsi
  split
  · rename_i h
    rw [BitVec.slt_eq_decide, decide_eq_true_eq, BitVec.toInt_eq_toNat_cond, BitVec.toInt_eq_toNat_cond] at h
    omega
  · rename_i h
    rw [BitVec.slt_eq_decide, decide_eq_true_eq, BitVec.toInt_eq_toNat_cond, BitVec.toInt_eq_toNat_cond] at h
    omega

/-- The greatest of sixteen slots' successors, by the scan's last lane. -/
theorem top_lane {I : ℕ → BitVec 32} {tf t : ℕ} (sl v s : IVec S16 32) (hs : ∀ x, s x = 2147483648#32) (hv : ∀ x, v x = k0_pay8 sl x)
    (hsl : ∀ x : S16.Idx, (sl x).toNat = cnt I (bkt (I (t + (x 0).val))) tf (t + (x 0).val) ∧ cnt I (bkt (I (t + (x 0).val))) tf (t + (x 0).val) < 126)
    (y : S16.Idx) (hy : (y 0).val = 15) {r : BitVec 32} (hr : r = xori (scan .max (xori v s)) s y) :
    r.toNat ≤ 126 ∧ (∀ x : S16.Idx, cnt I (bkt (I (t + (x 0).val))) tf (t + (x 0).val) + 1 ≤ r.toNat)
      ∧ ∃ x : S16.Idx, r.toNat = cnt I (bkt (I (t + (x 0).val))) tf (t + (x 0).val) + 1 := by
  have hv' : ∀ x, (v x).toNat = cnt I (bkt (I (t + (x 0).val))) tf (t + (x 0).val) + 1 := by
    intro x; have := hsl x; rw [hv, succ_lane sl x (by omega), this.1]
  obtain ⟨h1, x, hx⟩ := scan_max v s hs (fun x => by have := hsl x; rw [hv' x]; omega) y hy
  rw [← hr] at h1 hx
  refine ⟨?_, fun x => by rw [← hv' x]; exact h1 x, x, by rw [hx, hv' x]⟩
  have := hsl x; rw [hx, hv' x]; omega

/-- The last lane. -/
def top16 : S16.Idx := fun a => ⟨(![15] : Fin 1 → ℕ) a, inpos_S16_p15 a⟩

theorem top11 (v s : IVec S16 32) : extractAt ![15] (k0_pay11 v s) inpos_S16_p15 = xori (scan .max (xori v s)) s top16 := rfl

theorem top93' (s w : IVec S16 32) : extractAt ![15] (k0_pay93 s w) inpos_S16_p15 = xori w s top16 := rfl

theorem pay18_eq (sl : IVec S16 32) : k0_pay18 sl = scan .max (xori (k0_pay8 sl) k0_pay17) := by
  unfold k0_pay18 k0_pay8; rfl

theorem top93 (sl : IVec S16 32) :
    extractAt ![15] (k0_pay93 k0_pay17 (k0_pay18 sl)) inpos_S16_p15 = xori (scan .max (xori (k0_pay8 sl) k0_pay17)) k0_pay17 top16 := by
  rw [top93', pay18_eq]

theorem max_three (p r1 r2 : BitVec 32) (h0 : p.toNat ≤ 126) (h1 : r1.toNat ≤ 126) (h2 : r2.toNat ≤ 126) :
    (Scalar.maxsi p (Scalar.maxsi (Scalar.maxsi 0#32 r1) r2)).toNat = max (max p.toNat r1.toNat) r2.toNat
      ∧ (Scalar.maxsi p (Scalar.maxsi (Scalar.maxsi 0#32 r1) r2)).toNat ≤ 126 := by
  have e0 : (Scalar.maxsi 0#32 r1).toNat = r1.toNat := by
    rw [maxsi_toNat _ _ (by decide) (by omega)]; simp
  have e3 : (Scalar.maxsi (Scalar.maxsi 0#32 r1) r2).toNat = max r1.toNat r2.toNat := by
    rw [maxsi_toNat _ _ (by omega) (by omega), e0]
  have e4 : (Scalar.maxsi p (Scalar.maxsi (Scalar.maxsi 0#32 r1) r2)).toNat = max (max p.toNat r1.toNat) r2.toNat := by
    rw [maxsi_toNat _ _ (by omega) (by omega), e3, max_assoc]
  exact ⟨e4, by omega⟩

/-- The state between two trips: the elements up to `t` staged, `f` flushes made, `p` the fullest bucket's count. -/
def Chunk (I : ℕ → BitVec 32) (V : ℕ → Elt F .f32) (lo t : ℕ) (r : BitVec 32 × BitVec 32) : sProp 𝕄 :=
  iprop(∃ tf, ⌜Pend I tf t r.2.toNat ∧ r.2.toNat ≤ 126 ∧ 32 * r.1.toNat + lo ≤ t⌝
    ∗ Stage d i arg4 arg5 arg7 arg8 arg9 arg15 I V (wid i) lo tf t r.1.toNat)

theorem wp_trip {I : ℕ → BitVec 32} {V : ℕ → Elt F .f32} {lo t base : ℕ} {v1 : BitVec 32} {v3 : IVec S16 32}
    {t2 : Fin k0_t2_loop.trips} {a : BitVec 32 × BitVec 32} {O : CellTallies nD τ sig (HIx 2)} {W : Waits sig (HIx 2)}
    (hv3 : ∀ x, (v3 x).toNat = (x 0).val)
    {ib : S8192.Idx → BitVec 32} {vb : S8192.Idx → Elt F .f32} (hib : ∀ j : S8192.Idx, ib j = I (base + (j 0).val)) (hvb : ∀ j : S8192.Idx, vb j = V (base + (j 0).val))
    (ht : t = base + 32 * t2.val) (hlo : lo ≤ base) (hI : ∀ n, lo ≤ n → n < lo + 40960 → (I n).toNat < 13107200) (hhi : t + 32 ≤ lo + 40960) :
    iprop(Chunk d i arg4 arg5 arg7 arg8 arg9 arg15 I V lo t a
        ∗ Hold (F := F) (e := .i32) (c0 d i) arg10 ib ∗ Hold (F := F) (e := .f32) (c0 d i) arg11 vb ∗ Owe (c0 d i) O W)
      ⊢ wp frame (wpE (defs₀ (F := F)) 𝒱₀ (c0 d i) none) Set.univ
          (k0_t2_body (F := F) i arg2 harg2 arg3 harg3 arg4 harg4 arg5 harg5 arg6 harg6 arg7 harg7 arg8 harg8 arg9 harg9 arg10 harg10 arg11 harg11 arg12 harg12 arg13 harg13 arg14 harg14 arg15 arg16 v86_r0 v1 v3 t2 a) fun r =>
            iprop(Chunk d i arg4 arg5 arg7 arg8 arg9 arg15 I V lo (t + 32) r
              ∗ Hold (F := F) (e := .i32) (c0 d i) arg10 ib ∗ Hold (F := F) (e := .f32) (c0 d i) arg11 vb ∗ Owe (c0 d i) O W) := by
  obtain ⟨a18, a19⟩ := a
  unfold Chunk
  iintro ⟨⟨%tf, %hp, HS⟩, Hi, Hf, HO⟩
  obtain ⟨hP, hp, hf⟩ := hp
  dsimp only [] at hP hp hf
  unfold k0_t2_body
  dsimp only []
  rw [wp_bind]
  iapply (wp_wand frame _ _) $$ [HS Hi Hf HO]
  · iapply (wp_part1 d i arg2 harg2 arg3 harg3 arg4 harg4 arg5 harg5 arg6 harg6 arg7 harg7 arg8 harg8 arg9 harg9 arg10 harg10 arg11 harg11 arg12 harg12 arg13 harg13 arg14 harg14 arg15 arg16 v86_r0 hv3 zero_lane hib hvb ht hlo hI (by omega) hp (by omega) hP)
    isplitl [HS]; · iexact HS
    isplitl [Hi]; · iexact Hi
    isplitl [Hf]; · iexact Hf
    iexact HO
  iintro %r ⟨%tf', %f', %p', %sl, %hr, HS, Hi, Hf, HO⟩
  obtain ⟨rfl, hf', hp', hP', hle', hsl⟩ := hr
  dsimp only []
  rw [wp_bind]
  iapply (wp_wand frame _ _) $$ [HS Hi Hf]
  · iapply (wp_part2 d i arg2 harg2 arg3 harg3 arg4 harg4 arg5 harg5 arg6 harg6 arg7 harg7 arg8 harg8 arg9 harg9 arg10 harg10 arg11 harg11 arg12 harg12 arg13 harg13 arg14 harg14 arg15 arg16 v86_r0 (I := I) (tf := tf') (t := t + 16) hib hvb (by omega) (fun l hl => hI _ (by omega) (by omega))
      (fun b hb => by
        have h1 := hP'.bound b hb
        have h2 := cnt_le_add (I := I) (b := b) hle' 16
        omega))
    isplitl [HS]; · iexact HS
    isplitl [Hi]; · iexact Hi
    iexact Hf
  iintro %r ⟨%sl2, %hr, HS, Hi, Hf⟩
  obtain ⟨rfl, hsl2⟩ := hr
  simp only [Prog.pure_eq_ret]
  rw [wp_ret]
  imodintro
  isplitr [Hi Hf HO]
  · iexists tf'
    isplitr
    · ipureintro
      have e1 := top_lane (I := I) (tf := tf') (t := t) sl (k0_pay9 sl) k0_pay10 (fun _ => rfl) (fun _ => rfl) hsl
        top16 rfl (top11 _ _)
      have e2 := top_lane (I := I) (tf := tf') (t := t + 16) sl2 (k0_pay8 sl2) k0_pay17 (fun _ => rfl) (fun _ => rfl) hsl2
        top16 rfl (top93 sl2)
      have P1 := hP'.step hle' (fun l hl => hI _ (by omega) (by omega)) e1.2.1 e1.2.2
      have P2 := P1.step (by omega) (fun l hl => hI _ (by omega) (by omega)) e2.2.1 e2.2.2
      have e4 := max_three p' _ _ (by omega) e1.1 e2.1
      have e5 : 32 * f'.toNat + lo ≤ t + 32 := by omega
      exact ⟨(congrArg (Pend I tf' (t + 32)) e4.1).mpr P2, e4.2, e5⟩
    iexact HS
  isplitl [Hi]; · iexact Hi
  isplitl [Hf]; · iexact Hf
  iexact HO

/-- The loop over a chunk of 8192 elements. -/
theorem wp_chunk {I : ℕ → BitVec 32} {V : ℕ → Elt F .f32} {lo base : ℕ} {v1 : BitVec 32} {v3 : IVec S16 32}
    {a : BitVec 32 × BitVec 32} {O : CellTallies nD τ sig (HIx 2)} {W : Waits sig (HIx 2)}
    (hv3 : ∀ x, (v3 x).toNat = (x 0).val)
    {ib : S8192.Idx → BitVec 32} {vb : S8192.Idx → Elt F .f32} (hib : ∀ j : S8192.Idx, ib j = I (base + (j 0).val)) (hvb : ∀ j : S8192.Idx, vb j = V (base + (j 0).val))
    (hlo : lo ≤ base) (hI : ∀ n, lo ≤ n → n < lo + 40960 → (I n).toNat < 13107200) (hhi : base + 8192 ≤ lo + 40960)
    {α : Type} {kk : BitVec 32 × BitVec 32 → Prog (TpuEff nD τ sig (Elt F) Λ₀ (c0 d i).2) α}
    {Q : α → sProp (MT nD τ sig (HIx 2) (Elt F) ℕ UU ℕ)} :
    iprop(Chunk d i arg4 arg5 arg7 arg8 arg9 arg15 I V lo base a
        ∗ Hold (F := F) (e := .i32) (c0 d i) arg10 ib ∗ Hold (F := F) (e := .f32) (c0 d i) arg11 vb ∗ Owe (c0 d i) O W)
      ⊢ iprop((∀ r, Chunk d i arg4 arg5 arg7 arg8 arg9 arg15 I V lo (base + 8192) r
            -∗ Hold (F := F) (e := .i32) (c0 d i) arg10 ib -∗ Hold (F := F) (e := .f32) (c0 d i) arg11 vb -∗ Owe (c0 d i) O W
          -∗ wp frame (wpE (defs₀ (F := F)) 𝒱₀ (c0 d i) none) Set.univ (kk r) Q)
        -∗ wp frame (wpE (defs₀ (F := F)) 𝒱₀ (c0 d i) none) Set.univ
          (Scf.Loop.for k0_t2_loop k0_t2_ok a (k0_t2_body (F := F) i arg2 harg2 arg3 harg3 arg4 harg4 arg5 harg5 arg6 harg6 arg7 harg7 arg8 harg8 arg9 harg9 arg10 harg10 arg11 harg11 arg12 harg12 arg13 harg13 arg14 harg14 arg15 arg16 v86_r0 v1 v3) >>= kk) Q) := by
  iintro H Hk
  iapply (Scf.wp_for_bind frame (wpE (defs₀ (F := F)) 𝒱₀ (c0 d i) none) Set.univ _ _ _ k0_t2_ok a _
    (fun k r => iprop(Chunk d i arg4 arg5 arg7 arg8 arg9 arg15 I V lo (base + 32 * k) r
      ∗ Hold (F := F) (e := .i32) (c0 d i) arg10 ib ∗ Hold (F := F) (e := .f32) (c0 d i) arg11 vb ∗ Owe (c0 d i) O W)) ?hb) $$ [H]
  case hb =>
    intro k acc
    have hk : k.val < 256 := lt_of_lt_of_eq k.isLt trips_t2
    exact wp_trip d i arg2 harg2 arg3 harg3 arg4 harg4 arg5 harg5 arg6 harg6 arg7 harg7 arg8 harg8 arg9 harg9 arg10 harg10 arg11 harg11 arg12 harg12 arg13 harg13 arg14 harg14 arg15 arg16 v86_r0 (t := base + 32 * k.val) hv3 hib hvb rfl hlo hI (by omega)
  · iexact H
  iintro %acc H
  have e : base + 32 * Scf.trips k0_t2_loop.lb k0_t2_loop.ub k0_t2_loop.st = base + 8192 := by
    rw [show Scf.trips k0_t2_loop.lb k0_t2_loop.ub k0_t2_loop.st = 256 from trips_t2]
  rw [e]
  icases H with ⟨H, Hi, Hf, HO⟩
  iapply Hk $$ %acc H Hi Hf HO
end Trip

end Cert.Proof.SC
-- ==== Proof.Part.lean ====
/-
  The partition kernel on one tile: the five chunks of its stretch of the index array staged one after the other, each
  fetched while the one before it is worked on, and the last flush.
-/
module

public import proofs.«01_k».proof.Proof.Trip

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable [FloatOps F]

section Part

variable (d : Dev nD) (i : grid0.Coords) (arg2 : Memref sig .scVector .hbm S1310720 .f32) (harg2 : arg2.IsWhole) (arg3 : Memref sig .scVector .hbm S1310720 .i32) (harg3 : arg3.IsWhole) (arg4 : Memref sig .scVector .hbm S256x12288 .i32) (harg4 : arg4.IsWhole) (arg5 : Memref sig .scVector .hbm S256x12288 .f32) (harg5 : arg5.IsWhole) (arg6 : Memref sig .scVector .hbm S512 .i32) (harg6 : arg6.IsWhole) (arg7 : Memref sig .scVector .vmem S256x128 .i32) (harg7 : arg7.IsWhole) (arg8 : Memref sig .scVector .vmem S256x128 .f32) (harg8 : arg8.IsWhole) (arg9 : Memref sig .scVector .vmem S256 .i32) (harg9 : arg9.IsWhole) (arg10 : Memref sig .scVector .vmem S8192 .i32) (harg10 : arg10.IsWhole) (arg11 : Memref sig .scVector .vmem S8192 .f32) (harg11 : arg11.IsWhole) (arg12 : Memref sig .scVector .vmem S8192 .i32) (harg12 : arg12.IsWhole) (arg13 : Memref sig .scVector .vmem S8192 .f32) (harg13 : arg13.IsWhole) (arg14 : Memref sig .scVector .vmem S16 .i32) (harg14 : arg14.IsWhole) (arg15 : DmaSems sig S_) (arg16 : DmaSems sig S_) (v86_r0 : DmaSems sig S_)

set_option maxRecDepth 65536 in
theorem body5 (v1 v2 : BitVec 32) (v3 : IVec S16 32) (a b : BitVec 32) :
    k0_t5_body (F := F) i arg2 harg2 arg3 harg3 arg4 harg4 arg5 harg5 arg6 harg6 arg7 harg7 arg8 harg8 arg9 harg9 arg10 harg10 arg11 harg11 arg12 harg12 arg13 harg13 arg14 harg14 arg15 arg16 v86_r0 v1 v2 v3 k0_pay91 a b = k0_t2_body (F := F) i arg2 harg2 arg3 harg3 arg4 harg4 arg5 harg5 arg6 harg6 arg7 harg7 arg8 harg8 arg9 harg9 arg12 harg12 arg13 harg13 arg10 harg10 arg11 harg11 arg14 harg14 arg15 arg16 v86_r0 v1 v3 := rfl

set_option maxRecDepth 65536 in
theorem body8 (v1 v2 : BitVec 32) (v3 : IVec S16 32) (a b : BitVec 32) :
    k0_t8_body (F := F) i arg2 harg2 arg3 harg3 arg4 harg4 arg5 harg5 arg6 harg6 arg7 harg7 arg8 harg8 arg9 harg9 arg10 harg10 arg11 harg11 arg12 harg12 arg13 harg13 arg14 harg14 arg15 arg16 v86_r0 v1 v2 v3 k0_pay91 a b = k0_t2_body (F := F) i arg2 harg2 arg3 harg3 arg4 harg4 arg5 harg5 arg6 harg6 arg7 harg7 arg8 harg8 arg9 harg9 arg10 harg10 arg11 harg11 arg12 harg12 arg13 harg13 arg14 harg14 arg15 arg16 v86_r0 v1 v3 := rfl

set_option maxRecDepth 65536 in
theorem body11 (v1 v2 : BitVec 32) (v3 : IVec S16 32) (a b : BitVec 32) :
    k0_t11_body (F := F) i arg2 harg2 arg3 harg3 arg4 harg4 arg5 harg5 arg6 harg6 arg7 harg7 arg8 harg8 arg9 harg9 arg10 harg10 arg11 harg11 arg12 harg12 arg13 harg13 arg14 harg14 arg15 arg16 v86_r0 v1 v2 v3 k0_pay91 a b = k0_t2_body (F := F) i arg2 harg2 arg3 harg3 arg4 harg4 arg5 harg5 arg6 harg6 arg7 harg7 arg8 harg8 arg9 harg9 arg12 harg12 arg13 harg13 arg10 harg10 arg11 harg11 arg14 harg14 arg15 arg16 v86_r0 v1 v3 := rfl

set_option maxRecDepth 65536 in
theorem body14 (v1 : BitVec 32) (v3 : IVec S16 32) (a b : BitVec 32) :
    k0_t14_body (F := F) i arg2 harg2 arg3 harg3 arg4 harg4 arg5 harg5 arg6 harg6 arg7 harg7 arg8 harg8 arg9 harg9 arg10 harg10 arg11 harg11 arg12 harg12 arg13 harg13 arg14 harg14 arg15 arg16 v86_r0 v1 v3 k0_pay91 a b = k0_t2_body (F := F) i arg2 harg2 arg3 harg3 arg4 harg4 arg5 harg5 arg6 harg6 arg7 harg7 arg8 harg8 arg9 harg9 arg10 harg10 arg11 harg11 arg12 harg12 arg13 harg13 arg14 harg14 arg15 arg16 v86_r0 v1 v3 := rfl

theorem body1 (t2 : Fin k0_t2_loop.trips) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 arg16 v86_r0
      = k0_t4_body (F := F) i arg2 harg2 arg3 harg3 arg4 harg4 arg5 harg5 arg6 harg6 arg7 harg7 arg8 harg8 arg9 harg9 arg10 harg10 arg11 harg11 arg12 harg12 arg13 harg13 arg14 harg14 arg15 arg16 v86_r0 0#32 k0_pay91 k0_pay91 0#32 0#32 t2 0#32 0#32 := rfl

theorem body18 (v1 : BitVec 32) (v3 v5 : IVec S16 32) (a b : BitVec 32) (t2 : Fin k0_t2_loop.trips) :
    k0_t18_body (F := F) i arg2 harg2 arg3 harg3 arg4 harg4 arg5 harg5 arg6 harg6 arg7 harg7 arg8 harg8 arg9 harg9 arg10 harg10 arg11 harg11 arg12 harg12 arg13 harg13 arg14 harg14 arg15 arg16 v86_r0 v1 v3 v5 a b
      = k0_t4_body (F := F) i arg2 harg2 arg3 harg3 arg4 harg4 arg5 harg5 arg6 harg6 arg7 harg7 arg8 harg8 arg9 harg9 arg10 harg10 arg11 harg11 arg12 harg12 arg13 harg13 arg14 harg14 arg15 arg16 v86_r0 0#32 k0_pay91 k0_pay91 0#32 0#32 t2 0#32 0#32 := rfl

/-- A trip number, to name a loop body by. -/
def trip0 : Fin k0_t2_loop.trips := ⟨0, by rw [trips_t2]; omega⟩

abbrev NC : ℕ := credit S8192 .i32

theorem NC_f32 : credit S8192 .f32 = NC := by decide

theorem NC_pos : 0 < NC := sig.dmaCredit_pos _ _ _ _ _ (by decide)

theorem off2_eq (i : grid0.Coords) (c : BitVec 32) (hc : c.toNat ≤ 32768) : k0_off2 i c 0 = wid i * 40960 + c.toNat := by
  have h0 : (i 0).val < 2 := (i 0).isLt
  have h1 : (i 1).val < 16 := (i 1).isLt
  show (((BitVec.ofNat 32 (i 1).val * 2#32 + BitVec.ofNat 32 (i 0).val) * 40960#32) + c).toNat = _
  unfold wid
  simp only [BitVec.toNat_mul, BitVec.toNat_add, BitVec.toNat_ofNat]
  omega

theorem off2_at (i : grid0.Coords) (c : BitVec 32) (n : ℕ) (hc : c.toNat = n) (hn : n ≤ 32768) : k0_off2 i c 0 = wid i * 40960 + n := by
  rw [off2_eq i c (by omega), hc]

/-- What a chunk's slice of an array reads. -/
theorem chunk_read {e : EltTy} {c : Thread nD τ} {sp : Space} (m : Memref sig c.2.kind sp S1310720 e) (f : Buf (Elt F) (m.view.loc c)) {A : ℕ → Elt F e}
    (hA : ∀ j : S1310720.Idx, m.view.read (Elt F) f j = A (j 0).val) {o : Fin 1 → ℕ} (hin : ∀ a, o a + S8192.size a ≤ S1310720.size a) {b : ℕ} (ho : o 0 = b)
    (j : S8192.Idx) : (m.slice (Rect.unit (s := S1310720) o S8192.size hin) (fun _ => rfl)).view.read (Elt F) f j = A (b + (j 0).val) := by
  have e : (m.slice (Rect.unit (s := S1310720) o S8192.size hin) (fun _ => rfl)).view.read (Elt F) f j
      = m.view.read (Elt F) f ((Rect.unit (s := S1310720) o S8192.size hin).emb j) := rfl
  rw [e, hA, Rect.emb_apply]
  congr 1
  show o 0 + 1 * (j 0).val = _
  omega

/-- The whole scratch behind `m`, whatever it reads. -/
def Any {c : Thread nD τ} {sp : Space} {s : Shape} {e : EltTy} (m : Memref sig c.2.kind sp s e) : sProp 𝕄 :=
  iprop(∃ x : s.Idx → Elt F e, Hold (F := F) c m x)

theorem trips_t17 : k0_t17_loop.trips = 16 := trips_t3

theorem off28_eq (k : Fin k0_t17_loop.trips) : k0_off28 k 0 = 16 * k.val := off3_eq k

/-- The loop that writes the cursors into the rows' last column, before the last flush. -/
theorem wp_cap17 {v1 : BitVec 32} {v3 v5 : IVec S16 32} (hv3 : ∀ x, (v3 x).toNat = (x 0).val) (hv5 : ∀ x, v5 x = 0#32)
    {b0 b1 : BitVec 32}
    {cu : S256.Idx → BitVec 32} {xi : S256x128.Idx → BitVec 32} {α : Type} {kk : Unit → Prog (TpuEff nD τ sig (Elt F) Λ₀ (c0 d i).2) α}
    {Q : α → sProp (MT nD τ sig (HIx 2) (Elt F) ℕ UU ℕ)} :
    iprop(Hold (F := F) (e := .i32) (c0 d i) arg9 cu ∗ Hold (F := F) (e := .i32) (c0 d i) arg7 xi)
      ⊢ iprop((∀ xi', ⌜Capped 16 cu xi xi'⌝ -∗ Hold (F := F) (e := .i32) (c0 d i) arg9 cu -∗ Hold (F := F) (e := .i32) (c0 d i) arg7 xi'
          -∗ wp frame (wpE (defs₀ (F := F)) 𝒱₀ (c0 d i) none) Set.univ (kk ⟨⟩) Q)
        -∗ wp frame (wpE (defs₀ (F := F)) 𝒱₀ (c0 d i) none) Set.univ
          (Scf.Loop.for k0_t17_loop k0_t17_ok ⟨⟩ (k0_t17_body (F := F) i arg2 harg2 arg3 harg3 arg4 harg4 arg5 harg5 arg6 harg6 arg7 harg7 arg8 harg8 arg9 harg9 arg10 harg10 arg11 harg11 arg12 harg12 arg13 harg13 arg14 harg14 arg15 arg16 v86_r0 v1 v3 v5 b0 b1) >>= kk) Q) := by
  iintro ⟨Hc, Hx⟩ Hk
  iapply (Scf.wp_for_bind frame (wpE (defs₀ (F := F)) 𝒱₀ (c0 d i) none) Set.univ _ _ _ k0_t17_ok ⟨⟩ _
    (fun k (_ : Unit) => iprop(∃ xi', ⌜Capped k cu xi xi'⌝ ∗ Hold (F := F) (e := .i32) (c0 d i) arg9 cu ∗ Hold (F := F) (e := .i32) (c0 d i) arg7 xi')) ?hb) $$ [Hc Hx]
  case hb =>
    intro k acc
    unfold k0_t17_body
    simp only [Prog.lift, Prog.bind_op, Prog.bind_ret, Prog.pure_eq_ret]
    iintro ⟨%xi', %hcap, Hc, Hx⟩
    iapply (wp_hold_load (c := c0 d i) (m := arg9)) $$ Hc
    iintro Hc
    have hk : k.val < 16 := lt_of_lt_of_eq k.isLt trips_t17
    have h0 : ∀ x, (k0_pay98 v3 k x).toNat = 16 * k.val + (x 0).val := by
      intro x
      show (Scalar.muli (Scf.iv 0#32 1#32 k) 16#32 + v3 x).toNat = _
      have hx : (x 0).val < 16 := (x 0).isLt
      rw [BitVec.toNat_add, iv_mul_toNat _ 16 (by omega) (by omega), hv3]; omega
    have h1' : ∀ x, (k0_pay99 v5 x).toNat = 127 := by
      intro x
      show (v5 x + 127#32).toNat = _
      rw [hv5]; rfl
    have hchk : k0_chk31 (k0_pay98 v3 k) (k0_pay99 v5) := by
      intro a x
      have hx : (x 0).val < 16 := (x 0).isLt
      match a with
      | 0 => show (k0_pay98 v3 k x).toNat < 256; rw [h0]; omega
      | 1 => show (k0_pay99 v5 x).toNat < 128; rw [h1']; omega
    have hp' : ∀ (x : S16.Idx) (b : S256.Idx), (b 0).val = 16 * k.val + (x 0).val
        → cu ((Rect.unit (s := S256) (k0_off28 k) S16.size (k0_off28_inb k)).toLoadRect.idx x) = cu b := by
      intro x b hb
      congr 1
      funext a
      apply Fin.ext
      rw [Fin.eq_zero a, load16, off28_eq, hb]
    have hnew := hcap.step (F := F) h0 h1' hp' (k0_idx46_inb _ _ hchk)
    rw [wp_assume_of _ _ _ _ hchk]
    iapply (wp_hold_storeIdx (c := c0 d i) (base := arg7) harg7) $$ Hx
    iintro Hx
    rw [wp_ret]
    imodintro
    iexists _
    isplitr
    · ipureintro
      exact hnew
    isplitl [Hc]; · iexact Hc
    iexact Hx
  · iexists xi
    isplitr
    · ipureintro; exact ⟨fun _ _ => rfl, fun j b _ _ h => absurd h (by omega)⟩
    isplitl [Hc]; · iexact Hc
    iexact Hx
  iintro %acc ⟨%xi', %hcap, Hc, Hx⟩
  iapply Hk $$ %xi' [] Hc Hx
  ipureintro
  exact (show Scf.trips k0_t17_loop.lb k0_t17_loop.ub k0_t17_loop.st = 16 from trips_t17) ▸ hcap

/-- Two scratches holding elements `base, base + 1, …` of the two arrays. -/
def Got (I : ℕ → BitVec 32) (V : ℕ → Elt F .f32) {c : Thread nD τ} (m : Memref sig c.2.kind .vmem S8192 .i32) (m' : Memref sig c.2.kind .vmem S8192 .f32)
    (base : ℕ) : sProp 𝕄 :=
  iprop(∃ (ib : S8192.Idx → BitVec 32) (vb : S8192.Idx → Elt F .f32), ⌜(∀ j : S8192.Idx, ib j = I (base + (j 0).val)) ∧ ∀ j : S8192.Idx, vb j = V (base + (j 0).val)⌝
    ∗ Hold (F := F) (e := .i32) c m ib ∗ Hold (F := F) (e := .f32) c m' vb)

/-- A chunk's two slices on their way into two scratches. -/
abbrev Coming (q : PosShare TreeShare) (f3 : Buf (Elt F) (arg3.view.loc (c0 d i))) (f2 : Buf (Elt F) (arg2.view.loc (c0 d i)))
    (m : Memref sig .scVector .vmem S8192 .i32) (m' : Memref sig .scVector .vmem S8192 .f32) (o : Fin 1 → ℕ) (hin : ∀ a, o a + S8192.size a ≤ S1310720.size a) (u : ℕ) : sProp 𝕄 :=
  Fetch2 (F := F) (c0 d i) arg16.sem NC (arg3.slice (Rect.unit (s := S1310720) o S8192.size hin) (fun _ => rfl)) q f3 m
    (arg2.slice (Rect.unit (s := S1310720) o S8192.size hin) (fun _ => rfl)) q f2 m' u

/-- A chunk's two slices issued. -/
theorem wp_ask {q : PosShare TreeShare} {f3 : Buf (Elt F) (arg3.view.loc (c0 d i))} {f2 : Buf (Elt F) (arg2.view.loc (c0 d i))}
    {m : Memref sig .scVector .vmem S8192 .i32} {m' : Memref sig .scVector .vmem S8192 .f32} {o : Fin 1 → ℕ} {hin : ∀ a, o a + S8192.size a ≤ S1310720.size a}
    {h₀ h₀' h₀'' h₁ h₁' h₁''} {α : Type} {kk : PUnit → Prog (TpuEff nD τ sig (Elt F) Λ₀ (c0 d i).2) α}
    {Q : α → sProp (MT nD τ sig (HIx 2) (Elt F) ℕ UU ℕ)} :
    iprop((arg3.view.loc (c0 d i) ↦{q} f3) ∗ (arg2.view.loc (c0 d i) ↦{q} f2) ∗ Any (F := F) (c := c0 d i) m ∗ Any (F := F) (c := c0 d i) m' ∗ semVal (c0 d i, .dma arg16.sem) 0)
      ⊢ iprop((Coming d i arg2 arg3 arg16 q f3 f2 m m' o hin 0 -∗ wp frame (wpE (defs₀ (F := F)) 𝒱₀ (c0 d i) none) Set.univ (kk ⟨⟩) Q)
        -∗ wp frame (wpE (defs₀ (F := F)) 𝒱₀ (c0 d i) none) Set.univ
          (.op (.enqueueDma (arg3.slice (Rect.unit (s := S1310720) o S8192.size hin) (fun _ => rfl)) (.here m) (.dma arg16.sem) h₀ h₀' h₀'') fun _ =>
            .op (.enqueueDma (arg2.slice (Rect.unit (s := S1310720) o S8192.size hin) (fun _ => rfl)) (.here m') (.dma arg16.sem) h₁ h₁' h₁'') kk) Q) := by
  unfold Any
  iintro ⟨H3, H2, ⟨%x, Hm⟩, ⟨%x', Hm'⟩, Hv⟩ Hk
  iapply (wp_fetch2 (c := c0 d i) (src₀ := arg3.slice (Rect.unit (s := S1310720) o S8192.size hin) (fun _ => rfl)) (f₀ := f3)
    (src₁ := arg2.slice (Rect.unit (s := S1310720) o S8192.size hin) (fun _ => rfl)) (f₁ := f2) NC rfl NC_f32) $$ [H3 H2 Hm Hm' Hv]
  · isplitl [H3]; · iexact H3
    isplitl [Hm]; · iexact Hm
    isplitl [H2]; · iexact H2
    isplitl [Hm']; · iexact Hm'
    iexact Hv
  iintro H
  iapply Hk $$ H

/-- The two waits for a chunk. -/
theorem wp_got {I : ℕ → BitVec 32} {V : ℕ → Elt F .f32} {q : PosShare TreeShare} {f3 : Buf (Elt F) (arg3.view.loc (c0 d i))} {f2 : Buf (Elt F) (arg2.view.loc (c0 d i))}
    (h3 : ∀ j : S1310720.Idx, arg3.view.read (Elt F) f3 j = I (j 0).val) (h2 : ∀ j : S1310720.Idx, arg2.view.read (Elt F) f2 j = V (j 0).val)
    {m : Memref sig .scVector .vmem S8192 .i32} {m' : Memref sig .scVector .vmem S8192 .f32} {o : Fin 1 → ℕ} {hin : ∀ a, o a + S8192.size a ≤ S1310720.size a} {b : ℕ} (ho : o 0 = b)
    {O : CellTallies nD τ sig (HIx 2)} {W : Waits sig (HIx 2)}
    {h₀ h₀' h₁ h₁'} {α : Type} {kk : PUnit → Prog (TpuEff nD τ sig (Elt F) Λ₀ (c0 d i).2) α}
    {Q : α → sProp (MT nD τ sig (HIx 2) (Elt F) ℕ UU ℕ)} :
    iprop(Coming d i arg2 arg3 arg16 q f3 f2 m m' o hin 0 ∗ Owe (c0 d i) O W)
      ⊢ iprop((Got I V (c := c0 d i) m m' b -∗ (arg3.view.loc (c0 d i) ↦{q} f3) -∗ (arg2.view.loc (c0 d i) ↦{q} f2) -∗ semVal (c0 d i, .dma arg16.sem) 0 -∗ Owe (c0 d i) O W
          -∗ wp frame (wpE (defs₀ (F := F)) 𝒱₀ (c0 d i) none) Set.univ (kk ⟨⟩) Q)
        -∗ wp frame (wpE (defs₀ (F := F)) 𝒱₀ (c0 d i) none) Set.univ
          (.op (.waitDma2 arg16.sem (arg3.slice (Rect.unit (s := S1310720) o S8192.size hin) (fun _ => rfl)) m h₀ h₀') fun _ =>
            .op (.waitDma2 arg16.sem (arg2.slice (Rect.unit (s := S1310720) o S8192.size hin) (fun _ => rfl)) m' h₁ h₁') kk) Q) := by
  iintro ⟨HC, HO⟩ Hk
  iapply (wp_fetch2_first (c := c0 d i) (N := NC) rfl NC_pos) $$ [HC HO]
  · isplitl [HC]; · iexact HC
    iexact HO
  iintro ⟨HC, HO⟩
  iapply (wp_fetch2_second (c := c0 d i) (N := NC) NC_f32 NC_pos) $$ [HC HO]
  · isplitl [HC]; · iexact HC
    iexact HO
  iintro ⟨H3, Hm, H2, Hm', Hv, HO⟩
  iapply Hk $$ [Hm Hm'] H3 H2 Hv HO
  unfold Got
  iexists _, _
  isplitr
  · ipureintro
    exact ⟨chunk_read (c := c0 d i) arg3 f3 h3 hin ho, chunk_read (c := c0 d i) arg2 f2 h2 hin ho⟩
  isplitl [Hm]; · iexact Hm
  iexact Hm'

/-- A chunk's loop, over scratches that hold the chunk. -/
theorem wp_work {I : ℕ → BitVec 32} {V : ℕ → Elt F .f32} {lo base base' : ℕ} {v1 : BitVec 32} {v3 : IVec S16 32}
    {a : BitVec 32 × BitVec 32} {O : CellTallies nD τ sig (HIx 2)} {W : Waits sig (HIx 2)}
    (hv3 : ∀ x, (v3 x).toNat = (x 0).val)
    (hlo : lo ≤ base) (hI : ∀ n, lo ≤ n → n < lo + 40960 → (I n).toNat < 13107200) (hb : base' = base + 8192) (hhi : base' ≤ lo + 40960)
    {α : Type} {kk : BitVec 32 × BitVec 32 → Prog (TpuEff nD τ sig (Elt F) Λ₀ (c0 d i).2) α}
    {Q : α → sProp (MT nD τ sig (HIx 2) (Elt F) ℕ UU ℕ)} :
    iprop(Chunk d i arg4 arg5 arg7 arg8 arg9 arg15 I V lo base a ∗ Got I V (c := c0 d i) arg10 arg11 base ∗ Owe (c0 d i) O W)
      ⊢ iprop((∀ r, Chunk d i arg4 arg5 arg7 arg8 arg9 arg15 I V lo base' r
            -∗ Any (F := F) (c := c0 d i) arg10 -∗ Any (F := F) (c := c0 d i) arg11 -∗ Owe (c0 d i) O W
          -∗ wp frame (wpE (defs₀ (F := F)) 𝒱₀ (c0 d i) none) Set.univ (kk r) Q)
        -∗ wp frame (wpE (defs₀ (F := F)) 𝒱₀ (c0 d i) none) Set.univ
          (Scf.Loop.for k0_t2_loop k0_t2_ok a (k0_t2_body (F := F) i arg2 harg2 arg3 harg3 arg4 harg4 arg5 harg5 arg6 harg6 arg7 harg7 arg8 harg8 arg9 harg9 arg10 harg10 arg11 harg11 arg12 harg12 arg13 harg13 arg14 harg14 arg15 arg16 v86_r0 v1 v3) >>= kk) Q) := by
  subst hb
  unfold Got Any
  iintro ⟨HC, ⟨%ib, %vb, %hg, Hi, Hf⟩, HO⟩ Hk
  iapply (wp_chunk d i arg2 harg2 arg3 harg3 arg4 harg4 arg5 harg5 arg6 harg6 arg7 harg7 arg8 harg8 arg9 harg9 arg10 harg10 arg11 harg11 arg12 harg12 arg13 harg13 arg14 harg14 arg15 arg16 v86_r0 hv3 hg.1 hg.2 hlo hI hhi) $$ [HC Hi Hf HO]
  · isplitl [HC]; · iexact HC
    isplitl [Hi]; · iexact Hi
    isplitl [Hf]; · iexact Hf
    iexact HO
  iintro %r HC Hi Hf HO
  iapply Hk $$ %r HC [Hi] [Hf] HO
  · iexists _; iexact Hi
  · iexists _; iexact Hf

/-- The staging side of a tile at its start. -/
def Fresh (w : ℕ) : sProp 𝕄 :=
  iprop(Any (F := F) (c := c0 d i) arg7 ∗ Any (F := F) (c := c0 d i) arg8 ∗ Any (F := F) (c := c0 d i) arg9
    ∗ (∃ g0, arg4.view.loc (c0 d i) ↦[tileCols (c := c0 d i) arg4 w]{fullShare} g0)
    ∗ (∃ g1, arg5.view.loc (c0 d i) ↦[tileCols (c := c0 d i) arg5 w]{fullShare} g1)
    ∗ semVal (c0 d i, .dma arg15.sem) 0)

theorem Fresh_open {w : ℕ} : Fresh (F := F) d i arg4 arg5 arg7 arg8 arg9 arg15 w
    ⊢ iprop((∃ x, Hold (F := F) (c0 d i) arg7 x) ∗ (∃ x, Hold (F := F) (c0 d i) arg8 x) ∗ (∃ x, Hold (F := F) (c0 d i) arg9 x)
    ∗ (∃ g0, arg4.view.loc (c0 d i) ↦[tileCols (c := c0 d i) arg4 w]{fullShare} g0)
    ∗ (∃ g1, arg5.view.loc (c0 d i) ↦[tileCols (c := c0 d i) arg5 w]{fullShare} g1)
    ∗ semVal (c0 d i, .dma arg15.sem) 0) := by
  unfold Fresh Any; exact .rfl

section Run

variable {I : ℕ → BitVec 32} {V : ℕ → Elt F .f32} {q : PosShare TreeShare} {f3 : Buf (Elt F) (arg3.view.loc (c0 d i))} {f2 : Buf (Elt F) (arg2.view.loc (c0 d i))}
  {O : CellTallies nD τ sig (HIx 2)} {W : Waits sig (HIx 2)}

theorem wp_part11 (h3 : ∀ j : S1310720.Idx, arg3.view.read (Elt F) f3 j = I (j 0).val) (h2 : ∀ j : S1310720.Idx, arg2.view.read (Elt F) f2 j = V (j 0).val)
    (hI : ∀ n, wid i * 40960 ≤ n → n < wid i * 40960 + 40960 → (I n).toNat < 13107200) :
    iprop(Fresh (F := F) d i arg4 arg5 arg7 arg8 arg9 arg15 (wid i)
        ∗ (Any (F := F) (c := c0 d i) arg10 ∗ Any (F := F) (c := c0 d i) arg11 ∗ Any (F := F) (c := c0 d i) arg12 ∗ Any (F := F) (c := c0 d i) arg13)
        ∗ (arg3.view.loc (c0 d i) ↦{q} f3) ∗ (arg2.view.loc (c0 d i) ↦{q} f2) ∗ semVal (c0 d i, .dma arg16.sem) 0 ∗ Owe (c0 d i) O W)
      ⊢ wp frame (wpE (defs₀ (F := F)) 𝒱₀ (c0 d i) none) Set.univ (k0_part11 (F := F) i arg2 harg2 arg3 harg3 arg4 harg4 arg5 harg5 arg6 harg6 arg7 harg7 arg8 harg8 arg9 harg9 arg10 harg10 arg11 harg11 arg12 harg12 arg13 harg13 arg14 harg14 arg15 arg16 v86_r0) fun r =>
        iprop(∃ (v1 v2 : BitVec 32) (v3 : IVec S16 32) (a b : BitVec 32), ⌜r = ⟨v1, v2, v3, k0_pay91, a, b⟩ ∧ ∀ x, (v3 x).toNat = (x 0).val⌝
          ∗ Chunk d i arg4 arg5 arg7 arg8 arg9 arg15 I V (wid i * 40960) (wid i * 40960 + 8192) (a, b)
          ∗ (Any (F := F) (c := c0 d i) arg10 ∗ Any (F := F) (c := c0 d i) arg11 ∗ Got I V (c := c0 d i) arg12 arg13 (wid i * 40960 + 8192))
          ∗ (arg3.view.loc (c0 d i) ↦{q} f3) ∗ (arg2.view.loc (c0 d i) ↦{q} f2) ∗ semVal (c0 d i, .dma arg16.sem) 0 ∗ Owe (c0 d i) O W) := by
  rw [k0_part11_eq_skeleton]
  unfold k0_part11_skel
  simp only [Prog.lift, Prog.bind_op, Prog.bind_ret, Prog.pure_eq_ret, bind_assoc]
  rw [body1 (F := F) i arg2 harg2 arg3 harg3 arg4 harg4 arg5 harg5 arg6 harg6 arg7 harg7 arg8 harg8 arg9 harg9 arg10 harg10 arg11 harg11 arg12 harg12 arg13 harg13 arg14 harg14 arg15 arg16 v86_r0 trip0]
  iintro ⟨HF, ⟨H10, H11, H12, H13⟩, H3, H2, Hv, HO⟩
  ihave HF' := (Fresh_open d i arg4 arg5 arg7 arg8 arg9 arg15) $$ HF
  icases HF' with ⟨⟨%xi, H7⟩, ⟨%xv, H8⟩, ⟨%cu, H9⟩, ⟨%g0, H4⟩, ⟨%g1, H5⟩, Hs⟩
  iapply (wp_clear d i arg2 harg2 arg3 harg3 arg4 harg4 arg5 harg5 arg6 harg6 arg7 harg7 arg8 harg8 arg9 harg9 arg10 harg10 arg11 harg11 arg12 harg12 arg13 harg13 arg14 harg14 arg15 arg16 v86_r0 (cu := cu)) $$ H9
  iintro %cu' %hcl H9
  iapply (wp_ask d i arg2 arg3 arg16 (q := q) (f3 := f3) (f2 := f2)) $$ [H3 H2 H10 H11 Hv]
  · isplitl [H3]; · iexact H3
    isplitl [H2]; · iexact H2
    isplitl [H10]; · iexact H10
    isplitl [H11]; · iexact H11
    iexact Hv
  iintro HC
  iapply (wp_got d i arg2 arg3 arg16 (b := wid i * 40960) h3 h2 ((off2_at i 0#32 0 (by decide) (by decide)).trans (Nat.add_zero _))) $$ [HC HO]
  · isplitl [HC]; · iexact HC
    iexact HO
  iintro HG H3 H2 Hv HO
  iapply (wp_ask d i arg2 arg3 arg16 (q := q) (f3 := f3) (f2 := f2)) $$ [H3 H2 H12 H13 Hv]
  · isplitl [H3]; · iexact H3
    isplitl [H2]; · iexact H2
    isplitl [H12]; · iexact H12
    isplitl [H13]; · iexact H13
    iexact Hv
  iintro HC
  ihave HS := (Stage_close d i arg4 arg5 arg7 arg8 arg9 arg15 (I := I) (V := V) (w := wid i) (lo := wid i * 40960) (tf := wid i * 40960) (t := wid i * 40960) (f := 0)
    ⟨Rows.start I V (wid i * 40960) xi xv hcl, Hist.start I V (wid i) (wid i * 40960) (arg4.view.read (Elt F) g0) (arg5.view.read (Elt F) g1)⟩) $$ [H7 H8 H9 H4 H5 Hs]
  · isplitl [H7]; · iexact H7
    isplitl [H8]; · iexact H8
    isplitl [H9]; · iexact H9
    isplitl [H4]; · iexact H4
    isplitl [H5]; · iexact H5
    iexact Hs
  iapply (wp_work d i arg2 harg2 arg3 harg3 arg4 harg4 arg5 harg5 arg6 harg6 arg7 harg7 arg8 harg8 arg9 harg9 arg10 harg10 arg11 harg11 arg12 harg12 arg13 harg13 arg14 harg14 arg15 arg16 v86_r0 (I := I) (V := V) (lo := wid i * 40960) (base := wid i * 40960) (base' := wid i * 40960 + 8192) (a := (0#32, 0#32))
    iota_lane le_rfl hI rfl (by omega)) $$ [HS HG HO]
  · isplitl [HS]
    · unfold Chunk
      iexists (wid i * 40960)
      isplitr
      · ipureintro; exact ⟨Pend.start I _, by decide, by simp⟩
      iexact HS
    isplitl [HG]; · iexact HG
    iexact HO
  iintro %r HS H10 H11 HO
  iapply (wp_got d i arg2 arg3 arg16 (b := wid i * 40960 + 8192) h3 h2 (off2_at i 8192#32 8192 (by decide) (by decide))) $$ [HC HO]
  · isplitl [HC]; · iexact HC
    iexact HO
  iintro HG H3 H2 Hv HO
  rw [wp_ret]
  imodintro
  iexists _, _, _, _, _
  isplitr
  · ipureintro; exact ⟨rfl, iota_lane⟩
  isplitl [HS]; · iexact HS
  isplitl [H10 H11 HG]
  · isplitl [H10]; · iexact H10
    isplitl [H11]; · iexact H11
    iexact HG
  isplitl [H3]; · iexact H3
  isplitl [H2]; · iexact H2
  isplitl [Hv]; · iexact Hv
  iexact HO

theorem wp_part12 (h3 : ∀ j : S1310720.Idx, arg3.view.read (Elt F) f3 j = I (j 0).val) (h2 : ∀ j : S1310720.Idx, arg2.view.read (Elt F) f2 j = V (j 0).val)
    (hI : ∀ n, wid i * 40960 ≤ n → n < wid i * 40960 + 40960 → (I n).toNat < 13107200)
    {v1 v2 : BitVec 32} {v3 : IVec S16 32} {a b : BitVec 32} (hv3 : ∀ x, (v3 x).toNat = (x 0).val) :
    iprop(Chunk d i arg4 arg5 arg7 arg8 arg9 arg15 I V (wid i * 40960) (wid i * 40960 + 8192) (a, b)
          ∗ (Any (F := F) (c := c0 d i) arg10 ∗ Any (F := F) (c := c0 d i) arg11 ∗ Got I V (c := c0 d i) arg12 arg13 (wid i * 40960 + 8192))
          ∗ (arg3.view.loc (c0 d i) ↦{q} f3) ∗ (arg2.view.loc (c0 d i) ↦{q} f2) ∗ semVal (c0 d i, .dma arg16.sem) 0 ∗ Owe (c0 d i) O W)
      ⊢ wp frame (wpE (defs₀ (F := F)) 𝒱₀ (c0 d i) none) Set.univ (k0_part12 (F := F) i arg2 harg2 arg3 harg3 arg4 harg4 arg5 harg5 arg6 harg6 arg7 harg7 arg8 harg8 arg9 harg9 arg10 harg10 arg11 harg11 arg12 harg12 arg13 harg13 arg14 harg14 arg15 arg16 v86_r0 v1 v2 v3 k0_pay91 a b) fun r =>
        iprop(∃ (a b : BitVec 32), ⌜r = ⟨a, b⟩⌝
          ∗ Chunk d i arg4 arg5 arg7 arg8 arg9 arg15 I V (wid i * 40960) (wid i * 40960 + 32768) (a, b)
          ∗ (Any (F := F) (c := c0 d i) arg12 ∗ Any (F := F) (c := c0 d i) arg13)
          ∗ Coming d i arg2 arg3 arg16 q f3 f2 arg10 arg11 (k0_off2 i 32768#32) (k0_off2_inb i 4) 0 ∗ Owe (c0 d i) O W) := by
  rw [k0_part12_eq_skeleton]
  unfold k0_part12_skel
  simp only [Prog.lift, Prog.bind_op, Prog.bind_ret, Prog.pure_eq_ret, bind_assoc]
  rw [body5 (F := F) i arg2 harg2 arg3 harg3 arg4 harg4 arg5 harg5 arg6 harg6 arg7 harg7 arg8 harg8 arg9 harg9 arg10 harg10 arg11 harg11 arg12 harg12 arg13 harg13 arg14 harg14 arg15 arg16 v86_r0, body8 (F := F) i arg2 harg2 arg3 harg3 arg4 harg4 arg5 harg5 arg6 harg6 arg7 harg7 arg8 harg8 arg9 harg9 arg10 harg10 arg11 harg11 arg12 harg12 arg13 harg13 arg14 harg14 arg15 arg16 v86_r0, body11 (F := F) i arg2 harg2 arg3 harg3 arg4 harg4 arg5 harg5 arg6 harg6 arg7 harg7 arg8 harg8 arg9 harg9 arg10 harg10 arg11 harg11 arg12 harg12 arg13 harg13 arg14 harg14 arg15 arg16 v86_r0]
  iintro ⟨HS, ⟨H10, H11, HG⟩, H3, H2, Hv, HO⟩
  iapply (wp_ask d i arg2 arg3 arg16 (q := q) (f3 := f3) (f2 := f2)) $$ [H3 H2 H10 H11 Hv]
  · isplitl [H3]; · iexact H3
    isplitl [H2]; · iexact H2
    isplitl [H10]; · iexact H10
    isplitl [H11]; · iexact H11
    iexact Hv
  iintro HC
  iapply (wp_work d i arg2 harg2 arg3 harg3 arg4 harg4 arg5 harg5 arg6 harg6 arg7 harg7 arg8 harg8 arg9 harg9 arg12 harg12 arg13 harg13 arg10 harg10 arg11 harg11 arg14 harg14 arg15 arg16 v86_r0 (I := I) (V := V) (lo := wid i * 40960) (base := wid i * 40960 + 8192) (base' := wid i * 40960 + 16384) (a := (a, b))
    hv3 (by omega) hI (by omega) (by omega)) $$ [HS HG HO]
  · isplitl [HS]; · iexact HS
    isplitl [HG]; · iexact HG
    iexact HO
  iintro %r HS H12 H13 HO
  iapply (wp_got d i arg2 arg3 arg16 (b := wid i * 40960 + 16384) h3 h2 (off2_at i 16384#32 16384 (by decide) (by decide))) $$ [HC HO]
  · isplitl [HC]; · iexact HC
    iexact HO
  iintro HG H3 H2 Hv HO
  iapply (wp_ask d i arg2 arg3 arg16 (q := q) (f3 := f3) (f2 := f2)) $$ [H3 H2 H12 H13 Hv]
  · isplitl [H3]; · iexact H3
    isplitl [H2]; · iexact H2
    isplitl [H12]; · iexact H12
    isplitl [H13]; · iexact H13
    iexact Hv
  iintro HC
  iapply (wp_work d i arg2 harg2 arg3 harg3 arg4 harg4 arg5 harg5 arg6 harg6 arg7 harg7 arg8 harg8 arg9 harg9 arg10 harg10 arg11 harg11 arg12 harg12 arg13 harg13 arg14 harg14 arg15 arg16 v86_r0 (I := I) (V := V) (lo := wid i * 40960) (base := wid i * 40960 + 16384) (base' := wid i * 40960 + 24576) (a := r)
    hv3 (by omega) hI (by omega) (by omega)) $$ [HS HG HO]
  · isplitl [HS]; · iexact HS
    isplitl [HG]; · iexact HG
    iexact HO
  iintro %r' HS H10 H11 HO
  iapply (wp_got d i arg2 arg3 arg16 (b := wid i * 40960 + 24576) h3 h2 (off2_at i 24576#32 24576 (by decide) (by decide))) $$ [HC HO]
  · isplitl [HC]; · iexact HC
    iexact HO
  iintro HG H3 H2 Hv HO
  iapply (wp_ask d i arg2 arg3 arg16 (q := q) (f3 := f3) (f2 := f2)) $$ [H3 H2 H10 H11 Hv]
  · isplitl [H3]; · iexact H3
    isplitl [H2]; · iexact H2
    isplitl [H10]; · iexact H10
    isplitl [H11]; · iexact H11
    iexact Hv
  iintro HC
  iapply (wp_work d i arg2 harg2 arg3 harg3 arg4 harg4 arg5 harg5 arg6 harg6 arg7 harg7 arg8 harg8 arg9 harg9 arg12 harg12 arg13 harg13 arg10 harg10 arg11 harg11 arg14 harg14 arg15 arg16 v86_r0 (I := I) (V := V) (lo := wid i * 40960) (base := wid i * 40960 + 24576) (base' := wid i * 40960 + 32768) (a := r')
    hv3 (by omega) hI (by omega) (by omega)) $$ [HS HG HO]
  · isplitl [HS]; · iexact HS
    isplitl [HG]; · iexact HG
    iexact HO
  iintro %r'' HS H12 H13 HO
  rw [wp_ret]
  imodintro
  iexists _, _
  isplitr
  · ipureintro; exact rfl
  isplitl [HS]; · iexact HS
  isplitl [H12 H13]
  · isplitl [H12]; · iexact H12
    iexact H13
  isplitl [HC]; · iexact HC
  iexact HO

theorem pay101_lane (v5 : IVec S16 32) (hv5 : ∀ x, v5 x = 0#32) (f : BitVec 32) (hf : f.toNat < 2 ^ 31) (x : S16.Idx) :
    (k0_pay101 v5 f x).toNat = min f.toNat 2 + 1 := by
  show (v5 x + (Scalar.minsi f 2#32 + 1#32)).toNat = _
  rw [hv5, BitVec.toNat_add, BitVec.toNat_add, minsi_two f hf]
  simp
  omega

theorem Stage_any {w lo tf t f : ℕ} :
    Stage d i arg4 arg5 arg7 arg8 arg9 arg15 I V w lo tf t f ⊢ iprop(⌜lo ≤ tf⌝ ∗ Stage d i arg4 arg5 arg7 arg8 arg9 arg15 I V w lo tf t f) := by
  unfold Stage
  iintro ⟨%xi, %xv, %cu, %g0, %g1, %hp, H⟩
  isplitr
  · ipureintro
    obtain ⟨A, E, h⟩ := hp.2
    exact h.le
  iexists xi, xv, cu, g0, g1
  isplitr; · ipureintro; exact hp
  iexact H

theorem Chunk_open {lo t : ℕ} {r : BitVec 32 × BitVec 32} :
    Chunk d i arg4 arg5 arg7 arg8 arg9 arg15 I V lo t r ⊢ iprop(∃ tf, ⌜Pend I tf t r.2.toNat ∧ r.2.toNat ≤ 126 ∧ 32 * r.1.toNat + lo ≤ t⌝
    ∗ Stage d i arg4 arg5 arg7 arg8 arg9 arg15 I V (wid i) lo tf t r.1.toNat) := by
  unfold Chunk; exact .rfl

theorem wp_part13 (h3 : ∀ j : S1310720.Idx, arg3.view.read (Elt F) f3 j = I (j 0).val) (h2 : ∀ j : S1310720.Idx, arg2.view.read (Elt F) f2 j = V (j 0).val)
    (hI : ∀ n, wid i * 40960 ≤ n → n < wid i * 40960 + 40960 → (I n).toNat < 13107200)
    {v1 : BitVec 32} {v3 : IVec S16 32} {a b : BitVec 32} (hv3 : ∀ x, (v3 x).toNat = (x 0).val) {x14 : S16.Idx → BitVec 32} :
    iprop(Chunk d i arg4 arg5 arg7 arg8 arg9 arg15 I V (wid i * 40960) (wid i * 40960 + 32768) (a, b)
          ∗ (Any (F := F) (c := c0 d i) arg12 ∗ Any (F := F) (c := c0 d i) arg13)
          ∗ Coming d i arg2 arg3 arg16 q f3 f2 arg10 arg11 (k0_off2 i 32768#32) (k0_off2_inb i 4) 0
          ∗ Hold (F := F) (e := .i32) (c0 d i) arg14 x14 ∗ Owe (c0 d i) O W)
      ⊢ wp frame (wpE (defs₀ (F := F)) 𝒱₀ (c0 d i) none) Set.univ (k0_part13 (F := F) i arg2 harg2 arg3 harg3 arg4 harg4 arg5 harg5 arg6 harg6 arg7 harg7 arg8 harg8 arg9 harg9 arg10 harg10 arg11 harg11 arg12 harg12 arg13 harg13 arg14 harg14 arg15 arg16 v86_r0 v1 v3 k0_pay91 a b) fun r =>
        iprop(∃ (nf : ℕ) (x14 : S16.Idx → BitVec 32) (g0 : Buf (Elt F) (arg4.view.loc (c0 d i))) (g1 : Buf (Elt F) (arg5.view.loc (c0 d i))),
          ⌜Done I V (wid i) (wid i * 40960) nf (arg4.view.read (Elt F) g0) (arg5.view.read (Elt F) g1) ∧ ∀ x, (x14 x).toNat = nf⌝
          ∗ (Any (F := F) (c := c0 d i) arg7 ∗ Any (F := F) (c := c0 d i) arg8 ∗ Any (F := F) (c := c0 d i) arg9
            ∗ Any (F := F) (c := c0 d i) arg10 ∗ Any (F := F) (c := c0 d i) arg11 ∗ Any (F := F) (c := c0 d i) arg12 ∗ Any (F := F) (c := c0 d i) arg13
            ∗ Hold (F := F) (e := .i32) (c0 d i) arg14 x14)
          ∗ (arg4.view.loc (c0 d i) ↦[tileCols (c := c0 d i) arg4 (wid i)]{fullShare} g0)
          ∗ (arg5.view.loc (c0 d i) ↦[tileCols (c := c0 d i) arg5 (wid i)]{fullShare} g1)
          ∗ semVal (c0 d i, .dma arg15.sem) 0
          ∗ (arg3.view.loc (c0 d i) ↦{q} f3) ∗ (arg2.view.loc (c0 d i) ↦{q} f2) ∗ semVal (c0 d i, .dma arg16.sem) 0 ∗ Owe (c0 d i) O W) := by
  rw [k0_part13_eq_skeleton]
  unfold k0_part13_skel
  simp only [Prog.lift, Prog.bind_op, Prog.bind_ret, Prog.pure_eq_ret, bind_assoc]
  rw [body14 (F := F) i arg2 harg2 arg3 harg3 arg4 harg4 arg5 harg5 arg6 harg6 arg7 harg7 arg8 harg8 arg9 harg9 arg10 harg10 arg11 harg11 arg12 harg12 arg13 harg13 arg14 harg14 arg15 arg16 v86_r0, body18 (F := F) i arg2 harg2 arg3 harg3 arg4 harg4 arg5 harg5 arg6 harg6 arg7 harg7 arg8 harg8 arg9 harg9 arg10 harg10 arg11 harg11 arg12 harg12 arg13 harg13 arg14 harg14 arg15 arg16 v86_r0 v1 v3 k0_pay91 a b trip0]
  iintro ⟨HS, ⟨H12, H13⟩, HC, H14, HO⟩
  iapply (wp_got d i arg2 arg3 arg16 (b := wid i * 40960 + 32768) h3 h2 (off2_at i 32768#32 32768 (by decide) (by decide))) $$ [HC HO]
  · isplitl [HC]; · iexact HC
    iexact HO
  iintro HG H3 H2 Hv HO
  iapply (wp_work d i arg2 harg2 arg3 harg3 arg4 harg4 arg5 harg5 arg6 harg6 arg7 harg7 arg8 harg8 arg9 harg9 arg10 harg10 arg11 harg11 arg12 harg12 arg13 harg13 arg14 harg14 arg15 arg16 v86_r0 (I := I) (V := V) (lo := wid i * 40960) (base := wid i * 40960 + 32768) (base' := wid i * 40960 + 40960) (a := (a, b))
    hv3 (by omega) hI (by omega) (by omega)) $$ [HS HG HO]
  · isplitl [HS]; · iexact HS
    isplitl [HG]; · iexact HG
    iexact HO
  iintro %r HS H10 H11 HO
  obtain ⟨f, p⟩ := r
  ihave HS' := (Chunk_open d i arg4 arg5 arg7 arg8 arg9 arg15) $$ HS
  icases HS' with ⟨%tf, %hp, HS⟩
  obtain ⟨hP, hp126, hf⟩ := hp
  dsimp only [] at hP hp126 hf
  ihave HS' := (Stage_open d i arg4 arg5 arg7 arg8 arg9 arg15) $$ HS
  icases HS' with ⟨%xi, %xv, %cu, %g0, %g1, %hp', H7, H8, H9, H4, H5, Hs⟩
  obtain ⟨hr, hh⟩ := hp'
  have hw32 := wid_lt i
  have hf31 : f.toNat < 2 ^ 31 := by omega
  have ho1 : k0_off29 i f 1 = (wid i * 3 + min f.toNat 2) * 128 := off4_one i f (by omega)
  have hchk : k0_chk32 i f := by
    intro a
    match a with
    | 0 => show 0 + 256 ≤ 256; omega
    | 1 => show k0_off29 i f 1 + 128 ≤ 12288; rw [ho1]; omega
  rw [wp_assume_of _ _ _ _ ?hc]
  case hc => exact hchk
  iapply (wp_cap17 d i arg2 harg2 arg3 harg3 arg4 harg4 arg5 harg5 arg6 harg6 arg7 harg7 arg8 harg8 arg9 harg9 arg10 harg10 arg11 harg11 arg12 harg12 arg13 harg13 arg14 harg14 arg15 arg16 v86_r0 hv3 zero_lane) $$ [H9 H7]
  · isplitl [H9]; · iexact H9
    iexact H7
  iintro %xi' %hcap H9 H7
  iapply (wp_slot d i harg7 harg8 (w := wid i) (s := wid i * 3 + min f.toNat 2) (by omega) (by omega) rfl ho1) $$ [H7 H4 H8 H5 Hs HO]
  · isplitl [H7]; · iexact H7
    isplitl [H4]; · iexact H4
    isplitl [H8]; · iexact H8
    isplitl [H5]; · iexact H5
    isplitl [Hs]; · iexact Hs
    iexact HO
  iintro %g0' %g1' %hwr H7 H4 H8 H5 Hs HO
  iapply (wp_clear d i arg2 harg2 arg3 harg3 arg4 harg4 arg5 harg5 arg6 harg6 arg7 harg7 arg8 harg8 arg9 harg9 arg10 harg10 arg11 harg11 arg12 harg12 arg13 harg13 arg14 harg14 arg15 arg16 v86_r0) $$ H9
  iintro %cu' %hcl H9
  iapply (wp_hold_load (c := c0 d i) (m := arg14)) $$ H14
  iintro H14
  iapply (wp_hold_store (c := c0 d i) (m := arg14)) $$ H14
  iintro %y14 %hy14 H14
  have hfl := flushed_of (F := F) (V := V) (I := I) (w := 0) (lo := 0) (tf := 0) (t := 0) (xv := xv) hcap hwr.1 hwr.2
  have hD : Done I V (wid i) (wid i * 40960) (min f.toNat 2 + 1) (arg4.view.read (Elt F) g0') (arg5.view.read (Elt F) g1') :=
    hh.finish hfl hr (fun b hb => le_trans (hP.bound b hb) hp126) (fun n h1 h2 => bkt_lt (hI n h1 h2))
  have h14 : ∀ x, (y14 x).toNat = min f.toNat 2 + 1 := by
    intro x
    have hx : (Rect.unit (s := S16) ![0] S16.size inb_S16_S16_0).emb x = x := by
      funext a; apply Fin.ext; rw [Rect.emb_apply, Fin.eq_zero a]; show 0 + 1 * (x 0).val = _; omega
    have h := hy14.1 x
    rw [hx] at h
    rw [h]
    exact pay101_lane _ zero_lane _ hf31 x
  rw [wp_ret]
  imodintro
  iexists _, y14, g0', g1'
  isplitr
  · ipureintro; exact ⟨hD, h14⟩
  isplitl [H7 H8 H9 H10 H11 H12 H13 H14]
  · unfold Any
    isplitl [H7]; · iexists _; iexact H7
    isplitl [H8]; · iexists _; iexact H8
    isplitl [H9]; · iexists _; iexact H9
    isplitl [H10]; · iexact H10
    isplitl [H11]; · iexact H11
    isplitl [H12]; · iexact H12
    isplitl [H13]; · iexact H13
    iexact H14
  isplitl [H4]; · iexact H4
  isplitl [H5]; · iexact H5
  isplitl [Hs]; · iexact Hs
  isplitl [H3]; · iexact H3
  isplitl [H2]; · iexact H2
  isplitl [Hv]; · iexact Hv
  iexact HO

/-- The words of the flush counts' array a tile writes. -/
def tileWords {c : Thread nD τ} {sp : Space} {e : EltTy} (m : Memref sig c.2.kind sp S512 e) (w : ℕ) : Finset (Idx (m.view.loc c)) :=
  (Finset.univ.filter fun j : S512.Idx => w * 16 ≤ (j 0).val ∧ (j 0).val < w * 16 + 16).map m.view.emb

theorem off31_eq (i : grid0.Coords) : k0_off31 i 0 = wid i * 16 := by
  have h0 : (i 0).val < 2 := (i 0).isLt
  have h1 : (i 1).val < 16 := (i 1).isLt
  show ((BitVec.ofNat 32 (i 1).val * 2#32 + BitVec.ofNat 32 (i 0).val) * 16#32).toNat = _
  unfold wid
  simp only [BitVec.toNat_mul, BitVec.toNat_add, BitVec.toNat_ofNat]
  omega

abbrev N16 : ℕ := credit S16 .i32

theorem N16_pos : 0 < N16 := sig.dmaCredit_pos _ _ _ _ _ (by decide)

/-- The partition kernel on a tile. -/
theorem wp_partition (h3 : ∀ j : S1310720.Idx, arg3.view.read (Elt F) f3 j = I (j 0).val) (h2 : ∀ j : S1310720.Idx, arg2.view.read (Elt F) f2 j = V (j 0).val)
    (hI : ∀ n, wid i * 40960 ≤ n → n < wid i * 40960 + 40960 → (I n).toNat < 13107200) {g6 : Buf (Elt F) (arg6.view.loc (c0 d i))} :
    iprop(Fresh (F := F) d i arg4 arg5 arg7 arg8 arg9 arg15 (wid i)
        ∗ (Any (F := F) (c := c0 d i) arg10 ∗ Any (F := F) (c := c0 d i) arg11 ∗ Any (F := F) (c := c0 d i) arg12 ∗ Any (F := F) (c := c0 d i) arg13)
        ∗ Any (F := F) (c := c0 d i) arg14 ∗ (arg6.view.loc (c0 d i) ↦[tileWords (c := c0 d i) arg6 (wid i)]{fullShare} g6) ∗ semVal (c0 d i, .dma v86_r0.sem) 0
        ∗ (arg3.view.loc (c0 d i) ↦{q} f3) ∗ (arg2.view.loc (c0 d i) ↦{q} f2) ∗ semVal (c0 d i, .dma arg16.sem) 0 ∗ Owe (c0 d i) O W)
      ⊢ wp frame (wpE (defs₀ (F := F)) 𝒱₀ (c0 d i) none) Set.univ (cc0__partition (F := F) i arg2 harg2 arg3 harg3 arg4 harg4 arg5 harg5 arg6 harg6 arg7 harg7 arg8 harg8 arg9 harg9 arg10 harg10 arg11 harg11 arg12 harg12 arg13 harg13 arg14 harg14 arg15 arg16 v86_r0) fun _ =>
        iprop(∃ (nf : ℕ) (g0 : Buf (Elt F) (arg4.view.loc (c0 d i))) (g1 : Buf (Elt F) (arg5.view.loc (c0 d i))) (g6 : Buf (Elt F) (arg6.view.loc (c0 d i))),
          ⌜Done I V (wid i) (wid i * 40960) nf (arg4.view.read (Elt F) g0) (arg5.view.read (Elt F) g1)
            ∧ ∀ j : S512.Idx, wid i * 16 ≤ (j 0).val → (j 0).val < wid i * 16 + 16 → (arg6.view.read (Elt F) g6 j : BitVec 32).toNat = nf⌝
          ∗ (Any (F := F) (c := c0 d i) arg7 ∗ Any (F := F) (c := c0 d i) arg8 ∗ Any (F := F) (c := c0 d i) arg9
            ∗ Any (F := F) (c := c0 d i) arg10 ∗ Any (F := F) (c := c0 d i) arg11 ∗ Any (F := F) (c := c0 d i) arg12 ∗ Any (F := F) (c := c0 d i) arg13
            ∗ Any (F := F) (c := c0 d i) arg14)
          ∗ (arg4.view.loc (c0 d i) ↦[tileCols (c := c0 d i) arg4 (wid i)]{fullShare} g0)
          ∗ (arg5.view.loc (c0 d i) ↦[tileCols (c := c0 d i) arg5 (wid i)]{fullShare} g1)
          ∗ (arg6.view.loc (c0 d i) ↦[tileWords (c := c0 d i) arg6 (wid i)]{fullShare} g6)
          ∗ (semVal (c0 d i, .dma arg15.sem) 0 ∗ semVal (c0 d i, .dma arg16.sem) 0 ∗ semVal (c0 d i, .dma v86_r0.sem) 0)
          ∗ (arg3.view.loc (c0 d i) ↦{q} f3) ∗ (arg2.view.loc (c0 d i) ↦{q} f2) ∗ Owe (c0 d i) O W) := by
  rw [cc0__partition_eq_skeleton]
  unfold cc0__partition_skel
  dsimp only []
  rw [wp_bind]
  iintro ⟨HF, H10, H14, H6, Hr, H3, H2, Hv, HO⟩
  iapply (wp_wand frame _ _) $$ [HF H10 H3 H2 Hv HO]
  · iapply (wp_part11 d i arg2 harg2 arg3 harg3 arg4 harg4 arg5 harg5 arg6 harg6 arg7 harg7 arg8 harg8 arg9 harg9 arg10 harg10 arg11 harg11 arg12 harg12 arg13 harg13 arg14 harg14 arg15 arg16 v86_r0 h3 h2 hI)
    isplitl [HF]; · iexact HF
    isplitl [H10]; · iexact H10
    isplitl [H3]; · iexact H3
    isplitl [H2]; · iexact H2
    isplitl [Hv]; · iexact Hv
    iexact HO
  iintro %r ⟨%v1, %v2, %v3, %a, %b, %hr, H⟩
  obtain ⟨rfl, hv3⟩ := hr
  dsimp only []
  rw [wp_bind]
  iapply (wp_wand frame _ _) $$ [H]
  · iapply (wp_part12 d i arg2 harg2 arg3 harg3 arg4 harg4 arg5 harg5 arg6 harg6 arg7 harg7 arg8 harg8 arg9 harg9 arg10 harg10 arg11 harg11 arg12 harg12 arg13 harg13 arg14 harg14 arg15 arg16 v86_r0 h3 h2 hI hv3)
    iexact H
  iintro %r ⟨%a', %b', %hr, HS, H12, HC, HO⟩
  subst hr
  dsimp only []
  rw [wp_bind]
  unfold Any
  icases H14 with ⟨%x14, H14⟩
  iapply (wp_wand frame _ _) $$ [HS H12 HC H14 HO]
  · iapply (wp_part13 d i arg2 harg2 arg3 harg3 arg4 harg4 arg5 harg5 arg6 harg6 arg7 harg7 arg8 harg8 arg9 harg9 arg10 harg10 arg11 harg11 arg12 harg12 arg13 harg13 arg14 harg14 arg15 arg16 v86_r0 h3 h2 hI hv3 (x14 := x14))
    unfold Any
    isplitl [HS]; · iexact HS
    isplitl [H12]; · iexact H12
    isplitl [HC]; · iexact HC
    isplitl [H14]; · iexact H14
    iexact HO
  unfold Any
  iintro %r ⟨%nf, %y14, %g0, %g1, %hD, ⟨H7, H8, H9, H10, H11, H12, H13, H14⟩, H4, H5, Hs, H3, H2, Hv, HO⟩
  obtain ⟨hD, hy⟩ := hD
  simp only [Prog.lift, Prog.bind_op, Prog.bind_ret, Prog.pure_eq_ret, bind_assoc]
  have hset : (arg6.slice (Rect.unit (s := S512) (k0_off31 i) S16.size (k0_off31_inb i)) (fun _ => rfl)).view.set = tileWords (c := c0 d i) arg6 (wid i) := by
    show (arg6.view.slice _).set = _
    rw [View.set_slice]
    unfold tileWords
    congr 1
    ext j
    rw [Rect.mem_set_unit]
    simp only [Finset.mem_filter, Finset.mem_univ, true_and]
    have h2 : S16.size 0 = 16 := rfl
    constructor
    · intro h; have h4 := h 0; rw [off31_eq] at h4; exact h4
    · intro h a; rw [Fin.eq_zero a, off31_eq]; exact h
  iapply (wp_flush1 (c := c0 d i) harg14 (dst₀ := arg6.slice (Rect.unit (s := S512) (k0_off31 i) S16.size (k0_off31_inb i)) (fun _ => rfl)) (R₀ := tileWords (c := c0 d i) arg6 (wid i)) (g₀ := g6)
    (le_of_eq hset) N16 rfl N16_pos) $$ [H14 H6 Hr]
  · isplitl [H14]; · iexact H14
    isplitl [H6]; · iexact H6
    iexact Hr
  iintro HP
  iapply (wp_await1 (c := c0 d i) (N := N16) rfl) $$ [HP HO]
  · isplitl [HP]; · iexact HP
    iexact HO
  unfold Flush
  iintro ⟨⟨H14, H6⟩, Hr, HO⟩
  rw [wp_ret]
  imodintro
  iexists nf, g0, g1, _
  isplitr
  · ipureintro
    refine ⟨hD, ?_⟩
    rotate_left
    · exact (arg6.slice (Rect.unit (s := S512) (k0_off31 i) S16.size (k0_off31_inb i)) (fun _ => rfl)).view.write (Elt F) g6 y14 Finset.univ
    intro j h1 h2
    have hj : ∃ x, (Rect.unit (s := S512) (k0_off31 i) S16.size (k0_off31_inb i)).emb x = j := by
      apply exists_emb
      rw [Rect.mem_set_unit]
      intro a
      have h3 : S16.size 0 = 16 := rfl
      rw [Fin.eq_zero a, off31_eq]; omega
    obtain ⟨x, rfl⟩ := hj
    rw [View.read_slice_write_emb (v := arg6.view) (Rect.unit (s := S512) (k0_off31 i) S16.size (k0_off31_inb i)) g6 y14 (Finset.mem_univ x)]
    exact hy x
  isplitl [H7 H8 H9 H10 H11 H12 H13 H14]
  · isplitl [H7]; · iexact H7
    isplitl [H8]; · iexact H8
    isplitl [H9]; · iexact H9
    isplitl [H10]; · iexact H10
    isplitl [H11]; · iexact H11
    isplitl [H12]; · iexact H12
    isplitl [H13]; · iexact H13
    iexists _; iexact H14
  isplitl [H4]; · iexact H4
  isplitl [H5]; · iexact H5
  isplitl [H6]; · iexact H6
  isplitl [Hs Hv Hr]
  · isplitl [Hs]; · iexact Hs
    isplitl [Hv]; · iexact Hv
    iexact Hr
  isplitl [H3]; · iexact H3
  isplitl [H2]; · iexact H2
  iexact HO

end Run

end Part

end Cert.Proof.SC
-- ==== Proof.Asm.lean ====
/-
  The assemble kernel on one tile: the parts of a loop pass, and the copies of each loop that are the same program.
-/
module

public import proofs.«01_k».proof.Proof.Last

public import proofs.«01_k».proof.Proof.Trip

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable [FloatOps F]

section Asm

variable (d : Dev nD) (i : grid1.Coords) (arg2 : Memref sig .scVector .hbm S3145728 .i32) (harg2 : arg2.IsWhole) (arg3 : Memref sig .scVector .hbm S3145728 .f32) (harg3 : arg3.IsWhole) (arg4 : Memref sig .scVector .hbm S512 .i32) (harg4 : arg4.IsWhole) (arg5 : Memref sig .scVector .hbm S13107200 .f32) (harg5 : arg5.IsWhole) (arg6 : Memref sig .scVector .vmem S51200 .f32) (harg6 : arg6.IsWhole) (arg7 : Memref sig .scVector .vmem S51200 .f32) (harg7 : arg7.IsWhole) (arg8 : Memref sig .scVector .vmem S6144 .i32) (harg8 : arg8.IsWhole) (arg9 : Memref sig .scVector .vmem S6144 .f32) (harg9 : arg9.IsWhole) (arg10 : Memref sig .scVector .vmem S6144 .i32) (harg10 : arg10.IsWhole) (arg11 : Memref sig .scVector .vmem S6144 .f32) (harg11 : arg11.IsWhole) (arg12 : Memref sig .scVector .vmem S512 .i32) (harg12 : arg12.IsWhole) (arg13 : DmaSems sig S_) (arg14 : DmaSems sig S_) (arg15 : DmaSems sig S_) (arg16 : DmaSems sig S_) (v286_r0 : DmaSems sig S_)

/-- The tile of the assemble kernel's grid. -/
abbrev c1 (d : Dev nD) (i : grid1.Coords) : Thread nD τ := (d, .scVector ((i 0).castLE hcore1) ((i 1).castLE hsub1))

set_option maxRecDepth 65536 in
theorem again17 (v1 : BitVec 32) (v2 v4 : IVec S16 32) (v5 : FVec F S16 .f32) (a b c : BitVec 32) :
    k1_t17_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 a = k1_t2_body (F := F) i arg2 harg2 arg3 harg3 arg4 harg4 arg5 harg5 arg7 harg7 arg6 harg6 arg8 harg8 arg9 harg9 arg10 harg10 arg11 harg11 arg12 harg12 arg13 arg14 arg15 arg16 v286_r0 v1 v2 v4 v5 0#32 a := rfl

set_option maxRecDepth 65536 in
theorem again24 (v1 : BitVec 32) (v2 v4 : IVec S16 32) (v5 : FVec F S16 .f32) (a b c : BitVec 32) :
    k1_t24_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 b a 0#32 1#32 = k1_t9_body (F := F) i arg2 harg2 arg3 harg3 arg4 harg4 arg5 harg5 arg7 harg7 arg6 harg6 arg8 harg8 arg9 harg9 arg10 harg10 arg11 harg11 arg12 harg12 arg13 arg14 arg15 arg16 v286_r0 v1 v2 v4 v5 0#32 a := rfl

set_option maxRecDepth 65536 in
theorem again32 (v1 : BitVec 32) (v2 v4 : IVec S16 32) (v5 : FVec F S16 .f32) (a b c : BitVec 32) :
    k1_t32_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 b c 0#32 1#32 = k1_t2_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 0#32 (Scalar.muli (Scalar.addi (Scalar.muli v1 8#32) 2#32) 51200#32) := rfl

set_option maxRecDepth 65536 in
theorem again39 (v1 : BitVec 32) (v2 v4 : IVec S16 32) (v5 : FVec F S16 .f32) (a b c : BitVec 32) :
    k1_t39_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 b a c = k1_t9_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 0#32 a := rfl

set_option maxRecDepth 65536 in
theorem again47 (v1 : BitVec 32) (v2 v4 : IVec S16 32) (v5 : FVec F S16 .f32) (a b c : BitVec 32) :
    k1_t47_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 b a = k1_t2_body (F := F) i arg2 harg2 arg3 harg3 arg4 harg4 arg5 harg5 arg7 harg7 arg6 harg6 arg8 harg8 arg9 harg9 arg10 harg10 arg11 harg11 arg12 harg12 arg13 arg14 arg15 arg16 v286_r0 v1 v2 v4 v5 0#32 a := rfl

set_option maxRecDepth 65536 in
theorem again54 (v1 : BitVec 32) (v2 v4 : IVec S16 32) (v5 : FVec F S16 .f32) (a b c : BitVec 32) :
    k1_t54_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 b a = k1_t9_body (F := F) i arg2 harg2 arg3 harg3 arg4 harg4 arg5 harg5 arg7 harg7 arg6 harg6 arg8 harg8 arg9 harg9 arg10 harg10 arg11 harg11 arg12 harg12 arg13 arg14 arg15 arg16 v286_r0 v1 v2 v4 v5 0#32 a := rfl

set_option maxRecDepth 65536 in
theorem again62 (v1 : BitVec 32) (v2 v4 : IVec S16 32) (v5 : FVec F S16 .f32) (a b c : BitVec 32) :
    k1_t62_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 a = k1_t2_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 0#32 a := rfl

set_option maxRecDepth 65536 in
theorem again69 (v1 : BitVec 32) (v2 v4 : IVec S16 32) (v5 : FVec F S16 .f32) (a b c : BitVec 32) :
    k1_t69_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 b a = k1_t9_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 0#32 a := rfl

set_option maxRecDepth 65536 in
theorem again77 (v1 : BitVec 32) (v2 v4 : IVec S16 32) (v5 : FVec F S16 .f32) (a b c : BitVec 32) :
    k1_t77_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 b a 0#32 = k1_t2_body (F := F) i arg2 harg2 arg3 harg3 arg4 harg4 arg5 harg5 arg7 harg7 arg6 harg6 arg8 harg8 arg9 harg9 arg10 harg10 arg11 harg11 arg12 harg12 arg13 arg14 arg15 arg16 v286_r0 v1 v2 v4 v5 0#32 a := rfl

set_option maxRecDepth 65536 in
theorem again84 (v1 : BitVec 32) (v2 v4 : IVec S16 32) (v5 : FVec F S16 .f32) (a b c : BitVec 32) :
    k1_t84_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 b a 0#32 = k1_t9_body (F := F) i arg2 harg2 arg3 harg3 arg4 harg4 arg5 harg5 arg7 harg7 arg6 harg6 arg8 harg8 arg9 harg9 arg10 harg10 arg11 harg11 arg12 harg12 arg13 arg14 arg15 arg16 v286_r0 v1 v2 v4 v5 0#32 a := rfl

set_option maxRecDepth 65536 in
theorem again92 (v1 : BitVec 32) (v2 v4 : IVec S16 32) (v5 : FVec F S16 .f32) (a b c : BitVec 32) :
    k1_t92_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 b a c 12288#32 = k1_t2_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 0#32 a := rfl

set_option maxRecDepth 65536 in
theorem again99 (v1 : BitVec 32) (v2 v4 : IVec S16 32) (v5 : FVec F S16 .f32) (a b c : BitVec 32) :
    k1_t99_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 b a c 12288#32 = k1_t9_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 0#32 a := rfl

set_option maxRecDepth 65536 in
theorem again107 (v1 : BitVec 32) (v2 v4 : IVec S16 32) (v5 : FVec F S16 .f32) (a b c : BitVec 32) :
    k1_t107_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 = k1_t2_body (F := F) i arg2 harg2 arg3 harg3 arg4 harg4 arg5 harg5 arg7 harg7 arg6 harg6 arg8 harg8 arg9 harg9 arg10 harg10 arg11 harg11 arg12 harg12 arg13 arg14 arg15 arg16 v286_r0 v1 v2 v4 v5 0#32 (Scalar.muli (Scalar.addi (Scalar.muli v1 8#32) 7#32) 51200#32) := rfl

set_option maxRecDepth 65536 in
theorem again114 (v1 : BitVec 32) (v2 v4 : IVec S16 32) (v5 : FVec F S16 .f32) (a b c : BitVec 32) :
    k1_t114_body (F := F) i arg2 harg2 arg3 harg3 arg4 harg4 arg5 harg5 arg6 harg6 arg7 harg7 arg8 harg8 arg9 harg9 arg10 harg10 arg11 harg11 arg12 harg12 arg13 arg14 arg15 arg16 v286_r0 v2 v4 a = k1_t9_body (F := F) i arg2 harg2 arg3 harg3 arg4 harg4 arg5 harg5 arg7 harg7 arg6 harg6 arg8 harg8 arg9 harg9 arg10 harg10 arg11 harg11 arg12 harg12 arg13 arg14 arg15 arg16 v286_r0 v1 v2 v4 v5 0#32 a := rfl

theorem clear16 (v1 : BitVec 32) (v2 v4 : IVec S16 32) (a b c : BitVec 32) :
    k1_t16_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 k1_pay16 b a = k1_t1_body (F := F) i arg2 harg2 arg3 harg3 arg4 harg4 arg5 harg5 arg7 harg7 arg6 harg6 arg8 harg8 arg9 harg9 arg10 harg10 arg11 harg11 arg12 harg12 arg13 arg14 arg15 arg16 v286_r0 := rfl

theorem clear31 (v1 : BitVec 32) (v2 v4 : IVec S16 32) (a b c : BitVec 32) :
    k1_t31_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 k1_pay16 b a 0#32 1#32 = k1_t1_body (F := F) i arg2 harg2 arg3 harg3 arg4 harg4 arg5 harg5 arg6 harg6 arg7 harg7 arg8 harg8 arg9 harg9 arg10 harg10 arg11 harg11 arg12 harg12 arg13 arg14 arg15 arg16 v286_r0 := rfl

theorem clear46 (v1 : BitVec 32) (v2 v4 : IVec S16 32) (a b c : BitVec 32) :
    k1_t46_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 k1_pay16 b a c = k1_t1_body (F := F) i arg2 harg2 arg3 harg3 arg4 harg4 arg5 harg5 arg7 harg7 arg6 harg6 arg8 harg8 arg9 harg9 arg10 harg10 arg11 harg11 arg12 harg12 arg13 arg14 arg15 arg16 v286_r0 := rfl

theorem clear61 (v1 : BitVec 32) (v2 v4 : IVec S16 32) (a b c : BitVec 32) :
    k1_t61_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 k1_pay16 a = k1_t1_body (F := F) i arg2 harg2 arg3 harg3 arg4 harg4 arg5 harg5 arg6 harg6 arg7 harg7 arg8 harg8 arg9 harg9 arg10 harg10 arg11 harg11 arg12 harg12 arg13 arg14 arg15 arg16 v286_r0 := rfl

theorem clear76 (v1 : BitVec 32) (v2 v4 : IVec S16 32) (a b c : BitVec 32) :
    k1_t76_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 k1_pay16 b a = k1_t1_body (F := F) i arg2 harg2 arg3 harg3 arg4 harg4 arg5 harg5 arg7 harg7 arg6 harg6 arg8 harg8 arg9 harg9 arg10 harg10 arg11 harg11 arg12 harg12 arg13 arg14 arg15 arg16 v286_r0 := rfl

theorem clear91 (v1 : BitVec 32) (v2 v4 : IVec S16 32) (a b c : BitVec 32) :
    k1_t91_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 k1_pay16 b a 0#32 = k1_t1_body (F := F) i arg2 harg2 arg3 harg3 arg4 harg4 arg5 harg5 arg6 harg6 arg7 harg7 arg8 harg8 arg9 harg9 arg10 harg10 arg11 harg11 arg12 harg12 arg13 arg14 arg15 arg16 v286_r0 := rfl

theorem clear106 (v1 : BitVec 32) (v2 v4 : IVec S16 32) (a b c : BitVec 32) :
    k1_t106_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 k1_pay16 = k1_t1_body (F := F) i arg2 harg2 arg3 harg3 arg4 harg4 arg5 harg5 arg7 harg7 arg6 harg6 arg8 harg8 arg9 harg9 arg10 harg10 arg11 harg11 arg12 harg12 arg13 arg14 arg15 arg16 v286_r0 := rfl

set_option maxRecDepth 65536 in
theorem again10 (v1 : BitVec 32) (v2 v4 : IVec S16 32) (v5 : FVec F S16 .f32) (v15 v16 : BitVec 32) (t : Fin k1_t2_loop.trips) (n : BitVec 32) (h) :
    k1_t10_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 v15 v16 t n h
      = k1_t3_body (F := F) i arg2 harg2 arg3 harg3 arg4 harg4 arg5 harg5 arg6 harg6 arg7 harg7 arg10 harg10 arg11 harg11 arg8 harg8 arg9 harg9 arg12 harg12 arg13 arg14 arg15 arg16 v286_r0 v1 v2 v4 v5 v15 v16 t n h := rfl

theorem slt_small (a b : BitVec 32) (ha : a.toNat < 2 ^ 31) (hb : b.toNat < 2 ^ 31) : IntOp.cmpi .slt a b = 1 ↔ a.toNat < b.toNat := by
  have h1 : a.slt b = decide (a.toNat < b.toNat) := by
    rw [BitVec.slt_eq_decide, BitVec.toInt_eq_toNat_cond, BitVec.toInt_eq_toNat_cond]
    simp
    omega
  show BitVec.ofBool (a.slt b) = 1 ↔ _
  rw [h1]
  by_cases hc : a.toNat < b.toNat <;> simp [hc]

/-- Sixteen lanes that read one small word: their maximum is that word. -/
theorem top_same (v s : IVec S16 32) (hs : ∀ x, s x = 2147483648#32) {w : BitVec 32} (hw : w.toNat < 2 ^ 31) (hv : ∀ x, v x = w) :
    xori (scan .max (xori v s)) s top16 = w := by
  obtain ⟨-, x, hx⟩ := scan_max v s hs (fun x => by rw [hv]; exact hw) top16 rfl
  rw [hx, hv]

theorem top20 (v s : IVec S16 32) (hs : s = broadcast S16 2147483648#32) :
    extractAt ![15] (k1_pay20 (F := F) v) inpos_S16_p15 = xori (scan .max (xori v s)) s top16 := by subst hs; rfl

theorem top18 (v s : IVec S16 32) (hs : s = broadcast S16 2147483648#32) :
    extractAt ![15] (k1_pay18 (F := F) v) inpos_S16_p15 = xori (scan .max (xori v s)) s top16 := by subst hs; rfl

theorem slot_loops : ∀ n : Fin 127, (k1_t4_loop (BitVec.ofNat 32 n.val)).trips = (n.val + 15) / 16 ∧ (k1_t5_loop (BitVec.ofNat 32 n.val)).trips = 0
    ∧ (k1_t4_loop (BitVec.ofNat 32 n.val)).OK ∧ (k1_t5_loop (BitVec.ofNat 32 n.val)).OK := by decide +kernel

theorem slot_loops' {v : BitVec 32} (hv : v.toNat ≤ 126) : (k1_t4_loop v).trips = (v.toNat + 15) / 16 ∧ (k1_t5_loop v).trips = 0
    ∧ (k1_t4_loop v).OK ∧ (k1_t5_loop v).OK := by
  have h := slot_loops ⟨v.toNat, by omega⟩
  rwa [BitVec.ofNat_toNat, BitVec.setWidth_eq] at h

theorem src_loops : ∀ n : Fin 3, (k1_t3_loop (BitVec.ofNat 32 (n.val + 1))).trips = n.val + 1 ∧ (k1_t6_loop (BitVec.ofNat 32 (n.val + 1))).trips = 0
    ∧ (k1_t3_loop (BitVec.ofNat 32 (n.val + 1))).OK ∧ (k1_t6_loop (BitVec.ofNat 32 (n.val + 1))).OK := by decide +kernel

theorem src_loops' {v : BitVec 32} (h1 : 1 ≤ v.toNat) (h3 : v.toNat ≤ 3) : (k1_t3_loop v).trips = v.toNat ∧ (k1_t6_loop v).trips = 0
    ∧ (k1_t3_loop v).OK ∧ (k1_t6_loop v).OK := by
  have h := src_loops ⟨v.toNat - 1, by omega⟩
  dsimp only at h
  rwa [Nat.sub_add_cancel h1, BitVec.ofNat_toNat, BitVec.setWidth_eq] at h

theorem trips1_t2 : k1_t2_loop.trips = 16 := by decide
theorem trips1_t1 : k1_t1_loop.trips = 800 := by decide +kernel

theorem off4_1 (t2 : Fin k1_t2_loop.trips) (v : BitVec 32) (t3 : Fin (k1_t3_loop v).trips) (v' : BitVec 32) (t4 : Fin (k1_t4_loop v').trips)
    (h3 : t3.val < 3) (h4 : t4.val < 8) : k1_off4 t2 v t3 v' t4 0 = (t2.val * 3 + t3.val) * 128 + 16 * t4.val := by
  have h2 : t2.val < 16 := lt_of_lt_of_eq t2.isLt trips1_t2
  show (((Scalar.muli (Scf.iv 0#32 1#32 t2) 3#32 + Scf.iv 0#32 1#32 t3) * 128#32) + Scalar.muli (Scf.iv 0#32 1#32 t4) 16#32).toNat = _
  rw [BitVec.toNat_add, BitVec.toNat_mul, BitVec.toNat_add, iv_mul_toNat _ 3 (by omega) (by omega), iv_mul_toNat _ 16 (by omega) (by omega), iv_toNat _ (by omega)]
  simp; omega

theorem pay19_1 {v4 : IVec S16 32} (hv4 : ∀ x, v4 x = 0#32) (t2 : Fin k1_t2_loop.trips) (v : BitVec 32) (t3 : Fin (k1_t3_loop v).trips)
    (h3 : t3.val < 3) (x : S16.Idx) : (k1_pay19 v4 t2 v t3 x).toNat = (t2.val * 3 + t3.val) * 128 + 127 := by
  have h2 : t2.val < 16 := lt_of_lt_of_eq t2.isLt trips1_t2
  show ((v4 x + (Scalar.muli (Scf.iv 0#32 1#32 t2) 3#32 + Scf.iv 0#32 1#32 t3) * 128#32) + 127#32).toNat = _
  rw [hv4, BitVec.toNat_add, BitVec.toNat_add, BitVec.toNat_mul, BitVec.toNat_add, iv_mul_toNat _ 3 (by omega) (by omega), iv_toNat _ (by omega)]
  simp; omega

theorem pay17_1 {v4 : IVec S16 32} (hv4 : ∀ x, v4 x = 0#32) (t2 : Fin k1_t2_loop.trips) (x : S16.Idx) : (k1_pay17 v4 t2 x).toNat = t2.val * 16 := by
  have h2 : t2.val < 16 := lt_of_lt_of_eq t2.isLt trips1_t2
  show (v4 x + (0#32 + Scf.iv 0#32 1#32 t2) * 16#32).toNat = _
  rw [hv4, BitVec.toNat_add, BitVec.toNat_mul, BitVec.toNat_add, iv_toNat _ (by omega)]
  simp; omega

/-- What one slot of a fetched half holds: the words of bucket `b` among the elements from `a` to `e`, in order, from `o` on, and how many. -/
structure Held (I : ℕ → BitVec 32) (V : ℕ → Elt F .f32) (b a e o : ℕ) (y : S6144.Idx → BitVec 32) (yv : S6144.Idx → Elt F .f32) : Prop where
  le : a ≤ e
  small : cnt I b a e ≤ 126
  num : ∀ j : S6144.Idx, (j 0).val = o + 127 → (y j).toNat = cnt I b a e
  els : ∀ n, a ≤ n → n < e → bkt (I n) = b → ∀ j : S6144.Idx, (j 0).val = o + cnt I b a n → y j = I n ∧ yv j = V n

/-- The lanes of one slot stored into the block. -/
theorem wp_lanes {v1 v15 v16 : BitVec 32} {v2 v4 : IVec S16 32} {v5 : FVec F S16 .f32} (hv2 : ∀ x, (v2 x).toNat = (x 0).val)
    {t2 : Fin k1_t2_loop.trips} {v296 : BitVec 32} {t3 : Fin (k1_t3_loop v296).trips} (h3 : t3.val < 3) {v309 : Vec F S16 .i32} {v315 : BitVec 32}
    (h315 : extractAt ![15] (k1_pay20 v309) inpos_S16_p15 = v315) (hw4 : k1_chk4 t2 v296 t3 v315)
    {I : ℕ → BitVec 32} {V : ℕ → Elt F .f32} {zz : Elt F .f32} {b a e : ℕ} {G : Prop} (hb : v16.toNat = b * 51200)
    {y : S6144.Idx → BitVec 32} {yv : S6144.Idx → Elt F .f32} (hH : Held (F := F) I V b a e ((t2.val * 3 + t3.val) * 128) y yv)
    (hn : v315.toNat = cnt I b a e) {x : S51200.Idx → Elt F .f32} (hx : G → Upto I V zz b a x)
    {α : Type} {kk : Unit → Prog (TpuEff nD τ sig (Elt F) Λ₀ (c1 d i).2) α} {Q : α → sProp (MT nD τ sig (HIx 2) (Elt F) ℕ UU ℕ)} :
    iprop(Hold (F := F) (e := .i32) (c1 d i) arg8 y ∗ Hold (F := F) (e := .f32) (c1 d i) arg9 yv ∗ Hold (F := F) (e := .f32) (c1 d i) arg6 x)
      ⊢ iprop((∀ x', ⌜G → Upto I V zz b e x'⌝ -∗ Hold (F := F) (e := .i32) (c1 d i) arg8 y -∗ Hold (F := F) (e := .f32) (c1 d i) arg9 yv
          -∗ Hold (F := F) (e := .f32) (c1 d i) arg6 x' -∗ wp frame (wpE (defs₀ (F := F)) 𝒱₀ (c1 d i) none) Set.univ (kk ⟨⟩) Q)
        -∗ wp frame (wpE (defs₀ (F := F)) 𝒱₀ (c1 d i) none) Set.univ
          (Scf.Loop.for (k1_t4_loop v315) (k1_t4_ok t2 v296 t3 v315 hw4) ⟨⟩ (k1_t4_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 v15 v16 t2 v296 t3 v309 v315 hw4) >>= kk) Q) := by
  obtain ⟨htr, -, -, -⟩ := slot_loops' (v := v315) (by rw [hn]; exact hH.small)
  have hsm := hH.small
  iintro ⟨Hy, Hv, Hx⟩ Hk
  iapply (Scf.wp_for_bind frame (wpE (defs₀ (F := F)) 𝒱₀ (c1 d i) none) Set.univ _ _ _ (k1_t4_ok t2 v296 t3 v315 hw4) ⟨⟩ _
    (fun k (_ : Unit) => iprop(∃ x', ⌜G → ∃ t, a ≤ t ∧ t ≤ e ∧ cnt I b a t = min (16 * k) (cnt I b a e) ∧ Upto I V zz b t x'⌝
      ∗ Hold (F := F) (e := .i32) (c1 d i) arg8 y ∗ Hold (F := F) (e := .f32) (c1 d i) arg9 yv ∗ Hold (F := F) (e := .f32) (c1 d i) arg6 x')) ?hb) $$ [Hy Hv Hx]
  case hb =>
    intro k acc
    unfold k1_t4_body
    simp only [Prog.lift, Prog.bind_op, Prog.bind_ret, Prog.pure_eq_ret]
    iintro ⟨%x', %hx', Hy, Hv, Hx⟩
    have hk : k.val < (v315.toNat + 15) / 16 := lt_of_lt_of_eq k.isLt htr
    rw [hn] at hk
    iapply (wp_hold_load (c := c1 d i) (m := arg8)) $$ Hy
    iintro Hy
    iapply (wp_hold_load (c := c1 d i) (m := arg9)) $$ Hv
    iintro Hv
    have hpos : ∀ xx : S16.Idx, (((Rect.unit (s := S6144) (k1_off4 t2 v296 t3 v315 k) S16.size (k1_off4_inb t2 v296 t3 v315 hw4 k)).toLoadRect.idx xx) 0).val
        = (t2.val * 3 + t3.val) * 128 + (16 * k.val + (xx 0).val) := by
      intro xx
      rw [load16, off4_1 t2 v296 t3 v315 k h3 (by omega)]; omega
    have hsum : ∀ xx : S16.Idx, (Scalar.muli (Scf.iv 0#32 1#32 k.val) 16#32 + v2 xx).toNat = 16 * k.val + (xx 0).val := by
      intro xx
      have hxx : (xx 0).val < 16 := (xx 0).isLt
      rw [BitVec.toNat_add, iv_mul_toNat _ 16 (by omega) (by omega), hv2]; omega
    have hmask : ∀ xx : S16.Idx, k1_pay21 v2 v309 v315 k xx = 1 ↔ 16 * k.val + (xx 0).val < cnt I b a e := by
      intro xx
      have hxx : (xx 0).val < 16 := (xx 0).isLt
      show IntOp.cmpi .slt (Scalar.muli (Scf.iv 0#32 1#32 k.val) 16#32 + v2 xx) (extractAt ![15] (k1_pay20 v309) inpos_S16_p15) = 1 ↔ _
      rw [h315, slt_small _ _ (by rw [hsum]; omega) (by omega), hsum, hn]
    have hsel : ∀ (w : IVec S16 32) (xx : S16.Idx), k1_pay22 v2 v16 v309 v315 k w xx = if k1_pay21 v2 v309 v315 k xx = 1 then w xx - v16 else 0#32 := fun _ _ => rfl
    generalize hw : (fun j => y ((Rect.unit (s := S6144) (k1_off4 t2 v296 t3 v315 k) S16.size (k1_off4_inb t2 v296 t3 v315 hw4 k)).toLoadRect.idx j)) = w
    generalize hu : (fun j => yv ((Rect.unit (s := S6144) (k1_off4 t2 v296 t3 v315 k) S16.size (k1_off4_inb t2 v296 t3 v315 hw4 k)).toLoadRect.idx j)) = u
    have hval : ∀ (xx : S16.Idx) (m : ℕ), a ≤ m → m < e → bkt (I m) = b → cnt I b a m = 16 * k.val + (xx 0).val
        → u xx = V m ∧ (k1_pay22 v2 v16 v309 v315 k w xx).toNat = (I m).toNat - b * 51200 := by
      intro xx m m1 m2 m3 m4
      have hm := cnt_lt m1 m2 m3
      have he := hH.els m m1 m2 m3 _ (by rw [hpos, m4])
      refine ⟨by rw [← hu]; exact he.2, ?_⟩
      have ew : w xx = I m := by rw [← hw]; exact he.1
      have ho := bkt_off m3
      rw [hsel, if_pos ((hmask xx).mpr (by omega)), ew, BitVec.toNat_sub, hb]
      have := (I m).isLt
      omega
    have hchk : k1_chk5 (k1_pay22 v2 v16 v309 v315 k w) := by
      intro c xx
      rw [Fin.eq_zero c]
      show (k1_pay22 v2 v16 v309 v315 k w xx).toNat < 51200
      exact lane_inside (I := I) (b := b) (a := a) (e := e) (r := 16 * k.val) hmask (fun xx m _ m1 m2 m3 m4 => (hval xx m m1 m2 m3 m4).2)
        (fun xx hne => by rw [hsel, if_neg hne]; rfl) xx
    rw [wp_assume_of _ _ _ _ hchk]
    iapply (wp_hold_storeIdx (c := c1 d i) (base := arg6) harg6) $$ Hx
    iintro Hx
    rw [wp_ret]
    imodintro
    iexists _
    isplitr
    · ipureintro
      intro hG
      obtain ⟨t, p1, p2, p3, p4⟩ := hx' hG
      rw [Nat.min_eq_left (by omega)] at p3
      obtain ⟨t', q1, q2, q3, q4⟩ := p4.step p1 p2 p3 (by omega) hmask hval (k1_idx3_inb _ hchk)
      exact ⟨t', by omega, q2, by rw [q3]; congr 1, q4⟩
    isplitl [Hy]; · iexact Hy
    isplitl [Hv]; · iexact Hv
    iexact Hx
  · iexists x
    isplitr
    · ipureintro
      intro hG
      exact ⟨a, le_rfl, hH.le, by rw [cnt_self]; simp, hx hG⟩
    isplitl [Hy]; · iexact Hy
    isplitl [Hv]; · iexact Hv
    iexact Hx
  iintro %acc ⟨%x', %hx', Hy, Hv, Hx⟩
  iapply Hk $$ %x' [] Hy Hv Hx
  ipureintro
  intro hG
  obtain ⟨t, p1, p2, p3, p4⟩ := hx' hG
  exact p4.skip p1 p2 (by rw [p3]; have e : Scf.trips (k1_t4_loop v315).lb (k1_t4_loop v315).ub (k1_t4_loop v315).st = _ := htr; rw [e]; omega)

/-- A slot's lanes and the empty rest of their loop, once the slot's count is read. -/
theorem wp_counted {v1 v15 v16 : BitVec 32} {v2 v4 : IVec S16 32} {v5 : FVec F S16 .f32} (hv2 : ∀ x, (v2 x).toNat = (x 0).val)
    {t2 : Fin k1_t2_loop.trips} {v296 : BitVec 32} {t3 : Fin (k1_t3_loop v296).trips} (h3 : t3.val < 3) {v309 : Vec F S16 .i32}
    {I : ℕ → BitVec 32} {V : ℕ → Elt F .f32} {zz : Elt F .f32} {b a e : ℕ} {G : Prop} (hb : v16.toNat = b * 51200)
    {y : S6144.Idx → BitVec 32} {yv : S6144.Idx → Elt F .f32} (hH : Held (F := F) I V b a e ((t2.val * 3 + t3.val) * 128) y yv)
    {x : S51200.Idx → Elt F .f32} (hx : G → Upto I V zz b a x) (v315 : BitVec 32)
    (h315 : extractAt ![15] (k1_pay20 v309) inpos_S16_p15 = v315) (hn : v315.toNat = cnt I b a e) :
    iprop(Hold (F := F) (e := .i32) (c1 d i) arg8 y ∗ Hold (F := F) (e := .f32) (c1 d i) arg9 yv ∗ Hold (F := F) (e := .f32) (c1 d i) arg6 x)
      ⊢ wp frame (wpE (defs₀ (F := F)) 𝒱₀ (c1 d i) none) Set.univ
        (Prog.op (TpuEff.assume (k1_chk4 t2 v296 t3 v315) (k1_chk4.dec t2 v296 t3 v315)) fun l =>
          Scf.Loop.for (k1_t4_loop v315) (k1_t4_ok t2 v296 t3 v315 l.down) ⟨⟩ (k1_t4_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 v15 v16 t2 v296 t3 v309 v315 l.down) >>= fun _ =>
          Scf.Loop.for (k1_t5_loop v315) (k1_t5_ok t2 v296 t3 v315 l.down) ⟨⟩ (k1_t5_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 v15 v16 t2 v296 t3 v309 v315 l.down) >>= fun _ =>
          Prog.ret PUnit.unit)
        fun _ => iprop(∃ x', ⌜G → Upto I V zz b e x'⌝ ∗ Hold (F := F) (e := .i32) (c1 d i) arg8 y ∗ Hold (F := F) (e := .f32) (c1 d i) arg9 yv
          ∗ Hold (F := F) (e := .f32) (c1 d i) arg6 x') := by
  have h2 : t2.val < 16 := lt_of_lt_of_eq t2.isLt trips1_t2
  have hsm := hH.small
  obtain ⟨ht4, ht5, hok4, hok5⟩ := slot_loops' (v := v315) (by omega)
  have hchk4 : k1_chk4 t2 v296 t3 v315 := by
    refine ⟨hok4, ?_, hok5, ?_⟩
    · intro k c
      have hk : k.val < (v315.toNat + 15) / 16 := lt_of_lt_of_eq k.isLt ht4
      rw [Fin.eq_zero c, off4_1 t2 v296 t3 v315 k h3 (by omega)]
      show _ + 16 ≤ 6144
      omega
    · intro k
      exact absurd (lt_of_lt_of_eq k.isLt ht5) (Nat.not_lt_zero _)
  iintro ⟨Hy, Hv, Hx⟩
  rw [wp_assume_of _ _ _ _ hchk4]
  ihave HH : iprop(Hold (F := F) (e := .i32) (c1 d i) arg8 y ∗ Hold (F := F) (e := .f32) (c1 d i) arg9 yv ∗ Hold (F := F) (e := .f32) (c1 d i) arg6 x) $$ [Hy Hv Hx]
  · isplitl [Hy]; · iexact Hy
    isplitl [Hv]; · iexact Hv
    iexact Hx
  iapply (wp_lanes d i arg2 harg2 arg3 harg3 arg4 harg4 arg5 harg5 arg6 harg6 arg7 harg7 arg8 harg8 arg9 harg9 arg10 harg10 arg11 harg11 arg12 harg12 arg13 arg14 arg15 arg16 v286_r0 hv2 h3 h315 hchk4 hb hH hn hx) $$ HH
  iintro %x' %hx' Hy Hv Hx
  iapply (Scf.wp_for_bind frame (wpE (defs₀ (F := F)) 𝒱₀ (c1 d i) none) Set.univ _ _ _ (k1_t5_ok t2 v296 t3 v315 hchk4) ⟨⟩ _
    (fun k (_ : Unit) => iprop(Hold (F := F) (e := .i32) (c1 d i) arg8 y ∗ Hold (F := F) (e := .f32) (c1 d i) arg9 yv ∗ Hold (F := F) (e := .f32) (c1 d i) arg6 x')) ?hb) $$ [Hy Hv Hx]
  case hb =>
    intro k acc
    exact absurd (lt_of_lt_of_eq k.isLt ht5) (Nat.not_lt_zero _)
  · isplitl [Hy]; · iexact Hy
    isplitl [Hv]; · iexact Hv
    iexact Hx
  iintro %acc ⟨Hy, Hv, Hx⟩
  rw [wp_ret]
  imodintro
  iexists x'
  isplitr; · ipureintro; exact hx'
  isplitl [Hy]; · iexact Hy
  isplitl [Hv]; · iexact Hv
  iexact Hx

/-- One slot replayed into the block. -/
theorem wp_slot1 {v1 v15 v16 : BitVec 32} {v2 v4 : IVec S16 32} {v5 : FVec F S16 .f32} (hv2 : ∀ x, (v2 x).toNat = (x 0).val) (hv4 : ∀ x, v4 x = 0#32)
    {t2 : Fin k1_t2_loop.trips} {v296 : BitVec 32} {t3 : Fin (k1_t3_loop v296).trips} (h3 : t3.val < 3) (hw2 : k1_chk2 v296)
    {I : ℕ → BitVec 32} {V : ℕ → Elt F .f32} {zz : Elt F .f32} {b a e : ℕ} {G : Prop} (hb : v16.toNat = b * 51200)
    {y : S6144.Idx → BitVec 32} {yv : S6144.Idx → Elt F .f32} (hH : Held (F := F) I V b a e ((t2.val * 3 + t3.val) * 128) y yv)
    {x : S51200.Idx → Elt F .f32} (hx : G → Upto I V zz b a x) :
    iprop(Hold (F := F) (e := .i32) (c1 d i) arg8 y ∗ Hold (F := F) (e := .f32) (c1 d i) arg9 yv ∗ Hold (F := F) (e := .f32) (c1 d i) arg6 x)
      ⊢ wp frame (wpE (defs₀ (F := F)) 𝒱₀ (c1 d i) none) Set.univ (k1_t3_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 v15 v16 t2 v296 hw2 t3 ⟨⟩)
        fun _ => iprop(∃ x', ⌜G → Upto I V zz b e x'⌝ ∗ Hold (F := F) (e := .i32) (c1 d i) arg8 y ∗ Hold (F := F) (e := .f32) (c1 d i) arg9 yv
          ∗ Hold (F := F) (e := .f32) (c1 d i) arg6 x') := by
  have h2 : t2.val < 16 := lt_of_lt_of_eq t2.isLt trips1_t2
  have hsm := hH.small
  unfold k1_t3_body
  simp only [Prog.lift, Prog.bind_op, Prog.bind_ret, Prog.pure_eq_ret, bind_assoc]
  iintro ⟨Hy, Hv, Hx⟩
  have hchk : k1_chk3 (k1_pay19 v4 t2 v296 t3) := by
    intro c xx
    rw [Fin.eq_zero c]
    show (k1_pay19 v4 t2 v296 t3 xx).toNat < 6144
    rw [pay19_1 hv4 t2 v296 t3 h3]; omega
  rw [wp_assume_of _ _ _ _ hchk]
  iapply (wp_hold_loadIdx (c := c1 d i) (base := arg8)) $$ Hy
  iintro Hy
  have hall : ∀ xx, (loadIdx (F := F) (e := .i32) y ![k1_pay19 v4 t2 v296 t3] (k1_idx2_inb _ hchk) xx).toNat = cnt I b a e := by
    intro xx
    refine hH.num _ ?_
    exact pay19_1 hv4 t2 v296 t3 h3 xx
  generalize loadIdx (F := F) (e := .i32) y ![k1_pay19 v4 t2 v296 t3] (k1_idx2_inb _ hchk) = v309 at hall ⊢
  have htop : extractAt ![15] (k1_pay20 (F := F) v309) inpos_S16_p15 = v309 top16 := by
    rw [top20 v309 _ rfl]
    refine top_same v309 _ (fun _ => rfl) (by rw [hall]; omega) (fun xx => BitVec.eq_of_toNat_eq ?_)
    rw [hall, hall]
  have hn : (extractAt ![15] (k1_pay20 (F := F) v309) inpos_S16_p15).toNat = cnt I b a e := (congrArg BitVec.toNat htop).trans (hall _)
  ihave HH : iprop(Hold (F := F) (e := .i32) (c1 d i) arg8 y ∗ Hold (F := F) (e := .f32) (c1 d i) arg9 yv ∗ Hold (F := F) (e := .f32) (c1 d i) arg6 x) $$ [Hy Hv Hx]
  · isplitl [Hy]; · iexact Hy
    isplitl [Hv]; · iexact Hv
    iexact Hx
  iapply (wp_counted d i arg2 harg2 arg3 harg3 arg4 harg4 arg5 harg5 arg6 harg6 arg7 harg7 arg8 harg8 arg9 harg9 arg10 harg10 arg11 harg11 arg12 harg12 arg13 arg14 arg15 arg16 v286_r0 hv2 h3 hb hH hx _ rfl hn) $$ HH

/-- What the slots of one source tile say: where each begins and ends among the elements, and, where the elements are spread
    out enough, that they follow one another over the source's whole stretch. -/
structure Source (I : ℕ → BitVec 32) (V : ℕ → Elt F .f32) (G : Prop) (b lo nf o : ℕ) (y : S6144.Idx → BitVec 32) (yv : S6144.Idx → Elt F .f32) (A E : ℕ → ℕ) : Prop where
  pos : 1 ≤ nf
  le : nf ≤ 3
  held : ∀ k < nf, Held (F := F) I V b (A k) (E k) ((o * 3 + k) * 128) y yv
  chain : G → A 0 = lo ∧ (∀ k, k + 1 < nf → A (k + 1) = E k) ∧ E (nf - 1) = lo + 40960

/-- The slots of one source replayed into the block. -/
theorem wp_source {v1 v15 v16 : BitVec 32} {v2 v4 : IVec S16 32} {v5 : FVec F S16 .f32} (hv2 : ∀ x, (v2 x).toNat = (x 0).val) (hv4 : ∀ x, v4 x = 0#32)
    {t2 : Fin k1_t2_loop.trips} {v296 : BitVec 32} (hw2 : k1_chk2 v296)
    {I : ℕ → BitVec 32} {V : ℕ → Elt F .f32} {zz : Elt F .f32} {b lo : ℕ} {G : Prop} (hb : v16.toNat = b * 51200)
    {y : S6144.Idx → BitVec 32} {yv : S6144.Idx → Elt F .f32} {A E : ℕ → ℕ} (hS : Source (F := F) I V G b lo v296.toNat t2.val y yv A E)
    {x : S51200.Idx → Elt F .f32} (hx : G → Upto I V zz b lo x)
    {α : Type} {kk : Unit → Prog (TpuEff nD τ sig (Elt F) Λ₀ (c1 d i).2) α} {Q : α → sProp (MT nD τ sig (HIx 2) (Elt F) ℕ UU ℕ)} :
    iprop(Hold (F := F) (e := .i32) (c1 d i) arg8 y ∗ Hold (F := F) (e := .f32) (c1 d i) arg9 yv ∗ Hold (F := F) (e := .f32) (c1 d i) arg6 x)
      ⊢ iprop((∀ x', ⌜G → Upto I V zz b (lo + 40960) x'⌝ -∗ Hold (F := F) (e := .i32) (c1 d i) arg8 y -∗ Hold (F := F) (e := .f32) (c1 d i) arg9 yv
          -∗ Hold (F := F) (e := .f32) (c1 d i) arg6 x' -∗ wp frame (wpE (defs₀ (F := F)) 𝒱₀ (c1 d i) none) Set.univ (kk ⟨⟩) Q)
        -∗ wp frame (wpE (defs₀ (F := F)) 𝒱₀ (c1 d i) none) Set.univ
          (Scf.Loop.for (k1_t3_loop v296) (k1_t3_ok v296 hw2) ⟨⟩ (k1_t3_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 v15 v16 t2 v296 hw2) >>= kk) Q) := by
  have hle := hS.le
  have hpos := hS.pos
  obtain ⟨htr, -, -, -⟩ := src_loops' (v := v296) hpos hle
  iintro ⟨Hy, Hv, Hx⟩ Hk
  iapply (Scf.wp_for_bind frame (wpE (defs₀ (F := F)) 𝒱₀ (c1 d i) none) Set.univ _ _ _ (k1_t3_ok v296 hw2) ⟨⟩ _
    (fun k (_ : Unit) => iprop(∃ x', ⌜G → Upto I V zz b (if k = 0 then lo else E (k - 1)) x'⌝
      ∗ Hold (F := F) (e := .i32) (c1 d i) arg8 y ∗ Hold (F := F) (e := .f32) (c1 d i) arg9 yv ∗ Hold (F := F) (e := .f32) (c1 d i) arg6 x')) ?hb) $$ [Hy Hv Hx]
  case hb =>
    intro k acc
    have hk : k.val < v296.toNat := lt_of_lt_of_eq k.isLt htr
    iintro ⟨%x', %hx', HH⟩
    have hx2 : G → Upto I V zz b (A k.val) x' := by
      intro hG
      have h := hx' hG
      obtain ⟨c0, c1, -⟩ := hS.chain hG
      by_cases h0 : k.val = 0
      · rw [if_pos h0] at h; rw [h0, c0]; exact h
      · rw [if_neg h0] at h
        have := c1 (k.val - 1) (by omega)
        rw [Nat.sub_add_cancel (by omega)] at this
        rw [this]; exact h
    ihave HW := (wp_slot1 d i arg2 harg2 arg3 harg3 arg4 harg4 arg5 harg5 arg6 harg6 arg7 harg7 arg8 harg8 arg9 harg9 arg10 harg10 arg11 harg11 arg12 harg12 arg13 arg14 arg15 arg16 v286_r0 (v1 := v1) (v15 := v15) (v5 := v5) hv2 hv4 (t3 := k) (by omega) hw2 hb (hS.held k.val hk) hx2) $$ HH
    iapply (wp_wand frame _ _) $$ [HW]
    · iexact HW
    iintro %r ⟨%x'', %hx'', Hy, Hv, Hx⟩
    iexists x''
    isplitr; · ipureintro; rw [if_neg (Nat.succ_ne_zero _)]; exact hx''
    isplitl [Hy]; · iexact Hy
    isplitl [Hv]; · iexact Hv
    iexact Hx
  · iexists x
    isplitr; · ipureintro; exact hx
    isplitl [Hy]; · iexact Hy
    isplitl [Hv]; · iexact Hv
    iexact Hx
  iintro %acc ⟨%x', %hx', Hy, Hv, Hx⟩
  iapply Hk $$ %x' [] Hy Hv Hx
  ipureintro
  intro hG
  have h := hx' hG
  obtain ⟨-, -, c2⟩ := hS.chain hG
  have e : Scf.trips (k1_t3_loop v296).lb (k1_t3_loop v296).ub (k1_t3_loop v296).st = _ := htr
  rw [e, if_neg (by omega), c2] at h
  exact h

/-- A source's slots and the empty rest of their loop, once the number of its flushes is read. -/
theorem wp_flushes2 {v1 v15 v16 : BitVec 32} {v2 v4 : IVec S16 32} {v5 : FVec F S16 .f32} (hv2 : ∀ x, (v2 x).toNat = (x 0).val) (hv4 : ∀ x, v4 x = 0#32)
    {k : Fin k1_t2_loop.trips} {v290 : Vec F S16 .i32} {I : ℕ → BitVec 32} {V : ℕ → Elt F .f32} {zz : Elt F .f32} {b lo n : ℕ} {G : Prop} (hb : v16.toNat = b * 51200)
    {y : S6144.Idx → BitVec 32} {yv : S6144.Idx → Elt F .f32} {A E : ℕ → ℕ} (hSk : Source (F := F) I V G b lo n k.val y yv A E)
    {x' : S51200.Idx → Elt F .f32} (hx' : G → Upto I V zz b lo x') (v296 : BitVec 32) (hn : v296.toNat = n) :
    iprop(Hold (F := F) (e := .i32) (c1 d i) arg8 y ∗ Hold (F := F) (e := .f32) (c1 d i) arg9 yv ∗ Hold (F := F) (e := .f32) (c1 d i) arg6 x')
      ⊢ wp frame (wpE (defs₀ (F := F)) 𝒱₀ (c1 d i) none) Set.univ
        (Prog.op (TpuEff.assume (k1_chk2 v296) (k1_chk2.dec v296)) fun l =>
          Scf.Loop.for (k1_t3_loop v296) (k1_t3_ok v296 l.down) ⟨⟩ (k1_t3_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 v15 v16 k v296 l.down) >>= fun _ =>
          Scf.Loop.for (k1_t6_loop v296) (k1_t6_ok v296 l.down) ⟨⟩ (k1_t6_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 v15 v16 k v290 v296 l.down) >>= fun _ =>
          Prog.ret PUnit.unit)
        fun _ => iprop(∃ x', ⌜G → Upto I V zz b (lo + 40960) x'⌝ ∗ Hold (F := F) (e := .i32) (c1 d i) arg8 y ∗ Hold (F := F) (e := .f32) (c1 d i) arg9 yv
          ∗ Hold (F := F) (e := .f32) (c1 d i) arg6 x') := by
  iintro ⟨Hy, Hv, Hx⟩
  subst hn
  have hle := hSk.le
  have hpos := hSk.pos
  obtain ⟨ht3, ht6, hok3, hok6⟩ := src_loops' (v := v296) hpos hle
  have hchk2 : k1_chk2 v296 := ⟨hok3, hok6⟩
  rw [wp_assume_of _ _ _ _ hchk2]
  ihave HH : iprop(Hold (F := F) (e := .i32) (c1 d i) arg8 y ∗ Hold (F := F) (e := .f32) (c1 d i) arg9 yv ∗ Hold (F := F) (e := .f32) (c1 d i) arg6 x') $$ [Hy Hv Hx]
  · isplitl [Hy]; · iexact Hy
    isplitl [Hv]; · iexact Hv
    iexact Hx
  iapply (wp_source d i arg2 harg2 arg3 harg3 arg4 harg4 arg5 harg5 arg6 harg6 arg7 harg7 arg8 harg8 arg9 harg9 arg10 harg10 arg11 harg11 arg12 harg12 arg13 arg14 arg15 arg16 v286_r0 (v1 := v1) (v15 := v15) (v5 := v5) hv2 hv4 (t2 := k) hchk2 hb hSk hx') $$ HH
  iintro %x'' %hx'' Hy Hv Hx
  iapply (Scf.wp_for_bind frame (wpE (defs₀ (F := F)) 𝒱₀ (c1 d i) none) Set.univ _ _ _ (k1_t6_ok v296 hchk2) ⟨⟩ _
    (fun k (_ : Unit) => iprop(Hold (F := F) (e := .i32) (c1 d i) arg8 y ∗ Hold (F := F) (e := .f32) (c1 d i) arg9 yv ∗ Hold (F := F) (e := .f32) (c1 d i) arg6 x'')) ?hb2) $$ [Hy Hv Hx]
  case hb2 =>
    intro k acc
    exact absurd (lt_of_lt_of_eq k.isLt ht6) (Nat.not_lt_zero _)
  · isplitl [Hy]; · iexact Hy
    isplitl [Hv]; · iexact Hv
    iexact Hx
  iintro %acc ⟨Hy, Hv, Hx⟩
  rw [wp_ret]
  imodintro
  iexists x''
  isplitr; · ipureintro; exact hx''
  isplitl [Hy]; · iexact Hy
  isplitl [Hv]; · iexact Hv
  iexact Hx

/-- One half of the sources replayed into the block: what the fetched half must hold is, for each of its sixteen sources, that source's slots. -/
theorem wp_replay2 {v1 v15 v16 : BitVec 32} {v2 v4 : IVec S16 32} {v5 : FVec F S16 .f32} (hv2 : ∀ x, (v2 x).toNat = (x 0).val) (hv4 : ∀ x, v4 x = 0#32)
    {I : ℕ → BitVec 32} {V : ℕ → Elt F .f32} {zz : Elt F .f32} {b : ℕ} {G : Prop} (hb : v16.toNat = b * 51200)
    {y : S6144.Idx → BitVec 32} {yv : S6144.Idx → Elt F .f32} {cs : S512.Idx → BitVec 32} {nf : ℕ → ℕ} {A E : ℕ → ℕ → ℕ}
    (hcs : ∀ s < 32, ∀ j : S512.Idx, (j 0).val = s * 16 → (cs j).toNat = nf s)
    (hS : ∀ o < 16, Source (F := F) I V G b ((0 + o) * 40960) (nf (0 + o)) o y yv (A (0 + o)) (E (0 + o)))
    {x : S51200.Idx → Elt F .f32} (hx : G → Upto I V zz b (0 * 40960) x)
    {α : Type} {kk : Unit → Prog (TpuEff nD τ sig (Elt F) Λ₀ (c1 d i).2) α} {Q : α → sProp (MT nD τ sig (HIx 2) (Elt F) ℕ UU ℕ)} :
    iprop(Hold (F := F) (e := .i32) (c1 d i) arg12 cs ∗ Hold (F := F) (e := .i32) (c1 d i) arg8 y ∗ Hold (F := F) (e := .f32) (c1 d i) arg9 yv ∗ Hold (F := F) (e := .f32) (c1 d i) arg6 x)
      ⊢ iprop((∀ x', ⌜G → Upto I V zz b ((0 + 16) * 40960) x'⌝ -∗ Hold (F := F) (e := .i32) (c1 d i) arg12 cs -∗ Hold (F := F) (e := .i32) (c1 d i) arg8 y -∗ Hold (F := F) (e := .f32) (c1 d i) arg9 yv
          -∗ Hold (F := F) (e := .f32) (c1 d i) arg6 x' -∗ wp frame (wpE (defs₀ (F := F)) 𝒱₀ (c1 d i) none) Set.univ (kk ⟨⟩) Q)
        -∗ wp frame (wpE (defs₀ (F := F)) 𝒱₀ (c1 d i) none) Set.univ
          (Scf.Loop.for k1_t2_loop k1_t2_ok ⟨⟩ (k1_t2_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 v15 v16) >>= kk) Q) := by
  iintro ⟨Hc, Hy, Hv, Hx⟩ Hk
  iapply (Scf.wp_for_bind frame (wpE (defs₀ (F := F)) 𝒱₀ (c1 d i) none) Set.univ _ _ _ k1_t2_ok ⟨⟩ _
    (fun k (_ : Unit) => iprop(∃ x', ⌜G → Upto I V zz b ((0 + k) * 40960) x'⌝ ∗ Hold (F := F) (e := .i32) (c1 d i) arg12 cs
      ∗ Hold (F := F) (e := .i32) (c1 d i) arg8 y ∗ Hold (F := F) (e := .f32) (c1 d i) arg9 yv ∗ Hold (F := F) (e := .f32) (c1 d i) arg6 x')) ?hb) $$ [Hc Hy Hv Hx]
  case hb =>
    intro k acc
    have hk : k.val < 16 := lt_of_lt_of_eq k.isLt trips1_t2
    unfold k1_t2_body
    simp only [Prog.lift, Prog.bind_op, Prog.bind_ret, Prog.pure_eq_ret, bind_assoc]
    iintro ⟨%x', %hx', Hc, Hy, Hv, Hx⟩
    have hchk : k1_chk1 (k1_pay17 v4 k) := by
      intro c xx
      rw [Fin.eq_zero c]
      show (k1_pay17 v4 k xx).toNat < 512
      rw [pay17_1 hv4 k]; omega
    rw [wp_assume_of _ _ _ _ hchk]
    iapply (wp_hold_loadIdx (c := c1 d i) (base := arg12)) $$ Hc
    iintro Hc
    have hall : ∀ xx, (loadIdx (F := F) (e := .i32) cs ![k1_pay17 v4 k] (k1_idx1_inb _ hchk) xx).toNat = nf (0 + k.val) := by
      intro xx
      refine hcs (0 + k.val) (by omega) _ ?_
      refine (pay17_1 hv4 k xx).trans ?_
      omega
    have hSk := hS k.val hk
    have hle := hSk.le
    have hpos := hSk.pos
    generalize loadIdx (F := F) (e := .i32) cs ![k1_pay17 v4 k] (k1_idx1_inb _ hchk) = v290 at hall ⊢
    have htop : extractAt ![15] (k1_pay18 (F := F) v290) inpos_S16_p15 = v290 top16 := by
      rw [top18 v290 _ rfl]
      refine top_same v290 _ (fun _ => rfl) (by rw [hall]; omega) (fun xx => BitVec.eq_of_toNat_eq ?_)
      rw [hall, hall]
    have hn : (extractAt ![15] (k1_pay18 (F := F) v290) inpos_S16_p15).toNat = nf (0 + k.val) := (congrArg BitVec.toNat htop).trans (hall _)
    ihave HH : iprop(Hold (F := F) (e := .i32) (c1 d i) arg8 y ∗ Hold (F := F) (e := .f32) (c1 d i) arg9 yv ∗ Hold (F := F) (e := .f32) (c1 d i) arg6 x') $$ [Hy Hv Hx]
    · isplitl [Hy]; · iexact Hy
      isplitl [Hv]; · iexact Hv
      iexact Hx
    ihave HW := (wp_flushes2 d i arg2 harg2 arg3 harg3 arg4 harg4 arg5 harg5 arg6 harg6 arg7 harg7 arg8 harg8 arg9 harg9 arg10 harg10 arg11 harg11 arg12 harg12 arg13 arg14 arg15 arg16 v286_r0 (v1 := v1) (v15 := v15) (v5 := v5) (v290 := v290) hv2 hv4 hb hSk hx' _ hn) $$ HH
    iapply (wp_wand frame _ _) $$ [HW]
    · iexact HW
    iintro %r ⟨%x'', %hx'', Hy, Hv, Hx⟩
    iexists x''
    isplitr
    · ipureintro
      intro hG
      have h := hx'' hG
      rw [show (0 + (k.val + 1)) * 40960 = (0 + k.val) * 40960 + 40960 by omega]
      exact h
    isplitl [Hc]; · iexact Hc
    isplitl [Hy]; · iexact Hy
    isplitl [Hv]; · iexact Hv
    iexact Hx
  · iexists x
    isplitr; · ipureintro; exact hx
    isplitl [Hc]; · iexact Hc
    isplitl [Hy]; · iexact Hy
    isplitl [Hv]; · iexact Hv
    iexact Hx
  iintro %acc ⟨%x', %hx', Hc, Hy, Hv, Hx⟩
  iapply Hk $$ %x' [] Hc Hy Hv Hx
  ipureintro
  have e : Scf.trips k1_t2_loop.lb k1_t2_loop.ub k1_t2_loop.st = 16 := trips1_t2
  rw [e] at hx'
  exact hx'

theorem pay31_1 {v4 : IVec S16 32} (hv4 : ∀ x, v4 x = 0#32) (t2 : Fin k1_t2_loop.trips) (x : S16.Idx) : (k1_pay31 v4 t2 x).toNat = (16 + t2.val) * 16 := by
  have h2 : t2.val < 16 := lt_of_lt_of_eq t2.isLt trips1_t2
  show (v4 x + (16#32 + Scf.iv 0#32 1#32 t2) * 16#32).toNat = _
  rw [hv4, BitVec.toNat_add, BitVec.toNat_mul, BitVec.toNat_add, iv_toNat _ (by omega)]
  simp; omega

theorem top32 (v s : IVec S16 32) (hs : s = broadcast S16 2147483648#32) :
    extractAt ![15] (k1_pay32 (F := F) v) inpos_S16_p15 = xori (scan .max (xori v s)) s top16 := by subst hs; rfl

/-- A source's slots and the empty rest of their loop, once the number of its flushes is read. -/
theorem wp_flushes9 {v1 v15 v16 : BitVec 32} {v2 v4 : IVec S16 32} {v5 : FVec F S16 .f32} (hv2 : ∀ x, (v2 x).toNat = (x 0).val) (hv4 : ∀ x, v4 x = 0#32)
    {k : Fin k1_t2_loop.trips} {v290 : Vec F S16 .i32} {I : ℕ → BitVec 32} {V : ℕ → Elt F .f32} {zz : Elt F .f32} {b lo n : ℕ} {G : Prop} (hb : v16.toNat = b * 51200)
    {y : S6144.Idx → BitVec 32} {yv : S6144.Idx → Elt F .f32} {A E : ℕ → ℕ} (hSk : Source (F := F) I V G b lo n k.val y yv A E)
    {x' : S51200.Idx → Elt F .f32} (hx' : G → Upto I V zz b lo x') (v296 : BitVec 32) (hn : v296.toNat = n) :
    iprop(Hold (F := F) (e := .i32) (c1 d i) arg10 y ∗ Hold (F := F) (e := .f32) (c1 d i) arg11 yv ∗ Hold (F := F) (e := .f32) (c1 d i) arg6 x')
      ⊢ wp frame (wpE (defs₀ (F := F)) 𝒱₀ (c1 d i) none) Set.univ
        (Prog.op (TpuEff.assume (k1_chk12 v296) (k1_chk12.dec v296)) fun l =>
          Scf.Loop.for (k1_t10_loop v296) (k1_t10_ok v296 l.down) ⟨⟩ (k1_t10_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 v15 v16 k v296 l.down) >>= fun _ =>
          Scf.Loop.for (k1_t13_loop v296) (k1_t13_ok v296 l.down) ⟨⟩ (k1_t13_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 v15 v16 k v290 v296 l.down) >>= fun _ =>
          Prog.ret PUnit.unit)
        fun _ => iprop(∃ x', ⌜G → Upto I V zz b (lo + 40960) x'⌝ ∗ Hold (F := F) (e := .i32) (c1 d i) arg10 y ∗ Hold (F := F) (e := .f32) (c1 d i) arg11 yv
          ∗ Hold (F := F) (e := .f32) (c1 d i) arg6 x') := by
  iintro ⟨Hy, Hv, Hx⟩
  subst hn
  have hle := hSk.le
  have hpos := hSk.pos
  obtain ⟨ht3, ht6, hok3, hok6⟩ := src_loops' (v := v296) hpos hle
  have hchk2 : k1_chk12 v296 := ⟨hok3, hok6⟩
  rw [wp_assume_of _ _ _ _ hchk2]
  ihave HH : iprop(Hold (F := F) (e := .i32) (c1 d i) arg10 y ∗ Hold (F := F) (e := .f32) (c1 d i) arg11 yv ∗ Hold (F := F) (e := .f32) (c1 d i) arg6 x') $$ [Hy Hv Hx]
  · isplitl [Hy]; · iexact Hy
    isplitl [Hv]; · iexact Hv
    iexact Hx
  rw [again10]
  iapply (wp_source d i arg2 harg2 arg3 harg3 arg4 harg4 arg5 harg5 arg6 harg6 arg7 harg7 arg10 harg10 arg11 harg11 arg8 harg8 arg9 harg9 arg12 harg12 arg13 arg14 arg15 arg16 v286_r0 (v1 := v1) (v15 := v15) (v5 := v5) hv2 hv4 (t2 := k) hchk2 hb hSk hx') $$ HH
  iintro %x'' %hx'' Hy Hv Hx
  iapply (Scf.wp_for_bind frame (wpE (defs₀ (F := F)) 𝒱₀ (c1 d i) none) Set.univ _ _ _ (k1_t13_ok v296 hchk2) ⟨⟩ _
    (fun k (_ : Unit) => iprop(Hold (F := F) (e := .i32) (c1 d i) arg10 y ∗ Hold (F := F) (e := .f32) (c1 d i) arg11 yv ∗ Hold (F := F) (e := .f32) (c1 d i) arg6 x'')) ?hb2) $$ [Hy Hv Hx]
  case hb2 =>
    intro k acc
    exact absurd (lt_of_lt_of_eq k.isLt ht6) (Nat.not_lt_zero _)
  · isplitl [Hy]; · iexact Hy
    isplitl [Hv]; · iexact Hv
    iexact Hx
  iintro %acc ⟨Hy, Hv, Hx⟩
  rw [wp_ret]
  imodintro
  iexists x''
  isplitr; · ipureintro; exact hx''
  isplitl [Hy]; · iexact Hy
  isplitl [Hv]; · iexact Hv
  iexact Hx

/-- One half of the sources replayed into the block: what the fetched half must hold is, for each of its sixteen sources, that source's slots. -/
theorem wp_replay9 {v1 v15 v16 : BitVec 32} {v2 v4 : IVec S16 32} {v5 : FVec F S16 .f32} (hv2 : ∀ x, (v2 x).toNat = (x 0).val) (hv4 : ∀ x, v4 x = 0#32)
    {I : ℕ → BitVec 32} {V : ℕ → Elt F .f32} {zz : Elt F .f32} {b : ℕ} {G : Prop} (hb : v16.toNat = b * 51200)
    {y : S6144.Idx → BitVec 32} {yv : S6144.Idx → Elt F .f32} {cs : S512.Idx → BitVec 32} {nf : ℕ → ℕ} {A E : ℕ → ℕ → ℕ}
    (hcs : ∀ s < 32, ∀ j : S512.Idx, (j 0).val = s * 16 → (cs j).toNat = nf s)
    (hS : ∀ o < 16, Source (F := F) I V G b ((16 + o) * 40960) (nf (16 + o)) o y yv (A (16 + o)) (E (16 + o)))
    {x : S51200.Idx → Elt F .f32} (hx : G → Upto I V zz b (16 * 40960) x)
    {α : Type} {kk : Unit → Prog (TpuEff nD τ sig (Elt F) Λ₀ (c1 d i).2) α} {Q : α → sProp (MT nD τ sig (HIx 2) (Elt F) ℕ UU ℕ)} :
    iprop(Hold (F := F) (e := .i32) (c1 d i) arg12 cs ∗ Hold (F := F) (e := .i32) (c1 d i) arg10 y ∗ Hold (F := F) (e := .f32) (c1 d i) arg11 yv ∗ Hold (F := F) (e := .f32) (c1 d i) arg6 x)
      ⊢ iprop((∀ x', ⌜G → Upto I V zz b ((16 + 16) * 40960) x'⌝ -∗ Hold (F := F) (e := .i32) (c1 d i) arg12 cs -∗ Hold (F := F) (e := .i32) (c1 d i) arg10 y -∗ Hold (F := F) (e := .f32) (c1 d i) arg11 yv
          -∗ Hold (F := F) (e := .f32) (c1 d i) arg6 x' -∗ wp frame (wpE (defs₀ (F := F)) 𝒱₀ (c1 d i) none) Set.univ (kk ⟨⟩) Q)
        -∗ wp frame (wpE (defs₀ (F := F)) 𝒱₀ (c1 d i) none) Set.univ
          (Scf.Loop.for k1_t9_loop k1_t9_ok ⟨⟩ (k1_t9_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 v15 v16) >>= kk) Q) := by
  iintro ⟨Hc, Hy, Hv, Hx⟩ Hk
  iapply (Scf.wp_for_bind frame (wpE (defs₀ (F := F)) 𝒱₀ (c1 d i) none) Set.univ _ _ _ k1_t9_ok ⟨⟩ _
    (fun k (_ : Unit) => iprop(∃ x', ⌜G → Upto I V zz b ((16 + k) * 40960) x'⌝ ∗ Hold (F := F) (e := .i32) (c1 d i) arg12 cs
      ∗ Hold (F := F) (e := .i32) (c1 d i) arg10 y ∗ Hold (F := F) (e := .f32) (c1 d i) arg11 yv ∗ Hold (F := F) (e := .f32) (c1 d i) arg6 x')) ?hb) $$ [Hc Hy Hv Hx]
  case hb =>
    intro k acc
    have hk : k.val < 16 := lt_of_lt_of_eq k.isLt trips1_t2
    unfold k1_t9_body
    simp only [Prog.lift, Prog.bind_op, Prog.bind_ret, Prog.pure_eq_ret, bind_assoc]
    iintro ⟨%x', %hx', Hc, Hy, Hv, Hx⟩
    have hchk : k1_chk11 (k1_pay31 v4 k) := by
      intro c xx
      rw [Fin.eq_zero c]
      show (k1_pay31 v4 k xx).toNat < 512
      rw [pay31_1 hv4 k]; omega
    rw [wp_assume_of _ _ _ _ hchk]
    iapply (wp_hold_loadIdx (c := c1 d i) (base := arg12)) $$ Hc
    iintro Hc
    have hall : ∀ xx, (loadIdx (F := F) (e := .i32) cs ![k1_pay31 v4 k] (k1_idx8_inb _ hchk) xx).toNat = nf (16 + k.val) := by
      intro xx
      refine hcs (16 + k.val) (by omega) _ ?_
      refine (pay31_1 hv4 k xx).trans ?_
      omega
    have hSk := hS k.val hk
    have hle := hSk.le
    have hpos := hSk.pos
    generalize loadIdx (F := F) (e := .i32) cs ![k1_pay31 v4 k] (k1_idx8_inb _ hchk) = v290 at hall ⊢
    have htop : extractAt ![15] (k1_pay32 (F := F) v290) inpos_S16_p15 = v290 top16 := by
      rw [top32 v290 _ rfl]
      refine top_same v290 _ (fun _ => rfl) (by rw [hall]; omega) (fun xx => BitVec.eq_of_toNat_eq ?_)
      rw [hall, hall]
    have hn : (extractAt ![15] (k1_pay32 (F := F) v290) inpos_S16_p15).toNat = nf (16 + k.val) := (congrArg BitVec.toNat htop).trans (hall _)
    ihave HH : iprop(Hold (F := F) (e := .i32) (c1 d i) arg10 y ∗ Hold (F := F) (e := .f32) (c1 d i) arg11 yv ∗ Hold (F := F) (e := .f32) (c1 d i) arg6 x') $$ [Hy Hv Hx]
    · isplitl [Hy]; · iexact Hy
      isplitl [Hv]; · iexact Hv
      iexact Hx
    ihave HW := (wp_flushes9 d i arg2 harg2 arg3 harg3 arg4 harg4 arg5 harg5 arg6 harg6 arg7 harg7 arg8 harg8 arg9 harg9 arg10 harg10 arg11 harg11 arg12 harg12 arg13 arg14 arg15 arg16 v286_r0 (v1 := v1) (v15 := v15) (v5 := v5) (v290 := v290) hv2 hv4 hb hSk hx' _ hn) $$ HH
    iapply (wp_wand frame _ _) $$ [HW]
    · iexact HW
    iintro %r ⟨%x'', %hx'', Hy, Hv, Hx⟩
    iexists x''
    isplitr
    · ipureintro
      intro hG
      have h := hx'' hG
      rw [show (16 + (k.val + 1)) * 40960 = (16 + k.val) * 40960 + 40960 by omega]
      exact h
    isplitl [Hc]; · iexact Hc
    isplitl [Hy]; · iexact Hy
    isplitl [Hv]; · iexact Hv
    iexact Hx
  · iexists x
    isplitr; · ipureintro; exact hx
    isplitl [Hc]; · iexact Hc
    isplitl [Hy]; · iexact Hy
    isplitl [Hv]; · iexact Hv
    iexact Hx
  iintro %acc ⟨%x', %hx', Hc, Hy, Hv, Hx⟩
  iapply Hk $$ %x' [] Hc Hy Hv Hx
  ipureintro
  have e : Scf.trips k1_t9_loop.lb k1_t9_loop.ub k1_t9_loop.st = 16 := trips1_t2
  rw [e] at hx'
  exact hx'

/-- The words of a block below `64 * k` cleared. -/
def Blank (zz : Elt F .f32) (k : ℕ) (x : S51200.Idx → Elt F .f32) : Prop := ∀ p : S51200.Idx, (p 0).val < k → x p = zz

theorem Blank.step {zz : Elt F .f32} {k : ℕ} {x x' : S51200.Idx → Elt F .f32} (h : Blank zz k x) {o : Fin 1 → ℕ} (hin : ∀ a, o a + S16.size a ≤ S51200.size a)
    (ho : o 0 = k) {p : S16.Idx → Elt F .f32} (hp : ∀ j, p j = zz)
    (hs : (∀ j, x' ((Rect.unit (s := S51200) o S16.size hin).emb j) = p j) ∧ ∀ b, b ∉ (Rect.unit (s := S51200) o S16.size hin).set → x' b = x b) :
    Blank zz (k + 16) x' := by
  intro b hb
  by_cases hm : b ∈ (Rect.unit (s := S51200) o S16.size hin).set
  · obtain ⟨j, hj⟩ := exists_emb hm
    rw [← hj, hs.1, hp]
  · rw [hs.2 b hm]
    apply h
    by_contra hc
    apply hm
    rw [Rect.mem_set_unit]
    intro a
    rw [Fin.eq_zero a, ho]
    exact ⟨by omega, by show _ < k + 16; omega⟩

theorem off2_1 (k : Fin k1_t1_loop.trips) : k1_off2 k 0 = 64 * k.val := by
  have hk : k.val < 800 := lt_of_lt_of_eq k.isLt trips1_t1
  show (Scalar.muli (Scf.iv 0#32 1#32 k) 64#32).toNat = _
  rw [iv_mul_toNat _ 64 (by omega) (by omega)]; omega

theorem off3_1 (k : Fin k1_t1_loop.trips) (c : BitVec 32) (n : ℕ) (hc : c.toNat = n) (hn : n < 64) : k1_off3 k c 0 = 64 * k.val + n := by
  have hk : k.val < 800 := lt_of_lt_of_eq k.isLt trips1_t1
  show (Scalar.muli (Scf.iv 0#32 1#32 k) 64#32 + c).toNat = _
  rw [BitVec.toNat_add, iv_mul_toNat _ 64 (by omega) (by omega), hc]; omega

abbrev zeroF : Elt F .f32 := Scalar.ofBits (F := F) .f32 0x00000000#32

/-- The block cleared. -/
theorem wp_blank {x : S51200.Idx → Elt F .f32} {α : Type} {kk : Unit → Prog (TpuEff nD τ sig (Elt F) Λ₀ (c1 d i).2) α} {Q : α → sProp (MT nD τ sig (HIx 2) (Elt F) ℕ UU ℕ)} :
    Hold (F := F) (e := .f32) (c1 d i) arg6 x
      ⊢ iprop((∀ x', ⌜∀ p, x' p = zeroF (F := F)⌝ -∗ Hold (F := F) (e := .f32) (c1 d i) arg6 x' -∗ wp frame (wpE (defs₀ (F := F)) 𝒱₀ (c1 d i) none) Set.univ (kk ⟨⟩) Q)
        -∗ wp frame (wpE (defs₀ (F := F)) 𝒱₀ (c1 d i) none) Set.univ (Scf.Loop.for k1_t1_loop k1_t1_ok ⟨⟩ (k1_t1_body (F := F) i arg2 harg2 arg3 harg3 arg4 harg4 arg5 harg5 arg6 harg6 arg7 harg7 arg8 harg8 arg9 harg9 arg10 harg10 arg11 harg11 arg12 harg12 arg13 arg14 arg15 arg16 v286_r0) >>= kk) Q) := by
  iintro Hx Hk
  iapply (Scf.wp_for_bind frame (wpE (defs₀ (F := F)) 𝒱₀ (c1 d i) none) Set.univ _ _ _ k1_t1_ok ⟨⟩ _
    (fun k (_ : Unit) => iprop(∃ x', ⌜Blank (F := F) zeroF (64 * k) x'⌝ ∗ Hold (F := F) (e := .f32) (c1 d i) arg6 x')) ?hb) $$ [Hx]
  case hb =>
    intro k acc
    unfold k1_t1_body
    simp only [Prog.lift, Prog.bind_op, Prog.bind_ret, Prog.pure_eq_ret]
    iintro ⟨%x0, %h0, Hx⟩
    iapply (wp_hold_load (c := c1 d i) (m := arg6)) $$ Hx
    iintro Hx
    iapply (wp_hold_store (c := c1 d i) (m := arg6)) $$ Hx
    iintro %x1 %h1 Hx
    have b1 := h0.step (F := F) _ (off2_1 k) (p := k1_pay16) (fun _ => rfl) h1
    iapply (wp_hold_load (c := c1 d i) (m := arg6)) $$ Hx
    iintro Hx
    iapply (wp_hold_store (c := c1 d i) (m := arg6)) $$ Hx
    iintro %x2 %h2 Hx
    have b2 := b1.step (F := F) _ (off3_1 k 16#32 16 rfl (by omega)) (p := k1_pay16) (fun _ => rfl) h2
    iapply (wp_hold_load (c := c1 d i) (m := arg6)) $$ Hx
    iintro Hx
    iapply (wp_hold_store (c := c1 d i) (m := arg6)) $$ Hx
    iintro %x3 %h3 Hx
    have b3 := b2.step (F := F) _ (off3_1 k 32#32 32 rfl (by omega)) (p := k1_pay16) (fun _ => rfl) h3
    iapply (wp_hold_load (c := c1 d i) (m := arg6)) $$ Hx
    iintro Hx
    iapply (wp_hold_store (c := c1 d i) (m := arg6)) $$ Hx
    iintro %x4 %h4 Hx
    have b4 := b3.step (F := F) _ (off3_1 k 48#32 48 rfl (by omega)) (p := k1_pay16) (fun _ => rfl) h4
    rw [wp_ret]
    imodintro
    iexists x4
    isplitr
    · ipureintro
      rw [show 64 * (k.val + 1) = 64 * k.val + 48 + 16 by omega]; exact b4
    iexact Hx
  · iexists x
    isplitr
    · ipureintro; intro p hp; exact absurd hp (by omega)
    iexact Hx
  iintro %acc ⟨%x', %hx', Hx⟩
  iapply Hk $$ %x' [] Hx
  ipureintro
  have e : Scf.trips k1_t1_loop.lb k1_t1_loop.ub k1_t1_loop.st = 800 := trips1_t1
  rw [e] at hx'
  intro p
  exact hx' p (p 0).isLt

end Asm

end Cert.Proof.SC
-- ==== Proof.Assemble.lean ====
/-
  The assemble kernel on one tile: its copies, and its steps over a bucket's block.
-/
module

public import proofs.«01_k».proof.Proof.Asm

public import proofs.«01_k».proof.Proof.Part

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable [FloatOps F]

section Asm

variable (d : Dev nD) (i : grid1.Coords) (arg2 : Memref sig .scVector .hbm S3145728 .i32) (harg2 : arg2.IsWhole) (arg3 : Memref sig .scVector .hbm S3145728 .f32) (harg3 : arg3.IsWhole) (arg4 : Memref sig .scVector .hbm S512 .i32) (harg4 : arg4.IsWhole) (arg5 : Memref sig .scVector .hbm S13107200 .f32) (harg5 : arg5.IsWhole) (arg6 : Memref sig .scVector .vmem S51200 .f32) (harg6 : arg6.IsWhole) (arg7 : Memref sig .scVector .vmem S51200 .f32) (harg7 : arg7.IsWhole) (arg8 : Memref sig .scVector .vmem S6144 .i32) (harg8 : arg8.IsWhole) (arg9 : Memref sig .scVector .vmem S6144 .f32) (harg9 : arg9.IsWhole) (arg10 : Memref sig .scVector .vmem S6144 .i32) (harg10 : arg10.IsWhole) (arg11 : Memref sig .scVector .vmem S6144 .f32) (harg11 : arg11.IsWhole) (arg12 : Memref sig .scVector .vmem S512 .i32) (harg12 : arg12.IsWhole) (arg13 : DmaSems sig S_) (arg14 : DmaSems sig S_) (arg15 : DmaSems sig S_) (arg16 : DmaSems sig S_) (v286_r0 : DmaSems sig S_)

/-- A tile's number. -/
def wid1 (i : grid1.Coords) : ℕ := (i 1).val * 2 + (i 0).val

theorem wid1_lt (i : grid1.Coords) : wid1 i < 32 := by
  have h0 : (i 0).val < 2 := (i 0).isLt
  have h1 : (i 1).val < 16 := (i 1).isLt
  unfold wid1; omega

theorem off1_at (i : grid1.Coords) (c h : BitVec 32) (j k : ℕ) (hc : c.toNat = j) (hh : h.toNat = k) (hj : j < 8) (hk : k < 12288) :
    k1_off1 i c h 0 = (wid1 i * 8 + j) * 12288 + k := by
  have h0 : (i 0).val < 2 := (i 0).isLt
  have h1 : (i 1).val < 16 := (i 1).isLt
  show (((BitVec.ofNat 32 (i 1).val * 2#32 + BitVec.ofNat 32 (i 0).val) * 8#32 + c) * 12288#32 + h).toNat = _
  unfold wid1
  simp only [BitVec.toNat_mul, BitVec.toNat_add, BitVec.toNat_ofNat, hc, hh]
  omega

theorem off12_at (i : grid1.Coords) (c : BitVec 32) (j : ℕ) (hc : c.toNat = j) (hj : j < 8) :
    k1_off12 i c 0 = (wid1 i * 8 + j) * 51200 := by
  have h0 : (i 0).val < 2 := (i 0).isLt
  have h1 : (i 1).val < 16 := (i 1).isLt
  show (((BitVec.ofNat 32 (i 1).val * 2#32 + BitVec.ofNat 32 (i 0).val) * 8#32 + c) * 51200#32).toNat = _
  unfold wid1
  simp only [BitVec.toNat_mul, BitVec.toNat_add, BitVec.toNat_ofNat, hc]
  omega

theorem base_at {v : BitVec 32} {w : ℕ} (hv : v.toNat = w) (hw : w < 32) (c : BitVec 32) (j : ℕ) (hc : c.toNat = j) (hj : j < 8) :
    (Scalar.muli (Scalar.addi (Scalar.muli v 8#32) c) 51200#32).toNat = (w * 8 + j) * 51200 := by
  show ((v * 8#32 + c) * 51200#32).toNat = _
  simp only [BitVec.toNat_mul, BitVec.toNat_add, BitVec.toNat_ofNat, hc, hv]
  omega

theorem tile_word (i : grid1.Coords) : (Scalar.addi (Scalar.muli (BitVec.ofNat 32 (i 1).val) 2#32) (BitVec.ofNat 32 (i 0).val)).toNat = wid1 i := by
  have h0 : (i 0).val < 2 := (i 0).isLt
  have h1 : (i 1).val < 16 := (i 1).isLt
  show (BitVec.ofNat 32 (i 1).val * 2#32 + BitVec.ofNat 32 (i 0).val).toNat = _
  unfold wid1
  simp only [BitVec.toNat_mul, BitVec.toNat_add, BitVec.toNat_ofNat]
  omega

theorem zero_lane1 (x : S16.Idx) : k1_pay15 x = 0#32 := by
  show _ * 0#32 = 0#32
  exact BitVec.mul_zero

abbrev NR : ℕ := credit S6144 .i32

theorem NR_f32 : credit S6144 .f32 = NR := by decide

theorem NR_pos : 0 < NR := sig.dmaCredit_pos _ _ _ _ _ (by decide)

abbrev NB : ℕ := credit S51200 .f32

theorem NB_pos : 0 < NB := sig.dmaCredit_pos _ _ _ _ _ (by decide)

abbrev NS : ℕ := credit S512 .i32

theorem NS_pos : 0 < NS := sig.dmaCredit_pos _ _ _ _ _ (by decide)

/-- What the first kernel left in the two flat arrays: slot `k` of source `s` in the row of every bucket, with the
    number of its elements in the last column. -/
structure Kept (I : ℕ → BitVec 32) (V : ℕ → Elt F .f32) (G : Prop) (nf : ℕ → ℕ) (A E : ℕ → ℕ → ℕ) (x : S3145728.Idx → BitVec 32) (xv : S3145728.Idx → Elt F .f32) : Prop where
  pos : ∀ s < 32, 1 ≤ nf s
  le : ∀ s < 32, nf s ≤ 3
  ord : ∀ s < 32, ∀ k < nf s, A s k ≤ E s k
  small : ∀ s < 32, ∀ k < nf s, ∀ b < 256, cnt I b (A s k) (E s k) ≤ 126
  num : ∀ s < 32, ∀ k < nf s, ∀ b < 256, ∀ j : S3145728.Idx, (j 0).val = b * 12288 + (s * 3 + k) * 128 + 127 → (x j).toNat = cnt I b (A s k) (E s k)
  els : ∀ s < 32, ∀ k < nf s, ∀ n, A s k ≤ n → n < E s k → ∀ b < 256, bkt (I n) = b → ∀ j : S3145728.Idx,
    (j 0).val = b * 12288 + (s * 3 + k) * 128 + cnt I b (A s k) n → x j = I n ∧ xv j = V n
  chain : G → ∀ s < 32, A s 0 = s * 40960 ∧ (∀ k, k + 1 < nf s → A s (k + 1) = E s k) ∧ E s (nf s - 1) = s * 40960 + 40960

/-- Half a bucket's row holds sixteen sources. -/
theorem Kept.source {I : ℕ → BitVec 32} {V : ℕ → Elt F .f32} {G : Prop} {nf : ℕ → ℕ} {A E : ℕ → ℕ → ℕ} {x : S3145728.Idx → BitVec 32} {xv : S3145728.Idx → Elt F .f32}
    (h : Kept (F := F) I V G nf A E x xv) {b H : ℕ} (hb : b < 256) (hH : H ≤ 16) {y : S6144.Idx → BitVec 32} {yv : S6144.Idx → Elt F .f32}
    (hy : ∀ j : S6144.Idx, ∃ j' : S3145728.Idx, (j' 0).val = b * 12288 + H * 384 + (j 0).val ∧ y j = x j' ∧ yv j = xv j') :
    ∀ o < 16, Source (F := F) I V G b ((H + o) * 40960) (nf (H + o)) o y yv (A (H + o)) (E (H + o)) := by
  intro o ho
  refine ⟨h.pos _ (by omega), h.le _ (by omega), fun k hk => ⟨h.ord _ (by omega) k hk, h.small _ (by omega) k hk b hb, ?_, ?_⟩, fun hG => h.chain hG _ (by omega)⟩
  · intro j hj
    obtain ⟨j', e, e0, -⟩ := hy j
    rw [e0]
    exact h.num _ (by omega) k hk b hb j' (by omega)
  · intro n h1 h2 h3 j hj
    obtain ⟨j', e, e0, e1⟩ := hy j
    rw [e0, e1]
    exact h.els _ (by omega) k hk n h1 h2 b hb h3 j' (by omega)

/-- The words of bucket `b`'s block of the result. -/
def blockWords {c : Thread nD τ} {sp : Space} {e : EltTy} (m : Memref sig c.2.kind sp S13107200 e) (b : ℕ) : Finset (Idx (m.view.loc c)) :=
  (Finset.univ.filter fun j : S13107200.Idx => b * 51200 ≤ (j 0).val ∧ (j 0).val < b * 51200 + 51200).map m.view.emb

section State

variable (I : ℕ → BitVec 32) (V : ℕ → Elt F .f32) (G : Prop)

/-- A ring's two scratches holding half `H / 16` of bucket `b`'s row. -/
def Half (nf : ℕ → ℕ) (A E : ℕ → ℕ → ℕ) {c : Thread nD τ} (m : Memref sig c.2.kind .vmem S6144 .i32) (m' : Memref sig c.2.kind .vmem S6144 .f32) (b H : ℕ) : sProp 𝕄 :=
  iprop(∃ (y : S6144.Idx → BitVec 32) (yv : S6144.Idx → Elt F .f32),
    ⌜∀ o < 16, Source (F := F) I V G b ((H + o) * 40960) (nf (H + o)) o y yv (A (H + o)) (E (H + o))⌝
    ∗ Hold (F := F) (e := .i32) c m y ∗ Hold (F := F) (e := .f32) c m' yv)

/-- A block scratch with the elements below `n` replayed into it. -/
def Fill {c : Thread nD τ} (m : Memref sig c.2.kind .vmem S51200 .f32) (b n : ℕ) : sProp 𝕄 :=
  iprop(∃ x : S51200.Idx → Elt F .f32, ⌜G → Upto I V (zeroF (F := F)) b n x⌝ ∗ Hold (F := F) (e := .f32) c m x)

/-- Bucket `b`'s block of the result, before it is written. -/
def Piece {c : Thread nD τ} {sp : Space} (m : Memref sig c.2.kind sp S13107200 .f32) (b : ℕ) : sProp 𝕄 :=
  iprop(∃ g : Buf (Elt F) (m.view.loc c), m.view.loc c ↦[blockWords (c := c) m b]{fullShare} g)

/-- Bucket `b`'s block of the result, written. -/
def Block {c : Thread nD τ} {sp : Space} (m : Memref sig c.2.kind sp S13107200 .f32) (b : ℕ) : sProp 𝕄 :=
  iprop(∃ g : Buf (Elt F) (m.view.loc c), ⌜G → ∀ p : S13107200.Idx, b * 51200 ≤ (p 0).val → (p 0).val < b * 51200 + 51200
      → m.view.read (Elt F) g p = lastv I V (zeroF (F := F)) (p 0).val 1310720⌝
    ∗ (m.view.loc c ↦[blockWords (c := c) m b]{fullShare} g))

/-- A block scratch on its way into the result. -/
def Leaving {c : Thread nD τ} {sp : Space} (dst : Memref sig c.2.kind sp S13107200 .f32) (sem : DmaSems sig S_) (m : Memref sig c.2.kind .vmem S51200 .f32) (b : ℕ)
    (o : Fin 1 → ℕ) (hin : ∀ a, o a + S51200.size a ≤ S13107200.size a) : sProp 𝕄 :=
  iprop(∃ (x : S51200.Idx → Elt F .f32) (g : Buf (Elt F) (dst.view.loc c)), ⌜G → Upto I V (zeroF (F := F)) b 1310720 x⌝
    ∗ Single c sem.sem NB (Flush m x (dst.slice (Rect.unit (s := S13107200) o S51200.size hin) (fun _ => rfl)) (blockWords (c := c) dst b) g))

end State

/-- The shares of the two arrays one ring reads through, and its semaphore at rest. -/
def Tok (sem : DmaSems sig S_) (q : PosShare TreeShare) (f2 : Buf (Elt F) (arg2.view.loc (c1 d i))) (f3 : Buf (Elt F) (arg3.view.loc (c1 d i))) : sProp 𝕄 :=
  iprop((arg2.view.loc (c1 d i) ↦{q} f2) ∗ (arg3.view.loc (c1 d i) ↦{q} f3) ∗ semVal (c1 d i, .dma sem.sem) 0)

/-- Half a row's two slices on their way into a ring. -/
abbrev Inbound (sem : DmaSems sig S_) (q : PosShare TreeShare) (f2 : Buf (Elt F) (arg2.view.loc (c1 d i))) (f3 : Buf (Elt F) (arg3.view.loc (c1 d i)))
    (m : Memref sig .scVector .vmem S6144 .i32) (m' : Memref sig .scVector .vmem S6144 .f32) (o : Fin 1 → ℕ) (hin : ∀ a, o a + S6144.size a ≤ S3145728.size a) (u : ℕ) : sProp 𝕄 :=
  Fetch2 (F := F) (c1 d i) sem.sem NR (arg2.slice (Rect.unit (s := S3145728) o S6144.size hin) (fun _ => rfl)) q f2 m
    (arg3.slice (Rect.unit (s := S3145728) o S6144.size hin) (fun _ => rfl)) q f3 m' u

section Steps

variable {I : ℕ → BitVec 32} {V : ℕ → Elt F .f32} {G : Prop} {nf : ℕ → ℕ} {A E : ℕ → ℕ → ℕ}
  {q : PosShare TreeShare} {f2 : Buf (Elt F) (arg2.view.loc (c1 d i))} {f3 : Buf (Elt F) (arg3.view.loc (c1 d i))}
  {O : CellTallies nD τ sig (HIx 2)} {W : Waits sig (HIx 2)}

theorem wp_ask1 {sem : DmaSems sig S_} {m : Memref sig .scVector .vmem S6144 .i32} {m' : Memref sig .scVector .vmem S6144 .f32} {o : Fin 1 → ℕ} {hin : ∀ a, o a + S6144.size a ≤ S3145728.size a}
    {h₀ h₀' h₀'' h₁ h₁' h₁''} {α : Type} {kk : PUnit → Prog (TpuEff nD τ sig (Elt F) Λ₀ (c1 d i).2) α}
    {Q : α → sProp (MT nD τ sig (HIx 2) (Elt F) ℕ UU ℕ)} :
    iprop((Any (F := F) (c := c1 d i) m ∗ Any (F := F) (c := c1 d i) m') ∗ Tok d i arg2 arg3 sem q f2 f3)
      ⊢ iprop((Inbound d i arg2 arg3 sem q f2 f3 m m' o hin 0 -∗ wp frame (wpE (defs₀ (F := F)) 𝒱₀ (c1 d i) none) Set.univ (kk ⟨⟩) Q)
        -∗ wp frame (wpE (defs₀ (F := F)) 𝒱₀ (c1 d i) none) Set.univ
          (.op (.enqueueDma (arg2.slice (Rect.unit (s := S3145728) o S6144.size hin) (fun _ => rfl)) (.here m) (.dma sem.sem) h₀ h₀' h₀'') fun _ =>
            .op (.enqueueDma (arg3.slice (Rect.unit (s := S3145728) o S6144.size hin) (fun _ => rfl)) (.here m') (.dma sem.sem) h₁ h₁' h₁'') kk) Q) := by
  unfold Any Tok
  iintro ⟨⟨⟨%x, Hm⟩, ⟨%x', Hm'⟩⟩, H2, H3, Hv⟩ Hk
  iapply (wp_fetch2 (c := c1 d i) (src₀ := arg2.slice (Rect.unit (s := S3145728) o S6144.size hin) (fun _ => rfl)) (f₀ := f2)
    (src₁ := arg3.slice (Rect.unit (s := S3145728) o S6144.size hin) (fun _ => rfl)) (f₁ := f3) NR rfl NR_f32) $$ [H3 H2 Hm Hm' Hv]
  · isplitl [H2]; · iexact H2
    isplitl [Hm]; · iexact Hm
    isplitl [H3]; · iexact H3
    isplitl [Hm']; · iexact Hm'
    iexact Hv
  iintro H
  iapply Hk $$ H

theorem wp_gotA {sem : DmaSems sig S_} {m : Memref sig .scVector .vmem S6144 .i32} {m' : Memref sig .scVector .vmem S6144 .f32} {o o' : Fin 1 → ℕ} {hin : ∀ a, o a + S6144.size a ≤ S3145728.size a}
    {hin' : ∀ a, o' a + S6144.size a ≤ S3145728.size a}
    {h₀ h₀'} {α : Type} {kk : PUnit → Prog (TpuEff nD τ sig (Elt F) Λ₀ (c1 d i).2) α}
    {Q : α → sProp (MT nD τ sig (HIx 2) (Elt F) ℕ UU ℕ)} :
    iprop(Inbound d i arg2 arg3 sem q f2 f3 m m' o hin 0 ∗ Owe (c1 d i) O W)
      ⊢ iprop((Inbound d i arg2 arg3 sem q f2 f3 m m' o hin 1 -∗ Owe (c1 d i) O W -∗ wp frame (wpE (defs₀ (F := F)) 𝒱₀ (c1 d i) none) Set.univ (kk ⟨⟩) Q)
        -∗ wp frame (wpE (defs₀ (F := F)) 𝒱₀ (c1 d i) none) Set.univ
          (.op (.waitDma2 sem.sem (arg2.slice (Rect.unit (s := S3145728) o' S6144.size hin') (fun _ => rfl)) m h₀ h₀') kk) Q) := by
  iintro HH Hk
  iapply (wp_fetch2_first (c := c1 d i) (N := NR) rfl NR_pos) $$ HH
  iintro ⟨HC, HO⟩
  iapply Hk $$ HC HO

theorem wp_gotB {sem : DmaSems sig S_} {m : Memref sig .scVector .vmem S6144 .i32} {m' : Memref sig .scVector .vmem S6144 .f32} {o o' : Fin 1 → ℕ} {hin : ∀ a, o a + S6144.size a ≤ S3145728.size a}
    {hin' : ∀ a, o' a + S6144.size a ≤ S3145728.size a} {b H : ℕ} (ho : o 0 = b * 12288 + H * 384) (hb : b < 256) (hH : H ≤ 16)
    (hK : Kept (F := F) I V G nf A E (arg2.view.read (Elt F) f2) (arg3.view.read (Elt F) f3))
    {h₀ h₀'} {α : Type} {kk : PUnit → Prog (TpuEff nD τ sig (Elt F) Λ₀ (c1 d i).2) α}
    {Q : α → sProp (MT nD τ sig (HIx 2) (Elt F) ℕ UU ℕ)} :
    iprop(Inbound d i arg2 arg3 sem q f2 f3 m m' o hin 1 ∗ Owe (c1 d i) O W)
      ⊢ iprop((Half I V G nf A E (c := c1 d i) m m' b H -∗ Tok d i arg2 arg3 sem q f2 f3 -∗ Owe (c1 d i) O W -∗ wp frame (wpE (defs₀ (F := F)) 𝒱₀ (c1 d i) none) Set.univ (kk ⟨⟩) Q)
        -∗ wp frame (wpE (defs₀ (F := F)) 𝒱₀ (c1 d i) none) Set.univ
          (.op (.waitDma2 sem.sem (arg3.slice (Rect.unit (s := S3145728) o' S6144.size hin') (fun _ => rfl)) m' h₀ h₀') kk) Q) := by
  iintro HH Hk
  iapply (wp_fetch2_second (c := c1 d i) (N := NR) NR_f32 NR_pos) $$ HH
  iintro ⟨H2, Hm, H3, Hm', Hv, HO⟩
  iapply Hk $$ [Hm Hm'] [H2 H3 Hv] HO
  · unfold Half
    iexists _, _
    isplitr
    rotate_left
    · isplitl [Hm]; · iexact Hm
      iexact Hm'
    · ipureintro
      refine hK.source hb hH ?_
      intro j
      exact ⟨(Rect.unit (s := S3145728) o S6144.size hin).emb j, by
        rw [Rect.emb_apply]
        show o 0 + 1 * (j 0).val = _
        omega, rfl, rfl⟩
  · unfold Tok
    isplitl [H2]; · iexact H2
    isplitl [H3]; · iexact H3
    iexact Hv

theorem wp_put {sem : DmaSems sig S_} {m : Memref sig .scVector .vmem S51200 .f32} (hm : m.IsWhole) {o : Fin 1 → ℕ} {hin : ∀ a, o a + S51200.size a ≤ S13107200.size a}
    {b : ℕ} (ho : o 0 = b * 51200)
    {h₀ h₀' h₀''} {α : Type} {kk : PUnit → Prog (TpuEff nD τ sig (Elt F) Λ₀ (c1 d i).2) α}
    {Q : α → sProp (MT nD τ sig (HIx 2) (Elt F) ℕ UU ℕ)} :
    iprop(Fill I V G (c := c1 d i) m b 1310720 ∗ Piece (F := F) (c := c1 d i) arg5 b ∗ semVal (c1 d i, .dma sem.sem) 0)
      ⊢ iprop((Leaving I V G (c := c1 d i) arg5 sem m b o hin -∗ wp frame (wpE (defs₀ (F := F)) 𝒱₀ (c1 d i) none) Set.univ (kk ⟨⟩) Q)
        -∗ wp frame (wpE (defs₀ (F := F)) 𝒱₀ (c1 d i) none) Set.univ
          (.op (.enqueueDma m (.here (arg5.slice (Rect.unit (s := S13107200) o S51200.size hin) (fun _ => rfl))) (.dma sem.sem) h₀ h₀' h₀'') kk) Q) := by
  have hset : (arg5.slice (Rect.unit (s := S13107200) o S51200.size hin) (fun _ => rfl)).view.set = blockWords (c := c1 d i) arg5 b := by
    show (arg5.view.slice _).set = _
    rw [View.set_slice]
    unfold blockWords
    refine congrArg (fun R => R.map arg5.view.emb) (Finset.ext fun j => ?_)
    rw [Rect.mem_set_unit]
    simp only [Finset.mem_filter, Finset.mem_univ, true_and]
    have h2 : (![51200] : Fin 1 → ℕ) 0 = 51200 := rfl
    constructor
    · intro h; have h4 := h 0; rw [ho, h2] at h4; exact h4
    · intro h a; rw [Fin.eq_zero a, ho, h2]; exact h
  unfold Fill Piece
  iintro ⟨⟨%x, %hx, Hm⟩, ⟨%g, Hg⟩, Hv⟩ Hk
  iapply (wp_flush1 (c := c1 d i) hm (dst₀ := arg5.slice (Rect.unit (s := S13107200) o S51200.size hin) (fun _ => rfl)) (R₀ := blockWords (c := c1 d i) arg5 b) (g₀ := g)
    (le_of_eq hset) NB rfl NB_pos) $$ [Hm Hg Hv]
  · isplitl [Hm]; · iexact Hm
    isplitl [Hg]; · iexact Hg
    iexact Hv
  iintro HP
  iapply Hk
  unfold Leaving
  iexists x, g
  isplitr
  · ipureintro; exact hx
  iexact HP

theorem wp_taken {sem : DmaSems sig S_} {m : Memref sig .scVector .vmem S51200 .f32} {o o' : Fin 1 → ℕ} {hin : ∀ a, o a + S51200.size a ≤ S13107200.size a}
    {hin' : ∀ a, o' a + S51200.size a ≤ S13107200.size a} {b : ℕ} (ho : o 0 = b * 51200)
    {h₀ h₀'} {α : Type} {kk : PUnit → Prog (TpuEff nD τ sig (Elt F) Λ₀ (c1 d i).2) α}
    {Q : α → sProp (MT nD τ sig (HIx 2) (Elt F) ℕ UU ℕ)} :
    iprop(Leaving I V G (c := c1 d i) arg5 sem m b o hin ∗ Owe (c1 d i) O W)
      ⊢ iprop((Any (F := F) (c := c1 d i) m -∗ semVal (c1 d i, .dma sem.sem) 0 -∗ Block I V G (c := c1 d i) arg5 b -∗ Owe (c1 d i) O W
          -∗ wp frame (wpE (defs₀ (F := F)) 𝒱₀ (c1 d i) none) Set.univ (kk ⟨⟩) Q)
        -∗ wp frame (wpE (defs₀ (F := F)) 𝒱₀ (c1 d i) none) Set.univ
          (.op (.waitDma2 sem.sem m (arg5.slice (Rect.unit (s := S13107200) o' S51200.size hin') (fun _ => rfl)) h₀ h₀') kk) Q) := by
  unfold Leaving
  iintro ⟨⟨%x, %g, %hx, HP⟩, HO⟩ Hk
  iapply (wp_await1 (c := c1 d i) (N := NB) rfl) $$ [HP HO]
  · isplitl [HP]; · iexact HP
    iexact HO
  unfold Flush
  iintro ⟨⟨Hm, Hg⟩, Hv, HO⟩
  iapply Hk $$ [Hm] Hv [Hg] HO
  · unfold Any; iexists _; iexact Hm
  · unfold Block
    iexists _
    isplitr
    rotate_left
    · iexact Hg
    ipureintro
    intro hG p h1 h2
    have hj : ∃ y, (Rect.unit (s := S13107200) o S51200.size hin).emb y = p := by
      apply exists_emb
      rw [Rect.mem_set_unit]
      intro a
      have h3 : S51200.size 0 = 51200 := rfl
      rw [Fin.eq_zero a, ho]; omega
    obtain ⟨y, rfl⟩ := hj
    rw [View.read_slice_write_emb (v := arg5.view) (Rect.unit (s := S13107200) o S51200.size hin) g x (Finset.mem_univ y)]
    rw [hx hG y]
    congr 1
    rw [Rect.emb_apply]
    show _ = o 0 + 1 * (y 0).val
    omega

end Steps
/-- The count scratch, with every source's count of slots. -/
def Counts {c : Thread nD τ} (m : Memref sig c.2.kind .vmem S512 .i32) (nf : ℕ → ℕ) : sProp 𝕄 :=
  iprop(∃ cs : S512.Idx → BitVec 32, ⌜∀ s < 32, ∀ j : S512.Idx, (j 0).val = s * 16 → (cs j).toNat = nf s⌝ ∗ Hold (F := F) (e := .i32) c m cs)

section Fills

variable {I : ℕ → BitVec 32} {V : ℕ → Elt F .f32} {G : Prop} {nf : ℕ → ℕ} {A E : ℕ → ℕ → ℕ}

/-- The first sixteen sources replayed. -/
theorem wp_fill2 {v1 v15 v16 : BitVec 32} {v2 v4 : IVec S16 32} {v5 : FVec F S16 .f32} {b : ℕ} (hv2 : ∀ x, (v2 x).toNat = (x 0).val) (hv4 : ∀ x, v4 x = 0#32) (hb : v16.toNat = b * 51200)
    {α : Type} {kk : Unit → Prog (TpuEff nD τ sig (Elt F) Λ₀ (c1 d i).2) α} {Q : α → sProp (MT nD τ sig (HIx 2) (Elt F) ℕ UU ℕ)} :
    iprop(Counts (F := F) (c := c1 d i) arg12 nf ∗ Half I V G nf A E (c := c1 d i) arg8 arg9 b 0 ∗ Fill I V G (c := c1 d i) arg6 b 0)
      ⊢ iprop((Counts (F := F) (c := c1 d i) arg12 nf -∗ (Any (F := F) (c := c1 d i) arg8 ∗ Any (F := F) (c := c1 d i) arg9) -∗ Fill I V G (c := c1 d i) arg6 b 655360
          -∗ wp frame (wpE (defs₀ (F := F)) 𝒱₀ (c1 d i) none) Set.univ (kk ⟨⟩) Q)
        -∗ wp frame (wpE (defs₀ (F := F)) 𝒱₀ (c1 d i) none) Set.univ (Scf.Loop.for k1_t2_loop k1_t2_ok ⟨⟩ (k1_t2_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 v15 v16) >>= kk) Q) := by
  unfold Counts Half Fill Any
  iintro ⟨⟨%cs, %hcs, Hc⟩, ⟨%y, %yv, %hS, Hy, Hv⟩, ⟨%x, %hx, Hx⟩⟩ Hk
  iapply (wp_replay2 d i arg2 harg2 arg3 harg3 arg4 harg4 arg5 harg5 arg6 harg6 arg7 harg7 arg8 harg8 arg9 harg9 arg10 harg10 arg11 harg11 arg12 harg12 arg13 arg14 arg15 arg16 v286_r0 (I := I) (V := V) (zz := zeroF) (b := b) (G := G) (nf := nf) (A := A) (E := E) hv2 hv4 hb hcs hS hx) $$ [Hc Hy Hv Hx]
  · isplitl [Hc]; · iexact Hc
    isplitl [Hy]; · iexact Hy
    isplitl [Hv]; · iexact Hv
    iexact Hx
  iintro %x' %hx' Hc Hy Hv Hx
  iapply Hk $$ [Hc] [Hy Hv] [Hx]
  · iexists _
    isplitr
    · ipureintro; exact hcs
    iexact Hc
  · isplitl [Hy]
    · iexists _; iexact Hy
    iexists _; iexact Hv
  · iexists _
    isplitr
    · ipureintro; exact hx'
    iexact Hx

/-- The last sixteen sources replayed. -/
theorem wp_fill9 {v1 v15 v16 : BitVec 32} {v2 v4 : IVec S16 32} {v5 : FVec F S16 .f32} {b : ℕ} (hv2 : ∀ x, (v2 x).toNat = (x 0).val) (hv4 : ∀ x, v4 x = 0#32) (hb : v16.toNat = b * 51200)
    {α : Type} {kk : Unit → Prog (TpuEff nD τ sig (Elt F) Λ₀ (c1 d i).2) α} {Q : α → sProp (MT nD τ sig (HIx 2) (Elt F) ℕ UU ℕ)} :
    iprop(Counts (F := F) (c := c1 d i) arg12 nf ∗ Half I V G nf A E (c := c1 d i) arg10 arg11 b 16 ∗ Fill I V G (c := c1 d i) arg6 b 655360)
      ⊢ iprop((Counts (F := F) (c := c1 d i) arg12 nf -∗ (Any (F := F) (c := c1 d i) arg10 ∗ Any (F := F) (c := c1 d i) arg11) -∗ Fill I V G (c := c1 d i) arg6 b 1310720
          -∗ wp frame (wpE (defs₀ (F := F)) 𝒱₀ (c1 d i) none) Set.univ (kk ⟨⟩) Q)
        -∗ wp frame (wpE (defs₀ (F := F)) 𝒱₀ (c1 d i) none) Set.univ (Scf.Loop.for k1_t9_loop k1_t9_ok ⟨⟩ (k1_t9_body (F := F) i arg2 harg2 arg3 harg3 arg4 harg4 arg5 harg5 arg6 harg6 arg7 harg7 arg8 harg8 arg9 harg9 arg10 harg10 arg11 harg11 arg12 harg12 arg13 arg14 arg15 arg16 v286_r0 v1 v2 v4 v5 v15 v16) >>= kk) Q) := by
  unfold Counts Half Fill Any
  iintro ⟨⟨%cs, %hcs, Hc⟩, ⟨%y, %yv, %hS, Hy, Hv⟩, ⟨%x, %hx, Hx⟩⟩ Hk
  iapply (wp_replay9 d i arg2 harg2 arg3 harg3 arg4 harg4 arg5 harg5 arg6 harg6 arg7 harg7 arg8 harg8 arg9 harg9 arg10 harg10 arg11 harg11 arg12 harg12 arg13 arg14 arg15 arg16 v286_r0 (I := I) (V := V) (zz := zeroF) (b := b) (G := G) (nf := nf) (A := A) (E := E) hv2 hv4 hb hcs hS hx) $$ [Hc Hy Hv Hx]
  · isplitl [Hc]; · iexact Hc
    isplitl [Hy]; · iexact Hy
    isplitl [Hv]; · iexact Hv
    iexact Hx
  iintro %x' %hx' Hc Hy Hv Hx
  iapply Hk $$ [Hc] [Hy Hv] [Hx]
  · iexists _
    isplitr
    · ipureintro; exact hcs
    iexact Hc
  · isplitl [Hy]
    · iexists _; iexact Hy
    iexists _; iexact Hv
  · iexists _
    isplitr
    · ipureintro; exact hx'
    iexact Hx

/-- A block scratch cleared. -/
theorem wp_wipe {b : ℕ}
    {α : Type} {kk : Unit → Prog (TpuEff nD τ sig (Elt F) Λ₀ (c1 d i).2) α} {Q : α → sProp (MT nD τ sig (HIx 2) (Elt F) ℕ UU ℕ)} :
    Any (F := F) (c := c1 d i) arg6
      ⊢ iprop((Fill I V G (c := c1 d i) arg6 b 0
          -∗ wp frame (wpE (defs₀ (F := F)) 𝒱₀ (c1 d i) none) Set.univ (kk ⟨⟩) Q)
        -∗ wp frame (wpE (defs₀ (F := F)) 𝒱₀ (c1 d i) none) Set.univ (Scf.Loop.for k1_t1_loop k1_t1_ok ⟨⟩ (k1_t1_body (F := F) i arg2 harg2 arg3 harg3 arg4 harg4 arg5 harg5 arg6 harg6 arg7 harg7 arg8 harg8 arg9 harg9 arg10 harg10 arg11 harg11 arg12 harg12 arg13 arg14 arg15 arg16 v286_r0) >>= kk) Q) := by
  unfold Any Fill
  iintro ⟨%x, Hx⟩ Hk
  iapply (wp_blank d i arg2 harg2 arg3 harg3 arg4 harg4 arg5 harg5 arg6 harg6 arg7 harg7 arg8 harg8 arg9 harg9 arg10 harg10 arg11 harg11 arg12 harg12 arg13 arg14 arg15 arg16 v286_r0) $$ Hx
  iintro %x' %hx' Hx
  iapply Hk
  iexists _
  isplitr
  · ipureintro; exact fun _ => Upto.start hx'
  iexact Hx

end Fills

end Asm

end Cert.Proof.SC
-- ==== Proof.AsmRun.lean ====
/-
  The assemble kernel on one tile, from its first operation to its last.
-/
module

public import proofs.«01_k».proof.Proof.Assemble

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable [FloatOps F]

section Asm

variable (d : Dev nD) (i : grid1.Coords) (arg2 : Memref sig .scVector .hbm S3145728 .i32) (harg2 : arg2.IsWhole) (arg3 : Memref sig .scVector .hbm S3145728 .f32) (harg3 : arg3.IsWhole) (arg4 : Memref sig .scVector .hbm S512 .i32) (harg4 : arg4.IsWhole) (arg5 : Memref sig .scVector .hbm S13107200 .f32) (harg5 : arg5.IsWhole) (arg6 : Memref sig .scVector .vmem S51200 .f32) (harg6 : arg6.IsWhole) (arg7 : Memref sig .scVector .vmem S51200 .f32) (harg7 : arg7.IsWhole) (arg8 : Memref sig .scVector .vmem S6144 .i32) (harg8 : arg8.IsWhole) (arg9 : Memref sig .scVector .vmem S6144 .f32) (harg9 : arg9.IsWhole) (arg10 : Memref sig .scVector .vmem S6144 .i32) (harg10 : arg10.IsWhole) (arg11 : Memref sig .scVector .vmem S6144 .f32) (harg11 : arg11.IsWhole) (arg12 : Memref sig .scVector .vmem S512 .i32) (harg12 : arg12.IsWhole) (arg13 : DmaSems sig S_) (arg14 : DmaSems sig S_) (arg15 : DmaSems sig S_) (arg16 : DmaSems sig S_) (v286_r0 : DmaSems sig S_)

theorem Any_open {c : Thread nD τ} {sp : Space} {s : Shape} {e : EltTy} {m : Memref sig c.2.kind sp s e} : Any (F := F) (c := c) m ⊢ iprop(∃ x, Hold (F := F) c m x) := by
  unfold Any; exact .rfl

theorem Counts_of {c : Thread nD τ} {m : Memref sig c.2.kind .vmem S512 .i32} {nf : ℕ → ℕ} {cs : S512.Idx → BitVec 32}
    (h : ∀ s < 32, ∀ j : S512.Idx, (j 0).val = s * 16 → (cs j).toNat = nf s) : Hold (F := F) (e := .i32) c m cs ⊢ Counts (F := F) m nf := by
  unfold Counts
  iintro H
  iexists _
  isplitr
  · ipureintro; exact h
  iexact H

section Parts

variable {I : ℕ → BitVec 32} {V : ℕ → Elt F .f32} {G : Prop} {nf : ℕ → ℕ} {A E : ℕ → ℕ → ℕ}
  {q0 q1 q4 : PosShare TreeShare} {f2 : Buf (Elt F) (arg2.view.loc (c1 d i))} {f3 : Buf (Elt F) (arg3.view.loc (c1 d i))} {f4 : Buf (Elt F) (arg4.view.loc (c1 d i))}
  {O : CellTallies nD τ sig (HIx 2)} {W : Waits sig (HIx 2)}

theorem wp1_part1 (hK : Kept (F := F) I V G nf A E (arg2.view.read (Elt F) f2) (arg3.view.read (Elt F) f3))
    (hcs : ∀ s < 32, ∀ j : S512.Idx, (j 0).val = s * 16 → (arg4.view.read (Elt F) f4 j : BitVec 32).toNat = nf s) :
    iprop(Any (F := F) (c := c1 d i) arg12 ∗ (arg4.view.loc (c1 d i) ↦{q4} f4) ∗ semVal (c1 d i, .dma v286_r0.sem) 0
        ∗ (Any (F := F) (c := c1 d i) arg8 ∗ Any (F := F) (c := c1 d i) arg9)
        ∗ Tok d i arg2 arg3 arg13 q0 f2 f3
        ∗ (Any (F := F) (c := c1 d i) arg10 ∗ Any (F := F) (c := c1 d i) arg11)
        ∗ Tok d i arg2 arg3 arg14 q1 f2 f3
        ∗ Any (F := F) (c := c1 d i) arg6
        ∗ semVal (c1 d i, .dma arg15.sem) 0
        ∗ Any (F := F) (c := c1 d i) arg7
        ∗ semVal (c1 d i, .dma arg16.sem) 0
        ∗ Owe (c1 d i) O W
        ∗ Piece (F := F) (c := c1 d i) arg5 (wid1 i * 8 + 0)
        ∗ Piece (F := F) (c := c1 d i) arg5 (wid1 i * 8 + 1)
        ∗ Piece (F := F) (c := c1 d i) arg5 (wid1 i * 8 + 2)
        ∗ Piece (F := F) (c := c1 d i) arg5 (wid1 i * 8 + 3)
        ∗ Piece (F := F) (c := c1 d i) arg5 (wid1 i * 8 + 4)
        ∗ Piece (F := F) (c := c1 d i) arg5 (wid1 i * 8 + 5)
        ∗ Piece (F := F) (c := c1 d i) arg5 (wid1 i * 8 + 6)
        ∗ Piece (F := F) (c := c1 d i) arg5 (wid1 i * 8 + 7))
      ⊢ wp frame (wpE (defs₀ (F := F)) 𝒱₀ (c1 d i) none) Set.univ (k1_part1 (F := F) i arg2 harg2 arg3 harg3 arg4 harg4 arg5 harg5 arg6 harg6 arg7 harg7 arg8 harg8 arg9 harg9 arg10 harg10 arg11 harg11 arg12 harg12 arg13 arg14 arg15 arg16 v286_r0 ) fun r =>
        iprop(∃ (v1 : BitVec 32) (v2 : IVec S16 32) (v15 v16 : BitVec 32), ⌜r = ⟨v1, v2, k1_pay15, k1_pay16, v15, v16⟩ ∧ v1.toNat = wid1 i ∧ (∀ x, (v2 x).toNat = (x 0).val) ∧ v16.toNat = (wid1 i * 8 + 0) * 51200⌝
        ∗ (arg4.view.loc (c1 d i) ↦{q4} f4) ∗ semVal (c1 d i, .dma v286_r0.sem) 0
        ∗ Inbound d i arg2 arg3 arg13 q0 f2 f3 arg8 arg9 (k1_off1 i 0#32 0#32) (k1_off1_inb i 0 0) 1
        ∗ Inbound d i arg2 arg3 arg14 q1 f2 f3 arg10 arg11 (k1_off1 i 0#32 6144#32) (k1_off1_inb i 0 1) 0
        ∗ Fill I V G (c := c1 d i) arg6 (wid1 i * 8 + 0) 0
        ∗ semVal (c1 d i, .dma arg15.sem) 0
        ∗ Any (F := F) (c := c1 d i) arg7
        ∗ semVal (c1 d i, .dma arg16.sem) 0
        ∗ Counts (F := F) (c := c1 d i) arg12 nf
        ∗ Owe (c1 d i) O W
        ∗ Piece (F := F) (c := c1 d i) arg5 (wid1 i * 8 + 0)
        ∗ Piece (F := F) (c := c1 d i) arg5 (wid1 i * 8 + 1)
        ∗ Piece (F := F) (c := c1 d i) arg5 (wid1 i * 8 + 2)
        ∗ Piece (F := F) (c := c1 d i) arg5 (wid1 i * 8 + 3)
        ∗ Piece (F := F) (c := c1 d i) arg5 (wid1 i * 8 + 4)
        ∗ Piece (F := F) (c := c1 d i) arg5 (wid1 i * 8 + 5)
        ∗ Piece (F := F) (c := c1 d i) arg5 (wid1 i * 8 + 6)
        ∗ Piece (F := F) (c := c1 d i) arg5 (wid1 i * 8 + 7)) := by
  rw [k1_part1_eq_skeleton]
  unfold k1_part1_skel
  simp only [Prog.lift, Prog.bind_op, Prog.bind_ret, Prog.pure_eq_ret, bind_assoc]
  iintro ⟨HC, H4, HZ, HR0, HT0, HR1, HT1, HA0, HW0, HA1, HW1, HO, HP0, HP1, HP2, HP3, HP4, HP5, HP6, HP7⟩
  ihave HC := (Any_open (c := c1 d i) (m := arg12)) $$ HC
  icases HC with ⟨%c0, HC⟩
  iapply (wp_fetch1 (c := c1 d i) harg4 (q₀ := q4) (f₀ := f4) NS rfl NS_pos) $$ [H4 HC HZ]
  · isplitl [H4]; · iexact H4
    isplitl [HC]; · iexact HC
    iexact HZ
  iintro HP
  iapply (wp_await1 (c := c1 d i) (N := NS) rfl) $$ [HP HO]
  · isplitl [HP]; · iexact HP
    iexact HO
  unfold Land
  iintro ⟨⟨HC, H4⟩, HZ, HO⟩
  ihave H4 := (Entails.of_eq (show (arg4.view.loc (c1 d i) ↦[arg4.view.set]{q4} f4 : sProp 𝕄) = (arg4.view.loc (c1 d i) ↦{q4} f4) by rw [harg4.set_eq_univ])) $$ H4
  ihave HC := (Counts_of (F := F) (c := c1 d i) (m := arg12) (nf := nf) hcs) $$ HC
  iapply (wp_ask1 d i arg2 arg3 (q := q0) (f2 := f2) (f3 := f3) (hin := k1_off1_inb i 0 0)) $$ [HR0 HT0]
  · isplitl [HR0]; · iexact HR0
    iexact HT0
  iintro HR0
  iapply (wp_wipe d i arg2 harg2 arg3 harg3 arg4 harg4 arg5 harg5 arg6 harg6 arg7 harg7 arg8 harg8 arg9 harg9 arg10 harg10 arg11 harg11 arg12 harg12 arg13 arg14 arg15 arg16 v286_r0 (I := I) (V := V) (G := G) (b := wid1 i * 8 + 0)) $$ [HA0]
  · iexact HA0
  iintro HA0
  iapply (wp_ask1 d i arg2 arg3 (q := q1) (f2 := f2) (f3 := f3) (hin := k1_off1_inb i 0 1)) $$ [HR1 HT1]
  · isplitl [HR1]; · iexact HR1
    iexact HT1
  iintro HR1
  iapply (wp_gotA d i arg2 arg3 (hin := k1_off1_inb i 0 0)) $$ [HR0 HO]
  · isplitl [HR0]; · iexact HR0
    iexact HO
  iintro HR0 HO
  rw [wp_ret]
  imodintro
  iexists _, _, _, _
  isplitr
  · ipureintro; exact ⟨rfl, tile_word i, iota_lane, base_at (tile_word i) (wid1_lt i) 0#32 0 rfl (by decide)⟩
  isplitl [H4]; · iexact H4
  isplitl [HZ]; · iexact HZ
  isplitl [HR0]; · iexact HR0
  isplitl [HR1]; · iexact HR1
  isplitl [HA0]; · iexact HA0
  isplitl [HW0]; · iexact HW0
  isplitl [HA1]; · iexact HA1
  isplitl [HW1]; · iexact HW1
  isplitl [HC]; · iexact HC
  isplitl [HO]; · iexact HO
  isplitl [HP0]; · iexact HP0
  isplitl [HP1]; · iexact HP1
  isplitl [HP2]; · iexact HP2
  isplitl [HP3]; · iexact HP3
  isplitl [HP4]; · iexact HP4
  isplitl [HP5]; · iexact HP5
  isplitl [HP6]; · iexact HP6
  iexact HP7

theorem wp1_part2 (hK : Kept (F := F) I V G nf A E (arg2.view.read (Elt F) f2) (arg3.view.read (Elt F) f3))
    {v1 : BitVec 32} {v2 : IVec S16 32} {v15 v16 : BitVec 32} (hv1 : v1.toNat = wid1 i) (hv2 : ∀ x, (v2 x).toNat = (x 0).val) (hb : v16.toNat = (wid1 i * 8 + 0) * 51200) :
    iprop(Inbound d i arg2 arg3 arg13 q0 f2 f3 arg8 arg9 (k1_off1 i 0#32 0#32) (k1_off1_inb i 0 0) 1
        ∗ Inbound d i arg2 arg3 arg14 q1 f2 f3 arg10 arg11 (k1_off1 i 0#32 6144#32) (k1_off1_inb i 0 1) 0
        ∗ Fill I V G (c := c1 d i) arg6 (wid1 i * 8 + 0) 0
        ∗ semVal (c1 d i, .dma arg15.sem) 0
        ∗ Any (F := F) (c := c1 d i) arg7
        ∗ semVal (c1 d i, .dma arg16.sem) 0
        ∗ Counts (F := F) (c := c1 d i) arg12 nf
        ∗ Owe (c1 d i) O W
        ∗ Piece (F := F) (c := c1 d i) arg5 (wid1 i * 8 + 0)
        ∗ Piece (F := F) (c := c1 d i) arg5 (wid1 i * 8 + 1)
        ∗ Piece (F := F) (c := c1 d i) arg5 (wid1 i * 8 + 2)
        ∗ Piece (F := F) (c := c1 d i) arg5 (wid1 i * 8 + 3)
        ∗ Piece (F := F) (c := c1 d i) arg5 (wid1 i * 8 + 4)
        ∗ Piece (F := F) (c := c1 d i) arg5 (wid1 i * 8 + 5)
        ∗ Piece (F := F) (c := c1 d i) arg5 (wid1 i * 8 + 6)
        ∗ Piece (F := F) (c := c1 d i) arg5 (wid1 i * 8 + 7))
      ⊢ wp frame (wpE (defs₀ (F := F)) 𝒱₀ (c1 d i) none) Set.univ (k1_part2 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v15 v16) fun r =>
        iprop(∃ (v48 v49 : BitVec 32), ⌜r = ⟨v48, v49⟩ ∧ v49.toNat = (wid1 i * 8 + 1) * 51200⌝
        ∗ Inbound d i arg2 arg3 arg13 q0 f2 f3 arg8 arg9 (k1_off1 i 1#32 0#32) (k1_off1_inb i 1 0) 0
        ∗ (Any (F := F) (c := c1 d i) arg10 ∗ Any (F := F) (c := c1 d i) arg11)
        ∗ Tok d i arg2 arg3 arg14 q1 f2 f3
        ∗ Leaving I V G (c := c1 d i) arg5 arg15 arg6 (wid1 i * 8 + 0) (k1_off12 i 0#32) (k1_off12_inb i 0)
        ∗ Fill I V G (c := c1 d i) arg7 (wid1 i * 8 + 1) 0
        ∗ semVal (c1 d i, .dma arg16.sem) 0
        ∗ Counts (F := F) (c := c1 d i) arg12 nf
        ∗ Owe (c1 d i) O W
        ∗ Piece (F := F) (c := c1 d i) arg5 (wid1 i * 8 + 1)
        ∗ Piece (F := F) (c := c1 d i) arg5 (wid1 i * 8 + 2)
        ∗ Piece (F := F) (c := c1 d i) arg5 (wid1 i * 8 + 3)
        ∗ Piece (F := F) (c := c1 d i) arg5 (wid1 i * 8 + 4)
        ∗ Piece (F := F) (c := c1 d i) arg5 (wid1 i * 8 + 5)
        ∗ Piece (F := F) (c := c1 d i) arg5 (wid1 i * 8 + 6)
        ∗ Piece (F := F) (c := c1 d i) arg5 (wid1 i * 8 + 7)) := by
  rw [k1_part2_eq_skeleton]
  unfold k1_part2_skel
  simp only [Prog.lift, Prog.bind_op, Prog.bind_ret, Prog.pure_eq_ret, bind_assoc]
  rw [clear16 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 v16 v15 0#32]
  iintro ⟨HR0, HR1, HA0, HW0, HA1, HW1, HC, HO, HP0, HP1, HP2, HP3, HP4, HP5, HP6, HP7⟩
  iapply (wp_gotB d i arg2 arg3 (hin := k1_off1_inb i 0 0) (b := wid1 i * 8 + 0) (H := 0) ((off1_at i 0#32 0#32 0 0 rfl rfl (by decide) (by decide)).trans (by omega)) (by have := wid1_lt i; omega) (by decide) hK) $$ [HR0 HO]
  · isplitl [HR0]; · iexact HR0
    iexact HO
  iintro HR0 HT0 HO
  iapply (wp_fill2 d i arg2 harg2 arg3 harg3 arg4 harg4 arg5 harg5 arg6 harg6 arg7 harg7 arg8 harg8 arg9 harg9 arg10 harg10 arg11 harg11 arg12 harg12 arg13 arg14 arg15 arg16 v286_r0 (I := I) (V := V) (G := G) (nf := nf) (A := A) (E := E) (b := wid1 i * 8 + 0) hv2 zero_lane1 hb) $$ [HC HR0 HA0]
  · isplitl [HC]; · iexact HC
    isplitl [HR0]; · iexact HR0
    iexact HA0
  iintro HC HR0 HA0
  iapply (wp_ask1 d i arg2 arg3 (q := q0) (f2 := f2) (f3 := f3) (hin := k1_off1_inb i 1 0)) $$ [HR0 HT0]
  · isplitl [HR0]; · iexact HR0
    iexact HT0
  iintro HR0
  iapply (wp_gotA d i arg2 arg3 (hin := k1_off1_inb i 0 1)) $$ [HR1 HO]
  · isplitl [HR1]; · iexact HR1
    iexact HO
  iintro HR1 HO
  iapply (wp_gotB d i arg2 arg3 (hin := k1_off1_inb i 0 1) (b := wid1 i * 8 + 0) (H := 16) ((off1_at i 0#32 6144#32 0 6144 rfl rfl (by decide) (by decide)).trans (by omega)) (by have := wid1_lt i; omega) (by decide) hK) $$ [HR1 HO]
  · isplitl [HR1]; · iexact HR1
    iexact HO
  iintro HR1 HT1 HO
  iapply (wp_fill9 d i arg2 harg2 arg3 harg3 arg4 harg4 arg5 harg5 arg6 harg6 arg7 harg7 arg8 harg8 arg9 harg9 arg10 harg10 arg11 harg11 arg12 harg12 arg13 arg14 arg15 arg16 v286_r0 (I := I) (V := V) (G := G) (nf := nf) (A := A) (E := E) (b := wid1 i * 8 + 0) hv2 zero_lane1 hb) $$ [HC HR1 HA0]
  · isplitl [HC]; · iexact HC
    isplitl [HR1]; · iexact HR1
    iexact HA0
  iintro HC HR1 HA0
  iapply (wp_put d i arg5 (m := arg6) (sem := arg15) harg6 (hin := k1_off12_inb i 0) (b := wid1 i * 8 + 0) (off12_at i 0#32 0 rfl (by decide))) $$ [HA0 HP0 HW0]
  · isplitl [HA0]; · iexact HA0
    isplitl [HP0]; · iexact HP0
    iexact HW0
  iintro HA0
  iapply (wp_wipe d i arg2 harg2 arg3 harg3 arg4 harg4 arg5 harg5 arg7 harg7 arg6 harg6 arg8 harg8 arg9 harg9 arg10 harg10 arg11 harg11 arg12 harg12 arg13 arg14 arg15 arg16 v286_r0 (I := I) (V := V) (G := G) (b := wid1 i * 8 + 1)) $$ [HA1]
  · iexact HA1
  iintro HA1
  rw [wp_ret]
  imodintro
  iexists _, _
  isplitr
  · ipureintro; exact ⟨rfl, (base_at hv1 (wid1_lt i) 1#32 1 rfl (by decide))⟩
  isplitl [HR0]; · iexact HR0
  isplitl [HR1]; · iexact HR1
  isplitl [HT1]; · iexact HT1
  isplitl [HA0]; · iexact HA0
  isplitl [HA1]; · iexact HA1
  isplitl [HW1]; · iexact HW1
  isplitl [HC]; · iexact HC
  isplitl [HO]; · iexact HO
  isplitl [HP1]; · iexact HP1
  isplitl [HP2]; · iexact HP2
  isplitl [HP3]; · iexact HP3
  isplitl [HP4]; · iexact HP4
  isplitl [HP5]; · iexact HP5
  isplitl [HP6]; · iexact HP6
  iexact HP7

theorem wp1_part3 (hK : Kept (F := F) I V G nf A E (arg2.view.read (Elt F) f2) (arg3.view.read (Elt F) f3))
    {v1 : BitVec 32} {v2 : IVec S16 32} {v49 : BitVec 32} (hv1 : v1.toNat = wid1 i) (hv2 : ∀ x, (v2 x).toNat = (x 0).val) (hb : v49.toNat = (wid1 i * 8 + 1) * 51200) :
    iprop(Inbound d i arg2 arg3 arg13 q0 f2 f3 arg8 arg9 (k1_off1 i 1#32 0#32) (k1_off1_inb i 1 0) 0
        ∗ (Any (F := F) (c := c1 d i) arg10 ∗ Any (F := F) (c := c1 d i) arg11)
        ∗ Tok d i arg2 arg3 arg14 q1 f2 f3
        ∗ Leaving I V G (c := c1 d i) arg5 arg15 arg6 (wid1 i * 8 + 0) (k1_off12 i 0#32) (k1_off12_inb i 0)
        ∗ Fill I V G (c := c1 d i) arg7 (wid1 i * 8 + 1) 0
        ∗ semVal (c1 d i, .dma arg16.sem) 0
        ∗ Counts (F := F) (c := c1 d i) arg12 nf
        ∗ Owe (c1 d i) O W
        ∗ Piece (F := F) (c := c1 d i) arg5 (wid1 i * 8 + 1)
        ∗ Piece (F := F) (c := c1 d i) arg5 (wid1 i * 8 + 2)
        ∗ Piece (F := F) (c := c1 d i) arg5 (wid1 i * 8 + 3)
        ∗ Piece (F := F) (c := c1 d i) arg5 (wid1 i * 8 + 4)
        ∗ Piece (F := F) (c := c1 d i) arg5 (wid1 i * 8 + 5)
        ∗ Piece (F := F) (c := c1 d i) arg5 (wid1 i * 8 + 6)
        ∗ Piece (F := F) (c := c1 d i) arg5 (wid1 i * 8 + 7))
      ⊢ wp frame (wpE (defs₀ (F := F)) 𝒱₀ (c1 d i) none) Set.univ (k1_part3 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 v49) fun r =>
        iprop(⌜r = ⟨0#32, 1#32⟩⌝
        ∗ Inbound d i arg2 arg3 arg13 q0 f2 f3 arg8 arg9 (k1_off1 i 2#32 0#32) (k1_off1_inb i 2 0) 0
        ∗ Half I V G nf A E (c := c1 d i) arg10 arg11 (wid1 i * 8 + 1) 16
        ∗ Tok d i arg2 arg3 arg14 q1 f2 f3
        ∗ Leaving I V G (c := c1 d i) arg5 arg15 arg6 (wid1 i * 8 + 0) (k1_off12 i 0#32) (k1_off12_inb i 0)
        ∗ Fill I V G (c := c1 d i) arg7 (wid1 i * 8 + 1) 655360
        ∗ semVal (c1 d i, .dma arg16.sem) 0
        ∗ Counts (F := F) (c := c1 d i) arg12 nf
        ∗ Owe (c1 d i) O W
        ∗ Piece (F := F) (c := c1 d i) arg5 (wid1 i * 8 + 1)
        ∗ Piece (F := F) (c := c1 d i) arg5 (wid1 i * 8 + 2)
        ∗ Piece (F := F) (c := c1 d i) arg5 (wid1 i * 8 + 3)
        ∗ Piece (F := F) (c := c1 d i) arg5 (wid1 i * 8 + 4)
        ∗ Piece (F := F) (c := c1 d i) arg5 (wid1 i * 8 + 5)
        ∗ Piece (F := F) (c := c1 d i) arg5 (wid1 i * 8 + 6)
        ∗ Piece (F := F) (c := c1 d i) arg5 (wid1 i * 8 + 7)) := by
  rw [k1_part3_eq_skeleton]
  unfold k1_part3_skel
  simp only [Prog.lift, Prog.bind_op, Prog.bind_ret, Prog.pure_eq_ret, bind_assoc]
  rw [again17 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v49 0#32 0#32]
  iintro ⟨HR0, HR1, HT1, HA0, HA1, HW1, HC, HO, HP1, HP2, HP3, HP4, HP5, HP6, HP7⟩
  iapply (wp_ask1 d i arg2 arg3 (q := q1) (f2 := f2) (f3 := f3) (hin := k1_off1_inb i 1 1)) $$ [HR1 HT1]
  · isplitl [HR1]; · iexact HR1
    iexact HT1
  iintro HR1
  iapply (wp_gotA d i arg2 arg3 (hin := k1_off1_inb i 1 0)) $$ [HR0 HO]
  · isplitl [HR0]; · iexact HR0
    iexact HO
  iintro HR0 HO
  iapply (wp_gotB d i arg2 arg3 (hin := k1_off1_inb i 1 0) (b := wid1 i * 8 + 1) (H := 0) ((off1_at i 1#32 0#32 1 0 rfl rfl (by decide) (by decide)).trans (by omega)) (by have := wid1_lt i; omega) (by decide) hK) $$ [HR0 HO]
  · isplitl [HR0]; · iexact HR0
    iexact HO
  iintro HR0 HT0 HO
  iapply (wp_fill2 d i arg2 harg2 arg3 harg3 arg4 harg4 arg5 harg5 arg7 harg7 arg6 harg6 arg8 harg8 arg9 harg9 arg10 harg10 arg11 harg11 arg12 harg12 arg13 arg14 arg15 arg16 v286_r0 (I := I) (V := V) (G := G) (nf := nf) (A := A) (E := E) (b := wid1 i * 8 + 1) hv2 zero_lane1 hb) $$ [HC HR0 HA1]
  · isplitl [HC]; · iexact HC
    isplitl [HR0]; · iexact HR0
    iexact HA1
  iintro HC HR0 HA1
  iapply (wp_ask1 d i arg2 arg3 (q := q0) (f2 := f2) (f3 := f3) (hin := k1_off1_inb i 2 0)) $$ [HR0 HT0]
  · isplitl [HR0]; · iexact HR0
    iexact HT0
  iintro HR0
  iapply (wp_gotA d i arg2 arg3 (hin := k1_off1_inb i 1 1)) $$ [HR1 HO]
  · isplitl [HR1]; · iexact HR1
    iexact HO
  iintro HR1 HO
  iapply (wp_gotB d i arg2 arg3 (hin := k1_off1_inb i 1 1) (b := wid1 i * 8 + 1) (H := 16) ((off1_at i 1#32 6144#32 1 6144 rfl rfl (by decide) (by decide)).trans (by omega)) (by have := wid1_lt i; omega) (by decide) hK) $$ [HR1 HO]
  · isplitl [HR1]; · iexact HR1
    iexact HO
  iintro HR1 HT1 HO
  rw [wp_ret]
  imodintro
  isplitr
  · ipureintro; exact rfl
  isplitl [HR0]; · iexact HR0
  isplitl [HR1]; · iexact HR1
  isplitl [HT1]; · iexact HT1
  isplitl [HA0]; · iexact HA0
  isplitl [HA1]; · iexact HA1
  isplitl [HW1]; · iexact HW1
  isplitl [HC]; · iexact HC
  isplitl [HO]; · iexact HO
  isplitl [HP1]; · iexact HP1
  isplitl [HP2]; · iexact HP2
  isplitl [HP3]; · iexact HP3
  isplitl [HP4]; · iexact HP4
  isplitl [HP5]; · iexact HP5
  isplitl [HP6]; · iexact HP6
  iexact HP7

theorem wp1_part4 (hK : Kept (F := F) I V G nf A E (arg2.view.read (Elt F) f2) (arg3.view.read (Elt F) f3))
    {v1 : BitVec 32} {v2 : IVec S16 32} {v48 v49 : BitVec 32} (hv1 : v1.toNat = wid1 i) (hv2 : ∀ x, (v2 x).toNat = (x 0).val) (hb : v49.toNat = (wid1 i * 8 + 1) * 51200) :
    iprop(Inbound d i arg2 arg3 arg13 q0 f2 f3 arg8 arg9 (k1_off1 i 2#32 0#32) (k1_off1_inb i 2 0) 0
        ∗ Half I V G nf A E (c := c1 d i) arg10 arg11 (wid1 i * 8 + 1) 16
        ∗ Tok d i arg2 arg3 arg14 q1 f2 f3
        ∗ Leaving I V G (c := c1 d i) arg5 arg15 arg6 (wid1 i * 8 + 0) (k1_off12 i 0#32) (k1_off12_inb i 0)
        ∗ Fill I V G (c := c1 d i) arg7 (wid1 i * 8 + 1) 655360
        ∗ semVal (c1 d i, .dma arg16.sem) 0
        ∗ Counts (F := F) (c := c1 d i) arg12 nf
        ∗ Owe (c1 d i) O W
        ∗ Piece (F := F) (c := c1 d i) arg5 (wid1 i * 8 + 1)
        ∗ Piece (F := F) (c := c1 d i) arg5 (wid1 i * 8 + 2)
        ∗ Piece (F := F) (c := c1 d i) arg5 (wid1 i * 8 + 3)
        ∗ Piece (F := F) (c := c1 d i) arg5 (wid1 i * 8 + 4)
        ∗ Piece (F := F) (c := c1 d i) arg5 (wid1 i * 8 + 5)
        ∗ Piece (F := F) (c := c1 d i) arg5 (wid1 i * 8 + 6)
        ∗ Piece (F := F) (c := c1 d i) arg5 (wid1 i * 8 + 7))
      ⊢ wp frame (wpE (defs₀ (F := F)) 𝒱₀ (c1 d i) none) Set.univ (k1_part4 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v48 v49 0#32 1#32) fun r =>
        iprop(∃ (v81 v82 v101 : BitVec 32), ⌜r = ⟨v81, v82, v101⟩ ∧ v82.toNat = (wid1 i * 8 + 2) * 51200⌝
        ∗ (Any (F := F) (c := c1 d i) arg8 ∗ Any (F := F) (c := c1 d i) arg9)
        ∗ Tok d i arg2 arg3 arg13 q0 f2 f3
        ∗ Inbound d i arg2 arg3 arg14 q1 f2 f3 arg10 arg11 (k1_off1 i 2#32 6144#32) (k1_off1_inb i 2 1) 0
        ∗ Fill I V G (c := c1 d i) arg6 (wid1 i * 8 + 2) 655360
        ∗ semVal (c1 d i, .dma arg15.sem) 0
        ∗ Leaving I V G (c := c1 d i) arg5 arg16 arg7 (wid1 i * 8 + 1) (k1_off12 i 1#32) (k1_off12_inb i 1)
        ∗ Counts (F := F) (c := c1 d i) arg12 nf
        ∗ Owe (c1 d i) O W
        ∗ Block I V G (c := c1 d i) arg5 (wid1 i * 8 + 0)
        ∗ Piece (F := F) (c := c1 d i) arg5 (wid1 i * 8 + 2)
        ∗ Piece (F := F) (c := c1 d i) arg5 (wid1 i * 8 + 3)
        ∗ Piece (F := F) (c := c1 d i) arg5 (wid1 i * 8 + 4)
        ∗ Piece (F := F) (c := c1 d i) arg5 (wid1 i * 8 + 5)
        ∗ Piece (F := F) (c := c1 d i) arg5 (wid1 i * 8 + 6)
        ∗ Piece (F := F) (c := c1 d i) arg5 (wid1 i * 8 + 7)) := by
  rw [k1_part4_eq_skeleton]
  unfold k1_part4_skel
  simp only [Prog.lift, Prog.bind_op, Prog.bind_ret, Prog.pure_eq_ret, bind_assoc]
  rw [again24 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v49 v48 0#32, clear31 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 v49 v48 0#32, again32 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v49 v48 v49]
  iintro ⟨HR0, HR1, HT1, HA0, HA1, HW1, HC, HO, HP1, HP2, HP3, HP4, HP5, HP6, HP7⟩
  iapply (wp_fill9 d i arg2 harg2 arg3 harg3 arg4 harg4 arg5 harg5 arg7 harg7 arg6 harg6 arg8 harg8 arg9 harg9 arg10 harg10 arg11 harg11 arg12 harg12 arg13 arg14 arg15 arg16 v286_r0 (I := I) (V := V) (G := G) (nf := nf) (A := A) (E := E) (b := wid1 i * 8 + 1) hv2 zero_lane1 hb) $$ [HC HR1 HA1]
  · isplitl [HC]; · iexact HC
    isplitl [HR1]; · iexact HR1
    iexact HA1
  iintro HC HR1 HA1
  iapply (wp_put d i arg5 (m := arg7) (sem := arg16) harg7 (hin := k1_off12_inb i 1) (b := wid1 i * 8 + 1) (off12_at i 1#32 1 rfl (by decide))) $$ [HA1 HP1 HW1]
  · isplitl [HA1]; · iexact HA1
    isplitl [HP1]; · iexact HP1
    iexact HW1
  iintro HA1
  iapply (wp_taken d i arg5 (m := arg6) (sem := arg15) (hin := k1_off12_inb i 0) (b := wid1 i * 8 + 0) (off12_at i 0#32 0 rfl (by decide))) $$ [HA0 HO]
  · isplitl [HA0]; · iexact HA0
    iexact HO
  iintro HA0 HW0 HP0 HO
  iapply (wp_wipe d i arg2 harg2 arg3 harg3 arg4 harg4 arg5 harg5 arg6 harg6 arg7 harg7 arg8 harg8 arg9 harg9 arg10 harg10 arg11 harg11 arg12 harg12 arg13 arg14 arg15 arg16 v286_r0 (I := I) (V := V) (G := G) (b := wid1 i * 8 + 2)) $$ [HA0]
  · iexact HA0
  iintro HA0
  iapply (wp_ask1 d i arg2 arg3 (q := q1) (f2 := f2) (f3 := f3) (hin := k1_off1_inb i 2 1)) $$ [HR1 HT1]
  · isplitl [HR1]; · iexact HR1
    iexact HT1
  iintro HR1
  iapply (wp_gotA d i arg2 arg3 (hin := k1_off1_inb i 2 0)) $$ [HR0 HO]
  · isplitl [HR0]; · iexact HR0
    iexact HO
  iintro HR0 HO
  iapply (wp_gotB d i arg2 arg3 (hin := k1_off1_inb i 2 0) (b := wid1 i * 8 + 2) (H := 0) ((off1_at i 2#32 0#32 2 0 rfl rfl (by decide) (by decide)).trans (by omega)) (by have := wid1_lt i; omega) (by decide) hK) $$ [HR0 HO]
  · isplitl [HR0]; · iexact HR0
    iexact HO
  iintro HR0 HT0 HO
  iapply (wp_fill2 d i arg2 harg2 arg3 harg3 arg4 harg4 arg5 harg5 arg6 harg6 arg7 harg7 arg8 harg8 arg9 harg9 arg10 harg10 arg11 harg11 arg12 harg12 arg13 arg14 arg15 arg16 v286_r0 (I := I) (V := V) (G := G) (nf := nf) (A := A) (E := E) (b := wid1 i * 8 + 2) hv2 zero_lane1 (base_at hv1 (wid1_lt i) 2#32 2 rfl (by decide))) $$ [HC HR0 HA0]
  · isplitl [HC]; · iexact HC
    isplitl [HR0]; · iexact HR0
    iexact HA0
  iintro HC HR0 HA0
  rw [wp_ret]
  imodintro
  iexists _, _, _
  isplitr
  · ipureintro; exact ⟨rfl, (base_at hv1 (wid1_lt i) 2#32 2 rfl (by decide))⟩
  isplitl [HR0]; · iexact HR0
  isplitl [HT0]; · iexact HT0
  isplitl [HR1]; · iexact HR1
  isplitl [HA0]; · iexact HA0
  isplitl [HW0]; · iexact HW0
  isplitl [HA1]; · iexact HA1
  isplitl [HC]; · iexact HC
  isplitl [HO]; · iexact HO
  isplitl [HP0]; · iexact HP0
  isplitl [HP2]; · iexact HP2
  isplitl [HP3]; · iexact HP3
  isplitl [HP4]; · iexact HP4
  isplitl [HP5]; · iexact HP5
  isplitl [HP6]; · iexact HP6
  iexact HP7

theorem wp1_part5 (hK : Kept (F := F) I V G nf A E (arg2.view.read (Elt F) f2) (arg3.view.read (Elt F) f3))
    {v1 : BitVec 32} {v2 : IVec S16 32} {v81 v82 v101 : BitVec 32} (hv1 : v1.toNat = wid1 i) (hv2 : ∀ x, (v2 x).toNat = (x 0).val) (hb : v82.toNat = (wid1 i * 8 + 2) * 51200) :
    iprop((Any (F := F) (c := c1 d i) arg8 ∗ Any (F := F) (c := c1 d i) arg9)
        ∗ Tok d i arg2 arg3 arg13 q0 f2 f3
        ∗ Inbound d i arg2 arg3 arg14 q1 f2 f3 arg10 arg11 (k1_off1 i 2#32 6144#32) (k1_off1_inb i 2 1) 0
        ∗ Fill I V G (c := c1 d i) arg6 (wid1 i * 8 + 2) 655360
        ∗ semVal (c1 d i, .dma arg15.sem) 0
        ∗ Leaving I V G (c := c1 d i) arg5 arg16 arg7 (wid1 i * 8 + 1) (k1_off12 i 1#32) (k1_off12_inb i 1)
        ∗ Counts (F := F) (c := c1 d i) arg12 nf
        ∗ Owe (c1 d i) O W
        ∗ Block I V G (c := c1 d i) arg5 (wid1 i * 8 + 0)
        ∗ Piece (F := F) (c := c1 d i) arg5 (wid1 i * 8 + 2)
        ∗ Piece (F := F) (c := c1 d i) arg5 (wid1 i * 8 + 3)
        ∗ Piece (F := F) (c := c1 d i) arg5 (wid1 i * 8 + 4)
        ∗ Piece (F := F) (c := c1 d i) arg5 (wid1 i * 8 + 5)
        ∗ Piece (F := F) (c := c1 d i) arg5 (wid1 i * 8 + 6)
        ∗ Piece (F := F) (c := c1 d i) arg5 (wid1 i * 8 + 7))
      ⊢ wp frame (wpE (defs₀ (F := F)) 𝒱₀ (c1 d i) none) Set.univ (k1_part5 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v81 v82 v101) fun r =>
        iprop(∃ (v116 v117 : BitVec 32), ⌜r = ⟨v116, v117⟩ ∧ v117.toNat = (wid1 i * 8 + 3) * 51200⌝
        ∗ Inbound d i arg2 arg3 arg13 q0 f2 f3 arg8 arg9 (k1_off1 i 3#32 0#32) (k1_off1_inb i 3 0) 0
        ∗ Inbound d i arg2 arg3 arg14 q1 f2 f3 arg10 arg11 (k1_off1 i 3#32 6144#32) (k1_off1_inb i 3 1) 0
        ∗ Leaving I V G (c := c1 d i) arg5 arg15 arg6 (wid1 i * 8 + 2) (k1_off12 i 2#32) (k1_off12_inb i 2)
        ∗ Fill I V G (c := c1 d i) arg7 (wid1 i * 8 + 3) 0
        ∗ semVal (c1 d i, .dma arg16.sem) 0
        ∗ Counts (F := F) (c := c1 d i) arg12 nf
        ∗ Owe (c1 d i) O W
        ∗ Block I V G (c := c1 d i) arg5 (wid1 i * 8 + 0)
        ∗ Block I V G (c := c1 d i) arg5 (wid1 i * 8 + 1)
        ∗ Piece (F := F) (c := c1 d i) arg5 (wid1 i * 8 + 3)
        ∗ Piece (F := F) (c := c1 d i) arg5 (wid1 i * 8 + 4)
        ∗ Piece (F := F) (c := c1 d i) arg5 (wid1 i * 8 + 5)
        ∗ Piece (F := F) (c := c1 d i) arg5 (wid1 i * 8 + 6)
        ∗ Piece (F := F) (c := c1 d i) arg5 (wid1 i * 8 + 7)) := by
  rw [k1_part5_eq_skeleton]
  unfold k1_part5_skel
  simp only [Prog.lift, Prog.bind_op, Prog.bind_ret, Prog.pure_eq_ret, bind_assoc]
  rw [again39 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v82 v81 v101, clear46 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 v82 v81 v101]
  iintro ⟨HR0, HT0, HR1, HA0, HW0, HA1, HC, HO, HP0, HP2, HP3, HP4, HP5, HP6, HP7⟩
  iapply (wp_ask1 d i arg2 arg3 (q := q0) (f2 := f2) (f3 := f3) (hin := k1_off1_inb i 3 0)) $$ [HR0 HT0]
  · isplitl [HR0]; · iexact HR0
    iexact HT0
  iintro HR0
  iapply (wp_gotA d i arg2 arg3 (hin := k1_off1_inb i 2 1)) $$ [HR1 HO]
  · isplitl [HR1]; · iexact HR1
    iexact HO
  iintro HR1 HO
  iapply (wp_gotB d i arg2 arg3 (hin := k1_off1_inb i 2 1) (b := wid1 i * 8 + 2) (H := 16) ((off1_at i 2#32 6144#32 2 6144 rfl rfl (by decide) (by decide)).trans (by omega)) (by have := wid1_lt i; omega) (by decide) hK) $$ [HR1 HO]
  · isplitl [HR1]; · iexact HR1
    iexact HO
  iintro HR1 HT1 HO
  iapply (wp_fill9 d i arg2 harg2 arg3 harg3 arg4 harg4 arg5 harg5 arg6 harg6 arg7 harg7 arg8 harg8 arg9 harg9 arg10 harg10 arg11 harg11 arg12 harg12 arg13 arg14 arg15 arg16 v286_r0 (I := I) (V := V) (G := G) (nf := nf) (A := A) (E := E) (b := wid1 i * 8 + 2) hv2 zero_lane1 hb) $$ [HC HR1 HA0]
  · isplitl [HC]; · iexact HC
    isplitl [HR1]; · iexact HR1
    iexact HA0
  iintro HC HR1 HA0
  iapply (wp_put d i arg5 (m := arg6) (sem := arg15) harg6 (hin := k1_off12_inb i 2) (b := wid1 i * 8 + 2) (off12_at i 2#32 2 rfl (by decide))) $$ [HA0 HP2 HW0]
  · isplitl [HA0]; · iexact HA0
    isplitl [HP2]; · iexact HP2
    iexact HW0
  iintro HA0
  iapply (wp_taken d i arg5 (m := arg7) (sem := arg16) (hin := k1_off12_inb i 1) (b := wid1 i * 8 + 1) (off12_at i 1#32 1 rfl (by decide))) $$ [HA1 HO]
  · isplitl [HA1]; · iexact HA1
    iexact HO
  iintro HA1 HW1 HP1 HO
  iapply (wp_wipe d i arg2 harg2 arg3 harg3 arg4 harg4 arg5 harg5 arg7 harg7 arg6 harg6 arg8 harg8 arg9 harg9 arg10 harg10 arg11 harg11 arg12 harg12 arg13 arg14 arg15 arg16 v286_r0 (I := I) (V := V) (G := G) (b := wid1 i * 8 + 3)) $$ [HA1]
  · iexact HA1
  iintro HA1
  iapply (wp_ask1 d i arg2 arg3 (q := q1) (f2 := f2) (f3 := f3) (hin := k1_off1_inb i 3 1)) $$ [HR1 HT1]
  · isplitl [HR1]; · iexact HR1
    iexact HT1
  iintro HR1
  rw [wp_ret]
  imodintro
  iexists _, _
  isplitr
  · ipureintro; exact ⟨rfl, (base_at hv1 (wid1_lt i) 3#32 3 rfl (by decide))⟩
  isplitl [HR0]; · iexact HR0
  isplitl [HR1]; · iexact HR1
  isplitl [HA0]; · iexact HA0
  isplitl [HA1]; · iexact HA1
  isplitl [HW1]; · iexact HW1
  isplitl [HC]; · iexact HC
  isplitl [HO]; · iexact HO
  isplitl [HP0]; · iexact HP0
  isplitl [HP1]; · iexact HP1
  isplitl [HP3]; · iexact HP3
  isplitl [HP4]; · iexact HP4
  isplitl [HP5]; · iexact HP5
  isplitl [HP6]; · iexact HP6
  iexact HP7

theorem wp1_part6 (hK : Kept (F := F) I V G nf A E (arg2.view.read (Elt F) f2) (arg3.view.read (Elt F) f3))
    {v1 : BitVec 32} {v2 : IVec S16 32} {v116 v117 : BitVec 32} (hv1 : v1.toNat = wid1 i) (hv2 : ∀ x, (v2 x).toNat = (x 0).val) (hb : v117.toNat = (wid1 i * 8 + 3) * 51200) :
    iprop(Inbound d i arg2 arg3 arg13 q0 f2 f3 arg8 arg9 (k1_off1 i 3#32 0#32) (k1_off1_inb i 3 0) 0
        ∗ Inbound d i arg2 arg3 arg14 q1 f2 f3 arg10 arg11 (k1_off1 i 3#32 6144#32) (k1_off1_inb i 3 1) 0
        ∗ Leaving I V G (c := c1 d i) arg5 arg15 arg6 (wid1 i * 8 + 2) (k1_off12 i 2#32) (k1_off12_inb i 2)
        ∗ Fill I V G (c := c1 d i) arg7 (wid1 i * 8 + 3) 0
        ∗ semVal (c1 d i, .dma arg16.sem) 0
        ∗ Counts (F := F) (c := c1 d i) arg12 nf
        ∗ Owe (c1 d i) O W
        ∗ Block I V G (c := c1 d i) arg5 (wid1 i * 8 + 0)
        ∗ Block I V G (c := c1 d i) arg5 (wid1 i * 8 + 1)
        ∗ Piece (F := F) (c := c1 d i) arg5 (wid1 i * 8 + 3)
        ∗ Piece (F := F) (c := c1 d i) arg5 (wid1 i * 8 + 4)
        ∗ Piece (F := F) (c := c1 d i) arg5 (wid1 i * 8 + 5)
        ∗ Piece (F := F) (c := c1 d i) arg5 (wid1 i * 8 + 6)
        ∗ Piece (F := F) (c := c1 d i) arg5 (wid1 i * 8 + 7))
      ⊢ wp frame (wpE (defs₀ (F := F)) 𝒱₀ (c1 d i) none) Set.univ (k1_part6 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 v116 v117) fun r =>
        iprop(∃ (v151 v152 : BitVec 32), ⌜r = ⟨v151, v152⟩ ∧ v152.toNat = (wid1 i * 8 + 4) * 51200⌝
        ∗ Inbound d i arg2 arg3 arg13 q0 f2 f3 arg8 arg9 (k1_off1 i 4#32 0#32) (k1_off1_inb i 4 0) 0
        ∗ (Any (F := F) (c := c1 d i) arg10 ∗ Any (F := F) (c := c1 d i) arg11)
        ∗ Tok d i arg2 arg3 arg14 q1 f2 f3
        ∗ Leaving I V G (c := c1 d i) arg5 arg15 arg6 (wid1 i * 8 + 2) (k1_off12 i 2#32) (k1_off12_inb i 2)
        ∗ Leaving I V G (c := c1 d i) arg5 arg16 arg7 (wid1 i * 8 + 3) (k1_off12 i 3#32) (k1_off12_inb i 3)
        ∗ Counts (F := F) (c := c1 d i) arg12 nf
        ∗ Owe (c1 d i) O W
        ∗ Block I V G (c := c1 d i) arg5 (wid1 i * 8 + 0)
        ∗ Block I V G (c := c1 d i) arg5 (wid1 i * 8 + 1)
        ∗ Piece (F := F) (c := c1 d i) arg5 (wid1 i * 8 + 4)
        ∗ Piece (F := F) (c := c1 d i) arg5 (wid1 i * 8 + 5)
        ∗ Piece (F := F) (c := c1 d i) arg5 (wid1 i * 8 + 6)
        ∗ Piece (F := F) (c := c1 d i) arg5 (wid1 i * 8 + 7)) := by
  rw [k1_part6_eq_skeleton]
  unfold k1_part6_skel
  simp only [Prog.lift, Prog.bind_op, Prog.bind_ret, Prog.pure_eq_ret, bind_assoc]
  rw [again47 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v117 v116 0#32, again54 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v117 v116 0#32]
  iintro ⟨HR0, HR1, HA0, HA1, HW1, HC, HO, HP0, HP1, HP3, HP4, HP5, HP6, HP7⟩
  iapply (wp_gotA d i arg2 arg3 (hin := k1_off1_inb i 3 0)) $$ [HR0 HO]
  · isplitl [HR0]; · iexact HR0
    iexact HO
  iintro HR0 HO
  iapply (wp_gotB d i arg2 arg3 (hin := k1_off1_inb i 3 0) (b := wid1 i * 8 + 3) (H := 0) ((off1_at i 3#32 0#32 3 0 rfl rfl (by decide) (by decide)).trans (by omega)) (by have := wid1_lt i; omega) (by decide) hK) $$ [HR0 HO]
  · isplitl [HR0]; · iexact HR0
    iexact HO
  iintro HR0 HT0 HO
  iapply (wp_fill2 d i arg2 harg2 arg3 harg3 arg4 harg4 arg5 harg5 arg7 harg7 arg6 harg6 arg8 harg8 arg9 harg9 arg10 harg10 arg11 harg11 arg12 harg12 arg13 arg14 arg15 arg16 v286_r0 (I := I) (V := V) (G := G) (nf := nf) (A := A) (E := E) (b := wid1 i * 8 + 3) hv2 zero_lane1 hb) $$ [HC HR0 HA1]
  · isplitl [HC]; · iexact HC
    isplitl [HR0]; · iexact HR0
    iexact HA1
  iintro HC HR0 HA1
  iapply (wp_ask1 d i arg2 arg3 (q := q0) (f2 := f2) (f3 := f3) (hin := k1_off1_inb i 4 0)) $$ [HR0 HT0]
  · isplitl [HR0]; · iexact HR0
    iexact HT0
  iintro HR0
  iapply (wp_gotA d i arg2 arg3 (hin := k1_off1_inb i 3 1)) $$ [HR1 HO]
  · isplitl [HR1]; · iexact HR1
    iexact HO
  iintro HR1 HO
  iapply (wp_gotB d i arg2 arg3 (hin := k1_off1_inb i 3 1) (b := wid1 i * 8 + 3) (H := 16) ((off1_at i 3#32 6144#32 3 6144 rfl rfl (by decide) (by decide)).trans (by omega)) (by have := wid1_lt i; omega) (by decide) hK) $$ [HR1 HO]
  · isplitl [HR1]; · iexact HR1
    iexact HO
  iintro HR1 HT1 HO
  iapply (wp_fill9 d i arg2 harg2 arg3 harg3 arg4 harg4 arg5 harg5 arg7 harg7 arg6 harg6 arg8 harg8 arg9 harg9 arg10 harg10 arg11 harg11 arg12 harg12 arg13 arg14 arg15 arg16 v286_r0 (I := I) (V := V) (G := G) (nf := nf) (A := A) (E := E) (b := wid1 i * 8 + 3) hv2 zero_lane1 hb) $$ [HC HR1 HA1]
  · isplitl [HC]; · iexact HC
    isplitl [HR1]; · iexact HR1
    iexact HA1
  iintro HC HR1 HA1
  iapply (wp_put d i arg5 (m := arg7) (sem := arg16) harg7 (hin := k1_off12_inb i 3) (b := wid1 i * 8 + 3) (off12_at i 3#32 3 rfl (by decide))) $$ [HA1 HP3 HW1]
  · isplitl [HA1]; · iexact HA1
    isplitl [HP3]; · iexact HP3
    iexact HW1
  iintro HA1
  rw [wp_ret]
  imodintro
  iexists _, _
  isplitr
  · ipureintro; exact ⟨rfl, (base_at hv1 (wid1_lt i) 4#32 4 rfl (by decide))⟩
  isplitl [HR0]; · iexact HR0
  isplitl [HR1]; · iexact HR1
  isplitl [HT1]; · iexact HT1
  isplitl [HA0]; · iexact HA0
  isplitl [HA1]; · iexact HA1
  isplitl [HC]; · iexact HC
  isplitl [HO]; · iexact HO
  isplitl [HP0]; · iexact HP0
  isplitl [HP1]; · iexact HP1
  isplitl [HP4]; · iexact HP4
  isplitl [HP5]; · iexact HP5
  isplitl [HP6]; · iexact HP6
  iexact HP7

theorem wp1_part7 (hK : Kept (F := F) I V G nf A E (arg2.view.read (Elt F) f2) (arg3.view.read (Elt F) f3))
    {v1 : BitVec 32} {v2 : IVec S16 32} {v152 : BitVec 32} (hv1 : v1.toNat = wid1 i) (hv2 : ∀ x, (v2 x).toNat = (x 0).val) (hb : v152.toNat = (wid1 i * 8 + 4) * 51200) :
    iprop(Inbound d i arg2 arg3 arg13 q0 f2 f3 arg8 arg9 (k1_off1 i 4#32 0#32) (k1_off1_inb i 4 0) 0
        ∗ (Any (F := F) (c := c1 d i) arg10 ∗ Any (F := F) (c := c1 d i) arg11)
        ∗ Tok d i arg2 arg3 arg14 q1 f2 f3
        ∗ Leaving I V G (c := c1 d i) arg5 arg15 arg6 (wid1 i * 8 + 2) (k1_off12 i 2#32) (k1_off12_inb i 2)
        ∗ Leaving I V G (c := c1 d i) arg5 arg16 arg7 (wid1 i * 8 + 3) (k1_off12 i 3#32) (k1_off12_inb i 3)
        ∗ Counts (F := F) (c := c1 d i) arg12 nf
        ∗ Owe (c1 d i) O W
        ∗ Block I V G (c := c1 d i) arg5 (wid1 i * 8 + 0)
        ∗ Block I V G (c := c1 d i) arg5 (wid1 i * 8 + 1)
        ∗ Piece (F := F) (c := c1 d i) arg5 (wid1 i * 8 + 4)
        ∗ Piece (F := F) (c := c1 d i) arg5 (wid1 i * 8 + 5)
        ∗ Piece (F := F) (c := c1 d i) arg5 (wid1 i * 8 + 6)
        ∗ Piece (F := F) (c := c1 d i) arg5 (wid1 i * 8 + 7))
      ⊢ wp frame (wpE (defs₀ (F := F)) 𝒱₀ (c1 d i) none) Set.univ (k1_part7 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v152) fun r =>
        iprop(Inbound d i arg2 arg3 arg13 q0 f2 f3 arg8 arg9 (k1_off1 i 5#32 0#32) (k1_off1_inb i 5 0) 0
        ∗ Inbound d i arg2 arg3 arg14 q1 f2 f3 arg10 arg11 (k1_off1 i 4#32 6144#32) (k1_off1_inb i 4 1) 1
        ∗ Fill I V G (c := c1 d i) arg6 (wid1 i * 8 + 4) 655360
        ∗ semVal (c1 d i, .dma arg15.sem) 0
        ∗ Leaving I V G (c := c1 d i) arg5 arg16 arg7 (wid1 i * 8 + 3) (k1_off12 i 3#32) (k1_off12_inb i 3)
        ∗ Counts (F := F) (c := c1 d i) arg12 nf
        ∗ Owe (c1 d i) O W
        ∗ Block I V G (c := c1 d i) arg5 (wid1 i * 8 + 0)
        ∗ Block I V G (c := c1 d i) arg5 (wid1 i * 8 + 1)
        ∗ Block I V G (c := c1 d i) arg5 (wid1 i * 8 + 2)
        ∗ Piece (F := F) (c := c1 d i) arg5 (wid1 i * 8 + 4)
        ∗ Piece (F := F) (c := c1 d i) arg5 (wid1 i * 8 + 5)
        ∗ Piece (F := F) (c := c1 d i) arg5 (wid1 i * 8 + 6)
        ∗ Piece (F := F) (c := c1 d i) arg5 (wid1 i * 8 + 7)) := by
  rw [k1_part7_eq_skeleton]
  unfold k1_part7_skel
  simp only [Prog.lift, Prog.bind_op, Prog.bind_ret, Prog.pure_eq_ret, bind_assoc]
  rw [clear61 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 v152 0#32 0#32, again62 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v152 0#32 0#32]
  iintro ⟨HR0, HR1, HT1, HA0, HA1, HC, HO, HP0, HP1, HP4, HP5, HP6, HP7⟩
  iapply (wp_taken d i arg5 (m := arg6) (sem := arg15) (hin := k1_off12_inb i 2) (b := wid1 i * 8 + 2) (off12_at i 2#32 2 rfl (by decide))) $$ [HA0 HO]
  · isplitl [HA0]; · iexact HA0
    iexact HO
  iintro HA0 HW0 HP2 HO
  iapply (wp_wipe d i arg2 harg2 arg3 harg3 arg4 harg4 arg5 harg5 arg6 harg6 arg7 harg7 arg8 harg8 arg9 harg9 arg10 harg10 arg11 harg11 arg12 harg12 arg13 arg14 arg15 arg16 v286_r0 (I := I) (V := V) (G := G) (b := wid1 i * 8 + 4)) $$ [HA0]
  · iexact HA0
  iintro HA0
  iapply (wp_ask1 d i arg2 arg3 (q := q1) (f2 := f2) (f3 := f3) (hin := k1_off1_inb i 4 1)) $$ [HR1 HT1]
  · isplitl [HR1]; · iexact HR1
    iexact HT1
  iintro HR1
  iapply (wp_gotA d i arg2 arg3 (hin := k1_off1_inb i 4 0)) $$ [HR0 HO]
  · isplitl [HR0]; · iexact HR0
    iexact HO
  iintro HR0 HO
  iapply (wp_gotB d i arg2 arg3 (hin := k1_off1_inb i 4 0) (b := wid1 i * 8 + 4) (H := 0) ((off1_at i 4#32 0#32 4 0 rfl rfl (by decide) (by decide)).trans (by omega)) (by have := wid1_lt i; omega) (by decide) hK) $$ [HR0 HO]
  · isplitl [HR0]; · iexact HR0
    iexact HO
  iintro HR0 HT0 HO
  iapply (wp_fill2 d i arg2 harg2 arg3 harg3 arg4 harg4 arg5 harg5 arg6 harg6 arg7 harg7 arg8 harg8 arg9 harg9 arg10 harg10 arg11 harg11 arg12 harg12 arg13 arg14 arg15 arg16 v286_r0 (I := I) (V := V) (G := G) (nf := nf) (A := A) (E := E) (b := wid1 i * 8 + 4) hv2 zero_lane1 hb) $$ [HC HR0 HA0]
  · isplitl [HC]; · iexact HC
    isplitl [HR0]; · iexact HR0
    iexact HA0
  iintro HC HR0 HA0
  iapply (wp_ask1 d i arg2 arg3 (q := q0) (f2 := f2) (f3 := f3) (hin := k1_off1_inb i 5 0)) $$ [HR0 HT0]
  · isplitl [HR0]; · iexact HR0
    iexact HT0
  iintro HR0
  iapply (wp_gotA d i arg2 arg3 (hin := k1_off1_inb i 4 1)) $$ [HR1 HO]
  · isplitl [HR1]; · iexact HR1
    iexact HO
  iintro HR1 HO
  rw [wp_ret]
  imodintro
  isplitl [HR0]; · iexact HR0
  isplitl [HR1]; · iexact HR1
  isplitl [HA0]; · iexact HA0
  isplitl [HW0]; · iexact HW0
  isplitl [HA1]; · iexact HA1
  isplitl [HC]; · iexact HC
  isplitl [HO]; · iexact HO
  isplitl [HP0]; · iexact HP0
  isplitl [HP1]; · iexact HP1
  isplitl [HP2]; · iexact HP2
  isplitl [HP4]; · iexact HP4
  isplitl [HP5]; · iexact HP5
  isplitl [HP6]; · iexact HP6
  iexact HP7

theorem wp1_part8 (hK : Kept (F := F) I V G nf A E (arg2.view.read (Elt F) f2) (arg3.view.read (Elt F) f3))
    {v1 : BitVec 32} {v2 : IVec S16 32} {v151 v152 : BitVec 32} (hv1 : v1.toNat = wid1 i) (hv2 : ∀ x, (v2 x).toNat = (x 0).val) (hb : v152.toNat = (wid1 i * 8 + 4) * 51200) :
    iprop(Inbound d i arg2 arg3 arg13 q0 f2 f3 arg8 arg9 (k1_off1 i 5#32 0#32) (k1_off1_inb i 5 0) 0
        ∗ Inbound d i arg2 arg3 arg14 q1 f2 f3 arg10 arg11 (k1_off1 i 4#32 6144#32) (k1_off1_inb i 4 1) 1
        ∗ Fill I V G (c := c1 d i) arg6 (wid1 i * 8 + 4) 655360
        ∗ semVal (c1 d i, .dma arg15.sem) 0
        ∗ Leaving I V G (c := c1 d i) arg5 arg16 arg7 (wid1 i * 8 + 3) (k1_off12 i 3#32) (k1_off12_inb i 3)
        ∗ Counts (F := F) (c := c1 d i) arg12 nf
        ∗ Owe (c1 d i) O W
        ∗ Block I V G (c := c1 d i) arg5 (wid1 i * 8 + 0)
        ∗ Block I V G (c := c1 d i) arg5 (wid1 i * 8 + 1)
        ∗ Block I V G (c := c1 d i) arg5 (wid1 i * 8 + 2)
        ∗ Piece (F := F) (c := c1 d i) arg5 (wid1 i * 8 + 4)
        ∗ Piece (F := F) (c := c1 d i) arg5 (wid1 i * 8 + 5)
        ∗ Piece (F := F) (c := c1 d i) arg5 (wid1 i * 8 + 6)
        ∗ Piece (F := F) (c := c1 d i) arg5 (wid1 i * 8 + 7))
      ⊢ wp frame (wpE (defs₀ (F := F)) 𝒱₀ (c1 d i) none) Set.univ (k1_part8 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v151 v152) fun r =>
        iprop(∃ (v186 v187 : BitVec 32), ⌜r = ⟨v186, v187, 0#32⟩ ∧ v187.toNat = (wid1 i * 8 + 5) * 51200⌝
        ∗ Half I V G nf A E (c := c1 d i) arg8 arg9 (wid1 i * 8 + 5) 0
        ∗ Tok d i arg2 arg3 arg13 q0 f2 f3
        ∗ Inbound d i arg2 arg3 arg14 q1 f2 f3 arg10 arg11 (k1_off1 i 5#32 6144#32) (k1_off1_inb i 5 1) 0
        ∗ Leaving I V G (c := c1 d i) arg5 arg15 arg6 (wid1 i * 8 + 4) (k1_off12 i 4#32) (k1_off12_inb i 4)
        ∗ Fill I V G (c := c1 d i) arg7 (wid1 i * 8 + 5) 0
        ∗ semVal (c1 d i, .dma arg16.sem) 0
        ∗ Counts (F := F) (c := c1 d i) arg12 nf
        ∗ Owe (c1 d i) O W
        ∗ Block I V G (c := c1 d i) arg5 (wid1 i * 8 + 0)
        ∗ Block I V G (c := c1 d i) arg5 (wid1 i * 8 + 1)
        ∗ Block I V G (c := c1 d i) arg5 (wid1 i * 8 + 2)
        ∗ Block I V G (c := c1 d i) arg5 (wid1 i * 8 + 3)
        ∗ Piece (F := F) (c := c1 d i) arg5 (wid1 i * 8 + 5)
        ∗ Piece (F := F) (c := c1 d i) arg5 (wid1 i * 8 + 6)
        ∗ Piece (F := F) (c := c1 d i) arg5 (wid1 i * 8 + 7)) := by
  rw [k1_part8_eq_skeleton]
  unfold k1_part8_skel
  simp only [Prog.lift, Prog.bind_op, Prog.bind_ret, Prog.pure_eq_ret, bind_assoc]
  rw [again69 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v152 v151 0#32, clear76 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 v152 v151 0#32]
  iintro ⟨HR0, HR1, HA0, HW0, HA1, HC, HO, HP0, HP1, HP2, HP4, HP5, HP6, HP7⟩
  iapply (wp_gotB d i arg2 arg3 (hin := k1_off1_inb i 4 1) (b := wid1 i * 8 + 4) (H := 16) ((off1_at i 4#32 6144#32 4 6144 rfl rfl (by decide) (by decide)).trans (by omega)) (by have := wid1_lt i; omega) (by decide) hK) $$ [HR1 HO]
  · isplitl [HR1]; · iexact HR1
    iexact HO
  iintro HR1 HT1 HO
  iapply (wp_fill9 d i arg2 harg2 arg3 harg3 arg4 harg4 arg5 harg5 arg6 harg6 arg7 harg7 arg8 harg8 arg9 harg9 arg10 harg10 arg11 harg11 arg12 harg12 arg13 arg14 arg15 arg16 v286_r0 (I := I) (V := V) (G := G) (nf := nf) (A := A) (E := E) (b := wid1 i * 8 + 4) hv2 zero_lane1 hb) $$ [HC HR1 HA0]
  · isplitl [HC]; · iexact HC
    isplitl [HR1]; · iexact HR1
    iexact HA0
  iintro HC HR1 HA0
  iapply (wp_put d i arg5 (m := arg6) (sem := arg15) harg6 (hin := k1_off12_inb i 4) (b := wid1 i * 8 + 4) (off12_at i 4#32 4 rfl (by decide))) $$ [HA0 HP4 HW0]
  · isplitl [HA0]; · iexact HA0
    isplitl [HP4]; · iexact HP4
    iexact HW0
  iintro HA0
  iapply (wp_taken d i arg5 (m := arg7) (sem := arg16) (hin := k1_off12_inb i 3) (b := wid1 i * 8 + 3) (off12_at i 3#32 3 rfl (by decide))) $$ [HA1 HO]
  · isplitl [HA1]; · iexact HA1
    iexact HO
  iintro HA1 HW1 HP3 HO
  iapply (wp_wipe d i arg2 harg2 arg3 harg3 arg4 harg4 arg5 harg5 arg7 harg7 arg6 harg6 arg8 harg8 arg9 harg9 arg10 harg10 arg11 harg11 arg12 harg12 arg13 arg14 arg15 arg16 v286_r0 (I := I) (V := V) (G := G) (b := wid1 i * 8 + 5)) $$ [HA1]
  · iexact HA1
  iintro HA1
  iapply (wp_ask1 d i arg2 arg3 (q := q1) (f2 := f2) (f3 := f3) (hin := k1_off1_inb i 5 1)) $$ [HR1 HT1]
  · isplitl [HR1]; · iexact HR1
    iexact HT1
  iintro HR1
  iapply (wp_gotA d i arg2 arg3 (hin := k1_off1_inb i 5 0)) $$ [HR0 HO]
  · isplitl [HR0]; · iexact HR0
    iexact HO
  iintro HR0 HO
  iapply (wp_gotB d i arg2 arg3 (hin := k1_off1_inb i 5 0) (b := wid1 i * 8 + 5) (H := 0) ((off1_at i 5#32 0#32 5 0 rfl rfl (by decide) (by decide)).trans (by omega)) (by have := wid1_lt i; omega) (by decide) hK) $$ [HR0 HO]
  · isplitl [HR0]; · iexact HR0
    iexact HO
  iintro HR0 HT0 HO
  rw [wp_ret]
  imodintro
  iexists _, _
  isplitr
  · ipureintro; exact ⟨rfl, (base_at hv1 (wid1_lt i) 5#32 5 rfl (by decide))⟩
  isplitl [HR0]; · iexact HR0
  isplitl [HT0]; · iexact HT0
  isplitl [HR1]; · iexact HR1
  isplitl [HA0]; · iexact HA0
  isplitl [HA1]; · iexact HA1
  isplitl [HW1]; · iexact HW1
  isplitl [HC]; · iexact HC
  isplitl [HO]; · iexact HO
  isplitl [HP0]; · iexact HP0
  isplitl [HP1]; · iexact HP1
  isplitl [HP2]; · iexact HP2
  isplitl [HP3]; · iexact HP3
  isplitl [HP5]; · iexact HP5
  isplitl [HP6]; · iexact HP6
  iexact HP7

theorem wp1_part9 (hK : Kept (F := F) I V G nf A E (arg2.view.read (Elt F) f2) (arg3.view.read (Elt F) f3))
    {v1 : BitVec 32} {v2 : IVec S16 32} {v186 v187 : BitVec 32} (hv1 : v1.toNat = wid1 i) (hv2 : ∀ x, (v2 x).toNat = (x 0).val) (hb : v187.toNat = (wid1 i * 8 + 5) * 51200) :
    iprop(Half I V G nf A E (c := c1 d i) arg8 arg9 (wid1 i * 8 + 5) 0
        ∗ Tok d i arg2 arg3 arg13 q0 f2 f3
        ∗ Inbound d i arg2 arg3 arg14 q1 f2 f3 arg10 arg11 (k1_off1 i 5#32 6144#32) (k1_off1_inb i 5 1) 0
        ∗ Leaving I V G (c := c1 d i) arg5 arg15 arg6 (wid1 i * 8 + 4) (k1_off12 i 4#32) (k1_off12_inb i 4)
        ∗ Fill I V G (c := c1 d i) arg7 (wid1 i * 8 + 5) 0
        ∗ semVal (c1 d i, .dma arg16.sem) 0
        ∗ Counts (F := F) (c := c1 d i) arg12 nf
        ∗ Owe (c1 d i) O W
        ∗ Block I V G (c := c1 d i) arg5 (wid1 i * 8 + 0)
        ∗ Block I V G (c := c1 d i) arg5 (wid1 i * 8 + 1)
        ∗ Block I V G (c := c1 d i) arg5 (wid1 i * 8 + 2)
        ∗ Block I V G (c := c1 d i) arg5 (wid1 i * 8 + 3)
        ∗ Piece (F := F) (c := c1 d i) arg5 (wid1 i * 8 + 5)
        ∗ Piece (F := F) (c := c1 d i) arg5 (wid1 i * 8 + 6)
        ∗ Piece (F := F) (c := c1 d i) arg5 (wid1 i * 8 + 7))
      ⊢ wp frame (wpE (defs₀ (F := F)) 𝒱₀ (c1 d i) none) Set.univ (k1_part9 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v186 v187 0#32) fun r =>
        iprop(∃ (v221 v222 v227 : BitVec 32), ⌜r = ⟨v221, v222, v227, 12288#32⟩ ∧ v222.toNat = (wid1 i * 8 + 6) * 51200⌝
        ∗ Inbound d i arg2 arg3 arg13 q0 f2 f3 arg8 arg9 (k1_off1 i 6#32 0#32) (k1_off1_inb i 6 0) 0
        ∗ (Any (F := F) (c := c1 d i) arg10 ∗ Any (F := F) (c := c1 d i) arg11)
        ∗ Tok d i arg2 arg3 arg14 q1 f2 f3
        ∗ Fill I V G (c := c1 d i) arg6 (wid1 i * 8 + 6) 0
        ∗ semVal (c1 d i, .dma arg15.sem) 0
        ∗ Leaving I V G (c := c1 d i) arg5 arg16 arg7 (wid1 i * 8 + 5) (k1_off12 i 5#32) (k1_off12_inb i 5)
        ∗ Counts (F := F) (c := c1 d i) arg12 nf
        ∗ Owe (c1 d i) O W
        ∗ Block I V G (c := c1 d i) arg5 (wid1 i * 8 + 0)
        ∗ Block I V G (c := c1 d i) arg5 (wid1 i * 8 + 1)
        ∗ Block I V G (c := c1 d i) arg5 (wid1 i * 8 + 2)
        ∗ Block I V G (c := c1 d i) arg5 (wid1 i * 8 + 3)
        ∗ Block I V G (c := c1 d i) arg5 (wid1 i * 8 + 4)
        ∗ Piece (F := F) (c := c1 d i) arg5 (wid1 i * 8 + 6)
        ∗ Piece (F := F) (c := c1 d i) arg5 (wid1 i * 8 + 7)) := by
  rw [k1_part9_eq_skeleton]
  unfold k1_part9_skel
  simp only [Prog.lift, Prog.bind_op, Prog.bind_ret, Prog.pure_eq_ret, bind_assoc]
  rw [again77 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v187 v186 0#32, again84 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v187 v186 0#32, clear91 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 v187 v186 0#32]
  iintro ⟨HR0, HT0, HR1, HA0, HA1, HW1, HC, HO, HP0, HP1, HP2, HP3, HP5, HP6, HP7⟩
  iapply (wp_fill2 d i arg2 harg2 arg3 harg3 arg4 harg4 arg5 harg5 arg7 harg7 arg6 harg6 arg8 harg8 arg9 harg9 arg10 harg10 arg11 harg11 arg12 harg12 arg13 arg14 arg15 arg16 v286_r0 (I := I) (V := V) (G := G) (nf := nf) (A := A) (E := E) (b := wid1 i * 8 + 5) hv2 zero_lane1 hb) $$ [HC HR0 HA1]
  · isplitl [HC]; · iexact HC
    isplitl [HR0]; · iexact HR0
    iexact HA1
  iintro HC HR0 HA1
  iapply (wp_ask1 d i arg2 arg3 (q := q0) (f2 := f2) (f3 := f3) (hin := k1_off1_inb i 6 0)) $$ [HR0 HT0]
  · isplitl [HR0]; · iexact HR0
    iexact HT0
  iintro HR0
  iapply (wp_gotA d i arg2 arg3 (hin := k1_off1_inb i 5 1)) $$ [HR1 HO]
  · isplitl [HR1]; · iexact HR1
    iexact HO
  iintro HR1 HO
  iapply (wp_gotB d i arg2 arg3 (hin := k1_off1_inb i 5 1) (b := wid1 i * 8 + 5) (H := 16) ((off1_at i 5#32 6144#32 5 6144 rfl rfl (by decide) (by decide)).trans (by omega)) (by have := wid1_lt i; omega) (by decide) hK) $$ [HR1 HO]
  · isplitl [HR1]; · iexact HR1
    iexact HO
  iintro HR1 HT1 HO
  iapply (wp_fill9 d i arg2 harg2 arg3 harg3 arg4 harg4 arg5 harg5 arg7 harg7 arg6 harg6 arg8 harg8 arg9 harg9 arg10 harg10 arg11 harg11 arg12 harg12 arg13 arg14 arg15 arg16 v286_r0 (I := I) (V := V) (G := G) (nf := nf) (A := A) (E := E) (b := wid1 i * 8 + 5) hv2 zero_lane1 hb) $$ [HC HR1 HA1]
  · isplitl [HC]; · iexact HC
    isplitl [HR1]; · iexact HR1
    iexact HA1
  iintro HC HR1 HA1
  iapply (wp_put d i arg5 (m := arg7) (sem := arg16) harg7 (hin := k1_off12_inb i 5) (b := wid1 i * 8 + 5) (off12_at i 5#32 5 rfl (by decide))) $$ [HA1 HP5 HW1]
  · isplitl [HA1]; · iexact HA1
    isplitl [HP5]; · iexact HP5
    iexact HW1
  iintro HA1
  iapply (wp_taken d i arg5 (m := arg6) (sem := arg15) (hin := k1_off12_inb i 4) (b := wid1 i * 8 + 4) (off12_at i 4#32 4 rfl (by decide))) $$ [HA0 HO]
  · isplitl [HA0]; · iexact HA0
    iexact HO
  iintro HA0 HW0 HP4 HO
  iapply (wp_wipe d i arg2 harg2 arg3 harg3 arg4 harg4 arg5 harg5 arg6 harg6 arg7 harg7 arg8 harg8 arg9 harg9 arg10 harg10 arg11 harg11 arg12 harg12 arg13 arg14 arg15 arg16 v286_r0 (I := I) (V := V) (G := G) (b := wid1 i * 8 + 6)) $$ [HA0]
  · iexact HA0
  iintro HA0
  rw [wp_ret]
  imodintro
  iexists _, _, _
  isplitr
  · ipureintro; exact ⟨rfl, (base_at hv1 (wid1_lt i) 6#32 6 rfl (by decide))⟩
  isplitl [HR0]; · iexact HR0
  isplitl [HR1]; · iexact HR1
  isplitl [HT1]; · iexact HT1
  isplitl [HA0]; · iexact HA0
  isplitl [HW0]; · iexact HW0
  isplitl [HA1]; · iexact HA1
  isplitl [HC]; · iexact HC
  isplitl [HO]; · iexact HO
  isplitl [HP0]; · iexact HP0
  isplitl [HP1]; · iexact HP1
  isplitl [HP2]; · iexact HP2
  isplitl [HP3]; · iexact HP3
  isplitl [HP4]; · iexact HP4
  isplitl [HP6]; · iexact HP6
  iexact HP7

theorem wp1_part10 (hK : Kept (F := F) I V G nf A E (arg2.view.read (Elt F) f2) (arg3.view.read (Elt F) f3))
    {v1 : BitVec 32} {v2 : IVec S16 32} {v221 v222 v227 : BitVec 32} (hv1 : v1.toNat = wid1 i) (hv2 : ∀ x, (v2 x).toNat = (x 0).val) (hb : v222.toNat = (wid1 i * 8 + 6) * 51200) :
    iprop(Inbound d i arg2 arg3 arg13 q0 f2 f3 arg8 arg9 (k1_off1 i 6#32 0#32) (k1_off1_inb i 6 0) 0
        ∗ (Any (F := F) (c := c1 d i) arg10 ∗ Any (F := F) (c := c1 d i) arg11)
        ∗ Tok d i arg2 arg3 arg14 q1 f2 f3
        ∗ Fill I V G (c := c1 d i) arg6 (wid1 i * 8 + 6) 0
        ∗ semVal (c1 d i, .dma arg15.sem) 0
        ∗ Leaving I V G (c := c1 d i) arg5 arg16 arg7 (wid1 i * 8 + 5) (k1_off12 i 5#32) (k1_off12_inb i 5)
        ∗ Counts (F := F) (c := c1 d i) arg12 nf
        ∗ Owe (c1 d i) O W
        ∗ Block I V G (c := c1 d i) arg5 (wid1 i * 8 + 0)
        ∗ Block I V G (c := c1 d i) arg5 (wid1 i * 8 + 1)
        ∗ Block I V G (c := c1 d i) arg5 (wid1 i * 8 + 2)
        ∗ Block I V G (c := c1 d i) arg5 (wid1 i * 8 + 3)
        ∗ Block I V G (c := c1 d i) arg5 (wid1 i * 8 + 4)
        ∗ Piece (F := F) (c := c1 d i) arg5 (wid1 i * 8 + 6)
        ∗ Piece (F := F) (c := c1 d i) arg5 (wid1 i * 8 + 7))
      ⊢ wp frame (wpE (defs₀ (F := F)) 𝒱₀ (c1 d i) none) Set.univ (k1_part10 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 v221 v222 v227 12288#32) fun r =>
        iprop(Inbound d i arg2 arg3 arg13 q0 f2 f3 arg8 arg9 (k1_off1 i 7#32 0#32) (k1_off1_inb i 7 0) 0
        ∗ (Any (F := F) (c := c1 d i) arg10 ∗ Any (F := F) (c := c1 d i) arg11)
        ∗ Tok d i arg2 arg3 arg14 q1 f2 f3
        ∗ Fill I V G (c := c1 d i) arg6 (wid1 i * 8 + 6) 1310720
        ∗ semVal (c1 d i, .dma arg15.sem) 0
        ∗ Leaving I V G (c := c1 d i) arg5 arg16 arg7 (wid1 i * 8 + 5) (k1_off12 i 5#32) (k1_off12_inb i 5)
        ∗ Counts (F := F) (c := c1 d i) arg12 nf
        ∗ Owe (c1 d i) O W
        ∗ Block I V G (c := c1 d i) arg5 (wid1 i * 8 + 0)
        ∗ Block I V G (c := c1 d i) arg5 (wid1 i * 8 + 1)
        ∗ Block I V G (c := c1 d i) arg5 (wid1 i * 8 + 2)
        ∗ Block I V G (c := c1 d i) arg5 (wid1 i * 8 + 3)
        ∗ Block I V G (c := c1 d i) arg5 (wid1 i * 8 + 4)
        ∗ Piece (F := F) (c := c1 d i) arg5 (wid1 i * 8 + 6)
        ∗ Piece (F := F) (c := c1 d i) arg5 (wid1 i * 8 + 7)) := by
  rw [k1_part10_eq_skeleton]
  unfold k1_part10_skel
  simp only [Prog.lift, Prog.bind_op, Prog.bind_ret, Prog.pure_eq_ret, bind_assoc]
  rw [again92 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v222 v221 v227, again99 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v222 v221 v227]
  iintro ⟨HR0, HR1, HT1, HA0, HW0, HA1, HC, HO, HP0, HP1, HP2, HP3, HP4, HP6, HP7⟩
  iapply (wp_ask1 d i arg2 arg3 (q := q1) (f2 := f2) (f3 := f3) (hin := k1_off1_inb i 6 1)) $$ [HR1 HT1]
  · isplitl [HR1]; · iexact HR1
    iexact HT1
  iintro HR1
  iapply (wp_gotA d i arg2 arg3 (hin := k1_off1_inb i 6 0)) $$ [HR0 HO]
  · isplitl [HR0]; · iexact HR0
    iexact HO
  iintro HR0 HO
  iapply (wp_gotB d i arg2 arg3 (hin := k1_off1_inb i 6 0) (b := wid1 i * 8 + 6) (H := 0) ((off1_at i 6#32 0#32 6 0 rfl rfl (by decide) (by decide)).trans (by omega)) (by have := wid1_lt i; omega) (by decide) hK) $$ [HR0 HO]
  · isplitl [HR0]; · iexact HR0
    iexact HO
  iintro HR0 HT0 HO
  iapply (wp_fill2 d i arg2 harg2 arg3 harg3 arg4 harg4 arg5 harg5 arg6 harg6 arg7 harg7 arg8 harg8 arg9 harg9 arg10 harg10 arg11 harg11 arg12 harg12 arg13 arg14 arg15 arg16 v286_r0 (I := I) (V := V) (G := G) (nf := nf) (A := A) (E := E) (b := wid1 i * 8 + 6) hv2 zero_lane1 hb) $$ [HC HR0 HA0]
  · isplitl [HC]; · iexact HC
    isplitl [HR0]; · iexact HR0
    iexact HA0
  iintro HC HR0 HA0
  iapply (wp_ask1 d i arg2 arg3 (q := q0) (f2 := f2) (f3 := f3) (hin := k1_off1_inb i 7 0)) $$ [HR0 HT0]
  · isplitl [HR0]; · iexact HR0
    iexact HT0
  iintro HR0
  iapply (wp_gotA d i arg2 arg3 (hin := k1_off1_inb i 6 1)) $$ [HR1 HO]
  · isplitl [HR1]; · iexact HR1
    iexact HO
  iintro HR1 HO
  iapply (wp_gotB d i arg2 arg3 (hin := k1_off1_inb i 6 1) (b := wid1 i * 8 + 6) (H := 16) ((off1_at i 6#32 6144#32 6 6144 rfl rfl (by decide) (by decide)).trans (by omega)) (by have := wid1_lt i; omega) (by decide) hK) $$ [HR1 HO]
  · isplitl [HR1]; · iexact HR1
    iexact HO
  iintro HR1 HT1 HO
  iapply (wp_fill9 d i arg2 harg2 arg3 harg3 arg4 harg4 arg5 harg5 arg6 harg6 arg7 harg7 arg8 harg8 arg9 harg9 arg10 harg10 arg11 harg11 arg12 harg12 arg13 arg14 arg15 arg16 v286_r0 (I := I) (V := V) (G := G) (nf := nf) (A := A) (E := E) (b := wid1 i * 8 + 6) hv2 zero_lane1 hb) $$ [HC HR1 HA0]
  · isplitl [HC]; · iexact HC
    isplitl [HR1]; · iexact HR1
    iexact HA0
  iintro HC HR1 HA0
  rw [wp_ret]
  imodintro
  isplitl [HR0]; · iexact HR0
  isplitl [HR1]; · iexact HR1
  isplitl [HT1]; · iexact HT1
  isplitl [HA0]; · iexact HA0
  isplitl [HW0]; · iexact HW0
  isplitl [HA1]; · iexact HA1
  isplitl [HC]; · iexact HC
  isplitl [HO]; · iexact HO
  isplitl [HP0]; · iexact HP0
  isplitl [HP1]; · iexact HP1
  isplitl [HP2]; · iexact HP2
  isplitl [HP3]; · iexact HP3
  isplitl [HP4]; · iexact HP4
  isplitl [HP6]; · iexact HP6
  iexact HP7

theorem wp1_part11 (hK : Kept (F := F) I V G nf A E (arg2.view.read (Elt F) f2) (arg3.view.read (Elt F) f3))
    {v1 : BitVec 32} {v2 : IVec S16 32} (hv1 : v1.toNat = wid1 i) (hv2 : ∀ x, (v2 x).toNat = (x 0).val) :
    iprop(Inbound d i arg2 arg3 arg13 q0 f2 f3 arg8 arg9 (k1_off1 i 7#32 0#32) (k1_off1_inb i 7 0) 0
        ∗ (Any (F := F) (c := c1 d i) arg10 ∗ Any (F := F) (c := c1 d i) arg11)
        ∗ Tok d i arg2 arg3 arg14 q1 f2 f3
        ∗ Fill I V G (c := c1 d i) arg6 (wid1 i * 8 + 6) 1310720
        ∗ semVal (c1 d i, .dma arg15.sem) 0
        ∗ Leaving I V G (c := c1 d i) arg5 arg16 arg7 (wid1 i * 8 + 5) (k1_off12 i 5#32) (k1_off12_inb i 5)
        ∗ Counts (F := F) (c := c1 d i) arg12 nf
        ∗ Owe (c1 d i) O W
        ∗ Block I V G (c := c1 d i) arg5 (wid1 i * 8 + 0)
        ∗ Block I V G (c := c1 d i) arg5 (wid1 i * 8 + 1)
        ∗ Block I V G (c := c1 d i) arg5 (wid1 i * 8 + 2)
        ∗ Block I V G (c := c1 d i) arg5 (wid1 i * 8 + 3)
        ∗ Block I V G (c := c1 d i) arg5 (wid1 i * 8 + 4)
        ∗ Piece (F := F) (c := c1 d i) arg5 (wid1 i * 8 + 6)
        ∗ Piece (F := F) (c := c1 d i) arg5 (wid1 i * 8 + 7))
      ⊢ wp frame (wpE (defs₀ (F := F)) 𝒱₀ (c1 d i) none) Set.univ (k1_part11 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16) fun r =>
        iprop(∃ (v256 v257 : BitVec 32), ⌜r = ⟨v256, v257⟩ ∧ v257.toNat = (wid1 i * 8 + 7) * 51200⌝
        ∗ (Any (F := F) (c := c1 d i) arg8 ∗ Any (F := F) (c := c1 d i) arg9)
        ∗ Tok d i arg2 arg3 arg13 q0 f2 f3
        ∗ Half I V G nf A E (c := c1 d i) arg10 arg11 (wid1 i * 8 + 7) 16
        ∗ Tok d i arg2 arg3 arg14 q1 f2 f3
        ∗ Leaving I V G (c := c1 d i) arg5 arg15 arg6 (wid1 i * 8 + 6) (k1_off12 i 6#32) (k1_off12_inb i 6)
        ∗ Fill I V G (c := c1 d i) arg7 (wid1 i * 8 + 7) 655360
        ∗ semVal (c1 d i, .dma arg16.sem) 0
        ∗ Counts (F := F) (c := c1 d i) arg12 nf
        ∗ Owe (c1 d i) O W
        ∗ Block I V G (c := c1 d i) arg5 (wid1 i * 8 + 0)
        ∗ Block I V G (c := c1 d i) arg5 (wid1 i * 8 + 1)
        ∗ Block I V G (c := c1 d i) arg5 (wid1 i * 8 + 2)
        ∗ Block I V G (c := c1 d i) arg5 (wid1 i * 8 + 3)
        ∗ Block I V G (c := c1 d i) arg5 (wid1 i * 8 + 4)
        ∗ Block I V G (c := c1 d i) arg5 (wid1 i * 8 + 5)
        ∗ Piece (F := F) (c := c1 d i) arg5 (wid1 i * 8 + 7)) := by
  rw [k1_part11_eq_skeleton]
  unfold k1_part11_skel
  simp only [Prog.lift, Prog.bind_op, Prog.bind_ret, Prog.pure_eq_ret, bind_assoc]
  rw [clear106 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 0#32 0#32 0#32, again107 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 0#32 0#32 0#32]
  iintro ⟨HR0, HR1, HT1, HA0, HW0, HA1, HC, HO, HP0, HP1, HP2, HP3, HP4, HP6, HP7⟩
  iapply (wp_put d i arg5 (m := arg6) (sem := arg15) harg6 (hin := k1_off12_inb i 6) (b := wid1 i * 8 + 6) (off12_at i 6#32 6 rfl (by decide))) $$ [HA0 HP6 HW0]
  · isplitl [HA0]; · iexact HA0
    isplitl [HP6]; · iexact HP6
    iexact HW0
  iintro HA0
  iapply (wp_taken d i arg5 (m := arg7) (sem := arg16) (hin := k1_off12_inb i 5) (b := wid1 i * 8 + 5) (off12_at i 5#32 5 rfl (by decide))) $$ [HA1 HO]
  · isplitl [HA1]; · iexact HA1
    iexact HO
  iintro HA1 HW1 HP5 HO
  iapply (wp_wipe d i arg2 harg2 arg3 harg3 arg4 harg4 arg5 harg5 arg7 harg7 arg6 harg6 arg8 harg8 arg9 harg9 arg10 harg10 arg11 harg11 arg12 harg12 arg13 arg14 arg15 arg16 v286_r0 (I := I) (V := V) (G := G) (b := wid1 i * 8 + 7)) $$ [HA1]
  · iexact HA1
  iintro HA1
  iapply (wp_ask1 d i arg2 arg3 (q := q1) (f2 := f2) (f3 := f3) (hin := k1_off1_inb i 7 1)) $$ [HR1 HT1]
  · isplitl [HR1]; · iexact HR1
    iexact HT1
  iintro HR1
  iapply (wp_gotA d i arg2 arg3 (hin := k1_off1_inb i 7 0)) $$ [HR0 HO]
  · isplitl [HR0]; · iexact HR0
    iexact HO
  iintro HR0 HO
  iapply (wp_gotB d i arg2 arg3 (hin := k1_off1_inb i 7 0) (b := wid1 i * 8 + 7) (H := 0) ((off1_at i 7#32 0#32 7 0 rfl rfl (by decide) (by decide)).trans (by omega)) (by have := wid1_lt i; omega) (by decide) hK) $$ [HR0 HO]
  · isplitl [HR0]; · iexact HR0
    iexact HO
  iintro HR0 HT0 HO
  iapply (wp_fill2 d i arg2 harg2 arg3 harg3 arg4 harg4 arg5 harg5 arg7 harg7 arg6 harg6 arg8 harg8 arg9 harg9 arg10 harg10 arg11 harg11 arg12 harg12 arg13 arg14 arg15 arg16 v286_r0 (I := I) (V := V) (G := G) (nf := nf) (A := A) (E := E) (b := wid1 i * 8 + 7) hv2 zero_lane1 (base_at hv1 (wid1_lt i) 7#32 7 rfl (by decide))) $$ [HC HR0 HA1]
  · isplitl [HC]; · iexact HC
    isplitl [HR0]; · iexact HR0
    iexact HA1
  iintro HC HR0 HA1
  iapply (wp_gotA d i arg2 arg3 (hin := k1_off1_inb i 7 1)) $$ [HR1 HO]
  · isplitl [HR1]; · iexact HR1
    iexact HO
  iintro HR1 HO
  iapply (wp_gotB d i arg2 arg3 (hin := k1_off1_inb i 7 1) (b := wid1 i * 8 + 7) (H := 16) ((off1_at i 7#32 6144#32 7 6144 rfl rfl (by decide) (by decide)).trans (by omega)) (by have := wid1_lt i; omega) (by decide) hK) $$ [HR1 HO]
  · isplitl [HR1]; · iexact HR1
    iexact HO
  iintro HR1 HT1 HO
  rw [wp_ret]
  imodintro
  iexists _, _
  isplitr
  · ipureintro; exact ⟨rfl, (base_at hv1 (wid1_lt i) 7#32 7 rfl (by decide))⟩
  isplitl [HR0]; · iexact HR0
  isplitl [HT0]; · iexact HT0
  isplitl [HR1]; · iexact HR1
  isplitl [HT1]; · iexact HT1
  isplitl [HA0]; · iexact HA0
  isplitl [HA1]; · iexact HA1
  isplitl [HW1]; · iexact HW1
  isplitl [HC]; · iexact HC
  isplitl [HO]; · iexact HO
  isplitl [HP0]; · iexact HP0
  isplitl [HP1]; · iexact HP1
  isplitl [HP2]; · iexact HP2
  isplitl [HP3]; · iexact HP3
  isplitl [HP4]; · iexact HP4
  isplitl [HP5]; · iexact HP5
  iexact HP7

theorem Counts_any {c : Thread nD τ} {m : Memref sig c.2.kind .vmem S512 .i32} {nf : ℕ → ℕ} : Counts (F := F) (c := c) m nf ⊢ Any (F := F) (c := c) m := by
  unfold Counts Any
  iintro ⟨%cs, %h, H⟩
  iexists _
  iexact H

/-- The whole kernel on one tile. -/
theorem wp_assemble (hK : Kept (F := F) I V G nf A E (arg2.view.read (Elt F) f2) (arg3.view.read (Elt F) f3))
    (hcs : ∀ s < 32, ∀ j : S512.Idx, (j 0).val = s * 16 → (arg4.view.read (Elt F) f4 j : BitVec 32).toNat = nf s) :
    iprop(Any (F := F) (c := c1 d i) arg12 ∗ (arg4.view.loc (c1 d i) ↦{q4} f4) ∗ semVal (c1 d i, .dma v286_r0.sem) 0
        ∗ (Any (F := F) (c := c1 d i) arg8 ∗ Any (F := F) (c := c1 d i) arg9)
        ∗ Tok d i arg2 arg3 arg13 q0 f2 f3
        ∗ (Any (F := F) (c := c1 d i) arg10 ∗ Any (F := F) (c := c1 d i) arg11)
        ∗ Tok d i arg2 arg3 arg14 q1 f2 f3
        ∗ Any (F := F) (c := c1 d i) arg6
        ∗ semVal (c1 d i, .dma arg15.sem) 0
        ∗ Any (F := F) (c := c1 d i) arg7
        ∗ semVal (c1 d i, .dma arg16.sem) 0
        ∗ Owe (c1 d i) O W
        ∗ Piece (F := F) (c := c1 d i) arg5 (wid1 i * 8 + 0)
        ∗ Piece (F := F) (c := c1 d i) arg5 (wid1 i * 8 + 1)
        ∗ Piece (F := F) (c := c1 d i) arg5 (wid1 i * 8 + 2)
        ∗ Piece (F := F) (c := c1 d i) arg5 (wid1 i * 8 + 3)
        ∗ Piece (F := F) (c := c1 d i) arg5 (wid1 i * 8 + 4)
        ∗ Piece (F := F) (c := c1 d i) arg5 (wid1 i * 8 + 5)
        ∗ Piece (F := F) (c := c1 d i) arg5 (wid1 i * 8 + 6)
        ∗ Piece (F := F) (c := c1 d i) arg5 (wid1 i * 8 + 7))
      ⊢ wp frame (wpE (defs₀ (F := F)) 𝒱₀ (c1 d i) none) Set.univ (cc1__assemble (F := F) i arg2 harg2 arg3 harg3 arg4 harg4 arg5 harg5 arg6 harg6 arg7 harg7 arg8 harg8 arg9 harg9 arg10 harg10 arg11 harg11 arg12 harg12 arg13 arg14 arg15 arg16 v286_r0) fun _ =>
        iprop((arg4.view.loc (c1 d i) ↦{q4} f4) ∗ semVal (c1 d i, .dma v286_r0.sem) 0
        ∗ (Any (F := F) (c := c1 d i) arg8 ∗ Any (F := F) (c := c1 d i) arg9)
        ∗ Tok d i arg2 arg3 arg13 q0 f2 f3
        ∗ (Any (F := F) (c := c1 d i) arg10 ∗ Any (F := F) (c := c1 d i) arg11)
        ∗ Tok d i arg2 arg3 arg14 q1 f2 f3
        ∗ Any (F := F) (c := c1 d i) arg6
        ∗ semVal (c1 d i, .dma arg15.sem) 0
        ∗ Any (F := F) (c := c1 d i) arg7
        ∗ semVal (c1 d i, .dma arg16.sem) 0
        ∗ Any (F := F) (c := c1 d i) arg12
        ∗ Owe (c1 d i) O W
        ∗ Block I V G (c := c1 d i) arg5 (wid1 i * 8 + 0)
        ∗ Block I V G (c := c1 d i) arg5 (wid1 i * 8 + 1)
        ∗ Block I V G (c := c1 d i) arg5 (wid1 i * 8 + 2)
        ∗ Block I V G (c := c1 d i) arg5 (wid1 i * 8 + 3)
        ∗ Block I V G (c := c1 d i) arg5 (wid1 i * 8 + 4)
        ∗ Block I V G (c := c1 d i) arg5 (wid1 i * 8 + 5)
        ∗ Block I V G (c := c1 d i) arg5 (wid1 i * 8 + 6)
        ∗ Block I V G (c := c1 d i) arg5 (wid1 i * 8 + 7)) := by
  rw [cc1__assemble_eq_skeleton]
  unfold cc1__assemble_skel
  iintro H
  rw [wp_bind]
  iapply (wp_wand frame _ _) $$ [H]
  · iapply (wp1_part1 d i arg2 harg2 arg3 harg3 arg4 harg4 arg5 harg5 arg6 harg6 arg7 harg7 arg8 harg8 arg9 harg9 arg10 harg10 arg11 harg11 arg12 harg12 arg13 arg14 arg15 arg16 v286_r0 hK hcs) $$ H
  iintro %r ⟨%v1, %v2, %v15, %v16, %hr, H4, HZ, H⟩
  obtain ⟨rfl, hv1, hv2, hb⟩ := hr
  dsimp only []
  rw [wp_bind]
  iapply (wp_wand frame _ _) $$ [H]
  · iapply (wp1_part2 d i arg2 harg2 arg3 harg3 arg4 harg4 arg5 harg5 arg6 harg6 arg7 harg7 arg8 harg8 arg9 harg9 arg10 harg10 arg11 harg11 arg12 harg12 arg13 arg14 arg15 arg16 v286_r0 hK hv1 hv2 hb) $$ H
  iintro %r ⟨%v48, %v49, %hr, H⟩
  obtain ⟨rfl, hb⟩ := hr
  dsimp only []
  rw [wp_bind]
  iapply (wp_wand frame _ _) $$ [H]
  · iapply (wp1_part3 d i arg2 harg2 arg3 harg3 arg4 harg4 arg5 harg5 arg6 harg6 arg7 harg7 arg8 harg8 arg9 harg9 arg10 harg10 arg11 harg11 arg12 harg12 arg13 arg14 arg15 arg16 v286_r0 hK hv1 hv2 hb) $$ H
  iintro %r ⟨%hr, H⟩
  subst hr
  dsimp only []
  rw [wp_bind]
  iapply (wp_wand frame _ _) $$ [H]
  · iapply (wp1_part4 d i arg2 harg2 arg3 harg3 arg4 harg4 arg5 harg5 arg6 harg6 arg7 harg7 arg8 harg8 arg9 harg9 arg10 harg10 arg11 harg11 arg12 harg12 arg13 arg14 arg15 arg16 v286_r0 hK hv1 hv2 hb) $$ H
  iintro %r ⟨%v81, %v82, %v101, %hr, H⟩
  obtain ⟨rfl, hb⟩ := hr
  dsimp only []
  rw [wp_bind]
  iapply (wp_wand frame _ _) $$ [H]
  · iapply (wp1_part5 d i arg2 harg2 arg3 harg3 arg4 harg4 arg5 harg5 arg6 harg6 arg7 harg7 arg8 harg8 arg9 harg9 arg10 harg10 arg11 harg11 arg12 harg12 arg13 arg14 arg15 arg16 v286_r0 hK hv1 hv2 hb) $$ H
  iintro %r ⟨%v116, %v117, %hr, H⟩
  obtain ⟨rfl, hb⟩ := hr
  dsimp only []
  rw [wp_bind]
  iapply (wp_wand frame _ _) $$ [H]
  · iapply (wp1_part6 d i arg2 harg2 arg3 harg3 arg4 harg4 arg5 harg5 arg6 harg6 arg7 harg7 arg8 harg8 arg9 harg9 arg10 harg10 arg11 harg11 arg12 harg12 arg13 arg14 arg15 arg16 v286_r0 hK hv1 hv2 hb) $$ H
  iintro %r ⟨%v151, %v152, %hr, H⟩
  obtain ⟨rfl, hb⟩ := hr
  dsimp only []
  rw [wp_bind]
  iapply (wp_wand frame _ _) $$ [H]
  · iapply (wp1_part7 d i arg2 harg2 arg3 harg3 arg4 harg4 arg5 harg5 arg6 harg6 arg7 harg7 arg8 harg8 arg9 harg9 arg10 harg10 arg11 harg11 arg12 harg12 arg13 arg14 arg15 arg16 v286_r0 hK hv1 hv2 hb) $$ H
  iintro %r H
  rw [wp_bind]
  iapply (wp_wand frame _ _) $$ [H]
  · iapply (wp1_part8 d i arg2 harg2 arg3 harg3 arg4 harg4 arg5 harg5 arg6 harg6 arg7 harg7 arg8 harg8 arg9 harg9 arg10 harg10 arg11 harg11 arg12 harg12 arg13 arg14 arg15 arg16 v286_r0 hK hv1 hv2 hb) $$ H
  iintro %r ⟨%v186, %v187, %hr, H⟩
  obtain ⟨rfl, hb⟩ := hr
  dsimp only []
  rw [wp_bind]
  iapply (wp_wand frame _ _) $$ [H]
  · iapply (wp1_part9 d i arg2 harg2 arg3 harg3 arg4 harg4 arg5 harg5 arg6 harg6 arg7 harg7 arg8 harg8 arg9 harg9 arg10 harg10 arg11 harg11 arg12 harg12 arg13 arg14 arg15 arg16 v286_r0 hK hv1 hv2 hb) $$ H
  iintro %r ⟨%v221, %v222, %v227, %hr, H⟩
  obtain ⟨rfl, hb⟩ := hr
  dsimp only []
  rw [wp_bind]
  iapply (wp_wand frame _ _) $$ [H]
  · iapply (wp1_part10 d i arg2 harg2 arg3 harg3 arg4 harg4 arg5 harg5 arg6 harg6 arg7 harg7 arg8 harg8 arg9 harg9 arg10 harg10 arg11 harg11 arg12 harg12 arg13 arg14 arg15 arg16 v286_r0 hK hv1 hv2 hb) $$ H
  iintro %r H
  rw [wp_bind]
  iapply (wp_wand frame _ _) $$ [H]
  · iapply (wp1_part11 d i arg2 harg2 arg3 harg3 arg4 harg4 arg5 harg5 arg6 harg6 arg7 harg7 arg8 harg8 arg9 harg9 arg10 harg10 arg11 harg11 arg12 harg12 arg13 arg14 arg15 arg16 v286_r0 hK hv1 hv2) $$ H
  iintro %r ⟨%v256, %v257, %hr, H⟩
  obtain ⟨rfl, hb7⟩ := hr
  dsimp only []
  icases H with ⟨HR0, HT0, HR1, HT1, HA0, HA1, HW1, HC, HO, HP0, HP1, HP2, HP3, HP4, HP5, HP7⟩
  simp only [Prog.lift, Prog.bind_op, Prog.bind_ret, Prog.pure_eq_ret, bind_assoc]
  rw [again114 (F := F) i arg2 harg2 arg3 harg3 arg4 harg4 arg5 harg5 arg6 harg6 arg7 harg7 arg8 harg8 arg9 harg9 arg10 harg10 arg11 harg11 arg12 harg12 arg13 arg14 arg15 arg16 v286_r0 v1 v2 k1_pay15 k1_pay16 v257 0#32 0#32]
  iapply (wp_fill9 d i arg2 harg2 arg3 harg3 arg4 harg4 arg5 harg5 arg7 harg7 arg6 harg6 arg8 harg8 arg9 harg9 arg10 harg10 arg11 harg11 arg12 harg12 arg13 arg14 arg15 arg16 v286_r0 (I := I) (V := V) (G := G) (nf := nf) (A := A) (E := E) (b := wid1 i * 8 + 7) hv2 zero_lane1 hb7) $$ [HC HR1 HA1]
  · isplitl [HC]; · iexact HC
    isplitl [HR1]; · iexact HR1
    iexact HA1
  iintro HC HR1 HA1
  iapply (wp_put d i arg5 (m := arg7) (sem := arg16) harg7 (hin := k1_off12_inb i 7) (b := wid1 i * 8 + 7) (off12_at i 7#32 7 rfl (by decide))) $$ [HA1 HP7 HW1]
  · isplitl [HA1]; · iexact HA1
    isplitl [HP7]; · iexact HP7
    iexact HW1
  iintro HA1
  iapply (wp_taken d i arg5 (m := arg6) (sem := arg15) (hin := k1_off12_inb i 6) (b := wid1 i * 8 + 6) (off12_at i 6#32 6 rfl (by decide))) $$ [HA0 HO]
  · isplitl [HA0]; · iexact HA0
    iexact HO
  iintro HA0 HW0 HP6 HO
  iapply (wp_taken d i arg5 (m := arg7) (sem := arg16) (hin := k1_off12_inb i 7) (b := wid1 i * 8 + 7) (off12_at i 7#32 7 rfl (by decide))) $$ [HA1 HO]
  · isplitl [HA1]; · iexact HA1
    iexact HO
  iintro HA1 HW1 HP7 HO
  rw [wp_ret]
  imodintro
  isplitl [H4]; · iexact H4
  isplitl [HZ]; · iexact HZ
  isplitl [HR0]; · iexact HR0
  isplitl [HT0]; · iexact HT0
  isplitl [HR1]; · iexact HR1
  isplitl [HT1]; · iexact HT1
  isplitl [HA0]; · iexact HA0
  isplitl [HW0]; · iexact HW0
  isplitl [HA1]; · iexact HA1
  isplitl [HW1]; · iexact HW1
  isplitl [HC]; · iapply Counts_any; iexact HC
  isplitl [HO]; · iexact HO
  isplitl [HP0]; · iexact HP0
  isplitl [HP1]; · iexact HP1
  isplitl [HP2]; · iexact HP2
  isplitl [HP3]; · iexact HP3
  isplitl [HP4]; · iexact HP4
  isplitl [HP5]; · iexact HP5
  isplitl [HP6]; · iexact HP6
  iexact HP7

end Parts

end Asm

end Cert.Proof.SC
-- ==== Proof.Tiles.lean ====
/-
  The two calls' tasks as the launch sees them: what each handshake carries, and each task's body from its scoped storage.
-/
module

public import proofs.«01_k».proof.Proof.Part
public import proofs.«01_k».proof.Proof.AsmRun

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The program as the launch theorem sees it -/

/-- The kernels' labels, over no TensorCore pipeline. -/
abbrev ΛP : Labels := Pipeline.Sig Λ₀ (Fin 0) fun p => (pcfgs (F := F) p).Adm

/-- The two SparseCore calls. -/
abbrev K : SparseCore.Cfg τ sig (ΛP (F := F)) 2 := sc (F := F)

theorem nSub_zero : (K (F := F)).nSub 0 = 16 := rfl
theorem nSub_one : (K (F := F)).nSub 1 = 16 := rfl
theorem nCore_zero : (K (F := F)).nCore 0 = 2 := rfl
theorem nCore_one : (K (F := F)).nCore 1 = 2 := rfl

/-- The kernels' bodies as the launch runs them. -/
abbrev D [FloatOps F] : Defs nD τ sig (Elt F) (ΛP (F := F)) := Pipeline.defs pcfgs defs₀

abbrev 𝒱 : Variants := 𝒱₀.lift
abbrev v₀ : 𝒱.V := Sum.inl none

/-- What the launch theorem asks of the launch semaphores, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays -/

variable (m : (ℓ : Loc nD τ sig) → Buf (Elt F) ℓ)

abbrev valLoc (d : Dev nD) : Loc nD τ sig := (SparseCore.T d).loc main_arg0
abbrev idxLoc (d : Dev nD) : Loc nD τ sig := (SparseCore.T d).loc main_arg1
abbrev sidxLoc (d : Dev nD) : Loc nD τ sig := (SparseCore.T d).loc main_v0_0
abbrev svalLoc (d : Dev nD) : Loc nD τ sig := (SparseCore.T d).loc main_v0_1
abbrev fcntLoc (d : Dev nD) : Loc nD τ sig := (SparseCore.T d).loc main_v0_2
abbrev rsiLoc (d : Dev nD) : Loc nD τ sig := (SparseCore.T d).loc main_v1
abbrev rsvLoc (d : Dev nD) : Loc nD τ sig := (SparseCore.T d).loc main_v2
abbrev outLoc (d : Dev nD) : Loc nD τ sig := (SparseCore.T d).loc main_v3
abbrev resLoc (d : Dev nD) : Loc nD τ sig := (SparseCore.T d).loc main_v4

/-- Element `n`'s index in the two vectors. -/
def ixOf (n : ℕ) (h : n < 1310720) : S1310720.Idx := fun | 0 => ⟨n, h⟩

/-- The index vector as a function of the element's number, -/
def idxAt (d : Dev nD) (n : ℕ) : BitVec 32 :=
  if h : n < 1310720 then (m (idxLoc d) : S1310720.Idx → BitVec 32) (ixOf n h) else 0
variable [FloatOps F]
/-- and the values. -/
def valAt (d : Dev nD) (n : ℕ) : Elt F .f32 :=
  if h : n < 1310720 then (m (valLoc d) : S1310720.Idx → Elt F .f32) (ixOf n h) else zeroF

/-- Every tile's stretch splits into three of few elements a bucket. -/
def Good (d : Dev nD) : Prop := ∀ s < 32, Thirds (idxAt m d) (s * 40960)

/-- The columns, the words and the blocks a tile writes, as sets of indices. -/
def cols (w : ℕ) : Finset S256x12288.Idx := Finset.univ.filter fun j => w * 384 ≤ (j 1).val ∧ (j 1).val < w * 384 + 384
def words (w : ℕ) : Finset S512.Idx := Finset.univ.filter fun j => w * 16 ≤ (j 0).val ∧ (j 0).val < w * 16 + 16
def blk (b : ℕ) : Finset S13107200.Idx := Finset.univ.filter fun j => b * 51200 ≤ (j 0).val ∧ (j 0).val < b * 51200 + 51200

/-- What tile `w`'s columns and words hold after the first call, -/
def Filled (d : Dev nD) (w nf : ℕ) (g0 : S256x12288.Idx → BitVec 32) (g1 : S256x12288.Idx → Elt F .f32) (g6 : S512.Idx → BitVec 32) : Prop :=
  Done (idxAt m d) (valAt m d) w (w * 40960) nf g0 g1
    ∧ ∀ j : S512.Idx, w * 16 ≤ (j 0).val → (j 0).val < w * 16 + 16 → (g6 j).toNat = nf

/-- and what the second call reads. -/
def Ready (d : Dev nD) (f2 : S3145728.Idx → BitVec 32) (f3 : S3145728.Idx → Elt F .f32) (f4 : S512.Idx → BitVec 32) : Prop :=
  ∃ (nf : ℕ → ℕ) (A E : ℕ → ℕ → ℕ), Kept (F := F) (idxAt m d) (valAt m d) (Good m d) nf A E f2 f3
    ∧ ∀ s < 32, ∀ j : S512.Idx, (j 0).val = s * 16 → (f4 j).toNat = nf s

/-- What tile `w` is handed at the first call, -/
def go0 (d : Dev nD) (w : ℕ) : sProp 𝕄 :=
  iprop((valLoc d ↦{Transfers.shareTokN fullShare w} m (valLoc d)) ∗ (idxLoc d ↦{Transfers.shareTokN fullShare w} m (idxLoc d))
    ∗ (∃ g, sidxLoc d ↦[cols w]{fullShare} g) ∗ (∃ g, svalLoc d ↦[cols w]{fullShare} g) ∗ ∃ g, fcntLoc d ↦[words w]{fullShare} g)

/-- and what it hands back: its columns filled. -/
def td0 (d : Dev nD) (w : ℕ) : sProp 𝕄 :=
  iprop(∃ (nf : ℕ) (g0 : Buf (Elt F) (sidxLoc d)) (g1 : Buf (Elt F) (svalLoc d)) (g6 : Buf (Elt F) (fcntLoc d)),
    ⌜Filled m d w nf g0 g1 g6⌝
    ∗ (sidxLoc d ↦[cols w]{fullShare} g0) ∗ (svalLoc d ↦[cols w]{fullShare} g1) ∗ (fcntLoc d ↦[words w]{fullShare} g6))

/-- What tile `w` is handed at the second call, -/
def go1 (d : Dev nD) (w : ℕ) : sProp 𝕄 :=
  iprop(∃ (f2 : Buf (Elt F) (rsiLoc d)) (f3 : Buf (Elt F) (rsvLoc d)) (f4 : Buf (Elt F) (fcntLoc d)),
    ⌜Ready m d f2 f3 f4⌝
    ∗ (rsiLoc d ↦{Transfers.shareTokN fullShare (2 * w)} f2) ∗ (rsvLoc d ↦{Transfers.shareTokN fullShare (2 * w)} f3)
    ∗ (rsiLoc d ↦{Transfers.shareTokN fullShare (2 * w + 1)} f2) ∗ (rsvLoc d ↦{Transfers.shareTokN fullShare (2 * w + 1)} f3)
    ∗ (fcntLoc d ↦{Transfers.shareTokN fullShare w} f4)
    ∗ bigSep Finset.univ fun k : Fin 8 => iprop(∃ g, outLoc d ↦[blk (w * 8 + k.val)]{fullShare} g))

/-- Block `b` of the assembled array, right where the stretches split well. -/
def blockDone (d : Dev nD) (b : ℕ) : sProp 𝕄 :=
  iprop(∃ g : Buf (Elt F) (outLoc d), ⌜Good m d → ∀ p : S13107200.Idx, b * 51200 ≤ (p 0).val → (p 0).val < b * 51200 + 51200 →
      g p = lastv (idxAt m d) (valAt m d) zeroF (p 0).val 1310720⌝ ∗ outLoc d ↦[blk b]{fullShare} g)

/-- and what it hands back: its eight blocks. -/
def td1 (d : Dev nD) (w : ℕ) : sProp 𝕄 := bigSep Finset.univ fun k : Fin 8 => blockDone m d (w * 8 + k.val)

instance go0_storable (d : Dev nD) (w : ℕ) : Storable (upEmb : UEmb _ 𝕄) (go0 m d w) := by unfold go0; infer_instance
instance td0_storable (d : Dev nD) (w : ℕ) : Storable (upEmb : UEmb _ 𝕄) (td0 m d w) := by
  unfold td0
  have h : ∀ nf g0 g1 g6, Storable (upEmb : UEmb _ 𝕄) iprop(⌜Filled m d w nf g0 g1 g6⌝
    ∗ (sidxLoc d ↦[cols w]{fullShare} g0) ∗ (svalLoc d ↦[cols w]{fullShare} g1) ∗ (fcntLoc d ↦[words w]{fullShare} g6)) :=
    fun _ _ _ _ => inferInstance
  infer_instance
instance go1_storable (d : Dev nD) (w : ℕ) : Storable (upEmb : UEmb _ 𝕄) (go1 m d w) := by
  unfold go1
  have h : ∀ f2 f3 f4, Storable (upEmb : UEmb _ 𝕄) iprop(⌜Ready m d f2 f3 f4⌝
    ∗ (rsiLoc d ↦{Transfers.shareTokN fullShare (2 * w)} f2) ∗ (rsvLoc d ↦{Transfers.shareTokN fullShare (2 * w)} f3)
    ∗ (rsiLoc d ↦{Transfers.shareTokN fullShare (2 * w + 1)} f2) ∗ (rsvLoc d ↦{Transfers.shareTokN fullShare (2 * w + 1)} f3)
    ∗ (fcntLoc d ↦{Transfers.shareTokN fullShare w} f4)
    ∗ bigSep Finset.univ fun k : Fin 8 => iprop(∃ g, outLoc d ↦[blk (w * 8 + k.val)]{fullShare} g)) :=
    fun _ _ _ => inferInstance
  infer_instance
instance td1_storable (d : Dev nD) (w : ℕ) : Storable (upEmb : UEmb _ 𝕄) (td1 m d w) := by unfold td1 blockDone; infer_instance

/-- The handshakes: each call's operands and results are its tiles', core by core. -/
def P : (K (F := F)).Pay (nD := nD) (Val := Elt F) (Name := ℕ) (U := UU) where
  st := fun q d c => match q with
    | 0 => bigSep Finset.univ fun i : Fin 16 => go0 m d (i.val * 2 + c.val)
    | 1 => bigSep Finset.univ fun i : Fin 16 => go1 m d (i.val * 2 + c.val)
  dn := fun q d c => match q with
    | 0 => bigSep Finset.univ fun i : Fin 16 => td0 m d (i.val * 2 + c.val)
    | 1 => bigSep Finset.univ fun i : Fin 16 => td1 m d (i.val * 2 + c.val)
  go := fun q d c i => match q with | 0 => go0 m d (i.val * 2 + c.val) | 1 => go1 m d (i.val * 2 + c.val)
  td := fun q d c i => match q with | 0 => td0 m d (i.val * 2 + c.val) | 1 => td1 m d (i.val * 2 + c.val)
  x := fun _ _ => iprop(emp)

instance P_storable : (P (F := F) m).IsStorable where
  st q d c := match q with
    | 0 => (inferInstance : Storable (upEmb : UEmb _ 𝕄) (bigSep Finset.univ fun i : Fin 16 => go0 m d (i.val * 2 + c.val)))
    | 1 => (inferInstance : Storable (upEmb : UEmb _ 𝕄) (bigSep Finset.univ fun i : Fin 16 => go1 m d (i.val * 2 + c.val)))
  dn q d c := match q with
    | 0 => (inferInstance : Storable (upEmb : UEmb _ 𝕄) (bigSep Finset.univ fun i : Fin 16 => td0 m d (i.val * 2 + c.val)))
    | 1 => (inferInstance : Storable (upEmb : UEmb _ 𝕄) (bigSep Finset.univ fun i : Fin 16 => td1 m d (i.val * 2 + c.val)))
  go q d c i := match q with
    | 0 => (inferInstance : Storable (upEmb : UEmb _ 𝕄) (go0 m d (i.val * 2 + c.val)))
    | 1 => (inferInstance : Storable (upEmb : UEmb _ 𝕄) (go1 m d (i.val * 2 + c.val)))
  td q d c i := match q with
    | 0 => (inferInstance : Storable (upEmb : UEmb _ 𝕄) (td0 m d (i.val * 2 + c.val)))
    | 1 => (inferInstance : Storable (upEmb : UEmb _ 𝕄) (td1 m d (i.val * 2 + c.val)))

theorem vecSplit0 : (K (F := F)).VecSplit' (P m) 0 := by
  intro d c
  show bigSep Finset.univ (fun i : Fin 16 => go0 m d (i.val * 2 + c.val)) ⊢ |={Set.univ}=>
    iprop((bigSep Finset.univ fun i : Fin 16 => go0 m d (i.val * 2 + c.val))
      ∗ ((bigSep Finset.univ fun i : Fin 16 => td0 m d (i.val * 2 + c.val)) -∗ bigSep Finset.univ fun i : Fin 16 => td0 m d (i.val * 2 + c.val)))
  iintro H
  imodintro
  isplitl [H]; · iexact H
  iintro H
  iexact H

theorem vecSplit1 : (K (F := F)).VecSplit' (P m) 1 := by
  intro d c
  show bigSep Finset.univ (fun i : Fin 16 => go1 m d (i.val * 2 + c.val)) ⊢ |={Set.univ}=>
    iprop((bigSep Finset.univ fun i : Fin 16 => go1 m d (i.val * 2 + c.val))
      ∗ ((bigSep Finset.univ fun i : Fin 16 => td1 m d (i.val * 2 + c.val)) -∗ bigSep Finset.univ fun i : Fin 16 => td1 m d (i.val * 2 + c.val)))
  iintro H
  imodintro
  isplitl [H]; · iexact H
  iintro H
  iexact H

/-! ## The sets through the whole memrefs -/

theorem tileCols_sidx (d : Dev nD) (i : grid0.Coords) (w : ℕ) :
    tileCols (c := c0 d i) (Memref.whole main_v0_0_scv : Memref sig .scVector .hbm S256x12288 .i32) w = cols w := Finset.map_refl
theorem tileCols_sval (d : Dev nD) (i : grid0.Coords) (w : ℕ) :
    tileCols (c := c0 d i) (Memref.whole main_v0_1_scv : Memref sig .scVector .hbm S256x12288 .f32) w = cols w := Finset.map_refl
theorem tileWords_fcnt (d : Dev nD) (i : grid0.Coords) (w : ℕ) :
    tileWords (c := c0 d i) (Memref.whole main_v0_2_scv : Memref sig .scVector .hbm S512 .i32) w = words w := Finset.map_refl
theorem blockWords_out (d : Dev nD) (i : grid1.Coords) (b : ℕ) :
    blockWords (c := c1 d i) (Memref.whole main_v3_scv : Memref sig .scVector .hbm S13107200 .f32) b = blk b := Finset.map_refl

/-! ## The tasks' scoped storage -/

/-- A task's scratch buffers are among its own. -/
theorem ownBufs0 (d : Dev nD) (i : grid0.Coords) :
    (ownBufs (c0 d i) : sProp 𝕄)
      = iprop((∃ f, (c0 d i).loc cc0_scratch0 ↦{fullShare} f)
          ∗ (∃ f, (c0 d i).loc cc0_scratch1 ↦{fullShare} f)
          ∗ (∃ f, (c0 d i).loc cc0_scratch2 ↦{fullShare} f)
          ∗ (∃ f, (c0 d i).loc cc0_scratch3 ↦{fullShare} f)
          ∗ (∃ f, (c0 d i).loc cc0_scratch4 ↦{fullShare} f)
          ∗ (∃ f, (c0 d i).loc cc0_scratch5 ↦{fullShare} f)
          ∗ (∃ f, (c0 d i).loc cc0_scratch6 ↦{fullShare} f)
          ∗ (∃ f, (c0 d i).loc cc0_scratch7 ↦{fullShare} f)
          ∗ bigSep (((((((((ownRefs (τ := τ) (Proc.scVector ((i 0).castLE hcore0) ((i 1).castLE hsub0))).erase ((Proc.scVector ((i 0).castLE hcore0) ((i 1).castLE hsub0)).devRef cc0_scratch0)).erase ((Proc.scVector ((i 0).castLE hcore0) ((i 1).castLE hsub0)).devRef cc0_scratch1)).erase ((Proc.scVector ((i 0).castLE hcore0) ((i 1).castLE hsub0)).devRef cc0_scratch2)).erase ((Proc.scVector ((i 0).castLE hcore0) ((i 1).castLE hsub0)).devRef cc0_scratch3)).erase ((Proc.scVector ((i 0).castLE hcore0) ((i 1).castLE hsub0)).devRef cc0_scratch4)).erase ((Proc.scVector ((i 0).castLE hcore0) ((i 1).castLE hsub0)).devRef cc0_scratch5)).erase ((Proc.scVector ((i 0).castLE hcore0) ((i 1).castLE hsub0)).devRef cc0_scratch6)).erase ((Proc.scVector ((i 0).castLE hcore0) ((i 1).castLE hsub0)).devRef cc0_scratch7))
              fun b => iprop(∃ f, ((d, b) : Loc nD τ sig) ↦{fullShare} f)) := by
  unfold SparseCore.Cfg.ownBufs
  refine (SparseCore.bigSep_erase' (SparseCore.Cfg.mem_ownRefs_of_owner (p := (Proc.scVector ((i 0).castLE hcore0) ((i 1).castLE hsub0))) (b := ((Proc.scVector ((i 0).castLE hcore0) ((i 1).castLE hsub0)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector ((i 0).castLE hcore0) ((i 1).castLE hsub0))) (b := ((Proc.scVector ((i 0).castLE hcore0) ((i 1).castLE hsub0)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector ((i 0).castLE hcore0) ((i 1).castLE hsub0))) (b := ((Proc.scVector ((i 0).castLE hcore0) ((i 1).castLE hsub0)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector ((i 0).castLE hcore0) ((i 1).castLE hsub0))) (b := ((Proc.scVector ((i 0).castLE hcore0) ((i 1).castLE hsub0)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector ((i 0).castLE hcore0) ((i 1).castLE hsub0))) (b := ((Proc.scVector ((i 0).castLE hcore0) ((i 1).castLE hsub0)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := (Proc.scVector ((i 0).castLE hcore0) ((i 1).castLE hsub0))) (b := ((Proc.scVector ((i 0).castLE hcore0) ((i 1).castLE hsub0)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := (Proc.scVector ((i 0).castLE hcore0) ((i 1).castLE hsub0))) (b := ((Proc.scVector ((i 0).castLE hcore0) ((i 1).castLE hsub0)).devRef cc0_scratch6)) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := (Proc.scVector ((i 0).castLE hcore0) ((i 1).castLE hsub0))) (b := ((Proc.scVector ((i 0).castLE hcore0) ((i 1).castLE hsub0)).devRef cc0_scratch7)) rfl⟩⟩⟩⟩⟩⟩⟩)]

/-- A task's scratch buffers are among its own. -/
theorem ownBufs1 (d : Dev nD) (i : grid1.Coords) :
    (ownBufs (c1 d i) : sProp 𝕄)
      = iprop((∃ f, (c1 d i).loc cc1_scratch0 ↦{fullShare} f)
          ∗ (∃ f, (c1 d i).loc cc1_scratch1 ↦{fullShare} f)
          ∗ (∃ f, (c1 d i).loc cc1_scratch2 ↦{fullShare} f)
          ∗ (∃ f, (c1 d i).loc cc1_scratch3 ↦{fullShare} f)
          ∗ (∃ f, (c1 d i).loc cc1_scratch4 ↦{fullShare} f)
          ∗ (∃ f, (c1 d i).loc cc1_scratch5 ↦{fullShare} f)
          ∗ (∃ f, (c1 d i).loc cc1_scratch6 ↦{fullShare} f)
          ∗ bigSep ((((((((ownRefs (τ := τ) (Proc.scVector ((i 0).castLE hcore1) ((i 1).castLE hsub1))).erase ((Proc.scVector ((i 0).castLE hcore1) ((i 1).castLE hsub1)).devRef cc1_scratch0)).erase ((Proc.scVector ((i 0).castLE hcore1) ((i 1).castLE hsub1)).devRef cc1_scratch1)).erase ((Proc.scVector ((i 0).castLE hcore1) ((i 1).castLE hsub1)).devRef cc1_scratch2)).erase ((Proc.scVector ((i 0).castLE hcore1) ((i 1).castLE hsub1)).devRef cc1_scratch3)).erase ((Proc.scVector ((i 0).castLE hcore1) ((i 1).castLE hsub1)).devRef cc1_scratch4)).erase ((Proc.scVector ((i 0).castLE hcore1) ((i 1).castLE hsub1)).devRef cc1_scratch5)).erase ((Proc.scVector ((i 0).castLE hcore1) ((i 1).castLE hsub1)).devRef cc1_scratch6))
              fun b => iprop(∃ f, ((d, b) : Loc nD τ sig) ↦{fullShare} f)) := by
  unfold SparseCore.Cfg.ownBufs
  refine (SparseCore.bigSep_erase' (SparseCore.Cfg.mem_ownRefs_of_owner (p := (Proc.scVector ((i 0).castLE hcore1) ((i 1).castLE hsub1))) (b := ((Proc.scVector ((i 0).castLE hcore1) ((i 1).castLE hsub1)).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := (Proc.scVector ((i 0).castLE hcore1) ((i 1).castLE hsub1))) (b := ((Proc.scVector ((i 0).castLE hcore1) ((i 1).castLE hsub1)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := (Proc.scVector ((i 0).castLE hcore1) ((i 1).castLE hsub1))) (b := ((Proc.scVector ((i 0).castLE hcore1) ((i 1).castLE hsub1)).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := (Proc.scVector ((i 0).castLE hcore1) ((i 1).castLE hsub1))) (b := ((Proc.scVector ((i 0).castLE hcore1) ((i 1).castLE hsub1)).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := (Proc.scVector ((i 0).castLE hcore1) ((i 1).castLE hsub1))) (b := ((Proc.scVector ((i 0).castLE hcore1) ((i 1).castLE hsub1)).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := (Proc.scVector ((i 0).castLE hcore1) ((i 1).castLE hsub1))) (b := ((Proc.scVector ((i 0).castLE hcore1) ((i 1).castLE hsub1)).devRef cc1_scratch5)) rfl⟩⟩⟩⟩⟩),
    SparseCore.bigSep_erase' (Finset.mem_erase.mpr ⟨fun e => absurd (Proc.devRef_injective _ e) (show (cc1_scratch6 : Ref sig .scVector) ≠ cc1_scratch5 by decide), Finset.mem_erase.mpr ⟨fun e => absurd (Proc.devRef_injective _ e) (show (cc1_scratch6 : Ref sig .scVector) ≠ cc1_scratch4 by decide), Finset.mem_erase.mpr ⟨fun e => absurd (Proc.devRef_injective _ e) (show (cc1_scratch6 : Ref sig .scVector) ≠ cc1_scratch3 by decide), Finset.mem_erase.mpr ⟨fun e => absurd (Proc.devRef_injective _ e) (show (cc1_scratch6 : Ref sig .scVector) ≠ cc1_scratch2 by decide), Finset.mem_erase.mpr ⟨fun e => absurd (Proc.devRef_injective _ e) (show (cc1_scratch6 : Ref sig .scVector) ≠ cc1_scratch1 by decide), Finset.mem_erase.mpr ⟨fun e => absurd (Proc.devRef_injective _ e) (show (cc1_scratch6 : Ref sig .scVector) ≠ cc1_scratch0 by decide), SparseCore.Cfg.mem_ownRefs_of_owner (p := (Proc.scVector ((i 0).castLE hcore1) ((i 1).castLE hsub1))) (b := ((Proc.scVector ((i 0).castLE hcore1) ((i 1).castLE hsub1)).devRef cc1_scratch6)) rfl⟩⟩⟩⟩⟩⟩)]

/-- A task's semaphores are among its own. -/
theorem ownSems_0 (d : Dev nD) (i : grid0.Coords) :
    (ownSems0 (c0 d i) : sProp 𝕄)
      = iprop(semVal ((c0 d i, .dma cc0_scratch8.sem) : GSem nD τ sig) 0
          ∗ semVal ((c0 d i, .dma cc0_scratch9.sem) : GSem nD τ sig) 0
          ∗ semVal ((c0 d i, .dma cc0_scoped0.sem) : GSem nD τ sig) 0
          ∗ bigSep ((((ownCells (c0 d i)).erase ((c0 d i, .dma cc0_scratch8.sem) : GSem nD τ sig)).erase ((c0 d i, .dma cc0_scratch9.sem) : GSem nD τ sig)).erase ((c0 d i, .dma cc0_scoped0.sem) : GSem nD τ sig)) fun g => semVal g 0) := by
  unfold SparseCore.Cfg.ownSems0
  rw [SparseCore.bigSep_erase' ((mem_ownCells (g := ((c0 d i, .dma cc0_scratch8.sem) : GSem nD τ sig))).mpr ⟨rfl, by show (SemLoc.dma cc0_scratch8.sem : SemLoc sig).isScoped .scVector = true; decide⟩),
    SparseCore.bigSep_erase' (Finset.mem_erase.mpr ⟨fun e => absurd (congrArg Prod.snd e) (show (SemLoc.dma cc0_scratch9.sem : SemLoc sig) ≠ SemLoc.dma cc0_scratch8.sem by decide), (mem_ownCells (g := ((c0 d i, .dma cc0_scratch9.sem) : GSem nD τ sig))).mpr ⟨rfl, by show (SemLoc.dma cc0_scratch9.sem : SemLoc sig).isScoped .scVector = true; decide⟩⟩),
    SparseCore.bigSep_erase' (Finset.mem_erase.mpr ⟨fun e => absurd (congrArg Prod.snd e) (show (SemLoc.dma cc0_scoped0.sem : SemLoc sig) ≠ SemLoc.dma cc0_scratch9.sem by decide), Finset.mem_erase.mpr ⟨fun e => absurd (congrArg Prod.snd e) (show (SemLoc.dma cc0_scoped0.sem : SemLoc sig) ≠ SemLoc.dma cc0_scratch8.sem by decide), (mem_ownCells (g := ((c0 d i, .dma cc0_scoped0.sem) : GSem nD τ sig))).mpr ⟨rfl, by show (SemLoc.dma cc0_scoped0.sem : SemLoc sig).isScoped .scVector = true; decide⟩⟩⟩)]

/-- A task's semaphores are among its own. -/
theorem ownSems_1 (d : Dev nD) (i : grid1.Coords) :
    (ownSems0 (c1 d i) : sProp 𝕄)
      = iprop(semVal ((c1 d i, .dma cc1_scratch7.sem) : GSem nD τ sig) 0
          ∗ semVal ((c1 d i, .dma cc1_scratch8.sem) : GSem nD τ sig) 0
          ∗ semVal ((c1 d i, .dma cc1_scratch9.sem) : GSem nD τ sig) 0
          ∗ semVal ((c1 d i, .dma cc1_scratch10.sem) : GSem nD τ sig) 0
          ∗ semVal ((c1 d i, .dma cc1_scoped0.sem) : GSem nD τ sig) 0
          ∗ bigSep ((((((ownCells (c1 d i)).erase ((c1 d i, .dma cc1_scratch7.sem) : GSem nD τ sig)).erase ((c1 d i, .dma cc1_scratch8.sem) : GSem nD τ sig)).erase ((c1 d i, .dma cc1_scratch9.sem) : GSem nD τ sig)).erase ((c1 d i, .dma cc1_scratch10.sem) : GSem nD τ sig)).erase ((c1 d i, .dma cc1_scoped0.sem) : GSem nD τ sig)) fun g => semVal g 0) := by
  unfold SparseCore.Cfg.ownSems0
  rw [SparseCore.bigSep_erase' ((mem_ownCells (g := ((c1 d i, .dma cc1_scratch7.sem) : GSem nD τ sig))).mpr ⟨rfl, by show (SemLoc.dma cc1_scratch7.sem : SemLoc sig).isScoped .scVector = true; decide⟩),
    SparseCore.bigSep_erase' (Finset.mem_erase.mpr ⟨fun e => absurd (congrArg Prod.snd e) (show (SemLoc.dma cc1_scratch8.sem : SemLoc sig) ≠ SemLoc.dma cc1_scratch7.sem by decide), (mem_ownCells (g := ((c1 d i, .dma cc1_scratch8.sem) : GSem nD τ sig))).mpr ⟨rfl, by show (SemLoc.dma cc1_scratch8.sem : SemLoc sig).isScoped .scVector = true; decide⟩⟩),
    SparseCore.bigSep_erase' (Finset.mem_erase.mpr ⟨fun e => absurd (congrArg Prod.snd e) (show (SemLoc.dma cc1_scratch9.sem : SemLoc sig) ≠ SemLoc.dma cc1_scratch8.sem by decide), Finset.mem_erase.mpr ⟨fun e => absurd (congrArg Prod.snd e) (show (SemLoc.dma cc1_scratch9.sem : SemLoc sig) ≠ SemLoc.dma cc1_scratch7.sem by decide), (mem_ownCells (g := ((c1 d i, .dma cc1_scratch9.sem) : GSem nD τ sig))).mpr ⟨rfl, by show (SemLoc.dma cc1_scratch9.sem : SemLoc sig).isScoped .scVector = true; decide⟩⟩⟩),
    SparseCore.bigSep_erase' (Finset.mem_erase.mpr ⟨fun e => absurd (congrArg Prod.snd e) (show (SemLoc.dma cc1_scratch10.sem : SemLoc sig) ≠ SemLoc.dma cc1_scratch9.sem by decide), Finset.mem_erase.mpr ⟨fun e => absurd (congrArg Prod.snd e) (show (SemLoc.dma cc1_scratch10.sem : SemLoc sig) ≠ SemLoc.dma cc1_scratch8.sem by decide), Finset.mem_erase.mpr ⟨fun e => absurd (congrArg Prod.snd e) (show (SemLoc.dma cc1_scratch10.sem : SemLoc sig) ≠ SemLoc.dma cc1_scratch7.sem by decide), (mem_ownCells (g := ((c1 d i, .dma cc1_scratch10.sem) : GSem nD τ sig))).mpr ⟨rfl, by show (SemLoc.dma cc1_scratch10.sem : SemLoc sig).isScoped .scVector = true; decide⟩⟩⟩⟩),
    SparseCore.bigSep_erase' (Finset.mem_erase.mpr ⟨fun e => absurd (congrArg Prod.snd e) (show (SemLoc.dma cc1_scoped0.sem : SemLoc sig) ≠ SemLoc.dma cc1_scratch10.sem by decide), Finset.mem_erase.mpr ⟨fun e => absurd (congrArg Prod.snd e) (show (SemLoc.dma cc1_scoped0.sem : SemLoc sig) ≠ SemLoc.dma cc1_scratch9.sem by decide), Finset.mem_erase.mpr ⟨fun e => absurd (congrArg Prod.snd e) (show (SemLoc.dma cc1_scoped0.sem : SemLoc sig) ≠ SemLoc.dma cc1_scratch8.sem by decide), Finset.mem_erase.mpr ⟨fun e => absurd (congrArg Prod.snd e) (show (SemLoc.dma cc1_scoped0.sem : SemLoc sig) ≠ SemLoc.dma cc1_scratch7.sem by decide), (mem_ownCells (g := ((c1 d i, .dma cc1_scoped0.sem) : GSem nD τ sig))).mpr ⟨rfl, by show (SemLoc.dma cc1_scoped0.sem : SemLoc sig).isScoped .scVector = true; decide⟩⟩⟩⟩⟩)]

end Cert.Proof.SC

end
-- ==== Proof.Tasks.lean ====
/-
  Each task's body over its scoped storage, and the launch theorem's obligations for both calls.
-/
module

public import proofs.«01_k».proof.Proof.Tiles

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

section Store

variable {c : Thread nD τ} {sp : Space} {s : Shape} {e : EltTy}

theorem any_in [FloatOps F] (m : Memref sig c.2.kind sp s e) :
    (iprop(∃ f : Buf (Elt F) (m.view.loc c), m.view.loc c ↦{fullShare} f) : sProp 𝕄) ⊢ Any (F := F) (c := c) m := by
  unfold Any
  iintro ⟨%f, H⟩
  iexists _
  iapply (Hold_of m f) $$ H

theorem any_out [FloatOps F] (m : Memref sig c.2.kind sp s e) :
    Any (F := F) (c := c) m ⊢ (iprop(∃ f : Buf (Elt F) (m.view.loc c), m.view.loc c ↦{fullShare} f) : sProp 𝕄) := by
  unfold Any Hold
  iintro ⟨%x, %f, -, H⟩
  iexists f
  iexact H

end Store

variable [FloatOps F] (m : (ℓ : Loc nD τ sig) → Buf (Elt F) ℓ)

/-- The elements' indices, below the array's size, are the tile's. -/
theorem idxAt_read (d : Dev nD) (j : S1310720.Idx) : (m (idxLoc d) : S1310720.Idx → BitVec 32) j = idxAt m d (j 0).val := by
  unfold idxAt
  rw [dif_pos (show (j 0).val < 1310720 from (j 0).isLt)]
  refine congrArg _ (funext fun a => ?_)
  match a with | 0 => rfl

theorem valAt_read (d : Dev nD) (j : S1310720.Idx) : (m (valLoc d) : S1310720.Idx → Elt F .f32) j = valAt m d (j 0).val := by
  unfold valAt
  rw [dif_pos (show (j 0).val < 1310720 from (j 0).isLt)]
  refine congrArg _ (funext fun a => ?_)
  match a with | 0 => rfl

/-- The partition task. -/
theorem task0 (d : Dev nD) (i : grid0.Coords) (hI : ∀ n, (idxAt m d n).toNat < 13107200) (hF : (K (F := F)).Facts) (O : CellTallies nD τ sig (HIx 2)) (W : Waits sig (HIx 2)) (hO : ∀ g, O g none = 0) :
    iprop(levAts (K (F := F)).L (K (F := F)).lev ∗ emp ∗ go0 m d (wid i)
        ∗ scopedBufs (c0 d i) ∗ scopedSems0 (c0 d i) ∗ owes (c0 d i) O W)
      ⊢ wp frame (wpE (defs₀ (F := F)) 𝒱₀ (c0 d i) none) Set.univ
          (cc0__partition i (Memref.whole main_arg0_scv) (Memref.isWhole_whole _) (Memref.whole main_arg1_scv) (Memref.isWhole_whole _) (Memref.whole main_v0_0_scv) (Memref.isWhole_whole _) (Memref.whole main_v0_1_scv) (Memref.isWhole_whole _) (Memref.whole main_v0_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scoped0)
          fun _ => iprop(td0 m d (wid i) ∗ scopedBufs (c0 d i) ∗ scopedSems0 (c0 d i)
            ∗ ∃ W', ⌜∀ p ∈ W', p ∈ W ∨ p.2 = none⌝ ∗ owes (c0 d i) O W') := by
  rw [(K (F := F)).scopedBufs_V hF d ((i 0).castLE hcore0) ((i 1).castLE hsub0),
    SparseCore.Cfg.scopedSems0_V (Val := Elt F) d ((i 0).castLE hcore0) ((i 1).castLE hsub0), ownSems_0, ownBufs0]
  unfold go0 td0
  iintro ⟨#Hlv, -, ⟨Hv, Hi, ⟨%g0, H0⟩, ⟨%g1, H1⟩, ⟨%g6, H6⟩⟩, ⟨B0, B1, B2, B3, B4, B5, B6, B7, HB⟩, ⟨S0, S1, S2, HS⟩, HO⟩
  ihave B0 := (any_in (c := c0 d i) (Memref.whole cc0_scratch0)) $$ B0
  ihave B1 := (any_in (c := c0 d i) (Memref.whole cc0_scratch1)) $$ B1
  ihave B2 := (any_in (c := c0 d i) (Memref.whole cc0_scratch2)) $$ B2
  ihave B3 := (any_in (c := c0 d i) (Memref.whole cc0_scratch3)) $$ B3
  ihave B4 := (any_in (c := c0 d i) (Memref.whole cc0_scratch4)) $$ B4
  ihave B5 := (any_in (c := c0 d i) (Memref.whole cc0_scratch5)) $$ B5
  ihave B6 := (any_in (c := c0 d i) (Memref.whole cc0_scratch6)) $$ B6
  ihave B7 := (any_in (c := c0 d i) (Memref.whole cc0_scratch7)) $$ B7
  iapply (wp_wand frame _ _) $$ [Hv Hi H0 H1 H6 B0 B1 B2 B3 B4 B5 B6 B7 S0 S1 S2 HO]
  · iapply (wp_partition d i (Memref.whole main_arg0_scv) (Memref.isWhole_whole _) (Memref.whole main_arg1_scv) (Memref.isWhole_whole _) (Memref.whole main_v0_0_scv) (Memref.isWhole_whole _) (Memref.whole main_v0_1_scv) (Memref.isWhole_whole _) (Memref.whole main_v0_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scoped0 (I := idxAt m d) (V := valAt m d) (q := Transfers.shareTokN fullShare (wid i)) (f2 := m (valLoc d)) (f3 := m (idxLoc d)) (g6 := g6) (O := O) (W := W)
      (fun j => idxAt_read m d j) (fun j => valAt_read m d j) (fun n _ _ => hI n))
    rw [tileWords_fcnt]
    unfold Fresh Owe
    rw [tileCols_sidx, tileCols_sval]
    isplitl [B0 B1 B2 H0 H1 S0]
    · isplitl [B0]; · iexact B0
      isplitl [B1]; · iexact B1
      isplitl [B2]; · iexact B2
      isplitl [H0]; · iexists g0; iexact H0
      isplitl [H1]; · iexists g1; iexact H1
      iexact S0
    isplitl [B3 B4 B5 B6]
    · isplitl [B3]; · iexact B3
      isplitl [B4]; · iexact B4
      isplitl [B5]; · iexact B5
      iexact B6
    isplitl [B7]; · iexact B7
    isplitl [H6]; · iexact H6
    isplitl [S2]; · iexact S2
    isplitl [Hi]; · iexact Hi
    isplitl [Hv]; · iexact Hv
    isplitl [S1]; · iexact S1
    isplitr; · iapply ((K (F := F)).mayWaits_none (thr := c0 d i) hO); iexact Hlv
    iexists W
    isplitr; · ipureintro; exact fun p hp => .inl hp
    iexact HO
  iintro %r ⟨%nf, %g0, %g1, %g6, %hd, ⟨B0, B1, B2, B3, B4, B5, B6, B7⟩, H0, H1, H6, ⟨S0, S1, S2⟩, -, -, HO⟩
  rw [tileWords_fcnt, tileCols_sidx, tileCols_sval]
  ihave B0 := (any_out (c := c0 d i) (Memref.whole cc0_scratch0)) $$ B0
  ihave B1 := (any_out (c := c0 d i) (Memref.whole cc0_scratch1)) $$ B1
  ihave B2 := (any_out (c := c0 d i) (Memref.whole cc0_scratch2)) $$ B2
  ihave B3 := (any_out (c := c0 d i) (Memref.whole cc0_scratch3)) $$ B3
  ihave B4 := (any_out (c := c0 d i) (Memref.whole cc0_scratch4)) $$ B4
  ihave B5 := (any_out (c := c0 d i) (Memref.whole cc0_scratch5)) $$ B5
  ihave B6 := (any_out (c := c0 d i) (Memref.whole cc0_scratch6)) $$ B6
  ihave B7 := (any_out (c := c0 d i) (Memref.whole cc0_scratch7)) $$ B7
  unfold Owe
  icases HO with ⟨-, HO⟩
  isplitl [H0 H1 H6]
  · iexists nf, g0, g1, g6
    isplitr; · ipureintro; exact hd
    isplitl [H0]; · iexact H0
    isplitl [H1]; · iexact H1
    iexact H6
  isplitl [B0 B1 B2 B3 B4 B5 B6 B7 HB]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact HB
  isplitl [S0 S1 S2 HS]
  · isplitl [S0]; · iexact S0
    isplitl [S1]; · iexact S1
    isplitl [S2]; · iexact S2
    iexact HS
  iexact HO

/-- Eight pieces, written out. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem piece_eq (d : Dev nD) (i : grid1.Coords) (b : ℕ) :
    (iprop(∃ g, outLoc d ↦[blk b]{fullShare} g) : sProp 𝕄)
      = Piece (F := F) (c := c1 d i) (Memref.whole main_v3_scv : Memref sig .scVector .hbm S13107200 .f32) b := by
  unfold Piece; rw [blockWords_out]

theorem block_eq (d : Dev nD) (i : grid1.Coords) (b : ℕ) :
    blockDone m d b = Block (idxAt m d) (valAt m d) (Good m d) (c := c1 d i) (Memref.whole main_v3_scv : Memref sig .scVector .hbm S13107200 .f32) b := by
  unfold Block blockDone; rw [blockWords_out]; rfl

/-- The assemble task. -/
theorem task1 (d : Dev nD) (i : grid1.Coords) (hF : (K (F := F)).Facts) (O : CellTallies nD τ sig (HIx 2)) (W : Waits sig (HIx 2)) (hO : ∀ g, O g none = 0) :
    iprop(levAts (K (F := F)).L (K (F := F)).lev ∗ emp ∗ go1 m d (wid1 i)
        ∗ scopedBufs (c1 d i) ∗ scopedSems0 (c1 d i) ∗ owes (c1 d i) O W)
      ⊢ wp frame (wpE (defs₀ (F := F)) 𝒱₀ (c1 d i) none) Set.univ
          (cc1__assemble i (Memref.whole main_v1_scv) (Memref.isWhole_whole _) (Memref.whole main_v2_scv) (Memref.isWhole_whole _) (Memref.whole main_v0_2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0)
          fun _ => iprop(td1 m d (wid1 i) ∗ scopedBufs (c1 d i) ∗ scopedSems0 (c1 d i)
            ∗ ∃ W', ⌜∀ p ∈ W', p ∈ W ∨ p.2 = none⌝ ∗ owes (c1 d i) O W') := by
  rw [(K (F := F)).scopedBufs_V hF d ((i 0).castLE hcore1) ((i 1).castLE hsub1),
    SparseCore.Cfg.scopedSems0_V (Val := Elt F) d ((i 0).castLE hcore1) ((i 1).castLE hsub1), ownSems_1, ownBufs1]
  unfold go1 td1
  rw [bigSep_eight, bigSep_eight]
  simp only [piece_eq d i, block_eq m d i]
  iintro ⟨#Hlv, -, ⟨%f2, %f3, %f4, %hr, Ha0, Hb0, Ha1, Hb1, Hc, ⟨P0, P1, P2, P3, P4, P5, P6, P7⟩⟩, ⟨B0, B1, B2, B3, B4, B5, B6, HB⟩, ⟨S0, S1, S2, S3, S4, HS⟩, HO⟩
  obtain ⟨nf, A, E, hK, hcs⟩ := hr
  ihave B0 := (any_in (c := c1 d i) (Memref.whole cc1_scratch0)) $$ B0
  ihave B1 := (any_in (c := c1 d i) (Memref.whole cc1_scratch1)) $$ B1
  ihave B2 := (any_in (c := c1 d i) (Memref.whole cc1_scratch2)) $$ B2
  ihave B3 := (any_in (c := c1 d i) (Memref.whole cc1_scratch3)) $$ B3
  ihave B4 := (any_in (c := c1 d i) (Memref.whole cc1_scratch4)) $$ B4
  ihave B5 := (any_in (c := c1 d i) (Memref.whole cc1_scratch5)) $$ B5
  ihave B6 := (any_in (c := c1 d i) (Memref.whole cc1_scratch6)) $$ B6
  iapply (wp_wand frame _ _) $$ [Ha0 Hb0 Ha1 Hb1 Hc P0 P1 P2 P3 P4 P5 P6 P7 B0 B1 B2 B3 B4 B5 B6 S0 S1 S2 S3 S4 HO]
  · iapply (wp_assemble d i (Memref.whole main_v1_scv) (Memref.isWhole_whole _) (Memref.whole main_v2_scv) (Memref.isWhole_whole _) (Memref.whole main_v0_2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0 (I := idxAt m d) (V := valAt m d) (G := Good m d) (nf := nf) (A := A) (E := E)
      (q0 := Transfers.shareTokN fullShare (2 * wid1 i)) (q1 := Transfers.shareTokN fullShare (2 * wid1 i + 1)) (q4 := Transfers.shareTokN fullShare (wid1 i))
      (f2 := f2) (f3 := f3) (f4 := f4) (O := O) (W := W) hK hcs)
    unfold Tok Owe
    isplitl [B6]; · iexact B6
    isplitl [Hc]; · iexact Hc
    isplitl [S4]; · iexact S4
    isplitl [B2 B3]; · isplitl [B2] <;> iassumption
    isplitl [Ha0 Hb0 S0]
    · isplitl [Ha0]; · iexact Ha0
      isplitl [Hb0]; · iexact Hb0
      iexact S0
    isplitl [B4 B5]; · isplitl [B4] <;> iassumption
    isplitl [Ha1 Hb1 S1]
    · isplitl [Ha1]; · iexact Ha1
      isplitl [Hb1]; · iexact Hb1
      iexact S1
    isplitl [B0]; · iexact B0
    isplitl [S2]; · iexact S2
    isplitl [B1]; · iexact B1
    isplitl [S3]; · iexact S3
    isplitl [HO]
    · isplitr; · iapply ((K (F := F)).mayWaits_none (thr := c1 d i) hO); iexact Hlv
      iexists W
      isplitr; · ipureintro; exact fun p hp => .inl hp
      iexact HO
    isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  unfold Tok Owe
  iintro %r ⟨-, S4, ⟨B2, B3⟩, ⟨-, -, S0⟩, ⟨B4, B5⟩, ⟨-, -, S1⟩, B0, S2, B1, S3, B6, ⟨-, HO⟩, P0, P1, P2, P3, P4, P5, P6, P7⟩
  ihave B0 := (any_out (c := c1 d i) (Memref.whole cc1_scratch0)) $$ B0
  ihave B1 := (any_out (c := c1 d i) (Memref.whole cc1_scratch1)) $$ B1
  ihave B2 := (any_out (c := c1 d i) (Memref.whole cc1_scratch2)) $$ B2
  ihave B3 := (any_out (c := c1 d i) (Memref.whole cc1_scratch3)) $$ B3
  ihave B4 := (any_out (c := c1 d i) (Memref.whole cc1_scratch4)) $$ B4
  ihave B5 := (any_out (c := c1 d i) (Memref.whole cc1_scratch5)) $$ B5
  ihave B6 := (any_out (c := c1 d i) (Memref.whole cc1_scratch6)) $$ B6
  isplitl [P0 P1 P2 P3 P4 P5 P6 P7]
  · isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  isplitl [B0 B1 B2 B3 B4 B5 B6 HB]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact HB
  isplitl [S0 S1 S2 S3 S4 HS]
  · isplitl [S0]; · iexact S0
    isplitl [S1]; · iexact S1
    isplitl [S2]; · iexact S2
    isplitl [S3]; · iexact S3
    isplitl [S4]; · iexact S4
    iexact HS
  iexact HO

/-! ## The launch theorem's obligations -/

/-- A task's grid point as its body table hands it over. -/
def coords (c : Fin (grid0.bound 0)) (s : Fin (grid0.bound 1)) : grid0.Coords :=
  fun | 0 => c | 1 => s | ⟨_ + 2, h⟩ => absurd h (Nat.not_lt.2 (Nat.le_add_left _ _))
def coords' (c : Fin (grid1.bound 0)) (s : Fin (grid1.bound 1)) : grid1.Coords :=
  fun | 0 => c | 1 => s | ⟨_ + 2, h⟩ => absurd h (Nat.not_lt.2 (Nat.le_add_left _ _))

theorem body_zero (c : Fin τ.nSC) (s : Fin τ.nSub) :
    defs₀ (F := F) (.scVector c s) 0 ()
      = SparseCore.onTile hcore0 hsub0 (fun c s => cc0__partition (coords c s) (Memref.whole main_arg0_scv) (Memref.isWhole_whole _) (Memref.whole main_arg1_scv) (Memref.isWhole_whole _) (Memref.whole main_v0_0_scv) (Memref.isWhole_whole _) (Memref.whole main_v0_1_scv) (Memref.isWhole_whole _) (Memref.whole main_v0_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scoped0) ⟨⟩ c s := rfl

theorem body_one (c : Fin τ.nSC) (s : Fin τ.nSub) :
    defs₀ (F := F) (.scVector c s) 1 ()
      = SparseCore.onTile hcore1 hsub1 (fun c s => cc1__assemble (coords' c s) (Memref.whole main_v1_scv) (Memref.isWhole_whole _) (Memref.whole main_v2_scv) (Memref.isWhole_whole _) (Memref.whole main_v0_2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scoped0) ⟨⟩ c s := rfl

theorem waits_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'; isplitr
  · ipureintro; exact fun p hp => (hW p hp).imp_right .inl
  iexact HO

theorem tileObl0 (hI : ∀ d n, (idxAt m d n).toNat < 13107200) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [body_zero]
  simp only [SparseCore.onTile, hc, and_self, ↓reduceDIte]
  exact (task0 m d (coords ⟨_, hc.1⟩ ⟨_, hc.2⟩) (hI d) facts O W hO).trans (wp_mono frame _ _ fun _ => waits_post)

theorem tileObl1  : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [body_one]
  simp only [SparseCore.onTile, hc, and_self, ↓reduceDIte]
  exact (task1 m d (coords' ⟨_, hc.1⟩ ⟨_, hc.2⟩) facts O W hO).trans (wp_mono frame _ _ fun _ => waits_post)

end Cert.Proof.SC

end
-- ==== Proof.Pre.lean ====
/-
  What the two printed predicates say: every index is inside the result; and, of the second, no third of a tile's stretch of the
  arrays holds ninety-five indices of one bucket.
-/
module

public import proofs.«01_k».proof.Proof.Scat
public import proofs.«01_k».proof.Proof.Tasks
public import proofs.«01_k».proof.Proof.Gen.Pre_in_range
public import proofs.«01_k».proof.Proof.Gen.Pre_spread

@[expose] public section

noncomputable section

namespace Cert.Proof.SC

open Idealize.ShloMosaic Idealize.ShloMosaic.ValueIdx

variable {F : FTy → Type} [FloatOps F]

instance : Subsingleton (⟨0, ![]⟩ : Shape).Idx := ⟨fun a b => funext fun x => x.elim0⟩

theorem of_in_range (a0 : FVec F Cert.Pre_in_range.S1310720 .f32) (a1 : IVec Cert.Pre_in_range.S1310720 32)
    (h : Cert.Pre_in_range.fn (F := F) a0 a1 = fun _ => 1#1) (j : Cert.Pre_in_range.S1310720.Idx) : (a1 j).toNat < 13107200 :=
  range_word _ (Host.reduce_andi_all _ _ _ _ ix0 (congrFun h ix0) j)

/-- The third and the bucket of element `n`, as one number. -/
def cellOf (I : ℕ → BitVec 32) (n : ℕ) : ℕ := n * 3 / 40960 * 256 + bkt (I n)

/-- The printed word of it, -/
def cellWord (a1 : IVec Cert.Pre_spread.S1310720 32) (j : Cert.Pre_spread.S1310720.Idx) : BitVec 32 :=
  IntOp.addi (IntOp.muli (IntOp.divsi .host (IntOp.muli (BitVec.ofNat 32 (j 0).val) 3#32) 40960#32) 256#32) (IntOp.divsi .host (a1 j) 51200#32)
/-- and the same behind the select that wraps a negative one. -/
def wrapped (a1 : IVec Cert.Pre_spread.S1310720 32) (j : Cert.Pre_spread.S1310720.Idx) : BitVec 32 :=
  Scalar.select (IntOp.cmpi .slt (cellWord a1 j) 0#32) (IntOp.addi (cellWord a1 j) 24576#32) (cellWord a1 j)

theorem of_spread (a0 : FVec F Cert.Pre_spread.S1310720 .f32) (a1 : IVec Cert.Pre_spread.S1310720 32)
    (h : Cert.Pre_spread.fn (F := F) a0 a1 = fun _ => 1#1) (I : ℕ → BitVec 32) (hI : ∀ j, a1 j = I (j 0).val) :
    (∀ j, (a1 j).toNat < 13107200) ∧ ∀ c < 24576, ((Finset.range 1310720).filter fun n => cellOf I n = c).card < 95 := by
  have h0 := congrFun h ix0
  unfold Cert.Pre_spread.fn Cert.Pre_spread.fn_part1 at h0
  obtain ⟨h1, h2⟩ := IntOp.andi_eq_one.1 h0
  have hr : ∀ j, (a1 j).toNat < 13107200 := fun j => range_word _ (Host.reduce_andi_all _ _ _ _ ix0 h1 j)
  refine ⟨hr, fun c hc => ?_⟩
  have hcell := Host.reduce_andi_all _ _ _ _ ix0 h2 (ix1 (⟨c, hc⟩ : Fin 24576))
  have hword : ∀ e : Fin 1310720, (cellWord a1 (ix1 e)).toNat = cellOf I e.val := fun e =>
    (cell_word e.val e.isLt _ (hr _)).trans (by rw [hI]; rfl)
  have hlt : ∀ e : Fin 1310720, cellOf I e.val < 2 ^ 31 := fun e => by
    have h' : (I e.val).toNat < 13107200 := by
      have := hr (ix1 e); rw [hI] at this; exact this
    have := e.isLt
    unfold cellOf bkt
    omega
  have hs := scatter_count Cert.Pre_spread.scatter_S24576_S1310720x1_S1310720_n_0_0_1 rfl rfl rfl
    (broadcastInDim Cert.Pre_spread.S24576 ![] Cert.Pre_spread.Facts.bcast_S_S24576 (constantI Cert.Pre_spread.S_ 32 0#32))
    (broadcastInDim Cert.Pre_spread.S1310720x1 ![0] Cert.Pre_spread.Facts.bcast_S1310720_S1310720x1_0 (wrapped a1))
    (broadcastInDim Cert.Pre_spread.S1310720 ![] Cert.Pre_spread.Facts.bcast_S_S1310720 (constantI Cert.Pre_spread.S_ 32 1#32)) (cellOf I)
    (fun _ => rfl) (fun e => by
      rw [column_apply]
      unfold wrapped
      rw [Routing.wrap_of_lt]
      · exact hword e
      · exact lt_of_eq_of_lt (hword e) (hlt e)) (fun _ => rfl) hlt (⟨c, hc⟩ : Fin 24576)
  have hfin : IntOp.cmpi .slt (BitVec.ofNat 32 ((Finset.range 1310720).filter fun n => cellOf I n = c).card) 95#32 = 1#1 := by
    rw [← hs]
    exact hcell
  have hcard : ((Finset.range 1310720).filter fun n => cellOf I n = c).card ≤ 1310720 :=
    le_of_le_of_eq (Finset.card_filter_le _ _) (Finset.card_range _)
  have h95 := (StableHlo.Predicate.slt_iff_toNat (by rw [BitVec.toNat_ofNat]; omega) (by decide)).1 hfin
  rw [BitVec.toNat_ofNat, show (95#32 : BitVec 32).toNat = 95 from rfl] at h95
  omega

/-- Then every tile's stretch splits into its three thirds. -/
theorem thirds_of_spread (I : ℕ → BitVec 32) (h : ∀ c < 24576, ((Finset.range 1310720).filter fun n => cellOf I n = c).card < 95)
    (s : ℕ) (hs : s < 32) : Thirds I (s * 40960) := by
  have key : ∀ (k lo hi b : ℕ), k < 96 → b < 256 → hi ≤ 1310720 → (∀ n, lo ≤ n → n < hi → n * 3 / 40960 = k) → cnt I b lo hi < 95 := by
    intro k lo hi b hk hb hhi hn
    refine lt_of_le_of_lt (Finset.card_le_card fun n hm => ?_) (h (k * 256 + b) (by omega))
    rw [Finset.mem_filter, Finset.mem_Ico] at hm
    rw [Finset.mem_filter, Finset.mem_range]
    refine ⟨by omega, ?_⟩
    unfold cellOf
    rw [hn n hm.1.1 hm.1.2, hm.2]
  refine ⟨s * 40960 + 13654, s * 40960 + 27307, fun b hb => ⟨?_, ?_, ?_⟩⟩
  · exact key (s * 3) _ _ b (by omega) hb (by omega) fun n h1 h2 => by omega
  · exact key (s * 3 + 1) _ _ b (by omega) hb (by omega) fun n h1 h2 => by omega
  · exact key (s * 3 + 2) _ _ b (by omega) hb (by omega) fun n h1 h2 => by omega

end Cert.Proof.SC

end
-- ==== Proof.Gather.lean ====
/-
  How the TensorCore splits its arrays among the tiles of each call and what it has of them afterwards.
-/
module

public import proofs.«01_k».proof.Proof.Tasks
public import Idealize.ShloMosaic.Lib.Pipeline.Value

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable [FloatOps F] (m : (ℓ : Loc nD τ sig) → Buf (Elt F) ℓ)

theorem bigSep_imp {I : Type} {s : Finset I} {Φ Ψ : I → sProp 𝕄} (h : ∀ i ∈ s, Φ i ⊢ Ψ i) : bigSep s Φ ⊢ bigSep s Ψ := bigSep_mono h

theorem bigSep_some {I : Type} {s : Finset I} {ℓ : Loc nD τ sig} (S : I → Finset (Idx ℓ)) (g : Buf (Elt F) ℓ) :
    (bigSep s fun i => ℓ ↦[S i]{fullShare} g : sProp 𝕄) ⊢ bigSep s fun i => iprop(∃ g, ℓ ↦[S i]{fullShare} g) :=
  bigSep_imp fun i _ => by iintro H; iexists g; iexact H

theorem cut_eq {n : ℕ} {ℓ : Loc nD τ sig} (S : ℕ → Finset (Idx ℓ)) (hd : ∀ t ∈ Finset.range n, ∀ t' ∈ Finset.range n, t ≠ t' → Disjoint (S t) (S t'))
    (ha : (Finset.range n).biUnion S = Finset.univ) (g : Buf (Elt F) ℓ) :
    (ℓ ↦{fullShare} g : sProp 𝕄) = bigSep (Finset.range n) fun w => ℓ ↦[S w]{fullShare} g := by
  rw [← ha, pointsTo_biUnion _ _ hd]

theorem bigSep_cut {n : ℕ} {ℓ : Loc nD τ sig} (S : ℕ → Finset (Idx ℓ)) (hd : ∀ t ∈ Finset.range n, ∀ t' ∈ Finset.range n, t ≠ t' → Disjoint (S t) (S t'))
    (ha : (Finset.range n).biUnion S = Finset.univ) (g : Buf (Elt F) ℓ) :
    (ℓ ↦{fullShare} g : sProp 𝕄) ⊢ bigSep (Finset.range n) fun w => iprop(∃ g, ℓ ↦[S w]{fullShare} g) := by
  rw [cut_eq S hd ha g]
  exact bigSep_some S g

/-! ## Ranges as pairs -/

/-- What is had for each of `a * b` numbers is had for each pair. -/
theorem bigSep_pairs (a b : ℕ) (Φ : ℕ → sProp 𝕄) :
    bigSep (Finset.range (a * b)) Φ = bigSep Finset.univ fun x : Fin a => bigSep Finset.univ fun y : Fin b => Φ (x.val * b + y.val) := by
  have h : ∀ n, bigSep (Finset.range n) Φ = bigSep Finset.univ fun i : Fin n => Φ i.val := fun n => by
    rw [← Nat.Iio_eq_range, ← Fin.map_valEmbedding_univ, bigSep_map]; rfl
  rw [h, bigSep_univ_equiv finProdFinEquiv, bigSep_univ_prod]
  refine bigSep_congr fun x _ => bigSep_congr fun y _ => ?_
  show Φ (y.val + b * x.val) = Φ (x.val * b + y.val)
  rw [Nat.add_comm, Nat.mul_comm]

/-- The tiles, core by core. -/
theorem bigSep_tiles (Φ : ℕ → sProp 𝕄) :
    bigSep (Finset.range 32) Φ = bigSep Finset.univ fun c : Fin 2 => bigSep Finset.univ fun i : Fin 16 => Φ (i.val * 2 + c.val) := by
  rw [show 32 = 16 * 2 from rfl, bigSep_pairs, bigSep_univ_comm]

/-- The blocks, tile by tile. -/
theorem bigSep_blocks (Φ : ℕ → sProp 𝕄) :
    bigSep (Finset.range 256) Φ = bigSep (Finset.range 32) fun w => bigSep Finset.univ fun k : Fin 8 => Φ (w * 8 + k.val) := by
  have h : ∀ Ψ : ℕ → sProp 𝕄, bigSep (Finset.range 32) Ψ = bigSep Finset.univ fun i : Fin 32 => Ψ i.val := fun Ψ => by
    rw [← Nat.Iio_eq_range, ← Fin.map_valEmbedding_univ, bigSep_map]; rfl
  rw [show 256 = 32 * 8 from rfl, bigSep_pairs, h]

/-! ## The pieces are disjoint and all there is -/

theorem cols_disj : ∀ t ∈ Finset.range 32, ∀ t' ∈ Finset.range 32, t ≠ t' → Disjoint (cols t) (cols t') := by
  intro t _ t' _ h
  refine Finset.disjoint_left.mpr fun j hj hj' => ?_
  have h1 := (Finset.mem_filter.mp hj).2
  have h2 := (Finset.mem_filter.mp hj').2
  omega

theorem cols_all : (Finset.range 32).biUnion cols = Finset.univ := by
  refine Finset.eq_univ_of_forall fun j => Finset.mem_biUnion.mpr ⟨(j 1).val / 384, Finset.mem_range.mpr ?_, Finset.mem_filter.mpr ⟨Finset.mem_univ _, ?_⟩⟩
  · have : (j 1).val < 12288 := (j 1).isLt
    omega
  · omega

theorem words_disj : ∀ t ∈ Finset.range 32, ∀ t' ∈ Finset.range 32, t ≠ t' → Disjoint (words t) (words t') := by
  intro t _ t' _ h
  refine Finset.disjoint_left.mpr fun j hj hj' => ?_
  have h1 := (Finset.mem_filter.mp hj).2
  have h2 := (Finset.mem_filter.mp hj').2
  omega

theorem words_all : (Finset.range 32).biUnion words = Finset.univ := by
  refine Finset.eq_univ_of_forall fun j => Finset.mem_biUnion.mpr ⟨(j 0).val / 16, Finset.mem_range.mpr ?_, Finset.mem_filter.mpr ⟨Finset.mem_univ _, ?_⟩⟩
  · have : (j 0).val < 512 := (j 0).isLt
    omega
  · omega

theorem blk_disj : ∀ t ∈ Finset.range 256, ∀ t' ∈ Finset.range 256, t ≠ t' → Disjoint (blk t) (blk t') := by
  intro t _ t' _ h
  refine Finset.disjoint_left.mpr fun j hj hj' => ?_
  have h1 := (Finset.mem_filter.mp hj).2
  have h2 := (Finset.mem_filter.mp hj').2
  omega

theorem blk_all : (Finset.range 256).biUnion blk = Finset.univ := by
  refine Finset.eq_univ_of_forall fun j => Finset.mem_biUnion.mpr ⟨(j 0).val / 51200, Finset.mem_range.mpr ?_, Finset.mem_filter.mpr ⟨Finset.mem_univ _, ?_⟩⟩
  · have : (j 0).val < 13107200 := (j 0).isLt
    omega
  · omega

/-! ## The first call -/

/-- The tiles' operands: the TensorCore keeps a share of each argument. -/
theorem split0 (d : Dev nD) (g0 : Buf (Elt F) (sidxLoc d)) (g1 : Buf (Elt F) (svalLoc d)) (g6 : Buf (Elt F) (fcntLoc d)) :
    iprop((valLoc d ↦{fullShare} m (valLoc d)) ∗ (idxLoc d ↦{fullShare} m (idxLoc d))
        ∗ (sidxLoc d ↦{fullShare} g0) ∗ (svalLoc d ↦{fullShare} g1) ∗ (fcntLoc d ↦{fullShare} g6))
      ⊢ (iprop((valLoc d ↦{Transfers.shareDrop fullShare 32} m (valLoc d)) ∗ (idxLoc d ↦{Transfers.shareDrop fullShare 32} m (idxLoc d))
        ∗ bigSep Finset.univ fun c : Fin 2 => bigSep Finset.univ fun i : Fin 16 => go0 m d (i.val * 2 + c.val)) : sProp 𝕄) := by
  rw [← bigSep_tiles (go0 m d)]
  unfold go0
  rw [bigSep_sep', bigSep_sep', bigSep_sep', bigSep_sep']
  iintro ⟨Hv, Hi, H0, H1, H6⟩
  ihave Hv := (Transfers.pointsTo_toks_range fullShare 32).1 $$ Hv
  ihave Hi := (Transfers.pointsTo_toks_range fullShare 32).1 $$ Hi
  icases Hv with ⟨Hv, Hvs⟩
  icases Hi with ⟨Hi, His⟩
  isplitl [Hv]; · iexact Hv
  isplitl [Hi]; · iexact Hi
  isplitl [Hvs]; · iexact Hvs
  isplitl [His]; · iexact His
  isplitl [H0]
  · iapply (bigSep_cut (n := 32) (ℓ := sidxLoc d) cols cols_disj cols_all g0) $$ H0
  isplitl [H1]
  · iapply (bigSep_cut (n := 32) (ℓ := svalLoc d) cols cols_disj cols_all g1) $$ H1
  · iapply (bigSep_cut (n := 32) (ℓ := fcntLoc d) words words_disj words_all g6) $$ H6

/-- What a tile left is what any array with its columns and words has. -/
theorem Filled.congr {d : Dev nD} {w nf : ℕ} {y0 g0 : S256x12288.Idx → BitVec 32} {y1 g1 : S256x12288.Idx → Elt F .f32} {y6 g6 : S512.Idx → BitVec 32}
    (h : Filled m d w nf y0 y1 y6) (h0 : ∀ j ∈ cols w, g0 j = y0 j) (h1 : ∀ j ∈ cols w, g1 j = y1 j) (h6 : ∀ j ∈ words w, g6 j = y6 j) :
    Filled m d w nf g0 g1 g6 := by
  obtain ⟨⟨A, E, hd⟩, hw⟩ := h
  refine ⟨⟨A, E, hd.pos, hd.le, fun k hk => ?_, hd.chain⟩, fun j a b => ?_⟩
  · have hk3 : k < 3 := lt_of_lt_of_le hk hd.le
    obtain ⟨ha, he, hs⟩ := hd.slot k hk
    refine ⟨ha, he, hs.le, hs.small, fun j hj => ?_, fun n a b j hj0 hj1 => ?_⟩
    · rw [h0 j (Finset.mem_filter.mpr ⟨Finset.mem_univ _, by omega⟩)]
      exact hs.num j hj
    · have hb : bkt (idxAt m d n) < 256 := hj0 ▸ (j 0).isLt
      have hc := hs.small _ hb
      have hc' : cnt (idxAt m d) (bkt (idxAt m d n)) (A k) n ≤ 126 := le_trans (cnt_mono b.le) hc
      have hj : j ∈ cols w := Finset.mem_filter.mpr ⟨Finset.mem_univ _, by omega⟩
      rw [h0 j hj, h1 j hj]
      exact hs.els n a b j hj0 hj1
  · rw [h6 j (Finset.mem_filter.mpr ⟨Finset.mem_univ _, a, b⟩)]
    exact hw j a b

/-- The tiles' results are three whole arrays, filled by every tile. -/
theorem join0 (d : Dev nD) :
    (bigSep Finset.univ fun c : Fin 2 => bigSep Finset.univ fun i : Fin 16 => td0 m d (i.val * 2 + c.val))
      ⊢ (iprop(∃ (nf : ℕ → ℕ) (g0 : Buf (Elt F) (sidxLoc d)) (g1 : Buf (Elt F) (svalLoc d)) (g6 : Buf (Elt F) (fcntLoc d)),
        ⌜∀ w < 32, Filled m d w (nf w) g0 g1 g6⌝
        ∗ (sidxLoc d ↦{fullShare} g0) ∗ (svalLoc d ↦{fullShare} g1) ∗ (fcntLoc d ↦{fullShare} g6)) : sProp 𝕄) := by
  rw [← bigSep_tiles (td0 m d)]
  let Y : Type := ℕ × Buf (Elt F) (sidxLoc d) × Buf (Elt F) (svalLoc d) × Buf (Elt F) (fcntLoc d)
  let Z : ℕ → Y → sProp 𝕄 := fun w y => iprop(⌜Filled m d w y.1 y.2.1 y.2.2.1 y.2.2.2⌝
    ∗ (sidxLoc d ↦[cols w]{fullShare} y.2.1) ∗ (svalLoc d ↦[cols w]{fullShare} y.2.2.1) ∗ (fcntLoc d ↦[words w]{fullShare} y.2.2.2))
  haveI : Nonempty Y := ⟨(0, m (sidxLoc d), m (svalLoc d), m (fcntLoc d))⟩
  have h : ∀ w, td0 m d w ⊢ iprop(∃ y, Z w y) := fun w => by
    unfold td0
    iintro ⟨%nf, %g0, %g1, %g6, H⟩
    iexists (nf, g0, g1, g6)
    iexact H
  have hj : bigSep (Finset.range 32) (td0 m d) ⊢ iprop(∃ y : ℕ → Y, bigSep (Finset.range 32) fun w => Z w (y w)) :=
    (bigSep_imp fun w _ => h w).trans (bigSep_exists_pi (Finset.range 32) fun w y => Z w y)
  iintro H
  ihave H := hj $$ H
  icases H with ⟨%y, H⟩
  ihave H := (show bigSep (Finset.range 32) (fun w => Z w (y w)) ⊢ (iprop(⌜∀ w ∈ Finset.range 32, Filled m d w (y w).1 (y w).2.1 (y w).2.2.1 (y w).2.2.2⌝
      ∗ (bigSep (Finset.range 32) fun w => sidxLoc d ↦[cols w]{fullShare} (y w).2.1)
      ∗ (bigSep (Finset.range 32) fun w => svalLoc d ↦[cols w]{fullShare} (y w).2.2.1)
      ∗ (bigSep (Finset.range 32) fun w => fcntLoc d ↦[words w]{fullShare} (y w).2.2.2)) : sProp 𝕄) by
    show bigSep (Finset.range 32) (fun w => iprop(⌜Filled m d w (y w).1 (y w).2.1 (y w).2.2.1 (y w).2.2.2⌝ ∗ _)) ⊢ _
    refine (bigSep_pure_sep _ _ _).trans ?_
    rw [bigSep_sep', bigSep_sep']) $$ H
  icases H with ⟨%hf, H0, H1, H6⟩
  ihave H0 := (pointsTo_biUnion_join (Finset.range 32) cols (fun w => (y w).2.1) (m (sidxLoc d)) cols_disj) $$ H0
  ihave H1 := (pointsTo_biUnion_join (Finset.range 32) cols (fun w => (y w).2.2.1) (m (svalLoc d)) cols_disj) $$ H1
  ihave H6 := (pointsTo_biUnion_join (Finset.range 32) words (fun w => (y w).2.2.2) (m (fcntLoc d)) words_disj) $$ H6
  icases H0 with ⟨%g0, %h0, H0⟩
  icases H1 with ⟨%g1, %h1, H1⟩
  icases H6 with ⟨%g6, %h6, H6⟩
  rw [cols_all, words_all]
  iexists fun w => (y w).1, g0, g1, g6
  isplitr
  · ipureintro
    intro w hw
    have hw' := Finset.mem_range.mpr hw
    exact (hf w hw').congr m (h0 w hw') (h1 w hw') (h6 w hw')
  isplitl [H0]; · iexact H0
  isplitl [H1]; · iexact H1
  iexact H6

/-! ## Between the calls -/

/-- Row `b`, column `c`. -/
def cell (b c : ℕ) (hb : b < 256) (hc : c < 12288) : S256x12288.Idx := fun | 0 => ⟨b, hb⟩ | 1 => ⟨c, hc⟩
theorem cell_zero (b c : ℕ) (hb : b < 256) (hc : c < 12288) : (cell b c hb hc 0).val = b := rfl
theorem cell_one (b c : ℕ) (hb : b < 256) (hc : c < 12288) : (cell b c hb hc 1).val = c := rfl

/-- Filled arrays, flattened, are what the second call reads. -/
theorem Ready.of {d : Dev nD} {nf : ℕ → ℕ} {g0 : S256x12288.Idx → BitVec 32} {g1 : S256x12288.Idx → Elt F .f32} {g6 : S512.Idx → BitVec 32}
    (hf : ∀ w < 32, Filled m d w (nf w) g0 g1 g6) :
    Ready m d (shapeCast S3145728 g0 shapeCasts_S256x12288_S3145728) (shapeCast S3145728 g1 shapeCasts_S256x12288_S3145728) g6 := by
  have h : ∀ w, ∃ A E, w < 32 → DoneAt (idxAt m d) (valAt m d) w (w * 40960) (nf w) g0 g1 A E := fun w => by
    by_cases hw : w < 32
    · obtain ⟨⟨A, E, h⟩, -⟩ := hf w hw
      exact ⟨A, E, fun _ => h⟩
    · exact ⟨fun _ => 0, fun _ => 0, fun h => absurd h hw⟩
  choose A E hd using h
  have hc : ∀ {α : Type} (g : S256x12288.Idx → α) (j : S3145728.Idx) (b c : ℕ) (hb : b < 256) (hc : c < 12288), (j 0).val = b * 12288 + c →
      shapeCast S3145728 g shapeCasts_S256x12288_S3145728 j = g (cell b c hb hc) := fun g j b c hb hc e => by
    refine shapeCast_apply g _ j (cell b c hb hc) ?_
    rw [Shape.rowMajor_val_one, Shape.rowMajor_val_two]
    rw [cell_zero, cell_one]
    exact e.symm
  refine ⟨nf, A, E, ⟨fun s hs => (hd s hs).pos, fun s hs => (hd s hs).le, fun s hs k hk => ((hd s hs).slot k hk).2.2.le,
    fun s hs k hk => ((hd s hs).slot k hk).2.2.small, fun s hs k hk b hb j hj => ?_, fun s hs k hk n a e b hb hbk j hj => ?_,
    fun hG s hs => (hd s hs).chain (hG s hs)⟩, fun s hs j hj => (hf s hs).2 j (by omega) (by omega)⟩
  · have hk3 : k < 3 := lt_of_lt_of_le hk (hd s hs).le
    rw [hc g0 j b ((s * 3 + k) * 128 + 127) hb (by omega) (by rw [hj, Nat.add_assoc])]
    exact ((hd s hs).slot k hk).2.2.num _ (cell_one _ _ _ _)
  · have hk3 : k < 3 := lt_of_lt_of_le hk (hd s hs).le
    have hs' := ((hd s hs).slot k hk).2.2
    have h1 : cnt (idxAt m d) b (A s k) n ≤ 126 := le_trans (cnt_mono e.le) (hs'.small b hb)
    have hl : (s * 3 + k) * 128 + cnt (idxAt m d) b (A s k) n < 12288 := by omega
    rw [hc g0 j b _ hb hl (by rw [hj, Nat.add_assoc]),
      hc g1 j b _ hb hl (by rw [hj, Nat.add_assoc])]
    exact hs'.els n a e _ (by rw [cell_zero, hbk]) (by rw [cell_one, hbk])

/-! ## The second call -/

/-- The tiles' operands. -/
theorem split1 (d : Dev nD) (f2 : Buf (Elt F) (rsiLoc d)) (f3 : Buf (Elt F) (rsvLoc d)) (f4 : Buf (Elt F) (fcntLoc d)) (g : Buf (Elt F) (outLoc d))
    (hr : Ready m d f2 f3 f4) :
    iprop((rsiLoc d ↦{fullShare} f2) ∗ (rsvLoc d ↦{fullShare} f3) ∗ (fcntLoc d ↦{fullShare} f4) ∗ (outLoc d ↦{fullShare} g))
      ⊢ (bigSep Finset.univ fun c : Fin 2 => bigSep Finset.univ fun i : Fin 16 => go1 m d (i.val * 2 + c.val) : sProp 𝕄) := by
  rw [← bigSep_tiles (go1 m d)]
  have hp : ∀ Φ : ℕ → sProp 𝕄, bigSep (Finset.range 64) Φ = iprop((bigSep (Finset.range 32) fun w => Φ (2 * w)) ∗ bigSep (Finset.range 32) fun w => Φ (2 * w + 1)) := fun Φ => by
    have h : ∀ Ψ : ℕ → sProp 𝕄, bigSep (Finset.range 32) Ψ = bigSep Finset.univ fun i : Fin 32 => Ψ i.val := fun Ψ => by
      rw [← Nat.Iio_eq_range, ← Fin.map_valEmbedding_univ, bigSep_map]; rfl
    rw [show 64 = 32 * 2 from rfl, bigSep_pairs, h, h, ← bigSep_sep']
    refine bigSep_congr fun i _ => ?_
    rw [bigSep_univ_two, Nat.mul_comm]
    rfl
  have hj : iprop((bigSep (Finset.range 32) fun w => rsiLoc d ↦{Transfers.shareTokN fullShare (2 * w)} f2)
      ∗ (bigSep (Finset.range 32) fun w => rsvLoc d ↦{Transfers.shareTokN fullShare (2 * w)} f3)
      ∗ (bigSep (Finset.range 32) fun w => rsiLoc d ↦{Transfers.shareTokN fullShare (2 * w + 1)} f2)
      ∗ (bigSep (Finset.range 32) fun w => rsvLoc d ↦{Transfers.shareTokN fullShare (2 * w + 1)} f3)
      ∗ (bigSep (Finset.range 32) fun w => fcntLoc d ↦{Transfers.shareTokN fullShare w} f4)
      ∗ (bigSep (Finset.range 32) fun w => bigSep Finset.univ fun k : Fin 8 => outLoc d ↦[blk (w * 8 + k.val)]{fullShare} g))
    ⊢ (bigSep (Finset.range 32) (go1 m d) : sProp 𝕄) := by
    rw [← bigSep_sep', ← bigSep_sep', ← bigSep_sep', ← bigSep_sep', ← bigSep_sep']
    refine bigSep_imp fun w _ => ?_
    unfold go1
    iintro ⟨H0, H1, H2, H3, H4, H5⟩
    iexists f2, f3, f4
    isplitr; · ipureintro; exact hr
    isplitl [H0]; · iexact H0
    isplitl [H1]; · iexact H1
    isplitl [H2]; · iexact H2
    isplitl [H3]; · iexact H3
    isplitl [H4]; · iexact H4
    iapply (bigSep_some (ℓ := outLoc d) (fun k : Fin 8 => blk (w * 8 + k.val)) g) $$ H5
  iintro ⟨Ha, Hb, Hc, Ho⟩
  ihave Ha := ((Transfers.pointsTo_toks_range fullShare 64).1.trans (sep_mono_right (Entails.of_eq (hp _)))) $$ Ha
  ihave Hb := ((Transfers.pointsTo_toks_range fullShare 64).1.trans (sep_mono_right (Entails.of_eq (hp _)))) $$ Hb
  ihave Hc := (Transfers.pointsTo_toks_range fullShare 32).1 $$ Hc
  icases Ha with ⟨-, Ha0, Ha1⟩
  icases Hb with ⟨-, Hb0, Hb1⟩
  icases Hc with ⟨-, Hc⟩
  ihave Ho := (Entails.of_eq ((cut_eq (n := 256) (ℓ := outLoc d) blk blk_disj blk_all g).trans (bigSep_blocks fun b => outLoc d ↦[blk b]{fullShare} g))) $$ Ho
  iapply hj
  isplitl [Ha0]; · iexact Ha0
  isplitl [Hb0]; · iexact Hb0
  isplitl [Ha1]; · iexact Ha1
  isplitl [Hb1]; · iexact Hb1
  isplitl [Hc]; · iexact Hc
  iexact Ho

/-- The tiles' results are the whole assembled array. -/
theorem join1 (d : Dev nD) :
    (bigSep Finset.univ fun c : Fin 2 => bigSep Finset.univ fun i : Fin 16 => td1 m d (i.val * 2 + c.val))
      ⊢ (iprop(∃ g : Buf (Elt F) (outLoc d), ⌜Good m d → ∀ p : S13107200.Idx, g p = lastv (idxAt m d) (valAt m d) zeroF (p 0).val 1310720⌝
        ∗ (outLoc d ↦{fullShare} g)) : sProp 𝕄) := by
  rw [← bigSep_tiles (td1 m d)]
  unfold td1
  rw [← bigSep_blocks (blockDone m d)]
  haveI : Nonempty (Buf (Elt F) (outLoc d)) := ⟨m (outLoc d)⟩
  let φ : ℕ → Buf (Elt F) (outLoc d) → Prop := fun b g => Good m d → ∀ p : S13107200.Idx, b * 51200 ≤ (p 0).val → (p 0).val < b * 51200 + 51200 →
    g p = lastv (idxAt m d) (valAt m d) zeroF (p 0).val 1310720
  have hj : bigSep (Finset.range 256) (blockDone m d)
      ⊢ iprop(∃ y : ℕ → Buf (Elt F) (outLoc d), bigSep (Finset.range 256) fun b => iprop(⌜φ b (y b)⌝ ∗ outLoc d ↦[blk b]{fullShare} y b)) :=
    bigSep_exists_pi (Finset.range 256) fun b (g : Buf (Elt F) (outLoc d)) => iprop(⌜φ b g⌝ ∗ outLoc d ↦[blk b]{fullShare} g)
  iintro H
  ihave H := hj $$ H
  icases H with ⟨%y, H⟩
  ihave H := (bigSep_pure_sep (Finset.range 256) (fun b => φ b (y b)) (fun b => (outLoc d ↦[blk b]{fullShare} y b : sProp 𝕄))) $$ H
  icases H with ⟨%hy, H⟩
  ihave H := (pointsTo_biUnion_join (Finset.range 256) blk y (m (outLoc d)) blk_disj) $$ H
  icases H with ⟨%g, %hg, H⟩
  rw [blk_all]
  iexists g
  isplitr
  · ipureintro
    intro hG p
    have hp : (p 0).val < 13107200 := (p 0).isLt
    have hb : (p 0).val / 51200 ∈ Finset.range 256 := Finset.mem_range.mpr (by omega)
    rw [hg _ hb p (Finset.mem_filter.mpr ⟨Finset.mem_univ _, by omega⟩)]
    exact hy _ hb hG p (by omega) (by omega)
  iexact H

end Cert.Proof.SC

end
-- ==== Proof.Launch.lean ====
/-
  The whole program: `main` on the TensorCore around the two calls, and the run of every thread.
-/
module

public import proofs.«01_k».proof.Proof.Gather

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable [FloatOps F] (m : (ℓ : Loc nD τ sig) → Buf (Elt F) ℓ) (ρ : Dev nD → PrngReg)

/-! ## The launch element -/

def u₀ : UU := (initOf (K (F := F)).hsCells (K (F := F)).hsToks, 1)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair _ _) $$ Hu
  icases H with ⟨HH, -⟩
  imodintro
  isplitl [HH]; · iexact HH
  isplitr; · rw [bigSep_none]; iempintro
  unfold P; dsimp only
  rw [show (bigSep Finset.univ fun _ : Thread nD τ => bigSep Finset.univ fun _ : Fin 2 => (iprop(emp) : sProp 𝕄)) = iprop(emp) from by
    rw [bigSep_congr fun _ _ => bigSep_none _, bigSep_none]]
  iempintro

/-! ## `main` on the TensorCore -/

theorem unscopedBufs_eq (d : Dev nD) (W : (b : Ref sig .tc) → Buf (Elt F) ((d.tc : Thread nD τ).loc b)) :
    (unscopedBufs d W : sProp 𝕄) = iprop((valLoc d ↦{fullShare} W main_arg0) ∗ (idxLoc d ↦{fullShare} W main_arg1) ∗ (sidxLoc d ↦{fullShare} W main_v0_0) ∗ (svalLoc d ↦{fullShare} W main_v0_1) ∗ (fcntLoc d ↦{fullShare} W main_v0_2) ∗ (rsiLoc d ↦{fullShare} W main_v1) ∗ (rsvLoc d ↦{fullShare} W main_v2) ∗ (outLoc d ↦{fullShare} W main_v3) ∗ (resLoc d ↦{fullShare} W main_v4)) := by
  unfold unscopedBufs
  rw [show (Finset.univ.filter fun b : Ref sig .tc => ¬ b.isScoped) = {main_arg0, main_arg1, main_v0_0, main_v0_1, main_v0_2, main_v1, main_v2, main_v3, main_v4} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

include m in
/-- A host reshape, over its two arrays at any contents. -/
theorem wp_flat {x y : Ref sig .tc} (he : x.ty.elt = y.ty.elt) (hn : x.ty.shape.ShapeCasts y.ty.shape) (hx hy) (hxy : x ≠ y) (d : Dev nD)
    (f : x.ty.Contents (Elt F)) (g : y.ty.Contents (Elt F)) {Q : PUnit → sProp (MT nD τ sig (HIx 2) (Elt F) ℕ UU ℕ)} :
    iprop(boundary (SparseCore.T d) ∗ ((SparseCore.T d).loc x ↦{fullShare} f) ∗ ((SparseCore.T d).loc y ↦{fullShare} g))
      ⊢ iprop(((boundary (SparseCore.T d) ∗ ((SparseCore.T d).loc x ↦{fullShare} f)
            ∗ ((SparseCore.T d).loc y ↦{fullShare} (fun i => he ▸ shapeCast y.ty.shape f hn i : y.ty.Contents (Elt F)))) -∗ Q ⟨⟩)
        -∗ wp frame (wpE ((K (F := F)).defs (D (F := F))) 𝒱 (SparseCore.T d) none) Set.univ
            (hlo rfl (StableHlo.reshape (τ := τ) (Val := Elt F) x y he hn hx hy) (fun _ => .ret ⟨⟩)) Q) := by
  have hne : (Proc.devRef .tc x : DevRef τ sig) ≠ Proc.devRef .tc y := fun e => hxy (Proc.devRef_injective _ e)
  let V : Valuation τ sig (Elt F) := Function.update (Function.update (fun b => m (d, b)) (Proc.devRef .tc x) f) (Proc.devRef .tc y) g
  have hVx : V (Proc.devRef .tc x) = f := by
    show Function.update _ _ _ _ = _
    rw [Function.update_of_ne hne, Function.update_self]
  have hVy : V (Proc.devRef .tc y) = g := Function.update_self _ _ _
  have hh : ∀ W : Valuation τ sig (Elt F), (StableHlo.held (SparseCore.T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := fun W => by
    unfold StableHlo.held
    rw [SparseCore.bigSep_insert' (by rw [Finset.mem_singleton]; exact hne), bigSep_singleton]
  have hin := hh V
  have hout := hh ((StableHlo.reshape (τ := τ) (Val := Elt F) x y he hn hx hy).result V)
  rw [hVx, hVy] at hin
  rw [StableHlo.reshape_result, StableHlo.reshape_result_ne _ _ _ _ _ _ _ hxy, hVx] at hout
  iintro ⟨Hb, Hx, Hy⟩ Hk
  iapply (StableHlo.wp_hlo_within 𝒱 (SparseCore.T d) none Set.univ (op := StableHlo.reshape (τ := τ) (Val := Elt F) x y he hn hx hy)
    (S := {Proc.devRef .tc x, Proc.devRef .tc y}) (le_of_eq (StableHlo.reshape_bufs ..)) (V := V)) $$ [Hb Hx Hy]
  · isplitl [Hb]; · iexact Hb
    rw [hin]
    isplitl [Hx] <;> iassumption
  iintro ⟨Hb, Hh⟩
  ihave Hh := (Entails.of_eq hout) $$ Hh
  rw [wp_ret]
  imodintro
  iapply Hk
  isplitl [Hb]; · iexact Hb
  iexact Hh

/-- What the calls take for the two SparseCores, and what they hand back. -/
theorem st_zero (d : Dev nD) : (bigSep Finset.univ fun c : Fin ((K (F := F)).nCore 0) => (P m).st 0 d c)
    = (bigSep Finset.univ fun c : Fin 2 => bigSep Finset.univ fun i : Fin 16 => go0 m d (i.val * 2 + c.val) : sProp 𝕄) := rfl
theorem dn_zero (d : Dev nD) : (bigSep Finset.univ fun c : Fin ((K (F := F)).nCore 0) => (P m).dn 0 d c)
    = (bigSep Finset.univ fun c : Fin 2 => bigSep Finset.univ fun i : Fin 16 => td0 m d (i.val * 2 + c.val) : sProp 𝕄) := rfl
theorem st_one (d : Dev nD) : (bigSep Finset.univ fun c : Fin ((K (F := F)).nCore 1) => (P m).st 1 d c)
    = (bigSep Finset.univ fun c : Fin 2 => bigSep Finset.univ fun i : Fin 16 => go1 m d (i.val * 2 + c.val) : sProp 𝕄) := rfl
theorem dn_one (d : Dev nD) : (bigSep Finset.univ fun c : Fin ((K (F := F)).nCore 1) => (P m).dn 1 d c)
    = (bigSep Finset.univ fun c : Fin 2 => bigSep Finset.univ fun i : Fin 16 => td1 m d (i.val * 2 + c.val) : sProp 𝕄) := rfl

/-- The program's value where the stretches split well: word `p` is the last value whose index is `p`. -/
def dense (d : Dev nD) : S1024x200x64.Idx → Elt F .f32 :=
  shapeCast S1024x200x64 (fun p : S13107200.Idx => lastv (idxAt m d) (valAt m d) zeroF (p 0).val 1310720) shapeCasts_S13107200_S1024x200x64

/-- What `main` leaves the claim: a share of each argument as launched, and the result. -/
def FIN (d : Dev nD) : sProp 𝕄 :=
  iprop((valLoc d ↦{Transfers.shareDrop fullShare 32} m (valLoc d)) ∗ (idxLoc d ↦{Transfers.shareDrop fullShare 32} m (idxLoc d))
    ∗ ∃ g : Buf (Elt F) (resLoc d), ⌜Good m d → g = dense m d⌝ ∗ (resLoc d ↦{fullShare} g))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hv, Hi, H0, H1, H6, H2, H3, Ho, Hr⟩, Hts, -⟩, -⟩
  -- the partition call
  ihave H := (split0 m d _ _ _) $$ [Hv Hi H0 H1 H6]
  · isplitl [Hv]; · iexact Hv
    isplitl [Hi]; · iexact Hi
    isplitl [H0]; · iexact H0
    isplitl [H1]; · iexact H1
    iexact H6
  icases H with ⟨Hv, Hi, Hgo⟩
  iapply ((K (F := F)).wp_run (D (F := F)) 𝒱 (EH := EH) (P := P m) κ d 0) $$ [Hst Hgo Hv Hi H2 H3 Ho Hr Hb Hts]
  isplitr; · iexact Hctx
  isplitl [Hst]; · iexact Hst
  isplitl [Hgo]; · rw [st_zero]; iexact Hgo
  iintro ⟨Hst, Hdn⟩
  ihave Hdn := ((Entails.of_eq (dn_zero m d)).trans (join0 m d)) $$ Hdn
  icases Hdn with ⟨%nf, %g0, %g1, %g6, %hf, H0, H1, H6⟩
  -- the two reshapes
  iapply (wp_flat m (x := main_v0_0) (y := main_v1) (rfl : (.i32 : EltTy) = .i32) shapeCasts_S256x12288_S3145728 _ _ (by decide) d g0 _) $$ [Hb H0 H2]
  · isplitl [Hb]; · iexact Hb
    isplitl [H0]; · iexact H0
    iexact H2
  iintro ⟨Hb, -, H2⟩
  iapply (wp_flat m (x := main_v0_1) (y := main_v2) (rfl : (.f32 : EltTy) = .f32) shapeCasts_S256x12288_S3145728 _ _ (by decide) d g1 _) $$ [Hb H1 H3]
  · isplitl [Hb]; · iexact Hb
    isplitl [H1]; · iexact H1
    iexact H3
  iintro ⟨Hb, -, H3⟩
  -- the assemble call
  ihave Hgo := (split1 m d _ _ _ _ (Ready.of m hf)) $$ [H2 H3 H6 Ho]
  · isplitl [H2]; · iexact H2
    isplitl [H3]; · iexact H3
    isplitl [H6]; · iexact H6
    iexact Ho
  iapply ((K (F := F)).wp_run (D (F := F)) 𝒱 (EH := EH) (P := P m) κ d 1) $$ [Hst Hgo Hv Hi Hr Hb Hts]
  isplitr; · iexact Hctx
  isplitl [Hst]; · iexact Hst
  isplitl [Hgo]; · rw [st_one]; iexact Hgo
  iintro ⟨Hst, Hdn⟩
  ihave Hdn := ((Entails.of_eq (dn_one m d)).trans (join1 m d)) $$ Hdn
  icases Hdn with ⟨%g, %hg, Ho⟩
  iapply (wp_flat m (x := main_v3) (y := main_v4) (rfl : (.f32 : EltTy) = .f32) shapeCasts_S13107200_S1024x200x64 _ _ (by decide) d g _) $$ [Hb Ho Hr]
  · isplitl [Hb]; · iexact Hb
    isplitl [Ho]; · iexact Ho
    iexact Hr
  iintro ⟨Hb, -, Hr⟩
  imodintro
  isplitl [Hst]; · iexact Hst
  isplitr [Hb Hts]
  · unfold FIN
    isplitl [Hv]; · iexact Hv
    isplitl [Hi]; · iexact Hi
    iexists _
    isplitr; rotate_left; · iexact Hr
    ipureintro
    intro hG
    rw [show g = (fun p : S13107200.Idx => lastv (idxAt m d) (valAt m d) zeroF (p 0).val 1310720) from funext (hg hG)]
    rfl
  isplitl [Hb] <;> iassumption

/-! ## The claim's facts at the end -/

def fq (d : Dev nD) (s' : Phys nD τ sig (Elt F)) : Prop :=
  s'.mem.mem (valLoc d) = m (valLoc d) ∧ s'.mem.mem (idxLoc d) = m (idxLoc d) ∧ (Good m d → s'.mem.mem (resLoc d) = dense m d)

theorem hfin (d : Dev nD) (s' : Phys nD τ sig (Elt F)) : iprop(FIN m d ∗ SI s') ⊢ (⌜fq m d s'⌝ : sProp 𝕄) := by
  unfold FIN
  iintro ⟨⟨Hv, Hi, %g, %hg, Hr⟩, HSI⟩
  ihave H := (persistent_entails_right (SI_pointsTo_agree (st := s') (ℓ := valLoc d) (I := Finset.univ) (q := Transfers.shareDrop fullShare 32) (f := m (valLoc d)))) $$ [HSI Hv]
  · isplitl [HSI] <;> iassumption
  icases H with ⟨%hv, HSI, -⟩
  ihave H := (persistent_entails_right (SI_pointsTo_agree (st := s') (ℓ := idxLoc d) (I := Finset.univ) (q := Transfers.shareDrop fullShare 32) (f := m (idxLoc d)))) $$ [HSI Hi]
  · isplitl [HSI] <;> iassumption
  icases H with ⟨%hi, HSI, -⟩
  ihave H := (SI_pointsTo_agree (st := s') (ℓ := resLoc d) (I := Finset.univ) (q := fullShare) (f := g)) $$ [HSI Hr]
  · isplitl [HSI] <;> iassumption
  icases H with %hr
  ipureintro
  exact ⟨funext fun i => hv i (Finset.mem_univ i), funext fun i => hi i (Finset.mem_univ i),
    fun hG => (show s'.mem.mem (resLoc d) = g from funext fun i => hr i (Finset.mem_univ i)).trans (hg hG)⟩

def QC : PUnit × MemSt nD τ sig (Elt F) → Prop := fun r =>
  (∀ d : Dev nD, r.2.mem (valLoc d) = m (valLoc d) ∧ r.2.mem (idxLoc d) = m (idxLoc d) ∧ (Good m d → r.2.mem (resLoc d) = dense m d)) ∧ r.2.sem = fun _ => 0

/-- The run of every thread, from indices inside the array. -/
theorem run_main [∀ e, Nonempty (Elt F e)] (hI : ∀ d n, (idxAt m d n).toNat < 13107200) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m hI | 1 => tileObl1 m)
    (fun q _ => match q with | 0 => SparseCore.Cfg.VecSplit.of_plain (vecSplit0 m) | 1 => SparseCore.Cfg.VecSplit.of_plain (vecSplit1 m))
    m ρ main (fun _ => iprop(emp)) (FIN m) (u₀ (F := F)) (sep_elim_left.trans (hu₀ m)) (hmain m ρ) (fq m) (hfin m) (QC m) (fun _ h hz => ⟨h, hz⟩)

end Cert.Proof.SC

end
-- ==== Proof.Value.lean ====
/-
  The reference's term is the value the program leaves: where no index is negative, its scatter holds at each element the last value
  whose index is that element, and the reshape that follows is the program's.
-/
module

public import proofs.«01_k».proof.Proof.Pre
public import proofs.«01_k».proof.Proof.Launch

@[expose] public section

noncomputable section

namespace Cert.Proof.SC

open Idealize.ShloMosaic Idealize.ShloMosaic.ValueIdx
open Cert.KernelIdeal Cert.KernelIdeal.Gen

variable {F : FTy → Type} [FloatOps F] (m : (ℓ : Loc nD τ sig) → Buf (Elt F) ℓ)

/-- No index reaches past the result. -/
theorem idx_lt (h : ∀ d : Dev nD, ∀ j : S1310720.Idx, ((m (idxLoc d) : S1310720.Idx → BitVec 32) j).toNat < 13107200) :
    ∀ d n, (idxAt m d n).toNat < 13107200 := fun d n => by
  unfold idxAt
  split
  · exact h d _
  · decide

theorem range_of_in_range
    (h : ∀ c : Dev nD, Cert.Pre_in_range.fn (F := F) (m (valLoc c)) (m (idxLoc c)) = fun _ => 1#1) :
    ∀ d n, (idxAt m d n).toNat < 13107200 :=
  idx_lt m fun d j => of_in_range _ _ (h d) j

theorem range_of_spread
    (h : ∀ c : Dev nD, Cert.Pre_spread.fn (F := F) (m (valLoc c)) (m (idxLoc c)) = fun _ => 1#1) :
    ∀ d n, (idxAt m d n).toNat < 13107200 :=
  idx_lt m fun d j => (of_spread _ _ (h d) (idxAt m d) (fun j => idxAt_read m d j)).1 j

theorem good_of_spread
    (h : ∀ c : Dev nD, Cert.Pre_spread.fn (F := F) (m (valLoc c)) (m (idxLoc c)) = fun _ => 1#1) (d : Dev nD) : Good m d :=
  fun s hs => thirds_of_spread _ (of_spread _ _ (h d) (idxAt m d) (fun j => idxAt_read m d j)).2 s hs

/-- The reference's term, over the same two arrays. -/
theorem ref_eq (c : Dev nD) (hI : ∀ d n, (idxAt m d n).toNat < 13107200)
    (sd : ScatterDims S13107200 (⟨2, ![1310720, 1]⟩ : Shape) S1310720) (hiw : sd.insertedWindowDims = [0])
    (hsd : sd.scatterDimsToOperandDims = [0]) (hivd : sd.indexVectorDim = 1)
    (hz : (⟨0, ![]⟩ : Shape).BroadcastsInDim S13107200 ![]) (hb : (⟨0, ![]⟩ : Shape).BroadcastsInDim S1310720 ![])
    (hcol : S1310720.BroadcastsInDim (⟨2, ![1310720, 1]⟩ : Shape) ![0]) (hcast : S13107200.ShapeCasts S1024x200x64)
    (a0 : S1310720.Idx → Elt F .f32) (a1 : S1310720.Idx → BitVec 32) (h0 : a0 = m (valLoc c)) (h1 : a1 = m (idxLoc c)) :
    shapeCast S1024x200x64 (Host.scatter sd (fun _ b => b) (broadcastInDim S13107200 ![] hz (constant (F := F) (⟨0, ![]⟩ : Shape) .f32 0x00000000#32))
        (broadcastInDim (⟨2, ![1310720, 1]⟩ : Shape) ![0] hcol
          (select (cmpi .slt a1 (broadcastInDim S1310720 ![] hb (constantI (⟨0, ![]⟩ : Shape) 32 0#32)))
            (addi a1 (broadcastInDim S1310720 ![] hb (constantI (⟨0, ![]⟩ : Shape) 32 13107200#32))) a1)) a0) hcast
      = dense m c := by
  subst h0 h1
  unfold dense
  refine congrArg (fun q => shapeCast S1024x200x64 q hcast) ?_
  refine scatter_last sd hiw hsd hivd _ _ _ (idxAt m c) (valAt m c) zeroF (fun _ => rfl) (fun e => ?_) (fun e => valAt_read m c (ix1 e))
    (fun e => lt_trans (hI c e.val) (by decide))
  rw [column_apply]
  refine (Routing.wrap_of_lt _ _ ?_).trans (idxAt_read m c (ix1 e))
  exact lt_of_eq_of_lt (congrArg BitVec.toNat (idxAt_read m c (ix1 e))) (lt_trans (hI c e.val) (by decide))

end Cert.Proof.SC

end
-- ==== Proof.lean ====
/-
  The certificate of the sparse-to-dense scatter (untrusted; Check.lean checks that it proves `Cert.Claim`).

  The program is two SparseCore calls with reshapes between them. Its run, over any float values, is Proof/Launch.lean's `run_main`:
  from indices inside the result it terminates with both arguments as launched and every counter at zero, and where every third of a
  tile's stretch holds few indices of one bucket the result is the last value at each index. The frames are that run's first half; the
  value claims join it to the reference's generated run by Proof/Value.lean's `ref_eq`.
-/
module

public import proofs.«01_k».proof.Defs
public import proofs.«01_k».proof.Proof.Value
public import proofs.«01_k».proof.Proof.Gen.Kernel
public import proofs.«01_k».proof.Proof.Gen.KernelIdeal
public import proofs.«01_k».proof.Proof.Gen.ReferenceIdeal.Run
public import proofs.«01_k».proof.Proof.Gen.Reference.Run
public import proofs.«01_k».proof.Proof.Gen.Pre_in_range
public import proofs.«01_k».proof.Proof.Gen.Pre_spread
public import Idealize.ShloMosaic.Adequacy
public import Idealize.ShloMosaic.Init

@[expose] public section

noncomputable section

namespace Cert.Proof

open Idealize.ShloMosaic Idealize.SL.Sem Cert.Proof.SC

/-! ## The frames -/

theorem frame_kernel : Cert.quiescent_Kernel := fun m ρ h =>
  (θ_run Cert.KernelIdeal.defs _ _).mono (fun _ h => ⟨fun c => ⟨(h.1 c).1, (h.1 c).2.1⟩, h.2⟩) (run_main (F := Bits) m ρ (range_of_in_range m h))

theorem frame_kernel_spread : Cert.quiescent_Kernel_pre_spread := fun m ρ h =>
  (θ_run Cert.KernelIdeal.defs _ _).mono (fun _ h => ⟨fun c => ⟨(h.1 c).1, (h.1 c).2.1⟩, h.2⟩) (run_main (F := Bits) m ρ (range_of_spread m h))

theorem frame_ideal : Cert.quiescent_KernelIdeal := fun m ρ h =>
  (θ_run Cert.KernelIdeal.defs _ _).mono (fun _ h => ⟨fun c => ⟨(h.1 c).1, (h.1 c).2.1⟩, h.2⟩) (run_main (F := Ideal) m ρ (range_of_in_range m h))

theorem frame_ideal_spread : Cert.quiescent_KernelIdeal_pre_spread := fun m ρ h =>
  (θ_run Cert.KernelIdeal.defs _ _).mono (fun _ h => ⟨fun c => ⟨(h.1 c).1, (h.1 c).2.1⟩, h.2⟩) (run_main (F := Ideal) m ρ (range_of_spread m h))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_spread : Cert.quiescent_ReferenceIdeal_pre_spread := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_bits : Cert.quiescent_Reference := fun m ρ _ =>
  (θ_run Cert.Reference.defs _ _).mono (fun r h => ⟨fun c => (h c).2, sem_eq_zero_of_no_sems (by decide) r.2⟩)
    (Cert.Reference.Value.run (F := Bits) m ρ)

/-! ## The values -/

theorem value_bits : Cert.bitexact_Kernel_Reference_pre_spread := fun m ρ m' ρ' h ha =>
  ⟨fun c => dense (F := Bits) m c,
    (θ_run Cert.KernelIdeal.defs _ _).mono (fun _ r c => ⟨(r.1 c).2.2 (good_of_spread m h c), (r.1 c).1, (r.1 c).2.1⟩)
      (run_main (F := Bits) m ρ (range_of_spread m h)),
    (θ_run Cert.Reference.defs _ _).mono
      (fun _ r c => ⟨(r c).1.trans (ref_eq (F := Bits) m c (range_of_spread m h) _ rfl rfl rfl _ _ _ _ _ _ (ha c).1 (ha c).2), (r c).2⟩)
      (Cert.Reference.Value.run (F := Bits) m' ρ')⟩

theorem value_ideal : Cert.algebraic_KernelIdeal_ReferenceIdeal_pre_spread := fun m ρ m' ρ' h ha =>
  ⟨fun c => dense (F := Ideal) m c,
    (θ_run Cert.KernelIdeal.defs _ _).mono (fun _ r c => ⟨(r.1 c).2.2 (good_of_spread m h c), (r.1 c).1, (r.1 c).2.1⟩)
      (run_main (F := Ideal) m ρ (range_of_spread m h)),
    (θ_run Cert.ReferenceIdeal.defs _ _).mono
      (fun _ r c => ⟨(r c).1.trans (ref_eq (F := Ideal) m c (range_of_spread m h) _ rfl rfl rfl _ _ _ _ _ _ (ha c).1 (ha c).2), (r c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Reference.Gen.facts, Cert.Pre_in_range.Gen.facts,
    Cert.Pre_spread.Gen.facts, frame_kernel, frame_kernel_spread, frame_ideal, frame_ideal_spread, frame_reference, frame_reference_spread,
    frame_reference_bits, trivial, value_bits, value_ideal⟩

end Cert.Proof

end
